-- ==== Defs.lean ====
def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_GeluKernel (m : (ℓ : Loc Cert.GeluKernel.nD Cert.GeluKernel.τ Cert.GeluKernel.sig) → Buf (Elt Bits) ℓ) : Prop :=
  True

def Pre_GeluKernelIdeal (m : (ℓ : Loc Cert.GeluKernelIdeal.nD Cert.GeluKernelIdeal.τ Cert.GeluKernelIdeal.sig) → Buf (Elt Ideal) ℓ) : Prop :=
  True

def Pre_GeluKernelIdeal_gelu_finite [hPre_gelu_finite : Cert.Pre_gelu_finite.Facts] (m : (ℓ : Loc Cert.GeluKernelIdeal.nD Cert.GeluKernelIdeal.τ Cert.GeluKernelIdeal.sig) → Buf (Elt Ideal) ℓ) : Prop :=
  ∀ c : Dev Cert.GeluKernelIdeal.nD,
    (Cert.Pre_gelu_finite.fn (F := Ideal) (m ((c.tc : Thread Cert.GeluKernelIdeal.nD Cert.GeluKernelIdeal.τ).loc Cert.GeluKernelIdeal.main_arg0)) (m ((c.tc : Thread Cert.GeluKernelIdeal.nD Cert.GeluKernelIdeal.τ).loc Cert.GeluKernelIdeal.main_arg1)) (m ((c.tc : Thread Cert.GeluKernelIdeal.nD Cert.GeluKernelIdeal.τ).loc Cert.GeluKernelIdeal.main_arg2)) (m ((c.tc : Thread Cert.GeluKernelIdeal.nD Cert.GeluKernelIdeal.τ).loc Cert.GeluKernelIdeal.main_arg3))).1 = (fun _ => 1#1)
    ∧ (Cert.Pre_gelu_finite.fn (F := Ideal) (m ((c.tc : Thread Cert.GeluKernelIdeal.nD Cert.GeluKernelIdeal.τ).loc Cert.GeluKernelIdeal.main_arg0)) (m ((c.tc : Thread Cert.GeluKernelIdeal.nD Cert.GeluKernelIdeal.τ).loc Cert.GeluKernelIdeal.main_arg1)) (m ((c.tc : Thread Cert.GeluKernelIdeal.nD Cert.GeluKernelIdeal.τ).loc Cert.GeluKernelIdeal.main_arg2)) (m ((c.tc : Thread Cert.GeluKernelIdeal.nD Cert.GeluKernelIdeal.τ).loc Cert.GeluKernelIdeal.main_arg3))).2.1 = (fun _ => 1#1)
    ∧ (Cert.Pre_gelu_finite.fn (F := Ideal) (m ((c.tc : Thread Cert.GeluKernelIdeal.nD Cert.GeluKernelIdeal.τ).loc Cert.GeluKernelIdeal.main_arg0)) (m ((c.tc : Thread Cert.GeluKernelIdeal.nD Cert.GeluKernelIdeal.τ).loc Cert.GeluKernelIdeal.main_arg1)) (m ((c.tc : Thread Cert.GeluKernelIdeal.nD Cert.GeluKernelIdeal.τ).loc Cert.GeluKernelIdeal.main_arg2)) (m ((c.tc : Thread Cert.GeluKernelIdeal.nD Cert.GeluKernelIdeal.τ).loc Cert.GeluKernelIdeal.main_arg3))).2.2.1 = (fun _ => 1#1)
    ∧ (Cert.Pre_gelu_finite.fn (F := Ideal) (m ((c.tc : Thread Cert.GeluKernelIdeal.nD Cert.GeluKernelIdeal.τ).loc Cert.GeluKernelIdeal.main_arg0)) (m ((c.tc : Thread Cert.GeluKernelIdeal.nD Cert.GeluKernelIdeal.τ).loc Cert.GeluKernelIdeal.main_arg1)) (m ((c.tc : Thread Cert.GeluKernelIdeal.nD Cert.GeluKernelIdeal.τ).loc Cert.GeluKernelIdeal.main_arg2)) (m ((c.tc : Thread Cert.GeluKernelIdeal.nD Cert.GeluKernelIdeal.τ).loc Cert.GeluKernelIdeal.main_arg3))).2.2.2 = (fun _ => 1#1)

def Pre_GeluReferenceIdeal (m : (ℓ : Loc Cert.GeluReferenceIdeal.nD Cert.GeluReferenceIdeal.τ Cert.GeluReferenceIdeal.sig) → Buf (Elt Ideal) ℓ) : Prop :=
  True

def Pre_GeluReferenceIdeal_gelu_finite [hPre_gelu_finite : Cert.Pre_gelu_finite.Facts] (m : (ℓ : Loc Cert.GeluReferenceIdeal.nD Cert.GeluReferenceIdeal.τ Cert.GeluReferenceIdeal.sig) → Buf (Elt Ideal) ℓ) : Prop :=
  ∀ c : Dev Cert.GeluReferenceIdeal.nD,
    (Cert.Pre_gelu_finite.fn (F := Ideal) (m ((c.tc : Thread Cert.GeluReferenceIdeal.nD Cert.GeluReferenceIdeal.τ).loc Cert.GeluReferenceIdeal.main_arg0)) (m ((c.tc : Thread Cert.GeluReferenceIdeal.nD Cert.GeluReferenceIdeal.τ).loc Cert.GeluReferenceIdeal.main_arg1)) (m ((c.tc : Thread Cert.GeluReferenceIdeal.nD Cert.GeluReferenceIdeal.τ).loc Cert.GeluReferenceIdeal.main_arg2)) (m ((c.tc : Thread Cert.GeluReferenceIdeal.nD Cert.GeluReferenceIdeal.τ).loc Cert.GeluReferenceIdeal.main_arg3))).1 = (fun _ => 1#1)
    ∧ (Cert.Pre_gelu_finite.fn (F := Ideal) (m ((c.tc : Thread Cert.GeluReferenceIdeal.nD Cert.GeluReferenceIdeal.τ).loc Cert.GeluReferenceIdeal.main_arg0)) (m ((c.tc : Thread Cert.GeluReferenceIdeal.nD Cert.GeluReferenceIdeal.τ).loc Cert.GeluReferenceIdeal.main_arg1)) (m ((c.tc : Thread Cert.GeluReferenceIdeal.nD Cert.GeluReferenceIdeal.τ).loc Cert.GeluReferenceIdeal.main_arg2)) (m ((c.tc : Thread Cert.GeluReferenceIdeal.nD Cert.GeluReferenceIdeal.τ).loc Cert.GeluReferenceIdeal.main_arg3))).2.1 = (fun _ => 1#1)
    ∧ (Cert.Pre_gelu_finite.fn (F := Ideal) (m ((c.tc : Thread Cert.GeluReferenceIdeal.nD Cert.GeluReferenceIdeal.τ).loc Cert.GeluReferenceIdeal.main_arg0)) (m ((c.tc : Thread Cert.GeluReferenceIdeal.nD Cert.GeluReferenceIdeal.τ).loc Cert.GeluReferenceIdeal.main_arg1)) (m ((c.tc : Thread Cert.GeluReferenceIdeal.nD Cert.GeluReferenceIdeal.τ).loc Cert.GeluReferenceIdeal.main_arg2)) (m ((c.tc : Thread Cert.GeluReferenceIdeal.nD Cert.GeluReferenceIdeal.τ).loc Cert.GeluReferenceIdeal.main_arg3))).2.2.1 = (fun _ => 1#1)
    ∧ (Cert.Pre_gelu_finite.fn (F := Ideal) (m ((c.tc : Thread Cert.GeluReferenceIdeal.nD Cert.GeluReferenceIdeal.τ).loc Cert.GeluReferenceIdeal.main_arg0)) (m ((c.tc : Thread Cert.GeluReferenceIdeal.nD Cert.GeluReferenceIdeal.τ).loc Cert.GeluReferenceIdeal.main_arg1)) (m ((c.tc : Thread Cert.GeluReferenceIdeal.nD Cert.GeluReferenceIdeal.τ).loc Cert.GeluReferenceIdeal.main_arg2)) (m ((c.tc : Thread Cert.GeluReferenceIdeal.nD Cert.GeluReferenceIdeal.τ).loc Cert.GeluReferenceIdeal.main_arg3))).2.2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfKernelIdeal_attnf_finite [hPre_attnf_finite : Cert.Pre_attnf_finite.Facts] (m : (ℓ : Loc Cert.AttnfKernelIdeal.nD Cert.AttnfKernelIdeal.τ Cert.AttnfKernelIdeal.sig) → Buf (Elt Ideal) ℓ) : Prop :=
  ∀ c : Dev Cert.AttnfKernelIdeal.nD,
    (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2))).1 = (fun _ => 1#1)
    ∧ (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2))).2.1 = (fun _ => 1#1)
    ∧ (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2))).2.2 = (fun _ => 1#1)

def Pre_AttnfReferenceIdeal (m : (ℓ : Loc Cert.AttnfReferenceIdeal.nD Cert.AttnfReferenceIdeal.τ Cert.AttnfReferenceIdeal.sig) → Buf (Elt Ideal) ℓ) : Prop :=
  True

def Pre_AttnfReferenceIdeal_attnf_finite [hPre_attnf_finite : Cert.Pre_attnf_finite.Facts] (m : (ℓ : Loc Cert.AttnfReferenceIdeal.nD Cert.AttnfReferenceIdeal.τ Cert.AttnfReferenceIdeal.sig) → Buf (Elt Ideal) ℓ) : Prop :=
  ∀ c : Dev Cert.AttnfReferenceIdeal.nD,
    (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2))).1 = (fun _ => 1#1)
    ∧ (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2))).2.1 = (fun _ => 1#1)
    ∧ (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2))).2.2 = (fun _ => 1#1)

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnKernelIdeal_xattn_finite [hPre_xattn_finite : Cert.Pre_xattn_finite.Facts] (m : (ℓ : Loc Cert.XattnKernelIdeal.nD Cert.XattnKernelIdeal.τ Cert.XattnKernelIdeal.sig) → Buf (Elt Ideal) ℓ) : Prop :=
  ∀ c : Dev Cert.XattnKernelIdeal.nD,
    (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.2.2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.2.2.2.2.1 = (fun _ => 1#1)
    ∧ (Cert.Pre_xattn_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5)) (m ((c.tc : Thread Cert.XattnKernelIdeal.nD Cert.XattnKernelIdeal.τ).loc Cert.XattnKernelIdeal.main_arg6))).2.2.2.2.2.2 = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_xattn_finite [hPre_xattn_finite : Cert.Pre_xattn_finite.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.2.2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.2.2.2.2.1 = (fun _ => 1#1)
    ∧ (Cert.Pre_xattn_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6))).2.2.2.2.2.2 = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_conv_finite [hPre_conv_finite : Cert.Pre_conv_finite.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.2.2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.2.2.2.2.1 = (fun _ => 1#1)
    ∧ (Cert.Pre_conv_finite.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4)) (m ((c.tc : Thread Cert.ConvKernelIdeal.nD Cert.ConvKernelIdeal.τ).loc Cert.ConvKernelIdeal.main_arg5)) (m ((c.tc : Thread Cert.ConvKernelIdeal.nD Cert.ConvKernelIdeal.τ).loc Cert.ConvKernelIdeal.main_arg6))).2.2.2.2.2.2 = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_conv_finite [hPre_conv_finite : Cert.Pre_conv_finite.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.2.2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.2.2.2.2.1 = (fun _ => 1#1)
    ∧ (Cert.Pre_conv_finite.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4)) (m ((c.tc : Thread Cert.ConvReferenceIdeal.nD Cert.ConvReferenceIdeal.τ).loc Cert.ConvReferenceIdeal.main_arg5)) (m ((c.tc : Thread Cert.ConvReferenceIdeal.nD Cert.ConvReferenceIdeal.τ).loc Cert.ConvReferenceIdeal.main_arg6))).2.2.2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))).2.2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))).2.2.2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2.2 = (fun _ => 1#1)

def Pre_MemfKernel (m : (ℓ : Loc Cert.MemfKernel.nD Cert.MemfKernel.τ Cert.MemfKernel.sig) → Buf (Elt Bits) ℓ) : Prop :=
  True

def Pre_MemfKernelIdeal (m : (ℓ : Loc Cert.MemfKernelIdeal.nD Cert.MemfKernelIdeal.τ Cert.MemfKernelIdeal.sig) → Buf (Elt Ideal) ℓ) : Prop :=
  True

def Pre_MemfReferenceIdeal (m : (ℓ : Loc Cert.MemfReferenceIdeal.nD Cert.MemfReferenceIdeal.τ Cert.MemfReferenceIdeal.sig) → Buf (Elt Ideal) ℓ) : Prop :=
  True

def Pre_EpostKernel (m : (ℓ : Loc Cert.EpostKernel.nD Cert.EpostKernel.τ Cert.EpostKernel.sig) → Buf (Elt Bits) ℓ) : Prop :=
  True

def Pre_EpostKernelIdeal (m : (ℓ : Loc Cert.EpostKernelIdeal.nD Cert.EpostKernelIdeal.τ Cert.EpostKernelIdeal.sig) → Buf (Elt Ideal) ℓ) : Prop :=
  True

def Pre_EpostReferenceIdeal (m : (ℓ : Loc Cert.EpostReferenceIdeal.nD Cert.EpostReferenceIdeal.τ Cert.EpostReferenceIdeal.sig) → Buf (Elt Ideal) ℓ) : Prop :=
  True

def Pre_GoutKernel (m : (ℓ : Loc Cert.GoutKernel.nD Cert.GoutKernel.τ Cert.GoutKernel.sig) → Buf (Elt Bits) ℓ) : Prop :=
  True

def Pre_GoutKernelIdeal (m : (ℓ : Loc Cert.GoutKernelIdeal.nD Cert.GoutKernelIdeal.τ Cert.GoutKernelIdeal.sig) → Buf (Elt Ideal) ℓ) : Prop :=
  True

def Pre_GoutReferenceIdeal (m : (ℓ : Loc Cert.GoutReferenceIdeal.nD Cert.GoutReferenceIdeal.τ Cert.GoutReferenceIdeal.sig) → Buf (Elt Ideal) ℓ) : Prop :=
  True

def Pre_FfnfKernel (m : (ℓ : Loc Cert.FfnfKernel.nD Cert.FfnfKernel.τ Cert.FfnfKernel.sig) → Buf (Elt Bits) ℓ) : Prop :=
  True

def Pre_FfnfKernelIdeal (m : (ℓ : Loc Cert.FfnfKernelIdeal.nD Cert.FfnfKernelIdeal.τ Cert.FfnfKernelIdeal.sig) → Buf (Elt Ideal) ℓ) : Prop :=
  True

def Pre_FfnfReferenceIdeal (m : (ℓ : Loc Cert.FfnfReferenceIdeal.nD Cert.FfnfReferenceIdeal.τ Cert.FfnfReferenceIdeal.sig) → Buf (Elt Ideal) ℓ) : Prop :=
  True

def Pre_XattfKernel (m : (ℓ : Loc Cert.XattfKernel.nD Cert.XattfKernel.τ Cert.XattfKernel.sig) → Buf (Elt Bits) ℓ) : Prop :=
  True

def Pre_XattfKernelIdeal (m : (ℓ : Loc Cert.XattfKernelIdeal.nD Cert.XattfKernelIdeal.τ Cert.XattfKernelIdeal.sig) → Buf (Elt Ideal) ℓ) : Prop :=
  True

def Pre_XattfReferenceIdeal (m : (ℓ : Loc Cert.XattfReferenceIdeal.nD Cert.XattfReferenceIdeal.τ Cert.XattfReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_ProdKernel (m : (ℓ : Loc Cert.ProdKernel.nD Cert.ProdKernel.τ Cert.ProdKernel.sig) → Buf (Elt Bits) ℓ) : Prop :=
  True

def Pre_ProdKernelIdeal (m : (ℓ : Loc Cert.ProdKernelIdeal.nD Cert.ProdKernelIdeal.τ Cert.ProdKernelIdeal.sig) → Buf (Elt Ideal) ℓ) : Prop :=
  True

def Pre_ProdReferenceIdeal (m : (ℓ : Loc Cert.ProdReferenceIdeal.nD Cert.ProdReferenceIdeal.τ Cert.ProdReferenceIdeal.sig) → Buf (Elt Ideal) ℓ) : Prop :=
  True

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_GeluKernel [hGeluKernel : Cert.GeluKernel.Facts] : Prop :=
  ∀ (m : (ℓ : Loc Cert.GeluKernel.nD Cert.GeluKernel.τ Cert.GeluKernel.sig) → Buf (Elt Bits) ℓ) (g : Dev Cert.GeluKernel.nD → PrngReg), Pre_GeluKernel m →
    θ_run (Cert.GeluKernel.defs (F := Bits)) (onTc (τ := Cert.GeluKernel.τ) (Cert.GeluKernel.main (F := Bits))) ⟨m, fun _ => 0, g⟩ (fun r => (∀ c : Dev Cert.GeluKernel.nD,
      r.2.mem ((c.tc : Thread Cert.GeluKernel.nD Cert.GeluKernel.τ).loc Cert.GeluKernel.main_arg0) = m ((c.tc : Thread Cert.GeluKernel.nD Cert.GeluKernel.τ).loc Cert.GeluKernel.main_arg0)
      ∧ r.2.mem ((c.tc : Thread Cert.GeluKernel.nD Cert.GeluKernel.τ).loc Cert.GeluKernel.main_arg1) = m ((c.tc : Thread Cert.GeluKernel.nD Cert.GeluKernel.τ).loc Cert.GeluKernel.main_arg1)
      ∧ r.2.mem ((c.tc : Thread Cert.GeluKernel.nD Cert.GeluKernel.τ).loc Cert.GeluKernel.main_arg2) = m ((c.tc : Thread Cert.GeluKernel.nD Cert.GeluKernel.τ).loc Cert.GeluKernel.main_arg2)
      ∧ r.2.mem ((c.tc : Thread Cert.GeluKernel.nD Cert.GeluKernel.τ).loc Cert.GeluKernel.main_arg3) = m ((c.tc : Thread Cert.GeluKernel.nD Cert.GeluKernel.τ).loc Cert.GeluKernel.main_arg3))
      ∧ r.2.sem = fun _ => 0)

def quiescent_GeluKernelIdeal [hGeluKernelIdeal : Cert.GeluKernelIdeal.Facts] : Prop :=
  ∀ (m : (ℓ : Loc Cert.GeluKernelIdeal.nD Cert.GeluKernelIdeal.τ Cert.GeluKernelIdeal.sig) → Buf (Elt Ideal) ℓ) (g : Dev Cert.GeluKernelIdeal.nD → PrngReg), Pre_GeluKernelIdeal m →
    θ_run (Cert.GeluKernelIdeal.defs (F := Ideal)) (onTc (τ := Cert.GeluKernelIdeal.τ) (Cert.GeluKernelIdeal.main (F := Ideal))) ⟨m, fun _ => 0, g⟩ (fun r => (∀ c : Dev Cert.GeluKernelIdeal.nD,
      r.2.mem ((c.tc : Thread Cert.GeluKernelIdeal.nD Cert.GeluKernelIdeal.τ).loc Cert.GeluKernelIdeal.main_arg0) = m ((c.tc : Thread Cert.GeluKernelIdeal.nD Cert.GeluKernelIdeal.τ).loc Cert.GeluKernelIdeal.main_arg0)
      ∧ r.2.mem ((c.tc : Thread Cert.GeluKernelIdeal.nD Cert.GeluKernelIdeal.τ).loc Cert.GeluKernelIdeal.main_arg1) = m ((c.tc : Thread Cert.GeluKernelIdeal.nD Cert.GeluKernelIdeal.τ).loc Cert.GeluKernelIdeal.main_arg1)
      ∧ r.2.mem ((c.tc : Thread Cert.GeluKernelIdeal.nD Cert.GeluKernelIdeal.τ).loc Cert.GeluKernelIdeal.main_arg2) = m ((c.tc : Thread Cert.GeluKernelIdeal.nD Cert.GeluKernelIdeal.τ).loc Cert.GeluKernelIdeal.main_arg2)
      ∧ r.2.mem ((c.tc : Thread Cert.GeluKernelIdeal.nD Cert.GeluKernelIdeal.τ).loc Cert.GeluKernelIdeal.main_arg3) = m ((c.tc : Thread Cert.GeluKernelIdeal.nD Cert.GeluKernelIdeal.τ).loc Cert.GeluKernelIdeal.main_arg3))
      ∧ r.2.sem = fun _ => 0)

def quiescent_GeluKernelIdeal_pre_gelu_finite [hGeluKernelIdeal : Cert.GeluKernelIdeal.Facts] [hPre_gelu_finite : Cert.Pre_gelu_finite.Facts] : Prop :=
  ∀ (m : (ℓ : Loc Cert.GeluKernelIdeal.nD Cert.GeluKernelIdeal.τ Cert.GeluKernelIdeal.sig) → Buf (Elt Ideal) ℓ) (g : Dev Cert.GeluKernelIdeal.nD → PrngReg), Pre_GeluKernelIdeal_gelu_finite m →
    θ_run (Cert.GeluKernelIdeal.defs (F := Ideal)) (onTc (τ := Cert.GeluKernelIdeal.τ) (Cert.GeluKernelIdeal.main (F := Ideal))) ⟨m, fun _ => 0, g⟩ (fun r => (∀ c : Dev Cert.GeluKernelIdeal.nD,
      r.2.mem ((c.tc : Thread Cert.GeluKernelIdeal.nD Cert.GeluKernelIdeal.τ).loc Cert.GeluKernelIdeal.main_arg0) = m ((c.tc : Thread Cert.GeluKernelIdeal.nD Cert.GeluKernelIdeal.τ).loc Cert.GeluKernelIdeal.main_arg0)
      ∧ r.2.mem ((c.tc : Thread Cert.GeluKernelIdeal.nD Cert.GeluKernelIdeal.τ).loc Cert.GeluKernelIdeal.main_arg1) = m ((c.tc : Thread Cert.GeluKernelIdeal.nD Cert.GeluKernelIdeal.τ).loc Cert.GeluKernelIdeal.main_arg1)
      ∧ r.2.mem ((c.tc : Thread Cert.GeluKernelIdeal.nD Cert.GeluKernelIdeal.τ).loc Cert.GeluKernelIdeal.main_arg2) = m ((c.tc : Thread Cert.GeluKernelIdeal.nD Cert.GeluKernelIdeal.τ).loc Cert.GeluKernelIdeal.main_arg2)
      ∧ r.2.mem ((c.tc : Thread Cert.GeluKernelIdeal.nD Cert.GeluKernelIdeal.τ).loc Cert.GeluKernelIdeal.main_arg3) = m ((c.tc : Thread Cert.GeluKernelIdeal.nD Cert.GeluKernelIdeal.τ).loc Cert.GeluKernelIdeal.main_arg3))
      ∧ r.2.sem = fun _ => 0)

def quiescent_GeluReferenceIdeal [hGeluReferenceIdeal : Cert.GeluReferenceIdeal.Facts] : Prop :=
  ∀ (m : (ℓ : Loc Cert.GeluReferenceIdeal.nD Cert.GeluReferenceIdeal.τ Cert.GeluReferenceIdeal.sig) → Buf (Elt Ideal) ℓ) (g : Dev Cert.GeluReferenceIdeal.nD → PrngReg), Pre_GeluReferenceIdeal m →
    θ_run (Cert.GeluReferenceIdeal.defs (F := Ideal)) (onTc (τ := Cert.GeluReferenceIdeal.τ) (Cert.GeluReferenceIdeal.main (F := Ideal))) ⟨m, fun _ => 0, g⟩ (fun r => (∀ c : Dev Cert.GeluReferenceIdeal.nD,
      r.2.mem ((c.tc : Thread Cert.GeluReferenceIdeal.nD Cert.GeluReferenceIdeal.τ).loc Cert.GeluReferenceIdeal.main_arg0) = m ((c.tc : Thread Cert.GeluReferenceIdeal.nD Cert.GeluReferenceIdeal.τ).loc Cert.GeluReferenceIdeal.main_arg0)
      ∧ r.2.mem ((c.tc : Thread Cert.GeluReferenceIdeal.nD Cert.GeluReferenceIdeal.τ).loc Cert.GeluReferenceIdeal.main_arg1) = m ((c.tc : Thread Cert.GeluReferenceIdeal.nD Cert.GeluReferenceIdeal.τ).loc Cert.GeluReferenceIdeal.main_arg1)
      ∧ r.2.mem ((c.tc : Thread Cert.GeluReferenceIdeal.nD Cert.GeluReferenceIdeal.τ).loc Cert.GeluReferenceIdeal.main_arg2) = m ((c.tc : Thread Cert.GeluReferenceIdeal.nD Cert.GeluReferenceIdeal.τ).loc Cert.GeluReferenceIdeal.main_arg2)
      ∧ r.2.mem ((c.tc : Thread Cert.GeluReferenceIdeal.nD Cert.GeluReferenceIdeal.τ).loc Cert.GeluReferenceIdeal.main_arg3) = m ((c.tc : Thread Cert.GeluReferenceIdeal.nD Cert.GeluReferenceIdeal.τ).loc Cert.GeluReferenceIdeal.main_arg3))
      ∧ r.2.sem = fun _ => 0)

def quiescent_GeluReferenceIdeal_pre_gelu_finite [hGeluReferenceIdeal : Cert.GeluReferenceIdeal.Facts] [hPre_gelu_finite : Cert.Pre_gelu_finite.Facts] : Prop :=
  ∀ (m : (ℓ : Loc Cert.GeluReferenceIdeal.nD Cert.GeluReferenceIdeal.τ Cert.GeluReferenceIdeal.sig) → Buf (Elt Ideal) ℓ) (g : Dev Cert.GeluReferenceIdeal.nD → PrngReg), Pre_GeluReferenceIdeal_gelu_finite m →
    θ_run (Cert.GeluReferenceIdeal.defs (F := Ideal)) (onTc (τ := Cert.GeluReferenceIdeal.τ) (Cert.GeluReferenceIdeal.main (F := Ideal))) ⟨m, fun _ => 0, g⟩ (fun r => (∀ c : Dev Cert.GeluReferenceIdeal.nD,
      r.2.mem ((c.tc : Thread Cert.GeluReferenceIdeal.nD Cert.GeluReferenceIdeal.τ).loc Cert.GeluReferenceIdeal.main_arg0) = m ((c.tc : Thread Cert.GeluReferenceIdeal.nD Cert.GeluReferenceIdeal.τ).loc Cert.GeluReferenceIdeal.main_arg0)
      ∧ r.2.mem ((c.tc : Thread Cert.GeluReferenceIdeal.nD Cert.GeluReferenceIdeal.τ).loc Cert.GeluReferenceIdeal.main_arg1) = m ((c.tc : Thread Cert.GeluReferenceIdeal.nD Cert.GeluReferenceIdeal.τ).loc Cert.GeluReferenceIdeal.main_arg1)
      ∧ r.2.mem ((c.tc : Thread Cert.GeluReferenceIdeal.nD Cert.GeluReferenceIdeal.τ).loc Cert.GeluReferenceIdeal.main_arg2) = m ((c.tc : Thread Cert.GeluReferenceIdeal.nD Cert.GeluReferenceIdeal.τ).loc Cert.GeluReferenceIdeal.main_arg2)
      ∧ r.2.mem ((c.tc : Thread Cert.GeluReferenceIdeal.nD Cert.GeluReferenceIdeal.τ).loc Cert.GeluReferenceIdeal.main_arg3) = m ((c.tc : Thread Cert.GeluReferenceIdeal.nD Cert.GeluReferenceIdeal.τ).loc Cert.GeluReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ r.2.sem = fun _ => 0)

def quiescent_AttnfKernelIdeal_pre_attnf_finite [hAttnfKernelIdeal : Cert.AttnfKernelIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal_attnf_finite m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2))
      ∧ r.2.sem = fun _ => 0)

def quiescent_AttnfReferenceIdeal_pre_attnf_finite [hAttnfReferenceIdeal : Cert.AttnfReferenceIdeal.Facts] [hPre_attnf_finite : Cert.Pre_attnf_finite.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal_attnf_finite m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2)
      ∧ r.2.mem ((c.tc : Thread Cert.XattnKernel.nD Cert.XattnKernel.τ).loc Cert.XattnKernel.main_arg3) = m ((c.tc : Thread Cert.XattnKernel.nD Cert.XattnKernel.τ).loc Cert.XattnKernel.main_arg3)
      ∧ r.2.mem ((c.tc : Thread Cert.XattnKernel.nD Cert.XattnKernel.τ).loc Cert.XattnKernel.main_arg4) = m ((c.tc : Thread Cert.XattnKernel.nD Cert.XattnKernel.τ).loc Cert.XattnKernel.main_arg4)
      ∧ r.2.mem ((c.tc : Thread Cert.XattnKernel.nD Cert.XattnKernel.τ).loc Cert.XattnKernel.main_arg5) = m ((c.tc : Thread Cert.XattnKernel.nD Cert.XattnKernel.τ).loc Cert.XattnKernel.main_arg5)
      ∧ r.2.mem ((c.tc : Thread Cert.XattnKernel.nD Cert.XattnKernel.τ).loc Cert.XattnKernel.main_arg6) = m ((c.tc : Thread Cert.XattnKernel.nD Cert.XattnKernel.τ).loc Cert.XattnKernel.main_arg6))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
      ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6))
      ∧ r.2.sem = fun _ => 0)

def quiescent_XattnKernelIdeal_pre_xattn_finite [hXattnKernelIdeal : Cert.XattnKernelIdeal.Facts] [hPre_xattn_finite : Cert.Pre_xattn_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal_xattn_finite m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
      ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6))
      ∧ r.2.sem = fun _ => 0)

def quiescent_XattnReferenceIdeal_pre_xattn_finite [hXattnReferenceIdeal : Cert.XattnReferenceIdeal.Facts] [hPre_xattn_finite : Cert.Pre_xattn_finite.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_xattn_finite m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_ConvKernelIdeal_pre_conv_finite [hConvKernelIdeal : Cert.ConvKernelIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_conv_finite m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_ConvReferenceIdeal_pre_conv_finite [hConvReferenceIdeal : Cert.ConvReferenceIdeal.Facts] [hPre_conv_finite : Cert.Pre_conv_finite.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_conv_finite m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MemfKernel [hMemfKernel : Cert.MemfKernel.Facts] : Prop :=
  ∀ (m : (ℓ : Loc Cert.MemfKernel.nD Cert.MemfKernel.τ Cert.MemfKernel.sig) → Buf (Elt Bits) ℓ) (g : Dev Cert.MemfKernel.nD → PrngReg), Pre_MemfKernel m →
    θ_run (Cert.MemfKernel.defs (F := Bits)) (onTc (τ := Cert.MemfKernel.τ) (Cert.MemfKernel.main (F := Bits))) ⟨m, fun _ => 0, g⟩ (fun r => (∀ c : Dev Cert.MemfKernel.nD,
      r.2.mem ((c.tc : Thread Cert.MemfKernel.nD Cert.MemfKernel.τ).loc Cert.MemfKernel.main_arg0) = m ((c.tc : Thread Cert.MemfKernel.nD Cert.MemfKernel.τ).loc Cert.MemfKernel.main_arg0)
      ∧ r.2.mem ((c.tc : Thread Cert.MemfKernel.nD Cert.MemfKernel.τ).loc Cert.MemfKernel.main_arg1) = m ((c.tc : Thread Cert.MemfKernel.nD Cert.MemfKernel.τ).loc Cert.MemfKernel.main_arg1)
      ∧ r.2.mem ((c.tc : Thread Cert.MemfKernel.nD Cert.MemfKernel.τ).loc Cert.MemfKernel.main_arg2) = m ((c.tc : Thread Cert.MemfKernel.nD Cert.MemfKernel.τ).loc Cert.MemfKernel.main_arg2))
      ∧ r.2.sem = fun _ => 0)

def quiescent_MemfKernelIdeal [hMemfKernelIdeal : Cert.MemfKernelIdeal.Facts] : Prop :=
  ∀ (m : (ℓ : Loc Cert.MemfKernelIdeal.nD Cert.MemfKernelIdeal.τ Cert.MemfKernelIdeal.sig) → Buf (Elt Ideal) ℓ) (g : Dev Cert.MemfKernelIdeal.nD → PrngReg), Pre_MemfKernelIdeal m →
    θ_run (Cert.MemfKernelIdeal.defs (F := Ideal)) (onTc (τ := Cert.MemfKernelIdeal.τ) (Cert.MemfKernelIdeal.main (F := Ideal))) ⟨m, fun _ => 0, g⟩ (fun r => (∀ c : Dev Cert.MemfKernelIdeal.nD,
      r.2.mem ((c.tc : Thread Cert.MemfKernelIdeal.nD Cert.MemfKernelIdeal.τ).loc Cert.MemfKernelIdeal.main_arg0) = m ((c.tc : Thread Cert.MemfKernelIdeal.nD Cert.MemfKernelIdeal.τ).loc Cert.MemfKernelIdeal.main_arg0)
      ∧ r.2.mem ((c.tc : Thread Cert.MemfKernelIdeal.nD Cert.MemfKernelIdeal.τ).loc Cert.MemfKernelIdeal.main_arg1) = m ((c.tc : Thread Cert.MemfKernelIdeal.nD Cert.MemfKernelIdeal.τ).loc Cert.MemfKernelIdeal.main_arg1)
      ∧ r.2.mem ((c.tc : Thread Cert.MemfKernelIdeal.nD Cert.MemfKernelIdeal.τ).loc Cert.MemfKernelIdeal.main_arg2) = m ((c.tc : Thread Cert.MemfKernelIdeal.nD Cert.MemfKernelIdeal.τ).loc Cert.MemfKernelIdeal.main_arg2))
      ∧ r.2.sem = fun _ => 0)

def quiescent_MemfReferenceIdeal [hMemfReferenceIdeal : Cert.MemfReferenceIdeal.Facts] : Prop :=
  ∀ (m : (ℓ : Loc Cert.MemfReferenceIdeal.nD Cert.MemfReferenceIdeal.τ Cert.MemfReferenceIdeal.sig) → Buf (Elt Ideal) ℓ) (g : Dev Cert.MemfReferenceIdeal.nD → PrngReg), Pre_MemfReferenceIdeal m →
    θ_run (Cert.MemfReferenceIdeal.defs (F := Ideal)) (onTc (τ := Cert.MemfReferenceIdeal.τ) (Cert.MemfReferenceIdeal.main (F := Ideal))) ⟨m, fun _ => 0, g⟩ (fun r => (∀ c : Dev Cert.MemfReferenceIdeal.nD,
      r.2.mem ((c.tc : Thread Cert.MemfReferenceIdeal.nD Cert.MemfReferenceIdeal.τ).loc Cert.MemfReferenceIdeal.main_arg0) = m ((c.tc : Thread Cert.MemfReferenceIdeal.nD Cert.MemfReferenceIdeal.τ).loc Cert.MemfReferenceIdeal.main_arg0)
      ∧ r.2.mem ((c.tc : Thread Cert.MemfReferenceIdeal.nD Cert.MemfReferenceIdeal.τ).loc Cert.MemfReferenceIdeal.main_arg1) = m ((c.tc : Thread Cert.MemfReferenceIdeal.nD Cert.MemfReferenceIdeal.τ).loc Cert.MemfReferenceIdeal.main_arg1)
      ∧ r.2.mem ((c.tc : Thread Cert.MemfReferenceIdeal.nD Cert.MemfReferenceIdeal.τ).loc Cert.MemfReferenceIdeal.main_arg2) = m ((c.tc : Thread Cert.MemfReferenceIdeal.nD Cert.MemfReferenceIdeal.τ).loc Cert.MemfReferenceIdeal.main_arg2))
      ∧ r.2.sem = fun _ => 0)

def quiescent_EpostKernel [hEpostKernel : Cert.EpostKernel.Facts] : Prop :=
  ∀ (m : (ℓ : Loc Cert.EpostKernel.nD Cert.EpostKernel.τ Cert.EpostKernel.sig) → Buf (Elt Bits) ℓ) (g : Dev Cert.EpostKernel.nD → PrngReg), Pre_EpostKernel m →
    θ_run (Cert.EpostKernel.defs (F := Bits)) (onTc (τ := Cert.EpostKernel.τ) (Cert.EpostKernel.main (F := Bits))) ⟨m, fun _ => 0, g⟩ (fun r => (∀ c : Dev Cert.EpostKernel.nD,
      r.2.mem ((c.tc : Thread Cert.EpostKernel.nD Cert.EpostKernel.τ).loc Cert.EpostKernel.main_arg0) = m ((c.tc : Thread Cert.EpostKernel.nD Cert.EpostKernel.τ).loc Cert.EpostKernel.main_arg0)
      ∧ r.2.mem ((c.tc : Thread Cert.EpostKernel.nD Cert.EpostKernel.τ).loc Cert.EpostKernel.main_arg1) = m ((c.tc : Thread Cert.EpostKernel.nD Cert.EpostKernel.τ).loc Cert.EpostKernel.main_arg1)
      ∧ r.2.mem ((c.tc : Thread Cert.EpostKernel.nD Cert.EpostKernel.τ).loc Cert.EpostKernel.main_arg2) = m ((c.tc : Thread Cert.EpostKernel.nD Cert.EpostKernel.τ).loc Cert.EpostKernel.main_arg2)
      ∧ r.2.mem ((c.tc : Thread Cert.EpostKernel.nD Cert.EpostKernel.τ).loc Cert.EpostKernel.main_arg3) = m ((c.tc : Thread Cert.EpostKernel.nD Cert.EpostKernel.τ).loc Cert.EpostKernel.main_arg3))
      ∧ r.2.sem = fun _ => 0)

def quiescent_EpostKernelIdeal [hEpostKernelIdeal : Cert.EpostKernelIdeal.Facts] : Prop :=
  ∀ (m : (ℓ : Loc Cert.EpostKernelIdeal.nD Cert.EpostKernelIdeal.τ Cert.EpostKernelIdeal.sig) → Buf (Elt Ideal) ℓ) (g : Dev Cert.EpostKernelIdeal.nD → PrngReg), Pre_EpostKernelIdeal m →
    θ_run (Cert.EpostKernelIdeal.defs (F := Ideal)) (onTc (τ := Cert.EpostKernelIdeal.τ) (Cert.EpostKernelIdeal.main (F := Ideal))) ⟨m, fun _ => 0, g⟩ (fun r => (∀ c : Dev Cert.EpostKernelIdeal.nD,
      r.2.mem ((c.tc : Thread Cert.EpostKernelIdeal.nD Cert.EpostKernelIdeal.τ).loc Cert.EpostKernelIdeal.main_arg0) = m ((c.tc : Thread Cert.EpostKernelIdeal.nD Cert.EpostKernelIdeal.τ).loc Cert.EpostKernelIdeal.main_arg0)
      ∧ r.2.mem ((c.tc : Thread Cert.EpostKernelIdeal.nD Cert.EpostKernelIdeal.τ).loc Cert.EpostKernelIdeal.main_arg1) = m ((c.tc : Thread Cert.EpostKernelIdeal.nD Cert.EpostKernelIdeal.τ).loc Cert.EpostKernelIdeal.main_arg1)
      ∧ r.2.mem ((c.tc : Thread Cert.EpostKernelIdeal.nD Cert.EpostKernelIdeal.τ).loc Cert.EpostKernelIdeal.main_arg2) = m ((c.tc : Thread Cert.EpostKernelIdeal.nD Cert.EpostKernelIdeal.τ).loc Cert.EpostKernelIdeal.main_arg2)
      ∧ r.2.mem ((c.tc : Thread Cert.EpostKernelIdeal.nD Cert.EpostKernelIdeal.τ).loc Cert.EpostKernelIdeal.main_arg3) = m ((c.tc : Thread Cert.EpostKernelIdeal.nD Cert.EpostKernelIdeal.τ).loc Cert.EpostKernelIdeal.main_arg3))
      ∧ r.2.sem = fun _ => 0)

def quiescent_EpostReferenceIdeal [hEpostReferenceIdeal : Cert.EpostReferenceIdeal.Facts] : Prop :=
  ∀ (m : (ℓ : Loc Cert.EpostReferenceIdeal.nD Cert.EpostReferenceIdeal.τ Cert.EpostReferenceIdeal.sig) → Buf (Elt Ideal) ℓ) (g : Dev Cert.EpostReferenceIdeal.nD → PrngReg), Pre_EpostReferenceIdeal m →
    θ_run (Cert.EpostReferenceIdeal.defs (F := Ideal)) (onTc (τ := Cert.EpostReferenceIdeal.τ) (Cert.EpostReferenceIdeal.main (F := Ideal))) ⟨m, fun _ => 0, g⟩ (fun r => (∀ c : Dev Cert.EpostReferenceIdeal.nD,
      r.2.mem ((c.tc : Thread Cert.EpostReferenceIdeal.nD Cert.EpostReferenceIdeal.τ).loc Cert.EpostReferenceIdeal.main_arg0) = m ((c.tc : Thread Cert.EpostReferenceIdeal.nD Cert.EpostReferenceIdeal.τ).loc Cert.EpostReferenceIdeal.main_arg0)
      ∧ r.2.mem ((c.tc : Thread Cert.EpostReferenceIdeal.nD Cert.EpostReferenceIdeal.τ).loc Cert.EpostReferenceIdeal.main_arg1) = m ((c.tc : Thread Cert.EpostReferenceIdeal.nD Cert.EpostReferenceIdeal.τ).loc Cert.EpostReferenceIdeal.main_arg1)
      ∧ r.2.mem ((c.tc : Thread Cert.EpostReferenceIdeal.nD Cert.EpostReferenceIdeal.τ).loc Cert.EpostReferenceIdeal.main_arg2) = m ((c.tc : Thread Cert.EpostReferenceIdeal.nD Cert.EpostReferenceIdeal.τ).loc Cert.EpostReferenceIdeal.main_arg2)
      ∧ r.2.mem ((c.tc : Thread Cert.EpostReferenceIdeal.nD Cert.EpostReferenceIdeal.τ).loc Cert.EpostReferenceIdeal.main_arg3) = m ((c.tc : Thread Cert.EpostReferenceIdeal.nD Cert.EpostReferenceIdeal.τ).loc Cert.EpostReferenceIdeal.main_arg3))
      ∧ r.2.sem = fun _ => 0)

def quiescent_GoutKernel [hGoutKernel : Cert.GoutKernel.Facts] : Prop :=
  ∀ (m : (ℓ : Loc Cert.GoutKernel.nD Cert.GoutKernel.τ Cert.GoutKernel.sig) → Buf (Elt Bits) ℓ) (g : Dev Cert.GoutKernel.nD → PrngReg), Pre_GoutKernel m →
    θ_run (Cert.GoutKernel.defs (F := Bits)) (onTc (τ := Cert.GoutKernel.τ) (Cert.GoutKernel.main (F := Bits))) ⟨m, fun _ => 0, g⟩ (fun r => (∀ c : Dev Cert.GoutKernel.nD,
      r.2.mem ((c.tc : Thread Cert.GoutKernel.nD Cert.GoutKernel.τ).loc Cert.GoutKernel.main_arg0) = m ((c.tc : Thread Cert.GoutKernel.nD Cert.GoutKernel.τ).loc Cert.GoutKernel.main_arg0)
      ∧ r.2.mem ((c.tc : Thread Cert.GoutKernel.nD Cert.GoutKernel.τ).loc Cert.GoutKernel.main_arg1) = m ((c.tc : Thread Cert.GoutKernel.nD Cert.GoutKernel.τ).loc Cert.GoutKernel.main_arg1)
      ∧ r.2.mem ((c.tc : Thread Cert.GoutKernel.nD Cert.GoutKernel.τ).loc Cert.GoutKernel.main_arg2) = m ((c.tc : Thread Cert.GoutKernel.nD Cert.GoutKernel.τ).loc Cert.GoutKernel.main_arg2)
      ∧ r.2.mem ((c.tc : Thread Cert.GoutKernel.nD Cert.GoutKernel.τ).loc Cert.GoutKernel.main_arg3) = m ((c.tc : Thread Cert.GoutKernel.nD Cert.GoutKernel.τ).loc Cert.GoutKernel.main_arg3))
      ∧ r.2.sem = fun _ => 0)

def quiescent_GoutKernelIdeal [hGoutKernelIdeal : Cert.GoutKernelIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg), Pre_GoutKernelIdeal m →
    θ_run (Cert.GoutKernelIdeal.defs (F := Ideal)) (onTc (τ := Cert.GoutKernelIdeal.τ) (Cert.GoutKernelIdeal.main (F := Ideal))) ⟨m, fun _ => 0, g⟩ (fun r => (∀ c : Dev Cert.GoutKernelIdeal.nD,
      r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
      ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1)
      ∧ r.2.mem ((c.tc : Thread Cert.GoutKernelIdeal.nD Cert.GoutKernelIdeal.τ).loc Cert.GoutKernelIdeal.main_arg2) = m ((c.tc : Thread Cert.GoutKernelIdeal.nD Cert.GoutKernelIdeal.τ).loc Cert.GoutKernelIdeal.main_arg2)
      ∧ r.2.mem ((c.tc : Thread Cert.GoutKernelIdeal.nD Cert.GoutKernelIdeal.τ).loc Cert.GoutKernelIdeal.main_arg3) = m ((c.tc : Thread Cert.GoutKernelIdeal.nD Cert.GoutKernelIdeal.τ).loc Cert.GoutKernelIdeal.main_arg3))
      ∧ r.2.sem = fun _ => 0)

def quiescent_GoutReferenceIdeal [hGoutReferenceIdeal : Cert.GoutReferenceIdeal.Facts] : Prop :=
  ∀ (m : (ℓ : Loc Cert.GoutReferenceIdeal.nD Cert.GoutReferenceIdeal.τ Cert.GoutReferenceIdeal.sig) → Buf (Elt Ideal) ℓ) (g : Dev Cert.GoutReferenceIdeal.nD → PrngReg), Pre_GoutReferenceIdeal m →
    θ_run (Cert.GoutReferenceIdeal.defs (F := Ideal)) (onTc (τ := Cert.GoutReferenceIdeal.τ) (Cert.GoutReferenceIdeal.main (F := Ideal))) ⟨m, fun _ => 0, g⟩ (fun r => (∀ c : Dev Cert.GoutReferenceIdeal.nD,
      r.2.mem ((c.tc : Thread Cert.GoutReferenceIdeal.nD Cert.GoutReferenceIdeal.τ).loc Cert.GoutReferenceIdeal.main_arg0) = m ((c.tc : Thread Cert.GoutReferenceIdeal.nD Cert.GoutReferenceIdeal.τ).loc Cert.GoutReferenceIdeal.main_arg0)
      ∧ r.2.mem ((c.tc : Thread Cert.GoutReferenceIdeal.nD Cert.GoutReferenceIdeal.τ).loc Cert.GoutReferenceIdeal.main_arg1) = m ((c.tc : Thread Cert.GoutReferenceIdeal.nD Cert.GoutReferenceIdeal.τ).loc Cert.GoutReferenceIdeal.main_arg1)
      ∧ r.2.mem ((c.tc : Thread Cert.GoutReferenceIdeal.nD Cert.GoutReferenceIdeal.τ).loc Cert.GoutReferenceIdeal.main_arg2) = m ((c.tc : Thread Cert.GoutReferenceIdeal.nD Cert.GoutReferenceIdeal.τ).loc Cert.GoutReferenceIdeal.main_arg2)
      ∧ r.2.mem ((c.tc : Thread Cert.GoutReferenceIdeal.nD Cert.GoutReferenceIdeal.τ).loc Cert.GoutReferenceIdeal.main_arg3) = m ((c.tc : Thread Cert.GoutReferenceIdeal.nD Cert.GoutReferenceIdeal.τ).loc Cert.GoutReferenceIdeal.main_arg3))
      ∧ r.2.sem = fun _ => 0)

def quiescent_FfnfKernel [hFfnfKernel : Cert.FfnfKernel.Facts] : Prop :=
  ∀ (m : (ℓ : Loc Cert.FfnfKernel.nD Cert.FfnfKernel.τ Cert.FfnfKernel.sig) → Buf (Elt Bits) ℓ) (g : Dev Cert.FfnfKernel.nD → PrngReg), Pre_FfnfKernel m →
    θ_run (Cert.FfnfKernel.defs (F := Bits)) (onTc (τ := Cert.FfnfKernel.τ) (Cert.FfnfKernel.main (F := Bits))) ⟨m, fun _ => 0, g⟩ (fun r => (∀ c : Dev Cert.FfnfKernel.nD,
      r.2.mem ((c.tc : Thread Cert.FfnfKernel.nD Cert.FfnfKernel.τ).loc Cert.FfnfKernel.main_arg0) = m ((c.tc : Thread Cert.FfnfKernel.nD Cert.FfnfKernel.τ).loc Cert.FfnfKernel.main_arg0)
      ∧ r.2.mem ((c.tc : Thread Cert.FfnfKernel.nD Cert.FfnfKernel.τ).loc Cert.FfnfKernel.main_arg1) = m ((c.tc : Thread Cert.FfnfKernel.nD Cert.FfnfKernel.τ).loc Cert.FfnfKernel.main_arg1)
      ∧ r.2.mem ((c.tc : Thread Cert.FfnfKernel.nD Cert.FfnfKernel.τ).loc Cert.FfnfKernel.main_arg2) = m ((c.tc : Thread Cert.FfnfKernel.nD Cert.FfnfKernel.τ).loc Cert.FfnfKernel.main_arg2)
      ∧ r.2.mem ((c.tc : Thread Cert.FfnfKernel.nD Cert.FfnfKernel.τ).loc Cert.FfnfKernel.main_arg3) = m ((c.tc : Thread Cert.FfnfKernel.nD Cert.FfnfKernel.τ).loc Cert.FfnfKernel.main_arg3))
      ∧ r.2.sem = fun _ => 0)

def quiescent_FfnfKernelIdeal [hFfnfKernelIdeal : Cert.FfnfKernelIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg), Pre_FfnfKernelIdeal m →
    θ_run (Cert.FfnfKernelIdeal.defs (F := Ideal)) (onTc (τ := Cert.FfnfKernelIdeal.τ) (Cert.FfnfKernelIdeal.main (F := Ideal))) ⟨m, fun _ => 0, g⟩ (fun r => (∀ c : Dev Cert.FfnfKernelIdeal.nD,
      r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
      ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
      ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2)
      ∧ r.2.mem ((c.tc : Thread Cert.FfnfKernelIdeal.nD Cert.FfnfKernelIdeal.τ).loc Cert.FfnfKernelIdeal.main_arg3) = m ((c.tc : Thread Cert.FfnfKernelIdeal.nD Cert.FfnfKernelIdeal.τ).loc Cert.FfnfKernelIdeal.main_arg3))
      ∧ r.2.sem = fun _ => 0)

def quiescent_FfnfReferenceIdeal [hFfnfReferenceIdeal : Cert.FfnfReferenceIdeal.Facts] : Prop :=
  ∀ (m : (ℓ : Loc Cert.FfnfReferenceIdeal.nD Cert.FfnfReferenceIdeal.τ Cert.FfnfReferenceIdeal.sig) → Buf (Elt Ideal) ℓ) (g : Dev Cert.FfnfReferenceIdeal.nD → PrngReg), Pre_FfnfReferenceIdeal m →
    θ_run (Cert.FfnfReferenceIdeal.defs (F := Ideal)) (onTc (τ := Cert.FfnfReferenceIdeal.τ) (Cert.FfnfReferenceIdeal.main (F := Ideal))) ⟨m, fun _ => 0, g⟩ (fun r => (∀ c : Dev Cert.FfnfReferenceIdeal.nD,
      r.2.mem ((c.tc : Thread Cert.FfnfReferenceIdeal.nD Cert.FfnfReferenceIdeal.τ).loc Cert.FfnfReferenceIdeal.main_arg0) = m ((c.tc : Thread Cert.FfnfReferenceIdeal.nD Cert.FfnfReferenceIdeal.τ).loc Cert.FfnfReferenceIdeal.main_arg0)
      ∧ r.2.mem ((c.tc : Thread Cert.FfnfReferenceIdeal.nD Cert.FfnfReferenceIdeal.τ).loc Cert.FfnfReferenceIdeal.main_arg1) = m ((c.tc : Thread Cert.FfnfReferenceIdeal.nD Cert.FfnfReferenceIdeal.τ).loc Cert.FfnfReferenceIdeal.main_arg1)
      ∧ r.2.mem ((c.tc : Thread Cert.FfnfReferenceIdeal.nD Cert.FfnfReferenceIdeal.τ).loc Cert.FfnfReferenceIdeal.main_arg2) = m ((c.tc : Thread Cert.FfnfReferenceIdeal.nD Cert.FfnfReferenceIdeal.τ).loc Cert.FfnfReferenceIdeal.main_arg2)
      ∧ r.2.mem ((c.tc : Thread Cert.FfnfReferenceIdeal.nD Cert.FfnfReferenceIdeal.τ).loc Cert.FfnfReferenceIdeal.main_arg3) = m ((c.tc : Thread Cert.FfnfReferenceIdeal.nD Cert.FfnfReferenceIdeal.τ).loc Cert.FfnfReferenceIdeal.main_arg3))
      ∧ r.2.sem = fun _ => 0)

def quiescent_XattfKernel [hXattfKernel : Cert.XattfKernel.Facts] : Prop :=
  ∀ (m : (ℓ : Loc Cert.XattfKernel.nD Cert.XattfKernel.τ Cert.XattfKernel.sig) → Buf (Elt Bits) ℓ) (g : Dev Cert.XattfKernel.nD → PrngReg), Pre_XattfKernel m →
    θ_run (Cert.XattfKernel.defs (F := Bits)) (onTc (τ := Cert.XattfKernel.τ) (Cert.XattfKernel.main (F := Bits))) ⟨m, fun _ => 0, g⟩ (fun r => (∀ c : Dev Cert.XattfKernel.nD,
      r.2.mem ((c.tc : Thread Cert.XattfKernel.nD Cert.XattfKernel.τ).loc Cert.XattfKernel.main_arg0) = m ((c.tc : Thread Cert.XattfKernel.nD Cert.XattfKernel.τ).loc Cert.XattfKernel.main_arg0)
      ∧ r.2.mem ((c.tc : Thread Cert.XattfKernel.nD Cert.XattfKernel.τ).loc Cert.XattfKernel.main_arg1) = m ((c.tc : Thread Cert.XattfKernel.nD Cert.XattfKernel.τ).loc Cert.XattfKernel.main_arg1)
      ∧ r.2.mem ((c.tc : Thread Cert.XattfKernel.nD Cert.XattfKernel.τ).loc Cert.XattfKernel.main_arg2) = m ((c.tc : Thread Cert.XattfKernel.nD Cert.XattfKernel.τ).loc Cert.XattfKernel.main_arg2)
      ∧ r.2.mem ((c.tc : Thread Cert.XattfKernel.nD Cert.XattfKernel.τ).loc Cert.XattfKernel.main_arg3) = m ((c.tc : Thread Cert.XattfKernel.nD Cert.XattfKernel.τ).loc Cert.XattfKernel.main_arg3)
      ∧ r.2.mem ((c.tc : Thread Cert.XattfKernel.nD Cert.XattfKernel.τ).loc Cert.XattfKernel.main_arg4) = m ((c.tc : Thread Cert.XattfKernel.nD Cert.XattfKernel.τ).loc Cert.XattfKernel.main_arg4)
      ∧ r.2.mem ((c.tc : Thread Cert.XattfKernel.nD Cert.XattfKernel.τ).loc Cert.XattfKernel.main_arg5) = m ((c.tc : Thread Cert.XattfKernel.nD Cert.XattfKernel.τ).loc Cert.XattfKernel.main_arg5))
      ∧ r.2.sem = fun _ => 0)

def quiescent_XattfKernelIdeal [hXattfKernelIdeal : Cert.XattfKernelIdeal.Facts] : Prop :=
  ∀ (m : (ℓ : Loc Cert.XattfKernelIdeal.nD Cert.XattfKernelIdeal.τ Cert.XattfKernelIdeal.sig) → Buf (Elt Ideal) ℓ) (g : Dev Cert.XattfKernelIdeal.nD → PrngReg), Pre_XattfKernelIdeal m →
    θ_run (Cert.XattfKernelIdeal.defs (F := Ideal)) (onTc (τ := Cert.XattfKernelIdeal.τ) (Cert.XattfKernelIdeal.main (F := Ideal))) ⟨m, fun _ => 0, g⟩ (fun r => (∀ c : Dev Cert.XattfKernelIdeal.nD,
      r.2.mem ((c.tc : Thread Cert.XattfKernelIdeal.nD Cert.XattfKernelIdeal.τ).loc Cert.XattfKernelIdeal.main_arg0) = m ((c.tc : Thread Cert.XattfKernelIdeal.nD Cert.XattfKernelIdeal.τ).loc Cert.XattfKernelIdeal.main_arg0)
      ∧ r.2.mem ((c.tc : Thread Cert.XattfKernelIdeal.nD Cert.XattfKernelIdeal.τ).loc Cert.XattfKernelIdeal.main_arg1) = m ((c.tc : Thread Cert.XattfKernelIdeal.nD Cert.XattfKernelIdeal.τ).loc Cert.XattfKernelIdeal.main_arg1)
      ∧ r.2.mem ((c.tc : Thread Cert.XattfKernelIdeal.nD Cert.XattfKernelIdeal.τ).loc Cert.XattfKernelIdeal.main_arg2) = m ((c.tc : Thread Cert.XattfKernelIdeal.nD Cert.XattfKernelIdeal.τ).loc Cert.XattfKernelIdeal.main_arg2)
      ∧ r.2.mem ((c.tc : Thread Cert.XattfKernelIdeal.nD Cert.XattfKernelIdeal.τ).loc Cert.XattfKernelIdeal.main_arg3) = m ((c.tc : Thread Cert.XattfKernelIdeal.nD Cert.XattfKernelIdeal.τ).loc Cert.XattfKernelIdeal.main_arg3)
      ∧ r.2.mem ((c.tc : Thread Cert.XattfKernelIdeal.nD Cert.XattfKernelIdeal.τ).loc Cert.XattfKernelIdeal.main_arg4) = m ((c.tc : Thread Cert.XattfKernelIdeal.nD Cert.XattfKernelIdeal.τ).loc Cert.XattfKernelIdeal.main_arg4)
      ∧ r.2.mem ((c.tc : Thread Cert.XattfKernelIdeal.nD Cert.XattfKernelIdeal.τ).loc Cert.XattfKernelIdeal.main_arg5) = m ((c.tc : Thread Cert.XattfKernelIdeal.nD Cert.XattfKernelIdeal.τ).loc Cert.XattfKernelIdeal.main_arg5))
      ∧ r.2.sem = fun _ => 0)

def quiescent_XattfReferenceIdeal [hXattfReferenceIdeal : Cert.XattfReferenceIdeal.Facts] : Prop :=
  ∀ (m : (ℓ : Loc Cert.XattfReferenceIdeal.nD Cert.XattfReferenceIdeal.τ Cert.XattfReferenceIdeal.sig) → Buf (Elt Ideal) ℓ) (g : Dev Cert.XattfReferenceIdeal.nD → PrngReg), Pre_XattfReferenceIdeal m →
    θ_run (Cert.XattfReferenceIdeal.defs (F := Ideal)) (onTc (τ := Cert.XattfReferenceIdeal.τ) (Cert.XattfReferenceIdeal.main (F := Ideal))) ⟨m, fun _ => 0, g⟩ (fun r => (∀ c : Dev Cert.XattfReferenceIdeal.nD,
      r.2.mem ((c.tc : Thread Cert.XattfReferenceIdeal.nD Cert.XattfReferenceIdeal.τ).loc Cert.XattfReferenceIdeal.main_arg0) = m ((c.tc : Thread Cert.XattfReferenceIdeal.nD Cert.XattfReferenceIdeal.τ).loc Cert.XattfReferenceIdeal.main_arg0)
      ∧ r.2.mem ((c.tc : Thread Cert.XattfReferenceIdeal.nD Cert.XattfReferenceIdeal.τ).loc Cert.XattfReferenceIdeal.main_arg1) = m ((c.tc : Thread Cert.XattfReferenceIdeal.nD Cert.XattfReferenceIdeal.τ).loc Cert.XattfReferenceIdeal.main_arg1)
      ∧ r.2.mem ((c.tc : Thread Cert.XattfReferenceIdeal.nD Cert.XattfReferenceIdeal.τ).loc Cert.XattfReferenceIdeal.main_arg2) = m ((c.tc : Thread Cert.XattfReferenceIdeal.nD Cert.XattfReferenceIdeal.τ).loc Cert.XattfReferenceIdeal.main_arg2)
      ∧ r.2.mem ((c.tc : Thread Cert.XattfReferenceIdeal.nD Cert.XattfReferenceIdeal.τ).loc Cert.XattfReferenceIdeal.main_arg3) = m ((c.tc : Thread Cert.XattfReferenceIdeal.nD Cert.XattfReferenceIdeal.τ).loc Cert.XattfReferenceIdeal.main_arg3)
      ∧ r.2.mem ((c.tc : Thread Cert.XattfReferenceIdeal.nD Cert.XattfReferenceIdeal.τ).loc Cert.XattfReferenceIdeal.main_arg4) = m ((c.tc : Thread Cert.XattfReferenceIdeal.nD Cert.XattfReferenceIdeal.τ).loc Cert.XattfReferenceIdeal.main_arg4)
      ∧ r.2.mem ((c.tc : Thread Cert.XattfReferenceIdeal.nD Cert.XattfReferenceIdeal.τ).loc Cert.XattfReferenceIdeal.main_arg5) = m ((c.tc : Thread Cert.XattfReferenceIdeal.nD Cert.XattfReferenceIdeal.τ).loc Cert.XattfReferenceIdeal.main_arg5))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_ProdKernel [hProdKernel : Cert.ProdKernel.Facts] : Prop :=
  ∀ (m : (ℓ : Loc Cert.ProdKernel.nD Cert.ProdKernel.τ Cert.ProdKernel.sig) → Buf (Elt Bits) ℓ) (g : Dev Cert.ProdKernel.nD → PrngReg), Pre_ProdKernel m →
    θ_run (Cert.ProdKernel.defs (F := Bits)) (onTc (τ := Cert.ProdKernel.τ) (Cert.ProdKernel.main (F := Bits))) ⟨m, fun _ => 0, g⟩ (fun r => (∀ c : Dev Cert.ProdKernel.nD,
      r.2.mem ((c.tc : Thread Cert.ProdKernel.nD Cert.ProdKernel.τ).loc Cert.ProdKernel.main_arg0) = m ((c.tc : Thread Cert.ProdKernel.nD Cert.ProdKernel.τ).loc Cert.ProdKernel.main_arg0)
      ∧ r.2.mem ((c.tc : Thread Cert.ProdKernel.nD Cert.ProdKernel.τ).loc Cert.ProdKernel.main_arg1) = m ((c.tc : Thread Cert.ProdKernel.nD Cert.ProdKernel.τ).loc Cert.ProdKernel.main_arg1))
      ∧ r.2.sem = fun _ => 0)

def quiescent_ProdKernelIdeal [hProdKernelIdeal : Cert.ProdKernelIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg), Pre_ProdKernelIdeal m →
    θ_run (Cert.ProdKernelIdeal.defs (F := Ideal)) (onTc (τ := Cert.ProdKernelIdeal.τ) (Cert.ProdKernelIdeal.main (F := Ideal))) ⟨m, fun _ => 0, g⟩ (fun r => (∀ c : Dev Cert.ProdKernelIdeal.nD,
      r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
      ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ r.2.sem = fun _ => 0)

def quiescent_ProdReferenceIdeal [hProdReferenceIdeal : Cert.ProdReferenceIdeal.Facts] : Prop :=
  ∀ (m : (ℓ : Loc Cert.ProdReferenceIdeal.nD Cert.ProdReferenceIdeal.τ Cert.ProdReferenceIdeal.sig) → Buf (Elt Ideal) ℓ) (g : Dev Cert.ProdReferenceIdeal.nD → PrngReg), Pre_ProdReferenceIdeal m →
    θ_run (Cert.ProdReferenceIdeal.defs (F := Ideal)) (onTc (τ := Cert.ProdReferenceIdeal.τ) (Cert.ProdReferenceIdeal.main (F := Ideal))) ⟨m, fun _ => 0, g⟩ (fun r => (∀ c : Dev Cert.ProdReferenceIdeal.nD,
      r.2.mem ((c.tc : Thread Cert.ProdReferenceIdeal.nD Cert.ProdReferenceIdeal.τ).loc Cert.ProdReferenceIdeal.main_arg0) = m ((c.tc : Thread Cert.ProdReferenceIdeal.nD Cert.ProdReferenceIdeal.τ).loc Cert.ProdReferenceIdeal.main_arg0)
      ∧ r.2.mem ((c.tc : Thread Cert.ProdReferenceIdeal.nD Cert.ProdReferenceIdeal.τ).loc Cert.ProdReferenceIdeal.main_arg1) = m ((c.tc : Thread Cert.ProdReferenceIdeal.nD Cert.ProdReferenceIdeal.τ).loc Cert.ProdReferenceIdeal.main_arg1))
      ∧ r.2.sem = fun _ => 0)

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)) →
    ∃ (v0 : (c : Dev Cert.MemKernelIdeal.nD) → Buf (Elt Ideal) ((c.tc : Thread Cert.MemKernelIdeal.nD Cert.MemKernelIdeal.τ).loc Cert.MemKernelIdeal.main_v2_0)) (v1 : (c : Dev Cert.MemKernelIdeal.nD) → Buf (Elt Ideal) ((c.tc : Thread Cert.MemKernelIdeal.nD Cert.MemKernelIdeal.τ).loc Cert.MemKernelIdeal.main_v2_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v2_0) = v0 c
          ∧ r.2.mem ((c.tc : Thread Cert.MemKernelIdeal.nD Cert.MemKernelIdeal.τ).loc Cert.MemKernelIdeal.main_v2_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v17) = v0 c
          ∧ r.2.mem ((c.tc : Thread Cert.MemReferenceIdeal.nD Cert.MemReferenceIdeal.τ).loc Cert.MemReferenceIdeal.main_v40) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_GeluKernel_GeluKernelIdeal : Prop :=
  IdealRules.named_const.Statement Cert.GeluKernelIdeal.κ "cube" .f32 0x3D372713#32 ((8943 / 200000 : ℝ) : EReal)
  ∧ IdealRules.named_const.Statement Cert.GeluKernelIdeal.κ "three_cubes" .f32 0x3E095D4F#32 ((26829 / 200000 : ℝ) : EReal)

def algebraic_GeluKernelIdeal_GeluReferenceIdeal_pre_gelu_finite [hGeluKernelIdeal : Cert.GeluKernelIdeal.Facts] [hGeluReferenceIdeal : Cert.GeluReferenceIdeal.Facts] [hPre_gelu_finite : Cert.Pre_gelu_finite.Facts] : Prop :=
  ∀ (m : (ℓ : Loc Cert.GeluKernelIdeal.nD Cert.GeluKernelIdeal.τ Cert.GeluKernelIdeal.sig) → Buf (Elt Ideal) ℓ) (g : Dev Cert.GeluKernelIdeal.nD → PrngReg)
    (m' : (ℓ : Loc Cert.GeluReferenceIdeal.nD Cert.GeluReferenceIdeal.τ Cert.GeluReferenceIdeal.sig) → Buf (Elt Ideal) ℓ) (g' : Dev Cert.GeluReferenceIdeal.nD → PrngReg), Pre_GeluKernelIdeal_gelu_finite m →
    (∀ c : Dev Cert.GeluKernelIdeal.nD,
      m' ((c.tc : Thread Cert.GeluReferenceIdeal.nD Cert.GeluReferenceIdeal.τ).loc Cert.GeluReferenceIdeal.main_arg0) = m ((c.tc : Thread Cert.GeluKernelIdeal.nD Cert.GeluKernelIdeal.τ).loc Cert.GeluKernelIdeal.main_arg0)
      ∧ m' ((c.tc : Thread Cert.GeluReferenceIdeal.nD Cert.GeluReferenceIdeal.τ).loc Cert.GeluReferenceIdeal.main_arg1) = m ((c.tc : Thread Cert.GeluKernelIdeal.nD Cert.GeluKernelIdeal.τ).loc Cert.GeluKernelIdeal.main_arg1)
      ∧ m' ((c.tc : Thread Cert.GeluReferenceIdeal.nD Cert.GeluReferenceIdeal.τ).loc Cert.GeluReferenceIdeal.main_arg2) = m ((c.tc : Thread Cert.GeluKernelIdeal.nD Cert.GeluKernelIdeal.τ).loc Cert.GeluKernelIdeal.main_arg2)
      ∧ m' ((c.tc : Thread Cert.GeluReferenceIdeal.nD Cert.GeluReferenceIdeal.τ).loc Cert.GeluReferenceIdeal.main_arg3) = m ((c.tc : Thread Cert.GeluKernelIdeal.nD Cert.GeluKernelIdeal.τ).loc Cert.GeluKernelIdeal.main_arg3)) →
    ∃ (v0 : (c : Dev Cert.GeluKernelIdeal.nD) → Buf (Elt Ideal) ((c.tc : Thread Cert.GeluKernelIdeal.nD Cert.GeluKernelIdeal.τ).loc Cert.GeluKernelIdeal.main_v3_0)) (v1 : (c : Dev Cert.GeluKernelIdeal.nD) → Buf (Elt Ideal) ((c.tc : Thread Cert.GeluKernelIdeal.nD Cert.GeluKernelIdeal.τ).loc Cert.GeluKernelIdeal.main_v3_1)) (v2 : (c : Dev Cert.GeluKernelIdeal.nD) → Buf (Elt Ideal) ((c.tc : Thread Cert.GeluKernelIdeal.nD Cert.GeluKernelIdeal.τ).loc Cert.GeluKernelIdeal.main_v3_2)),
      θ_run (Cert.GeluKernelIdeal.defs (F := Ideal)) (onTc (τ := Cert.GeluKernelIdeal.τ) (Cert.GeluKernelIdeal.main (F := Ideal))) ⟨m, fun _ => 0, g⟩ (fun r => ∀ c : Dev Cert.GeluKernelIdeal.nD,
          r.2.mem ((c.tc : Thread Cert.GeluKernelIdeal.nD Cert.GeluKernelIdeal.τ).loc Cert.GeluKernelIdeal.main_v3_0) = v0 c
          ∧ r.2.mem ((c.tc : Thread Cert.GeluKernelIdeal.nD Cert.GeluKernelIdeal.τ).loc Cert.GeluKernelIdeal.main_v3_1) = v1 c
          ∧ r.2.mem ((c.tc : Thread Cert.GeluKernelIdeal.nD Cert.GeluKernelIdeal.τ).loc Cert.GeluKernelIdeal.main_v3_2) = v2 c
          ∧ r.2.mem ((c.tc : Thread Cert.GeluKernelIdeal.nD Cert.GeluKernelIdeal.τ).loc Cert.GeluKernelIdeal.main_arg0) = m ((c.tc : Thread Cert.GeluKernelIdeal.nD Cert.GeluKernelIdeal.τ).loc Cert.GeluKernelIdeal.main_arg0)
          ∧ r.2.mem ((c.tc : Thread Cert.GeluKernelIdeal.nD Cert.GeluKernelIdeal.τ).loc Cert.GeluKernelIdeal.main_arg1) = m ((c.tc : Thread Cert.GeluKernelIdeal.nD Cert.GeluKernelIdeal.τ).loc Cert.GeluKernelIdeal.main_arg1)
          ∧ r.2.mem ((c.tc : Thread Cert.GeluKernelIdeal.nD Cert.GeluKernelIdeal.τ).loc Cert.GeluKernelIdeal.main_arg2) = m ((c.tc : Thread Cert.GeluKernelIdeal.nD Cert.GeluKernelIdeal.τ).loc Cert.GeluKernelIdeal.main_arg2)
          ∧ r.2.mem ((c.tc : Thread Cert.GeluKernelIdeal.nD Cert.GeluKernelIdeal.τ).loc Cert.GeluKernelIdeal.main_arg3) = m ((c.tc : Thread Cert.GeluKernelIdeal.nD Cert.GeluKernelIdeal.τ).loc Cert.GeluKernelIdeal.main_arg3))
      ∧ θ_run (Cert.GeluReferenceIdeal.defs (F := Ideal)) (onTc (τ := Cert.GeluReferenceIdeal.τ) (Cert.GeluReferenceIdeal.main (F := Ideal))) ⟨m', fun _ => 0, g'⟩ (fun r => ∀ c : Dev Cert.GeluReferenceIdeal.nD,
          r.2.mem ((c.tc : Thread Cert.GeluReferenceIdeal.nD Cert.GeluReferenceIdeal.τ).loc Cert.GeluReferenceIdeal.main_v40) = v0 c
          ∧ r.2.mem ((c.tc : Thread Cert.GeluReferenceIdeal.nD Cert.GeluReferenceIdeal.τ).loc Cert.GeluReferenceIdeal.main_v27) = v1 c
          ∧ r.2.mem ((c.tc : Thread Cert.GeluReferenceIdeal.nD Cert.GeluReferenceIdeal.τ).loc Cert.GeluReferenceIdeal.main_v41) = v2 c
          ∧ r.2.mem ((c.tc : Thread Cert.GeluReferenceIdeal.nD Cert.GeluReferenceIdeal.τ).loc Cert.GeluReferenceIdeal.main_arg0) = m' ((c.tc : Thread Cert.GeluReferenceIdeal.nD Cert.GeluReferenceIdeal.τ).loc Cert.GeluReferenceIdeal.main_arg0)
          ∧ r.2.mem ((c.tc : Thread Cert.GeluReferenceIdeal.nD Cert.GeluReferenceIdeal.τ).loc Cert.GeluReferenceIdeal.main_arg1) = m' ((c.tc : Thread Cert.GeluReferenceIdeal.nD Cert.GeluReferenceIdeal.τ).loc Cert.GeluReferenceIdeal.main_arg1)
          ∧ r.2.mem ((c.tc : Thread Cert.GeluReferenceIdeal.nD Cert.GeluReferenceIdeal.τ).loc Cert.GeluReferenceIdeal.main_arg2) = m' ((c.tc : Thread Cert.GeluReferenceIdeal.nD Cert.GeluReferenceIdeal.τ).loc Cert.GeluReferenceIdeal.main_arg2)
          ∧ r.2.mem ((c.tc : Thread Cert.GeluReferenceIdeal.nD Cert.GeluReferenceIdeal.τ).loc Cert.GeluReferenceIdeal.main_arg3) = m' ((c.tc : Thread Cert.GeluReferenceIdeal.nD Cert.GeluReferenceIdeal.τ).loc Cert.GeluReferenceIdeal.main_arg3))

def preserves_AttnKernel_AttnKernelIdeal : Prop :=
  IdealRules.named_const.Statement Cert.AttnKernelIdeal.κ "mask" .f32 0xF149F2CA#32 ⊥
  ∧ IdealRules.named_const.Statement Cert.AttnKernelIdeal.κ "ln_2" .f32 0x3F317218#32 ((Real.log 2 : ℝ) : EReal)

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v51)) (v1 : (c : Dev Cert.AttnKernelIdeal.nD) → Buf (Elt Ideal) ((c.tc : Thread Cert.AttnKernelIdeal.nD Cert.AttnKernelIdeal.τ).loc Cert.AttnKernelIdeal.main_v53)) (v2 : (c : Dev Cert.AttnKernelIdeal.nD) → Buf (Elt Ideal) ((c.tc : Thread Cert.AttnKernelIdeal.nD Cert.AttnKernelIdeal.τ).loc Cert.AttnKernelIdeal.main_v55)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v51) = v0 c
          ∧ r.2.mem ((c.tc : Thread Cert.AttnKernelIdeal.nD Cert.AttnKernelIdeal.τ).loc Cert.AttnKernelIdeal.main_v53) = v1 c
          ∧ r.2.mem ((c.tc : Thread Cert.AttnKernelIdeal.nD Cert.AttnKernelIdeal.τ).loc Cert.AttnKernelIdeal.main_v55) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v63) = v0 c
          ∧ r.2.mem ((c.tc : Thread Cert.AttnReferenceIdeal.nD Cert.AttnReferenceIdeal.τ).loc Cert.AttnReferenceIdeal.main_v61) = v1 c
          ∧ r.2.mem ((c.tc : Thread Cert.AttnReferenceIdeal.nD Cert.AttnReferenceIdeal.τ).loc Cert.AttnReferenceIdeal.main_v44) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_AttnfKernel_AttnfKernelIdeal : Prop :=
  IdealRules.named_const.Statement Cert.AttnfKernelIdeal.κ "mask" .f32 0xF149F2CA#32 ⊥
  ∧ IdealRules.named_const.Statement Cert.AttnfKernelIdeal.κ "log2_e" .f32 0x3FB8AA3B#32 (((Real.log 2)⁻¹ : ℝ) : EReal)

def algebraic_AttnfKernelIdeal_AttnfReferenceIdeal_pre_attnf_finite [hAttnfKernelIdeal : Cert.AttnfKernelIdeal.Facts] [hAttnfReferenceIdeal : Cert.AttnfReferenceIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal_attnf_finite m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)) →
    ∃ (v0 : (c : Dev Cert.AttnfKernelIdeal.nD) → Buf (Elt Ideal) ((c.tc : Thread Cert.AttnfKernelIdeal.nD Cert.AttnfKernelIdeal.τ).loc Cert.AttnfKernelIdeal.main_v20)) (v1 : (c : Dev Cert.AttnfKernelIdeal.nD) → Buf (Elt Ideal) ((c.tc : Thread Cert.AttnfKernelIdeal.nD Cert.AttnfKernelIdeal.τ).loc Cert.AttnfKernelIdeal.main_v18_1)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v20) = v0 c
          ∧ r.2.mem ((c.tc : Thread Cert.AttnfKernelIdeal.nD Cert.AttnfKernelIdeal.τ).loc Cert.AttnfKernelIdeal.main_v18_1) = v1 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v35) = v0 c
          ∧ r.2.mem ((c.tc : Thread Cert.AttnfReferenceIdeal.nD Cert.AttnfReferenceIdeal.τ).loc Cert.AttnfReferenceIdeal.main_v36) = v1 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2))

def preserves_XattnKernel_XattnKernelIdeal : Prop :=
  True

def algebraic_XattnKernelIdeal_XattnReferenceIdeal_pre_xattn_finite [hXattnKernelIdeal : Cert.XattnKernelIdeal.Facts] [hXattnReferenceIdeal : Cert.XattnReferenceIdeal.Facts] [hPre_xattn_finite : Cert.Pre_xattn_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal_xattn_finite m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)
      ∧ m' ((c.tc : Thread Cert.XattnReferenceIdeal.nD Cert.XattnReferenceIdeal.τ).loc Cert.XattnReferenceIdeal.main_arg3) = m ((c.tc : Thread Cert.XattnKernelIdeal.nD Cert.XattnKernelIdeal.τ).loc Cert.XattnKernelIdeal.main_arg3)
      ∧ m' ((c.tc : Thread Cert.XattnReferenceIdeal.nD Cert.XattnReferenceIdeal.τ).loc Cert.XattnReferenceIdeal.main_arg4) = m ((c.tc : Thread Cert.XattnKernelIdeal.nD Cert.XattnKernelIdeal.τ).loc Cert.XattnKernelIdeal.main_arg4)
      ∧ m' ((c.tc : Thread Cert.XattnReferenceIdeal.nD Cert.XattnReferenceIdeal.τ).loc Cert.XattnReferenceIdeal.main_arg5) = m ((c.tc : Thread Cert.XattnKernelIdeal.nD Cert.XattnKernelIdeal.τ).loc Cert.XattnKernelIdeal.main_arg5)
      ∧ m' ((c.tc : Thread Cert.XattnReferenceIdeal.nD Cert.XattnReferenceIdeal.τ).loc Cert.XattnReferenceIdeal.main_arg6) = m ((c.tc : Thread Cert.XattnKernelIdeal.nD Cert.XattnKernelIdeal.τ).loc Cert.XattnKernelIdeal.main_arg6)) →
    ∃ (v0 : (c : Dev Cert.XattnKernelIdeal.nD) → Buf (Elt Ideal) ((c.tc : Thread Cert.XattnKernelIdeal.nD Cert.XattnKernelIdeal.τ).loc Cert.XattnKernelIdeal.main_v5_0)) (v1 : (c : Dev Cert.XattnKernelIdeal.nD) → Buf (Elt Ideal) ((c.tc : Thread Cert.XattnKernelIdeal.nD Cert.XattnKernelIdeal.τ).loc Cert.XattnKernelIdeal.main_v5_1)) (v2 : (c : Dev Cert.XattnKernelIdeal.nD) → Buf (Elt Ideal) ((c.tc : Thread Cert.XattnKernelIdeal.nD Cert.XattnKernelIdeal.τ).loc Cert.XattnKernelIdeal.main_v5_2)) (v3 : (c : Dev Cert.XattnKernelIdeal.nD) → Buf (Elt Ideal) ((c.tc : Thread Cert.XattnKernelIdeal.nD Cert.XattnKernelIdeal.τ).loc Cert.XattnKernelIdeal.main_v5_3)) (v4 : (c : Dev Cert.XattnKernelIdeal.nD) → Buf (Elt Ideal) ((c.tc : Thread Cert.XattnKernelIdeal.nD Cert.XattnKernelIdeal.τ).loc Cert.XattnKernelIdeal.main_v5_4)) (v5 : (c : Dev Cert.XattnKernelIdeal.nD) → Buf (Elt Ideal) ((c.tc : Thread Cert.XattnKernelIdeal.nD Cert.XattnKernelIdeal.τ).loc Cert.XattnKernelIdeal.main_v5_5)) (v6 : (c : Dev Cert.XattnKernelIdeal.nD) → Buf (Elt Ideal) ((c.tc : Thread Cert.XattnKernelIdeal.nD Cert.XattnKernelIdeal.τ).loc Cert.XattnKernelIdeal.main_v5_6)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v5_0) = v0 c
          ∧ r.2.mem ((c.tc : Thread Cert.XattnKernelIdeal.nD Cert.XattnKernelIdeal.τ).loc Cert.XattnKernelIdeal.main_v5_1) = v1 c
          ∧ r.2.mem ((c.tc : Thread Cert.XattnKernelIdeal.nD Cert.XattnKernelIdeal.τ).loc Cert.XattnKernelIdeal.main_v5_2) = v2 c
          ∧ r.2.mem ((c.tc : Thread Cert.XattnKernelIdeal.nD Cert.XattnKernelIdeal.τ).loc Cert.XattnKernelIdeal.main_v5_3) = v3 c
          ∧ r.2.mem ((c.tc : Thread Cert.XattnKernelIdeal.nD Cert.XattnKernelIdeal.τ).loc Cert.XattnKernelIdeal.main_v5_4) = v4 c
          ∧ r.2.mem ((c.tc : Thread Cert.XattnKernelIdeal.nD Cert.XattnKernelIdeal.τ).loc Cert.XattnKernelIdeal.main_v5_5) = v5 c
          ∧ r.2.mem ((c.tc : Thread Cert.XattnKernelIdeal.nD Cert.XattnKernelIdeal.τ).loc Cert.XattnKernelIdeal.main_v5_6) = v6 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
          ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
          ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
          ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5)
          ∧ r.2.mem ((c.tc : Thread Cert.XattnKernelIdeal.nD Cert.XattnKernelIdeal.τ).loc Cert.XattnKernelIdeal.main_arg6) = m ((c.tc : Thread Cert.XattnKernelIdeal.nD Cert.XattnKernelIdeal.τ).loc Cert.XattnKernelIdeal.main_arg6))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v118) = v0 c
          ∧ r.2.mem ((c.tc : Thread Cert.XattnReferenceIdeal.nD Cert.XattnReferenceIdeal.τ).loc Cert.XattnReferenceIdeal.main_v200) = v1 c
          ∧ r.2.mem ((c.tc : Thread Cert.XattnReferenceIdeal.nD Cert.XattnReferenceIdeal.τ).loc Cert.XattnReferenceIdeal.main_v201) = v2 c
          ∧ r.2.mem ((c.tc : Thread Cert.XattnReferenceIdeal.nD Cert.XattnReferenceIdeal.τ).loc Cert.XattnReferenceIdeal.main_v202) = v3 c
          ∧ r.2.mem ((c.tc : Thread Cert.XattnReferenceIdeal.nD Cert.XattnReferenceIdeal.τ).loc Cert.XattnReferenceIdeal.main_v203) = v4 c
          ∧ r.2.mem ((c.tc : Thread Cert.XattnReferenceIdeal.nD Cert.XattnReferenceIdeal.τ).loc Cert.XattnReferenceIdeal.main_v95) = v5 c
          ∧ r.2.mem ((c.tc : Thread Cert.XattnReferenceIdeal.nD Cert.XattnReferenceIdeal.τ).loc Cert.XattnReferenceIdeal.main_v94) = v6 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)) →
    ∃ (v0 : (c : Dev Cert.PostKernelIdeal.nD) → Buf (Elt Ideal) ((c.tc : Thread Cert.PostKernelIdeal.nD Cert.PostKernelIdeal.τ).loc Cert.PostKernelIdeal.main_v12_0)) (v1 : (c : Dev Cert.PostKernelIdeal.nD) → Buf (Elt Ideal) ((c.tc : Thread Cert.PostKernelIdeal.nD Cert.PostKernelIdeal.τ).loc Cert.PostKernelIdeal.main_v21)) (v2 : (c : Dev Cert.PostKernelIdeal.nD) → Buf (Elt Ideal) ((c.tc : Thread Cert.PostKernelIdeal.nD Cert.PostKernelIdeal.τ).loc Cert.PostKernelIdeal.main_v12_2)) (v3 : (c : Dev Cert.PostKernelIdeal.nD) → Buf (Elt Ideal) ((c.tc : Thread Cert.PostKernelIdeal.nD Cert.PostKernelIdeal.τ).loc Cert.PostKernelIdeal.main_v18)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v12_0) = v0 c
          ∧ r.2.mem ((c.tc : Thread Cert.PostKernelIdeal.nD Cert.PostKernelIdeal.τ).loc Cert.PostKernelIdeal.main_v21) = v1 c
          ∧ r.2.mem ((c.tc : Thread Cert.PostKernelIdeal.nD Cert.PostKernelIdeal.τ).loc Cert.PostKernelIdeal.main_v12_2) = v2 c
          ∧ r.2.mem ((c.tc : Thread Cert.PostKernelIdeal.nD Cert.PostKernelIdeal.τ).loc Cert.PostKernelIdeal.main_v18) = v3 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v5) = v0 c
          ∧ r.2.mem ((c.tc : Thread Cert.PostReferenceIdeal.nD Cert.PostReferenceIdeal.τ).loc Cert.PostReferenceIdeal.main_v12) = v1 c
          ∧ r.2.mem ((c.tc : Thread Cert.PostReferenceIdeal.nD Cert.PostReferenceIdeal.τ).loc Cert.PostReferenceIdeal.main_v11) = v2 c
          ∧ r.2.mem ((c.tc : Thread Cert.PostReferenceIdeal.nD Cert.PostReferenceIdeal.τ).loc Cert.PostReferenceIdeal.main_v13) = v3 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3))

def preserves_ConvKernel_ConvKernelIdeal : Prop :=
  True

def algebraic_ConvKernelIdeal_ConvReferenceIdeal_pre_conv_finite [hConvKernelIdeal : Cert.ConvKernelIdeal.Facts] [hConvReferenceIdeal : Cert.ConvReferenceIdeal.Facts] [hPre_conv_finite : Cert.Pre_conv_finite.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_conv_finite m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)
      ∧ m' ((c.tc : Thread Cert.ConvReferenceIdeal.nD Cert.ConvReferenceIdeal.τ).loc Cert.ConvReferenceIdeal.main_arg5) = m ((c.tc : Thread Cert.ConvKernelIdeal.nD Cert.ConvKernelIdeal.τ).loc Cert.ConvKernelIdeal.main_arg5)
      ∧ m' ((c.tc : Thread Cert.ConvReferenceIdeal.nD Cert.ConvReferenceIdeal.τ).loc Cert.ConvReferenceIdeal.main_arg6) = m ((c.tc : Thread Cert.ConvKernelIdeal.nD Cert.ConvKernelIdeal.τ).loc Cert.ConvKernelIdeal.main_arg6)) →
    ∃ (v0 : (c : Dev Cert.ConvKernelIdeal.nD) → Buf (Elt Ideal) ((c.tc : Thread Cert.ConvKernelIdeal.nD Cert.ConvKernelIdeal.τ).loc Cert.ConvKernelIdeal.main_v16_0)) (v1 : (c : Dev Cert.ConvKernelIdeal.nD) → Buf (Elt Ideal) ((c.tc : Thread Cert.ConvKernelIdeal.nD Cert.ConvKernelIdeal.τ).loc Cert.ConvKernelIdeal.main_v16_1)) (v2 : (c : Dev Cert.ConvKernelIdeal.nD) → Buf (Elt Ideal) ((c.tc : Thread Cert.ConvKernelIdeal.nD Cert.ConvKernelIdeal.τ).loc Cert.ConvKernelIdeal.main_v16_2)) (v3 : (c : Dev Cert.ConvKernelIdeal.nD) → Buf (Elt Ideal) ((c.tc : Thread Cert.ConvKernelIdeal.nD Cert.ConvKernelIdeal.τ).loc Cert.ConvKernelIdeal.main_v16_3)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v16_0) = v0 c
          ∧ r.2.mem ((c.tc : Thread Cert.ConvKernelIdeal.nD Cert.ConvKernelIdeal.τ).loc Cert.ConvKernelIdeal.main_v16_1) = v1 c
          ∧ r.2.mem ((c.tc : Thread Cert.ConvKernelIdeal.nD Cert.ConvKernelIdeal.τ).loc Cert.ConvKernelIdeal.main_v16_2) = v2 c
          ∧ r.2.mem ((c.tc : Thread Cert.ConvKernelIdeal.nD Cert.ConvKernelIdeal.τ).loc Cert.ConvKernelIdeal.main_v16_3) = v3 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
          ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
          ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v123) = v0 c
          ∧ r.2.mem ((c.tc : Thread Cert.ConvReferenceIdeal.nD Cert.ConvReferenceIdeal.τ).loc Cert.ConvReferenceIdeal.main_v94) = v1 c
          ∧ r.2.mem ((c.tc : Thread Cert.ConvReferenceIdeal.nD Cert.ConvReferenceIdeal.τ).loc Cert.ConvReferenceIdeal.main_v124) = v2 c
          ∧ r.2.mem ((c.tc : Thread Cert.ConvReferenceIdeal.nD Cert.ConvReferenceIdeal.τ).loc Cert.ConvReferenceIdeal.main_v125) = v3 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v7_0)) (v1 : (c : Dev Cert.LossKernelIdeal.nD) → Buf (Elt Ideal) ((c.tc : Thread Cert.LossKernelIdeal.nD Cert.LossKernelIdeal.τ).loc Cert.LossKernelIdeal.main_v7_1)) (v2 : (c : Dev Cert.LossKernelIdeal.nD) → Buf (Elt Ideal) ((c.tc : Thread Cert.LossKernelIdeal.nD Cert.LossKernelIdeal.τ).loc Cert.LossKernelIdeal.main_v7_2)) (v3 : (c : Dev Cert.LossKernelIdeal.nD) → Buf (Elt Ideal) ((c.tc : Thread Cert.LossKernelIdeal.nD Cert.LossKernelIdeal.τ).loc Cert.LossKernelIdeal.main_v7_3)) (v4 : (c : Dev Cert.LossKernelIdeal.nD) → Buf (Elt Ideal) ((c.tc : Thread Cert.LossKernelIdeal.nD Cert.LossKernelIdeal.τ).loc Cert.LossKernelIdeal.main_v7_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v7_0) = v0 c
          ∧ r.2.mem ((c.tc : Thread Cert.LossKernelIdeal.nD Cert.LossKernelIdeal.τ).loc Cert.LossKernelIdeal.main_v7_1) = v1 c
          ∧ r.2.mem ((c.tc : Thread Cert.LossKernelIdeal.nD Cert.LossKernelIdeal.τ).loc Cert.LossKernelIdeal.main_v7_2) = v2 c
          ∧ r.2.mem ((c.tc : Thread Cert.LossKernelIdeal.nD Cert.LossKernelIdeal.τ).loc Cert.LossKernelIdeal.main_v7_3) = v3 c
          ∧ r.2.mem ((c.tc : Thread Cert.LossKernelIdeal.nD Cert.LossKernelIdeal.τ).loc Cert.LossKernelIdeal.main_v7_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v70) = v0 c
          ∧ r.2.mem ((c.tc : Thread Cert.LossReferenceIdeal.nD Cert.LossReferenceIdeal.τ).loc Cert.LossReferenceIdeal.main_v71) = v1 c
          ∧ r.2.mem ((c.tc : Thread Cert.LossReferenceIdeal.nD Cert.LossReferenceIdeal.τ).loc Cert.LossReferenceIdeal.main_v72) = v2 c
          ∧ r.2.mem ((c.tc : Thread Cert.LossReferenceIdeal.nD Cert.LossReferenceIdeal.τ).loc Cert.LossReferenceIdeal.main_v73) = v3 c
          ∧ r.2.mem ((c.tc : Thread Cert.LossReferenceIdeal.nD Cert.LossReferenceIdeal.τ).loc Cert.LossReferenceIdeal.main_v76) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v8_0)) (v1 : (c : Dev Cert.FfnKernelIdeal.nD) → Buf (Elt Ideal) ((c.tc : Thread Cert.FfnKernelIdeal.nD Cert.FfnKernelIdeal.τ).loc Cert.FfnKernelIdeal.main_v8_1)) (v2 : (c : Dev Cert.FfnKernelIdeal.nD) → Buf (Elt Ideal) ((c.tc : Thread Cert.FfnKernelIdeal.nD Cert.FfnKernelIdeal.τ).loc Cert.FfnKernelIdeal.main_v8_2)) (v3 : (c : Dev Cert.FfnKernelIdeal.nD) → Buf (Elt Ideal) ((c.tc : Thread Cert.FfnKernelIdeal.nD Cert.FfnKernelIdeal.τ).loc Cert.FfnKernelIdeal.main_v8_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v8_0) = v0 c
          ∧ r.2.mem ((c.tc : Thread Cert.FfnKernelIdeal.nD Cert.FfnKernelIdeal.τ).loc Cert.FfnKernelIdeal.main_v8_1) = v1 c
          ∧ r.2.mem ((c.tc : Thread Cert.FfnKernelIdeal.nD Cert.FfnKernelIdeal.τ).loc Cert.FfnKernelIdeal.main_v8_2) = v2 c
          ∧ r.2.mem ((c.tc : Thread Cert.FfnKernelIdeal.nD Cert.FfnKernelIdeal.τ).loc Cert.FfnKernelIdeal.main_v8_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v64) = v0 c
          ∧ r.2.mem ((c.tc : Thread Cert.FfnReferenceIdeal.nD Cert.FfnReferenceIdeal.τ).loc Cert.FfnReferenceIdeal.main_v75) = v1 c
          ∧ r.2.mem ((c.tc : Thread Cert.FfnReferenceIdeal.nD Cert.FfnReferenceIdeal.τ).loc Cert.FfnReferenceIdeal.main_v82) = v2 c
          ∧ r.2.mem ((c.tc : Thread Cert.FfnReferenceIdeal.nD Cert.FfnReferenceIdeal.τ).loc Cert.FfnReferenceIdeal.main_v85) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MemfKernel_MemfKernelIdeal : Prop :=
  True

def algebraic_MemfKernelIdeal_MemfReferenceIdeal [hMemfKernelIdeal : Cert.MemfKernelIdeal.Facts] [hMemfReferenceIdeal : Cert.MemfReferenceIdeal.Facts] : Prop :=
  ∀ (m : (ℓ : Loc Cert.MemfKernelIdeal.nD Cert.MemfKernelIdeal.τ Cert.MemfKernelIdeal.sig) → Buf (Elt Ideal) ℓ) (g : Dev Cert.MemfKernelIdeal.nD → PrngReg)
    (m' : (ℓ : Loc Cert.MemfReferenceIdeal.nD Cert.MemfReferenceIdeal.τ Cert.MemfReferenceIdeal.sig) → Buf (Elt Ideal) ℓ) (g' : Dev Cert.MemfReferenceIdeal.nD → PrngReg), Pre_MemfKernelIdeal m →
    (∀ c : Dev Cert.MemfKernelIdeal.nD,
      m' ((c.tc : Thread Cert.MemfReferenceIdeal.nD Cert.MemfReferenceIdeal.τ).loc Cert.MemfReferenceIdeal.main_arg0) = m ((c.tc : Thread Cert.MemfKernelIdeal.nD Cert.MemfKernelIdeal.τ).loc Cert.MemfKernelIdeal.main_arg0)
      ∧ m' ((c.tc : Thread Cert.MemfReferenceIdeal.nD Cert.MemfReferenceIdeal.τ).loc Cert.MemfReferenceIdeal.main_arg1) = m ((c.tc : Thread Cert.MemfKernelIdeal.nD Cert.MemfKernelIdeal.τ).loc Cert.MemfKernelIdeal.main_arg1)
      ∧ m' ((c.tc : Thread Cert.MemfReferenceIdeal.nD Cert.MemfReferenceIdeal.τ).loc Cert.MemfReferenceIdeal.main_arg2) = m ((c.tc : Thread Cert.MemfKernelIdeal.nD Cert.MemfKernelIdeal.τ).loc Cert.MemfKernelIdeal.main_arg2)) →
    ∃ (v0 : (c : Dev Cert.MemfKernelIdeal.nD) → Buf (Elt Ideal) ((c.tc : Thread Cert.MemfKernelIdeal.nD Cert.MemfKernelIdeal.τ).loc Cert.MemfKernelIdeal.main_v2_0)) (v1 : (c : Dev Cert.MemfKernelIdeal.nD) → Buf (Elt Ideal) ((c.tc : Thread Cert.MemfKernelIdeal.nD Cert.MemfKernelIdeal.τ).loc Cert.MemfKernelIdeal.main_v2_1)) (v2 : (c : Dev Cert.MemfKernelIdeal.nD) → Buf (Elt Ideal) ((c.tc : Thread Cert.MemfKernelIdeal.nD Cert.MemfKernelIdeal.τ).loc Cert.MemfKernelIdeal.main_v2_2)),
      θ_run (Cert.MemfKernelIdeal.defs (F := Ideal)) (onTc (τ := Cert.MemfKernelIdeal.τ) (Cert.MemfKernelIdeal.main (F := Ideal))) ⟨m, fun _ => 0, g⟩ (fun r => ∀ c : Dev Cert.MemfKernelIdeal.nD,
          r.2.mem ((c.tc : Thread Cert.MemfKernelIdeal.nD Cert.MemfKernelIdeal.τ).loc Cert.MemfKernelIdeal.main_v2_0) = v0 c
          ∧ r.2.mem ((c.tc : Thread Cert.MemfKernelIdeal.nD Cert.MemfKernelIdeal.τ).loc Cert.MemfKernelIdeal.main_v2_1) = v1 c
          ∧ r.2.mem ((c.tc : Thread Cert.MemfKernelIdeal.nD Cert.MemfKernelIdeal.τ).loc Cert.MemfKernelIdeal.main_v2_2) = v2 c
          ∧ r.2.mem ((c.tc : Thread Cert.MemfKernelIdeal.nD Cert.MemfKernelIdeal.τ).loc Cert.MemfKernelIdeal.main_arg0) = m ((c.tc : Thread Cert.MemfKernelIdeal.nD Cert.MemfKernelIdeal.τ).loc Cert.MemfKernelIdeal.main_arg0)
          ∧ r.2.mem ((c.tc : Thread Cert.MemfKernelIdeal.nD Cert.MemfKernelIdeal.τ).loc Cert.MemfKernelIdeal.main_arg1) = m ((c.tc : Thread Cert.MemfKernelIdeal.nD Cert.MemfKernelIdeal.τ).loc Cert.MemfKernelIdeal.main_arg1)
          ∧ r.2.mem ((c.tc : Thread Cert.MemfKernelIdeal.nD Cert.MemfKernelIdeal.τ).loc Cert.MemfKernelIdeal.main_arg2) = m ((c.tc : Thread Cert.MemfKernelIdeal.nD Cert.MemfKernelIdeal.τ).loc Cert.MemfKernelIdeal.main_arg2))
      ∧ θ_run (Cert.MemfReferenceIdeal.defs (F := Ideal)) (onTc (τ := Cert.MemfReferenceIdeal.τ) (Cert.MemfReferenceIdeal.main (F := Ideal))) ⟨m', fun _ => 0, g'⟩ (fun r => ∀ c : Dev Cert.MemfReferenceIdeal.nD,
          r.2.mem ((c.tc : Thread Cert.MemfReferenceIdeal.nD Cert.MemfReferenceIdeal.τ).loc Cert.MemfReferenceIdeal.main_v16) = v0 c
          ∧ r.2.mem ((c.tc : Thread Cert.MemfReferenceIdeal.nD Cert.MemfReferenceIdeal.τ).loc Cert.MemfReferenceIdeal.main_v17) = v1 c
          ∧ r.2.mem ((c.tc : Thread Cert.MemfReferenceIdeal.nD Cert.MemfReferenceIdeal.τ).loc Cert.MemfReferenceIdeal.main_v18) = v2 c
          ∧ r.2.mem ((c.tc : Thread Cert.MemfReferenceIdeal.nD Cert.MemfReferenceIdeal.τ).loc Cert.MemfReferenceIdeal.main_arg0) = m' ((c.tc : Thread Cert.MemfReferenceIdeal.nD Cert.MemfReferenceIdeal.τ).loc Cert.MemfReferenceIdeal.main_arg0)
          ∧ r.2.mem ((c.tc : Thread Cert.MemfReferenceIdeal.nD Cert.MemfReferenceIdeal.τ).loc Cert.MemfReferenceIdeal.main_arg1) = m' ((c.tc : Thread Cert.MemfReferenceIdeal.nD Cert.MemfReferenceIdeal.τ).loc Cert.MemfReferenceIdeal.main_arg1)
          ∧ r.2.mem ((c.tc : Thread Cert.MemfReferenceIdeal.nD Cert.MemfReferenceIdeal.τ).loc Cert.MemfReferenceIdeal.main_arg2) = m' ((c.tc : Thread Cert.MemfReferenceIdeal.nD Cert.MemfReferenceIdeal.τ).loc Cert.MemfReferenceIdeal.main_arg2))

def preserves_EpostKernel_EpostKernelIdeal : Prop :=
  True

def algebraic_EpostKernelIdeal_EpostReferenceIdeal [hEpostKernelIdeal : Cert.EpostKernelIdeal.Facts] [hEpostReferenceIdeal : Cert.EpostReferenceIdeal.Facts] : Prop :=
  ∀ (m : (ℓ : Loc Cert.EpostKernelIdeal.nD Cert.EpostKernelIdeal.τ Cert.EpostKernelIdeal.sig) → Buf (Elt Ideal) ℓ) (g : Dev Cert.EpostKernelIdeal.nD → PrngReg)
    (m' : (ℓ : Loc Cert.EpostReferenceIdeal.nD Cert.EpostReferenceIdeal.τ Cert.EpostReferenceIdeal.sig) → Buf (Elt Ideal) ℓ) (g' : Dev Cert.EpostReferenceIdeal.nD → PrngReg), Pre_EpostKernelIdeal m →
    (∀ c : Dev Cert.EpostKernelIdeal.nD,
      m' ((c.tc : Thread Cert.EpostReferenceIdeal.nD Cert.EpostReferenceIdeal.τ).loc Cert.EpostReferenceIdeal.main_arg0) = m ((c.tc : Thread Cert.EpostKernelIdeal.nD Cert.EpostKernelIdeal.τ).loc Cert.EpostKernelIdeal.main_arg0)
      ∧ m' ((c.tc : Thread Cert.EpostReferenceIdeal.nD Cert.EpostReferenceIdeal.τ).loc Cert.EpostReferenceIdeal.main_arg1) = m ((c.tc : Thread Cert.EpostKernelIdeal.nD Cert.EpostKernelIdeal.τ).loc Cert.EpostKernelIdeal.main_arg1)
      ∧ m' ((c.tc : Thread Cert.EpostReferenceIdeal.nD Cert.EpostReferenceIdeal.τ).loc Cert.EpostReferenceIdeal.main_arg2) = m ((c.tc : Thread Cert.EpostKernelIdeal.nD Cert.EpostKernelIdeal.τ).loc Cert.EpostKernelIdeal.main_arg2)
      ∧ m' ((c.tc : Thread Cert.EpostReferenceIdeal.nD Cert.EpostReferenceIdeal.τ).loc Cert.EpostReferenceIdeal.main_arg3) = m ((c.tc : Thread Cert.EpostKernelIdeal.nD Cert.EpostKernelIdeal.τ).loc Cert.EpostKernelIdeal.main_arg3)) →
    ∃ (v0 : (c : Dev Cert.EpostKernelIdeal.nD) → Buf (Elt Ideal) ((c.tc : Thread Cert.EpostKernelIdeal.nD Cert.EpostKernelIdeal.τ).loc Cert.EpostKernelIdeal.main_v12)),
      θ_run (Cert.EpostKernelIdeal.defs (F := Ideal)) (onTc (τ := Cert.EpostKernelIdeal.τ) (Cert.EpostKernelIdeal.main (F := Ideal))) ⟨m, fun _ => 0, g⟩ (fun r => ∀ c : Dev Cert.EpostKernelIdeal.nD,
          r.2.mem ((c.tc : Thread Cert.EpostKernelIdeal.nD Cert.EpostKernelIdeal.τ).loc Cert.EpostKernelIdeal.main_v12) = v0 c
          ∧ r.2.mem ((c.tc : Thread Cert.EpostKernelIdeal.nD Cert.EpostKernelIdeal.τ).loc Cert.EpostKernelIdeal.main_arg0) = m ((c.tc : Thread Cert.EpostKernelIdeal.nD Cert.EpostKernelIdeal.τ).loc Cert.EpostKernelIdeal.main_arg0)
          ∧ r.2.mem ((c.tc : Thread Cert.EpostKernelIdeal.nD Cert.EpostKernelIdeal.τ).loc Cert.EpostKernelIdeal.main_arg1) = m ((c.tc : Thread Cert.EpostKernelIdeal.nD Cert.EpostKernelIdeal.τ).loc Cert.EpostKernelIdeal.main_arg1)
          ∧ r.2.mem ((c.tc : Thread Cert.EpostKernelIdeal.nD Cert.EpostKernelIdeal.τ).loc Cert.EpostKernelIdeal.main_arg2) = m ((c.tc : Thread Cert.EpostKernelIdeal.nD Cert.EpostKernelIdeal.τ).loc Cert.EpostKernelIdeal.main_arg2)
          ∧ r.2.mem ((c.tc : Thread Cert.EpostKernelIdeal.nD Cert.EpostKernelIdeal.τ).loc Cert.EpostKernelIdeal.main_arg3) = m ((c.tc : Thread Cert.EpostKernelIdeal.nD Cert.EpostKernelIdeal.τ).loc Cert.EpostKernelIdeal.main_arg3))
      ∧ θ_run (Cert.EpostReferenceIdeal.defs (F := Ideal)) (onTc (τ := Cert.EpostReferenceIdeal.τ) (Cert.EpostReferenceIdeal.main (F := Ideal))) ⟨m', fun _ => 0, g'⟩ (fun r => ∀ c : Dev Cert.EpostReferenceIdeal.nD,
          r.2.mem ((c.tc : Thread Cert.EpostReferenceIdeal.nD Cert.EpostReferenceIdeal.τ).loc Cert.EpostReferenceIdeal.main_v2) = v0 c
          ∧ r.2.mem ((c.tc : Thread Cert.EpostReferenceIdeal.nD Cert.EpostReferenceIdeal.τ).loc Cert.EpostReferenceIdeal.main_arg0) = m' ((c.tc : Thread Cert.EpostReferenceIdeal.nD Cert.EpostReferenceIdeal.τ).loc Cert.EpostReferenceIdeal.main_arg0)
          ∧ r.2.mem ((c.tc : Thread Cert.EpostReferenceIdeal.nD Cert.EpostReferenceIdeal.τ).loc Cert.EpostReferenceIdeal.main_arg1) = m' ((c.tc : Thread Cert.EpostReferenceIdeal.nD Cert.EpostReferenceIdeal.τ).loc Cert.EpostReferenceIdeal.main_arg1)
          ∧ r.2.mem ((c.tc : Thread Cert.EpostReferenceIdeal.nD Cert.EpostReferenceIdeal.τ).loc Cert.EpostReferenceIdeal.main_arg2) = m' ((c.tc : Thread Cert.EpostReferenceIdeal.nD Cert.EpostReferenceIdeal.τ).loc Cert.EpostReferenceIdeal.main_arg2)
          ∧ r.2.mem ((c.tc : Thread Cert.EpostReferenceIdeal.nD Cert.EpostReferenceIdeal.τ).loc Cert.EpostReferenceIdeal.main_arg3) = m' ((c.tc : Thread Cert.EpostReferenceIdeal.nD Cert.EpostReferenceIdeal.τ).loc Cert.EpostReferenceIdeal.main_arg3))

def preserves_GoutKernel_GoutKernelIdeal : Prop :=
  IdealRules.named_const.Statement Cert.GoutKernelIdeal.κ "cube" .f32 0x3D372713#32 ((8943 / 200000 : ℝ) : EReal)

def algebraic_GoutKernelIdeal_GoutReferenceIdeal [hGoutKernelIdeal : Cert.GoutKernelIdeal.Facts] [hGoutReferenceIdeal : Cert.GoutReferenceIdeal.Facts] : Prop :=
  ∀ (m : (ℓ : Loc Cert.GoutKernelIdeal.nD Cert.GoutKernelIdeal.τ Cert.GoutKernelIdeal.sig) → Buf (Elt Ideal) ℓ) (g : Dev Cert.GoutKernelIdeal.nD → PrngReg)
    (m' : (ℓ : Loc Cert.GoutReferenceIdeal.nD Cert.GoutReferenceIdeal.τ Cert.GoutReferenceIdeal.sig) → Buf (Elt Ideal) ℓ) (g' : Dev Cert.GoutReferenceIdeal.nD → PrngReg), Pre_GoutKernelIdeal m →
    (∀ c : Dev Cert.GoutKernelIdeal.nD,
      m' ((c.tc : Thread Cert.GoutReferenceIdeal.nD Cert.GoutReferenceIdeal.τ).loc Cert.GoutReferenceIdeal.main_arg0) = m ((c.tc : Thread Cert.GoutKernelIdeal.nD Cert.GoutKernelIdeal.τ).loc Cert.GoutKernelIdeal.main_arg0)
      ∧ m' ((c.tc : Thread Cert.GoutReferenceIdeal.nD Cert.GoutReferenceIdeal.τ).loc Cert.GoutReferenceIdeal.main_arg1) = m ((c.tc : Thread Cert.GoutKernelIdeal.nD Cert.GoutKernelIdeal.τ).loc Cert.GoutKernelIdeal.main_arg1)
      ∧ m' ((c.tc : Thread Cert.GoutReferenceIdeal.nD Cert.GoutReferenceIdeal.τ).loc Cert.GoutReferenceIdeal.main_arg2) = m ((c.tc : Thread Cert.GoutKernelIdeal.nD Cert.GoutKernelIdeal.τ).loc Cert.GoutKernelIdeal.main_arg2)
      ∧ m' ((c.tc : Thread Cert.GoutReferenceIdeal.nD Cert.GoutReferenceIdeal.τ).loc Cert.GoutReferenceIdeal.main_arg3) = m ((c.tc : Thread Cert.GoutKernelIdeal.nD Cert.GoutKernelIdeal.τ).loc Cert.GoutKernelIdeal.main_arg3)) →
    ∃ (v0 : (c : Dev Cert.GoutKernelIdeal.nD) → Buf (Elt Ideal) ((c.tc : Thread Cert.GoutKernelIdeal.nD Cert.GoutKernelIdeal.τ).loc Cert.GoutKernelIdeal.main_v3)),
      θ_run (Cert.GoutKernelIdeal.defs (F := Ideal)) (onTc (τ := Cert.GoutKernelIdeal.τ) (Cert.GoutKernelIdeal.main (F := Ideal))) ⟨m, fun _ => 0, g⟩ (fun r => ∀ c : Dev Cert.GoutKernelIdeal.nD,
          r.2.mem ((c.tc : Thread Cert.GoutKernelIdeal.nD Cert.GoutKernelIdeal.τ).loc Cert.GoutKernelIdeal.main_v3) = v0 c
          ∧ r.2.mem ((c.tc : Thread Cert.GoutKernelIdeal.nD Cert.GoutKernelIdeal.τ).loc Cert.GoutKernelIdeal.main_arg0) = m ((c.tc : Thread Cert.GoutKernelIdeal.nD Cert.GoutKernelIdeal.τ).loc Cert.GoutKernelIdeal.main_arg0)
          ∧ r.2.mem ((c.tc : Thread Cert.GoutKernelIdeal.nD Cert.GoutKernelIdeal.τ).loc Cert.GoutKernelIdeal.main_arg1) = m ((c.tc : Thread Cert.GoutKernelIdeal.nD Cert.GoutKernelIdeal.τ).loc Cert.GoutKernelIdeal.main_arg1)
          ∧ r.2.mem ((c.tc : Thread Cert.GoutKernelIdeal.nD Cert.GoutKernelIdeal.τ).loc Cert.GoutKernelIdeal.main_arg2) = m ((c.tc : Thread Cert.GoutKernelIdeal.nD Cert.GoutKernelIdeal.τ).loc Cert.GoutKernelIdeal.main_arg2)
          ∧ r.2.mem ((c.tc : Thread Cert.GoutKernelIdeal.nD Cert.GoutKernelIdeal.τ).loc Cert.GoutKernelIdeal.main_arg3) = m ((c.tc : Thread Cert.GoutKernelIdeal.nD Cert.GoutKernelIdeal.τ).loc Cert.GoutKernelIdeal.main_arg3))
      ∧ θ_run (Cert.GoutReferenceIdeal.defs (F := Ideal)) (onTc (τ := Cert.GoutReferenceIdeal.τ) (Cert.GoutReferenceIdeal.main (F := Ideal))) ⟨m', fun _ => 0, g'⟩ (fun r => ∀ c : Dev Cert.GoutReferenceIdeal.nD,
          r.2.mem ((c.tc : Thread Cert.GoutReferenceIdeal.nD Cert.GoutReferenceIdeal.τ).loc Cert.GoutReferenceIdeal.main_v16) = v0 c
          ∧ r.2.mem ((c.tc : Thread Cert.GoutReferenceIdeal.nD Cert.GoutReferenceIdeal.τ).loc Cert.GoutReferenceIdeal.main_arg0) = m' ((c.tc : Thread Cert.GoutReferenceIdeal.nD Cert.GoutReferenceIdeal.τ).loc Cert.GoutReferenceIdeal.main_arg0)
          ∧ r.2.mem ((c.tc : Thread Cert.GoutReferenceIdeal.nD Cert.GoutReferenceIdeal.τ).loc Cert.GoutReferenceIdeal.main_arg1) = m' ((c.tc : Thread Cert.GoutReferenceIdeal.nD Cert.GoutReferenceIdeal.τ).loc Cert.GoutReferenceIdeal.main_arg1)
          ∧ r.2.mem ((c.tc : Thread Cert.GoutReferenceIdeal.nD Cert.GoutReferenceIdeal.τ).loc Cert.GoutReferenceIdeal.main_arg2) = m' ((c.tc : Thread Cert.GoutReferenceIdeal.nD Cert.GoutReferenceIdeal.τ).loc Cert.GoutReferenceIdeal.main_arg2)
          ∧ r.2.mem ((c.tc : Thread Cert.GoutReferenceIdeal.nD Cert.GoutReferenceIdeal.τ).loc Cert.GoutReferenceIdeal.main_arg3) = m' ((c.tc : Thread Cert.GoutReferenceIdeal.nD Cert.GoutReferenceIdeal.τ).loc Cert.GoutReferenceIdeal.main_arg3))

def preserves_FfnfKernel_FfnfKernelIdeal : Prop :=
  True

def algebraic_FfnfKernelIdeal_FfnfReferenceIdeal [hFfnfKernelIdeal : Cert.FfnfKernelIdeal.Facts] [hFfnfReferenceIdeal : Cert.FfnfReferenceIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg)
    (m' : (ℓ : Loc Cert.FfnfReferenceIdeal.nD Cert.FfnfReferenceIdeal.τ Cert.FfnfReferenceIdeal.sig) → Buf (Elt Ideal) ℓ) (g' : Dev Cert.FfnfReferenceIdeal.nD → PrngReg), Pre_FfnfKernelIdeal m →
    (∀ c : Dev Cert.FfnfKernelIdeal.nD,
      m' ((c.tc : Thread Cert.FfnfReferenceIdeal.nD Cert.FfnfReferenceIdeal.τ).loc Cert.FfnfReferenceIdeal.main_arg0) = m ((c.tc : Thread Cert.FfnfKernelIdeal.nD Cert.FfnfKernelIdeal.τ).loc Cert.FfnfKernelIdeal.main_arg0)
      ∧ m' ((c.tc : Thread Cert.FfnfReferenceIdeal.nD Cert.FfnfReferenceIdeal.τ).loc Cert.FfnfReferenceIdeal.main_arg1) = m ((c.tc : Thread Cert.FfnfKernelIdeal.nD Cert.FfnfKernelIdeal.τ).loc Cert.FfnfKernelIdeal.main_arg1)
      ∧ m' ((c.tc : Thread Cert.FfnfReferenceIdeal.nD Cert.FfnfReferenceIdeal.τ).loc Cert.FfnfReferenceIdeal.main_arg2) = m ((c.tc : Thread Cert.FfnfKernelIdeal.nD Cert.FfnfKernelIdeal.τ).loc Cert.FfnfKernelIdeal.main_arg2)
      ∧ m' ((c.tc : Thread Cert.FfnfReferenceIdeal.nD Cert.FfnfReferenceIdeal.τ).loc Cert.FfnfReferenceIdeal.main_arg3) = m ((c.tc : Thread Cert.FfnfKernelIdeal.nD Cert.FfnfKernelIdeal.τ).loc Cert.FfnfKernelIdeal.main_arg3)) →
    ∃ (v0 : (c : Dev Cert.FfnfKernelIdeal.nD) → Buf (Elt Ideal) ((c.tc : Thread Cert.FfnfKernelIdeal.nD Cert.FfnfKernelIdeal.τ).loc Cert.FfnfKernelIdeal.main_v6_0)) (v1 : (c : Dev Cert.FfnfKernelIdeal.nD) → Buf (Elt Ideal) ((c.tc : Thread Cert.FfnfKernelIdeal.nD Cert.FfnfKernelIdeal.τ).loc Cert.FfnfKernelIdeal.main_v6_1)) (v2 : (c : Dev Cert.FfnfKernelIdeal.nD) → Buf (Elt Ideal) ((c.tc : Thread Cert.FfnfKernelIdeal.nD Cert.FfnfKernelIdeal.τ).loc Cert.FfnfKernelIdeal.main_v6_2)),
      θ_run (Cert.FfnfKernelIdeal.defs (F := Ideal)) (onTc (τ := Cert.FfnfKernelIdeal.τ) (Cert.FfnfKernelIdeal.main (F := Ideal))) ⟨m, fun _ => 0, g⟩ (fun r => ∀ c : Dev Cert.FfnfKernelIdeal.nD,
          r.2.mem ((c.tc : Thread Cert.FfnfKernelIdeal.nD Cert.FfnfKernelIdeal.τ).loc Cert.FfnfKernelIdeal.main_v6_0) = v0 c
          ∧ r.2.mem ((c.tc : Thread Cert.FfnfKernelIdeal.nD Cert.FfnfKernelIdeal.τ).loc Cert.FfnfKernelIdeal.main_v6_1) = v1 c
          ∧ r.2.mem ((c.tc : Thread Cert.FfnfKernelIdeal.nD Cert.FfnfKernelIdeal.τ).loc Cert.FfnfKernelIdeal.main_v6_2) = v2 c
          ∧ r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
          ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
          ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2)
          ∧ r.2.mem ((c.tc : Thread Cert.FfnfKernelIdeal.nD Cert.FfnfKernelIdeal.τ).loc Cert.FfnfKernelIdeal.main_arg3) = m ((c.tc : Thread Cert.FfnfKernelIdeal.nD Cert.FfnfKernelIdeal.τ).loc Cert.FfnfKernelIdeal.main_arg3))
      ∧ θ_run (Cert.FfnfReferenceIdeal.defs (F := Ideal)) (onTc (τ := Cert.FfnfReferenceIdeal.τ) (Cert.FfnfReferenceIdeal.main (F := Ideal))) ⟨m', fun _ => 0, g'⟩ (fun r => ∀ c : Dev Cert.FfnfReferenceIdeal.nD,
          r.2.mem ((c.tc : Thread Cert.FfnfReferenceIdeal.nD Cert.FfnfReferenceIdeal.τ).loc Cert.FfnfReferenceIdeal.main_v19) = v0 c
          ∧ r.2.mem ((c.tc : Thread Cert.FfnfReferenceIdeal.nD Cert.FfnfReferenceIdeal.τ).loc Cert.FfnfReferenceIdeal.main_v20) = v1 c
          ∧ r.2.mem ((c.tc : Thread Cert.FfnfReferenceIdeal.nD Cert.FfnfReferenceIdeal.τ).loc Cert.FfnfReferenceIdeal.main_v23) = v2 c
          ∧ r.2.mem ((c.tc : Thread Cert.FfnfReferenceIdeal.nD Cert.FfnfReferenceIdeal.τ).loc Cert.FfnfReferenceIdeal.main_arg0) = m' ((c.tc : Thread Cert.FfnfReferenceIdeal.nD Cert.FfnfReferenceIdeal.τ).loc Cert.FfnfReferenceIdeal.main_arg0)
          ∧ r.2.mem ((c.tc : Thread Cert.FfnfReferenceIdeal.nD Cert.FfnfReferenceIdeal.τ).loc Cert.FfnfReferenceIdeal.main_arg1) = m' ((c.tc : Thread Cert.FfnfReferenceIdeal.nD Cert.FfnfReferenceIdeal.τ).loc Cert.FfnfReferenceIdeal.main_arg1)
          ∧ r.2.mem ((c.tc : Thread Cert.FfnfReferenceIdeal.nD Cert.FfnfReferenceIdeal.τ).loc Cert.FfnfReferenceIdeal.main_arg2) = m' ((c.tc : Thread Cert.FfnfReferenceIdeal.nD Cert.FfnfReferenceIdeal.τ).loc Cert.FfnfReferenceIdeal.main_arg2)
          ∧ r.2.mem ((c.tc : Thread Cert.FfnfReferenceIdeal.nD Cert.FfnfReferenceIdeal.τ).loc Cert.FfnfReferenceIdeal.main_arg3) = m' ((c.tc : Thread Cert.FfnfReferenceIdeal.nD Cert.FfnfReferenceIdeal.τ).loc Cert.FfnfReferenceIdeal.main_arg3))

def preserves_XattfKernel_XattfKernelIdeal : Prop :=
  True

def algebraic_XattfKernelIdeal_XattfReferenceIdeal [hXattfKernelIdeal : Cert.XattfKernelIdeal.Facts] [hXattfReferenceIdeal : Cert.XattfReferenceIdeal.Facts] : Prop :=
  ∀ (m : (ℓ : Loc Cert.XattfKernelIdeal.nD Cert.XattfKernelIdeal.τ Cert.XattfKernelIdeal.sig) → Buf (Elt Ideal) ℓ) (g : Dev Cert.XattfKernelIdeal.nD → PrngReg)
    (m' : (ℓ : Loc Cert.XattfReferenceIdeal.nD Cert.XattfReferenceIdeal.τ Cert.XattfReferenceIdeal.sig) → Buf (Elt Ideal) ℓ) (g' : Dev Cert.XattfReferenceIdeal.nD → PrngReg), Pre_XattfKernelIdeal m →
    (∀ c : Dev Cert.XattfKernelIdeal.nD,
      m' ((c.tc : Thread Cert.XattfReferenceIdeal.nD Cert.XattfReferenceIdeal.τ).loc Cert.XattfReferenceIdeal.main_arg0) = m ((c.tc : Thread Cert.XattfKernelIdeal.nD Cert.XattfKernelIdeal.τ).loc Cert.XattfKernelIdeal.main_arg0)
      ∧ m' ((c.tc : Thread Cert.XattfReferenceIdeal.nD Cert.XattfReferenceIdeal.τ).loc Cert.XattfReferenceIdeal.main_arg1) = m ((c.tc : Thread Cert.XattfKernelIdeal.nD Cert.XattfKernelIdeal.τ).loc Cert.XattfKernelIdeal.main_arg1)
      ∧ m' ((c.tc : Thread Cert.XattfReferenceIdeal.nD Cert.XattfReferenceIdeal.τ).loc Cert.XattfReferenceIdeal.main_arg2) = m ((c.tc : Thread Cert.XattfKernelIdeal.nD Cert.XattfKernelIdeal.τ).loc Cert.XattfKernelIdeal.main_arg2)
      ∧ m' ((c.tc : Thread Cert.XattfReferenceIdeal.nD Cert.XattfReferenceIdeal.τ).loc Cert.XattfReferenceIdeal.main_arg3) = m ((c.tc : Thread Cert.XattfKernelIdeal.nD Cert.XattfKernelIdeal.τ).loc Cert.XattfKernelIdeal.main_arg3)
      ∧ m' ((c.tc : Thread Cert.XattfReferenceIdeal.nD Cert.XattfReferenceIdeal.τ).loc Cert.XattfReferenceIdeal.main_arg4) = m ((c.tc : Thread Cert.XattfKernelIdeal.nD Cert.XattfKernelIdeal.τ).loc Cert.XattfKernelIdeal.main_arg4)
      ∧ m' ((c.tc : Thread Cert.XattfReferenceIdeal.nD Cert.XattfReferenceIdeal.τ).loc Cert.XattfReferenceIdeal.main_arg5) = m ((c.tc : Thread Cert.XattfKernelIdeal.nD Cert.XattfKernelIdeal.τ).loc Cert.XattfKernelIdeal.main_arg5)) →
    ∃ (v0 : (c : Dev Cert.XattfKernelIdeal.nD) → Buf (Elt Ideal) ((c.tc : Thread Cert.XattfKernelIdeal.nD Cert.XattfKernelIdeal.τ).loc Cert.XattfKernelIdeal.main_v5)),
      θ_run (Cert.XattfKernelIdeal.defs (F := Ideal)) (onTc (τ := Cert.XattfKernelIdeal.τ) (Cert.XattfKernelIdeal.main (F := Ideal))) ⟨m, fun _ => 0, g⟩ (fun r => ∀ c : Dev Cert.XattfKernelIdeal.nD,
          r.2.mem ((c.tc : Thread Cert.XattfKernelIdeal.nD Cert.XattfKernelIdeal.τ).loc Cert.XattfKernelIdeal.main_v5) = v0 c
          ∧ r.2.mem ((c.tc : Thread Cert.XattfKernelIdeal.nD Cert.XattfKernelIdeal.τ).loc Cert.XattfKernelIdeal.main_arg0) = m ((c.tc : Thread Cert.XattfKernelIdeal.nD Cert.XattfKernelIdeal.τ).loc Cert.XattfKernelIdeal.main_arg0)
          ∧ r.2.mem ((c.tc : Thread Cert.XattfKernelIdeal.nD Cert.XattfKernelIdeal.τ).loc Cert.XattfKernelIdeal.main_arg1) = m ((c.tc : Thread Cert.XattfKernelIdeal.nD Cert.XattfKernelIdeal.τ).loc Cert.XattfKernelIdeal.main_arg1)
          ∧ r.2.mem ((c.tc : Thread Cert.XattfKernelIdeal.nD Cert.XattfKernelIdeal.τ).loc Cert.XattfKernelIdeal.main_arg2) = m ((c.tc : Thread Cert.XattfKernelIdeal.nD Cert.XattfKernelIdeal.τ).loc Cert.XattfKernelIdeal.main_arg2)
          ∧ r.2.mem ((c.tc : Thread Cert.XattfKernelIdeal.nD Cert.XattfKernelIdeal.τ).loc Cert.XattfKernelIdeal.main_arg3) = m ((c.tc : Thread Cert.XattfKernelIdeal.nD Cert.XattfKernelIdeal.τ).loc Cert.XattfKernelIdeal.main_arg3)
          ∧ r.2.mem ((c.tc : Thread Cert.XattfKernelIdeal.nD Cert.XattfKernelIdeal.τ).loc Cert.XattfKernelIdeal.main_arg4) = m ((c.tc : Thread Cert.XattfKernelIdeal.nD Cert.XattfKernelIdeal.τ).loc Cert.XattfKernelIdeal.main_arg4)
          ∧ r.2.mem ((c.tc : Thread Cert.XattfKernelIdeal.nD Cert.XattfKernelIdeal.τ).loc Cert.XattfKernelIdeal.main_arg5) = m ((c.tc : Thread Cert.XattfKernelIdeal.nD Cert.XattfKernelIdeal.τ).loc Cert.XattfKernelIdeal.main_arg5))
      ∧ θ_run (Cert.XattfReferenceIdeal.defs (F := Ideal)) (onTc (τ := Cert.XattfReferenceIdeal.τ) (Cert.XattfReferenceIdeal.main (F := Ideal))) ⟨m', fun _ => 0, g'⟩ (fun r => ∀ c : Dev Cert.XattfReferenceIdeal.nD,
          r.2.mem ((c.tc : Thread Cert.XattfReferenceIdeal.nD Cert.XattfReferenceIdeal.τ).loc Cert.XattfReferenceIdeal.main_v35) = v0 c
          ∧ r.2.mem ((c.tc : Thread Cert.XattfReferenceIdeal.nD Cert.XattfReferenceIdeal.τ).loc Cert.XattfReferenceIdeal.main_arg0) = m' ((c.tc : Thread Cert.XattfReferenceIdeal.nD Cert.XattfReferenceIdeal.τ).loc Cert.XattfReferenceIdeal.main_arg0)
          ∧ r.2.mem ((c.tc : Thread Cert.XattfReferenceIdeal.nD Cert.XattfReferenceIdeal.τ).loc Cert.XattfReferenceIdeal.main_arg1) = m' ((c.tc : Thread Cert.XattfReferenceIdeal.nD Cert.XattfReferenceIdeal.τ).loc Cert.XattfReferenceIdeal.main_arg1)
          ∧ r.2.mem ((c.tc : Thread Cert.XattfReferenceIdeal.nD Cert.XattfReferenceIdeal.τ).loc Cert.XattfReferenceIdeal.main_arg2) = m' ((c.tc : Thread Cert.XattfReferenceIdeal.nD Cert.XattfReferenceIdeal.τ).loc Cert.XattfReferenceIdeal.main_arg2)
          ∧ r.2.mem ((c.tc : Thread Cert.XattfReferenceIdeal.nD Cert.XattfReferenceIdeal.τ).loc Cert.XattfReferenceIdeal.main_arg3) = m' ((c.tc : Thread Cert.XattfReferenceIdeal.nD Cert.XattfReferenceIdeal.τ).loc Cert.XattfReferenceIdeal.main_arg3)
          ∧ r.2.mem ((c.tc : Thread Cert.XattfReferenceIdeal.nD Cert.XattfReferenceIdeal.τ).loc Cert.XattfReferenceIdeal.main_arg4) = m' ((c.tc : Thread Cert.XattfReferenceIdeal.nD Cert.XattfReferenceIdeal.τ).loc Cert.XattfReferenceIdeal.main_arg4)
          ∧ r.2.mem ((c.tc : Thread Cert.XattfReferenceIdeal.nD Cert.XattfReferenceIdeal.τ).loc Cert.XattfReferenceIdeal.main_arg5) = m' ((c.tc : Thread Cert.XattfReferenceIdeal.nD Cert.XattfReferenceIdeal.τ).loc Cert.XattfReferenceIdeal.main_arg5))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v1_0)) (v1 : (c : Dev Cert.AdamKernelIdeal.nD) → Buf (Elt Ideal) ((c.tc : Thread Cert.AdamKernelIdeal.nD Cert.AdamKernelIdeal.τ).loc Cert.AdamKernelIdeal.main_v1_1)) (v2 : (c : Dev Cert.AdamKernelIdeal.nD) → Buf (Elt Ideal) ((c.tc : Thread Cert.AdamKernelIdeal.nD Cert.AdamKernelIdeal.τ).loc Cert.AdamKernelIdeal.main_v1_2)) (v3 : (c : Dev Cert.AdamKernelIdeal.nD) → Buf (Elt Ideal) ((c.tc : Thread Cert.AdamKernelIdeal.nD Cert.AdamKernelIdeal.τ).loc Cert.AdamKernelIdeal.main_v1_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v1_0) = v0 c
          ∧ r.2.mem ((c.tc : Thread Cert.AdamKernelIdeal.nD Cert.AdamKernelIdeal.τ).loc Cert.AdamKernelIdeal.main_v1_1) = v1 c
          ∧ r.2.mem ((c.tc : Thread Cert.AdamKernelIdeal.nD Cert.AdamKernelIdeal.τ).loc Cert.AdamKernelIdeal.main_v1_2) = v2 c
          ∧ r.2.mem ((c.tc : Thread Cert.AdamKernelIdeal.nD Cert.AdamKernelIdeal.τ).loc Cert.AdamKernelIdeal.main_v1_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v0) = v0 c
          ∧ r.2.mem ((c.tc : Thread Cert.AdamReferenceIdeal.nD Cert.AdamReferenceIdeal.τ).loc Cert.AdamReferenceIdeal.main_v24) = v1 c
          ∧ r.2.mem ((c.tc : Thread Cert.AdamReferenceIdeal.nD Cert.AdamReferenceIdeal.τ).loc Cert.AdamReferenceIdeal.main_v5) = v2 c
          ∧ r.2.mem ((c.tc : Thread Cert.AdamReferenceIdeal.nD Cert.AdamReferenceIdeal.τ).loc Cert.AdamReferenceIdeal.main_v11) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_ProdKernel_ProdKernelIdeal : Prop :=
  True

def algebraic_ProdKernelIdeal_ProdReferenceIdeal [hProdKernelIdeal : Cert.ProdKernelIdeal.Facts] [hProdReferenceIdeal : Cert.ProdReferenceIdeal.Facts] : Prop :=
  ∀ (m : (ℓ : Loc Cert.ProdKernelIdeal.nD Cert.ProdKernelIdeal.τ Cert.ProdKernelIdeal.sig) → Buf (Elt Ideal) ℓ) (g : Dev Cert.ProdKernelIdeal.nD → PrngReg)
    (m' : (ℓ : Loc Cert.ProdReferenceIdeal.nD Cert.ProdReferenceIdeal.τ Cert.ProdReferenceIdeal.sig) → Buf (Elt Ideal) ℓ) (g' : Dev Cert.ProdReferenceIdeal.nD → PrngReg), Pre_ProdKernelIdeal m →
    (∀ c : Dev Cert.ProdKernelIdeal.nD,
      m' ((c.tc : Thread Cert.ProdReferenceIdeal.nD Cert.ProdReferenceIdeal.τ).loc Cert.ProdReferenceIdeal.main_arg0) = m ((c.tc : Thread Cert.ProdKernelIdeal.nD Cert.ProdKernelIdeal.τ).loc Cert.ProdKernelIdeal.main_arg0)
      ∧ m' ((c.tc : Thread Cert.ProdReferenceIdeal.nD Cert.ProdReferenceIdeal.τ).loc Cert.ProdReferenceIdeal.main_arg1) = m ((c.tc : Thread Cert.ProdKernelIdeal.nD Cert.ProdKernelIdeal.τ).loc Cert.ProdKernelIdeal.main_arg1)) →
    ∃ (v0 : (c : Dev Cert.ProdKernelIdeal.nD) → Buf (Elt Ideal) ((c.tc : Thread Cert.ProdKernelIdeal.nD Cert.ProdKernelIdeal.τ).loc Cert.ProdKernelIdeal.main_v4)),
      θ_run (Cert.ProdKernelIdeal.defs (F := Ideal)) (onTc (τ := Cert.ProdKernelIdeal.τ) (Cert.ProdKernelIdeal.main (F := Ideal))) ⟨m, fun _ => 0, g⟩ (fun r => ∀ c : Dev Cert.ProdKernelIdeal.nD,
          r.2.mem ((c.tc : Thread Cert.ProdKernelIdeal.nD Cert.ProdKernelIdeal.τ).loc Cert.ProdKernelIdeal.main_v4) = v0 c
          ∧ r.2.mem ((c.tc : Thread Cert.ProdKernelIdeal.nD Cert.ProdKernelIdeal.τ).loc Cert.ProdKernelIdeal.main_arg0) = m ((c.tc : Thread Cert.ProdKernelIdeal.nD Cert.ProdKernelIdeal.τ).loc Cert.ProdKernelIdeal.main_arg0)
          ∧ r.2.mem ((c.tc : Thread Cert.ProdKernelIdeal.nD Cert.ProdKernelIdeal.τ).loc Cert.ProdKernelIdeal.main_arg1) = m ((c.tc : Thread Cert.ProdKernelIdeal.nD Cert.ProdKernelIdeal.τ).loc Cert.ProdKernelIdeal.main_arg1))
      ∧ θ_run (Cert.ProdReferenceIdeal.defs (F := Ideal)) (onTc (τ := Cert.ProdReferenceIdeal.τ) (Cert.ProdReferenceIdeal.main (F := Ideal))) ⟨m', fun _ => 0, g'⟩ (fun r => ∀ c : Dev Cert.ProdReferenceIdeal.nD,
          r.2.mem ((c.tc : Thread Cert.ProdReferenceIdeal.nD Cert.ProdReferenceIdeal.τ).loc Cert.ProdReferenceIdeal.main_v6) = v0 c
          ∧ r.2.mem ((c.tc : Thread Cert.ProdReferenceIdeal.nD Cert.ProdReferenceIdeal.τ).loc Cert.ProdReferenceIdeal.main_arg0) = m' ((c.tc : Thread Cert.ProdReferenceIdeal.nD Cert.ProdReferenceIdeal.τ).loc Cert.ProdReferenceIdeal.main_arg0)
          ∧ r.2.mem ((c.tc : Thread Cert.ProdReferenceIdeal.nD Cert.ProdReferenceIdeal.τ).loc Cert.ProdReferenceIdeal.main_arg1) = m' ((c.tc : Thread Cert.ProdReferenceIdeal.nD Cert.ProdReferenceIdeal.τ).loc Cert.ProdReferenceIdeal.main_arg1))

def Claim : Prop :=
  ∃ (hMemKernel : Cert.MemKernel.Facts) (hMemKernelIdeal : Cert.MemKernelIdeal.Facts) (hMemReferenceIdeal : Cert.MemReferenceIdeal.Facts) (hGeluKernel : Cert.GeluKernel.Facts) (hGeluKernelIdeal : Cert.GeluKernelIdeal.Facts) (hGeluReferenceIdeal : Cert.GeluReferenceIdeal.Facts) (hAttnKernel : Cert.AttnKernel.Facts) (hAttnKernelIdeal : Cert.AttnKernelIdeal.Facts) (hAttnReferenceIdeal : Cert.AttnReferenceIdeal.Facts) (hAttnfKernel : Cert.AttnfKernel.Facts) (hAttnfKernelIdeal : Cert.AttnfKernelIdeal.Facts) (hAttnfReferenceIdeal : Cert.AttnfReferenceIdeal.Facts) (hXattnKernel : Cert.XattnKernel.Facts) (hXattnKernelIdeal : Cert.XattnKernelIdeal.Facts) (hXattnReferenceIdeal : Cert.XattnReferenceIdeal.Facts) (hPostKernel : Cert.PostKernel.Facts) (hPostKernelIdeal : Cert.PostKernelIdeal.Facts) (hPostReferenceIdeal : Cert.PostReferenceIdeal.Facts) (hConvKernel : Cert.ConvKernel.Facts) (hConvKernelIdeal : Cert.ConvKernelIdeal.Facts) (hConvReferenceIdeal : Cert.ConvReferenceIdeal.Facts) (hLossKernel : Cert.LossKernel.Facts) (hLossKernelIdeal : Cert.LossKernelIdeal.Facts) (hLossReferenceIdeal : Cert.LossReferenceIdeal.Facts) (hFfnKernel : Cert.FfnKernel.Facts) (hFfnKernelIdeal : Cert.FfnKernelIdeal.Facts) (hFfnReferenceIdeal : Cert.FfnReferenceIdeal.Facts) (hMemfKernel : Cert.MemfKernel.Facts) (hMemfKernelIdeal : Cert.MemfKernelIdeal.Facts) (hMemfReferenceIdeal : Cert.MemfReferenceIdeal.Facts) (hEpostKernel : Cert.EpostKernel.Facts) (hEpostKernelIdeal : Cert.EpostKernelIdeal.Facts) (hEpostReferenceIdeal : Cert.EpostReferenceIdeal.Facts) (hGoutKernel : Cert.GoutKernel.Facts) (hGoutKernelIdeal : Cert.GoutKernelIdeal.Facts) (hGoutReferenceIdeal : Cert.GoutReferenceIdeal.Facts) (hFfnfKernel : Cert.FfnfKernel.Facts) (hFfnfKernelIdeal : Cert.FfnfKernelIdeal.Facts) (hFfnfReferenceIdeal : Cert.FfnfReferenceIdeal.Facts) (hXattfKernel : Cert.XattfKernel.Facts) (hXattfKernelIdeal : Cert.XattfKernelIdeal.Facts) (hXattfReferenceIdeal : Cert.XattfReferenceIdeal.Facts) (hAdamKernel : Cert.AdamKernel.Facts) (hAdamKernelIdeal : Cert.AdamKernelIdeal.Facts) (hAdamReferenceIdeal : Cert.AdamReferenceIdeal.Facts) (hProdKernel : Cert.ProdKernel.Facts) (hProdKernelIdeal : Cert.ProdKernelIdeal.Facts) (hProdReferenceIdeal : Cert.ProdReferenceIdeal.Facts) (hPre_gelu_finite : Cert.Pre_gelu_finite.Facts) (hPre_attn_finite : Cert.Pre_attn_finite.Facts) (hPre_attnf_finite : Cert.Pre_attnf_finite.Facts) (hPre_xattn_finite : Cert.Pre_xattn_finite.Facts) (hPre_conv_finite : Cert.Pre_conv_finite.Facts) (hPre_loss_finite : Cert.Pre_loss_finite.Facts) (hPre_ffn_finite : Cert.Pre_ffn_finite.Facts),
    quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_GeluKernel (hGeluKernel := hGeluKernel)
    ∧ quiescent_GeluKernelIdeal (hGeluKernelIdeal := hGeluKernelIdeal)
    ∧ quiescent_GeluKernelIdeal_pre_gelu_finite (hGeluKernelIdeal := hGeluKernelIdeal) (hPre_gelu_finite := hPre_gelu_finite)
    ∧ quiescent_GeluReferenceIdeal (hGeluReferenceIdeal := hGeluReferenceIdeal)
    ∧ quiescent_GeluReferenceIdeal_pre_gelu_finite (hGeluReferenceIdeal := hGeluReferenceIdeal) (hPre_gelu_finite := hPre_gelu_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_AttnfKernel (hAttnfKernel := hAttnfKernel)
    ∧ quiescent_AttnfKernelIdeal (hAttnfKernelIdeal := hAttnfKernelIdeal)
    ∧ quiescent_AttnfKernelIdeal_pre_attnf_finite (hAttnfKernelIdeal := hAttnfKernelIdeal) (hPre_attnf_finite := hPre_attnf_finite)
    ∧ quiescent_AttnfReferenceIdeal (hAttnfReferenceIdeal := hAttnfReferenceIdeal)
    ∧ quiescent_AttnfReferenceIdeal_pre_attnf_finite (hAttnfReferenceIdeal := hAttnfReferenceIdeal) (hPre_attnf_finite := hPre_attnf_finite)
    ∧ quiescent_XattnKernel (hXattnKernel := hXattnKernel)
    ∧ quiescent_XattnKernelIdeal (hXattnKernelIdeal := hXattnKernelIdeal)
    ∧ quiescent_XattnKernelIdeal_pre_xattn_finite (hXattnKernelIdeal := hXattnKernelIdeal) (hPre_xattn_finite := hPre_xattn_finite)
    ∧ quiescent_XattnReferenceIdeal (hXattnReferenceIdeal := hXattnReferenceIdeal)
    ∧ quiescent_XattnReferenceIdeal_pre_xattn_finite (hXattnReferenceIdeal := hXattnReferenceIdeal) (hPre_xattn_finite := hPre_xattn_finite)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_ConvKernel (hConvKernel := hConvKernel)
    ∧ quiescent_ConvKernelIdeal (hConvKernelIdeal := hConvKernelIdeal)
    ∧ quiescent_ConvKernelIdeal_pre_conv_finite (hConvKernelIdeal := hConvKernelIdeal) (hPre_conv_finite := hPre_conv_finite)
    ∧ quiescent_ConvReferenceIdeal (hConvReferenceIdeal := hConvReferenceIdeal)
    ∧ quiescent_ConvReferenceIdeal_pre_conv_finite (hConvReferenceIdeal := hConvReferenceIdeal) (hPre_conv_finite := hPre_conv_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MemfKernel (hMemfKernel := hMemfKernel)
    ∧ quiescent_MemfKernelIdeal (hMemfKernelIdeal := hMemfKernelIdeal)
    ∧ quiescent_MemfReferenceIdeal (hMemfReferenceIdeal := hMemfReferenceIdeal)
    ∧ quiescent_EpostKernel (hEpostKernel := hEpostKernel)
    ∧ quiescent_EpostKernelIdeal (hEpostKernelIdeal := hEpostKernelIdeal)
    ∧ quiescent_EpostReferenceIdeal (hEpostReferenceIdeal := hEpostReferenceIdeal)
    ∧ quiescent_GoutKernel (hGoutKernel := hGoutKernel)
    ∧ quiescent_GoutKernelIdeal (hGoutKernelIdeal := hGoutKernelIdeal)
    ∧ quiescent_GoutReferenceIdeal (hGoutReferenceIdeal := hGoutReferenceIdeal)
    ∧ quiescent_FfnfKernel (hFfnfKernel := hFfnfKernel)
    ∧ quiescent_FfnfKernelIdeal (hFfnfKernelIdeal := hFfnfKernelIdeal)
    ∧ quiescent_FfnfReferenceIdeal (hFfnfReferenceIdeal := hFfnfReferenceIdeal)
    ∧ quiescent_XattfKernel (hXattfKernel := hXattfKernel)
    ∧ quiescent_XattfKernelIdeal (hXattfKernelIdeal := hXattfKernelIdeal)
    ∧ quiescent_XattfReferenceIdeal (hXattfReferenceIdeal := hXattfReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_ProdKernel (hProdKernel := hProdKernel)
    ∧ quiescent_ProdKernelIdeal (hProdKernelIdeal := hProdKernelIdeal)
    ∧ quiescent_ProdReferenceIdeal (hProdReferenceIdeal := hProdReferenceIdeal)
    ∧ preserves_MemKernel_MemKernelIdeal
    ∧ algebraic_MemKernelIdeal_MemReferenceIdeal (hMemKernelIdeal := hMemKernelIdeal) (hMemReferenceIdeal := hMemReferenceIdeal)
    ∧ preserves_GeluKernel_GeluKernelIdeal
    ∧ algebraic_GeluKernelIdeal_GeluReferenceIdeal_pre_gelu_finite (hGeluKernelIdeal := hGeluKernelIdeal) (hGeluReferenceIdeal := hGeluReferenceIdeal) (hPre_gelu_finite := hPre_gelu_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_AttnfKernel_AttnfKernelIdeal
    ∧ algebraic_AttnfKernelIdeal_AttnfReferenceIdeal_pre_attnf_finite (hAttnfKernelIdeal := hAttnfKernelIdeal) (hAttnfReferenceIdeal := hAttnfReferenceIdeal) (hPre_attnf_finite := hPre_attnf_finite)
    ∧ preserves_XattnKernel_XattnKernelIdeal
    ∧ algebraic_XattnKernelIdeal_XattnReferenceIdeal_pre_xattn_finite (hXattnKernelIdeal := hXattnKernelIdeal) (hXattnReferenceIdeal := hXattnReferenceIdeal) (hPre_xattn_finite := hPre_xattn_finite)
    ∧ preserves_PostKernel_PostKernelIdeal
    ∧ algebraic_PostKernelIdeal_PostReferenceIdeal (hPostKernelIdeal := hPostKernelIdeal) (hPostReferenceIdeal := hPostReferenceIdeal)
    ∧ preserves_ConvKernel_ConvKernelIdeal
    ∧ algebraic_ConvKernelIdeal_ConvReferenceIdeal_pre_conv_finite (hConvKernelIdeal := hConvKernelIdeal) (hConvReferenceIdeal := hConvReferenceIdeal) (hPre_conv_finite := hPre_conv_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MemfKernel_MemfKernelIdeal
    ∧ algebraic_MemfKernelIdeal_MemfReferenceIdeal (hMemfKernelIdeal := hMemfKernelIdeal) (hMemfReferenceIdeal := hMemfReferenceIdeal)
    ∧ preserves_EpostKernel_EpostKernelIdeal
    ∧ algebraic_EpostKernelIdeal_EpostReferenceIdeal (hEpostKernelIdeal := hEpostKernelIdeal) (hEpostReferenceIdeal := hEpostReferenceIdeal)
    ∧ preserves_GoutKernel_GoutKernelIdeal
    ∧ algebraic_GoutKernelIdeal_GoutReferenceIdeal (hGoutKernelIdeal := hGoutKernelIdeal) (hGoutReferenceIdeal := hGoutReferenceIdeal)
    ∧ preserves_FfnfKernel_FfnfKernelIdeal
    ∧ algebraic_FfnfKernelIdeal_FfnfReferenceIdeal (hFfnfKernelIdeal := hFfnfKernelIdeal) (hFfnfReferenceIdeal := hFfnfReferenceIdeal)
    ∧ preserves_XattfKernel_XattfKernelIdeal
    ∧ algebraic_XattfKernelIdeal_XattfReferenceIdeal (hXattfKernelIdeal := hXattfKernelIdeal) (hXattfReferenceIdeal := hXattfReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_ProdKernel_ProdKernelIdeal
    ∧ algebraic_ProdKernelIdeal_ProdReferenceIdeal (hProdKernelIdeal := hProdKernelIdeal) (hProdReferenceIdeal := hProdReferenceIdeal)
-- ==== Pre_attn_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) (main_arg3 : FVec F S16384x8x64 .f32) : IVec S16384x8x96 1 × IVec S16384x8x96 1 × IVec S16384x8x64 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x8x64 .f32 := Host.absf main_arg3
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  (main_v2, main_v5, main_v8, main_v11)
-- ==== Pre_attnf_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) : IVec S16384x8x96 1 × IVec S16384x8x96 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  (main_v2, main_v5, main_v8)
-- ==== Pre_conv_finite.lean ====
abbrev S16384x1024 : Shape := ⟨2, ![16384, 1024]⟩
abbrev S1024 : Shape := ⟨1, ![1024]⟩
abbrev S1024x2048 : Shape := ⟨2, ![1024, 2048]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S4x1024 : S_.BroadcastsInDim S4x1024 (![] : Fin 0 → Fin S4x1024.rank)

variable [Facts]

def fn_part1 {F : FTy → Type} [FloatOps F] (main_arg6 : FVec F S16384x1024 .f32) (main_v2 : IVec S16384x1024 1) (main_v5 : IVec S1024 1) (main_v8 : IVec S1024x2048 1) (main_v11 : IVec S4x1024 1) (main_v14 : IVec S16384x1024 1) (main_v17 : IVec S16384x1024 1) : IVec S16384x1024 1 × IVec S1024 1 × IVec S1024x2048 1 × IVec S4x1024 1 × IVec S16384x1024 1 × IVec S16384x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S1024 .f32) (main_arg2 : FVec F S1024x2048 .f32) (main_arg3 : FVec F S4x1024 .f32) (main_arg4 : FVec F S16384x1024 .f32) (main_arg5 : FVec F S16384x1024 .f32) (main_arg6 : FVec F S16384x1024 .f32) : IVec S16384x1024 1 × IVec S1024 1 × IVec S1024x2048 1 × IVec S4x1024 1 × IVec S16384x1024 1 × IVec S16384x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  fn_part1 (F := F) main_arg6 main_v2 main_v5 main_v8 main_v11 main_v14 main_v17
-- ==== Pre_ffn_finite.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x5632 .f32) (main_arg3 : FVec F S2816x1024 .f32) (main_arg4 : FVec F S16384x1024 .f32) : IVec S16384x1024 1 × IVec S1024 1 × IVec S1024x5632 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  (main_v2, main_v5, main_v8, main_v11, main_v14)
-- ==== Pre_gelu_finite.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S16384x1024 .f32) (main_arg2 : FVec F S1024x1024 .f32) (main_arg3 : FVec F S16384x1024 .f32) : IVec S16384x1024 1 × IVec S16384x1024 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_loss_finite.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x5632 .f32) (main_arg3 : FVec F S2816x1024 .f32) (main_arg4 : FVec F S16384x1024 .f32) (main_arg5 : FVec F S1024 .f32) : IVec S16384x1024 1 × IVec S1024 1 × IVec S1024x5632 1 × IVec S2816x1024 1 × IVec S16384x1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S16384x1024 .f32 := Host.absf main_arg4
  let main_cst_3 : FVec F S_ .f32 := constant S_ .f32 0x7F800000#32
  let main_v13 : FVec F S16384x1024 .f32 := broadcastInDim S16384x1024 ![] bcast_S_S16384x1024 main_cst_3
  let main_v14 : IVec S16384x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_xattn_finite.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S16384x1024 .f32) (main_v2 : IVec S16384x1024 1) (main_v5 : IVec S1024 1) (main_v8 : IVec S1024x1024 1) (main_v11 : IVec S256x1024 1) (main_v14 : IVec S256x1024 1) (main_v17 : IVec S1024x1024 1) : IVec S16384x1024 1 × IVec S1024 1 × IVec S1024x1024 1 × IVec S256x1024 1 × IVec S256x1024 1 × IVec S1024x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S1024 .f32) (main_arg2 : FVec F S1024x1024 .f32) (main_arg3 : FVec F S256x1024 .f32) (main_arg4 : FVec F S256x1024 .f32) (main_arg5 : FVec F S1024x1024 .f32) (main_arg6 : FVec F S16384x1024 .f32) : IVec S16384x1024 1 × IVec S1024 1 × IVec S1024x1024 1 × IVec S256x1024 1 × IVec S256x1024 1 × IVec S1024x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== MemKernel.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S256x1024, .f32⟩
  | .hbm, ⟨5, _⟩ => ⟨S1x1024, .f32⟩
  | .hbm, ⟨6, _⟩ => ⟨S1024x2048, .bf16⟩
  | .hbm, ⟨7, _⟩ => ⟨S256x2048, .bf16⟩
  | .hbm, ⟨8, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1024x2048, .bf16⟩
  | .local _ .vmem, ⟨5, _⟩ => ⟨S256x2048, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemReferenceIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 54
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S256x2048, .f32⟩
  | .hbm, ⟨25, _⟩ => ⟨S256x2048, .bf16⟩
  | .hbm, ⟨26, _⟩ => ⟨S256x1024, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S256x2048, .f32⟩
  | .hbm, ⟨43, _⟩ => ⟨S256x1024, .f32⟩
  | .hbm, ⟨44, _⟩ => ⟨S256x1024, .f32⟩
  | .hbm, ⟨45, _⟩ => ⟨S256x2048, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== GeluKernel.lean ====
abbrev S16384x1024 : Shape := ⟨2, ![16384, 1024]⟩
abbrev S1024x1024 : Shape := ⟨2, ![1024, 1024]⟩
abbrev S_ : Shape := ⟨0, ![]⟩
abbrev S16384x2048 : Shape := ⟨2, ![16384, 2048]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x2048, .f32⟩
  | .hbm, ⟨7, _⟩ => ⟨S1024x1024, .bf16⟩
  | .hbm, ⟨8, _⟩ => ⟨S16384x1024, .f32⟩
  | .hbm, ⟨9, _⟩ => ⟨S16384x1024, .f32⟩
  | .hbm, ⟨10, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v57 : BitVec 1 := Scalar.cmpi .eq arg0 c31_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GeluKernelIdeal.lean ====
variable {F : FTy → Type} [FloatOps F] [Named F]
def κ : String → Option EReal := fun
  | "cube" => some ((8943 / 200000 : ℝ) : EReal)
  | "three_cubes" => some ((26829 / 200000 : ℝ) : EReal)
  | _ => none
-- ==== GeluReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== AttnKernel.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S8x32x1x512 : Shape := ⟨4, ![8, 32, 1, 512]⟩
abbrev S16384x8x128 : Shape := ⟨3, ![16384, 8, 128]⟩
abbrev S16384x1024 : Shape := ⟨2, ![16384, 1024]⟩
abbrev S16384x128 : Shape := ⟨2, ![16384, 128]⟩
abbrev S512x128 : Shape := ⟨2, ![512, 128]⟩
abbrev S1x32x1x512 : Shape := ⟨4, ![1, 32, 1, 512]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 81
  | .vmem => 18
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x64x16384, .f32⟩
  | .hbm, ⟨32, _⟩ => ⟨S16384x8x64, .f32⟩
  | .hbm, ⟨33, _⟩ => ⟨S16384x8x64, .f32⟩
  | .hbm, ⟨34, _⟩ => ⟨S_, .f32⟩
  | .hbm, ⟨35, _⟩ => ⟨S16384x8, .f32⟩
  | .hbm, ⟨36, _⟩ => ⟨S8x16384, .f32⟩
  | .hbm, ⟨37, _⟩ => ⟨S8x32x1x512, .f32⟩
  | .hbm, ⟨38, _⟩ => ⟨S_, .f32⟩
  | .hbm, ⟨39, _⟩ => ⟨S_, .f32⟩
  | .hbm, ⟨40, _⟩ => ⟨S8x16384x1, .f32⟩
  | .hbm, ⟨41, _⟩ => ⟨S8x16384x1, .f32⟩
  | .hbm, ⟨42, _⟩ => ⟨S8x16384x1, .f32⟩
  | .hbm, ⟨43, _⟩ => ⟨S8x16384x1, .f32⟩
  | .hbm, ⟨44, _⟩ => ⟨S8x32x1x512, .f32⟩
  | .hbm, ⟨45, _⟩ => ⟨S_, .i32⟩
  | .hbm, ⟨46, _⟩ => ⟨S_, .f32⟩
  | .hbm, ⟨47, _⟩ => ⟨S16384x8x128, .f32⟩
  | .hbm, ⟨48, _⟩ => ⟨S16384x1024, .f32⟩
  | .hbm, ⟨49, _⟩ => ⟨S_, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .bf16⟩
  | .hbm, ⟨54, _⟩ => ⟨S_, .i32⟩
  | .hbm, ⟨55, _⟩ => ⟨S_, .f32⟩
  | .hbm, ⟨56, _⟩ => ⟨S16384x8x128, .f32⟩
  | .hbm, ⟨57, _⟩ => ⟨S16384x1024, .f32⟩
  | .hbm, ⟨58, _⟩ => ⟨S16384x1024, .bf16⟩
  | .hbm, ⟨59, _⟩ => ⟨S_, .i32⟩
  | .hbm, ⟨60, _⟩ => ⟨S_, .f32⟩
  | .hbm, ⟨61, _⟩ => ⟨S16384x8x128, .f32⟩
  | .hbm, ⟨62, _⟩ => ⟨S16384x1024, .f32⟩
  | .hbm, ⟨63, _⟩ => ⟨S16384x1024, .bf16⟩
  | .hbm, ⟨64, _⟩ => ⟨S_, .i32⟩
  | .hbm, ⟨65, _⟩ => ⟨S_, .f32⟩
  | .hbm, ⟨66, _⟩ => ⟨S16384x8x128, .f32⟩
  | .hbm, ⟨67, _⟩ => ⟨S16384x1024, .f32⟩
  | .hbm, ⟨68, _⟩ => ⟨S16384x1024, .bf16⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x8x128, .f32⟩
  | .hbm, ⟨76, _⟩ => ⟨S16384x8x96, .f32⟩
  | .hbm, ⟨77, _⟩ => ⟨S16384x8x128, .f32⟩
  | .hbm, ⟨78, _⟩ => ⟨S16384x8x96, .f32⟩
  | .hbm, ⟨79, _⟩ => ⟨S16384x8x128, .f32⟩
  | .hbm, ⟨80, _⟩ => ⟨S16384x8x64, .f32⟩
  | .local _ .vmem, ⟨0, _⟩ => ⟨S16384x128, .bf16⟩
  | .local _ .vmem, ⟨1, _⟩ => ⟨S16384x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S16384x128, .bf16⟩
  | .local _ .vmem, ⟨7, _⟩ => ⟨S16384x128, .bf16⟩
  | .local _ .vmem, ⟨8, _⟩ => ⟨S1x32x1x512, .f32⟩
  | .local _ .vmem, ⟨9, _⟩ => ⟨S1x32x1x512, .f32⟩
  | .local _ .vmem, ⟨10, _⟩ => ⟨S1x32x1x512, .f32⟩
  | .local _ .vmem, ⟨11, _⟩ => ⟨S1x32x1x512, .f32⟩
  | .local _ .vmem, ⟨12, _⟩ => ⟨S16384x128, .f32⟩
  | .local _ .vmem, ⟨13, _⟩ => ⟨S16384x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_call1_v0 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_call3_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_call4_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev main_v47_2 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v10 : Index := Scalar.indexCast v9
  let c0_4 : Index := 0#32
  ![v10.toNat, 0]
def k0_off2 (i : grid0.Coords) : Fin 4 → Nat :=
  let c0_8 : Index := 0#32
  let arg1 : BitVec 32 := BitVec.ofNat 32 (i 1).val
  let v22 : Index := Scalar.indexCast arg1
  let c0_9 : Index := 0#32
  let c0_10 : Index := 0#32
  ![0, v22.toNat, 0, 0]
@[reducible] def k0_t1_loop (i : grid0.Coords) : Scf.Loop 32 :=
  let c0_i32_26 : BitVec 32 := 0#32
  let c32_i32 : BitVec 32 := 32#32
  let arg1 : BitVec 32 := BitVec.ofNat 32 (i 1).val
  let c1_i32 : BitVec 32 := 1#32
  let v48 : BitVec 32 := Scalar.addi arg1 c1_i32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_28 : BitVec 32 := 1#32
  ⟨c0_i32_26, v71, c1_i32_28⟩
def k0_mult2 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v159 : BitVec 32 := Scalar.muli c8_i32_72 arg11
  let v160 : BitVec 32 := Scalar.addi v48 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off3 (i : grid0.Coords) (k0_t1 : Fin (k0_t1_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v159 : BitVec 32 := Scalar.muli c8_i32_72 arg11
  let v160 : BitVec 32 := Scalar.addi v48 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off4 (i : grid0.Coords) (k0_t1 : Fin (k0_t1_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c1_i32_28 : BitVec 32 := 1#32
  let arg11 : BitVec 32 := Scf.iv c0_i32_26 c1_i32_28 k0_t1
  let v159 : BitVec 32 := Scalar.muli c8_i32_72 arg11
  let v160 : BitVec 32 := Scalar.addi v48 v159
  let v161 : BitVec 32 := Scalar.addi v160 c0_i32_73
  let v171 : Index := Scalar.indexCast v161
  let c0_79 : Index := 0#32
  let c0_80 : Index := 0#32
  ![0, v171.toNat, 0, 0]
def k0_mult3 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_90 : BitVec 32 := 8#32
  let c0_i32_26 : BitVec 32 := 0#32
  let c1_i32_28 : BitVec 32 := 1#32
  let arg11 : BitVec 32 := Scf.iv c0_i32_26 c1_i32_28 k0_t1
  let v197 : BitVec 32 := Scalar.muli c8_i32_90 arg11
  let v198 : BitVec 32 := Scalar.addi v48 v197
  let c1_i32_91 : BitVec 32 := 1#32
  let v199 : BitVec 32 := Scalar.addi v198 c1_i32_91
  let c512_i32_92 : BitVec 32 := 512#32
  let v200 : BitVec 32 := Scalar.muli v199 c512_i32_92
  v200
def k0_mult4 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_108 : BitVec 32 := 8#32
  let c0_i32_26 : BitVec 32 := 0#32
  let c1_i32_28 : BitVec 32 := 1#32
  let arg11 : BitVec 32 := Scf.iv c0_i32_26 c1_i32_28 k0_t1
  let v235 : BitVec 32 := Scalar.muli c8_i32_108 arg11
  let v236 : BitVec 32 := Scalar.addi v48 v235
  let c2_i32_109 : BitVec 32 := 2#32
  let v237 : BitVec 32 := Scalar.addi v236 c2_i32_109
  let c512_i32_110 : BitVec 32 := 512#32
  let v238 : BitVec 32 := Scalar.muli v237 c512_i32_110
  v238
def k0_mult5 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_126 : BitVec 32 := 8#32
  let c0_i32_26 : BitVec 32 := 0#32
  let c1_i32_28 : BitVec 32 := 1#32
  let arg11 : BitVec 32 := Scf.iv c0_i32_26 c1_i32_28 k0_t1
  let v273 : BitVec 32 := Scalar.muli c8_i32_126 arg11
  let v274 : BitVec 32 := Scalar.addi v48 v273
  let c3_i32 : BitVec 32 := 3#32
  let v275 : BitVec 32 := Scalar.addi v274 c3_i32
  let c512_i32_127 : BitVec 32 := 512#32
  let v276 : BitVec 32 := Scalar.muli v275 c512_i32_127
  v276
def k0_mult6 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_143 : BitVec 32 := 8#32
  let c0_i32_26 : BitVec 32 := 0#32
  let c1_i32_28 : BitVec 32 := 1#32
  let arg11 : BitVec 32 := Scf.iv c0_i32_26 c1_i32_28 k0_t1
  let v311 : BitVec 32 := Scalar.muli c8_i32_143 arg11
  let v312 : BitVec 32 := Scalar.addi v48 v311
  let c4_i32_144 : BitVec 32 := 4#32
  let v313 : BitVec 32 := Scalar.addi v312 c4_i32_144
  let c512_i32_145 : BitVec 32 := 512#32
  let v314 : BitVec 32 := Scalar.muli v313 c512_i32_145
  v314
def k0_mult7 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_161 : BitVec 32 := 8#32
  let c0_i32_26 : BitVec 32 := 0#32
  let c1_i32_28 : BitVec 32 := 1#32
  let arg11 : BitVec 32 := Scf.iv c0_i32_26 c1_i32_28 k0_t1
  let v349 : BitVec 32 := Scalar.muli c8_i32_161 arg11
  let v350 : BitVec 32 := Scalar.addi v48 v349
  let c5_i32 : BitVec 32 := 5#32
  let v351 : BitVec 32 := Scalar.addi v350 c5_i32
  let c512_i32_162 : BitVec 32 := 512#32
  let v352 : BitVec 32 := Scalar.muli v351 c512_i32_162
  v352
def k0_mult8 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_178 : BitVec 32 := 8#32
  let c0_i32_26 : BitVec 32 := 0#32
  let c1_i32_28 : BitVec 32 := 1#32
  let arg11 : BitVec 32 := Scf.iv c0_i32_26 c1_i32_28 k0_t1
  let v387 : BitVec 32 := Scalar.muli c8_i32_178 arg11
  let v388 : BitVec 32 := Scalar.addi v48 v387
  let c6_i32 : BitVec 32 := 6#32
  let v389 : BitVec 32 := Scalar.addi v388 c6_i32
  let c512_i32_179 : BitVec 32 := 512#32
  let v390 : BitVec 32 := Scalar.muli v389 c512_i32_179
  v390
def k0_mult9 (i : grid0.Coords) (k0_t1 : Fin (k0_t1_loop i).trips) : BitVec 32 :=
  let arg1 : BitVec 32 := BitVec.ofNat 32 (i 1).val
  let c1_i32 : BitVec 32 := 1#32
  let v48 : BitVec 32 := Scalar.addi arg1 c1_i32
  let c8_i32_195 : BitVec 32 := 8#32
  let c0_i32_26 : BitVec 32 := 0#32
  let c1_i32_28 : BitVec 32 := 1#32
  let arg11 : BitVec 32 := Scf.iv c0_i32_26 c1_i32_28 k0_t1
  let v425 : BitVec 32 := Scalar.muli c8_i32_195 arg11
  let v426 : BitVec 32 := Scalar.addi v48 v425
  let c7_i32 : BitVec 32 := 7#32
  let v427 : BitVec 32 := Scalar.addi v426 c7_i32
  let c512_i32_196 : BitVec 32 := 512#32
  let v428 : BitVec 32 := Scalar.muli v427 c512_i32_196
  v428
@[reducible] def k0_t2_loop (i : grid0.Coords) : Scf.Loop 32 :=
  let c0_i32_26 : BitVec 32 := 0#32
  let c32_i32 : BitVec 32 := 32#32
  let arg1 : BitVec 32 := BitVec.ofNat 32 (i 1).val
  let c1_i32 : BitVec 32 := 1#32
  let v48 : BitVec 32 := Scalar.addi arg1 c1_i32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let v68 : BitVec 32 := Scalar.addi c0_i32_26 v67
  let c1_i32_29 : BitVec 32 := 1#32
  ⟨v71, v68, c1_i32_29⟩
def k0_mult10 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v159 : BitVec 32 := Scalar.muli c8_i32_72 arg11
  let v160 : BitVec 32 := Scalar.addi v48 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off5 (i : grid0.Coords) (k0_t2 : Fin (k0_t2_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v159 : BitVec 32 := Scalar.muli c8_i32_72 arg11
  let v160 : BitVec 32 := Scalar.addi v48 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off6 (i : grid0.Coords) (k0_t2 : Fin (k0_t2_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_72 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v159 : BitVec 32 := Scalar.muli c8_i32_72 arg11
  let v160 : BitVec 32 := Scalar.addi v48 v159
  let v161 : BitVec 32 := Scalar.addi v160 c0_i32_73
  let v171 : Index := Scalar.indexCast v161
  let c0_79 : Index := 0#32
  let c0_80 : Index := 0#32
  ![0, v171.toNat, 0, 0]
def k0_mult11 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_90 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v197 : BitVec 32 := Scalar.muli c8_i32_90 arg11
  let v198 : BitVec 32 := Scalar.addi v48 v197
  let c1_i32_91 : BitVec 32 := 1#32
  let v199 : BitVec 32 := Scalar.addi v198 c1_i32_91
  let c512_i32_92 : BitVec 32 := 512#32
  let v200 : BitVec 32 := Scalar.muli v199 c512_i32_92
  v200
def k0_mult12 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_108 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v235 : BitVec 32 := Scalar.muli c8_i32_108 arg11
  let v236 : BitVec 32 := Scalar.addi v48 v235
  let c2_i32_109 : BitVec 32 := 2#32
  let v237 : BitVec 32 := Scalar.addi v236 c2_i32_109
  let c512_i32_110 : BitVec 32 := 512#32
  let v238 : BitVec 32 := Scalar.muli v237 c512_i32_110
  v238
def k0_mult13 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_126 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v273 : BitVec 32 := Scalar.muli c8_i32_126 arg11
  let v274 : BitVec 32 := Scalar.addi v48 v273
  let c3_i32 : BitVec 32 := 3#32
  let v275 : BitVec 32 := Scalar.addi v274 c3_i32
  let c512_i32_127 : BitVec 32 := 512#32
  let v276 : BitVec 32 := Scalar.muli v275 c512_i32_127
  v276
def k0_mult14 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_143 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v311 : BitVec 32 := Scalar.muli c8_i32_143 arg11
  let v312 : BitVec 32 := Scalar.addi v48 v311
  let c4_i32_144 : BitVec 32 := 4#32
  let v313 : BitVec 32 := Scalar.addi v312 c4_i32_144
  let c512_i32_145 : BitVec 32 := 512#32
  let v314 : BitVec 32 := Scalar.muli v313 c512_i32_145
  v314
def k0_mult15 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_161 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v349 : BitVec 32 := Scalar.muli c8_i32_161 arg11
  let v350 : BitVec 32 := Scalar.addi v48 v349
  let c5_i32 : BitVec 32 := 5#32
  let v351 : BitVec 32 := Scalar.addi v350 c5_i32
  let c512_i32_162 : BitVec 32 := 512#32
  let v352 : BitVec 32 := Scalar.muli v351 c512_i32_162
  v352
def k0_mult16 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_178 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v387 : BitVec 32 := Scalar.muli c8_i32_178 arg11
  let v388 : BitVec 32 := Scalar.addi v48 v387
  let c6_i32 : BitVec 32 := 6#32
  let v389 : BitVec 32 := Scalar.addi v388 c6_i32
  let c512_i32_179 : BitVec 32 := 512#32
  let v390 : BitVec 32 := Scalar.muli v389 c512_i32_179
  v390
def k0_mult17 (i : grid0.Coords) (k0_t2 : Fin (k0_t2_loop i).trips) : BitVec 32 :=
  let arg1 : BitVec 32 := BitVec.ofNat 32 (i 1).val
  let c1_i32 : BitVec 32 := 1#32
  let v48 : BitVec 32 := Scalar.addi arg1 c1_i32
  let c8_i32_195 : BitVec 32 := 8#32
  let c0_i32_26 : BitVec 32 := 0#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v67 : BitVec 32 := Scalar.subi v66 c0_i32_26
  let c1_i32_27 : BitVec 32 := 1#32
  let v69 : BitVec 32 := Scalar.divsi v67 c1_i32_27
  let v70 : BitVec 32 := Scalar.muli v69 c1_i32_27
  let v71 : BitVec 32 := Scalar.addi c0_i32_26 v70
  let c1_i32_29 : BitVec 32 := 1#32
  let arg11 : BitVec 32 := Scf.iv v71 c1_i32_29 k0_t2
  let v425 : BitVec 32 := Scalar.muli c8_i32_195 arg11
  let v426 : BitVec 32 := Scalar.addi v48 v425
  let c7_i32 : BitVec 32 := 7#32
  let v427 : BitVec 32 := Scalar.addi v426 c7_i32
  let c512_i32_196 : BitVec 32 := 512#32
  let v428 : BitVec 32 := Scalar.muli v427 c512_i32_196
  v428
@[reducible] def k0_t3_loop (i : grid0.Coords) : Scf.Loop 32 :=
  let c0_i32_38 : BitVec 32 := 0#32
  let c32_i32_31 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_40 : BitVec 32 := 1#32
  ⟨c0_i32_38, v98, c1_i32_40⟩
def k0_mult18 (i : grid0.Coords) (k0_t3 : Fin (k0_t3_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c1_i32_40 : BitVec 32 := 1#32
  let arg11 : BitVec 32 := Scf.iv c0_i32_38 c1_i32_40 k0_t3
  let v159 : BitVec 32 := Scalar.muli c4_i32_72 arg11
  let v160 : BitVec 32 := Scalar.addi v75 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off7 (i : grid0.Coords) (k0_t3 : Fin (k0_t3_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c1_i32_40 : BitVec 32 := 1#32
  let arg11 : BitVec 32 := Scf.iv c0_i32_38 c1_i32_40 k0_t3
  let v159 : BitVec 32 := Scalar.muli c4_i32_72 arg11
  let v160 : BitVec 32 := Scalar.addi v75 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off8 (i : grid0.Coords) (k0_t3 : Fin (k0_t3_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c1_i32_40 : BitVec 32 := 1#32
  let arg11 : BitVec 32 := Scf.iv c0_i32_38 c1_i32_40 k0_t3
  let v159 : BitVec 32 := Scalar.muli c4_i32_72 arg11
  let v160 : BitVec 32 := Scalar.addi v75 v159
  let v161 : BitVec 32 := Scalar.addi v160 c0_i32_73
  let v171 : Index := Scalar.indexCast v161
  let c0_79 : Index := 0#32
  let c0_80 : Index := 0#32
  ![0, v171.toNat, 0, 0]
def k0_mult19 (i : grid0.Coords) (k0_t3 : Fin (k0_t3_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_90 : BitVec 32 := 4#32
  let c0_i32_38 : BitVec 32 := 0#32
  let c1_i32_40 : BitVec 32 := 1#32
  let arg11 : BitVec 32 := Scf.iv c0_i32_38 c1_i32_40 k0_t3
  let v197 : BitVec 32 := Scalar.muli c4_i32_90 arg11
  let v198 : BitVec 32 := Scalar.addi v75 v197
  let c1_i32_91 : BitVec 32 := 1#32
  let v199 : BitVec 32 := Scalar.addi v198 c1_i32_91
  let c512_i32_92 : BitVec 32 := 512#32
  let v200 : BitVec 32 := Scalar.muli v199 c512_i32_92
  v200
def k0_mult20 (i : grid0.Coords) (k0_t3 : Fin (k0_t3_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_108 : BitVec 32 := 4#32
  let c0_i32_38 : BitVec 32 := 0#32
  let c1_i32_40 : BitVec 32 := 1#32
  let arg11 : BitVec 32 := Scf.iv c0_i32_38 c1_i32_40 k0_t3
  let v235 : BitVec 32 := Scalar.muli c4_i32_108 arg11
  let v236 : BitVec 32 := Scalar.addi v75 v235
  let c2_i32_109 : BitVec 32 := 2#32
  let v237 : BitVec 32 := Scalar.addi v236 c2_i32_109
  let c512_i32_110 : BitVec 32 := 512#32
  let v238 : BitVec 32 := Scalar.muli v237 c512_i32_110
  v238
def k0_mult21 (i : grid0.Coords) (k0_t3 : Fin (k0_t3_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_126 : BitVec 32 := 4#32
  let c0_i32_38 : BitVec 32 := 0#32
  let c1_i32_40 : BitVec 32 := 1#32
  let arg11 : BitVec 32 := Scf.iv c0_i32_38 c1_i32_40 k0_t3
  let v273 : BitVec 32 := Scalar.muli c4_i32_126 arg11
  let v274 : BitVec 32 := Scalar.addi v75 v273
  let c3_i32 : BitVec 32 := 3#32
  let v275 : BitVec 32 := Scalar.addi v274 c3_i32
  let c512_i32_127 : BitVec 32 := 512#32
  let v276 : BitVec 32 := Scalar.muli v275 c512_i32_127
  v276
@[reducible] def k0_t4_loop (i : grid0.Coords) : Scf.Loop 32 :=
  let c0_i32_38 : BitVec 32 := 0#32
  let c32_i32_31 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let v95 : BitVec 32 := Scalar.addi c0_i32_38 v94
  let c1_i32_41 : BitVec 32 := 1#32
  ⟨v98, v95, c1_i32_41⟩
def k0_mult22 (i : grid0.Coords) (k0_t4 : Fin (k0_t4_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v159 : BitVec 32 := Scalar.muli c4_i32_72 arg11
  let v160 : BitVec 32 := Scalar.addi v75 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off9 (i : grid0.Coords) (k0_t4 : Fin (k0_t4_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v159 : BitVec 32 := Scalar.muli c4_i32_72 arg11
  let v160 : BitVec 32 := Scalar.addi v75 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off10 (i : grid0.Coords) (k0_t4 : Fin (k0_t4_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_72 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v159 : BitVec 32 := Scalar.muli c4_i32_72 arg11
  let v160 : BitVec 32 := Scalar.addi v75 v159
  let v161 : BitVec 32 := Scalar.addi v160 c0_i32_73
  let v171 : Index := Scalar.indexCast v161
  let c0_79 : Index := 0#32
  let c0_80 : Index := 0#32
  ![0, v171.toNat, 0, 0]
def k0_mult23 (i : grid0.Coords) (k0_t4 : Fin (k0_t4_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_90 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v197 : BitVec 32 := Scalar.muli c4_i32_90 arg11
  let v198 : BitVec 32 := Scalar.addi v75 v197
  let c1_i32_91 : BitVec 32 := 1#32
  let v199 : BitVec 32 := Scalar.addi v198 c1_i32_91
  let c512_i32_92 : BitVec 32 := 512#32
  let v200 : BitVec 32 := Scalar.muli v199 c512_i32_92
  v200
def k0_mult24 (i : grid0.Coords) (k0_t4 : Fin (k0_t4_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_108 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v235 : BitVec 32 := Scalar.muli c4_i32_108 arg11
  let v236 : BitVec 32 := Scalar.addi v75 v235
  let c2_i32_109 : BitVec 32 := 2#32
  let v237 : BitVec 32 := Scalar.addi v236 c2_i32_109
  let c512_i32_110 : BitVec 32 := 512#32
  let v238 : BitVec 32 := Scalar.muli v237 c512_i32_110
  v238
def k0_mult25 (i : grid0.Coords) (k0_t4 : Fin (k0_t4_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_126 : BitVec 32 := 4#32
  let c0_i32_38 : BitVec 32 := 0#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v94 : BitVec 32 := Scalar.subi v93 c0_i32_38
  let c1_i32_39 : BitVec 32 := 1#32
  let v96 : BitVec 32 := Scalar.divsi v94 c1_i32_39
  let v97 : BitVec 32 := Scalar.muli v96 c1_i32_39
  let v98 : BitVec 32 := Scalar.addi c0_i32_38 v97
  let c1_i32_41 : BitVec 32 := 1#32
  let arg11 : BitVec 32 := Scf.iv v98 c1_i32_41 k0_t4
  let v273 : BitVec 32 := Scalar.muli c4_i32_126 arg11
  let v274 : BitVec 32 := Scalar.addi v75 v273
  let c3_i32 : BitVec 32 := 3#32
  let v275 : BitVec 32 := Scalar.addi v274 c3_i32
  let c512_i32_127 : BitVec 32 := 512#32
  let v276 : BitVec 32 := Scalar.muli v275 c512_i32_127
  v276
@[reducible] def k0_t5_loop (i : grid0.Coords) : Scf.Loop 32 :=
  let c0_i32_50 : BitVec 32 := 0#32
  let c32_i32_43 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_52 : BitVec 32 := 1#32
  ⟨c0_i32_50, v125, c1_i32_52⟩
def k0_mult26 (i : grid0.Coords) (k0_t5 : Fin (k0_t5_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c1_i32_52 : BitVec 32 := 1#32
  let arg11 : BitVec 32 := Scf.iv c0_i32_50 c1_i32_52 k0_t5
  let v159 : BitVec 32 := Scalar.muli c2_i32_72 arg11
  let v160 : BitVec 32 := Scalar.addi v102 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off11 (i : grid0.Coords) (k0_t5 : Fin (k0_t5_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c1_i32_52 : BitVec 32 := 1#32
  let arg11 : BitVec 32 := Scf.iv c0_i32_50 c1_i32_52 k0_t5
  let v159 : BitVec 32 := Scalar.muli c2_i32_72 arg11
  let v160 : BitVec 32 := Scalar.addi v102 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off12 (i : grid0.Coords) (k0_t5 : Fin (k0_t5_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c1_i32_52 : BitVec 32 := 1#32
  let arg11 : BitVec 32 := Scf.iv c0_i32_50 c1_i32_52 k0_t5
  let v159 : BitVec 32 := Scalar.muli c2_i32_72 arg11
  let v160 : BitVec 32 := Scalar.addi v102 v159
  let v161 : BitVec 32 := Scalar.addi v160 c0_i32_73
  let v171 : Index := Scalar.indexCast v161
  let c0_79 : Index := 0#32
  let c0_80 : Index := 0#32
  ![0, v171.toNat, 0, 0]
def k0_mult27 (i : grid0.Coords) (k0_t5 : Fin (k0_t5_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_90 : BitVec 32 := 2#32
  let c0_i32_50 : BitVec 32 := 0#32
  let c1_i32_52 : BitVec 32 := 1#32
  let arg11 : BitVec 32 := Scf.iv c0_i32_50 c1_i32_52 k0_t5
  let v197 : BitVec 32 := Scalar.muli c2_i32_90 arg11
  let v198 : BitVec 32 := Scalar.addi v102 v197
  let c1_i32_91 : BitVec 32 := 1#32
  let v199 : BitVec 32 := Scalar.addi v198 c1_i32_91
  let c512_i32_92 : BitVec 32 := 512#32
  let v200 : BitVec 32 := Scalar.muli v199 c512_i32_92
  v200
@[reducible] def k0_t6_loop (i : grid0.Coords) : Scf.Loop 32 :=
  let c0_i32_50 : BitVec 32 := 0#32
  let c32_i32_43 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let v122 : BitVec 32 := Scalar.addi c0_i32_50 v121
  let c1_i32_53 : BitVec 32 := 1#32
  ⟨v125, v122, c1_i32_53⟩
def k0_mult28 (i : grid0.Coords) (k0_t6 : Fin (k0_t6_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg11 : BitVec 32 := Scf.iv v125 c1_i32_53 k0_t6
  let v159 : BitVec 32 := Scalar.muli c2_i32_72 arg11
  let v160 : BitVec 32 := Scalar.addi v102 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off13 (i : grid0.Coords) (k0_t6 : Fin (k0_t6_loop i).trips) (c0_i32_73 : BitVec 32) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg11 : BitVec 32 := Scf.iv v125 c1_i32_53 k0_t6
  let v159 : BitVec 32 := Scalar.muli c2_i32_72 arg11
  let v160 : BitVec 32 := Scalar.addi v102 v159
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off14 (i : grid0.Coords) (k0_t6 : Fin (k0_t6_loop i).trips) (c0_i32_73 : BitVec 32) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_72 : BitVec 32 := 2#32
  let c0_i32_50 : BitVec 32 := 0#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg11 : BitVec 32 := Scf.iv v125 c1_i32_53 k0_t6
  let v159 : BitVec 32 := Scalar.muli c2_i32_72 arg11
  let v160 : BitVec 32 := Scalar.addi v102 v159
  let v161 : BitVec 32 := Scalar.addi v160 c0_i32_73
  let v171 : Index := Scalar.indexCast v161
  let c0_79 : Index := 0#32
  let c0_80 : Index := 0#32
  ![0, v171.toNat, 0, 0]
def k0_mult29 (i : grid0.Coords) (k0_t6 : Fin (k0_t6_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_90 : BitVec 32 := 2#32
  let c0_i32_50 : BitVec 32 := 0#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v121 : BitVec 32 := Scalar.subi v120 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg11 : BitVec 32 := Scf.iv v125 c1_i32_53 k0_t6
  let v197 : BitVec 32 := Scalar.muli c2_i32_90 arg11
  let v198 : BitVec 32 := Scalar.addi v102 v197
  let c1_i32_91 : BitVec 32 := 1#32
  let v199 : BitVec 32 := Scalar.addi v198 c1_i32_91
  let c512_i32_92 : BitVec 32 := 512#32
  let v200 : BitVec 32 := Scalar.muli v199 c512_i32_92
  v200
@[reducible] def k0_t7_loop (i : grid0.Coords) : Scf.Loop 32 :=
  let c0_i32_63 : BitVec 32 := 0#32
  let c32_i32_55 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let v130 : BitVec 32 := Scalar.subi c32_i32_55 v129
  let c0_i32_57 : BitVec 32 := 0#32
  let v132 : BitVec 1 := Scalar.cmpi .sgt v130 c0_i32_57
  let v133 : BitVec 32 := Scalar.extui v132
  let c0_i32_58 : BitVec 32 := 0#32
  let v134 : BitVec 1 := Scalar.cmpi .slt v130 c0_i32_58
  let v135 : BitVec 32 := Scalar.extui v134
  let v136 : BitVec 32 := Scalar.subi v133 v135
  let c1_i32_56 : BitVec 32 := 1#32
  let c0_i32_59 : BitVec 32 := 0#32
  let v137 : BitVec 1 := Scalar.cmpi .sgt c1_i32_56 c0_i32_59
  let v138 : BitVec 32 := Scalar.extui v137
  let c0_i32_60 : BitVec 32 := 0#32
  let v139 : BitVec 1 := Scalar.cmpi .slt c1_i32_56 c0_i32_60
  let v140 : BitVec 32 := Scalar.extui v139
  let v141 : BitVec 32 := Scalar.subi v138 v140
  let v142 : BitVec 1 := Scalar.cmpi .ne v136 v141
  let v143 : BitVec 32 := Scalar.remsi v130 c1_i32_56
  let c0_i32_61 : BitVec 32 := 0#32
  let v144 : BitVec 1 := Scalar.cmpi .ne v143 c0_i32_61
  let v145 : BitVec 1 := Scalar.andi v142 v144
  let v131 : BitVec 32 := Scalar.divsi v130 c1_i32_56
  let c1_i32_62 : BitVec 32 := 1#32
  let v146 : BitVec 32 := Scalar.subi v131 c1_i32_62
  let v147 : BitVec 32 := Scalar.select v145 v146 v131
  let v148 : BitVec 32 := Scalar.subi v147 c0_i32_63
  let c1_i32_64 : BitVec 32 := 1#32
  let v150 : BitVec 32 := Scalar.divsi v148 c1_i32_64
  let v151 : BitVec 32 := Scalar.muli v150 c1_i32_64
  let v152 : BitVec 32 := Scalar.addi c0_i32_63 v151
  let c1_i32_65 : BitVec 32 := 1#32
  ⟨c0_i32_63, v152, c1_i32_65⟩
def k0_mult30 (i : grid0.Coords) (k0_t7 : Fin (k0_t7_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c1_i32_65 : BitVec 32 := 1#32
  let arg11 : BitVec 32 := Scf.iv c0_i32_63 c1_i32_65 k0_t7
  let v159 : BitVec 32 := Scalar.muli c1_i32_72 arg11
  let v160 : BitVec 32 := Scalar.addi v129 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off15 (i : grid0.Coords) (k0_t7 : Fin (k0_t7_loop i).trips) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c1_i32_65 : BitVec 32 := 1#32
  let arg11 : BitVec 32 := Scf.iv c0_i32_63 c1_i32_65 k0_t7
  let v159 : BitVec 32 := Scalar.muli c1_i32_72 arg11
  let v160 : BitVec 32 := Scalar.addi v129 v159
  let c0_i32_73 : BitVec 32 := 0#32
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off16 (i : grid0.Coords) (k0_t7 : Fin (k0_t7_loop i).trips) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c1_i32_65 : BitVec 32 := 1#32
  let arg11 : BitVec 32 := Scf.iv c0_i32_63 c1_i32_65 k0_t7
  let v159 : BitVec 32 := Scalar.muli c1_i32_72 arg11
  let v160 : BitVec 32 := Scalar.addi v129 v159
  let c0_i32_73 : BitVec 32 := 0#32
  let v161 : BitVec 32 := Scalar.addi v160 c0_i32_73
  let v171 : Index := Scalar.indexCast v161
  let c0_79 : Index := 0#32
  let c0_80 : Index := 0#32
  ![0, v171.toNat, 0, 0]
@[reducible] def k0_t8_loop (i : grid0.Coords) : Scf.Loop 32 :=
  let c0_i32_63 : BitVec 32 := 0#32
  let c32_i32_55 : BitVec 32 := 32#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let v130 : BitVec 32 := Scalar.subi c32_i32_55 v129
  let c0_i32_57 : BitVec 32 := 0#32
  let v132 : BitVec 1 := Scalar.cmpi .sgt v130 c0_i32_57
  let v133 : BitVec 32 := Scalar.extui v132
  let c0_i32_58 : BitVec 32 := 0#32
  let v134 : BitVec 1 := Scalar.cmpi .slt v130 c0_i32_58
  let v135 : BitVec 32 := Scalar.extui v134
  let v136 : BitVec 32 := Scalar.subi v133 v135
  let c1_i32_56 : BitVec 32 := 1#32
  let c0_i32_59 : BitVec 32 := 0#32
  let v137 : BitVec 1 := Scalar.cmpi .sgt c1_i32_56 c0_i32_59
  let v138 : BitVec 32 := Scalar.extui v137
  let c0_i32_60 : BitVec 32 := 0#32
  let v139 : BitVec 1 := Scalar.cmpi .slt c1_i32_56 c0_i32_60
  let v140 : BitVec 32 := Scalar.extui v139
  let v141 : BitVec 32 := Scalar.subi v138 v140
  let v142 : BitVec 1 := Scalar.cmpi .ne v136 v141
  let v143 : BitVec 32 := Scalar.remsi v130 c1_i32_56
  let c0_i32_61 : BitVec 32 := 0#32
  let v144 : BitVec 1 := Scalar.cmpi .ne v143 c0_i32_61
  let v145 : BitVec 1 := Scalar.andi v142 v144
  let v131 : BitVec 32 := Scalar.divsi v130 c1_i32_56
  let c1_i32_62 : BitVec 32 := 1#32
  let v146 : BitVec 32 := Scalar.subi v131 c1_i32_62
  let v147 : BitVec 32 := Scalar.select v145 v146 v131
  let v148 : BitVec 32 := Scalar.subi v147 c0_i32_63
  let c1_i32_64 : BitVec 32 := 1#32
  let v150 : BitVec 32 := Scalar.divsi v148 c1_i32_64
  let v151 : BitVec 32 := Scalar.muli v150 c1_i32_64
  let v152 : BitVec 32 := Scalar.addi c0_i32_63 v151
  let v149 : BitVec 32 := Scalar.addi c0_i32_63 v148
  let c1_i32_66 : BitVec 32 := 1#32
  ⟨v152, v149, c1_i32_66⟩
def k0_mult31 (i : grid0.Coords) (k0_t8 : Fin (k0_t8_loop i).trips) : BitVec 32 :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c32_i32_55 : BitVec 32 := 32#32
  let v130 : BitVec 32 := Scalar.subi c32_i32_55 v129
  let c0_i32_57 : BitVec 32 := 0#32
  let v132 : BitVec 1 := Scalar.cmpi .sgt v130 c0_i32_57
  let v133 : BitVec 32 := Scalar.extui v132
  let c0_i32_58 : BitVec 32 := 0#32
  let v134 : BitVec 1 := Scalar.cmpi .slt v130 c0_i32_58
  let v135 : BitVec 32 := Scalar.extui v134
  let v136 : BitVec 32 := Scalar.subi v133 v135
  let c1_i32_56 : BitVec 32 := 1#32
  let c0_i32_59 : BitVec 32 := 0#32
  let v137 : BitVec 1 := Scalar.cmpi .sgt c1_i32_56 c0_i32_59
  let v138 : BitVec 32 := Scalar.extui v137
  let c0_i32_60 : BitVec 32 := 0#32
  let v139 : BitVec 1 := Scalar.cmpi .slt c1_i32_56 c0_i32_60
  let v140 : BitVec 32 := Scalar.extui v139
  let v141 : BitVec 32 := Scalar.subi v138 v140
  let v142 : BitVec 1 := Scalar.cmpi .ne v136 v141
  let v143 : BitVec 32 := Scalar.remsi v130 c1_i32_56
  let c0_i32_61 : BitVec 32 := 0#32
  let v144 : BitVec 1 := Scalar.cmpi .ne v143 c0_i32_61
  let v145 : BitVec 1 := Scalar.andi v142 v144
  let v131 : BitVec 32 := Scalar.divsi v130 c1_i32_56
  let c1_i32_62 : BitVec 32 := 1#32
  let v146 : BitVec 32 := Scalar.subi v131 c1_i32_62
  let v147 : BitVec 32 := Scalar.select v145 v146 v131
  let v148 : BitVec 32 := Scalar.subi v147 c0_i32_63
  let c1_i32_64 : BitVec 32 := 1#32
  let v150 : BitVec 32 := Scalar.divsi v148 c1_i32_64
  let v151 : BitVec 32 := Scalar.muli v150 c1_i32_64
  let v152 : BitVec 32 := Scalar.addi c0_i32_63 v151
  let c1_i32_66 : BitVec 32 := 1#32
  let arg11 : BitVec 32 := Scf.iv v152 c1_i32_66 k0_t8
  let v159 : BitVec 32 := Scalar.muli c1_i32_72 arg11
  let v160 : BitVec 32 := Scalar.addi v129 v159
  let c0_i32_73 : BitVec 32 := 0#32
  let v161 : BitVec 32 := Scalar.addi v160 c0_i32_73
  let c512_i32_74 : BitVec 32 := 512#32
  let v162 : BitVec 32 := Scalar.muli v161 c512_i32_74
  v162
def k0_off17 (i : grid0.Coords) (k0_t8 : Fin (k0_t8_loop i).trips) : Fin 2 → Nat :=
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c32_i32_55 : BitVec 32 := 32#32
  let v130 : BitVec 32 := Scalar.subi c32_i32_55 v129
  let c0_i32_57 : BitVec 32 := 0#32
  let v132 : BitVec 1 := Scalar.cmpi .sgt v130 c0_i32_57
  let v133 : BitVec 32 := Scalar.extui v132
  let c0_i32_58 : BitVec 32 := 0#32
  let v134 : BitVec 1 := Scalar.cmpi .slt v130 c0_i32_58
  let v135 : BitVec 32 := Scalar.extui v134
  let v136 : BitVec 32 := Scalar.subi v133 v135
  let c1_i32_56 : BitVec 32 := 1#32
  let c0_i32_59 : BitVec 32 := 0#32
  let v137 : BitVec 1 := Scalar.cmpi .sgt c1_i32_56 c0_i32_59
  let v138 : BitVec 32 := Scalar.extui v137
  let c0_i32_60 : BitVec 32 := 0#32
  let v139 : BitVec 1 := Scalar.cmpi .slt c1_i32_56 c0_i32_60
  let v140 : BitVec 32 := Scalar.extui v139
  let v141 : BitVec 32 := Scalar.subi v138 v140
  let v142 : BitVec 1 := Scalar.cmpi .ne v136 v141
  let v143 : BitVec 32 := Scalar.remsi v130 c1_i32_56
  let c0_i32_61 : BitVec 32 := 0#32
  let v144 : BitVec 1 := Scalar.cmpi .ne v143 c0_i32_61
  let v145 : BitVec 1 := Scalar.andi v142 v144
  let v131 : BitVec 32 := Scalar.divsi v130 c1_i32_56
  let c1_i32_62 : BitVec 32 := 1#32
  let v146 : BitVec 32 := Scalar.subi v131 c1_i32_62
  let v147 : BitVec 32 := Scalar.select v145 v146 v131
  let v148 : BitVec 32 := Scalar.subi v147 c0_i32_63
  let c1_i32_64 : BitVec 32 := 1#32
  let v150 : BitVec 32 := Scalar.divsi v148 c1_i32_64
  let v151 : BitVec 32 := Scalar.muli v150 c1_i32_64
  let v152 : BitVec 32 := Scalar.addi c0_i32_63 v151
  let c1_i32_66 : BitVec 32 := 1#32
  let arg11 : BitVec 32 := Scf.iv v152 c1_i32_66 k0_t8
  let v159 : BitVec 32 := Scalar.muli c1_i32_72 arg11
  let v160 : BitVec 32 := Scalar.addi v129 v159
  let c0_i32_73 : BitVec 32 := 0#32
  let v161 : BitVec 32 := Scalar.addi v160 c0_i32_73
  let c512_i32_74 : BitVec 32 := 512#32
  let v162 : BitVec 32 := Scalar.muli v161 c512_i32_74
  let v163 : BitVec 32 := v162
  let v164 : Index := Scalar.indexCast v163
  let c0_75 : Index := 0#32
  ![v164.toNat, 0]
def k0_off18 (i : grid0.Coords) (k0_t8 : Fin (k0_t8_loop i).trips) : Fin 4 → Nat :=
  let c0_78 : Index := 0#32
  let arg1 : BitVec 32 := BitVec.ofNat 32 (i 1).val
  let c1_i32 : BitVec 32 := 1#32
  let v48 : BitVec 32 := Scalar.addi arg1 c1_i32
  let c8_i32_30 : BitVec 32 := 8#32
  let c32_i32 : BitVec 32 := 32#32
  let v49 : BitVec 32 := Scalar.subi c32_i32 v48
  let c0_i32_20 : BitVec 32 := 0#32
  let v51 : BitVec 1 := Scalar.cmpi .sgt v49 c0_i32_20
  let v52 : BitVec 32 := Scalar.extui v51
  let c0_i32_21 : BitVec 32 := 0#32
  let v53 : BitVec 1 := Scalar.cmpi .slt v49 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v49 c8_i32
  let c0_i32_24 : BitVec 32 := 0#32
  let v63 : BitVec 1 := Scalar.cmpi .ne v62 c0_i32_24
  let v64 : BitVec 1 := Scalar.andi v61 v63
  let v50 : BitVec 32 := Scalar.divsi v49 c8_i32
  let c1_i32_25 : BitVec 32 := 1#32
  let v65 : BitVec 32 := Scalar.subi v50 c1_i32_25
  let v66 : BitVec 32 := Scalar.select v64 v65 v50
  let v74 : BitVec 32 := Scalar.muli c8_i32_30 v66
  let v75 : BitVec 32 := Scalar.addi v48 v74
  let c4_i32_42 : BitVec 32 := 4#32
  let c32_i32_31 : BitVec 32 := 32#32
  let v76 : BitVec 32 := Scalar.subi c32_i32_31 v75
  let c0_i32_32 : BitVec 32 := 0#32
  let v78 : BitVec 1 := Scalar.cmpi .sgt v76 c0_i32_32
  let v79 : BitVec 32 := Scalar.extui v78
  let c0_i32_33 : BitVec 32 := 0#32
  let v80 : BitVec 1 := Scalar.cmpi .slt v76 c0_i32_33
  let v81 : BitVec 32 := Scalar.extui v80
  let v82 : BitVec 32 := Scalar.subi v79 v81
  let c4_i32 : BitVec 32 := 4#32
  let c0_i32_34 : BitVec 32 := 0#32
  let v83 : BitVec 1 := Scalar.cmpi .sgt c4_i32 c0_i32_34
  let v84 : BitVec 32 := Scalar.extui v83
  let c0_i32_35 : BitVec 32 := 0#32
  let v85 : BitVec 1 := Scalar.cmpi .slt c4_i32 c0_i32_35
  let v86 : BitVec 32 := Scalar.extui v85
  let v87 : BitVec 32 := Scalar.subi v84 v86
  let v88 : BitVec 1 := Scalar.cmpi .ne v82 v87
  let v89 : BitVec 32 := Scalar.remsi v76 c4_i32
  let c0_i32_36 : BitVec 32 := 0#32
  let v90 : BitVec 1 := Scalar.cmpi .ne v89 c0_i32_36
  let v91 : BitVec 1 := Scalar.andi v88 v90
  let v77 : BitVec 32 := Scalar.divsi v76 c4_i32
  let c1_i32_37 : BitVec 32 := 1#32
  let v92 : BitVec 32 := Scalar.subi v77 c1_i32_37
  let v93 : BitVec 32 := Scalar.select v91 v92 v77
  let v101 : BitVec 32 := Scalar.muli c4_i32_42 v93
  let v102 : BitVec 32 := Scalar.addi v75 v101
  let c2_i32_54 : BitVec 32 := 2#32
  let c32_i32_43 : BitVec 32 := 32#32
  let v103 : BitVec 32 := Scalar.subi c32_i32_43 v102
  let c0_i32_44 : BitVec 32 := 0#32
  let v105 : BitVec 1 := Scalar.cmpi .sgt v103 c0_i32_44
  let v106 : BitVec 32 := Scalar.extui v105
  let c0_i32_45 : BitVec 32 := 0#32
  let v107 : BitVec 1 := Scalar.cmpi .slt v103 c0_i32_45
  let v108 : BitVec 32 := Scalar.extui v107
  let v109 : BitVec 32 := Scalar.subi v106 v108
  let c2_i32 : BitVec 32 := 2#32
  let c0_i32_46 : BitVec 32 := 0#32
  let v110 : BitVec 1 := Scalar.cmpi .sgt c2_i32 c0_i32_46
  let v111 : BitVec 32 := Scalar.extui v110
  let c0_i32_47 : BitVec 32 := 0#32
  let v112 : BitVec 1 := Scalar.cmpi .slt c2_i32 c0_i32_47
  let v113 : BitVec 32 := Scalar.extui v112
  let v114 : BitVec 32 := Scalar.subi v111 v113
  let v115 : BitVec 1 := Scalar.cmpi .ne v109 v114
  let v116 : BitVec 32 := Scalar.remsi v103 c2_i32
  let c0_i32_48 : BitVec 32 := 0#32
  let v117 : BitVec 1 := Scalar.cmpi .ne v116 c0_i32_48
  let v118 : BitVec 1 := Scalar.andi v115 v117
  let v104 : BitVec 32 := Scalar.divsi v103 c2_i32
  let c1_i32_49 : BitVec 32 := 1#32
  let v119 : BitVec 32 := Scalar.subi v104 c1_i32_49
  let v120 : BitVec 32 := Scalar.select v118 v119 v104
  let v128 : BitVec 32 := Scalar.muli c2_i32_54 v120
  let v129 : BitVec 32 := Scalar.addi v102 v128
  let c1_i32_72 : BitVec 32 := 1#32
  let c0_i32_63 : BitVec 32 := 0#32
  let c32_i32_55 : BitVec 32 := 32#32
  let v130 : BitVec 32 := Scalar.subi c32_i32_55 v129
  let c0_i32_57 : BitVec 32 := 0#32
  let v132 : BitVec 1 := Scalar.cmpi .sgt v130 c0_i32_57
  let v133 : BitVec 32 := Scalar.extui v132
  let c0_i32_58 : BitVec 32 := 0#32
  let v134 : BitVec 1 := Scalar.cmpi .slt v130 c0_i32_58
  let v135 : BitVec 32 := Scalar.extui v134
  let v136 : BitVec 32 := Scalar.subi v133 v135
  let c1_i32_56 : BitVec 32 := 1#32
  let c0_i32_59 : BitVec 32 := 0#32
  let v137 : BitVec 1 := Scalar.cmpi .sgt c1_i32_56 c0_i32_59
  let v138 : BitVec 32 := Scalar.extui v137
  let c0_i32_60 : BitVec 32 := 0#32
  let v139 : BitVec 1 := Scalar.cmpi .slt c1_i32_56 c0_i32_60
  let v140 : BitVec 32 := Scalar.extui v139
  let v141 : BitVec 32 := Scalar.subi v138 v140
  let v142 : BitVec 1 := Scalar.cmpi .ne v136 v141
  let v143 : BitVec 32 := Scalar.remsi v130 c1_i32_56
  let c0_i32_61 : BitVec 32 := 0#32
  let v144 : BitVec 1 := Scalar.cmpi .ne v143 c0_i32_61
  let v145 : BitVec 1 := Scalar.andi v142 v144
  let v131 : BitVec 32 := Scalar.divsi v130 c1_i32_56
  let c1_i32_62 : BitVec 32 := 1#32
  let v146 : BitVec 32 := Scalar.subi v131 c1_i32_62
  let v147 : BitVec 32 := Scalar.select v145 v146 v131
  let v148 : BitVec 32 := Scalar.subi v147 c0_i32_63
  let c1_i32_64 : BitVec 32 := 1#32
  let v150 : BitVec 32 := Scalar.divsi v148 c1_i32_64
  let v151 : BitVec 32 := Scalar.muli v150 c1_i32_64
  let v152 : BitVec 32 := Scalar.addi c0_i32_63 v151
  let c1_i32_66 : BitVec 32 := 1#32
  let arg11 : BitVec 32 := Scf.iv v152 c1_i32_66 k0_t8
  let v159 : BitVec 32 := Scalar.muli c1_i32_72 arg11
  let v160 : BitVec 32 := Scalar.addi v129 v159
  let c0_i32_73 : BitVec 32 := 0#32
  let v161 : BitVec 32 := Scalar.addi v160 c0_i32_73
  let v171 : Index := Scalar.indexCast v161
  let c0_79 : Index := 0#32
  let c0_80 : Index := 0#32
  ![0, v171.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnKernelIdeal.lean ====
variable {F : FTy → Type} [FloatOps F] [Named F]
def κ : String → Option EReal := fun
  | "ln_2" => some ((Real.log 2 : ℝ) : EReal)
  | "mask" => some ⊥
  | _ => none
-- ==== AttnReferenceIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩

abbrev nBuf : Space → Nat
  | .hbm => 90
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .i1⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .i1⟩
  | .hbm, ⟨36, _⟩ => ⟨S_, .f32⟩
  | .hbm, ⟨37, _⟩ => ⟨S8x16384, .f32⟩
  | .hbm, ⟨38, _⟩ => ⟨S8x16384, .i1⟩
  | .hbm, ⟨39, _⟩ => ⟨S_, .f32⟩
  | .hbm, ⟨40, _⟩ => ⟨S8x16384, .f32⟩
  | .hbm, ⟨41, _⟩ => ⟨S_, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x1, .f32⟩
  | .hbm, ⟨57, _⟩ => ⟨S_, .f32⟩
  | .hbm, ⟨58, _⟩ => ⟨S8x16384x1, .f32⟩
  | .hbm, ⟨59, _⟩ => ⟨S8x16384x1, .f32⟩
  | .hbm, ⟨60, _⟩ => ⟨S8x64x16384, .f32⟩
  | .hbm, ⟨61, _⟩ => ⟨S16384x8x64, .f32⟩
  | .hbm, ⟨62, _⟩ => ⟨S8x64x16384, .f32⟩
  | .hbm, ⟨63, _⟩ => ⟨S8x16384x16384, .f32⟩
  | .hbm, ⟨64, _⟩ => ⟨S8x64x16384, .f32⟩
  | .hbm, ⟨65, _⟩ => ⟨S16384x8x64, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S_, .f32⟩
  | .hbm, ⟨70, _⟩ => ⟨S8x16384, .f32⟩
  | .hbm, ⟨71, _⟩ => ⟨S8x16384x1, .f32⟩
  | .hbm, ⟨72, _⟩ => ⟨S8x16384x1, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x16384, .f32⟩
  | .hbm, ⟨78, _⟩ => ⟨S8x16384x16384, .f32⟩
  | .hbm, ⟨79, _⟩ => ⟨S8x16384x16384, .f32⟩
  | .hbm, ⟨80, _⟩ => ⟨S_, .f32⟩
  | .hbm, ⟨81, _⟩ => ⟨S8x16384x16384, .f32⟩
  | .hbm, ⟨82, _⟩ => ⟨S8x16384x16384, .f32⟩
  | .hbm, ⟨83, _⟩ => ⟨S_, .f32⟩
  | .hbm, ⟨84, _⟩ => ⟨S8x16384x16384, .f32⟩
  | .hbm, ⟨85, _⟩ => ⟨S8x16384x16384, .f32⟩
  | .hbm, ⟨86, _⟩ => ⟨S8x16384x96, .f32⟩
  | .hbm, ⟨87, _⟩ => ⟨S16384x8x96, .f32⟩
  | .hbm, ⟨88, _⟩ => ⟨S8x16384x96, .f32⟩
  | .hbm, ⟨89, _⟩ => ⟨S16384x8x96, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== AttnfKernel.lean ====
abbrev S16384x8x96 : Shape := ⟨3, ![16384, 8, 96]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S8x32x1x512 : Shape := ⟨4, ![8, 32, 1, 512]⟩
abbrev S512x128 : Shape := ⟨2, ![512, 128]⟩
abbrev S16384x128 : Shape := ⟨2, ![16384, 128]⟩
abbrev S1x1x1x512 : Shape := ⟨4, ![1, 1, 1, 512]⟩
abbrev S512x1 : Shape := ⟨2, ![512, 1]⟩
abbrev S512x512 : Shape := ⟨2, ![512, 512]⟩
abbrev S512 : Shape := ⟨1, ![512]⟩
abbrev S128x512 : Shape := ⟨2, ![128, 512]⟩
abbrev S1x512 : Shape := ⟨2, ![1, 512]⟩

abbrev nBuf : Space → Nat
  | .hbm => 58
  | .vmem => 10
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .i32⟩
  | .hbm, ⟨4, _⟩ => ⟨S_, .f32⟩
  | .hbm, ⟨5, _⟩ => ⟨S16384x8x128, .f32⟩
  | .hbm, ⟨6, _⟩ => ⟨S16384x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S16384x1024, .i32⟩
  | .hbm, ⟨22, _⟩ => ⟨S16384x1024, .i32⟩
  | .hbm, ⟨23, _⟩ => ⟨S_, .i32⟩
  | .hbm, ⟨24, _⟩ => ⟨S16384x1024, .i32⟩
  | .hbm, ⟨25, _⟩ => ⟨S16384x1024, .i1⟩
  | .hbm, ⟨26, _⟩ => ⟨S_, .i32⟩
  | .hbm, ⟨27, _⟩ => ⟨S16384x1024, .i32⟩
  | .hbm, ⟨28, _⟩ => ⟨S16384x1024, .i1⟩
  | .hbm, ⟨29, _⟩ => ⟨S_, .i32⟩
  | .hbm, ⟨30, _⟩ => ⟨S_, .i1⟩
  | .hbm, ⟨31, _⟩ => ⟨S16384x1024, .i1⟩
  | .hbm, ⟨32, _⟩ => ⟨S16384x1024, .i1⟩
  | .hbm, ⟨33, _⟩ => ⟨S16384x1024, .i1⟩
  | .hbm, ⟨34, _⟩ => ⟨S16384x1024, .i32⟩
  | .hbm, ⟨35, _⟩ => ⟨S16384x1024, .i32⟩
  | .hbm, ⟨36, _⟩ => ⟨S16384x1024, .i32⟩
  | .hbm, ⟨37, _⟩ => ⟨S_, .i32⟩
  | .hbm, ⟨38, _⟩ => ⟨S16384x1024, .i32⟩
  | .hbm, ⟨39, _⟩ => ⟨S16384x1024, .i1⟩
  | .hbm, ⟨40, _⟩ => ⟨S_, .i32⟩
  | .hbm, ⟨41, _⟩ => ⟨S_, .f32⟩
  | .hbm, ⟨42, _⟩ => ⟨S16384x8x128, .f32⟩
  | .hbm, ⟨43, _⟩ => ⟨S16384x1024, .f32⟩
  | .hbm, ⟨44, _⟩ => ⟨S_, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S_, .i32⟩
  | .hbm, ⟨50, _⟩ => ⟨S_, .f32⟩
  | .hbm, ⟨51, _⟩ => ⟨S16384x8x128, .f32⟩
  | .hbm, ⟨52, _⟩ => ⟨S16384x1024, .f32⟩
  | .hbm, ⟨53, _⟩ => ⟨S16384x1024, .bf16⟩
  | .hbm, ⟨54, _⟩ => ⟨S16384x1024, .f32⟩
  | .hbm, ⟨55, _⟩ => ⟨S8x32x1x512, .f32⟩
  | .hbm, ⟨56, _⟩ => ⟨S16384x8x128, .f32⟩
  | .hbm, ⟨57, _⟩ => ⟨S16384x8x64, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .f32⟩
  | .local _ .vmem, ⟨7, _⟩ => ⟨S512x128, .f32⟩
  | .local _ .vmem, ⟨8, _⟩ => ⟨S1x1x1x512, .f32⟩
  | .local _ .vmem, ⟨9, _⟩ => ⟨S1x1x1x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_v5 : Ref sig .tc := ⟨.hbm, 24, rfl⟩
abbrev main_call1_v6 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_c_3 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_call2_v0 : Ref sig .tc := ⟨.hbm, 41, rfl⟩
abbrev main_v11 : Ref sig .tc := ⟨.hbm, 42, rfl⟩
abbrev main_v12 : Ref sig .tc := ⟨.hbm, 43, rfl⟩
abbrev main_cst_4 : Ref sig .tc := ⟨.hbm, 44, rfl⟩
abbrev main_call3_v0 : Ref sig .tc := ⟨.hbm, 45, rfl⟩
abbrev main_call3_v1 : Ref sig .tc := ⟨.hbm, 46, rfl⟩
abbrev main_v13 : Ref sig .tc := ⟨.hbm, 47, rfl⟩
abbrev main_v14 : Ref sig .tc := ⟨.hbm, 48, rfl⟩
abbrev main_c_5 : Ref sig .tc := ⟨.hbm, 49, rfl⟩
abbrev main_call4_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18_0 : Ref sig .tc := ⟨.hbm, 54, rfl⟩
abbrev main_v18_1 : Ref sig .tc := ⟨.hbm, 55, rfl⟩
abbrev main_v19 : Ref sig .tc := ⟨.hbm, 56, rfl⟩
abbrev main_v20 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_mult1 (i : grid0.Coords) (k0_t1 : Fin (k0_t1_loop i).trips) : BitVec 32 :=
  let c0_i32_71 : BitVec 32 := 0#32
  let c16_i32_70 : BitVec 32 := 16#32
  let c0_i32_7 : BitVec 32 := 0#32
  let c1_i32_9 : BitVec 32 := 1#32
  let arg7 : BitVec 32 := Scf.iv c0_i32_7 c1_i32_9 k0_t1
  let v179 : BitVec 32 := Scalar.muli c16_i32_70 arg7
  let v180 : BitVec 32 := Scalar.addi c0_i32_71 v179
  let c0_i32_72 : BitVec 32 := 0#32
  let v181 : BitVec 32 := Scalar.addi v180 c0_i32_72
  let c512_i32_73 : BitVec 32 := 512#32
  let v182 : BitVec 32 := Scalar.muli v181 c512_i32_73
  v182
def k0_off1 (i : grid0.Coords) (k0_t1 : Fin (k0_t1_loop i).trips) (c0_i32_72 : BitVec 32) : Fin 2 → Nat :=
  let c0_i32_71 : BitVec 32 := 0#32
  let c16_i32_70 : BitVec 32 := 16#32
  let c0_i32_7 : BitVec 32 := 0#32
  let c1_i32_9 : BitVec 32 := 1#32
  let arg7 : BitVec 32 := Scf.iv c0_i32_7 c1_i32_9 k0_t1
  let v179 : BitVec 32 := Scalar.muli c16_i32_70 arg7
  let v180 : BitVec 32 := Scalar.addi c0_i32_71 v179
  let v181 : BitVec 32 := Scalar.addi v180 c0_i32_72
  let c512_i32_73 : BitVec 32 := 512#32
  let v182 : BitVec 32 := Scalar.muli v181 c512_i32_73
  let v183 : BitVec 32 := v182
  let v184 : Index := Scalar.indexCast v183
  let c0_74 : Index := 0#32
  ![v184.toNat, 0]
def k0_mult2 (i : grid0.Coords) (k0_t1 : Fin (k0_t1_loop i).trips) : BitVec 32 :=
  let c0_i32_80 : BitVec 32 := 0#32
  let c16_i32_79 : BitVec 32 := 16#32
  let c0_i32_7 : BitVec 32 := 0#32
  let c1_i32_9 : BitVec 32 := 1#32
  let arg7 : BitVec 32 := Scf.iv c0_i32_7 c1_i32_9 k0_t1
  let v204 : BitVec 32 := Scalar.muli c16_i32_79 arg7
  let v205 : BitVec 32 := Scalar.addi c0_i32_80 v204
  let c1_i32_81 : BitVec 32 := 1#32
  let v206 : BitVec 32 := Scalar.addi v205 c1_i32_81
  let c512_i32_82 : BitVec 32 := 512#32
  let v207 : BitVec 32 := Scalar.muli v206 c512_i32_82
  v207
def k0_mult3 (i : grid0.Coords) (k0_t1 : Fin (k0_t1_loop i).trips) : BitVec 32 :=
  let c0_i32_89 : BitVec 32 := 0#32
  let c16_i32_88 : BitVec 32 := 16#32
  let c0_i32_7 : BitVec 32 := 0#32
  let c1_i32_9 : BitVec 32 := 1#32
  let arg7 : BitVec 32 := Scf.iv c0_i32_7 c1_i32_9 k0_t1
  let v229 : BitVec 32 := Scalar.muli c16_i32_88 arg7
  let v230 : BitVec 32 := Scalar.addi c0_i32_89 v229
  let c2_i32_90 : BitVec 32 := 2#32
  let v231 : BitVec 32 := Scalar.addi v230 c2_i32_90
  let c512_i32_91 : BitVec 32 := 512#32
  let v232 : BitVec 32 := Scalar.muli v231 c512_i32_91
  v232
def k0_mult4 (i : grid0.Coords) (k0_t1 : Fin (k0_t1_loop i).trips) : BitVec 32 :=
  let c0_i32_98 : BitVec 32 := 0#32
  let c16_i32_97 : BitVec 32 := 16#32
  let c0_i32_7 : BitVec 32 := 0#32
  let c1_i32_9 : BitVec 32 := 1#32
  let arg7 : BitVec 32 := Scf.iv c0_i32_7 c1_i32_9 k0_t1
  let v254 : BitVec 32 := Scalar.muli c16_i32_97 arg7
  let v255 : BitVec 32 := Scalar.addi c0_i32_98 v254
  let c3_i32 : BitVec 32 := 3#32
  let v256 : BitVec 32 := Scalar.addi v255 c3_i32
  let c512_i32_99 : BitVec 32 := 512#32
  let v257 : BitVec 32 := Scalar.muli v256 c512_i32_99
  v257
def k0_mult5 (i : grid0.Coords) (k0_t1 : Fin (k0_t1_loop i).trips) : BitVec 32 :=
  let c0_i32_106 : BitVec 32 := 0#32
  let c16_i32_105 : BitVec 32 := 16#32
  let c0_i32_7 : BitVec 32 := 0#32
  let c1_i32_9 : BitVec 32 := 1#32
  let arg7 : BitVec 32 := Scf.iv c0_i32_7 c1_i32_9 k0_t1
  let v279 : BitVec 32 := Scalar.muli c16_i32_105 arg7
  let v280 : BitVec 32 := Scalar.addi c0_i32_106 v279
  let c4_i32_107 : BitVec 32 := 4#32
  let v281 : BitVec 32 := Scalar.addi v280 c4_i32_107
  let c512_i32_108 : BitVec 32 := 512#32
  let v282 : BitVec 32 := Scalar.muli v281 c512_i32_108
  v282
def k0_mult6 (i : grid0.Coords) (k0_t1 : Fin (k0_t1_loop i).trips) : BitVec 32 :=
  let c0_i32_115 : BitVec 32 := 0#32
  let c16_i32_114 : BitVec 32 := 16#32
  let c0_i32_7 : BitVec 32 := 0#32
  let c1_i32_9 : BitVec 32 := 1#32
  let arg7 : BitVec 32 := Scf.iv c0_i32_7 c1_i32_9 k0_t1
  let v304 : BitVec 32 := Scalar.muli c16_i32_114 arg7
  let v305 : BitVec 32 := Scalar.addi c0_i32_115 v304
  let c5_i32 : BitVec 32 := 5#32
  let v306 : BitVec 32 := Scalar.addi v305 c5_i32
  let c512_i32_116 : BitVec 32 := 512#32
  let v307 : BitVec 32 := Scalar.muli v306 c512_i32_116
  v307
def k0_mult7 (i : grid0.Coords) (k0_t1 : Fin (k0_t1_loop i).trips) : BitVec 32 :=
  let c0_i32_123 : BitVec 32 := 0#32
  let c16_i32_122 : BitVec 32 := 16#32
  let c0_i32_7 : BitVec 32 := 0#32
  let c1_i32_9 : BitVec 32 := 1#32
  let arg7 : BitVec 32 := Scf.iv c0_i32_7 c1_i32_9 k0_t1
  let v329 : BitVec 32 := Scalar.muli c16_i32_122 arg7
  let v330 : BitVec 32 := Scalar.addi c0_i32_123 v329
  let c6_i32 : BitVec 32 := 6#32
  let v331 : BitVec 32 := Scalar.addi v330 c6_i32
  let c512_i32_124 : BitVec 32 := 512#32
  let v332 : BitVec 32 := Scalar.muli v331 c512_i32_124
  v332
def k0_mult8 (i : grid0.Coords) (k0_t1 : Fin (k0_t1_loop i).trips) : BitVec 32 :=
  let c0_i32_131 : BitVec 32 := 0#32
  let c16_i32_130 : BitVec 32 := 16#32
  let c0_i32_7 : BitVec 32 := 0#32
  let c1_i32_9 : BitVec 32 := 1#32
  let arg7 : BitVec 32 := Scf.iv c0_i32_7 c1_i32_9 k0_t1
  let v354 : BitVec 32 := Scalar.muli c16_i32_130 arg7
  let v355 : BitVec 32 := Scalar.addi c0_i32_131 v354
  let c7_i32 : BitVec 32 := 7#32
  let v356 : BitVec 32 := Scalar.addi v355 c7_i32
  let c512_i32_132 : BitVec 32 := 512#32
  let v357 : BitVec 32 := Scalar.muli v356 c512_i32_132
  v357
def k0_mult9 (i : grid0.Coords) (k0_t1 : Fin (k0_t1_loop i).trips) : BitVec 32 :=
  let c0_i32_139 : BitVec 32 := 0#32
  let c16_i32_138 : BitVec 32 := 16#32
  let c0_i32_7 : BitVec 32 := 0#32
  let c1_i32_9 : BitVec 32 := 1#32
  let arg7 : BitVec 32 := Scf.iv c0_i32_7 c1_i32_9 k0_t1
  let v379 : BitVec 32 := Scalar.muli c16_i32_138 arg7
  let v380 : BitVec 32 := Scalar.addi c0_i32_139 v379
  let c8_i32_140 : BitVec 32 := 8#32
  let v381 : BitVec 32 := Scalar.addi v380 c8_i32_140
  let c512_i32_141 : BitVec 32 := 512#32
  let v382 : BitVec 32 := Scalar.muli v381 c512_i32_141
  v382
def k0_mult10 (i : grid0.Coords) (k0_t1 : Fin (k0_t1_loop i).trips) : BitVec 32 :=
  let c0_i32_148 : BitVec 32 := 0#32
  let c16_i32_147 : BitVec 32 := 16#32
  let c0_i32_7 : BitVec 32 := 0#32
  let c1_i32_9 : BitVec 32 := 1#32
  let arg7 : BitVec 32 := Scf.iv c0_i32_7 c1_i32_9 k0_t1
  let v404 : BitVec 32 := Scalar.muli c16_i32_147 arg7
  let v405 : BitVec 32 := Scalar.addi c0_i32_148 v404
  let c9_i32 : BitVec 32 := 9#32
  let v406 : BitVec 32 := Scalar.addi v405 c9_i32
  let c512_i32_149 : BitVec 32 := 512#32
  let v407 : BitVec 32 := Scalar.muli v406 c512_i32_149
  v407
def k0_mult11 (i : grid0.Coords) (k0_t1 : Fin (k0_t1_loop i).trips) : BitVec 32 :=
  let c0_i32_156 : BitVec 32 := 0#32
  let c16_i32_155 : BitVec 32 := 16#32
  let c0_i32_7 : BitVec 32 := 0#32
  let c1_i32_9 : BitVec 32 := 1#32
  let arg7 : BitVec 32 := Scf.iv c0_i32_7 c1_i32_9 k0_t1
  let v429 : BitVec 32 := Scalar.muli c16_i32_155 arg7
  let v430 : BitVec 32 := Scalar.addi c0_i32_156 v429
  let c10_i32 : BitVec 32 := 10#32
  let v431 : BitVec 32 := Scalar.addi v430 c10_i32
  let c512_i32_157 : BitVec 32 := 512#32
  let v432 : BitVec 32 := Scalar.muli v431 c512_i32_157
  v432
def k0_mult12 (i : grid0.Coords) (k0_t1 : Fin (k0_t1_loop i).trips) : BitVec 32 :=
  let c0_i32_164 : BitVec 32 := 0#32
  let c16_i32_163 : BitVec 32 := 16#32
  let c0_i32_7 : BitVec 32 := 0#32
  let c1_i32_9 : BitVec 32 := 1#32
  let arg7 : BitVec 32 := Scf.iv c0_i32_7 c1_i32_9 k0_t1
  let v454 : BitVec 32 := Scalar.muli c16_i32_163 arg7
  let v455 : BitVec 32 := Scalar.addi c0_i32_164 v454
  let c11_i32 : BitVec 32 := 11#32
  let v456 : BitVec 32 := Scalar.addi v455 c11_i32
  let c512_i32_165 : BitVec 32 := 512#32
  let v457 : BitVec 32 := Scalar.muli v456 c512_i32_165
  v457
def k0_mult13 (i : grid0.Coords) (k0_t1 : Fin (k0_t1_loop i).trips) : BitVec 32 :=
  let c0_i32_172 : BitVec 32 := 0#32
  let c16_i32_171 : BitVec 32 := 16#32
  let c0_i32_7 : BitVec 32 := 0#32
  let c1_i32_9 : BitVec 32 := 1#32
  let arg7 : BitVec 32 := Scf.iv c0_i32_7 c1_i32_9 k0_t1
  let v479 : BitVec 32 := Scalar.muli c16_i32_171 arg7
  let v480 : BitVec 32 := Scalar.addi c0_i32_172 v479
  let c12_i32 : BitVec 32 := 12#32
  let v481 : BitVec 32 := Scalar.addi v480 c12_i32
  let c512_i32_173 : BitVec 32 := 512#32
  let v482 : BitVec 32 := Scalar.muli v481 c512_i32_173
  v482
def k0_mult14 (i : grid0.Coords) (k0_t1 : Fin (k0_t1_loop i).trips) : BitVec 32 :=
  let c0_i32_180 : BitVec 32 := 0#32
  let c16_i32_179 : BitVec 32 := 16#32
  let c0_i32_7 : BitVec 32 := 0#32
  let c1_i32_9 : BitVec 32 := 1#32
  let arg7 : BitVec 32 := Scf.iv c0_i32_7 c1_i32_9 k0_t1
  let v504 : BitVec 32 := Scalar.muli c16_i32_179 arg7
  let v505 : BitVec 32 := Scalar.addi c0_i32_180 v504
  let c13_i32 : BitVec 32 := 13#32
  let v506 : BitVec 32 := Scalar.addi v505 c13_i32
  let c512_i32_181 : BitVec 32 := 512#32
  let v507 : BitVec 32 := Scalar.muli v506 c512_i32_181
  v507
def k0_mult15 (i : grid0.Coords) (k0_t1 : Fin (k0_t1_loop i).trips) : BitVec 32 :=
  let c0_i32_188 : BitVec 32 := 0#32
  let c16_i32_187 : BitVec 32 := 16#32
  let c0_i32_7 : BitVec 32 := 0#32
  let c1_i32_9 : BitVec 32 := 1#32
  let arg7 : BitVec 32 := Scf.iv c0_i32_7 c1_i32_9 k0_t1
  let v529 : BitVec 32 := Scalar.muli c16_i32_187 arg7
  let v530 : BitVec 32 := Scalar.addi c0_i32_188 v529
  let c14_i32 : BitVec 32 := 14#32
  let v531 : BitVec 32 := Scalar.addi v530 c14_i32
  let c512_i32_189 : BitVec 32 := 512#32
  let v532 : BitVec 32 := Scalar.muli v531 c512_i32_189
  v532
def k0_mult16 (i : grid0.Coords) (k0_t1 : Fin (k0_t1_loop i).trips) : BitVec 32 :=
  let c0_i32_196 : BitVec 32 := 0#32
  let c16_i32_195 : BitVec 32 := 16#32
  let c0_i32_7 : BitVec 32 := 0#32
  let c1_i32_9 : BitVec 32 := 1#32
  let arg7 : BitVec 32 := Scf.iv c0_i32_7 c1_i32_9 k0_t1
  let v554 : BitVec 32 := Scalar.muli c16_i32_195 arg7
  let v555 : BitVec 32 := Scalar.addi c0_i32_196 v554
  let c15_i32 : BitVec 32 := 15#32
  let v556 : BitVec 32 := Scalar.addi v555 c15_i32
  let c512_i32_197 : BitVec 32 := 512#32
  let v557 : BitVec 32 := Scalar.muli v556 c512_i32_197
  v557
@[reducible] def k0_t2_loop (i : grid0.Coords) : Scf.Loop 32 :=
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_mult17 (i : grid0.Coords) (k0_t2 : Fin (k0_t2_loop i).trips) : BitVec 32 :=
  let c0_i32_71 : BitVec 32 := 0#32
  let c16_i32_70 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v179 : BitVec 32 := Scalar.muli c16_i32_70 arg7
  let v180 : BitVec 32 := Scalar.addi c0_i32_71 v179
  let c0_i32_72 : BitVec 32 := 0#32
  let v181 : BitVec 32 := Scalar.addi v180 c0_i32_72
  let c512_i32_73 : BitVec 32 := 512#32
  let v182 : BitVec 32 := Scalar.muli v181 c512_i32_73
  v182
def k0_off2 (i : grid0.Coords) (k0_t2 : Fin (k0_t2_loop i).trips) (c0_i32_72 : BitVec 32) : Fin 2 → Nat :=
  let c0_i32_71 : BitVec 32 := 0#32
  let c16_i32_70 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v179 : BitVec 32 := Scalar.muli c16_i32_70 arg7
  let v180 : BitVec 32 := Scalar.addi c0_i32_71 v179
  let v181 : BitVec 32 := Scalar.addi v180 c0_i32_72
  let c512_i32_73 : BitVec 32 := 512#32
  let v182 : BitVec 32 := Scalar.muli v181 c512_i32_73
  let v183 : BitVec 32 := v182
  let v184 : Index := Scalar.indexCast v183
  let c0_74 : Index := 0#32
  ![v184.toNat, 0]
def k0_mult18 (i : grid0.Coords) (k0_t2 : Fin (k0_t2_loop i).trips) : BitVec 32 :=
  let c0_i32_80 : BitVec 32 := 0#32
  let c16_i32_79 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v204 : BitVec 32 := Scalar.muli c16_i32_79 arg7
  let v205 : BitVec 32 := Scalar.addi c0_i32_80 v204
  let c1_i32_81 : BitVec 32 := 1#32
  let v206 : BitVec 32 := Scalar.addi v205 c1_i32_81
  let c512_i32_82 : BitVec 32 := 512#32
  let v207 : BitVec 32 := Scalar.muli v206 c512_i32_82
  v207
def k0_mult19 (i : grid0.Coords) (k0_t2 : Fin (k0_t2_loop i).trips) : BitVec 32 :=
  let c0_i32_89 : BitVec 32 := 0#32
  let c16_i32_88 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v229 : BitVec 32 := Scalar.muli c16_i32_88 arg7
  let v230 : BitVec 32 := Scalar.addi c0_i32_89 v229
  let c2_i32_90 : BitVec 32 := 2#32
  let v231 : BitVec 32 := Scalar.addi v230 c2_i32_90
  let c512_i32_91 : BitVec 32 := 512#32
  let v232 : BitVec 32 := Scalar.muli v231 c512_i32_91
  v232
def k0_mult20 (i : grid0.Coords) (k0_t2 : Fin (k0_t2_loop i).trips) : BitVec 32 :=
  let c0_i32_98 : BitVec 32 := 0#32
  let c16_i32_97 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v254 : BitVec 32 := Scalar.muli c16_i32_97 arg7
  let v255 : BitVec 32 := Scalar.addi c0_i32_98 v254
  let c3_i32 : BitVec 32 := 3#32
  let v256 : BitVec 32 := Scalar.addi v255 c3_i32
  let c512_i32_99 : BitVec 32 := 512#32
  let v257 : BitVec 32 := Scalar.muli v256 c512_i32_99
  v257
def k0_mult21 (i : grid0.Coords) (k0_t2 : Fin (k0_t2_loop i).trips) : BitVec 32 :=
  let c0_i32_106 : BitVec 32 := 0#32
  let c16_i32_105 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v279 : BitVec 32 := Scalar.muli c16_i32_105 arg7
  let v280 : BitVec 32 := Scalar.addi c0_i32_106 v279
  let c4_i32_107 : BitVec 32 := 4#32
  let v281 : BitVec 32 := Scalar.addi v280 c4_i32_107
  let c512_i32_108 : BitVec 32 := 512#32
  let v282 : BitVec 32 := Scalar.muli v281 c512_i32_108
  v282
def k0_mult22 (i : grid0.Coords) (k0_t2 : Fin (k0_t2_loop i).trips) : BitVec 32 :=
  let c0_i32_115 : BitVec 32 := 0#32
  let c16_i32_114 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v304 : BitVec 32 := Scalar.muli c16_i32_114 arg7
  let v305 : BitVec 32 := Scalar.addi c0_i32_115 v304
  let c5_i32 : BitVec 32 := 5#32
  let v306 : BitVec 32 := Scalar.addi v305 c5_i32
  let c512_i32_116 : BitVec 32 := 512#32
  let v307 : BitVec 32 := Scalar.muli v306 c512_i32_116
  v307
def k0_mult23 (i : grid0.Coords) (k0_t2 : Fin (k0_t2_loop i).trips) : BitVec 32 :=
  let c0_i32_123 : BitVec 32 := 0#32
  let c16_i32_122 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v329 : BitVec 32 := Scalar.muli c16_i32_122 arg7
  let v330 : BitVec 32 := Scalar.addi c0_i32_123 v329
  let c6_i32 : BitVec 32 := 6#32
  let v331 : BitVec 32 := Scalar.addi v330 c6_i32
  let c512_i32_124 : BitVec 32 := 512#32
  let v332 : BitVec 32 := Scalar.muli v331 c512_i32_124
  v332
def k0_mult24 (i : grid0.Coords) (k0_t2 : Fin (k0_t2_loop i).trips) : BitVec 32 :=
  let c0_i32_131 : BitVec 32 := 0#32
  let c16_i32_130 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v354 : BitVec 32 := Scalar.muli c16_i32_130 arg7
  let v355 : BitVec 32 := Scalar.addi c0_i32_131 v354
  let c7_i32 : BitVec 32 := 7#32
  let v356 : BitVec 32 := Scalar.addi v355 c7_i32
  let c512_i32_132 : BitVec 32 := 512#32
  let v357 : BitVec 32 := Scalar.muli v356 c512_i32_132
  v357
def k0_mult25 (i : grid0.Coords) (k0_t2 : Fin (k0_t2_loop i).trips) : BitVec 32 :=
  let c0_i32_139 : BitVec 32 := 0#32
  let c16_i32_138 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v379 : BitVec 32 := Scalar.muli c16_i32_138 arg7
  let v380 : BitVec 32 := Scalar.addi c0_i32_139 v379
  let c8_i32_140 : BitVec 32 := 8#32
  let v381 : BitVec 32 := Scalar.addi v380 c8_i32_140
  let c512_i32_141 : BitVec 32 := 512#32
  let v382 : BitVec 32 := Scalar.muli v381 c512_i32_141
  v382
def k0_mult26 (i : grid0.Coords) (k0_t2 : Fin (k0_t2_loop i).trips) : BitVec 32 :=
  let c0_i32_148 : BitVec 32 := 0#32
  let c16_i32_147 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v404 : BitVec 32 := Scalar.muli c16_i32_147 arg7
  let v405 : BitVec 32 := Scalar.addi c0_i32_148 v404
  let c9_i32 : BitVec 32 := 9#32
  let v406 : BitVec 32 := Scalar.addi v405 c9_i32
  let c512_i32_149 : BitVec 32 := 512#32
  let v407 : BitVec 32 := Scalar.muli v406 c512_i32_149
  v407
def k0_mult27 (i : grid0.Coords) (k0_t2 : Fin (k0_t2_loop i).trips) : BitVec 32 :=
  let c0_i32_156 : BitVec 32 := 0#32
  let c16_i32_155 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v429 : BitVec 32 := Scalar.muli c16_i32_155 arg7
  let v430 : BitVec 32 := Scalar.addi c0_i32_156 v429
  let c10_i32 : BitVec 32 := 10#32
  let v431 : BitVec 32 := Scalar.addi v430 c10_i32
  let c512_i32_157 : BitVec 32 := 512#32
  let v432 : BitVec 32 := Scalar.muli v431 c512_i32_157
  v432
def k0_mult28 (i : grid0.Coords) (k0_t2 : Fin (k0_t2_loop i).trips) : BitVec 32 :=
  let c0_i32_164 : BitVec 32 := 0#32
  let c16_i32_163 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v454 : BitVec 32 := Scalar.muli c16_i32_163 arg7
  let v455 : BitVec 32 := Scalar.addi c0_i32_164 v454
  let c11_i32 : BitVec 32 := 11#32
  let v456 : BitVec 32 := Scalar.addi v455 c11_i32
  let c512_i32_165 : BitVec 32 := 512#32
  let v457 : BitVec 32 := Scalar.muli v456 c512_i32_165
  v457
def k0_mult29 (i : grid0.Coords) (k0_t2 : Fin (k0_t2_loop i).trips) : BitVec 32 :=
  let c0_i32_172 : BitVec 32 := 0#32
  let c16_i32_171 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v479 : BitVec 32 := Scalar.muli c16_i32_171 arg7
  let v480 : BitVec 32 := Scalar.addi c0_i32_172 v479
  let c12_i32 : BitVec 32 := 12#32
  let v481 : BitVec 32 := Scalar.addi v480 c12_i32
  let c512_i32_173 : BitVec 32 := 512#32
  let v482 : BitVec 32 := Scalar.muli v481 c512_i32_173
  v482
def k0_mult30 (i : grid0.Coords) (k0_t2 : Fin (k0_t2_loop i).trips) : BitVec 32 :=
  let c0_i32_180 : BitVec 32 := 0#32
  let c16_i32_179 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v504 : BitVec 32 := Scalar.muli c16_i32_179 arg7
  let v505 : BitVec 32 := Scalar.addi c0_i32_180 v504
  let c13_i32 : BitVec 32 := 13#32
  let v506 : BitVec 32 := Scalar.addi v505 c13_i32
  let c512_i32_181 : BitVec 32 := 512#32
  let v507 : BitVec 32 := Scalar.muli v506 c512_i32_181
  v507
def k0_mult31 (i : grid0.Coords) (k0_t2 : Fin (k0_t2_loop i).trips) : BitVec 32 :=
  let c0_i32_188 : BitVec 32 := 0#32
  let c16_i32_187 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v529 : BitVec 32 := Scalar.muli c16_i32_187 arg7
  let v530 : BitVec 32 := Scalar.addi c0_i32_188 v529
  let c14_i32 : BitVec 32 := 14#32
  let v531 : BitVec 32 := Scalar.addi v530 c14_i32
  let c512_i32_189 : BitVec 32 := 512#32
  let v532 : BitVec 32 := Scalar.muli v531 c512_i32_189
  v532
def k0_mult32 (i : grid0.Coords) (k0_t2 : Fin (k0_t2_loop i).trips) : BitVec 32 :=
  let c0_i32_196 : BitVec 32 := 0#32
  let c16_i32_195 : BitVec 32 := 16#32
  let c0_i32_7 : BitVec 32 := 0#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.subi v21 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg7 : BitVec 32 := Scf.iv v26 c1_i32_10 k0_t2
  let v554 : BitVec 32 := Scalar.muli c16_i32_195 arg7
  let v555 : BitVec 32 := Scalar.addi c0_i32_196 v554
  let c15_i32 : BitVec 32 := 15#32
  let v556 : BitVec 32 := Scalar.addi v555 c15_i32
  let c512_i32_197 : BitVec 32 := 512#32
  let v557 : BitVec 32 := Scalar.muli v556 c512_i32_197
  v557
@[reducible] def k0_t3_loop (i : grid0.Coords) : Scf.Loop 32 :=
  let c0_i32_19 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_21 : BitVec 32 := 1#32
  ⟨c0_i32_19, v53, c1_i32_21⟩
def k0_mult33 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let c1_i32_21 : BitVec 32 := 1#32
  let arg7 : BitVec 32 := Scf.iv c0_i32_19 c1_i32_21 k0_t3
  let v179 : BitVec 32 := Scalar.muli c8_i32_70 arg7
  let v180 : BitVec 32 := Scalar.addi v30 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off3 (i : grid0.Coords) (k0_t3 : Fin (k0_t3_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let c1_i32_21 : BitVec 32 := 1#32
  let arg7 : BitVec 32 := Scf.iv c0_i32_19 c1_i32_21 k0_t3
  let v179 : BitVec 32 := Scalar.muli c8_i32_70 arg7
  let v180 : BitVec 32 := Scalar.addi v30 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult34 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_78 : BitVec 32 := 8#32
  let c0_i32_19 : BitVec 32 := 0#32
  let c1_i32_21 : BitVec 32 := 1#32
  let arg7 : BitVec 32 := Scf.iv c0_i32_19 c1_i32_21 k0_t3
  let v204 : BitVec 32 := Scalar.muli c8_i32_78 arg7
  let v205 : BitVec 32 := Scalar.addi v30 v204
  let c1_i32_79 : BitVec 32 := 1#32
  let v206 : BitVec 32 := Scalar.addi v205 c1_i32_79
  let c512_i32_80 : BitVec 32 := 512#32
  let v207 : BitVec 32 := Scalar.muli v206 c512_i32_80
  v207
def k0_mult35 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_86 : BitVec 32 := 8#32
  let c0_i32_19 : BitVec 32 := 0#32
  let c1_i32_21 : BitVec 32 := 1#32
  let arg7 : BitVec 32 := Scf.iv c0_i32_19 c1_i32_21 k0_t3
  let v229 : BitVec 32 := Scalar.muli c8_i32_86 arg7
  let v230 : BitVec 32 := Scalar.addi v30 v229
  let c2_i32_87 : BitVec 32 := 2#32
  let v231 : BitVec 32 := Scalar.addi v230 c2_i32_87
  let c512_i32_88 : BitVec 32 := 512#32
  let v232 : BitVec 32 := Scalar.muli v231 c512_i32_88
  v232
def k0_mult36 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_94 : BitVec 32 := 8#32
  let c0_i32_19 : BitVec 32 := 0#32
  let c1_i32_21 : BitVec 32 := 1#32
  let arg7 : BitVec 32 := Scf.iv c0_i32_19 c1_i32_21 k0_t3
  let v254 : BitVec 32 := Scalar.muli c8_i32_94 arg7
  let v255 : BitVec 32 := Scalar.addi v30 v254
  let c3_i32 : BitVec 32 := 3#32
  let v256 : BitVec 32 := Scalar.addi v255 c3_i32
  let c512_i32_95 : BitVec 32 := 512#32
  let v257 : BitVec 32 := Scalar.muli v256 c512_i32_95
  v257
def k0_mult37 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_101 : BitVec 32 := 8#32
  let c0_i32_19 : BitVec 32 := 0#32
  let c1_i32_21 : BitVec 32 := 1#32
  let arg7 : BitVec 32 := Scf.iv c0_i32_19 c1_i32_21 k0_t3
  let v279 : BitVec 32 := Scalar.muli c8_i32_101 arg7
  let v280 : BitVec 32 := Scalar.addi v30 v279
  let c4_i32_102 : BitVec 32 := 4#32
  let v281 : BitVec 32 := Scalar.addi v280 c4_i32_102
  let c512_i32_103 : BitVec 32 := 512#32
  let v282 : BitVec 32 := Scalar.muli v281 c512_i32_103
  v282
def k0_mult38 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_109 : BitVec 32 := 8#32
  let c0_i32_19 : BitVec 32 := 0#32
  let c1_i32_21 : BitVec 32 := 1#32
  let arg7 : BitVec 32 := Scf.iv c0_i32_19 c1_i32_21 k0_t3
  let v304 : BitVec 32 := Scalar.muli c8_i32_109 arg7
  let v305 : BitVec 32 := Scalar.addi v30 v304
  let c5_i32 : BitVec 32 := 5#32
  let v306 : BitVec 32 := Scalar.addi v305 c5_i32
  let c512_i32_110 : BitVec 32 := 512#32
  let v307 : BitVec 32 := Scalar.muli v306 c512_i32_110
  v307
def k0_mult39 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_116 : BitVec 32 := 8#32
  let c0_i32_19 : BitVec 32 := 0#32
  let c1_i32_21 : BitVec 32 := 1#32
  let arg7 : BitVec 32 := Scf.iv c0_i32_19 c1_i32_21 k0_t3
  let v329 : BitVec 32 := Scalar.muli c8_i32_116 arg7
  let v330 : BitVec 32 := Scalar.addi v30 v329
  let c6_i32 : BitVec 32 := 6#32
  let v331 : BitVec 32 := Scalar.addi v330 c6_i32
  let c512_i32_117 : BitVec 32 := 512#32
  let v332 : BitVec 32 := Scalar.muli v331 c512_i32_117
  v332
def k0_mult40 (i : grid0.Coords) (k0_t3 : Fin (k0_t3_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_123 : BitVec 32 := 8#32
  let c0_i32_19 : BitVec 32 := 0#32
  let c1_i32_21 : BitVec 32 := 1#32
  let arg7 : BitVec 32 := Scf.iv c0_i32_19 c1_i32_21 k0_t3
  let v354 : BitVec 32 := Scalar.muli c8_i32_123 arg7
  let v355 : BitVec 32 := Scalar.addi v30 v354
  let c7_i32 : BitVec 32 := 7#32
  let v356 : BitVec 32 := Scalar.addi v355 c7_i32
  let c512_i32_124 : BitVec 32 := 512#32
  let v357 : BitVec 32 := Scalar.muli v356 c512_i32_124
  v357
@[reducible] def k0_t4_loop (i : grid0.Coords) : Scf.Loop 32 :=
  let c0_i32_19 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let v50 : BitVec 32 := Scalar.addi c0_i32_19 v49
  let c1_i32_22 : BitVec 32 := 1#32
  ⟨v53, v50, c1_i32_22⟩
def k0_mult41 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v179 : BitVec 32 := Scalar.muli c8_i32_70 arg7
  let v180 : BitVec 32 := Scalar.addi v30 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off4 (i : grid0.Coords) (k0_t4 : Fin (k0_t4_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_70 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v179 : BitVec 32 := Scalar.muli c8_i32_70 arg7
  let v180 : BitVec 32 := Scalar.addi v30 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult42 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_78 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v204 : BitVec 32 := Scalar.muli c8_i32_78 arg7
  let v205 : BitVec 32 := Scalar.addi v30 v204
  let c1_i32_79 : BitVec 32 := 1#32
  let v206 : BitVec 32 := Scalar.addi v205 c1_i32_79
  let c512_i32_80 : BitVec 32 := 512#32
  let v207 : BitVec 32 := Scalar.muli v206 c512_i32_80
  v207
def k0_mult43 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_86 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v229 : BitVec 32 := Scalar.muli c8_i32_86 arg7
  let v230 : BitVec 32 := Scalar.addi v30 v229
  let c2_i32_87 : BitVec 32 := 2#32
  let v231 : BitVec 32 := Scalar.addi v230 c2_i32_87
  let c512_i32_88 : BitVec 32 := 512#32
  let v232 : BitVec 32 := Scalar.muli v231 c512_i32_88
  v232
def k0_mult44 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_94 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v254 : BitVec 32 := Scalar.muli c8_i32_94 arg7
  let v255 : BitVec 32 := Scalar.addi v30 v254
  let c3_i32 : BitVec 32 := 3#32
  let v256 : BitVec 32 := Scalar.addi v255 c3_i32
  let c512_i32_95 : BitVec 32 := 512#32
  let v257 : BitVec 32 := Scalar.muli v256 c512_i32_95
  v257
def k0_mult45 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_101 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v279 : BitVec 32 := Scalar.muli c8_i32_101 arg7
  let v280 : BitVec 32 := Scalar.addi v30 v279
  let c4_i32_102 : BitVec 32 := 4#32
  let v281 : BitVec 32 := Scalar.addi v280 c4_i32_102
  let c512_i32_103 : BitVec 32 := 512#32
  let v282 : BitVec 32 := Scalar.muli v281 c512_i32_103
  v282
def k0_mult46 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_109 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v304 : BitVec 32 := Scalar.muli c8_i32_109 arg7
  let v305 : BitVec 32 := Scalar.addi v30 v304
  let c5_i32 : BitVec 32 := 5#32
  let v306 : BitVec 32 := Scalar.addi v305 c5_i32
  let c512_i32_110 : BitVec 32 := 512#32
  let v307 : BitVec 32 := Scalar.muli v306 c512_i32_110
  v307
def k0_mult47 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_116 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v329 : BitVec 32 := Scalar.muli c8_i32_116 arg7
  let v330 : BitVec 32 := Scalar.addi v30 v329
  let c6_i32 : BitVec 32 := 6#32
  let v331 : BitVec 32 := Scalar.addi v330 c6_i32
  let c512_i32_117 : BitVec 32 := 512#32
  let v332 : BitVec 32 := Scalar.muli v331 c512_i32_117
  v332
def k0_mult48 (i : grid0.Coords) (k0_t4 : Fin (k0_t4_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_123 : BitVec 32 := 8#32
  let c0_i32_19 : BitVec 32 := 0#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v49 : BitVec 32 := Scalar.subi v48 c0_i32_19
  let c1_i32_20 : BitVec 32 := 1#32
  let v51 : BitVec 32 := Scalar.divsi v49 c1_i32_20
  let v52 : BitVec 32 := Scalar.muli v51 c1_i32_20
  let v53 : BitVec 32 := Scalar.addi c0_i32_19 v52
  let c1_i32_22 : BitVec 32 := 1#32
  let arg7 : BitVec 32 := Scf.iv v53 c1_i32_22 k0_t4
  let v354 : BitVec 32 := Scalar.muli c8_i32_123 arg7
  let v355 : BitVec 32 := Scalar.addi v30 v354
  let c7_i32 : BitVec 32 := 7#32
  let v356 : BitVec 32 := Scalar.addi v355 c7_i32
  let c512_i32_124 : BitVec 32 := 512#32
  let v357 : BitVec 32 := Scalar.muli v356 c512_i32_124
  v357
@[reducible] def k0_t5_loop (i : grid0.Coords) : Scf.Loop 32 :=
  let c0_i32_30 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_32 : BitVec 32 := 1#32
  ⟨c0_i32_30, v80, c1_i32_32⟩
def k0_mult49 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let c1_i32_32 : BitVec 32 := 1#32
  let arg7 : BitVec 32 := Scf.iv c0_i32_30 c1_i32_32 k0_t5
  let v179 : BitVec 32 := Scalar.muli c4_i32_70 arg7
  let v180 : BitVec 32 := Scalar.addi v57 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off5 (i : grid0.Coords) (k0_t5 : Fin (k0_t5_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let c1_i32_32 : BitVec 32 := 1#32
  let arg7 : BitVec 32 := Scf.iv c0_i32_30 c1_i32_32 k0_t5
  let v179 : BitVec 32 := Scalar.muli c4_i32_70 arg7
  let v180 : BitVec 32 := Scalar.addi v57 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult50 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_78 : BitVec 32 := 4#32
  let c0_i32_30 : BitVec 32 := 0#32
  let c1_i32_32 : BitVec 32 := 1#32
  let arg7 : BitVec 32 := Scf.iv c0_i32_30 c1_i32_32 k0_t5
  let v204 : BitVec 32 := Scalar.muli c4_i32_78 arg7
  let v205 : BitVec 32 := Scalar.addi v57 v204
  let c1_i32_79 : BitVec 32 := 1#32
  let v206 : BitVec 32 := Scalar.addi v205 c1_i32_79
  let c512_i32_80 : BitVec 32 := 512#32
  let v207 : BitVec 32 := Scalar.muli v206 c512_i32_80
  v207
def k0_mult51 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_86 : BitVec 32 := 4#32
  let c0_i32_30 : BitVec 32 := 0#32
  let c1_i32_32 : BitVec 32 := 1#32
  let arg7 : BitVec 32 := Scf.iv c0_i32_30 c1_i32_32 k0_t5
  let v229 : BitVec 32 := Scalar.muli c4_i32_86 arg7
  let v230 : BitVec 32 := Scalar.addi v57 v229
  let c2_i32_87 : BitVec 32 := 2#32
  let v231 : BitVec 32 := Scalar.addi v230 c2_i32_87
  let c512_i32_88 : BitVec 32 := 512#32
  let v232 : BitVec 32 := Scalar.muli v231 c512_i32_88
  v232
def k0_mult52 (i : grid0.Coords) (k0_t5 : Fin (k0_t5_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_94 : BitVec 32 := 4#32
  let c0_i32_30 : BitVec 32 := 0#32
  let c1_i32_32 : BitVec 32 := 1#32
  let arg7 : BitVec 32 := Scf.iv c0_i32_30 c1_i32_32 k0_t5
  let v254 : BitVec 32 := Scalar.muli c4_i32_94 arg7
  let v255 : BitVec 32 := Scalar.addi v57 v254
  let c3_i32 : BitVec 32 := 3#32
  let v256 : BitVec 32 := Scalar.addi v255 c3_i32
  let c512_i32_95 : BitVec 32 := 512#32
  let v257 : BitVec 32 := Scalar.muli v256 c512_i32_95
  v257
@[reducible] def k0_t6_loop (i : grid0.Coords) : Scf.Loop 32 :=
  let c0_i32_30 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let v77 : BitVec 32 := Scalar.addi c0_i32_30 v76
  let c1_i32_33 : BitVec 32 := 1#32
  ⟨v80, v77, c1_i32_33⟩
def k0_mult53 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v179 : BitVec 32 := Scalar.muli c4_i32_70 arg7
  let v180 : BitVec 32 := Scalar.addi v57 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off6 (i : grid0.Coords) (k0_t6 : Fin (k0_t6_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_70 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v179 : BitVec 32 := Scalar.muli c4_i32_70 arg7
  let v180 : BitVec 32 := Scalar.addi v57 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult54 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_78 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v204 : BitVec 32 := Scalar.muli c4_i32_78 arg7
  let v205 : BitVec 32 := Scalar.addi v57 v204
  let c1_i32_79 : BitVec 32 := 1#32
  let v206 : BitVec 32 := Scalar.addi v205 c1_i32_79
  let c512_i32_80 : BitVec 32 := 512#32
  let v207 : BitVec 32 := Scalar.muli v206 c512_i32_80
  v207
def k0_mult55 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_86 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v229 : BitVec 32 := Scalar.muli c4_i32_86 arg7
  let v230 : BitVec 32 := Scalar.addi v57 v229
  let c2_i32_87 : BitVec 32 := 2#32
  let v231 : BitVec 32 := Scalar.addi v230 c2_i32_87
  let c512_i32_88 : BitVec 32 := 512#32
  let v232 : BitVec 32 := Scalar.muli v231 c512_i32_88
  v232
def k0_mult56 (i : grid0.Coords) (k0_t6 : Fin (k0_t6_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_94 : BitVec 32 := 4#32
  let c0_i32_30 : BitVec 32 := 0#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v76 : BitVec 32 := Scalar.subi v75 c0_i32_30
  let c1_i32_31 : BitVec 32 := 1#32
  let v78 : BitVec 32 := Scalar.divsi v76 c1_i32_31
  let v79 : BitVec 32 := Scalar.muli v78 c1_i32_31
  let v80 : BitVec 32 := Scalar.addi c0_i32_30 v79
  let c1_i32_33 : BitVec 32 := 1#32
  let arg7 : BitVec 32 := Scf.iv v80 c1_i32_33 k0_t6
  let v254 : BitVec 32 := Scalar.muli c4_i32_94 arg7
  let v255 : BitVec 32 := Scalar.addi v57 v254
  let c3_i32 : BitVec 32 := 3#32
  let v256 : BitVec 32 := Scalar.addi v255 c3_i32
  let c512_i32_95 : BitVec 32 := 512#32
  let v257 : BitVec 32 := Scalar.muli v256 c512_i32_95
  v257
@[reducible] def k0_t7_loop (i : grid0.Coords) : Scf.Loop 32 :=
  let c0_i32_41 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_43 : BitVec 32 := 1#32
  ⟨c0_i32_41, v107, c1_i32_43⟩
def k0_mult57 (i : grid0.Coords) (k0_t7 : Fin (k0_t7_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let c1_i32_43 : BitVec 32 := 1#32
  let arg7 : BitVec 32 := Scf.iv c0_i32_41 c1_i32_43 k0_t7
  let v179 : BitVec 32 := Scalar.muli c2_i32_70 arg7
  let v180 : BitVec 32 := Scalar.addi v84 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off7 (i : grid0.Coords) (k0_t7 : Fin (k0_t7_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let c1_i32_43 : BitVec 32 := 1#32
  let arg7 : BitVec 32 := Scf.iv c0_i32_41 c1_i32_43 k0_t7
  let v179 : BitVec 32 := Scalar.muli c2_i32_70 arg7
  let v180 : BitVec 32 := Scalar.addi v84 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult58 (i : grid0.Coords) (k0_t7 : Fin (k0_t7_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_78 : BitVec 32 := 2#32
  let c0_i32_41 : BitVec 32 := 0#32
  let c1_i32_43 : BitVec 32 := 1#32
  let arg7 : BitVec 32 := Scf.iv c0_i32_41 c1_i32_43 k0_t7
  let v204 : BitVec 32 := Scalar.muli c2_i32_78 arg7
  let v205 : BitVec 32 := Scalar.addi v84 v204
  let c1_i32_79 : BitVec 32 := 1#32
  let v206 : BitVec 32 := Scalar.addi v205 c1_i32_79
  let c512_i32_80 : BitVec 32 := 512#32
  let v207 : BitVec 32 := Scalar.muli v206 c512_i32_80
  v207
@[reducible] def k0_t8_loop (i : grid0.Coords) : Scf.Loop 32 :=
  let c0_i32_41 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let v104 : BitVec 32 := Scalar.addi c0_i32_41 v103
  let c1_i32_44 : BitVec 32 := 1#32
  ⟨v107, v104, c1_i32_44⟩
def k0_mult59 (i : grid0.Coords) (k0_t8 : Fin (k0_t8_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v179 : BitVec 32 := Scalar.muli c2_i32_70 arg7
  let v180 : BitVec 32 := Scalar.addi v84 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off8 (i : grid0.Coords) (k0_t8 : Fin (k0_t8_loop i).trips) (c0_i32_71 : BitVec 32) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_70 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v179 : BitVec 32 := Scalar.muli c2_i32_70 arg7
  let v180 : BitVec 32 := Scalar.addi v84 v179
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult60 (i : grid0.Coords) (k0_t8 : Fin (k0_t8_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_78 : BitVec 32 := 2#32
  let c0_i32_41 : BitVec 32 := 0#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v103 : BitVec 32 := Scalar.subi v102 c0_i32_41
  let c1_i32_42 : BitVec 32 := 1#32
  let v105 : BitVec 32 := Scalar.divsi v103 c1_i32_42
  let v106 : BitVec 32 := Scalar.muli v105 c1_i32_42
  let v107 : BitVec 32 := Scalar.addi c0_i32_41 v106
  let c1_i32_44 : BitVec 32 := 1#32
  let arg7 : BitVec 32 := Scf.iv v107 c1_i32_44 k0_t8
  let v204 : BitVec 32 := Scalar.muli c2_i32_78 arg7
  let v205 : BitVec 32 := Scalar.addi v84 v204
  let c1_i32_79 : BitVec 32 := 1#32
  let v206 : BitVec 32 := Scalar.addi v205 c1_i32_79
  let c512_i32_80 : BitVec 32 := 512#32
  let v207 : BitVec 32 := Scalar.muli v206 c512_i32_80
  v207
@[reducible] def k0_t9_loop (i : grid0.Coords) : Scf.Loop 32 :=
  let c0_i32_53 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_55 : BitVec 32 := 1#32
  ⟨c0_i32_53, v134, c1_i32_55⟩
def k0_mult61 (i : grid0.Coords) (k0_t9 : Fin (k0_t9_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let c1_i32_55 : BitVec 32 := 1#32
  let arg7 : BitVec 32 := Scf.iv c0_i32_53 c1_i32_55 k0_t9
  let v179 : BitVec 32 := Scalar.muli c1_i32_70 arg7
  let v180 : BitVec 32 := Scalar.addi v111 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off9 (i : grid0.Coords) (k0_t9 : Fin (k0_t9_loop i).trips) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let c1_i32_55 : BitVec 32 := 1#32
  let arg7 : BitVec 32 := Scf.iv c0_i32_53 c1_i32_55 k0_t9
  let v179 : BitVec 32 := Scalar.muli c1_i32_70 arg7
  let v180 : BitVec 32 := Scalar.addi v111 v179
  let c0_i32_71 : BitVec 32 := 0#32
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
@[reducible] def k0_t10_loop (i : grid0.Coords) : Scf.Loop 32 :=
  let c0_i32_53 : BitVec 32 := 0#32
  let arg1 : BitVec 32 := BitVec.ofNat 32 (i 1).val
  let c0_i32_12 : BitVec 32 := 0#32
  let c16_i32_11 : BitVec 32 := 16#32
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let v131 : BitVec 32 := Scalar.addi c0_i32_53 v130
  let c1_i32_56 : BitVec 32 := 1#32
  ⟨v134, v131, c1_i32_56⟩
def k0_mult62 (i : grid0.Coords) (k0_t10 : Fin (k0_t10_loop i).trips) : BitVec 32 :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg7 : BitVec 32 := Scf.iv v134 c1_i32_56 k0_t10
  let v179 : BitVec 32 := Scalar.muli c1_i32_70 arg7
  let v180 : BitVec 32 := Scalar.addi v111 v179
  let c0_i32_71 : BitVec 32 := 0#32
  let v181 : BitVec 32 := Scalar.addi v180 c0_i32_71
  let c512_i32_72 : BitVec 32 := 512#32
  let v182 : BitVec 32 := Scalar.muli v181 c512_i32_72
  v182
def k0_off10 (i : grid0.Coords) (k0_t10 : Fin (k0_t10_loop i).trips) : Fin 2 → Nat :=
  let c0_i32_12 : BitVec 32 := 0#32
  let c16_i32_11 : BitVec 32 := 16#32
  let arg1 : BitVec 32 := BitVec.ofNat 32 (i 1).val
  let c0_i32 : BitVec 32 := 0#32
  let v4 : BitVec 32 := Scalar.subi arg1 c0_i32
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c16_i32 : BitVec 32 := 16#32
  let c0_i32_4 : BitVec 32 := 0#32
  let v11 : BitVec 1 := Scalar.cmpi .sgt c16_i32 c0_i32_4
  let v12 : BitVec 32 := Scalar.extui v11
  let c0_i32_5 : BitVec 32 := 0#32
  let v13 : BitVec 1 := Scalar.cmpi .slt c16_i32 c0_i32_5
  let v14 : BitVec 32 := Scalar.extui v13
  let v15 : BitVec 32 := Scalar.subi v12 v14
  let v16 : BitVec 1 := Scalar.cmpi .ne v10 v15
  let v17 : BitVec 32 := Scalar.remsi v4 c16_i32
  let c0_i32_6 : BitVec 32 := 0#32
  let v18 : BitVec 1 := Scalar.cmpi .ne v17 c0_i32_6
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v29 : BitVec 32 := Scalar.muli c16_i32_11 v21
  let v30 : BitVec 32 := Scalar.addi c0_i32_12 v29
  let c8_i32_23 : BitVec 32 := 8#32
  let v31 : BitVec 32 := Scalar.subi arg1 v30
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c8_i32 : BitVec 32 := 8#32
  let c0_i32_15 : BitVec 32 := 0#32
  let v38 : BitVec 1 := Scalar.cmpi .sgt c8_i32 c0_i32_15
  let v39 : BitVec 32 := Scalar.extui v38
  let c0_i32_16 : BitVec 32 := 0#32
  let v40 : BitVec 1 := Scalar.cmpi .slt c8_i32 c0_i32_16
  let v41 : BitVec 32 := Scalar.extui v40
  let v42 : BitVec 32 := Scalar.subi v39 v41
  let v43 : BitVec 1 := Scalar.cmpi .ne v37 v42
  let v44 : BitVec 32 := Scalar.remsi v31 c8_i32
  let c0_i32_17 : BitVec 32 := 0#32
  let v45 : BitVec 1 := Scalar.cmpi .ne v44 c0_i32_17
  let v46 : BitVec 1 := Scalar.andi v43 v45
  let v32 : BitVec 32 := Scalar.divsi v31 c8_i32
  let c1_i32_18 : BitVec 32 := 1#32
  let v47 : BitVec 32 := Scalar.subi v32 c1_i32_18
  let v48 : BitVec 32 := Scalar.select v46 v47 v32
  let v56 : BitVec 32 := Scalar.muli c8_i32_23 v48
  let v57 : BitVec 32 := Scalar.addi v30 v56
  let c4_i32_34 : BitVec 32 := 4#32
  let v58 : BitVec 32 := Scalar.subi arg1 v57
  let c0_i32_24 : BitVec 32 := 0#32
  let v60 : BitVec 1 := Scalar.cmpi .sgt v58 c0_i32_24
  let v61 : BitVec 32 := Scalar.extui v60
  let c0_i32_25 : BitVec 32 := 0#32
  let v62 : BitVec 1 := Scalar.cmpi .slt v58 c0_i32_25
  let v63 : BitVec 32 := Scalar.extui v62
  let v64 : BitVec 32 := Scalar.subi v61 v63
  let c4_i32 : BitVec 32 := 4#32
  let c0_i32_26 : BitVec 32 := 0#32
  let v65 : BitVec 1 := Scalar.cmpi .sgt c4_i32 c0_i32_26
  let v66 : BitVec 32 := Scalar.extui v65
  let c0_i32_27 : BitVec 32 := 0#32
  let v67 : BitVec 1 := Scalar.cmpi .slt c4_i32 c0_i32_27
  let v68 : BitVec 32 := Scalar.extui v67
  let v69 : BitVec 32 := Scalar.subi v66 v68
  let v70 : BitVec 1 := Scalar.cmpi .ne v64 v69
  let v71 : BitVec 32 := Scalar.remsi v58 c4_i32
  let c0_i32_28 : BitVec 32 := 0#32
  let v72 : BitVec 1 := Scalar.cmpi .ne v71 c0_i32_28
  let v73 : BitVec 1 := Scalar.andi v70 v72
  let v59 : BitVec 32 := Scalar.divsi v58 c4_i32
  let c1_i32_29 : BitVec 32 := 1#32
  let v74 : BitVec 32 := Scalar.subi v59 c1_i32_29
  let v75 : BitVec 32 := Scalar.select v73 v74 v59
  let v83 : BitVec 32 := Scalar.muli c4_i32_34 v75
  let v84 : BitVec 32 := Scalar.addi v57 v83
  let c2_i32_45 : BitVec 32 := 2#32
  let v85 : BitVec 32 := Scalar.subi arg1 v84
  let c0_i32_35 : BitVec 32 := 0#32
  let v87 : BitVec 1 := Scalar.cmpi .sgt v85 c0_i32_35
  let v88 : BitVec 32 := Scalar.extui v87
  let c0_i32_36 : BitVec 32 := 0#32
  let v89 : BitVec 1 := Scalar.cmpi .slt v85 c0_i32_36
  let v90 : BitVec 32 := Scalar.extui v89
  let v91 : BitVec 32 := Scalar.subi v88 v90
  let c2_i32 : BitVec 32 := 2#32
  let c0_i32_37 : BitVec 32 := 0#32
  let v92 : BitVec 1 := Scalar.cmpi .sgt c2_i32 c0_i32_37
  let v93 : BitVec 32 := Scalar.extui v92
  let c0_i32_38 : BitVec 32 := 0#32
  let v94 : BitVec 1 := Scalar.cmpi .slt c2_i32 c0_i32_38
  let v95 : BitVec 32 := Scalar.extui v94
  let v96 : BitVec 32 := Scalar.subi v93 v95
  let v97 : BitVec 1 := Scalar.cmpi .ne v91 v96
  let v98 : BitVec 32 := Scalar.remsi v85 c2_i32
  let c0_i32_39 : BitVec 32 := 0#32
  let v99 : BitVec 1 := Scalar.cmpi .ne v98 c0_i32_39
  let v100 : BitVec 1 := Scalar.andi v97 v99
  let v86 : BitVec 32 := Scalar.divsi v85 c2_i32
  let c1_i32_40 : BitVec 32 := 1#32
  let v101 : BitVec 32 := Scalar.subi v86 c1_i32_40
  let v102 : BitVec 32 := Scalar.select v100 v101 v86
  let v110 : BitVec 32 := Scalar.muli c2_i32_45 v102
  let v111 : BitVec 32 := Scalar.addi v84 v110
  let c1_i32_70 : BitVec 32 := 1#32
  let c0_i32_53 : BitVec 32 := 0#32
  let v112 : BitVec 32 := Scalar.subi arg1 v111
  let c0_i32_47 : BitVec 32 := 0#32
  let v114 : BitVec 1 := Scalar.cmpi .sgt v112 c0_i32_47
  let v115 : BitVec 32 := Scalar.extui v114
  let c0_i32_48 : BitVec 32 := 0#32
  let v116 : BitVec 1 := Scalar.cmpi .slt v112 c0_i32_48
  let v117 : BitVec 32 := Scalar.extui v116
  let v118 : BitVec 32 := Scalar.subi v115 v117
  let c1_i32_46 : BitVec 32 := 1#32
  let c0_i32_49 : BitVec 32 := 0#32
  let v119 : BitVec 1 := Scalar.cmpi .sgt c1_i32_46 c0_i32_49
  let v120 : BitVec 32 := Scalar.extui v119
  let c0_i32_50 : BitVec 32 := 0#32
  let v121 : BitVec 1 := Scalar.cmpi .slt c1_i32_46 c0_i32_50
  let v122 : BitVec 32 := Scalar.extui v121
  let v123 : BitVec 32 := Scalar.subi v120 v122
  let v124 : BitVec 1 := Scalar.cmpi .ne v118 v123
  let v125 : BitVec 32 := Scalar.remsi v112 c1_i32_46
  let c0_i32_51 : BitVec 32 := 0#32
  let v126 : BitVec 1 := Scalar.cmpi .ne v125 c0_i32_51
  let v127 : BitVec 1 := Scalar.andi v124 v126
  let v113 : BitVec 32 := Scalar.divsi v112 c1_i32_46
  let c1_i32_52 : BitVec 32 := 1#32
  let v128 : BitVec 32 := Scalar.subi v113 c1_i32_52
  let v129 : BitVec 32 := Scalar.select v127 v128 v113
  let v130 : BitVec 32 := Scalar.subi v129 c0_i32_53
  let c1_i32_54 : BitVec 32 := 1#32
  let v132 : BitVec 32 := Scalar.divsi v130 c1_i32_54
  let v133 : BitVec 32 := Scalar.muli v132 c1_i32_54
  let v134 : BitVec 32 := Scalar.addi c0_i32_53 v133
  let c1_i32_56 : BitVec 32 := 1#32
  let arg7 : BitVec 32 := Scf.iv v134 c1_i32_56 k0_t10
  let v179 : BitVec 32 := Scalar.muli c1_i32_70 arg7
  let v180 : BitVec 32 := Scalar.addi v111 v179
  let c0_i32_71 : BitVec 32 := 0#32
  let v181 : BitVec 32 := Scalar.addi v180 c0_i32_71
  let c512_i32_72 : BitVec 32 := 512#32
  let v182 : BitVec 32 := Scalar.muli v181 c512_i32_72
  let v183 : BitVec 32 := v182
  let v184 : Index := Scalar.indexCast v183
  let c0_73 : Index := 0#32
  ![v184.toNat, 0]
def k0_mult63 (i : grid0.Coords) : BitVec 32 :=
  let arg1 : BitVec 32 := BitVec.ofNat 32 (i 1).val
  let c512_i32 : BitVec 32 := 512#32
  let v137 : BitVec 32 := Scalar.muli arg1 c512_i32
  v137
def k0_off11 (i : grid0.Coords) : Fin 2 → Nat :=
  let arg1 : BitVec 32 := BitVec.ofNat 32 (i 1).val
  let c512_i32 : BitVec 32 := 512#32
  let v137 : BitVec 32 := Scalar.muli arg1 c512_i32
  let v138 : BitVec 32 := v137
  let v139 : Index := Scalar.indexCast v138
  let c0_57 : Index := 0#32
  ![v139.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnfKernelIdeal.lean ====
variable {F : FTy → Type} [FloatOps F] [Named F]
def κ : String → Option EReal := fun
  | "log2_e" => some (((Real.log 2)⁻¹ : ℝ) : EReal)
  | "mask" => some ⊥
  | _ => none
-- ==== AttnfReferenceIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x32x1x512 : Shape := ⟨4, ![8, 32, 1, 512]⟩

abbrev nBuf : Space → Nat
  | .hbm => 51
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S8x16384x16384, .f32⟩
  | .hbm, ⟨4, _⟩ => ⟨S_, .f32⟩
  | .hbm, ⟨5, _⟩ => ⟨S8x16384x16384, .f32⟩
  | .hbm, ⟨6, _⟩ => ⟨S8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x1, .f32⟩
  | .hbm, ⟨29, _⟩ => ⟨S8x16384x1, .f32⟩
  | .hbm, ⟨30, _⟩ => ⟨S_, .f32⟩
  | .hbm, ⟨31, _⟩ => ⟨S_, .f32⟩
  | .hbm, ⟨32, _⟩ => ⟨S8x16384x1, .f32⟩
  | .hbm, ⟨33, _⟩ => ⟨S8x16384x1, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x16384, .f32⟩
  | .hbm, ⟨43, _⟩ => ⟨S_, .f32⟩
  | .hbm, ⟨44, _⟩ => ⟨S8x16384, .f32⟩
  | .hbm, ⟨45, _⟩ => ⟨S8x16384x1, .f32⟩
  | .hbm, ⟨46, _⟩ => ⟨S8x16384x16384, .f32⟩
  | .hbm, ⟨47, _⟩ => ⟨S8x16384x16384, .f32⟩
  | .hbm, ⟨48, _⟩ => ⟨S8x64x16384, .f32⟩
  | .hbm, ⟨49, _⟩ => ⟨S16384x8x64, .f32⟩
  | .hbm, ⟨50, _⟩ => ⟨S8x32x1x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== XattnKernel.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 19
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S256x1024, .bf16⟩
  | .hbm, ⟨11, _⟩ => ⟨S1024x1024, .bf16⟩
  | .hbm, ⟨12, _⟩ => ⟨S16384x1024, .f32⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S1x1024, .f32⟩
  | .hbm, ⟨17, _⟩ => ⟨S256x1024, .f32⟩
  | .hbm, ⟨18, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== XattnReferenceIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩
abbrev S4x256x256 : Shape := ⟨3, ![4, 256, 256]⟩

abbrev nBuf : Space → Nat
  | .hbm => 255
  | .vmem => 0
  | .smem => 0
  | _ => 0

abbrev hbmTy0_0 (i : Nat) : BufTy := match i % 128 with
  | 0 => ⟨S16384x1024, .f32⟩
  | 1 => ⟨S1024, .f32⟩
  | 2 => ⟨S1024x1024, .f32⟩
  | 3 => ⟨S256x1024, .f32⟩
  | 4 => ⟨S256x1024, .f32⟩
  | 5 => ⟨S1024x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S16384x1024, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1024, .f32⟩
  | 39 => ⟨S16384x1024, .f32⟩
  | 40 => ⟨S1x1024, .f32⟩
  | 41 => ⟨S16384x1024, .f32⟩
  | 42 => ⟨S16384x1024, .f32⟩
  | 43 => ⟨S16384x1024, .f32⟩
  | 44 => ⟨S16384x4x256, .f32⟩
  | 45 => ⟨S256x4x256, .f32⟩
  | 46 => ⟨S256x4x256, .f32⟩
  | 47 => ⟨S4x16384x256, .f32⟩
  | 48 => ⟨S_, .f32⟩
  | 49 => ⟨S4x16384x256, .f32⟩
  | 50 => ⟨S4x16384x256, .f32⟩
  | 51 => ⟨S_, .f32⟩
  | 52 => ⟨S4x16384, .f32⟩
  | 53 => ⟨S4x16384x1, .f32⟩
  | 54 => ⟨S4x16384x256, .f32⟩
  | 55 => ⟨S4x16384x256, .i1⟩
  | 56 => ⟨S4x16384x256, .f32⟩
  | 57 => ⟨S_, .f32⟩
  | 58 => ⟨S4x16384, .f32⟩
  | 59 => ⟨S_, .f32⟩
  | 60 => ⟨S4x16384, .f32⟩
  | 61 => ⟨S4x16384, .f32⟩
  | 62 => ⟨S_, .f32⟩
  | 63 => ⟨S4x16384, .f32⟩
  | 64 => ⟨S4x16384, .i1⟩
  | 65 => ⟨S_, .f32⟩
  | 66 => ⟨S4x16384, .f32⟩
  | 67 => ⟨S4x16384, .i1⟩
  | 68 => ⟨S_, .f32⟩
  | 69 => ⟨S4x16384, .f32⟩
  | 70 => ⟨S_, .f32⟩
  | 71 => ⟨S4x16384, .f32⟩
  | 72 => ⟨S_, .f32⟩
  | 73 => ⟨S4x16384, .f32⟩
  | 74 => ⟨S4x16384, .f32⟩
  | 75 => ⟨S4x16384, .f32⟩
  | 76 => ⟨S4x16384x1, .f32⟩
  | 77 => ⟨S4x16384x256, .f32⟩
  | 78 => ⟨S4x16384x256, .f32⟩
  | 79 => ⟨S4x16384x256, .f32⟩
  | 80 => ⟨S_, .f32⟩
  | 81 => ⟨S4x16384, .f32⟩
  | 82 => ⟨S4x16384x1, .f32⟩
  | 83 => ⟨S4x16384x256, .f32⟩
  | 84 => ⟨S4x16384x256, .f32⟩
  | 85 => ⟨S4x16384x1, .f32⟩
  | 86 => ⟨S_, .f32⟩
  | 87 => ⟨S4x16384x1, .f32⟩
  | 88 => ⟨S4x16384x1, .f32⟩
  | 89 => ⟨S4x256x16384, .f32⟩
  | 90 => ⟨S16384x4x256, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S16384x4x256, .f32⟩
  | 97 => ⟨S4x256x16384, .f32⟩
  | 98 => ⟨S4x16384x256, .f32⟩
  | 99 => ⟨S4x256x256, .f32⟩
  | 100 => ⟨S256x4x256, .f32⟩
  | 101 => ⟨S4x16384x256, .f32⟩
  | 102 => ⟨S4x16384x256, .f32⟩
  | 103 => ⟨S4x16384x256, .f32⟩
  | 104 => ⟨S_, .f32⟩
  | 105 => ⟨S4x16384, .f32⟩
  | 106 => ⟨S4x16384x1, .f32⟩
  | 107 => ⟨S4x16384x1, .f32⟩
  | 108 => ⟨S4x16384x256, .f32⟩
  | 109 => ⟨S4x16384x256, .f32⟩
  | 110 => ⟨S_, .f32⟩
  | 111 => ⟨S4x16384, .f32⟩
  | 112 => ⟨S4x16384x256, .f32⟩
  | 113 => ⟨S4x16384x256, .f32⟩
  | 114 => ⟨S4x16384x256, .f32⟩
  | 115 => ⟨S_, .f32⟩
  | 116 => ⟨S4x16384x256, .f32⟩
  | 117 => ⟨S4x16384x256, .f32⟩
  | 118 => ⟨S4x256x256, .f32⟩
  | 119 => ⟨S256x4x256, .f32⟩
  | 120 => ⟨S4x16384x256, .f32⟩
  | 121 => ⟨S16384x4x256, .f32⟩
  | 122 => ⟨S256x1024, .f32⟩
  | 123 => ⟨S256x1024, .f32⟩
  | 124 => ⟨S16384x1024, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S1024, .f32⟩
  | 1 => ⟨S1x1024, .f32⟩
  | 2 => ⟨S16384x1024, .f32⟩
  | 3 => ⟨S16384x1024, .f32⟩
  | 4 => ⟨S_, .f32⟩
  | 5 => ⟨S1024, .f32⟩
  | 6 => ⟨S16384x1024, .f32⟩
  | 7 => ⟨S_, .f32⟩
  | 8 => ⟨S16384, .f32⟩
  | 9 => ⟨S16384x1, .f32⟩
  | 10 => ⟨S16384x1024, .f32⟩
  | 11 => ⟨S16384x1024, .f32⟩
  | 12 => ⟨S16384x1024, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S16384x4x256, .f32⟩
  | 26 => ⟨S256x4x256, .f32⟩
  | 27 => ⟨S256x4x256, .f32⟩
  | 28 => ⟨S4x16384x256, .f32⟩
  | 29 => ⟨S_, .f32⟩
  | 30 => ⟨S4x16384x256, .f32⟩
  | 31 => ⟨S4x16384x256, .f32⟩
  | 32 => ⟨S_, .f32⟩
  | 33 => ⟨S4x16384, .f32⟩
  | 34 => ⟨S4x16384x1, .f32⟩
  | 35 => ⟨S4x16384x256, .f32⟩
  | 36 => ⟨S4x16384x256, .i1⟩
  | 37 => ⟨S4x16384x256, .f32⟩
  | 38 => ⟨S_, .f32⟩
  | 39 => ⟨S4x16384, .f32⟩
  | 40 => ⟨S_, .f32⟩
  | 41 => ⟨S4x16384, .f32⟩
  | 42 => ⟨S4x16384, .f32⟩
  | 43 => ⟨S_, .f32⟩
  | 44 => ⟨S4x16384, .f32⟩
  | 45 => ⟨S4x16384, .i1⟩
  | 46 => ⟨S_, .f32⟩
  | 47 => ⟨S4x16384, .f32⟩
  | 48 => ⟨S4x16384, .i1⟩
  | 49 => ⟨S_, .f32⟩
  | 50 => ⟨S4x16384, .f32⟩
  | 51 => ⟨S_, .f32⟩
  | 52 => ⟨S4x16384, .f32⟩
  | 53 => ⟨S_, .f32⟩
  | 54 => ⟨S4x16384, .f32⟩
  | 55 => ⟨S4x16384, .f32⟩
  | 56 => ⟨S4x16384, .f32⟩
  | 57 => ⟨S4x16384x1, .f32⟩
  | 58 => ⟨S4x16384x256, .f32⟩
  | 59 => ⟨S4x16384x256, .f32⟩
  | 60 => ⟨S4x16384x256, .f32⟩
  | 61 => ⟨S_, .f32⟩
  | 62 => ⟨S4x16384, .f32⟩
  | 63 => ⟨S4x16384x1, .f32⟩
  | 64 => ⟨S4x16384x256, .f32⟩
  | 65 => ⟨S4x16384x256, .f32⟩
  | 66 => ⟨S4x16384x1, .f32⟩
  | 67 => ⟨S_, .f32⟩
  | 68 => ⟨S4x16384x1, .f32⟩
  | 69 => ⟨S4x16384x1, .f32⟩
  | 70 => ⟨S4x256x16384, .f32⟩
  | 71 => ⟨S16384x4x256, .f32⟩
  | 72 => ⟨S16384x1024, .f32⟩
  | 73 => ⟨S16384x1024, .f32⟩
  | 74 => ⟨S16384x1024, .f32⟩
  | 75 => ⟨S16384x4x256, .f32⟩
  | 76 => ⟨S4x256x16384, .f32⟩
  | 77 => ⟨S4x16384x256, .f32⟩
  | 78 => ⟨S4x16384x256, .f32⟩
  | 79 => ⟨S4x16384x256, .f32⟩
  | 80 => ⟨S4x16384x256, .f32⟩
  | 81 => ⟨S_, .f32⟩
  | 82 => ⟨S4x16384, .f32⟩
  | 83 => ⟨S4x16384x1, .f32⟩
  | 84 => ⟨S4x16384x1, .f32⟩
  | 85 => ⟨S4x16384x256, .f32⟩
  | 86 => ⟨S4x16384x256, .f32⟩
  | 87 => ⟨S_, .f32⟩
  | 88 => ⟨S4x16384, .f32⟩
  | 89 => ⟨S4x16384x256, .f32⟩
  | 90 => ⟨S4x16384x256, .f32⟩
  | 91 => ⟨S4x16384x256, .f32⟩
  | 92 => ⟨S_, .f32⟩
  | 93 => ⟨S4x16384x256, .f32⟩
  | 94 => ⟨S4x16384x256, .f32⟩
  | 95 => ⟨S4x16384x256, .f32⟩
  | 96 => ⟨S16384x4x256, .f32⟩
  | 97 => ⟨S16384x1024, .f32⟩
  | 98 => ⟨S16384x1024, .f32⟩
  | 99 => ⟨S16384x4x256, .f32⟩
  | 100 => ⟨S256x4x256, .f32⟩
  | 101 => ⟨S256x4x256, .f32⟩
  | 102 => ⟨S4x16384x256, .f32⟩
  | 103 => ⟨S_, .f32⟩
  | 104 => ⟨S4x16384x256, .f32⟩
  | 105 => ⟨S4x16384x256, .f32⟩
  | 106 => ⟨S_, .f32⟩
  | 107 => ⟨S4x16384, .f32⟩
  | 108 => ⟨S_, .f32⟩
  | 109 => ⟨S4x16384, .f32⟩
  | 110 => ⟨S4x16384, .f32⟩
  | 111 => ⟨S4x16384x1, .f32⟩
  | 112 => ⟨S4x16384x256, .f32⟩
  | 113 => ⟨S4x16384x256, .f32⟩
  | 114 => ⟨S4x16384x256, .f32⟩
  | 115 => ⟨S_, .f32⟩
  | 116 => ⟨S4x16384, .f32⟩
  | 117 => ⟨S4x16384x1, .f32⟩
  | 118 => ⟨S4x16384x256, .f32⟩
  | 119 => ⟨S4x16384x256, .f32⟩
  | 120 => ⟨S4x256x16384, .f32⟩
  | 121 => ⟨S16384x4x256, .f32⟩
  | 122 => ⟨S16384x1024, .f32⟩
  | 123 => ⟨S16384x1024, .bf16⟩
  | 124 => ⟨S16384x1024, .bf16⟩
  | 125 => ⟨S16384x1024, .bf16⟩
  | 126 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_21 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_23 : Ref sig .tc := ⟨.hbm, 142, rfl⟩
abbrev main_v111 : Ref sig .tc := ⟨.hbm, 143, rfl⟩
abbrev main_v112 : Ref sig .tc := ⟨.hbm, 144, rfl⟩
abbrev main_cst_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_25 : Ref sig .tc := ⟨.hbm, 157, rfl⟩
abbrev main_v124 : Ref sig .tc := ⟨.hbm, 158, rfl⟩
abbrev main_v125 : Ref sig .tc := ⟨.hbm, 159, rfl⟩
abbrev main_cst_26 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_27 : Ref sig .tc := ⟨.hbm, 166, rfl⟩
abbrev main_v131 : Ref sig .tc := ⟨.hbm, 167, rfl⟩
abbrev main_cst_28 : Ref sig .tc := ⟨.hbm, 168, rfl⟩
abbrev main_v132 : Ref sig .tc := ⟨.hbm, 169, rfl⟩
abbrev main_v133 : Ref sig .tc := ⟨.hbm, 170, rfl⟩
abbrev main_cst_29 : Ref sig .tc := ⟨.hbm, 171, rfl⟩
abbrev main_v134 : Ref sig .tc := ⟨.hbm, 172, rfl⟩
abbrev main_v135 : Ref sig .tc := ⟨.hbm, 173, rfl⟩
abbrev main_cst_30 : Ref sig .tc := ⟨.hbm, 174, rfl⟩
abbrev main_v136 : Ref sig .tc := ⟨.hbm, 175, rfl⟩
abbrev main_v137 : Ref sig .tc := ⟨.hbm, 176, rfl⟩
abbrev main_cst_31 : Ref sig .tc := ⟨.hbm, 177, rfl⟩
abbrev main_v138 : Ref sig .tc := ⟨.hbm, 178, rfl⟩
abbrev main_cst_32 : Ref sig .tc := ⟨.hbm, 179, rfl⟩
abbrev main_v139 : Ref sig .tc := ⟨.hbm, 180, rfl⟩
abbrev main_cst_33 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_34 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_35 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_36 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_37 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_38 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_39 : Ref sig .tc := ⟨.hbm, 231, rfl⟩
abbrev main_v184 : Ref sig .tc := ⟨.hbm, 232, rfl⟩
abbrev main_v185 : Ref sig .tc := ⟨.hbm, 233, rfl⟩
abbrev main_cst_40 : Ref sig .tc := ⟨.hbm, 234, rfl⟩
abbrev main_v186 : Ref sig .tc := ⟨.hbm, 235, rfl⟩
abbrev main_cst_41 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_cst_42 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩

abbrev nD : Nat := 1
abbrev τ : Topo := Topo.v7x

variable {F : FTy → Type} [FloatOps F]
-- ==== PostKernel.lean ====
abbrev S16384x512 : Shape := ⟨2, ![16384, 512]⟩
abbrev S1024x1024 : Shape := ⟨2, ![1024, 1024]⟩
abbrev S16384x1024 : Shape := ⟨2, ![16384, 1024]⟩
abbrev S16384x8x64 : Shape := ⟨3, ![16384, 8, 64]⟩
abbrev S_ : Shape := ⟨0, ![]⟩
abbrev S16384x8x128 : Shape := ⟨3, ![16384, 8, 128]⟩
abbrev S512x1024 : Shape := ⟨2, ![512, 1024]⟩
abbrev S1024x512 : Shape := ⟨2, ![1024, 512]⟩
abbrev S1024x8x64 : Shape := ⟨3, ![1024, 8, 64]⟩
abbrev S1024x8x128 : Shape := ⟨3, ![1024, 8, 128]⟩
abbrev S8x32x1x512 : Shape := ⟨4, ![8, 32, 1, 512]⟩
abbrev S512x512 : Shape := ⟨2, ![512, 512]⟩
abbrev S8x1x1x512 : Shape := ⟨4, ![8, 1, 1, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x1x512 : Shape := ⟨4, ![1, 1, 1, 512]⟩

abbrev nBuf : Space → Nat
  | .hbm => 34
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S1024x1024, .bf16⟩
  | .hbm, ⟨5, _⟩ => ⟨S16384x512, .bf16⟩
  | .hbm, ⟨6, _⟩ => ⟨S16384x8x64, .f32⟩
  | .hbm, ⟨7, _⟩ => ⟨S_, .i32⟩
  | .hbm, ⟨8, _⟩ => ⟨S_, .f32⟩
  | .hbm, ⟨9, _⟩ => ⟨S16384x8x128, .f32⟩
  | .hbm, ⟨10, _⟩ => ⟨S16384x1024, .f32⟩
  | .hbm, ⟨11, _⟩ => ⟨S512x1024, .bf16⟩
  | .hbm, ⟨12, _⟩ => ⟨S512x1024, .bf16⟩
  | .hbm, ⟨13, _⟩ => ⟨S1024x512, .bf16⟩
  | .hbm, ⟨14, _⟩ => ⟨S1024x8x64, .bf16⟩
  | .hbm, ⟨15, _⟩ => ⟨S_, .i32⟩
  | .hbm, ⟨16, _⟩ => ⟨S_, .bf16⟩
  | .hbm, ⟨17, _⟩ => ⟨S1024x8x128, .bf16⟩
  | .hbm, ⟨18, _⟩ => ⟨S1024x1024, .bf16⟩
  | .hbm, ⟨19, _⟩ => ⟨S1024x1024, .bf16⟩
  | .hbm, ⟨20, _⟩ => ⟨S16384x512, .f32⟩
  | .hbm, ⟨21, _⟩ => ⟨S16384x1024, .bf16⟩
  | .hbm, ⟨22, _⟩ => ⟨S8x32x1x512, .f32⟩
  | .hbm, ⟨23, _⟩ => ⟨S512x1024, .bf16⟩
  | .hbm, ⟨24, _⟩ => ⟨S1024x1024, .bf16⟩
  | .hbm, ⟨25, _⟩ => ⟨S1024x1024, .bf16⟩
  | .hbm, ⟨26, _⟩ => ⟨S1024x8x128, .bf16⟩
  | .hbm, ⟨27, _⟩ => ⟨S1024x8x64, .bf16⟩
  | .hbm, ⟨28, _⟩ => ⟨S1024x512, .bf16⟩
  | .hbm, ⟨29, _⟩ => ⟨S512x1024, .bf16⟩
  | .hbm, ⟨30, _⟩ => ⟨S1024x1024, .bf16⟩
  | .hbm, ⟨31, _⟩ => ⟨S16384x8x128, .bf16⟩
  | .hbm, ⟨32, _⟩ => ⟨S16384x8x64, .bf16⟩
  | .hbm, ⟨33, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S1024x1024, .bf16⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S8x1x1x512, .f32⟩
  | .local _ .vmem, ⟨13, _⟩ => ⟨S8x1x1x512, .f32⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v107 : BitVec 1 := Scalar.cmpi .eq arg0 c31_i32
  let v108 : BitVec 32 := Scalar.extui v107
  let c0_i32_53 : BitVec 32 := 0#32
  let v109 : BitVec 1 := Scalar.cmpi .ne v108 c0_i32_53
  v109

def k0_cond4 (i : grid0.Coords) : BitVec 1 :=
  let arg0 : BitVec 32 := BitVec.ofNat 32 (i 0).val
  let c31_i32_61 : BitVec 32 := 31#32
  let v121 : BitVec 1 := Scalar.cmpi .eq arg0 c31_i32_61
  let v122 : BitVec 32 := Scalar.extui v121
  let c0_i32_62 : BitVec 32 := 0#32
  let v123 : BitVec 1 := Scalar.cmpi .ne v122 c0_i32_62
  v123

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostReferenceIdeal.lean ====
abbrev S16384x512 : Shape := ⟨2, ![16384, 512]⟩
abbrev S1024x1024 : Shape := ⟨2, ![1024, 1024]⟩
abbrev S16384x1024 : Shape := ⟨2, ![16384, 1024]⟩
abbrev S16384x8x64 : Shape := ⟨3, ![16384, 8, 64]⟩
abbrev S_ : Shape := ⟨0, ![]⟩
abbrev S16384x8 : Shape := ⟨2, ![16384, 8]⟩
abbrev S8x16384 : Shape := ⟨2, ![8, 16384]⟩
abbrev S8x32x1x512 : Shape := ⟨4, ![8, 32, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x8x64, .f32⟩
  | .hbm, ⟨13, _⟩ => ⟨S_, .f32⟩
  | .hbm, ⟨14, _⟩ => ⟨S16384x8, .f32⟩
  | .hbm, ⟨15, _⟩ => ⟨S8x16384, .f32⟩
  | .hbm, ⟨16, _⟩ => ⟨S8x32x1x512, .f32⟩
  | .hbm, ⟨17, _⟩ => ⟨S16384x512, .bf16⟩
  | .hbm, ⟨18, _⟩ => ⟨S1024x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvKernel.lean ====
abbrev S16384x1024 : Shape := ⟨2, ![16384, 1024]⟩
abbrev S1024 : Shape := ⟨1, ![1024]⟩
abbrev S1024x2048 : Shape := ⟨2, ![1024, 2048]⟩
abbrev S4x1024 : Shape := ⟨2, ![4, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S512x1024 : Shape := ⟨2, ![512, 1024]⟩
abbrev S8x1024 : Shape := ⟨2, ![8, 1024]⟩
abbrev S520x1024 : Shape := ⟨2, ![520, 1024]⟩
abbrev S512x2048 : Shape := ⟨2, ![512, 2048]⟩
abbrev S512 : Shape := ⟨1, ![512]⟩
abbrev S512x1 : Shape := ⟨2, ![512, 1]⟩

abbrev nBuf : Space → Nat
  | .hbm => 30
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S4x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S1x1024, .f32⟩
  | .hbm, ⟨25, _⟩ => ⟨S1024x2048, .bf16⟩
  | .hbm, ⟨26, _⟩ => ⟨S16384x1024, .f32⟩
  | .hbm, ⟨27, _⟩ => ⟨S4x1024, .f32⟩
  | .hbm, ⟨28, _⟩ => ⟨S1x1024, .f32⟩
  | .hbm, ⟨29, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S8x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S4x1024, .f32⟩
  | .local _ .vmem, ⟨16, _⟩ => ⟨S1024x2048, .bf16⟩
  | .local _ .vmem, ⟨17, _⟩ => ⟨S512x1024, .f32⟩
  | .local _ .vmem, ⟨18, _⟩ => ⟨S512x1024, .f32⟩
  | .local _ .vmem, ⟨19, _⟩ => ⟨S4x1024, .f32⟩
  | .local _ .vmem, ⟨20, _⟩ => ⟨S1x1024, .f32⟩
  | .local _ .vmem, ⟨21, _⟩ => ⟨S1024x2048, .bf16⟩
  | .local _ .vmem, ⟨22, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32_67 : BitVec 32 := 31#32
  let v135 : BitVec 1 := Scalar.cmpi .eq arg0 c31_i32_67
  let v136 : BitVec 32 := Scalar.extui v135
  let c0_i32_68 : BitVec 32 := 0#32
  let v137 : BitVec 1 := Scalar.cmpi .ne v136 c0_i32_68
  v137

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvReferenceIdeal.lean ====
abbrev S16384x1024 : Shape := ⟨2, ![16384, 1024]⟩
abbrev S1024 : Shape := ⟨1, ![1024]⟩
abbrev S1024x2048 : Shape := ⟨2, ![1024, 2048]⟩
abbrev S4x1024 : Shape := ⟨2, ![4, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S3x1024 : Shape := ⟨2, ![3, 1024]⟩
abbrev S16387x1024 : Shape := ⟨2, ![16387, 1024]⟩
abbrev S2048x1024 : Shape := ⟨2, ![2048, 1024]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S1024, .f32⟩
  | 2 => ⟨S1024x2048, .f32⟩
  | 3 => ⟨S4x1024, .f32⟩
  | 4 => ⟨S16384x1024, .f32⟩
  | 5 => ⟨S16384x1024, .f32⟩
  | 6 => ⟨S16384x1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x2048, .f32⟩
  | 28 => ⟨S16384x1024, .f32⟩
  | 29 => ⟨S16384x1024, .f32⟩
  | 30 => ⟨S_, .f32⟩
  | 31 => ⟨S3x1024, .f32⟩
  | 32 => ⟨S16387x1024, .f32⟩
  | 33 => ⟨S_, .f32⟩
  | 34 => ⟨S3x1024, .f32⟩
  | 35 => ⟨S16384x1024, .f32⟩
  | 36 => ⟨S1x1024, .f32⟩
  | 37 => ⟨S1024, .f32⟩
  | 38 => ⟨S1x1024, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S16384x1024, .f32⟩
  | 45 => ⟨S1x1024, .f32⟩
  | 46 => ⟨S1024, .f32⟩
  | 47 => ⟨S1x1024, .f32⟩
  | 48 => ⟨S16384x1024, .f32⟩
  | 49 => ⟨S16384x1024, .f32⟩
  | 50 => ⟨S16384x1024, .f32⟩
  | 51 => ⟨S16384x1024, .f32⟩
  | 52 => ⟨S1x1024, .f32⟩
  | 53 => ⟨S1024, .f32⟩
  | 54 => ⟨S1x1024, .f32⟩
  | 55 => ⟨S16384x1024, .f32⟩
  | 56 => ⟨S16384x1024, .f32⟩
  | 57 => ⟨S16384x1024, .f32⟩
  | 58 => ⟨S16384x1024, .f32⟩
  | 59 => ⟨S1x1024, .f32⟩
  | 60 => ⟨S1024, .f32⟩
  | 61 => ⟨S1x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S_, .f32⟩
  | 72 => ⟨S1024, .f32⟩
  | 73 => ⟨S1x1024, .f32⟩
  | 74 => ⟨S16384x1024, .f32⟩
  | 75 => ⟨S16384x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S_, .f32⟩
  | 82 => ⟨S16387x1024, .f32⟩
  | 83 => ⟨S16384x1024, .f32⟩
  | 84 => ⟨S_, .f32⟩
  | 85 => ⟨S1024, .f32⟩
  | 86 => ⟨S1x1024, .f32⟩
  | 87 => ⟨S16384x1024, .f32⟩
  | 88 => ⟨S16384x1024, .f32⟩
  | 89 => ⟨S_, .f32⟩
  | 90 => ⟨S1024, .f32⟩
  | 91 => ⟨S1x1024, .f32⟩
  | 92 => ⟨S_, .f32⟩
  | 93 => ⟨S4x1024, .f32⟩
  | 94 => ⟨S4x1024, .f32⟩
  | 95 => ⟨S_, .f32⟩
  | 96 => ⟨S16387x1024, .f32⟩
  | 97 => ⟨S16387x1024, .f32⟩
  | 98 => ⟨S16384x1024, .f32⟩
  | 99 => ⟨S_, .f32⟩
  | 100 => ⟨S1024, .f32⟩
  | 101 => ⟨S1x1024, .f32⟩
  | 102 => ⟨S16384x1024, .f32⟩
  | 103 => ⟨S16384x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S16387x1024, .f32⟩
  | 112 => ⟨S16387x1024, .f32⟩
  | 113 => ⟨S16384x1024, .f32⟩
  | 114 => ⟨S_, .f32⟩
  | 115 => ⟨S1024, .f32⟩
  | 116 => ⟨S1x1024, .f32⟩
  | 117 => ⟨S16384x1024, .f32⟩
  | 118 => ⟨S16384x1024, .f32⟩
  | 119 => ⟨S_, .f32⟩
  | 120 => ⟨S1024, .f32⟩
  | 121 => ⟨S1x1024, .f32⟩
  | 122 => ⟨S_, .f32⟩
  | 123 => ⟨S4x1024, .f32⟩
  | 124 => ⟨S4x1024, .f32⟩
  | 125 => ⟨S_, .f32⟩
  | 126 => ⟨S16387x1024, .f32⟩
  | 127 => ⟨S16387x1024, .f32⟩
  | _ => ⟨S16384x1024, .f32⟩

abbrev hbmTy0_1 (i : Nat) : BufTy := match i % 128 with
  | 0 => ⟨S3x1024, .f32⟩
  | 1 => ⟨S16384x1024, .f32⟩
  | 2 => ⟨S16384x2048, .f32⟩
  | 3 => ⟨S2048x1024, .f32⟩
  | 4 => ⟨S1024x2048, .f32⟩
  | 5 => ⟨S16384x1024, .f32⟩
  | 6 => ⟨S16384x1024, .f32⟩
  | 7 => ⟨S_, .f32⟩
  | 8 => ⟨S1024, .f32⟩
  | 9 => ⟨S1x1024, .f32⟩
  | 10 => ⟨S16384x1024, .f32⟩
  | 11 => ⟨S16384x1024, .f32⟩
  | 12 => ⟨S_, .f32⟩
  | 13 => ⟨S1024, .f32⟩
  | 14 => ⟨S16384x1024, .f32⟩
  | 15 => ⟨S_, .f32⟩
  | 16 => ⟨S16384, .f32⟩
  | 17 => ⟨S16384x1, .f32⟩
  | 18 => ⟨S16384x1024, .f32⟩
  | 19 => ⟨S16384x1024, .f32⟩
  | 20 => ⟨S16384x1024, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384, .f32⟩
  | 27 => ⟨S16384x1024, .f32⟩
  | 28 => ⟨S16384x1024, .f32⟩
  | 29 => ⟨S16384x1024, .f32⟩
  | 30 => ⟨S16384x1024, .f32⟩
  | 31 => ⟨S16384x1024, .f32⟩
  | 32 => ⟨S1x1024, .f32⟩
  | 33 => ⟨S1024x2048, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_cst_13 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_20 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_23 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_24 : Ref sig .tc := ⟨.hbm, 140, rfl⟩
abbrev main_v108 : Ref sig .tc := ⟨.hbm, 141, rfl⟩
abbrev main_v109 : Ref sig .tc := ⟨.hbm, 142, rfl⟩
abbrev main_cst_25 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_cst_26 : Ref sig .tc := ⟨.hbm, 150, rfl⟩
abbrev main_v116 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩

abbrev nD : Nat := 1
abbrev τ : Topo := Topo.v7x

variable {F : FTy → Type} [FloatOps F]
-- ==== LossKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024x8x704 : Shape := ⟨4, ![1, 1024, 8, 704]⟩
abbrev S8x1x1024x704 : Shape := ⟨4, ![8, 1, 1024, 704]⟩
abbrev S4x704x1024 : Shape := ⟨3, ![4, 704, 1024]⟩
abbrev S1x1024 : Shape := ⟨2, ![1, 1024]⟩
abbrev S1x1 : Shape := ⟨2, ![1, 1]⟩
abbrev S8x16384x704 : Shape := ⟨3, ![8, 16384, 704]⟩
abbrev S256x1024 : Shape := ⟨2, ![256, 1024]⟩
abbrev S8x256x704 : Shape := ⟨3, ![8, 256, 704]⟩
abbrev S256 : Shape := ⟨1, ![256]⟩
abbrev S256x1 : Shape := ⟨2, ![256, 1]⟩
abbrev S1x1x1024x704 : Shape := ⟨4, ![1, 1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩
abbrev S1 : Shape := ⟨1, ![1]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S1024x5632, .bf16⟩
  | .hbm, ⟨7, _⟩ => ⟨S1x1024x8x704, .bf16⟩
  | .hbm, ⟨8, _⟩ => ⟨S8x1x1024x704, .bf16⟩
  | .hbm, ⟨9, _⟩ => ⟨S2816x1024, .bf16⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S1x1024, .f32⟩
  | .hbm, ⟨15, _⟩ => ⟨S1x1, .f32⟩
  | .hbm, ⟨16, _⟩ => ⟨S16384x1024, .bf16⟩
  | .hbm, ⟨17, _⟩ => ⟨S8x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1x1024x704, .bf16⟩
  | .local _ .vmem, ⟨4, _⟩ => ⟨S4x704x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1, .f32⟩
  | .local _ .vmem, ⟨12, _⟩ => ⟨S256x1024, .bf16⟩
  | .local _ .vmem, ⟨13, _⟩ => ⟨S256x1024, .bf16⟩
  | .local _ .vmem, ⟨14, _⟩ => ⟨S8x256x704, .bf16⟩
  | .local _ .vmem, ⟨15, _⟩ => ⟨S8x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LossReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S1x1 : Shape := ⟨2, ![1, 1]⟩
abbrev S16384x8x704 : Shape := ⟨3, ![16384, 8, 704]⟩
abbrev S8x16384x704 : Shape := ⟨3, ![8, 16384, 704]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5632, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S1x1, .f32⟩
  | .hbm, ⟨107, _⟩ => ⟨S16384x1024, .bf16⟩
  | .hbm, ⟨108, _⟩ => ⟨S16384x8x704, .f32⟩
  | .hbm, ⟨109, _⟩ => ⟨S8x16384x704, .f32⟩
  | .hbm, ⟨110, _⟩ => ⟨S8x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== FfnKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024x8x704 : Shape := ⟨4, ![1, 1024, 8, 704]⟩
abbrev S8x1x1024x704 : Shape := ⟨4, ![8, 1, 1024, 704]⟩
abbrev S4x704x1024 : Shape := ⟨3, ![4, 704, 1024]⟩
abbrev S1x1024 : Shape := ⟨2, ![1, 1024]⟩
abbrev S8x16384x704 : Shape := ⟨3, ![8, 16384, 704]⟩
abbrev S256x1024 : Shape := ⟨2, ![256, 1024]⟩
abbrev S8x256x704 : Shape := ⟨3, ![8, 256, 704]⟩
abbrev S256 : Shape := ⟨1, ![256]⟩
abbrev S256x1 : Shape := ⟨2, ![256, 1]⟩
abbrev S1x1x1024x704 : Shape := ⟨4, ![1, 1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩
abbrev S4x16384x704 : Shape := ⟨3, ![4, 16384, 704]⟩
abbrev S4x256x704 : Shape := ⟨3, ![4, 256, 704]⟩

abbrev nBuf : Space → Nat
  | .hbm => 19
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1024x5632, .bf16⟩
  | .hbm, ⟨6, _⟩ => ⟨S1x1024x8x704, .bf16⟩
  | .hbm, ⟨7, _⟩ => ⟨S8x1x1024x704, .bf16⟩
  | .hbm, ⟨8, _⟩ => ⟨S2816x1024, .bf16⟩
  | .hbm, ⟨9, _⟩ => ⟨S4x704x1024, .bf16⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S8x16384x704, .bf16⟩
  | .hbm, ⟨14, _⟩ => ⟨S1x1024, .f32⟩
  | .hbm, ⟨15, _⟩ => ⟨S16384x1024, .f32⟩
  | .hbm, ⟨16, _⟩ => ⟨S1x1024, .f32⟩
  | .hbm, ⟨17, _⟩ => ⟨S4x16384x704, .bf16⟩
  | .hbm, ⟨18, _⟩ => ⟨S8x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1x1024x704, .bf16⟩
  | .local _ .vmem, ⟨4, _⟩ => ⟨S4x704x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x256x704, .bf16⟩
  | .local _ .vmem, ⟨10, _⟩ => ⟨S8x256x704, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S8x256x704, .bf16⟩
  | .local _ .vmem, ⟨16, _⟩ => ⟨S8x256x704, .bf16⟩
  | .local _ .vmem, ⟨17, _⟩ => ⟨S1x1024, .f32⟩
  | .local _ .vmem, ⟨18, _⟩ => ⟨S8x1x1024x704, .bf16⟩
  | .local _ .vmem, ⟨19, _⟩ => ⟨S4x704x1024, .bf16⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S4x256x704, .bf16⟩
  | .local _ .vmem, ⟨24, _⟩ => ⟨S4x256x704, .bf16⟩
  | .local _ .vmem, ⟨25, _⟩ => ⟨S8x256x704, .bf16⟩
  | .local _ .vmem, ⟨26, _⟩ => ⟨S8x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1x1024x704 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x704x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4x256x704 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S16384x4x704 : Shape := ⟨3, ![16384, 4, 704]⟩
abbrev S4x16384x704 : Shape := ⟨3, ![4, 16384, 704]⟩
abbrev S16384x8x704 : Shape := ⟨3, ![16384, 8, 704]⟩
abbrev S8x16384x704 : Shape := ⟨3, ![8, 16384, 704]⟩

abbrev nBuf : Space → Nat
  | .hbm => 141
  | .vmem => 0
  | .smem => 0
  | _ => 0

abbrev hbmTy0_0 (i : Nat) : BufTy := match i % 128 with
  | 0 => ⟨S16384x1024, .f32⟩
  | 1 => ⟨S1024, .f32⟩
  | 2 => ⟨S1024x5632, .f32⟩
  | 3 => ⟨S2816x1024, .f32⟩
  | 4 => ⟨S16384x1024, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x5632, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S16384x5632, .f32⟩
  | 43 => ⟨S16384x2816, .f32⟩
  | 44 => ⟨S16384x2816, .f32⟩
  | 45 => ⟨S16384x2816, .f32⟩
  | 46 => ⟨S16384x2816, .f32⟩
  | 47 => ⟨S_, .f32⟩
  | 48 => ⟨S16384x2816, .f32⟩
  | 49 => ⟨S16384x2816, .f32⟩
  | 50 => ⟨S_, .f32⟩
  | 51 => ⟨S16384x2816, .f32⟩
  | 52 => ⟨S16384x2816, .f32⟩
  | 53 => ⟨S_, .f32⟩
  | 54 => ⟨S16384x2816, .f32⟩
  | 55 => ⟨S16384x2816, .f32⟩
  | 56 => ⟨S16384x2816, .f32⟩
  | 57 => ⟨S16384x2816, .f32⟩
  | 58 => ⟨S16384x2816, .f32⟩
  | 59 => ⟨S16384x1024, .f32⟩
  | 60 => ⟨S16384x1024, .f32⟩
  | 61 => ⟨S16384x1024, .f32⟩
  | 62 => ⟨S16384x2816, .f32⟩
  | 63 => ⟨S16384x2816, .f32⟩
  | 64 => ⟨S16384x2816, .f32⟩
  | 65 => ⟨S16384x2816, .f32⟩
  | 66 => ⟨S16384x2816, .f32⟩
  | 67 => ⟨S16384x2816, .f32⟩
  | 68 => ⟨S16384x2816, .f32⟩
  | 69 => ⟨S16384x5632, .f32⟩
  | 70 => ⟨S16384x1024, .f32⟩
  | 71 => ⟨S16384x1024, .f32⟩
  | 72 => ⟨S_, .f32⟩
  | 73 => ⟨S1024, .f32⟩
  | 74 => ⟨S1x1024, .f32⟩
  | 75 => ⟨S16384x1024, .f32⟩
  | 76 => ⟨S16384x1024, .f32⟩
  | 77 => ⟨S_, .f32⟩
  | 78 => ⟨S1024, .f32⟩
  | 79 => ⟨S16384x1024, .f32⟩
  | 80 => ⟨S_, .f32⟩
  | 81 => ⟨S16384, .f32⟩
  | 82 => ⟨S16384x1, .f32⟩
  | 83 => ⟨S16384x1024, .f32⟩
  | 84 => ⟨S16384x1024, .f32⟩
  | 85 => ⟨S16384x1024, .f32⟩
  | 86 => ⟨S16384x1, .f32⟩
  | 87 => ⟨S_, .f32⟩
  | 88 => ⟨S16384x1, .f32⟩
  | 89 => ⟨S16384x1, .f32⟩
  | 90 => ⟨S_, .f32⟩
  | 91 => ⟨S16384, .f32⟩
  | 92 => ⟨S16384x1024, .f32⟩
  | 93 => ⟨S16384x1024, .f32⟩
  | 94 => ⟨S16384x1024, .f32⟩
  | 95 => ⟨S16384x1024, .f32⟩
  | 96 => ⟨S16384x1024, .f32⟩
  | 97 => ⟨S16384x2816, .f32⟩
  | 98 => ⟨S16384x2816, .f32⟩
  | 99 => ⟨S16384x2816, .f32⟩
  | 100 => ⟨S16384x2816, .f32⟩
  | 101 => ⟨S_, .f32⟩
  | 102 => ⟨S16384x2816, .f32⟩
  | 103 => ⟨S16384x2816, .f32⟩
  | 104 => ⟨S_, .f32⟩
  | 105 => ⟨S16384x2816, .f32⟩
  | 106 => ⟨S16384x2816, .f32⟩
  | 107 => ⟨S_, .f32⟩
  | 108 => ⟨S16384x2816, .f32⟩
  | 109 => ⟨S16384x2816, .f32⟩
  | 110 => ⟨S16384x2816, .f32⟩
  | 111 => ⟨S16384x2816, .f32⟩
  | 112 => ⟨S16384x2816, .f32⟩
  | 113 => ⟨S16384x1024, .f32⟩
  | 114 => ⟨S16384x2816, .f32⟩
  | 115 => ⟨S16384x2816, .f32⟩
  | 116 => ⟨S16384x2816, .f32⟩
  | 117 => ⟨S16384x2816, .f32⟩
  | 118 => ⟨S16384x2816, .f32⟩
  | 119 => ⟨S16384x2816, .f32⟩
  | 120 => ⟨S16384x2816, .f32⟩
  | 121 => ⟨S16384x5632, .f32⟩
  | 122 => ⟨S1x1024, .f32⟩
  | 123 => ⟨S16384x2816, .f32⟩
  | 124 => ⟨S16384x2816, .f32⟩
  | 125 => ⟨S16384x2816, .f32⟩
  | 126 => ⟨S16384x2816, .f32⟩
  | 127 => ⟨S_, .f32⟩
  | _ => ⟨S16384x1024, .f32⟩

abbrev hbmTy0_1 (i : Nat) : BufTy := match i % 128 with
  | 0 => ⟨S16384x2816, .f32⟩
  | 1 => ⟨S16384x2816, .f32⟩
  | 2 => ⟨S_, .f32⟩
  | 3 => ⟨S16384x2816, .f32⟩
  | 4 => ⟨S16384x2816, .f32⟩
  | 5 => ⟨S16384x2816, .f32⟩
  | 6 => ⟨S16384x2816, .f32⟩
  | 7 => ⟨S16384x4x704, .f32⟩
  | 8 => ⟨S4x16384x704, .f32⟩
  | 9 => ⟨S4x16384x704, .bf16⟩
  | 10 => ⟨S16384x8x704, .f32⟩
  | 11 => ⟨S8x16384x704, .f32⟩
  | 12 => ⟨S8x16384x704, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_v67_2 : Ref sig .tc := ⟨.hbm, 106, rfl⟩
abbrev main_call2_cst_1 : Ref sig .tc := ⟨.hbm, 107, rfl⟩
abbrev main_call2_v6 : Ref sig .tc := ⟨.hbm, 108, rfl⟩
abbrev main_call2_v7 : Ref sig .tc := ⟨.hbm, 109, rfl⟩
abbrev main_v67_1 : Ref sig .tc := ⟨.hbm, 110, rfl⟩
abbrev main_v67_0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩

abbrev nD : Nat := 1
abbrev τ : Topo := Topo.v7x

variable {F : FTy → Type} [FloatOps F]
-- ==== MemfKernel.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S256x1024, .bf16⟩
  | .hbm, ⟨6, _⟩ => ⟨S256x1024, .bf16⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemfReferenceIdeal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | .hbm, ⟨24, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== EpostKernel.lean ====
abbrev S16384x1024 : Shape := ⟨2, ![16384, 1024]⟩
abbrev S16384x512 : Shape := ⟨2, ![16384, 512]⟩
abbrev S1024x1024 : Shape := ⟨2, ![1024, 1024]⟩
abbrev S16384x8x64 : Shape := ⟨3, ![16384, 8, 64]⟩
abbrev S_ : Shape := ⟨0, ![]⟩
abbrev S16384x8x128 : Shape := ⟨3, ![16384, 8, 128]⟩
abbrev S512x1024 : Shape := ⟨2, ![512, 1024]⟩
abbrev S1024x512 : Shape := ⟨2, ![1024, 512]⟩
abbrev S1024x8x64 : Shape := ⟨3, ![1024, 8, 64]⟩
abbrev S1024x8x128 : Shape := ⟨3, ![1024, 8, 128]⟩
abbrev S512x512 : Shape := ⟨2, ![512, 512]⟩

abbrev nBuf : Space → Nat
  | .hbm => 21
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024x1024, .bf16⟩
  | .hbm, ⟨5, _⟩ => ⟨S16384x512, .bf16⟩
  | .hbm, ⟨6, _⟩ => ⟨S16384x8x64, .f32⟩
  | .hbm, ⟨7, _⟩ => ⟨S_, .i32⟩
  | .hbm, ⟨8, _⟩ => ⟨S_, .f32⟩
  | .hbm, ⟨9, _⟩ => ⟨S16384x8x128, .f32⟩
  | .hbm, ⟨10, _⟩ => ⟨S16384x1024, .f32⟩
  | .hbm, ⟨11, _⟩ => ⟨S512x1024, .bf16⟩
  | .hbm, ⟨12, _⟩ => ⟨S512x1024, .bf16⟩
  | .hbm, ⟨13, _⟩ => ⟨S1024x512, .bf16⟩
  | .hbm, ⟨14, _⟩ => ⟨S1024x8x64, .bf16⟩
  | .hbm, ⟨15, _⟩ => ⟨S_, .i32⟩
  | .hbm, ⟨16, _⟩ => ⟨S_, .bf16⟩
  | .hbm, ⟨17, _⟩ => ⟨S1024x8x128, .bf16⟩
  | .hbm, ⟨18, _⟩ => ⟨S1024x1024, .bf16⟩
  | .hbm, ⟨19, _⟩ => ⟨S1024x1024, .bf16⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EpostReferenceIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== GoutKernel.lean ====
abbrev S16384x1024 : Shape := ⟨2, ![16384, 1024]⟩
abbrev S1024x1024 : Shape := ⟨2, ![1024, 1024]⟩
abbrev S_ : Shape := ⟨0, ![]⟩
abbrev S16384x2048 : Shape := ⟨2, ![16384, 2048]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S16384x1024, .f32⟩
  | .hbm, ⟨6, _⟩ => ⟨S16384x2048, .f32⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GoutKernelIdeal.lean ====
variable {F : FTy → Type} [FloatOps F] [Named F]
def κ : String → Option EReal := fun
  | "cube" => some ((8943 / 200000 : ℝ) : EReal)
  | _ => none
-- ==== GoutReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== FfnfKernel.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024x8x704 : Shape := ⟨4, ![1, 1024, 8, 704]⟩
abbrev S8x1x1024x704 : Shape := ⟨4, ![8, 1, 1024, 704]⟩
abbrev S4x704x1024 : Shape := ⟨3, ![4, 704, 1024]⟩
abbrev S1x1024 : Shape := ⟨2, ![1, 1024]⟩
abbrev S8x16384x704 : Shape := ⟨3, ![8, 16384, 704]⟩
abbrev S256x1024 : Shape := ⟨2, ![256, 1024]⟩
abbrev S8x256x704 : Shape := ⟨3, ![8, 256, 704]⟩
abbrev S256 : Shape := ⟨1, ![256]⟩
abbrev S256x1 : Shape := ⟨2, ![256, 1]⟩
abbrev S1x1x1024x704 : Shape := ⟨4, ![1, 1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1x1024x8x704, .bf16⟩
  | .hbm, ⟨6, _⟩ => ⟨S8x1x1024x704, .bf16⟩
  | .hbm, ⟨7, _⟩ => ⟨S2816x1024, .bf16⟩
  | .hbm, ⟨8, _⟩ => ⟨S4x704x1024, .bf16⟩
  | .hbm, ⟨9, _⟩ => ⟨S1x1024, .f32⟩
  | .hbm, ⟨10, _⟩ => ⟨S16384x1024, .f32⟩
  | .hbm, ⟨11, _⟩ => ⟨S16384x1024, .bf16⟩
  | .hbm, ⟨12, _⟩ => ⟨S8x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1x1024x704, .bf16⟩
  | .local _ .vmem, ⟨4, _⟩ => ⟨S4x704x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x256x704, .bf16⟩
  | .local _ .vmem, ⟨10, _⟩ => ⟨S8x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnfReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S16384x8x704 : Shape := ⟨3, ![16384, 8, 704]⟩
abbrev S8x16384x704 : Shape := ⟨3, ![8, 16384, 704]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | .hbm, ⟨35, _⟩ => ⟨S16384x1024, .bf16⟩
  | .hbm, ⟨36, _⟩ => ⟨S16384x8x704, .f32⟩
  | .hbm, ⟨37, _⟩ => ⟨S8x16384x704, .f32⟩
  | .hbm, ⟨38, _⟩ => ⟨S8x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== XattfKernel.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S256x1024, .bf16⟩
  | .hbm, ⟨10, _⟩ => ⟨S1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== XattfReferenceIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x4x256, .f32⟩
  | .hbm, ⟨24, _⟩ => ⟨S256x4x256, .f32⟩
  | .hbm, ⟨25, _⟩ => ⟨S256x4x256, .f32⟩
  | .hbm, ⟨26, _⟩ => ⟨S4x16384x256, .f32⟩
  | .hbm, ⟨27, _⟩ => ⟨S_, .f32⟩
  | .hbm, ⟨28, _⟩ => ⟨S4x16384x256, .f32⟩
  | .hbm, ⟨29, _⟩ => ⟨S4x16384x256, .f32⟩
  | .hbm, ⟨30, _⟩ => ⟨S_, .f32⟩
  | .hbm, ⟨31, _⟩ => ⟨S4x16384, .f32⟩
  | .hbm, ⟨32, _⟩ => ⟨S_, .f32⟩
  | .hbm, ⟨33, _⟩ => ⟨S4x16384, .f32⟩
  | .hbm, ⟨34, _⟩ => ⟨S4x16384, .f32⟩
  | .hbm, ⟨35, _⟩ => ⟨S4x16384x1, .f32⟩
  | .hbm, ⟨36, _⟩ => ⟨S4x16384x256, .f32⟩
  | .hbm, ⟨37, _⟩ => ⟨S4x16384x256, .f32⟩
  | .hbm, ⟨38, _⟩ => ⟨S4x16384x256, .f32⟩
  | .hbm, ⟨39, _⟩ => ⟨S_, .f32⟩
  | .hbm, ⟨40, _⟩ => ⟨S4x16384, .f32⟩
  | .hbm, ⟨41, _⟩ => ⟨S4x16384x1, .f32⟩
  | .hbm, ⟨42, _⟩ => ⟨S4x16384x256, .f32⟩
  | .hbm, ⟨43, _⟩ => ⟨S4x16384x256, .f32⟩
  | .hbm, ⟨44, _⟩ => ⟨S4x256x16384, .f32⟩
  | .hbm, ⟨45, _⟩ => ⟨S16384x4x256, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== AdamKernel.lean ====
abbrev S8x2048x704 : Shape := ⟨3, ![8, 2048, 704]⟩
abbrev S2048x704 : Shape := ⟨2, ![2048, 704]⟩
abbrev S8x128x704 : Shape := ⟨3, ![8, 128, 704]⟩
abbrev S128x704 : Shape := ⟨2, ![128, 704]⟩
abbrev S1x128x704 : Shape := ⟨3, ![1, 128, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S8x2048x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S8x128x704, .bf16⟩
  | .local _ .vmem, ⟨1, _⟩ => ⟨S8x128x704, .bf16⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S8x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x2048x704 : Shape := ⟨3, ![8, 2048, 704]⟩
abbrev S2048x704 : Shape := ⟨2, ![2048, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S_, .f32⟩
  | .hbm, ⟨7, _⟩ => ⟨S2048x704, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S2048x704, .f32⟩
  | .hbm, ⟨13, _⟩ => ⟨S_, .f32⟩
  | .hbm, ⟨14, _⟩ => ⟨S2048x704, .f32⟩
  | .hbm, ⟨15, _⟩ => ⟨S2048x704, .f32⟩
  | .hbm, ⟨16, _⟩ => ⟨S2048x704, .f32⟩
  | .hbm, ⟨17, _⟩ => ⟨S_, .f32⟩
  | .hbm, ⟨18, _⟩ => ⟨S2048x704, .f32⟩
  | .hbm, ⟨19, _⟩ => ⟨S2048x704, .f32⟩
  | .hbm, ⟨20, _⟩ => ⟨S2048x704, .f32⟩
  | .hbm, ⟨21, _⟩ => ⟨S_, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S2048x704, .f32⟩
  | .hbm, ⟨28, _⟩ => ⟨S_, .f32⟩
  | .hbm, ⟨29, _⟩ => ⟨S2048x704, .f32⟩
  | .hbm, ⟨30, _⟩ => ⟨S2048x704, .f32⟩
  | .hbm, ⟨31, _⟩ => ⟨S2048x704, .f32⟩
  | .hbm, ⟨32, _⟩ => ⟨S_, .f32⟩
  | .hbm, ⟨33, _⟩ => ⟨S2048x704, .f32⟩
  | .hbm, ⟨34, _⟩ => ⟨S2048x704, .f32⟩
  | .hbm, ⟨35, _⟩ => ⟨S2048x704, .f32⟩
  | .hbm, ⟨36, _⟩ => ⟨S_, .f32⟩
  | .hbm, ⟨37, _⟩ => ⟨S2048x704, .f32⟩
  | .hbm, ⟨38, _⟩ => ⟨S2048x704, .f32⟩
  | _, _ => ⟨S8x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ProdKernel.lean ====
abbrev S16384x1024 : Shape := ⟨2, ![16384, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S8x1024x704 : Shape := ⟨3, ![8, 1024, 704]⟩
abbrev S4096x1024 : Shape := ⟨2, ![4096, 1024]⟩
abbrev S1x4096x704 : Shape := ⟨3, ![1, 4096, 704]⟩
abbrev S1x1024x704 : Shape := ⟨3, ![1, 1024, 704]⟩
abbrev S1024x704 : Shape := ⟨2, ![1024, 704]⟩
abbrev S4096x704 : Shape := ⟨2, ![4096, 704]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x8x704, .f32⟩
  | .hbm, ⟨4, _⟩ => ⟨S8x16384x704, .f32⟩
  | .hbm, ⟨5, _⟩ => ⟨S8x16384x704, .bf16⟩
  | .hbm, ⟨6, _⟩ => ⟨S8x1024x704, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProdReferenceIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Mem.lean ====
/- The value claim of the projection of the memory tokens, backwards: the kernel's two results are the reference's. -/
module

public import proofs.«01_k».proof.Defs
public import proofs.«01_k».proof.Proof.Gen.MemKernelIdeal.Frame
public import proofs.«01_k».proof.Proof.Gen.MemReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKernelIdeal.Result

open Cert.MemKernelIdeal Cert.MemKernelIdeal.Gen

variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The joined gradient of keys and values, over the arguments. -/
theorem final5 (c : Dev nD) : (dats m 0 c).arrAt 5 (cfgs 0).N
    = k0_pay2 (m ((c : Thread nD τ).loc main_arg3)) (m ((c : Thread nD τ).loc main_arg4)) := by
  refine (dats m 0 c).arrAt_eq_of_covers 5 _ (by decide +kernel) fun t hf y => ?_
  have e : ((cfg0.win 5).blk t).view.emb y = y := by blk_ext [idx t]
  rw [e]
  blk_simp; rw [after0_5]; frame_out
  pointwise [k0_pay2, k0_pay1]
  blk_point [iblk, V, idx t]

/-- The gradient of the norm's weight, over the arguments. -/
theorem final6 (c : Dev nD) : (dats m 0 c).arrAt 6 (cfgs 0).N
    = k0_pay3 (m ((c : Thread nD τ).loc main_arg3)) (m ((c : Thread nD τ).loc main_arg4)) (m ((c : Thread nD τ).loc main_arg0))
        (m ((c : Thread nD τ).loc main_arg2)) (m ((c : Thread nD τ).loc main_arg0)) := by
  refine (dats m 0 c).arrAt_eq_of_covers 6 _ (by decide +kernel) fun t hf y => ?_
  blk_simp; rw [after0_6]; frame_out
  pointwise [k0_pay3, k0_pay1]
  blk_point [iblk, V, idx t]

end Cert.MemKernelIdeal.Result

namespace Cert.Proof

/-- The reference is host operations only and declares no semaphore. -/
theorem mem_reference_frame : Cert.quiescent_MemReferenceIdeal := fun m ρ _ =>
  (θ_run Cert.MemReferenceIdeal.defs _ _).mono (fun r h => ⟨fun c => (h c).2.2,
      sem_eq_zero_of_no_sems (by decide) r.2⟩)
    (Cert.MemReferenceIdeal.Value.run (F := Ideal) m ρ)

/-- The kernel's results are the derivative of the reference's forward lines. -/
theorem mem_algebraic : Cert.algebraic_MemKernelIdeal_MemReferenceIdeal := by
  pair_intro
  · run_from Cert.MemKernelIdeal.Gen.run_main m g
  · run_from Cert.MemReferenceIdeal.Value.run m' g'
    · rw [Cert.MemKernelIdeal.Result.final5 m c]
      funext j
      pointwise! [hagree c, Cert.MemKernelIdeal.Gen.k0_pay2, Cert.MemKernelIdeal.Gen.k0_pay1]
    · rw [Cert.MemKernelIdeal.Result.final6 m c]
      funext j
      pointwise [hagree c, Cert.MemKernelIdeal.Gen.k0_pay3, Cert.MemKernelIdeal.Gen.k0_pay1]
      rw [Fin.sum_univ_one]
      exact Finset.sum_congr rfl fun x _ => mul_comm _ _

end Cert.Proof

end
-- ==== Proof.Reals.lean ====
/- Extended reals that are real numbers: what a stated finiteness gives, and its passage through sums and products. -/
module

public import Idealize.ShloMosaic.PureOps.Ideal
public import Idealize.ShloMosaic.Lib.IdealHost
public import Idealize.ShloMosaic.Lib.Pointwise

@[expose] public section

noncomputable section

namespace Cert.Reals

open Idealize.ShloMosaic

/-- `x` is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.sum {ι : Type*} (s : Finset ι) {f : ι → EReal} (h : ∀ i, IsReal (f i)) : IsReal (∑ i ∈ s, f i) := by
  classical
  refine Finset.induction_on s ?_ fun a s ha ih => ?_
  · simpa using IsReal.zero
  · rw [Finset.sum_insert ha]; exact (h a).add ih

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem isReal_of_ne {x : EReal} (h : x ≠ ⊤) (h' : x ≠ ⊥) : IsReal x := ⟨x.toReal, (EReal.coe_toReal h h').symm⟩

/-- The f32 pattern of infinity. -/
theorem ofBits_inf : Ideal.ofBits .f32 0x7F800000#32 = ⊤ := by simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- An f32 pattern whose exponent is not all ones denotes a real. -/
theorem ofBits_isReal (b : BitVec 32) (h : (b.extractLsb' 23 8).toNat ≠ 255) : IsReal (Ideal.ofBits .f32 b) := by
  unfold Ideal.ofBits Ideal.ieee
  simp only
  rw [if_neg (by simpa using h)]
  split <;> exact ⟨_, rfl⟩

/-- `|x| < ∞`, answered yes, says that `x` is real. -/
theorem isReal_of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  refine isReal_of_ne (fun e => ?_) (fun e => ?_) <;> subst e <;> simp at h'

/-- Division of reals, the divisor not zero. -/
theorem IsReal.div {x y : EReal} (hx : IsReal x) (hy : IsReal y) (h : y ≠ 0) : IsReal (Ideal.div x y) := by
  obtain ⟨b, rfl⟩ := hy
  have hb : b ≠ 0 := fun e => h (by rw [e]; rfl)
  rw [Ideal.div_coe hb]; exact hx.mul ⟨_, rfl⟩

/-- A sum of products with a real on the left is the real times the sum. -/
theorem mul_sum {ι : Type*} (s : Finset ι) (a : ℝ) (f : ι → EReal) (hf : ∀ i, IsReal (f i)) :
    (a : EReal) * ∑ i ∈ s, f i = ∑ i ∈ s, (a : EReal) * f i := by
  classical
  refine Finset.induction_on s (by simp) fun x s hx ih => ?_
  rw [Finset.sum_insert hx, Finset.sum_insert hx, ← ih]
  obtain ⟨u, hu⟩ := hf x; obtain ⟨v, hv⟩ := IsReal.sum s hf
  rw [hu, hv]; norm_cast; ring

/-- A sum of reals. -/
theorem coe_sum {ι : Type*} (s : Finset ι) (f : ι → ℝ) : ((∑ i ∈ s, f i : ℝ) : EReal) = ∑ i ∈ s, (f i : EReal) := by
  classical
  refine Finset.induction_on s (by simp) fun x s hx ih => ?_
  rw [Finset.sum_insert hx, Finset.sum_insert hx, EReal.coe_add, ih]

end Cert.Reals

end
-- ==== Proof.Gelu.lean ====
/- The value claim of the output projection of the gated recurrence, backwards: the kernel's three results are the reference's. -/
module

public import proofs.«01_k».proof.Defs
public import proofs.«01_k».proof.Proof.Reals
public import proofs.«01_k».proof.Proof.Gen.Pre_gelu_finite
public import proofs.«01_k».proof.Proof.Gen.GeluKernelIdeal.Frame
public import proofs.«01_k».proof.Proof.Gen.GeluReferenceIdeal.Run
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem
open Idealize.ShloMosaic.Pipeline (Dat)

namespace Cert.GeluKernelIdeal.Result

open Cert.GeluKernelIdeal Cert.GeluKernelIdeal.Gen

variable (m : (ℓ : Loc nD τ sig) → Buf (Elt Ideal) ℓ)

/-- The activation as the kernel writes it. -/
def act (x : EReal) : EReal :=
  Ideal.ofBits .f32 0x3F000000#32 * x * (1 + Ideal.tanh (Ideal.ofBits .f32 0x3F4C422A#32 *
    (x + Named.named (F := Ideal) (φ := .f32) κ "cube" 0x3D372713#32 * x * x * x)))

/-- The gradient at the activation's output, times nothing yet: the cotangent through the output matrix. -/
def back (w : FVec Ideal S1024x1024 .f32) (dy : FVec Ideal S16384x1024 .f32) (i : S16384x1024.Idx) : EReal :=
  ∑ k : Fin 1024, dy (ix2 (i 0) k) * w (ix2 (i 1) k)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The second window reads the left half of the padded array, which is the gate. -/
theorem gate_at (c : Dev nD) (t : Fin cfg0.N) (y : S512x1024.Idx) :
    iblk m c 1 t y = m ((c : Thread nD τ).loc main_arg0) ((win0_5.blk t).view.emb y) := by
  blk_simp [iblk]
  entry_read
  pointwise
  rw [dif_pos (by blk_simp [idx t]; have : (y 1).val < 1024 := (y 1).isLt; omega)]
  blk_ext [idx t]

/-- A point is the run's first, one between, or its last. -/
theorem point_cases (t : Fin cfg0.N) : (t.val % 32 = 0 ∧ ¬t.val % 32 = 31) ∨ (¬t.val % 32 = 0 ∧ ¬t.val % 32 = 31)
    ∨ (¬t.val % 32 = 0 ∧ t.val % 32 = 31) := by omega

/-- What every point leaves in the block of the gate's gradient. -/
theorem outs4 (c : Dev nD) (t : Fin cfg0.N) : (outsAt0 m c t.val t.isLt).1
    = k0_pay1 (k0_pay10 (iblk m c 2 t) (iblk m c 0 t) (iblk m c 3 t)) (k0_pay11 (iblk m c 1 t)) (k0_pay12 (iblk m c 1 t))
        (k0_pay13 (iblk m c 1 t)) := by
  rcases point_cases t with ⟨h0, h1⟩ | ⟨h0, h1⟩ | ⟨h0, h1⟩
  · rw [outsAt0_A m c t h0 h1]; frame_out
  · rw [outsAt0_B m c t h0 h1]; frame_out
  · rw [outsAt0_C m c t h0 h1]; frame_out

/-- What every point leaves in the block of the recurrence's gradient. -/
theorem outs5 (c : Dev nD) (t : Fin cfg0.N) : (outsAt0 m c t.val t.isLt).2.1
    = k0_pay2 (k0_pay8 (iblk m c 1 t)) (k0_pay9 (iblk m c 0 t) (iblk m c 3 t)) := by
  rcases point_cases t with ⟨h0, h1⟩ | ⟨h0, h1⟩ | ⟨h0, h1⟩
  · rw [outsAt0_A m c t h0 h1]; frame_out
  · rw [outsAt0_B m c t h0 h1]; frame_out
  · rw [outsAt0_C m c t h0 h1]; frame_out

/-- The derivative of the activation, as the kernel writes it. -/
def slope (x : EReal) : EReal :=
  let t := Ideal.tanh (Ideal.ofBits .f32 0x3F4C422A#32 *
    (x + Named.named (F := Ideal) (φ := .f32) κ "cube" 0x3D372713#32 * x * x * x))
  Ideal.ofBits .f32 0x3F000000#32 * (1 + t) + Ideal.ofBits .f32 0x3F000000#32 * x * (1 - t * t) * Ideal.ofBits .f32 0x3F4C422A#32
    * (1 + Named.named (F := Ideal) (φ := .f32) κ "three_cubes" 0x3E095D4F#32 * x * x)

theorem final4 (c : Dev nD) : (dats m 0 c).arrAt 4 (cfgs 0).N
    = (fun i => back (m ((c : Thread nD τ).loc main_arg2)) (m ((c : Thread nD τ).loc main_arg3)) i
        * (show FVec Ideal S16384x1024 .f32 from m ((c : Thread nD τ).loc main_arg1)) i
        * slope (m ((c : Thread nD τ).loc main_arg0) i) : FVec Ideal S16384x1024 .f32) := by
  refine (dats m 0 c).arrAt_eq_of_covers 4 _ (by decide +kernel) fun t hf y => ?_
  blk_simp; rw [after0_4, outs4]
  pointwise [k0_pay1, k0_pay10, k0_pay11, k0_pay12, k0_pay13, k0_pay6, k0_pay7, k0_pay8, k0_pay9, slope, back]
  simp only [gate_at]
  blk_point [iblk, V, idx t]

theorem final5 (c : Dev nD) : (dats m 0 c).arrAt 5 (cfgs 0).N
    = (fun i => back (m ((c : Thread nD τ).loc main_arg2)) (m ((c : Thread nD τ).loc main_arg3)) i
        * act (m ((c : Thread nD τ).loc main_arg0) i) : FVec Ideal S16384x1024 .f32) := by
  refine (dats m 0 c).arrAt_eq_of_covers 5 _ (by decide +kernel) fun t hf y => ?_
  blk_simp; rw [after0_5, outs5]
  pointwise [k0_pay2, k0_pay6, k0_pay7, k0_pay8, k0_pay9, act, back]
  simp only [gate_at]
  blk_point [iblk, V, idx t]

/-- One point's share of the gradient of the output matrix. -/
theorem pay4_at (g h dy : FVec Ideal S512x1024 .f32) (acc : FVec Ideal S1024x1024 .f32) (i : S1024x1024.Idx) :
    k0_pay4 h dy (k0_pay8 g) acc i = acc i + ∑ k : Fin 512, act (g (ix2 k (i 0))) * h (ix2 k (i 0)) * dy (ix2 k (i 1)) := by
  pointwise [k0_pay4, k0_pay6, k0_pay7, k0_pay8, act]

theorem pay3_at (i : S1024x1024.Idx) : k0_pay3 (F := Ideal) i = 0 := by
  pointwise [k0_pay3]

/-- The last point hands out the sum. -/
theorem outs6 (c : Dev nD) (t : Fin cfg0.N) (h1 : t.val % 32 = 31) (y : S1024x1024.Idx) :
    (outsAt0 m c t.val t.isLt).2.2.1 y = (outsAt0 m c t.val t.isLt).2.2.2 y := by
  rw [outsAt0_C m c t (by omega) h1]; frame_out
  pointwise [k0_pay5]

/-- The first point's sum. -/
theorem acc_first (c : Dev nD) (t : Fin cfg0.N) (h0 : t.val % 32 = 0) :
    (outsAt0 m c t.val t.isLt).2.2.2 = k0_pay4 (iblk m c 2 t) (iblk m c 0 t) (k0_pay8 (iblk m c 1 t)) (k0_pay3 (F := Ideal)) := by
  rw [outsAt0_A m c t h0 (by omega)]; frame_out

/-- Every other point adds to the sum before it. -/
theorem acc_next (c : Dev nD) (t : Fin cfg0.N) (h0 : ¬t.val % 32 = 0) :
    (outsAt0 m c t.val t.isLt).2.2.2 = k0_pay4 (iblk m c 2 t) (iblk m c 0 t) (k0_pay8 (iblk m c 1 t))
      (outsAt0 m c (t.val - 1) (Nat.lt_of_le_of_lt (Nat.sub_le _ _) t.isLt)).2.2.2 := by
  by_cases h1 : t.val % 32 = 31
  · rw [outsAt0_C m c t h0 h1]; frame_out
    exact congrArg (k0_pay4 _ _ _) (Memref.IsWhole.read_unread _ _)
  · rw [outsAt0_B m c t h0 h1]; frame_out
    exact congrArg (k0_pay4 _ _ _) (Memref.IsWhole.read_unread _ _)

theorem final6 (c : Dev nD) : (dats m 0 c).arrAt 6 (cfgs 0).N
    = (fun i => ∑ r : Fin 16384, act (m ((c : Thread nD τ).loc main_arg0) (ix2 r (i 0)))
        * (show FVec Ideal S16384x1024 .f32 from m ((c : Thread nD τ).loc main_arg1)) (ix2 r (i 0))
        * (show FVec Ideal S16384x1024 .f32 from m ((c : Thread nD τ).loc main_arg3)) (ix2 r (i 1)) : FVec Ideal S1024x1024 .bf16) := by
  refine (dats m 0 c).arrAt_eq_of_covers 6 _ (by decide +kernel) fun t hf y => ?_
  have e : ((cfg0.win 6).blk t).view.emb y = y := by blk_ext [idx t]
  rw [e]
  blk_simp; rw [after0_6]
  refine (outs6 m c t ((flush0_6 t).mp hf) y).trans ?_
  rw [Pipeline.eq_sum_fin_of_reset_step_apply_of_flush (fun n h => (outsAt0 m c n h).2.2.2) 32 (fun _ => (0 : EReal)) _
    (fun t h j => by rw [acc_first m c t h, pay4_at, pay3_at]) (fun t h j => by rw [acc_next m c t h, pay4_at]) t ((flush0_6 t).mp hf) y]
  rw [zero_add]
  refine Fin.sum_mul_add_congr fun s k hl => ?_
  simp only [gate_at]
  blk_point [iblk, V, idx ⟨_, Pipeline.run_point_lt_of_flush t ((flush0_6 t).mp hf) s⟩]

end Cert.GeluKernelIdeal.Result

namespace Cert.Proof

open Cert.Reals

/-- The reference is host operations only and declares no semaphore. -/
theorem gelu_reference_frame : Cert.quiescent_GeluReferenceIdeal := fun m ρ _ =>
  (θ_run Cert.GeluReferenceIdeal.defs _ _).mono (fun r h => ⟨fun c => (h c).2.2.2,
      sem_eq_zero_of_no_sems (by decide) r.2⟩)
    (Cert.GeluReferenceIdeal.Value.run (F := Ideal) m ρ)

/-- Each named constant is the number its name stands for. -/
theorem gelu_preserves : Cert.preserves_GeluKernel_GeluKernelIdeal :=
  ⟨IdealRules.named_const.statement Cert.GeluKernelIdeal.κ "cube" .f32 0x3D372713#32 _ rfl,
    IdealRules.named_const.statement Cert.GeluKernelIdeal.κ "three_cubes" .f32 0x3E095D4F#32 _ rfl⟩

/-- The coefficient of the cube: the reference's quotient. -/
theorem cube_quotient : Ideal.div (Ideal.ofBits .f32 0x472EAB00#32) (Ideal.ofBits .f32 0x49742400#32) = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul]
  norm_num

theorem cube_named : Named.named (F := Ideal) (φ := .f32) Cert.GeluKernelIdeal.κ "cube" 0x3D372713#32 = ((8943 / 200000 : ℝ) : EReal) :=
  IdealRules.named_const.ideal_named_scalar _ _ _ _ rfl

theorem three_cubes_named : Named.named (F := Ideal) (φ := .f32) Cert.GeluKernelIdeal.κ "three_cubes" 0x3E095D4F#32
    = ((26829 / 200000 : ℝ) : EReal) :=
  IdealRules.named_const.ideal_named_scalar _ _ _ _ rfl

/-- The activation as the reference writes it. -/
theorem act_law (x : EReal) : x * (Ideal.ofBits .f32 0x3F000000#32 * (1 + Ideal.tanh (Ideal.ofBits .f32 0x3F4C422A#32 *
    (x + Ideal.div (Ideal.ofBits .f32 0x472EAB00#32) (Ideal.ofBits .f32 0x49742400#32) * (x * x * x)))))
    = Cert.GeluKernelIdeal.Result.act x := by
  unfold Cert.GeluKernelIdeal.Result.act
  rw [cube_quotient, cube_named]
  simp only [mul_assoc]
  exact mul_left_comm _ _ _

/-- The gradient of the activation as differentiation of the reference's line gives it: of reals, the cotangent times the
    kernel's folded slope. -/
theorem slope_law (x p : EReal) (hx : IsReal x) (hp : IsReal p) :
    let t := Ideal.tanh (Ideal.ofBits .f32 0x3F4C422A#32 *
      (x + Ideal.div (Ideal.ofBits .f32 0x472EAB00#32) (Ideal.ofBits .f32 0x49742400#32) * (x * x * x)))
    let q := Ideal.ofBits .f32 0x3F4C422A#32 * (Ideal.ofBits .f32 0x3F000000#32 * (x * p) * ((1 + t) * (1 - t)))
    p * (Ideal.ofBits .f32 0x3F000000#32 * (1 + t)) + q
      + Ideal.div (Ideal.ofBits .f32 0x472EAB00#32) (Ideal.ofBits .f32 0x49742400#32) * q * (Ideal.ofBits .f32 0x40400000#32 * (x * x))
    = p * Cert.GeluKernelIdeal.Result.slope x := by
  intro t q
  have ht : IsReal t := by
    show IsReal (Ideal.tanh _)
    rw [cube_quotient]
    obtain ⟨v, hv⟩ := (ofBits_isReal 0x3F4C422A#32 (by decide)).mul (hx.add ((IsReal.coe (8943 / 200000)).mul ((hx.mul hx).mul hx)))
    exact ⟨_, (congrArg Ideal.tanh hv).trans (Ideal.tanh_coe v)⟩
  have hs : Cert.GeluKernelIdeal.Result.slope x
      = Ideal.ofBits .f32 0x3F000000#32 * (1 + t) + Ideal.ofBits .f32 0x3F000000#32 * x * (1 - t * t) * Ideal.ofBits .f32 0x3F4C422A#32
        * (1 + ((26829 / 200000 : ℝ) : EReal) * x * x) := by
    show _ = Ideal.ofBits .f32 0x3F000000#32 * (1 + Ideal.tanh _) + Ideal.ofBits .f32 0x3F000000#32 * x
      * (1 - Ideal.tanh _ * Ideal.tanh _) * Ideal.ofBits .f32 0x3F4C422A#32 * (1 + ((26829 / 200000 : ℝ) : EReal) * x * x)
    unfold Cert.GeluKernelIdeal.Result.slope
    simp only [cube_quotient, cube_named, three_cubes_named, mul_assoc]
  rw [hs, cube_quotient]
  show p * (_ * (1 + t)) + _ * (_ * (x * p) * ((1 + t) * (1 - t))) + _ * (_ * (_ * (x * p) * ((1 + t) * (1 - t)))) * _ = _
  rw [ofBits_half, ofBits_three]
  clear_value t
  obtain ⟨s, hs⟩ := ofBits_isReal 0x3F4C422A#32 (by decide)
  rw [hs]
  obtain ⟨t, rfl⟩ := ht; obtain ⟨x, rfl⟩ := hx; obtain ⟨p, rfl⟩ := hp
  norm_cast
  push_cast
  ring

/-- The kernel's results are the derivative of the reference's forward lines. -/
theorem gelu_algebraic : Cert.algebraic_GeluKernelIdeal_GeluReferenceIdeal_pre_gelu_finite := by
  pair_intro
  · run_from Cert.GeluKernelIdeal.Gen.run_main m g
  · run_from Cert.GeluReferenceIdeal.Value.run m' g'
    · rw [Cert.GeluKernelIdeal.Result.final4 m c]
      funext j
      have hx := fun i => isReal_of_abs_lt (congrFun (hpre c).1 i)
      have hh := fun i => isReal_of_abs_lt (congrFun (hpre c).2.1 i)
      have hw := fun i => isReal_of_abs_lt (congrFun (hpre c).2.2.1 i)
      have hd := fun i => isReal_of_abs_lt (congrFun (hpre c).2.2.2 i)
      pointwise [hagree c, Cert.GeluKernelIdeal.Result.back, Cert.GeluReferenceIdeal.Value.res_main_v40]
      exact slope_law _ _ (hx j) ((IsReal.sum _ fun k => (hd _).mul (hw _)).mul (hh j))
    · rw [Cert.GeluKernelIdeal.Result.final5 m c]
      funext j
      pointwise [hagree c, Cert.GeluKernelIdeal.Result.back, act_law]
      exact mul_comm _ _
    · rw [Cert.GeluKernelIdeal.Result.final6 m c]
      funext j
      pointwise [hagree c, act_law]
      exact Finset.sum_congr rfl fun x _ => mul_comm _ _

end Cert.Proof

end
-- ==== Proof.AttnBlock.lean ====
/- One block of the attention's backward kernel: what it does to the state, as a function and as a program, and that the program does it. -/
module

public import proofs.«01_k».proof.Defs
public import proofs.«01_k».proof.Proof.Gen.AttnKernelIdeal.Frame
public import Idealize.ShloMosaic.Lib.Tactic
public import Idealize.ShloMosaic.Lib.VecWindow
public import Idealize.ShloMosaic.Lib.WholeRead

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The state and one block's step -/

/-- The scores of a block of keys against a block of queries, transposed: one row per key. -/
def scores (k q : FVec F S512x128 .bf16) : FVec F S512x512 .f32 :=
  matmul dot_S512x128_S512x128_S512x512_1_1_0_0_n_n none k (shapeCast S512x128 q shapeCasts_S512x128_S512x128) (constant S512x512 .f32 0x00000000#32)

/-- The same on the diagonal block, where a query before the key has the mask for its score. -/
def scoresDiag (k q : FVec F S512x128 .bf16) : FVec F S512x512 .f32 :=
  select (cmpi .sge (iota .tc S512x512 32 [1] iota_S512x512_d1_w32) (iota .tc S512x512 32 [0] iota_S512x512_d0_w32)) (scores k q)
    (broadcast S512x512 (Named.named κ "mask" 0xF149F2CA#32))

/-- A row of 512 numbers, one per query, laid under every key. -/
def row (x : FVec F S1x1x1x512 .f32) : FVec F S512x512 .f32 :=
  broadcastTo S512x512 (shapeCast S1x512 x shapeCasts_S1x1x1x512_S1x512) broadcasts_S1x512_S512x512

/-- The probabilities of a block, from its scores and its queries' log-sums. -/
def probs (s : FVec F S512x512 .f32) (l : FVec F S1x1x1x512 .f32) : FVec F S512x512 .f32 := exp2 (subf s (row l))

/-- The gradients at a block's scores. -/
def dscores (p : FVec F S512x512 .f32) (v d : FVec F S512x128 .bf16) (e : FVec F S1x1x1x512 .f32) : FVec F S512x512 .bf16 :=
  truncf .bf16 (mulf p (subf (matmul dot_S512x128_S512x128_S512x512_1_1_0_0_n_n none v (shapeCast S512x128 d shapeCasts_S512x128_S512x128)
    (constant S512x512 .f32 0x00000000#32)) (row e))) bitsLt_bf16_f32

/-- The keys' gradients with a block added. -/
def addDk (a : FVec F S512x128 .f32) (g : FVec F S512x512 .bf16) (q : FVec F S512x128 .bf16) : FVec F S512x128 .f32 :=
  addf a (matmul dot_S512x512_S512x128_S512x128_1_0_0_1_n_n none g (shapeCast S512x128 q shapeCasts_S512x128_S512x128) (constant S512x128 .f32 0x00000000#32))

/-- The values' gradients with a block added. -/
def addDv (a : FVec F S512x128 .f32) (p : FVec F S512x512 .f32) (d : FVec F S512x128 .bf16) : FVec F S512x128 .f32 :=
  addf a (matmul dot_S512x512_S512x128_S512x128_1_0_0_1_n_n none (truncf .bf16 p bitsLt_bf16_f32)
    (shapeCast S512x128 d shapeCasts_S512x128_S512x128) (constant S512x128 .f32 0x00000000#32))

/-- The queries' gradients with a block added. -/
def addDq (a : FVec F S512x128 .f32) (g : FVec F S512x512 .bf16) (k : FVec F S512x128 .bf16) : FVec F S512x128 .f32 :=
  addf (shapeCast S512x128 a shapeCasts_S512x128_S512x128)
    (matmul dot_S512x512_S512x128_S512x128_0_0_1_1_n_n none g k (constant S512x128 .f32 0x00000000#32))

/-- What a point of the grid carries from block to block: the gradients of its keys and values, and those of all queries of the head. -/
abbrev St (F : FTy → Type) [FloatOps F] [Named F] : Type := (FVec F S512x128 .f32 × FVec F S512x128 .f32) × Vec F S16384x128 .f32

theorem rows_inb (n : Fin 32) : ∀ a : Fin 2, (![512 * n.val, 0] : Fin 2 → ℕ) a + S512x128.size a ≤ S16384x128.size a := by
  have := n.isLt
  intro a; fin_cases a
  · show 512 * n.val + 512 ≤ 16384; omega
  · show 0 + 128 ≤ 128; omega

theorem line_inb (n : Fin 32) : ∀ a : Fin 4, (![0, n.val, 0, 0] : Fin 4 → ℕ) a + S1x1x1x512.size a ≤ S1x32x1x512.size a := by
  have := n.isLt
  intro a; fin_cases a
  · show 0 + 1 ≤ 1; omega
  · show n.val + 1 ≤ 32; omega
  · show 0 + 1 ≤ 1; omega
  · show 0 + 512 ≤ 512; omega

/-- Block `n` of an array's rows. -/
def rows {φ : EltTy} (x : Vec F S16384x128 φ) (n : Fin 32) : Vec F S512x128 φ :=
  VecWindow.window x ![512 * n.val, 0] S512x128.size (rows_inb n)

/-- Line `n` of the rows' numbers. -/
def line (x : Vec F S1x32x1x512 .f32) (n : Fin 32) : Vec F S1x1x1x512 .f32 :=
  VecWindow.window x ![0, n.val, 0, 0] S1x1x1x512.size (line_inb n)

/-- What a point reads throughout: the head's queries and cotangents, the rows' log-sums and sums, its keys and values. -/
structure Ins (F : FTy → Type) [FloatOps F] [Named F] where
  q : Vec F S16384x128 .bf16
  d : Vec F S16384x128 .bf16
  l : Vec F S1x32x1x512 .f32
  e : Vec F S1x32x1x512 .f32
  k : FVec F S512x128 .bf16
  v : FVec F S512x128 .bf16

/-- One block's step, `sc` making the scores. -/
def step (sc : FVec F S512x128 .bf16 → FVec F S512x128 .bf16 → FVec F S512x512 .f32) (x : Ins F) (n : Fin 32) (s : St F) : St F :=
  let p := probs (sc x.k (rows x.q n)) (line x.l n)
  let g := dscores p x.v (rows x.d n) (line x.e n)
  ((addDk s.1.1 g (rows x.q n), addDv s.1.2 p (rows x.d n)),
    VecWindow.put s.2 ![512 * n.val, 0] S512x128.size (addDq (rows s.2 n) g x.k))

/-! ## The block as a program -/

section Program

variable (sc : FVec F S512x128 .bf16 → FVec F S512x128 .bf16 → FVec F S512x512 .f32)
  (arg2 arg5 : Memref sig .tc .vmem S16384x128 .bf16) (arg6 arg7 : Memref sig .tc .vmem S1x32x1x512 .f32) (arg8 : Memref sig .tc .vmem S16384x128 .f32)

/-- One block: it loads the queries, the cotangents and the two lines, adds to what it carries and to the queries' gradients. -/
def block (off : Fin 2 → ℕ) (hoff : ∀ a, off a + S512x128.size a ≤ S16384x128.size a)
    (ln : Fin 4 → ℕ) (hln : ∀ a, ln a + S1x1x1x512.size a ≤ S1x32x1x512.size a)
    (k v : FVec F S512x128 .bf16) (c : FVec F S512x128 .f32 × FVec F S512x128 .f32) :
    Prog (TpuEff nD τ sig (Elt F) Λ₀ .tc) (FVec F S512x128 .f32 × FVec F S512x128 .f32) := do
  let q : Vec F S512x128 .bf16 ← Prog.lift (.load arg2 (Rect.unit (s := S16384x128) off S512x128.size hoff).toLoadRect (View.loadsAt_vmem h_S512x128))
  let d : Vec F S512x128 .bf16 ← Prog.lift (.load arg5 (Rect.unit (s := S16384x128) off S512x128.size hoff).toLoadRect (View.loadsAt_vmem h_S512x128))
  let l : Vec F S1x1x1x512 .f32 ← Prog.lift (.load arg6 (Rect.unit (s := S1x32x1x512) ln S1x1x1x512.size hln).toLoadRect (View.loadsAt_vmem h_S1x1x1x512))
  let e : Vec F S1x1x1x512 .f32 ← Prog.lift (.load arg7 (Rect.unit (s := S1x32x1x512) ln S1x1x1x512.size hln).toLoadRect (View.loadsAt_vmem h_S1x1x1x512))
  let a : Vec F S512x128 .f32 ← Prog.lift (.load arg8 (Rect.unit (s := S16384x128) off S512x128.size hoff).toLoadRect (View.loadsAt_vmem h_S512x128))
  let _a' : Vec F S512x128 .f32 ← Prog.lift (.load arg8 (Rect.unit (s := S16384x128) off S512x128.size hoff).toLoadRect (View.loadsAt_vmem h_S512x128))
  Prog.lift (.store arg8 (Rect.unit (s := S16384x128) off S512x128.size hoff) (addDq a (dscores (probs (sc k q) l) v d e) k) Finset.univ
    (View.stores_vmem_bits_univ h_S512x128 rfl) (.inl rfl))
  pure (addDk c.1 (dscores (probs (sc k q) l) v d e) q, addDv c.2 (probs (sc k q) l) d)

/-- What a block needs and keeps: the four arrays it reads. -/
def reads (c : Dev nD) (x : Ins F) : sProp 𝕄 :=
  iprop(owns (c : Thread nD τ) arg2 fullShare x.q ∗ owns (c : Thread nD τ) arg5 fullShare x.d
    ∗ owns (c : Thread nD τ) arg6 fullShare x.l ∗ owns (c : Thread nD τ) arg7 fullShare x.e)

theorem block_wp (c : Dev nD) (E : Set ℕ) (x : Ins F) (n : Fin 32) (s : St F)
    (off : Fin 2 → ℕ) (hoff : ∀ a, off a + S512x128.size a ≤ S16384x128.size a)
    (ln : Fin 4 → ℕ) (hln : ∀ a, ln a + S1x1x1x512.size a ≤ S1x32x1x512.size a)
    (eo : off = ![512 * n.val, 0]) (el : ln = ![0, n.val, 0, 0]) :
    iprop(reads arg2 arg5 arg6 arg7 c x ∗ owns (c : Thread nD τ) arg8 fullShare s.2)
      ⊢ wp frame (wpE (defs₀ (F := F)) Variants.none (c : Thread nD τ) none) E (block sc arg2 arg5 arg6 arg7 arg8 off hoff ln hln x.k x.v s.1)
          (fun r => iprop(⌜r = (step sc x n s).1⌝ ∗ reads arg2 arg5 arg6 arg7 c x ∗ owns (c : Thread nD τ) arg8 fullShare (step sc x n s).2)) := by
  unfold block reads owns
  iintro ⟨⟨⟨%f2, %h2, H2⟩, ⟨%f5, %h5, H5⟩, ⟨%f6, %h6, H6⟩, ⟨%f7, %h7, H7⟩⟩, ⟨%f8, %h8, H8⟩⟩
  sl_exec
  sl_step
  have r2 : arg2.view.readAt (Elt F) (Rect.unit (s := S16384x128) off S512x128.size hoff).toLoadRect f2 = rows x.q n := by
    rw [View.readAt_unit _ _ hoff eo (rows_inb n), h2]; rfl
  have r5 : arg5.view.readAt (Elt F) (Rect.unit (s := S16384x128) off S512x128.size hoff).toLoadRect f5 = rows x.d n := by
    rw [View.readAt_unit _ _ hoff eo (rows_inb n), h5]; rfl
  have r6 : arg6.view.readAt (Elt F) (Rect.unit (s := S1x32x1x512) ln S1x1x1x512.size hln).toLoadRect f6 = line x.l n := by
    rw [View.readAt_unit _ _ hln el (line_inb n), h6]; rfl
  have r7 : arg7.view.readAt (Elt F) (Rect.unit (s := S1x32x1x512) ln S1x1x1x512.size hln).toLoadRect f7 = line x.e n := by
    rw [View.readAt_unit _ _ hln el (line_inb n), h7]; rfl
  have r8 : arg8.view.readAt (Elt F) (Rect.unit (s := S16384x128) off S512x128.size hoff).toLoadRect f8 = rows s.2 n := by
    rw [View.readAt_unit _ _ hoff eo (rows_inb n), h8]; rfl
  rw [r2, r5, r6, r7, r8]
  isplitr; · ipureintro; rfl
  isplitl [H2 H5 H6 H7]
  · isplitl [H2]; · iexists _; isplitr; · ipureintro; exact h2
                    iexact H2
    isplitl [H5]; · iexists _; isplitr; · ipureintro; exact h5
                    iexact H5
    isplitl [H6]; · iexists _; isplitr; · ipureintro; exact h6
                    iexact H6
    iexists _; isplitr; · ipureintro; exact h7
    iexact H7
  iexists _; isplitr
  swap; · iexact H8
  ipureintro
  rw [View.read_writes_cons_put _ _ hoff _ _ eo, View.writes_nil, h8]
  rfl

end Program

end Cert.AttnKernelIdeal.Hand

end
-- ==== Proof.AttnBody.lean ====
/- The body of the attention's backward kernel as a chain of blocks, and what it leaves: every block of queries from the diagonal on. -/
module

public import proofs.«01_k».proof.Proof.AttnBlock

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Several blocks, one after the other -/

/-- `u` programs in a row, each taking what the one before returns. -/
def chain {E : Type → Type} {σ : Type} : (u : ℕ) → (Fin u → σ → Prog E σ) → σ → Prog E σ
  | 0, _, c => pure c
  | u + 1, f, c => f 0 c >>= chain u (fun r => f r.succ)

/-- The state after `u` blocks from block `a` on. -/
def run (x : Ins F) (a : ℕ) : ℕ → St F → St F
  | 0, s => s
  | u + 1, s => run x (a + 1) u (if h : a < 32 then step scores x ⟨a, h⟩ s else s)

theorem run_add (x : Ins F) (u w : ℕ) : ∀ (a : ℕ) (s : St F), run x a (u + w) s = run x (a + u) w (run x a u s) := by
  induction u with
  | zero => intro a s; rw [Nat.zero_add]; rfl
  | succ u ih => intro a s; rw [Nat.succ_add]; show run x (a + 1) (u + w) _ = _; rw [ih]; congr 1; omega

section Program

variable (i : grid0.Coords) (arg2 : Memref sig .tc .vmem S16384x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S16384x128 .bf16) (harg5 : arg5.IsWhole)
  (arg6 : Memref sig .tc .vmem S1x32x1x512 .f32) (harg6 : arg6.IsWhole) (arg7 : Memref sig .tc .vmem S1x32x1x512 .f32) (harg7 : arg7.IsWhole)
  (arg8 : Memref sig .tc .vmem S16384x128 .f32) (harg8 : arg8.IsWhole) (arg9 : Memref sig .tc .vmem S512x128 .f32) (harg9 : arg9.IsWhole)
  (arg10 : Memref sig .tc .vmem S512x128 .f32) (harg10 : arg10.IsWhole)

local notation "blk" => block scores arg2 arg5 arg6 arg7 arg8

/-- Whether the point is the head's first. -/
abbrev first : Prop := Scalar.cmpi .ne (Scalar.extui (Scalar.cmpi .eq (BitVec.ofNat 32 (i 1).val) 0#32)) 0#32 = 1#1

/-- The body, said with blocks. -/
def body : Prog (TpuEff nD τ sig (Elt F) Λ₀ .tc) PUnit := do
  if _h : first i then do
    let _z : Vec F S16384x128 .f32 ← Prog.lift (.load arg8 (Rect.unit (s := S16384x128) ![0, 0] S16384x128.size inb_S16384x128_S16384x128_0_0).toLoadRect (View.loadsAt_vmem h_S16384x128))
    Prog.lift (.store arg8 (Rect.unit (s := S16384x128) ![0, 0] S16384x128.size inb_S16384x128_S16384x128_0_0) (broadcast S16384x128 (Scalar.ofBits .f32 0x00000000#32)) Finset.univ
      (View.stores_vmem_bits_univ h_S16384x128 rfl) (.inl rfl))
    pure ⟨⟩
  else do
    pure ⟨⟩
  let k : Vec F S512x128 .bf16 ← Prog.lift (.load arg3 (Rect.unit (s := S512x128) ![0, 0] S512x128.size inb_S512x128_S512x128_0_0).toLoadRect (View.loadsAt_vmem h_S512x128))
  let v : Vec F S512x128 .bf16 ← Prog.lift (.load arg4 (Rect.unit (s := S512x128) ![0, 0] S512x128.size inb_S512x128_S512x128_0_0).toLoadRect (View.loadsAt_vmem h_S512x128))
  have k' : FVec F S512x128 .bf16 := shapeCast S512x128 k shapeCasts_S512x128_S512x128
  have v' : FVec F S512x128 .bf16 := shapeCast S512x128 v shapeCasts_S512x128_S512x128
  have z : FVec F S512x128 .f32 := broadcast S512x128 (Scalar.ofBits .f32 0x00000000#32)
  let c ← block scoresDiag arg2 arg5 arg6 arg7 arg8 (k0_off1 i) (k0_off1_inb i) (k0_off2 i) (k0_off2_inb i) k' v' (z, z)
  let c ← Scf.Loop.for (k0_t1_loop i) (k0_t1_ok i) c fun t => chain 8 fun r => blk (k0_off3 i t (BitVec.ofNat 32 r.val)) (k0_off3_inb i t r) (k0_off4 i t (BitVec.ofNat 32 r.val)) (k0_off4_inb i t r) k' v'
  let c ← Scf.Loop.for (k0_t2_loop i) (k0_t2_ok i) c fun t => chain 8 fun r => blk (k0_off5 i t (BitVec.ofNat 32 r.val)) (k0_off5_inb i t r) (k0_off6 i t (BitVec.ofNat 32 r.val)) (k0_off6_inb i t r) k' v'
  let c ← Scf.Loop.for (k0_t3_loop i) (k0_t3_ok i) c fun t => chain 4 fun r => blk (k0_off7 i t (BitVec.ofNat 32 r.val)) (k0_off7_inb i t r) (k0_off8 i t (BitVec.ofNat 32 r.val)) (k0_off8_inb i t r) k' v'
  let c ← Scf.Loop.for (k0_t4_loop i) (k0_t4_ok i) c fun t => chain 4 fun r => blk (k0_off9 i t (BitVec.ofNat 32 r.val)) (k0_off9_inb i t r) (k0_off10 i t (BitVec.ofNat 32 r.val)) (k0_off10_inb i t r) k' v'
  let c ← Scf.Loop.for (k0_t5_loop i) (k0_t5_ok i) c fun t => chain 2 fun r => blk (k0_off11 i t (BitVec.ofNat 32 r.val)) (k0_off11_inb i t r) (k0_off12 i t (BitVec.ofNat 32 r.val)) (k0_off12_inb i t r) k' v'
  let c ← Scf.Loop.for (k0_t6_loop i) (k0_t6_ok i) c fun t => chain 2 fun r => blk (k0_off13 i t (BitVec.ofNat 32 r.val)) (k0_off13_inb i t r) (k0_off14 i t (BitVec.ofNat 32 r.val)) (k0_off14_inb i t r) k' v'
  let c ← Scf.Loop.for (k0_t7_loop i) (k0_t7_ok i) c fun t => chain 1 fun _ => blk (k0_off15 i t) (k0_off15_inb i t) (k0_off16 i t) (k0_off16_inb i t) k' v'
  let c ← Scf.Loop.for (k0_t8_loop i) (k0_t8_ok i) c fun t => chain 1 fun _ => blk (k0_off17 i t) (k0_off17_inb i t) (k0_off18 i t) (k0_off18_inb i t) k' v'
  let _a ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (mulf c.1 (broadcast S512x128 (Named.named κ "ln_2" 0x3F317218#32))) Finset.univ
    (View.stores_vmem_bits_univ h_S512x128 rfl) (.inl rfl))
  let _b ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) c.2 Finset.univ
    (View.stores_vmem_bits_univ h_S512x128 rfl) (.inl rfl))
  pure ⟨⟩

omit [Named F] in
theorem bind_congr_both {α β : Type} (a a' : Prog (TpuEff nD τ sig (Elt F) Λ₀ .tc) α) (f g : α → Prog (TpuEff nD τ sig (Elt F) Λ₀ .tc) β)
    (h : a = a') (h' : ∀ x, f x = g x) : a >>= f = a' >>= g := by
  rw [h, funext h']

set_option maxHeartbeats 4000000 in
/-- The printed body is that program, effect by effect. -/
theorem body_eq : cc0_attn_bwd (F := F) i arg2 harg2 arg3 harg3 arg4 harg4 arg5 harg5 arg6 harg6 arg7 harg7 arg8 harg8 arg9 harg9 arg10 harg10
    = body i arg2 arg3 arg4 arg5 arg6 arg7 arg8 arg9 arg10 := by
  unfold cc0_attn_bwd k0_part23 body
  dsimp only
  by_cases h : first i
  · rw [dif_pos h, dif_pos h]
    unfold k0_part24 k0_part25 k0_part26 block
    dsimp only
    simp only [bind_assoc, pure_bind]
    repeat (refine bind_congr_both _ _ _ _ rfl fun _ => ?_)
    rfl
  · rw [dif_neg h, dif_neg h]
    unfold k0_part24 k0_part25 k0_part26 block
    dsimp only
    simp only [bind_assoc, pure_bind]
    repeat (refine bind_congr_both _ _ _ _ rfl fun _ => ?_)
    rfl

end Program

end Cert.AttnKernelIdeal.Hand

end
-- ==== Proof.AttnTrips.lean ====
/- How many trips each of the body's loops makes, and which block a trip takes. -/
module

public import proofs.«01_k».proof.Proof.Gen.AttnKernelIdeal

@[expose] public section

set_option maxRecDepth 16384

noncomputable section

namespace Cert.AttnKernelIdeal.Hand

open Cert.AttnKernelIdeal Cert.AttnKernelIdeal.Gen
open Idealize.ShloMosaic

/-- The loops by eights, fours, twos and ones make the trips that use up the blocks after the diagonal. -/
theorem trips : ∀ i : grid0.Coords, (k0_t1_loop i).trips = (31 - (i 1).val) / 8 ∧ (k0_t3_loop i).trips = (31 - (i 1).val) % 8 / 4
    ∧ (k0_t5_loop i).trips = (31 - (i 1).val) % 4 / 2 ∧ (k0_t7_loop i).trips = (31 - (i 1).val) % 2 := by decide +kernel

/-- The loops between them make none. -/
theorem no_trips : ∀ i : grid0.Coords, (k0_t2_loop i).trips = 0 ∧ (k0_t4_loop i).trips = 0 ∧ (k0_t6_loop i).trips = 0 ∧ (k0_t8_loop i).trips = 0 := by
  decide +kernel

theorem off1 : ∀ (i : grid0.Coords) (t : Fin (k0_t1_loop i).trips) (r : Fin 8), (i 1).val + 1 + 8 * t.val + r.val < 32
    ∧ k0_off3 i t (BitVec.ofNat 32 r.val) = ![512 * ((i 1).val + 1 + 8 * t.val + r.val), 0]
    ∧ k0_off4 i t (BitVec.ofNat 32 r.val) = ![0, (i 1).val + 1 + 8 * t.val + r.val, 0, 0] := by decide +kernel

theorem off3 : ∀ (i : grid0.Coords) (t : Fin (k0_t3_loop i).trips) (r : Fin 4), 32 - (31 - (i 1).val) % 8 + 4 * t.val + r.val < 32
    ∧ k0_off7 i t (BitVec.ofNat 32 r.val) = ![512 * (32 - (31 - (i 1).val) % 8 + 4 * t.val + r.val), 0]
    ∧ k0_off8 i t (BitVec.ofNat 32 r.val) = ![0, 32 - (31 - (i 1).val) % 8 + 4 * t.val + r.val, 0, 0] := by decide +kernel

theorem off5 : ∀ (i : grid0.Coords) (t : Fin (k0_t5_loop i).trips) (r : Fin 2), 32 - (31 - (i 1).val) % 4 + 2 * t.val + r.val < 32
    ∧ k0_off11 i t (BitVec.ofNat 32 r.val) = ![512 * (32 - (31 - (i 1).val) % 4 + 2 * t.val + r.val), 0]
    ∧ k0_off12 i t (BitVec.ofNat 32 r.val) = ![0, 32 - (31 - (i 1).val) % 4 + 2 * t.val + r.val, 0, 0] := by decide +kernel

theorem off7 : ∀ (i : grid0.Coords) (t : Fin (k0_t7_loop i).trips), 32 - (31 - (i 1).val) % 2 + 1 * t.val + 0 < 32
    ∧ k0_off15 i t = ![512 * (32 - (31 - (i 1).val) % 2 + 1 * t.val + 0), 0]
    ∧ k0_off16 i t = ![0, 32 - (31 - (i 1).val) % 2 + 1 * t.val + 0, 0, 0] := by decide +kernel

end Cert.AttnKernelIdeal.Hand

end
-- ==== Proof.AttnRun.lean ====
/- What the body of the attention's backward kernel leaves at a point, run. -/
module

public import proofs.«01_k».proof.Proof.AttnBody
public import proofs.«01_k».proof.Proof.AttnTrips

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A program and what follows it. -/
theorem then_wp (c : Dev nD) (E : Set ℕ) {α β : Type} {P : sProp 𝕄} {p : Prog (TpuEff nD τ sig (Elt F) Λ₀ .tc) α} {Q : α → sProp 𝕄}
    {k : α → Prog (TpuEff nD τ sig (Elt F) Λ₀ .tc) β} {R : β → sProp 𝕄} (h : P ⊢ wp frame (wpE (defs₀ (F := F)) Variants.none (c : Thread nD τ) none) E p Q) :
    iprop(P ∗ (∀ y, Q y -∗ wp frame (wpE (defs₀ (F := F)) Variants.none (c : Thread nD τ) none) E (k y) R)) ⊢ wp frame (wpE (defs₀ (F := F)) Variants.none (c : Thread nD τ) none) E (p >>= k) R := by
  rw [wp_bind]
  iintro ⟨HP, HK⟩
  iapply (wp_wand_r frame (wpE (defs₀ (F := F)) Variants.none (c : Thread nD τ) none) E)
  isplitl [HP]
  · iapply h; iexact HP
  · iexact HK

section Loops

variable (arg2 arg5 : Memref sig .tc .vmem S16384x128 .bf16) (arg6 arg7 : Memref sig .tc .vmem S1x32x1x512 .f32) (arg8 : Memref sig .tc .vmem S16384x128 .f32)
  (c : Dev nD) (E : Set ℕ) (x : Ins F)

/-- What is held between blocks. -/
def held (s : St F) : sProp 𝕄 := iprop(reads arg2 arg5 arg6 arg7 c x ∗ owns (c : Thread nD τ) arg8 fullShare s.2)

/-- What a program leaves that brings the state to `s`. -/
abbrev leaves (s : St F) (y : FVec F S512x128 .f32 × FVec F S512x128 .f32) : sProp 𝕄 := iprop(⌜y = s.1⌝ ∗ held arg2 arg5 arg6 arg7 arg8 c x s)

theorem block_leaves (sc : FVec F S512x128 .bf16 → FVec F S512x128 .bf16 → FVec F S512x512 .f32) (n : Fin 32)
    {off : Fin 2 → ℕ} (hoff : ∀ a, off a + S512x128.size a ≤ S16384x128.size a)
    {ln : Fin 4 → ℕ} (hln : ∀ a, ln a + S1x1x1x512.size a ≤ S1x32x1x512.size a)
    (eo : off = ![512 * n.val, 0]) (el : ln = ![0, n.val, 0, 0]) (s : St F) :
    held arg2 arg5 arg6 arg7 arg8 c x s
      ⊢ wp frame (wpE (defs₀ (F := F)) Variants.none (c : Thread nD τ) none) E (block sc arg2 arg5 arg6 arg7 arg8 off hoff ln hln x.k x.v s.1) (leaves arg2 arg5 arg6 arg7 arg8 c x (step sc x n s)) :=
  block_wp sc arg2 arg5 arg6 arg7 arg8 c E x n s off hoff ln hln eo el

theorem chain_leaves (u : ℕ) : ∀ (f : Fin u → FVec F S512x128 .f32 × FVec F S512x128 .f32 → Prog (TpuEff nD τ sig (Elt F) Λ₀ .tc) (FVec F S512x128 .f32 × FVec F S512x128 .f32))
    (a : ℕ) (h : ∀ r : Fin u, a + r.val < 32)
    (hf : ∀ (r : Fin u) (s : St F), held arg2 arg5 arg6 arg7 arg8 c x s ⊢ wp frame (wpE (defs₀ (F := F)) Variants.none (c : Thread nD τ) none) E (f r s.1) (leaves arg2 arg5 arg6 arg7 arg8 c x (step scores x ⟨a + r.val, h r⟩ s)))
    (s : St F), held arg2 arg5 arg6 arg7 arg8 c x s ⊢ wp frame (wpE (defs₀ (F := F)) Variants.none (c : Thread nD τ) none) E (chain u f s.1) (leaves arg2 arg5 arg6 arg7 arg8 c x (run x a u s)) := by
  induction u with
  | zero =>
    intro f a h hf s
    unfold chain leaves
    iintro H
    sl_step
    isplitr; · ipureintro; rfl
    iexact H
  | succ u ih =>
    intro f a h hf s
    have ha : a < 32 := h 0
    have e : run x a (u + 1) s = run x (a + 1) u (step scores x ⟨a, ha⟩ s) := by
      show run x (a + 1) u (if h : a < 32 then step scores x ⟨a, h⟩ s else s) = _
      rw [dif_pos ha]
    rw [e]
    unfold chain
    iintro H
    iapply (then_wp c E (hf 0 s))
    isplitl [H]; · iexact H
    iintro %y ⟨%hy, H⟩
    subst hy
    iapply (ih (fun r => f r.succ) (a + 1) (fun r => by have := h r.succ; simp only [Fin.val_succ] at this; omega)
      (fun r s => by
        have e : (⟨a + r.succ.val, h r.succ⟩ : Fin 32) = ⟨a + 1 + r.val, by have := h r.succ; simp only [Fin.val_succ] at this; omega⟩ :=
          Fin.ext (by simp only [Fin.val_succ]; omega)
        have := hf r.succ s
        rw [e] at this
        exact this) (step scores x ⟨a, ha⟩ s))
    iexact H

/-- A loop whose trips take `u` blocks each, from block `b` on. -/
theorem loop_leaves (l : Scf.Loop 32) (ok : l.OK) (u b : ℕ)
    (f : Fin l.trips → Fin u → FVec F S512x128 .f32 × FVec F S512x128 .f32 → Prog (TpuEff nD τ sig (Elt F) Λ₀ .tc) (FVec F S512x128 .f32 × FVec F S512x128 .f32))
    (h : ∀ (t : Fin l.trips) (r : Fin u), b + u * t.val + r.val < 32)
    (hf : ∀ (t : Fin l.trips) (r : Fin u) (s : St F), held arg2 arg5 arg6 arg7 arg8 c x s
      ⊢ wp frame (wpE (defs₀ (F := F)) Variants.none (c : Thread nD τ) none) E (f t r s.1) (leaves arg2 arg5 arg6 arg7 arg8 c x (step scores x ⟨b + u * t.val + r.val, h t r⟩ s))) (s : St F) :
    held arg2 arg5 arg6 arg7 arg8 c x s
      ⊢ wp frame (wpE (defs₀ (F := F)) Variants.none (c : Thread nD τ) none) E (Scf.Loop.for l ok s.1 fun t => chain u (f t)) (leaves arg2 arg5 arg6 arg7 arg8 c x (run x b (u * l.trips) s)) := by
  iintro H
  iapply (Scf.wp_for frame (wpE (defs₀ (F := F)) Variants.none (c : Thread nD τ) none) E l.lb l.ub l.st ok s.1 (fun t => chain u (f t))
    (fun k y => leaves arg2 arg5 arg6 arg7 arg8 c x (run x b (u * k) s) y) (fun t y => by
      iintro ⟨%hy, H⟩
      subst hy
      show _ ⊢ wp frame (wpE (defs₀ (F := F)) Variants.none (c : Thread nD τ) none) E _ (fun y => leaves arg2 arg5 arg6 arg7 arg8 c x (run x b (u * (t.val + 1)) s) y)
      rw [Nat.mul_succ, run_add]
      iapply (chain_leaves arg2 arg5 arg6 arg7 arg8 c E x u (f t) (b + u * t.val) (h t) (hf t) (run x b (u * t.val) s))))
  isplitl [H]
  · unfold leaves
    isplitr; · ipureintro; rfl
    iexact H
  iintro %y H
  iexact H

/-- A loop that makes no trip. -/
theorem loop_none (l : Scf.Loop 32) (ok : l.OK) (n : l.trips = 0)
    (f : Fin l.trips → FVec F S512x128 .f32 × FVec F S512x128 .f32 → Prog (TpuEff nD τ sig (Elt F) Λ₀ .tc) (FVec F S512x128 .f32 × FVec F S512x128 .f32)) (s : St F) :
    held arg2 arg5 arg6 arg7 arg8 c x s
      ⊢ wp frame (wpE (defs₀ (F := F)) Variants.none (c : Thread nD τ) none) E (Scf.Loop.for l ok s.1 f) (leaves arg2 arg5 arg6 arg7 arg8 c x s) := by
  iintro H
  iapply (Scf.wp_for frame (wpE (defs₀ (F := F)) Variants.none (c : Thread nD τ) none) E l.lb l.ub l.st ok s.1 f
    (fun _ y => leaves arg2 arg5 arg6 arg7 arg8 c x s y) (fun t y => absurd (show t.val < l.trips from t.isLt) (by omega)))
  isplitl [H]
  · unfold leaves
    isplitr; · ipureintro; rfl
    iexact H
  iintro %y H
  iexact H

end Loops

/-! ## The body -/

/-- The queries' gradients a point starts from: zero at the head's first point, else what the point before left. -/
def start (i : grid0.Coords) (d : Vec F S16384x128 .f32) : Vec F S16384x128 .f32 :=
  if first i then broadcast S16384x128 (Scalar.ofBits .f32 0x00000000#32) else d

/-- The state after a point: the diagonal block, then all after it. -/
def final (i : grid0.Coords) (x : Ins F) (d : Vec F S16384x128 .f32) : St F :=
  run x ((i 1).val + 1) (31 - (i 1).val) (step scoresDiag x ⟨(i 1).val, (i 1).isLt⟩
    ((broadcast S512x128 (Scalar.ofBits .f32 0x00000000#32), broadcast S512x128 (Scalar.ofBits .f32 0x00000000#32)), start i d))

/-- The keys' gradients as they are stored. -/
def scaled (a : FVec F S512x128 .f32) : FVec F S512x128 .f32 := mulf a (broadcast S512x128 (Named.named κ "ln_2" 0x3F317218#32))

/-- A point's inputs from its blocks. -/
def ins (x0 : Vec F S16384x128 .bf16) (x1 x2 : Vec F S512x128 .bf16) (x3 : Vec F S16384x128 .bf16) (x4 x5 : Vec F S1x32x1x512 .f32) : Ins F where
  q := x0
  d := x3
  l := x4
  e := x5
  k := shapeCast S512x128 x1 shapeCasts_S512x128_S512x128
  v := shapeCast S512x128 x2 shapeCasts_S512x128_S512x128

theorem run_all (x : Ins F) (j : ℕ) (hj : j < 32) (n1 n3 n5 n7 : ℕ) (e1 : n1 = (31 - j) / 8) (e3 : n3 = (31 - j) % 8 / 4) (e5 : n5 = (31 - j) % 4 / 2)
    (e7 : n7 = (31 - j) % 2) (s : St F) :
    run x (32 - (31 - j) % 2) (1 * n7) (run x (32 - (31 - j) % 4) (2 * n5) (run x (32 - (31 - j) % 8) (4 * n3) (run x (j + 1) (8 * n1) s)))
      = run x (j + 1) (31 - j) s := by
  rw [show 32 - (31 - j) % 8 = j + 1 + 8 * n1 by omega, ← run_add, show 32 - (31 - j) % 4 = j + 1 + (8 * n1 + 4 * n3) by omega, ← run_add,
    show 32 - (31 - j) % 2 = j + 1 + (8 * n1 + 4 * n3 + 2 * n5) by omega, ← run_add, show 8 * n1 + 4 * n3 + 2 * n5 + 1 * n7 = 31 - j by omega]

section Body

variable (c : Dev nD) (E : Set ℕ) (i : grid0.Coords) (arg2 : Memref sig .tc .vmem S16384x128 .bf16) (arg3 : Memref sig .tc .vmem S512x128 .bf16)
  (arg4 : Memref sig .tc .vmem S512x128 .bf16) (arg5 : Memref sig .tc .vmem S16384x128 .bf16)
  (arg6 : Memref sig .tc .vmem S1x32x1x512 .f32) (arg7 : Memref sig .tc .vmem S1x32x1x512 .f32)
  (arg8 : Memref sig .tc .vmem S16384x128 .f32) (arg9 : Memref sig .tc .vmem S512x128 .f32) (arg10 : Memref sig .tc .vmem S512x128 .f32)
  (x0 : Vec F S16384x128 .bf16) (x1 x2 : Vec F S512x128 .bf16) (x3 : Vec F S16384x128 .bf16) (x4 x5 : Vec F S1x32x1x512 .f32) (d : Vec F S16384x128 .f32)

/-- The blocks and loops of the body, from the state they start in. -/
def blocks (k v : FVec F S512x128 .bf16) : Prog (TpuEff nD τ sig (Elt F) Λ₀ .tc) (FVec F S512x128 .f32 × FVec F S512x128 .f32) := do
  have z : FVec F S512x128 .f32 := broadcast S512x128 (Scalar.ofBits .f32 0x00000000#32)
  let c ← block scoresDiag arg2 arg5 arg6 arg7 arg8 (k0_off1 i) (k0_off1_inb i) (k0_off2 i) (k0_off2_inb i) k v (z, z)
  let c ← Scf.Loop.for (k0_t1_loop i) (k0_t1_ok i) c fun t => chain 8 fun r => block scores arg2 arg5 arg6 arg7 arg8 (k0_off3 i t (BitVec.ofNat 32 r.val)) (k0_off3_inb i t r) (k0_off4 i t (BitVec.ofNat 32 r.val)) (k0_off4_inb i t r) k v
  let c ← Scf.Loop.for (k0_t2_loop i) (k0_t2_ok i) c fun t => chain 8 fun r => block scores arg2 arg5 arg6 arg7 arg8 (k0_off5 i t (BitVec.ofNat 32 r.val)) (k0_off5_inb i t r) (k0_off6 i t (BitVec.ofNat 32 r.val)) (k0_off6_inb i t r) k v
  let c ← Scf.Loop.for (k0_t3_loop i) (k0_t3_ok i) c fun t => chain 4 fun r => block scores arg2 arg5 arg6 arg7 arg8 (k0_off7 i t (BitVec.ofNat 32 r.val)) (k0_off7_inb i t r) (k0_off8 i t (BitVec.ofNat 32 r.val)) (k0_off8_inb i t r) k v
  let c ← Scf.Loop.for (k0_t4_loop i) (k0_t4_ok i) c fun t => chain 4 fun r => block scores arg2 arg5 arg6 arg7 arg8 (k0_off9 i t (BitVec.ofNat 32 r.val)) (k0_off9_inb i t r) (k0_off10 i t (BitVec.ofNat 32 r.val)) (k0_off10_inb i t r) k v
  let c ← Scf.Loop.for (k0_t5_loop i) (k0_t5_ok i) c fun t => chain 2 fun r => block scores arg2 arg5 arg6 arg7 arg8 (k0_off11 i t (BitVec.ofNat 32 r.val)) (k0_off11_inb i t r) (k0_off12 i t (BitVec.ofNat 32 r.val)) (k0_off12_inb i t r) k v
  let c ← Scf.Loop.for (k0_t6_loop i) (k0_t6_ok i) c fun t => chain 2 fun r => block scores arg2 arg5 arg6 arg7 arg8 (k0_off13 i t (BitVec.ofNat 32 r.val)) (k0_off13_inb i t r) (k0_off14 i t (BitVec.ofNat 32 r.val)) (k0_off14_inb i t r) k v
  let c ← Scf.Loop.for (k0_t7_loop i) (k0_t7_ok i) c fun t => chain 1 fun _ => block scores arg2 arg5 arg6 arg7 arg8 (k0_off15 i t) (k0_off15_inb i t) (k0_off16 i t) (k0_off16_inb i t) k v
  Scf.Loop.for (k0_t8_loop i) (k0_t8_ok i) c fun t => chain 1 fun _ => block scores arg2 arg5 arg6 arg7 arg8 (k0_off17 i t) (k0_off17_inb i t) (k0_off18 i t) (k0_off18_inb i t) k v

theorem blocks_leaves (x : Ins F) (z : Vec F S16384x128 .f32) :
    held arg2 arg5 arg6 arg7 arg8 c x ((broadcast S512x128 (Scalar.ofBits .f32 0x00000000#32), broadcast S512x128 (Scalar.ofBits .f32 0x00000000#32)), z)
      ⊢ wp frame (wpE (defs₀ (F := F)) Variants.none (c : Thread nD τ) none) E (blocks i arg2 arg5 arg6 arg7 arg8 x.k x.v) (leaves arg2 arg5 arg6 arg7 arg8 c x
        (run x ((i 1).val + 1) (31 - (i 1).val) (step scoresDiag x ⟨(i 1).val, (i 1).isLt⟩
          ((broadcast S512x128 (Scalar.ofBits .f32 0x00000000#32), broadcast S512x128 (Scalar.ofBits .f32 0x00000000#32)), z)))) := by
  have T := trips i
  have N := no_trips i
  have hj : (i 1).val < 32 := (i 1).isLt
  unfold blocks
  iintro H
  iapply (then_wp c E (block_leaves arg2 arg5 arg6 arg7 arg8 c E x scoresDiag ⟨(i 1).val, hj⟩ (k0_off1_inb i) (k0_off2_inb i) (k0_off1_eq i) (k0_off2_eq i)
    ((broadcast S512x128 (Scalar.ofBits .f32 0x00000000#32), broadcast S512x128 (Scalar.ofBits .f32 0x00000000#32)), z)))
  isplitl [H]; · iexact H
  iintro %y ⟨%hy, H⟩
  subst hy
  iapply (then_wp c E (loop_leaves arg2 arg5 arg6 arg7 arg8 c E x (k0_t1_loop i) (k0_t1_ok i) 8 ((i 1).val + 1) _ (fun t r => (off1 i t r).1)
    (fun t r s => block_leaves arg2 arg5 arg6 arg7 arg8 c E x scores _ (k0_off3_inb i t r) (k0_off4_inb i t r) (off1 i t r).2.1 (off1 i t r).2.2 s) _))
  isplitl [H]; · iexact H
  iintro %y ⟨%hy, H⟩
  subst hy
  iapply (then_wp c E (loop_none arg2 arg5 arg6 arg7 arg8 c E x (k0_t2_loop i) (k0_t2_ok i) N.1 _ _))
  isplitl [H]; · iexact H
  iintro %y ⟨%hy, H⟩
  subst hy
  iapply (then_wp c E (loop_leaves arg2 arg5 arg6 arg7 arg8 c E x (k0_t3_loop i) (k0_t3_ok i) 4 (32 - (31 - (i 1).val) % 8) _ (fun t r => (off3 i t r).1)
    (fun t r s => block_leaves arg2 arg5 arg6 arg7 arg8 c E x scores _ (k0_off7_inb i t r) (k0_off8_inb i t r) (off3 i t r).2.1 (off3 i t r).2.2 s) _))
  isplitl [H]; · iexact H
  iintro %y ⟨%hy, H⟩
  subst hy
  iapply (then_wp c E (loop_none arg2 arg5 arg6 arg7 arg8 c E x (k0_t4_loop i) (k0_t4_ok i) N.2.1 _ _))
  isplitl [H]; · iexact H
  iintro %y ⟨%hy, H⟩
  subst hy
  iapply (then_wp c E (loop_leaves arg2 arg5 arg6 arg7 arg8 c E x (k0_t5_loop i) (k0_t5_ok i) 2 (32 - (31 - (i 1).val) % 4) _ (fun t r => (off5 i t r).1)
    (fun t r s => block_leaves arg2 arg5 arg6 arg7 arg8 c E x scores _ (k0_off11_inb i t r) (k0_off12_inb i t r) (off5 i t r).2.1 (off5 i t r).2.2 s) _))
  isplitl [H]; · iexact H
  iintro %y ⟨%hy, H⟩
  subst hy
  iapply (then_wp c E (loop_none arg2 arg5 arg6 arg7 arg8 c E x (k0_t6_loop i) (k0_t6_ok i) N.2.2.1 _ _))
  isplitl [H]; · iexact H
  iintro %y ⟨%hy, H⟩
  subst hy
  iapply (then_wp c E (loop_leaves arg2 arg5 arg6 arg7 arg8 c E x (k0_t7_loop i) (k0_t7_ok i) 1 (32 - (31 - (i 1).val) % 2) _
    (fun t r => by have := (off7 i t).1; have := r.isLt; omega)
    (fun t r s => block_leaves arg2 arg5 arg6 arg7 arg8 c E x scores _ (k0_off15_inb i t) (k0_off16_inb i t)
      (by have e : r = 0 := Subsingleton.elim _ _; subst e; exact (off7 i t).2.1) (by have e : r = 0 := Subsingleton.elim _ _; subst e; exact (off7 i t).2.2) s) _))
  isplitl [H]; · iexact H
  iintro %y ⟨%hy, H⟩
  subst hy
  iapply (wp_wand_r frame (wpE (defs₀ (F := F)) Variants.none (c : Thread nD τ) none) E)
  isplitl [H]
  · iapply (loop_none arg2 arg5 arg6 arg7 arg8 c E x (k0_t8_loop i) (k0_t8_ok i) N.2.2.2 _ _)
    iexact H
  iintro %y H
  rw [← run_all x (i 1).val hj _ _ _ _ T.1 T.2.1 T.2.2.1 T.2.2.2]
  iexact H

/-- The queries' gradients are zeroed at the head's first point. -/
def opening : Prog (TpuEff nD τ sig (Elt F) Λ₀ .tc) PUnit :=
  if _h : first i then do
    let _z : Vec F S16384x128 .f32 ← Prog.lift (.load arg8 (Rect.unit (s := S16384x128) ![0, 0] S16384x128.size inb_S16384x128_S16384x128_0_0).toLoadRect (View.loadsAt_vmem h_S16384x128))
    Prog.lift (.store arg8 (Rect.unit (s := S16384x128) ![0, 0] S16384x128.size inb_S16384x128_S16384x128_0_0) (broadcast S16384x128 (Scalar.ofBits .f32 0x00000000#32)) Finset.univ
      (View.stores_vmem_bits_univ h_S16384x128 rfl) (.inl rfl))
    pure ⟨⟩
  else do
    pure ⟨⟩

theorem opening_wp : (owns (c : Thread nD τ) arg8 fullShare d : sProp 𝕄)
    ⊢ wp frame (wpE (defs₀ (F := F)) Variants.none (c : Thread nD τ) none) E (opening i arg8) (fun _ => owns (c : Thread nD τ) arg8 fullShare (start i d)) := by
  unfold opening start owns
  by_cases h : first i
  · rw [dif_pos h, if_pos h]
    iintro ⟨%f8, %h8, H8⟩
    sl_exec
    sl_step
    iexists _; isplitr
    swap; · iexact H8
    ipureintro
    exact View.read_writes_full _ _ _ _ _
  · rw [dif_neg h, if_neg h]
    iintro ⟨%f8, %h8, H8⟩
    sl_step
    iexists _; isplitr
    swap; · iexact H8
    ipureintro
    exact h8

/-- A block of keys or values read whole. -/
def fetch (a : Memref sig .tc .vmem S512x128 .bf16) : Prog (TpuEff nD τ sig (Elt F) Λ₀ .tc) (Vec F S512x128 .bf16) :=
  Prog.lift (.load a (Rect.unit (s := S512x128) ![0, 0] S512x128.size inb_S512x128_S512x128_0_0).toLoadRect (View.loadsAt_vmem h_S512x128))

theorem fetch_wp (a : Memref sig .tc .vmem S512x128 .bf16) (x : Vec F S512x128 .bf16) : (owns (c : Thread nD τ) a fullShare x : sProp 𝕄)
    ⊢ wp frame (wpE (defs₀ (F := F)) Variants.none (c : Thread nD τ) none) E (fetch a) (fun y => iprop(⌜y = x⌝ ∗ owns (c : Thread nD τ) a fullShare x)) := by
  unfold fetch owns Prog.lift
  iintro ⟨%f, %h, H⟩
  sl_step
  sl_step
  isplitr
  · ipureintro
    exact (View.readAt_full _ _ _).trans h
  iexists _; isplitr
  swap; · iexact H
  ipureintro
  exact h

/-- A result stored whole. -/
def save (a : Memref sig .tc .vmem S512x128 .f32) (w : FVec F S512x128 .f32) : Prog (TpuEff nD τ sig (Elt F) Λ₀ .tc) PUnit := do
  let _a ← Prog.lift (.load a (Rect.unit (s := S512x128) ![0, 0] S512x128.size inb_S512x128_S512x128_0_0).toLoadRect (View.loadsAt_vmem h_S512x128))
  Prog.lift (.store a (Rect.unit (s := S512x128) ![0, 0] S512x128.size inb_S512x128_S512x128_0_0) w Finset.univ (View.stores_vmem_bits_univ h_S512x128 rfl) (.inl rfl))
  pure ⟨⟩

theorem save_wp (a : Memref sig .tc .vmem S512x128 .f32) (w : FVec F S512x128 .f32) : (iprop(∃ x, owns (c : Thread nD τ) a fullShare x) : sProp 𝕄)
    ⊢ wp frame (wpE (defs₀ (F := F)) Variants.none (c : Thread nD τ) none) E (save a w) (fun _ => owns (c : Thread nD τ) a fullShare w) := by
  unfold save owns
  iintro ⟨%x, %f, %h, H⟩
  sl_exec
  sl_step
  iexists _; isplitr
  swap; · iexact H
  ipureintro
  exact View.read_writes_full _ _ _ _ _

theorem body_parts : body i arg2 arg3 arg4 arg5 arg6 arg7 arg8 arg9 arg10 = (do
    opening (F := F) i arg8
    let k ← fetch arg3
    let v ← fetch arg4
    let y ← blocks i arg2 arg5 arg6 arg7 arg8 (shapeCast S512x128 k shapeCasts_S512x128_S512x128) (shapeCast S512x128 v shapeCasts_S512x128_S512x128)
    save arg9 (scaled y.1)
    save arg10 y.2) := by
  unfold body opening fetch blocks save scaled
  by_cases h : first i
  · rw [dif_pos h, dif_pos h]
    dsimp only
    simp only [bind_assoc, pure_bind]
    repeat (refine bind_congr_both (F := F) _ _ _ _ rfl fun _ => ?_)
  · rw [dif_neg h, dif_neg h]
    dsimp only
    simp only [bind_assoc, pure_bind]
    repeat (refine bind_congr_both (F := F) _ _ _ _ rfl fun _ => ?_)

theorem body_wp :
    (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare d ∗ (∃ x, owns (c : Thread nD τ) arg9 fullShare x) ∗ (∃ x, owns (c : Thread nD τ) arg10 fullShare x)) : sProp 𝕄)
    ⊢ wp frame (wpE (defs₀ (F := F)) Variants.none (c : Thread nD τ) none) E (body i arg2 arg3 arg4 arg5 arg6 arg7 arg8 arg9 arg10) (fun _ =>
      iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (final i (ins x0 x1 x2 x3 x4 x5) d).2
        ∗ owns (c : Thread nD τ) arg9 fullShare (scaled (final i (ins x0 x1 x2 x3 x4 x5) d).1.1)
        ∗ owns (c : Thread nD τ) arg10 fullShare (final i (ins x0 x1 x2 x3 x4 x5) d).1.2)) := by
  rw [body_parts]
  iintro ⟨H2, H3, H4, H5, H6, H7, H8, H9, H10⟩
  iapply (then_wp c E (opening_wp c E i arg8 d))
  isplitl [H8]; · iexact H8
  iintro %y H8
  iapply (then_wp c E (fetch_wp c E arg3 x1))
  isplitl [H3]; · iexact H3
  iintro %y ⟨%hy, H3⟩
  subst hy
  iapply (then_wp c E (fetch_wp c E arg4 x2))
  isplitl [H4]; · iexact H4
  iintro %y ⟨%hy, H4⟩
  subst hy
  iapply (then_wp c E (blocks_leaves c E i arg2 arg5 arg6 arg7 arg8 (ins x0 _ _ x3 x4 x5) (start i d)))
  isplitl [H2 H5 H6 H7 H8]
  · unfold held reads
    isplitl [H2 H5 H6 H7]
    · isplitl [H2]; · iexact H2
      isplitl [H5]; · iexact H5
      isplitl [H6]; · iexact H6
      iexact H7
    iexact H8
  unfold leaves held reads
  iintro %y ⟨%hy, ⟨H2, H5, H6, H7⟩, H8⟩
  subst hy
  iapply (then_wp c E (save_wp c E arg9 _))
  isplitl [H9]; · iexact H9
  iintro %y H9
  iapply (wp_wand_r frame (wpE (defs₀ (F := F)) Variants.none (c : Thread nD τ) none) E)
  isplitl [H10]
  · iapply (save_wp c E arg10 _); iexact H10
  iintro %y H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Body

end Cert.AttnKernelIdeal.Hand

end
-- ==== Proof.AttnFrame.lean ====
/- The attention's backward kernel: what every point leaves, and the frame. -/
module

public import proofs.«01_k».proof.Proof.AttnRun
public import proofs.«01_k».proof.Proof.Gen.AttnKernelIdeal.Frame
public import Idealize.ShloMosaic.Lib.Claim

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A head's first point is the one at which its number of 32 begins. -/
theorem first_iff : ∀ t : Fin cfg0.N, first (grid0.coords t) ↔ t.val % 32 = 0 :=
  (by decide +kernel : ∀ t : Fin grid0.N, first (grid0.coords t) ↔ t.val % 32 = 0)

/-- A point's inputs. -/
def pointIns (c : Dev nD) (t : Fin cfg0.N) : Ins F :=
  ins (iblk m c 0 t) (iblk m c 1 t) (iblk m c 2 t) (iblk m c 3 t) (iblk m c 4 t) (iblk m c 5 t)

/-- The state a point leaves from the queries' gradients `d`. -/
def pointSt (c : Dev nD) (t : Fin cfg0.N) (d : Vec F S16384x128 .f32) : St F := final (grid0.coords t) (pointIns m c t) d

/-- The state after the point numbered `n`, over the points before. -/
def stAt (c : Dev nD) : (n : ℕ) → n < cfg0.N → St F
  | 0, h => pointSt m c ⟨0, h⟩ (broadcast S16384x128 (Scalar.ofBits .f32 0x00000000#32))
  | n + 1, h => pointSt m c ⟨n + 1, h⟩ (stAt c n (Nat.lt_of_succ_lt h)).2

theorem pointSt_first (c : Dev nD) (t : Fin cfg0.N) (h : t.val % 32 = 0) (d e : Vec F S16384x128 .f32) : pointSt m c t d = pointSt m c t e := by
  unfold pointSt final start
  rw [if_pos ((first_iff t).mpr h), if_pos ((first_iff t).mpr h)]

theorem stAt_first (c : Dev nD) (t : Fin cfg0.N) (h : t.val % 32 = 0) (d : Vec F S16384x128 .f32) : stAt m c t.val t.isLt = pointSt m c t d := by
  obtain ⟨n, hn⟩ := t
  cases n with
  | zero => exact pointSt_first m c ⟨0, hn⟩ h _ _
  | succ n => exact pointSt_first m c ⟨n + 1, hn⟩ h _ _

theorem stAt_next (c : Dev nD) (t : Fin cfg0.N) (h : ¬t.val % 32 = 0) :
    stAt m c t.val t.isLt = pointSt m c t (stAt m c (t.val - 1) (Nat.lt_of_le_of_lt (Nat.sub_le _ _) t.isLt)).2 := by
  obtain ⟨n, hn⟩ := t
  cases n with
  | zero => exact absurd (Nat.zero_mod _) h
  | succ n => rfl

/-- What the launch's arrays and buffers hold: the inputs' blocks kept, the results at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).2
    | ⟨7, _⟩ => scaled (stAt m c t.val t.isLt).1.1
    | ⟨8, _⟩ => (stAt m c t.val t.isLt).1.2
  Φ _ := Pipeline.ΦA spec0 c
  q _ := fullShare
  owed _ := 0

theorem dats_A (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (stAt m c t.val t.isLt).2 := by dsimp only [dats]
theorem after7 (c : Dev nD) (t : Fin cfg0.N) : (dats m 0 c).after 7 t = scaled (stAt m c t.val t.isLt).1.1 := by dsimp only [dats]
theorem after8 (c : Dev nD) (t : Fin cfg0.N) : (dats m 0 c).after 8 t = (stAt m c t.val t.isLt).1.2 := by dsimp only [dats]

theorem before0 (c : Dev nD) (t : Fin cfg0.N) (d) : (dats m 0 c).before 0 t d = iblk m c 0 t := before0_0_of m (dats m 0 c) (dats_A m c 0) (after0 m c) t d
theorem before1 (c : Dev nD) (t : Fin cfg0.N) (d) : (dats m 0 c).before 1 t d = iblk m c 1 t := before0_1_of m (dats m 0 c) (dats_A m c 1) (after1 m c) t d
theorem before2 (c : Dev nD) (t : Fin cfg0.N) (d) : (dats m 0 c).before 2 t d = iblk m c 2 t := before0_2_of m (dats m 0 c) (dats_A m c 2) (after2 m c) t d
theorem before3 (c : Dev nD) (t : Fin cfg0.N) (d) : (dats m 0 c).before 3 t d = iblk m c 3 t := before0_3_of m (dats m 0 c) (dats_A m c 3) (after3 m c) t d
theorem before4 (c : Dev nD) (t : Fin cfg0.N) (d) : (dats m 0 c).before 4 t d = iblk m c 4 t := before0_4_of m (dats m 0 c) (dats_A m c 4) (after4 m c) t d
theorem before5 (c : Dev nD) (t : Fin cfg0.N) (d) : (dats m 0 c).before 5 t d = iblk m c 5 t := before0_5_of m (dats m 0 c) (dats_A m c 5) (after5 m c) t d

/-- Past a head's first point the queries' gradients are what the point before left. -/
theorem before6 (c : Dev nD) (t : Fin cfg0.N) (h : ¬t.val % 32 = 0) (d) :
    (dats m 0 c).before 6 t d = (stAt m c (t.val - 1) (Nat.lt_of_le_of_lt (Nat.sub_le _ _) t.isLt)).2 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dats]

theorem stAt_of_before (c : Dev nD) (t : Fin cfg0.N) (d) : pointSt m c t ((dats m 0 c).before 6 t d) = stAt m c t.val t.isLt := by
  by_cases h : t.val % 32 = 0
  · exact (stAt_first m c t h _).symm
  · rw [before6 m c t h, ← stAt_next m c t h]

abbrev ms0 (t : Fin cfg0.N) : Memref sig .tc .vmem S16384x128 .bf16 := win0_0.stage (cfg0.slots t 0)
abbrev ms1 (t : Fin cfg0.N) : Memref sig .tc .vmem S512x128 .bf16 := win0_1.stage (cfg0.slots t 1)
abbrev ms2 (t : Fin cfg0.N) : Memref sig .tc .vmem S512x128 .bf16 := win0_2.stage (cfg0.slots t 2)
abbrev ms3 (t : Fin cfg0.N) : Memref sig .tc .vmem S16384x128 .bf16 := win0_3.stage (cfg0.slots t 3)
abbrev ms4 (t : Fin cfg0.N) : Memref sig .tc .vmem S1x32x1x512 .f32 := win0_4.stage (cfg0.slots t 4)
abbrev ms5 (t : Fin cfg0.N) : Memref sig .tc .vmem S1x32x1x512 .f32 := win0_5.stage (cfg0.slots t 5)
abbrev ms6 (t : Fin cfg0.N) : Memref sig .tc .vmem S16384x128 .f32 := win0_6.stage (cfg0.slots t 6)
abbrev ms7 (t : Fin cfg0.N) : Memref sig .tc .vmem S512x128 .f32 := win0_7.stage (cfg0.slots t 7)
abbrev ms8 (t : Fin cfg0.N) : Memref sig .tc .vmem S512x128 .f32 := win0_8.stage (cfg0.slots t 8)

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns there. -/
def returned (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
theorem point_wp (c : Dev nD) (t : Fin cfg0.N) :
    given m c t ⊢ wp frame (wpE (defs₀ (F := F)) Variants.none (c : Thread nD τ) none) Set.univ (bodyAt0 t) (fun _ => returned m c t) := by
  unfold given returned bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, body_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r frame (wpE (defs₀ (F := F)) Variants.none (c : Thread nD τ) none) Set.univ)
  isplitl [H0 H1 H2 H3 H4 H5 H6 H7 H8]
  · iapply (body_wp c Set.univ (grid0.coords t) (ms0 t) (ms1 t) (ms2 t) (ms3 t) (ms4 t) (ms5 t) (ms6 t) (ms7 t) (ms8 t)
      (iblk m c 0 t) (iblk m c 1 t) (iblk m c 2 t) (iblk m c 3 t) (iblk m c 4 t) (iblk m c 5 t) ((dats m 0 c).before 6 t d6))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  have e : final (grid0.coords t) (ins (iblk m c 0 t) (iblk m c 1 t) (iblk m c 2 t) (iblk m c 3 t) (iblk m c 4 t) (iblk m c 5 t)) ((dats m 0 c).before 6 t d6)
    = stAt m c t.val t.isLt := stAt_of_before m c t d6
  rw [e]
  iintro %y ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (point_wp m c t) rfl .rfl fun _ => .rfl

set_option backward.isDefEq.respectTransparency.types false in
set_option maxHeartbeats 800000 in
/-- The launch: every array at what the state leaves, every counter at zero. -/
theorem launched_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem launched : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launched_quiescent m ρ)

/-- The arguments end as they began, every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (dats_A m) (launched m ρ)) ((θ_run defs _ _).mono (fun _ h => h.2) (launched_quiescent m ρ))

end Cert.AttnKernelIdeal.Hand

end
-- ==== Proof.AttnStep.lean ====
/- One block of the attention's backward kernel over the reals: what it adds to each gradient. -/
module

public import proofs.«01_k».proof.Proof.AttnRun
public import proofs.«01_k».proof.Proof.Reals
public import Idealize.ShloMosaic.Lib.Pipeline.ValueKit
public import Idealize.ShloMosaic.Lib.Pointwise

@[expose] public section

set_option maxRecDepth 200000

noncomputable section

namespace Cert.AttnKernelIdeal.Hand

open Cert.AttnKernelIdeal Cert.AttnKernelIdeal.Gen
open Idealize.ShloMosaic Idealize.ShloMosaic.TcCoe

/-- A head's arrays as real numbers: queries, keys, values and cotangents by row, each query's log-sum and sum. -/
structure Head where
  q : ℕ → Fin 128 → ℝ
  k : ℕ → Fin 128 → ℝ
  v : ℕ → Fin 128 → ℝ
  d : ℕ → Fin 128 → ℝ
  l : ℕ → ℝ
  e : ℕ → ℝ

/-- The probability of key `K` for query `Q`. -/
def Head.p (x : Head) (K Q : ℕ) : ℝ := if K ≤ Q then Real.rpow 2 ((∑ a, x.k K a * x.q Q a) - x.l Q) else 0

/-- The gradient at their score. -/
def Head.g (x : Head) (K Q : ℕ) : ℝ := x.p K Q * ((∑ a, x.v K a * x.d Q a) - x.e Q)

/-- A point's inputs hold the head's arrays, its keys and values those of block `j`. -/
structure Holds (x : Head) (j : ℕ) (i : Ins Ideal) : Prop where
  q : ∀ r : Fin 16384, ∀ a : Fin 128, i.q (ix2 r a) = ((x.q r.val a : ℝ) : EReal)
  d : ∀ r : Fin 16384, ∀ a : Fin 128, i.d (ix2 r a) = ((x.d r.val a : ℝ) : EReal)
  l : ∀ (n : Fin 32) (r : Fin 512), i.l (ix4 (0 : Fin 1) n (0 : Fin 1) r) = ((x.l (512 * n.val + r.val) : ℝ) : EReal)
  e : ∀ (n : Fin 32) (r : Fin 512), i.e (ix4 (0 : Fin 1) n (0 : Fin 1) r) = ((x.e (512 * n.val + r.val) : ℝ) : EReal)
  k : ∀ (r : Fin 512) (a : Fin 128), i.k (ix2 r a) = ((x.k (512 * j + r.val) a : ℝ) : EReal)
  v : ∀ (r : Fin 512) (a : Fin 128), i.v (ix2 r a) = ((x.v (512 * j + r.val) a : ℝ) : EReal)

theorem rows_at {φ : EltTy} (x : Vec Ideal S16384x128 φ) (n : Fin 32) (r : Fin 512) (a : Fin 128) :
    rows x n (ix2 r a) = x (ix2 ⟨512 * n.val + r.val, by have := n.isLt; have := r.isLt; omega⟩ a) := by
  unfold rows VecWindow.window
  refine congrArg x (funext fun b => Fin.ext ?_)
  fin_cases b
  · show 512 * n.val + 1 * r.val = 512 * n.val + r.val; omega
  · show 0 + 1 * a.val = a.val; omega

theorem line_at (x : Vec Ideal S1x32x1x512 .f32) (n : Fin 32) (r : Fin 512) :
    line x n (ix4 (0 : Fin 1) (0 : Fin 1) (0 : Fin 1) r) = x (ix4 (0 : Fin 1) n (0 : Fin 1) r) := by
  unfold line VecWindow.window
  refine congrArg x (funext fun b => Fin.ext ?_)
  fin_cases b
  · rfl
  · show n.val + 1 * 0 = n.val; omega
  · rfl
  · show 0 + 1 * r.val = r.val; omega

theorem row_at (x : FVec Ideal S1x1x1x512 .f32) (a b : Fin 512) : row x (ix2 a b) = x (ix4 (0 : Fin 1) (0 : Fin 1) (0 : Fin 1) b) := by
  pointwise [row]

theorem scores_at (k q : FVec Ideal S512x128 .bf16) (a b : Fin 512) : scores k q (ix2 a b) = ∑ c : Fin 128, k (ix2 a c) * q (ix2 b c) := by
  pointwise [scores]

theorem scoresDiag_at (k q : FVec Ideal S512x128 .bf16) (a b : Fin 512) :
    scoresDiag k q (ix2 a b) = if a.val ≤ b.val then scores k q (ix2 a b) else ⊥ := by
  pointwise [scoresDiag]
  have ha := a.isLt
  have hb := b.isLt
  rw [WordCmp.cmpi_sge_ofNat (by omega) (by omega), show Named.named (F := Ideal) (φ := .f32) κ "mask" 0xF149F2CA#32 = ⊥ from
    IdealRules.named_const.ideal_named_scalar _ _ _ _ rfl]
  by_cases h : a.val ≤ b.val <;> simp [Scalar.select, h]

theorem dscores_at (p : FVec Ideal S512x512 .f32) (v d : FVec Ideal S512x128 .bf16) (e : FVec Ideal S1x1x1x512 .f32) (a b : Fin 512) :
    dscores p v d e (ix2 a b) = p (ix2 a b) * ((∑ c : Fin 128, v (ix2 a c) * d (ix2 b c)) - e (ix4 (0 : Fin 1) (0 : Fin 1) (0 : Fin 1) b)) := by
  pointwise [dscores, row_at]

theorem addDk_at (s : FVec Ideal S512x128 .f32) (g : FVec Ideal S512x512 .bf16) (q : FVec Ideal S512x128 .bf16) (a : Fin 512) (c : Fin 128) :
    addDk s g q (ix2 a c) = s (ix2 a c) + ∑ b : Fin 512, g (ix2 a b) * q (ix2 b c) := by
  pointwise [addDk]

theorem addDv_at (s : FVec Ideal S512x128 .f32) (p : FVec Ideal S512x512 .f32) (d : FVec Ideal S512x128 .bf16) (a : Fin 512) (c : Fin 128) :
    addDv s p d (ix2 a c) = s (ix2 a c) + ∑ b : Fin 512, p (ix2 a b) * d (ix2 b c) := by
  pointwise [addDv]

theorem addDq_at (s : FVec Ideal S512x128 .f32) (g : FVec Ideal S512x512 .bf16) (k : FVec Ideal S512x128 .bf16) (b : Fin 512) (c : Fin 128) :
    addDq s g k (ix2 b c) = s (ix2 b c) + ∑ a : Fin 512, g (ix2 a b) * k (ix2 a c) := by
  pointwise [addDq]

/-- The scores made suit the block: all of it on and after the diagonal. -/
def Suits (sc : FVec Ideal S512x128 .bf16 → FVec Ideal S512x128 .bf16 → FVec Ideal S512x512 .f32) (j n : ℕ) : Prop :=
  (sc = scores ∧ j < n) ∨ (sc = scoresDiag ∧ j = n)

theorem scores_real (x : Head) (j : ℕ) (i : Ins Ideal) (h : Holds x j i) (n : Fin 32) (a b : Fin 512) :
    scores i.k (rows i.q n) (ix2 a b) = ((∑ c, x.k (512 * j + a.val) c * x.q (512 * n.val + b.val) c : ℝ) : EReal) := by
  rw [scores_at, Cert.Reals.coe_sum]
  refine Finset.sum_congr rfl fun c _ => ?_
  rw [rows_at, h.q, h.k, EReal.coe_mul]

theorem probs_real (x : Head) (j : ℕ) (i : Ins Ideal) (h : Holds x j i) (n : Fin 32)
    (sc : FVec Ideal S512x128 .bf16 → FVec Ideal S512x128 .bf16 → FVec Ideal S512x512 .f32) (hs : Suits sc j n.val) (a b : Fin 512) :
    probs (sc i.k (rows i.q n)) (line i.l n) (ix2 a b) = ((x.p (512 * j + a.val) (512 * n.val + b.val) : ℝ) : EReal) := by
  have ha := a.isLt
  have hb := b.isLt
  have e : probs (sc i.k (rows i.q n)) (line i.l n) (ix2 a b) = Ideal.exp2 (sc i.k (rows i.q n) (ix2 a b) - ((x.l (512 * n.val + b.val) : ℝ) : EReal)) := by
    rw [← h.l n b, ← line_at i.l n b, ← row_at (line i.l n) a b]
    rfl
  rw [e]
  unfold Head.p
  rcases hs with ⟨rfl, hj⟩ | ⟨rfl, hj⟩
  · rw [scores_real x j i h, ← EReal.coe_sub, Ideal.exp2_coe, if_pos (by omega)]
  · rw [scoresDiag_at]
    by_cases hab : a.val ≤ b.val
    · rw [if_pos hab, scores_real x j i h, ← EReal.coe_sub, Ideal.exp2_coe, if_pos (by omega)]
    · rw [if_neg hab, if_neg (by omega), EReal.bot_sub, Ideal.exp2_bot]
      rfl

theorem dscores_real (x : Head) (j : ℕ) (i : Ins Ideal) (h : Holds x j i) (n : Fin 32) (p : FVec Ideal S512x512 .f32) (a b : Fin 512)
    (hp : p (ix2 a b) = ((x.p (512 * j + a.val) (512 * n.val + b.val) : ℝ) : EReal)) :
    dscores p i.v (rows i.d n) (line i.e n) (ix2 a b) = ((x.g (512 * j + a.val) (512 * n.val + b.val) : ℝ) : EReal) := by
  rw [dscores_at, hp, line_at, h.e]
  unfold Head.g
  rw [EReal.coe_mul, EReal.coe_sub, Cert.Reals.coe_sum]
  refine congrArg (fun z => _ * (z - _)) (Finset.sum_congr rfl fun c _ => ?_)
  rw [rows_at, h.d, h.v, EReal.coe_mul]

/-- The state is these reals. -/
structure Has (s : St Ideal) (dk dv dq : ℕ → Fin 128 → ℝ) : Prop where
  k : ∀ (a : Fin 512) (c : Fin 128), s.1.1 (ix2 a c) = ((dk a.val c : ℝ) : EReal)
  v : ∀ (a : Fin 512) (c : Fin 128), s.1.2 (ix2 a c) = ((dv a.val c : ℝ) : EReal)
  q : ∀ (r : Fin 16384) (c : Fin 128), s.2 (ix2 r c) = ((dq r.val c : ℝ) : EReal)

/-- A block's share of a key's gradient, -/
def Head.dk (x : Head) (j n a : ℕ) (c : Fin 128) : ℝ := ∑ b ∈ Finset.range 512, x.g (512 * j + a) (512 * n + b) * x.q (512 * n + b) c

/-- of a value's, -/
def Head.dv (x : Head) (j n a : ℕ) (c : Fin 128) : ℝ := ∑ b ∈ Finset.range 512, x.p (512 * j + a) (512 * n + b) * x.d (512 * n + b) c

/-- and of a query's. -/
def Head.dq (x : Head) (j r : ℕ) (c : Fin 128) : ℝ := ∑ a ∈ Finset.range 512, x.g (512 * j + a) r * x.k (512 * j + a) c

theorem step_has (x : Head) (j : ℕ) (i : Ins Ideal) (h : Holds x j i) (n : Fin 32)
    (sc : FVec Ideal S512x128 .bf16 → FVec Ideal S512x128 .bf16 → FVec Ideal S512x512 .f32) (hs : Suits sc j n.val)
    (s : St Ideal) (dk dv dq : ℕ → Fin 128 → ℝ) (H : Has s dk dv dq) :
    Has (step sc i n s) (fun a c => dk a c + x.dk j n.val a c) (fun a c => dv a c + x.dv j n.val a c)
      (fun r c => if r / 512 = n.val then dq r c + x.dq j r c else dq r c) := by
  have hp := probs_real x j i h n sc hs
  have hg := fun a b => dscores_real x j i h n _ a b (hp a b)
  have hn := n.isLt
  refine ⟨fun a c => ?_, fun a c => ?_, fun r c => ?_⟩
  · refine (addDk_at _ _ _ a c).trans ?_
    rw [H.k, EReal.coe_add]
    unfold Head.dk
    rw [Finset.sum_range, Cert.Reals.coe_sum]
    refine congrArg (fun z => _ + z) (Finset.sum_congr rfl fun b _ => ?_)
    rw [hg, rows_at, h.q, EReal.coe_mul]
  · refine (addDv_at _ _ _ a c).trans ?_
    rw [H.v, EReal.coe_add]
    unfold Head.dv
    rw [Finset.sum_range, Cert.Reals.coe_sum]
    refine congrArg (fun z => _ + z) (Finset.sum_congr rfl fun b _ => ?_)
    rw [hp, rows_at, h.d, EReal.coe_mul]
  · have hr := r.isLt
    have hc := c.isLt
    show VecWindow.put s.2 ![512 * n.val, 0] S512x128.size _ (ix2 r c) = _
    unfold VecWindow.put
    by_cases e : r.val / 512 = n.val
    · rw [if_pos e, dif_pos (by
        intro b; fin_cases b
        · show 512 * n.val ≤ r.val ∧ r.val < 512 * n.val + 512; omega
        · show 0 ≤ c.val ∧ c.val < 0 + 128; omega)]
      have hb : r.val - 512 * n.val < 512 := by omega
      have er : 512 * n.val + (r.val - 512 * n.val) = r.val := by omega
      have ey : ∀ hh, Rect.unitLocal (s := S16384x128) (off := ![512 * n.val, 0]) (size := S512x128.size) (ix2 r c) hh
          = (ix2 (⟨r.val - 512 * n.val, hb⟩ : Fin 512) c : S512x128.Idx) := by
        intro hh
        funext b; fin_cases b
        · exact Fin.ext rfl
        · exact Fin.ext (by show c.val - 0 = c.val; omega)
      rw [ey]
      refine (addDq_at _ _ _ _ c).trans ?_
      rw [rows_at, H.q, EReal.coe_add]
      simp only [er]
      unfold Head.dq
      rw [Finset.sum_range, Cert.Reals.coe_sum]
      refine congrArg (fun z => _ + z) (Finset.sum_congr rfl fun a _ => ?_)
      rw [hg, h.k, EReal.coe_mul]
      simp only [er]
    · rw [if_neg e, dif_neg (by
        intro hh
        have h0 := hh 0
        have : 512 * n.val ≤ r.val ∧ r.val < 512 * n.val + 512 := h0
        omega)]
      exact H.q r c

theorem run_has (x : Head) (j : ℕ) (i : Ins Ideal) (h : Holds x j i) (u : ℕ) : ∀ (b : ℕ) (hb : j < b) (hu : b + u ≤ 32) (s : St Ideal)
    (dk dv dq : ℕ → Fin 128 → ℝ) (H : Has s dk dv dq),
    Has (run i b u s) (fun a c => dk a c + ∑ n ∈ Finset.Ico b (b + u), x.dk j n a c) (fun a c => dv a c + ∑ n ∈ Finset.Ico b (b + u), x.dv j n a c)
      (fun r c => if b ≤ r / 512 ∧ r / 512 < b + u then dq r c + x.dq j r c else dq r c) := by
  induction u with
  | zero =>
    intro b hb hu s dk dv dq H
    have e : ∀ r, ¬(b ≤ r / 512 ∧ r / 512 < b + 0) := fun r => by omega
    simp only [Nat.add_zero, Finset.Ico_self, Finset.sum_empty, add_zero] at e ⊢
    simp only [e, if_false]
    exact H
  | succ u ih =>
    intro b hb hu s dk dv dq H
    have hb' : b < 32 := by omega
    have := ih (b + 1) (by omega) (by omega) _ _ _ _ (step_has x j i h ⟨b, hb'⟩ scores (.inl ⟨rfl, hb⟩) s dk dv dq H)
    have e : run i b (u + 1) s = run i (b + 1) u (step scores i ⟨b, hb'⟩ s) := by
      show run i (b + 1) u (if h : b < 32 then step scores i ⟨b, h⟩ s else s) = _
      rw [dif_pos hb']
    rw [e]
    refine ⟨fun a c => (this.k a c).trans ?_, fun a c => (this.v a c).trans ?_, fun r c => (this.q r c).trans ?_⟩
    · rw [Finset.sum_eq_sum_Ico_succ_bot (show b < b + (u + 1) by omega), show b + (u + 1) = b + 1 + u by omega, add_assoc]
    · rw [Finset.sum_eq_sum_Ico_succ_bot (show b < b + (u + 1) by omega), show b + (u + 1) = b + 1 + u by omega, add_assoc]
    · congr 1
      show (if b + 1 ≤ r.val / 512 ∧ r.val / 512 < b + 1 + u then (if r.val / 512 = b then _ else _) + _ else if r.val / 512 = b then _ else _) = _
      split_ifs <;> first | rfl | omega

/-- Sums over blocks of 512 are sums over all. -/
theorem sum_blocks (f : ℕ → ℝ) (n : ℕ) : ∑ b ∈ Finset.range n, ∑ r ∈ Finset.range 512, f (512 * b + r) = ∑ r ∈ Finset.range (512 * n), f r := by
  induction n with
  | zero => rfl
  | succ n ih => rw [Finset.sum_range_succ, ih, Nat.mul_succ, Finset.sum_range_add]

theorem sum_from (f : ℕ → ℝ) (j : ℕ) (hj : j < 32) (h0 : ∀ r, r < 512 * j → f r = 0) :
    ∑ n ∈ Finset.Ico j 32, ∑ r ∈ Finset.range 512, f (512 * n + r) = ∑ r ∈ Finset.range 16384, f r := by
  rw [show (16384 : ℕ) = 512 * 32 from rfl, ← sum_blocks f 32, Finset.range_eq_Ico 32, ← Finset.sum_Ico_consecutive _ (Nat.zero_le j) hj.le, Finset.sum_eq_zero (s := Finset.Ico 0 j), zero_add]
  intro n hn
  refine Finset.sum_eq_zero fun r hr => h0 _ ?_
  have := (Finset.mem_Ico.mp hn).2
  have := Finset.mem_range.mp hr
  omega

theorem Head.p_zero (x : Head) {K Q : ℕ} (h : Q < K) : x.p K Q = 0 := if_neg (by omega)
theorem Head.g_zero (x : Head) {K Q : ℕ} (h : Q < K) : x.g K Q = 0 := by unfold Head.g; rw [x.p_zero h, zero_mul]

/-- What a point leaves: its keys' and values' gradients over all queries, and the queries' with the point's keys added. -/
theorem final_has (x : Head) (i : grid0.Coords) (I : Ins Ideal) (h : Holds x (i 1).val I) (d : Vec Ideal S16384x128 .f32) (dq : ℕ → Fin 128 → ℝ)
    (hd : ∀ (r : Fin 16384) (c : Fin 128), start i d (ix2 r c) = ((dq r.val c : ℝ) : EReal)) :
    Has (final i I d) (fun a c => ∑ Q ∈ Finset.range 16384, x.g (512 * (i 1).val + a) Q * x.q Q c)
      (fun a c => ∑ Q ∈ Finset.range 16384, x.p (512 * (i 1).val + a) Q * x.d Q c)
      (fun r c => dq r c + x.dq (i 1).val r c) := by
  have hj : (i 1).val < 32 := (i 1).isLt
  have z : (Ideal.ofBits .f32 0x00000000#32 : EReal) = ((0 : ℝ) : EReal) := by simp [Ideal.ofBits, Ideal.ieee]
  have H := run_has x (i 1).val I h (31 - (i 1).val) ((i 1).val + 1) (by omega) (by omega) _ _ _ _
    (step_has x (i 1).val I h ⟨(i 1).val, hj⟩ scoresDiag (.inr ⟨rfl, rfl⟩)
      ((broadcast S512x128 (Scalar.ofBits .f32 0x00000000#32), broadcast S512x128 (Scalar.ofBits .f32 0x00000000#32)), start i d)
      (fun _ _ => 0) (fun _ _ => 0) dq ⟨fun _ _ => z, fun _ _ => z, hd⟩)
  refine ⟨fun a c => (H.k a c).trans ?_, fun a c => (H.v a c).trans ?_, fun r c => (H.q r c).trans ?_⟩
  · have := sum_from (fun Q => x.g (512 * (i 1).val + a.val) Q * x.q Q c) (i 1).val hj fun r hr => by rw [x.g_zero (by omega), zero_mul]
    rw [← this, Finset.sum_eq_sum_Ico_succ_bot hj, show (i 1).val + 1 + (31 - (i 1).val) = 32 by omega, zero_add]
    rfl
  · have := sum_from (fun Q => x.p (512 * (i 1).val + a.val) Q * x.d Q c) (i 1).val hj fun r hr => by rw [x.p_zero (by omega), zero_mul]
    rw [← this, Finset.sum_eq_sum_Ico_succ_bot hj, show (i 1).val + 1 + (31 - (i 1).val) = 32 by omega, zero_add]
    rfl
  · have hr := r.isLt
    congr 1
    show (if (i 1).val + 1 ≤ r.val / 512 ∧ r.val / 512 < (i 1).val + 1 + (31 - (i 1).val) then (if r.val / 512 = (i 1).val then _ else _) + _
      else if r.val / 512 = (i 1).val then _ else _) = _
    by_cases h1 : r.val / 512 < (i 1).val
    · rw [if_neg (by omega), if_neg (by omega), show x.dq (i 1).val r.val c = 0 from
        Finset.sum_eq_zero fun a _ => by rw [x.g_zero (by omega), zero_mul], add_zero]
    · by_cases h2 : r.val / 512 = (i 1).val
      · rw [if_neg (by omega), if_pos h2]
      · rw [if_pos (by omega), if_neg h2]

end Cert.AttnKernelIdeal.Hand

end
-- ==== Proof.AttnRef.lean ====
/- Softmax attention and its gradients over the reals, stage by stage as the host computes them. -/
module

public import proofs.«01_k».proof.Proof.Reals
public import proofs.«01_k».proof.Proof.Gen.AttnReferenceIdeal.Run
public import Idealize.ShloMosaic.Lib.Pointwise
public import Idealize.ShloMosaic.Lib.WordCmp
public import Idealize.ShloMosaic.Lib.Claim

@[expose] public section

set_option maxRecDepth 200000

noncomputable section

namespace Cert.AttnReferenceIdeal.Hand

open Idealize.ShloMosaic Idealize.ShloMosaic.TcCoe Idealize.SL.Sem
open Idealize.ShloMosaic.Pipeline (Dat)
open Cert.AttnReferenceIdeal Cert.AttnReferenceIdeal.Gen Cert.Reals

abbrev Cube := FVec Ideal S8x16384x16384 .f32

/-- A cube of one row per query. -/
def spread (x : FVec Ideal S8x16384x1 .f32) : Cube := broadcastInDim S8x16384x16384 ![0, 1, 2] bcast_S8x16384x1_S8x16384x16384_0_1_2 x

/-- A column of one per query. -/
def col (x : FVec Ideal S8x16384 .f32) : FVec Ideal S8x16384x1 .f32 := broadcastInDim S8x16384x1 ![0, 1] bcast_S8x16384_S8x16384x1_0_1 x

/-- Where the key is not after the query. -/
def seen : Vec Ideal S8x16384x16384 .i1 :=
  broadcastInDim S8x16384x16384 ![0, 1, 2] bcast_S1x16384x16384_S8x16384x16384_0_1_2 (broadcastInDim S1x16384x16384 ![1, 2] bcast_S16384x16384_S1x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))))

/-- The masked scores. -/
def sc (q k : FVec Ideal S16384x8x96 .f32) : Cube :=
  select seen (mulf (Host.dotGeneral dot_S16384x8x96_S16384x8x96_S8x16384x16384_2_2_0_0_1_1 none q k)
    (broadcastInDim S8x16384x16384 ![] bcast_S_S8x16384x16384 (constant S_ .f32 0x3DD105EC#32)))
    (broadcastInDim S8x16384x16384 ![] bcast_S_S8x16384x16384 (id (constant S_ .f32 0xFF800000#32)))

/-- A query's largest score. -/
def top (s : Cube) : FVec Ideal S8x16384 .f32 :=
  Host.reduce FloatOps.maximumf s (constant S_ .f32 0xFF800000#32) reducesTo_S8x16384x16384_S8x16384_d2 h_S_

/-- The same, not below minus infinity. -/
def floored (t : FVec Ideal S8x16384 .f32) : FVec Ideal S8x16384 .f32 := maximumf (broadcastInDim S8x16384 ![] bcast_S_S8x16384 (constant S_ .f32 0xFF800000#32)) t
def top' (s : Cube) : FVec Ideal S8x16384 .f32 := floored (top s)

def ex (s : Cube) (t : FVec Ideal S8x16384 .f32) : Cube := Host.exp (subf s (spread (col t)))

def total (e : Cube) : FVec Ideal S8x16384 .f32 := Host.reduceAdd e (constant S_ .f32 0x00000000#32) reducesTo_S8x16384x16384_S8x16384_d2 h_S_

def probs (e : Cube) (l : FVec Ideal S8x16384 .f32) : Cube := Host.divf e (spread (col l))

/-- The cotangent's products with the values. -/
def dv (d v : FVec Ideal S16384x8x64 .f32) : Cube :=
  Host.dotGeneral dot_S8x64x16384_S16384x8x64_S8x16384x16384_1_2_2_0_0_1 none (transpose S8x64x16384 [1, 2, 0] d transposes_S16384x8x64_S8x64x16384_1_2_0) v

theorem spread_at (x : FVec Ideal S8x16384x1 .f32) (h : Fin 8) (Q K : Fin 16384) : spread x (ix3 h Q K) = x (ix3 h Q (0 : Fin 1)) := by
  pointwise [spread]

theorem col_at (x : FVec Ideal S8x16384 .f32) (h : Fin 8) (Q : Fin 16384) : col x (ix3 h Q (0 : Fin 1)) = x (ix2 h Q) := by
  pointwise [col]

theorem seen_at (h : Fin 8) (Q K : Fin 16384) : seen (ix3 h Q K) = BitVec.ofBool (decide (K.val ≤ Q.val)) := by
  pointwise [seen]
  have hK := K.isLt
  have hQ := Q.isLt
  exact WordCmp.cmpi_sle_ofNat (w := 32) (by omega) (by omega)

theorem minf : Ideal.ofBits .f32 0xFF800000#32 = (⊥ : EReal) := by simp [Ideal.ofBits, Ideal.ieee]

theorem top_at (s : Cube) (h : Fin 8) (Q : Fin 16384) : top s (ix2 h Q) = Finset.univ.fold max (⊥ : EReal) fun K : Fin 16384 => s (ix3 h Q K) := by
  pointwise [top]
  rw [minf]

theorem floored_at (t : FVec Ideal S8x16384 .f32) (h : Fin 8) (Q : Fin 16384) : floored t (ix2 h Q) = t (ix2 h Q) := by
  pointwise [floored]
  rw [minf]
  exact max_eq_right bot_le

theorem sc_at (q k : FVec Ideal S16384x8x96 .f32) (h : Fin 8) (Q K : Fin 16384) : sc q k (ix3 h Q K) = if K.val ≤ Q.val then
    (∑ a : Fin 96, q (ix3 Q h a) * k (ix3 K h a)) * Ideal.ofBits .f32 0x3DD105EC#32 else ⊥ := by
  pointwise [sc]
  rw [seen_at]
  by_cases e : K.val ≤ Q.val
  · simp [Scalar.select, e]
  · simp [Scalar.select, e]
    exact minf

theorem ex_at (s : Cube) (t : FVec Ideal S8x16384 .f32) (h : Fin 8) (Q K : Fin 16384) : ex s t (ix3 h Q K) = Ideal.exp (s (ix3 h Q K) - t (ix2 h Q)) := by
  pointwise [ex]
  rw [spread_at, col_at]

theorem total_at (e : Cube) (h : Fin 8) (Q : Fin 16384) : total e (ix2 h Q) = ∑ K : Fin 16384, e (ix3 h Q K) := by
  pointwise [total]

theorem probs_at (e : Cube) (l : FVec Ideal S8x16384 .f32) (h : Fin 8) (Q K : Fin 16384) : probs e l (ix3 h Q K) = Ideal.div (e (ix3 h Q K)) (l (ix2 h Q)) := by
  pointwise [probs]
  rw [spread_at, col_at]

theorem dv_at (d v : FVec Ideal S16384x8x64 .f32) (h : Fin 8) (Q K : Fin 16384) : dv d v (ix3 h Q K) = ∑ a : Fin 64, d (ix3 Q h a) * v (ix3 K h a) := by
  pointwise [dv]

variable (m : (ℓ : Loc nD τ sig) → Buf (Elt Ideal) ℓ) (c : Dev nD)

/-- The reference's arguments. -/
abbrev aq : FVec Ideal S16384x8x96 .f32 := m ((c.tc : Thread nD τ).loc main_arg0)
abbrev ak : FVec Ideal S16384x8x96 .f32 := m ((c.tc : Thread nD τ).loc main_arg1)
abbrev av : FVec Ideal S16384x8x64 .f32 := m ((c.tc : Thread nD τ).loc main_arg2)
abbrev ad : FVec Ideal S16384x8x64 .f32 := m ((c.tc : Thread nD τ).loc main_arg3)

def E (q k : FVec Ideal S16384x8x96 .f32) : Cube := ex (sc q k) (top' (sc q k))
def L (q k : FVec Ideal S16384x8x96 .f32) : FVec Ideal S8x16384 .f32 := total (E q k)

def outV (q k : FVec Ideal S16384x8x96 .f32) (v d : FVec Ideal S16384x8x64 .f32) : FVec Ideal S16384x8x64 .f32 :=
  transpose S16384x8x64 [2, 0, 1] (Host.dotGeneral dot_S8x64x16384_S8x16384x16384_S8x64x16384_2_1_1_2_0_0 none
    (transpose S8x64x16384 [1, 2, 0] d transposes_S16384x8x64_S8x64x16384_1_2_0) (probs (E q k) (L q k))) transposes_S8x64x16384_S16384x8x64_2_0_1

/-- The scores' gradients, before the mask: -/
def pull (w e : Cube) (l : FVec Ideal S8x16384 .f32) : Cube :=
  mulf (addf (Host.divf w (spread (col l))) (broadcastInDim S8x16384x16384 ![0, 1] bcast_S8x16384_S8x16384x16384_0_1
    (Host.reduceAdd (Host.negf (shapeCast S8x16384x1 (Host.reduceAdd (mulf (mulf w (spread (Host.divf (broadcastInDim S8x16384x1 ![] bcast_S_S8x16384x1
      (constant S_ .f32 0x3F800000#32)) (mulf (col l) (col l))))) e) (constant S_ .f32 0x00000000#32) reducesTo_S8x16384x16384_S8x16384_d2 h_S_)
      shapeCasts_S8x16384_S8x16384x1)) (constant S_ .f32 0x00000000#32) reducesTo_S8x16384x1_S8x16384_d2 h_S_))) e

def ds (w : Cube) : Cube :=
  mulf (select seen w (broadcastInDim S8x16384x16384 ![] bcast_S_S8x16384x16384 (constant S_ .f32 0x00000000#32)))
    (broadcastInDim S8x16384x16384 ![] bcast_S_S8x16384x16384 (constant S_ .f32 0x3DD105EC#32))

def outQ (q k : FVec Ideal S16384x8x96 .f32) (v d : FVec Ideal S16384x8x64 .f32) : FVec Ideal S16384x8x96 .f32 :=
  transpose S16384x8x96 [1, 0, 2] (Host.dotGeneral dot_S8x16384x16384_S16384x8x96_S8x16384x96_2_0_1_2_0_1 none (ds (pull (dv d v) (E q k) (L q k))) k) transposes_S8x16384x96_S16384x8x96_1_0_2

def outK (q k : FVec Ideal S16384x8x96 .f32) (v d : FVec Ideal S16384x8x64 .f32) : FVec Ideal S16384x8x96 .f32 :=
  transpose S16384x8x96 [1, 0, 2] (Host.dotGeneral dot_S8x16384x16384_S16384x8x96_S8x16384x96_1_0_2_2_0_1 none (ds (pull (dv d v) (E q k) (L q k))) q) transposes_S8x16384x96_S16384x8x96_1_0_2

theorem res_v : Cert.AttnReferenceIdeal.Value.res_main_v44 m c = outV (aq m c) (ak m c) (av m c) (ad m c) := rfl
theorem res_q : Cert.AttnReferenceIdeal.Value.res_main_v63 m c = outQ (aq m c) (ak m c) (av m c) (ad m c) := rfl
theorem res_k : Cert.AttnReferenceIdeal.Value.res_main_v61 m c = outK (aq m c) (ak m c) (av m c) (ad m c) := rfl

theorem pull_at (w e : Cube) (l : FVec Ideal S8x16384 .f32) (h : Fin 8) (Q K : Fin 16384) : pull w e l (ix3 h Q K) =
    (Ideal.div (w (ix3 h Q K)) (l (ix2 h Q)) + -∑ K' : Fin 16384, w (ix3 h Q K') * Ideal.div 1 (l (ix2 h Q) * l (ix2 h Q)) * e (ix3 h Q K')) * e (ix3 h Q K) := by
  pointwise [pull]
  simp only [spread_at, col_at, Fin.sum_univ_one]
  pointwise [spread, col]

theorem ds_at (w : Cube) (h : Fin 8) (Q K : Fin 16384) : ds w (ix3 h Q K) = (if K.val ≤ Q.val then w (ix3 h Q K) else 0) * Ideal.ofBits .f32 0x3DD105EC#32 := by
  pointwise [ds]
  rw [seen_at]
  by_cases e : K.val ≤ Q.val <;> simp [Scalar.select, e]

theorem outV_at (q k : FVec Ideal S16384x8x96 .f32) (v d : FVec Ideal S16384x8x64 .f32) (K : Fin 16384) (h : Fin 8) (a : Fin 64) :
    outV q k v d (ix3 K h a) = ∑ Q : Fin 16384, d (ix3 Q h a) * probs (E q k) (L q k) (ix3 h Q K) := by
  pointwise [outV]

theorem outQ_at (q k : FVec Ideal S16384x8x96 .f32) (v d : FVec Ideal S16384x8x64 .f32) (Q : Fin 16384) (h : Fin 8) (a : Fin 96) :
    outQ q k v d (ix3 Q h a) = ∑ K : Fin 16384, ds (pull (dv d v) (E q k) (L q k)) (ix3 h Q K) * k (ix3 K h a) := by
  pointwise [outQ]

theorem outK_at (q k : FVec Ideal S16384x8x96 .f32) (v d : FVec Ideal S16384x8x64 .f32) (K : Fin 16384) (h : Fin 8) (a : Fin 96) :
    outK q k v d (ix3 K h a) = ∑ Q : Fin 16384, ds (pull (dv d v) (E q k) (L q k)) (ix3 h Q K) * q (ix3 Q h a) := by
  pointwise [outK]

/-- One head: its queries, keys, values and cotangent, the scores' factor, every query's largest score. -/
structure Att where
  q : Fin 16384 → Fin 96 → ℝ
  k : Fin 16384 → Fin 96 → ℝ
  v : Fin 16384 → Fin 64 → ℝ
  d : Fin 16384 → Fin 64 → ℝ
  c : ℝ
  t : Fin 16384 → ℝ

namespace Att

variable (x : Att)

def s (Q K : Fin 16384) : ℝ := (∑ a, x.q Q a * x.k K a) * x.c
def e (Q K : Fin 16384) : ℝ := if K.val ≤ Q.val then Real.exp (x.s Q K - x.t Q) else 0
def l (Q : Fin 16384) : ℝ := ∑ K, x.e Q K
def p (Q K : Fin 16384) : ℝ := x.e Q K / x.l Q
def w (Q K : Fin 16384) : ℝ := ∑ a, x.d Q a * x.v K a
def g (Q K : Fin 16384) : ℝ := x.p Q K * (x.w Q K - ∑ K', x.p Q K' * x.w Q K')

theorem e_nonneg (Q K : Fin 16384) : 0 ≤ x.e Q K := by
  unfold e
  split_ifs
  · exact (Real.exp_pos _).le
  · exact le_rfl

theorem l_pos (Q : Fin 16384) : 0 < x.l Q := by
  refine Finset.sum_pos' (fun K _ => x.e_nonneg Q K) ⟨Q, Finset.mem_univ _, ?_⟩
  unfold e
  rw [if_pos le_rfl]
  exact Real.exp_pos _

end Att

/-- The arrays' head `h` is this one. -/
structure Reads (x : Att) (h : Fin 8) (q k : FVec Ideal S16384x8x96 .f32) (v d : FVec Ideal S16384x8x64 .f32) : Prop where
  hq : ∀ Q a, q (ix3 Q h a) = ((x.q Q a : ℝ) : EReal)
  hk : ∀ K a, k (ix3 K h a) = ((x.k K a : ℝ) : EReal)
  hv : ∀ K a, v (ix3 K h a) = ((x.v K a : ℝ) : EReal)
  hd : ∀ Q a, d (ix3 Q h a) = ((x.d Q a : ℝ) : EReal)
  hc : Ideal.ofBits .f32 0x3DD105EC#32 = ((x.c : ℝ) : EReal)
  ht : ∀ Q, top (sc q k) (ix2 h Q) = ((x.t Q : ℝ) : EReal)

theorem fold_ne_top {ι : Type*} (s : Finset ι) (f : ι → EReal) (hf : ∀ i ∈ s, f i ≠ ⊤) : s.fold max (⊥ : EReal) f ≠ ⊤ := by
  classical
  induction s using Finset.induction_on with
  | empty => simp
  | insert i s hi ih =>
    rw [Finset.fold_insert hi]
    rcases max_choice (f i) (s.fold max ⊥ f) with h | h <;> rw [h]
    · exact hf i (Finset.mem_insert_self _ _)
    · exact ih fun j hj => hf j (Finset.mem_insert_of_mem hj)

theorem le_fold {ι : Type*} (s : Finset ι) (f : ι → EReal) (i : ι) (hi : i ∈ s) : f i ≤ s.fold max (⊥ : EReal) f :=
  (Finset.le_fold_max (f i)).mpr (.inr ⟨i, hi, le_rfl⟩)

theorem exists_head (q k : FVec Ideal S16384x8x96 .f32) (v d : FVec Ideal S16384x8x64 .f32)
    (hq : ∀ i, IsReal (q i)) (hk : ∀ i, IsReal (k i)) (hv : ∀ i, IsReal (v i)) (hd : ∀ i, IsReal (d i)) (h : Fin 8) :
    ∃ x : Att, Reads x h q k v d := by
  obtain ⟨c, hc⟩ := ofBits_isReal 0x3DD105EC#32 (by decide)
  choose q' hq using hq
  choose k' hk using hk
  choose v' hv using hv
  choose d' hd using hd
  have real : ∀ Q, ∃ r : ℝ, top (sc q k) (ix2 h Q) = (r : EReal) := by
    intro Q
    have fin : ∀ K : Fin 16384, sc q k (ix3 h Q K) ≠ ⊤ := by
      intro K
      rw [sc_at]
      split_ifs
      · simp only [hq, hk, hc, ← EReal.coe_mul, ← coe_sum]
        exact EReal.coe_ne_top _
      · exact bot_ne_top
    have low : sc q k (ix3 h Q Q) ≠ ⊥ := by
      rw [sc_at, if_pos le_rfl]
      simp only [hq, hk, hc, ← EReal.coe_mul, ← coe_sum]
      exact EReal.coe_ne_bot _
    rw [top_at]
    refine isReal_of_ne (fold_ne_top _ _ fun K _ => fin K) ?_
    intro hb
    exact low (le_bot_iff.mp (hb ▸ le_fold _ (fun K => sc q k (ix3 h Q K)) Q (Finset.mem_univ _)))
  choose t ht using real
  exact ⟨⟨fun Q a => q' (ix3 Q h a), fun K a => k' (ix3 K h a), fun K a => v' (ix3 K h a), fun Q a => d' (ix3 Q h a), c, t⟩,
    ⟨fun _ _ => hq _, fun _ _ => hk _, fun _ _ => hv _, fun _ _ => hd _, hc, ht⟩⟩

section
variable {x : Att} {h : Fin 8} {q k : FVec Ideal S16384x8x96 .f32} {v d : FVec Ideal S16384x8x64 .f32} (H : Reads x h q k v d)
include H

theorem top_eq (Q : Fin 16384) : top' (sc q k) (ix2 h Q) = ((x.t Q : ℝ) : EReal) :=
  (floored_at _ h Q).trans (H.ht Q)

theorem ex_eq (t : FVec Ideal S8x16384 .f32) (ht : ∀ Q, t (ix2 h Q) = ((x.t Q : ℝ) : EReal)) (Q K : Fin 16384) :
    ex (sc q k) t (ix3 h Q K) = ((x.e Q K : ℝ) : EReal) := by
  rw [ex_at, sc_at, ht]
  unfold Att.e Att.s
  split_ifs
  · simp only [H.hq, H.hk, H.hc, ← EReal.coe_mul, ← coe_sum, ← EReal.coe_sub, Ideal.exp_coe]
  · rw [EReal.bot_sub, Ideal.exp_bot]
    rfl

theorem total_eq (t : FVec Ideal S8x16384 .f32) (ht : ∀ Q, t (ix2 h Q) = ((x.t Q : ℝ) : EReal)) (Q : Fin 16384) :
    total (ex (sc q k) t) (ix2 h Q) = ((x.l Q : ℝ) : EReal) := by
  rw [total_at]
  simp only [ex_eq H t ht, ← coe_sum]
  rfl

theorem probs_eq (t : FVec Ideal S8x16384 .f32) (ht : ∀ Q, t (ix2 h Q) = ((x.t Q : ℝ) : EReal)) (Q K : Fin 16384) :
    probs (ex (sc q k) t) (total (ex (sc q k) t)) (ix3 h Q K) = ((x.p Q K : ℝ) : EReal) := by
  rw [probs_at, ex_eq H t ht, total_eq H t ht, Ideal.div_coe (x.l_pos Q).ne']
  rw [← EReal.coe_mul, mul_one_div]
  rfl

theorem dv_eq (Q K : Fin 16384) : dv d v (ix3 h Q K) = ((x.w Q K : ℝ) : EReal) := by
  rw [dv_at]
  simp only [H.hd, H.hv, ← EReal.coe_mul, ← coe_sum]
  rfl

theorem pull_eq (Q K : Fin 16384) : pull (dv d v) (E q k) (L q k) (ix3 h Q K) = ((x.g Q K : ℝ) : EReal) := by
  have hl : L q k (ix2 h Q) = ((x.l Q : ℝ) : EReal) := total_eq H _ (top_eq H) Q
  have he : ∀ K, E q k (ix3 h Q K) = ((x.e Q K : ℝ) : EReal) := ex_eq H _ (top_eq H) Q
  have l0 := (x.l_pos Q).ne'
  rw [pull_at]
  simp only [hl, he, dv_eq H, ← EReal.coe_mul]
  simp only [Ideal.div_coe l0, Ideal.div_coe (mul_ne_zero l0 l0), one_mul, ← EReal.coe_mul, ← coe_sum, ← EReal.coe_neg, ← EReal.coe_add]
  congr 1
  have e : ∑ K', x.w Q K' * (1 / (x.l Q * x.l Q)) * x.e Q K' = (x.l Q)⁻¹ * ∑ K', x.p Q K' * x.w Q K' := by
    rw [Finset.mul_sum]
    refine Finset.sum_congr rfl fun K' _ => ?_
    unfold Att.p
    field_simp
  unfold Att.g
  rw [e]
  unfold Att.p
  field_simp
  ring

theorem ds_eq (Q K : Fin 16384) : ds (pull (dv d v) (E q k) (L q k)) (ix3 h Q K) = ((x.g Q K * x.c : ℝ) : EReal) := by
  rw [ds_at, pull_eq H, H.hc]
  split_ifs with hh
  · rw [EReal.coe_mul]
  · have : x.g Q K = 0 := by unfold Att.g Att.p Att.e; rw [if_neg hh, zero_div, zero_mul]
    rw [this, zero_mul, zero_mul]
    rfl

theorem outV_eq (K : Fin 16384) (a : Fin 64) : outV q k v d (ix3 K h a) = ((∑ Q, x.d Q a * x.p Q K : ℝ) : EReal) := by
  rw [outV_at]
  have hp : ∀ Q K, probs (E q k) (L q k) (ix3 h Q K) = ((x.p Q K : ℝ) : EReal) := probs_eq H _ (top_eq H)
  simp only [hp, H.hd, ← EReal.coe_mul, ← coe_sum]

theorem outQ_eq (Q : Fin 16384) (a : Fin 96) : outQ q k v d (ix3 Q h a) = ((∑ K, x.g Q K * x.c * x.k K a : ℝ) : EReal) := by
  rw [outQ_at]
  simp only [ds_eq H, H.hk, ← EReal.coe_mul, ← coe_sum]

theorem outK_eq (K : Fin 16384) (a : Fin 96) : outK q k v d (ix3 K h a) = ((∑ Q, x.g Q K * x.c * x.q Q a : ℝ) : EReal) := by
  rw [outK_at]
  simp only [ds_eq H, H.hq, ← EReal.coe_mul, ← coe_sum]

end

end Cert.AttnReferenceIdeal.Hand

end
-- ==== Proof.AttnHost.lean ====
/- The attention's backward kernel: what it is given. -/
module

public import proofs.«01_k».proof.Proof.AttnFrame
public import proofs.«01_k».proof.Proof.AttnStep
public import proofs.«01_k».proof.Proof.AttnRef
public import Idealize.ShloMosaic.Lib.Pipeline.ValueKit

@[expose] public section

set_option maxRecDepth 200000

noncomputable section

namespace Cert.AttnKernelIdeal.Hand

open Idealize.ShloMosaic Idealize.ShloMosaic.TcCoe Idealize.SL.Sem
open Idealize.ShloMosaic.Pipeline (Dat)
open Cert.AttnKernelIdeal Cert.AttnKernelIdeal.Gen Cert.Reals
open Cert.AttnReferenceIdeal.Hand (Att Reads)

variable (m : (ℓ : Loc nD τ sig) → Buf (Elt Ideal) ℓ)

/-- The block each window of a point reads. -/
theorem idx : ∀ t : Fin cfg0.N, win0_0.index t = ![0, t.val / 32] ∧ win0_1.index t = ![t.val % 32, t.val / 32] ∧ win0_2.index t = ![t.val % 32, t.val / 32]
    ∧ win0_3.index t = ![0, t.val / 32] ∧ win0_4.index t = ![t.val / 32, 0, 0, 0] ∧ win0_5.index t = ![t.val / 32, 0, 0, 0]
    ∧ win0_6.index t = ![0, t.val / 32] ∧ win0_7.index t = ![t.val % 32, t.val / 32] ∧ win0_8.index t = ![t.val % 32, t.val / 32] ∧ t.val / 32 < 8
    ∧ (grid0.coords t 1).val = t.val % 32 :=
  (by decide +kernel : ∀ t : Fin grid0.N, _)

abbrev kq (c : Dev nD) : FVec Ideal S16384x8x96 .f32 := m ((c : Thread nD τ).loc main_arg0)
abbrev kk (c : Dev nD) : FVec Ideal S16384x8x96 .f32 := m ((c : Thread nD τ).loc main_arg1)
abbrev kv (c : Dev nD) : FVec Ideal S16384x8x64 .f32 := m ((c : Thread nD τ).loc main_arg2)
abbrev kd (c : Dev nD) : FVec Ideal S16384x8x64 .f32 := m ((c : Thread nD τ).loc main_arg3)

/-- Keys or queries in the kernel's columns, -/
def wide (x : FVec Ideal S16384x8x96 .f32) : FVec Ideal S16384x1024 .f32 :=
  shapeCast S16384x1024 (pad S16384x8x128 ![0, 0, 0] ![0, 0, 32] ![0, 0, 0] x (sitofp .f32 (constantI S_ 32 0#32 : Vec Ideal S_ .i32)) pads_S16384x8x96_S16384x8x128_000_000_0320 h_S_)
    shapeCasts_S16384x8x128_S16384x1024

/-- values or the cotangent. -/
def wide' (x : FVec Ideal S16384x8x64 .f32) : FVec Ideal S16384x1024 .f32 :=
  shapeCast S16384x1024 (pad S16384x8x128 ![0, 0, 0] ![0, 0, 64] ![0, 0, 0] x (sitofp .f32 (constantI S_ 32 0#32 : Vec Ideal S_ .i32)) pads_S16384x8x64_S16384x8x128_000_000_0640 h_S_)
    shapeCasts_S16384x8x128_S16384x1024

def log2 : FVec Ideal S_ .f32 := Host.log (constant S_ .f32 0x40000000#32)

/-- The queries times the scores' factor over the logarithm of two. -/
def qScaled (x : FVec Ideal S16384x8x96 .f32) : FVec Ideal S16384x1024 .bf16 :=
  truncf .bf16 (mulf (wide x) (broadcastInDim S16384x1024 ![] bcast_S_S16384x1024 (Host.divf (constant S_ .f32 0x3DD105EC#32) log2))) bitsLt_bf16_f32

open Cert.AttnReferenceIdeal.Hand (sc top ex total col)

def expo (q k : FVec Ideal S16384x8x96 .f32) : FVec Ideal S8x16384x16384 .f32 := ex (sc q k) (top (sc q k))

/-- Every query's logarithm of the sum, in base two, from its largest score and its sum. -/
def lseOf (t l : FVec Ideal S8x16384 .f32) : FVec Ideal S8x32x1x512 .f32 :=
  shapeCast S8x32x1x512 (Host.divf (addf (col t) (Host.log (col l))) (broadcastInDim S8x16384x1 ![] bcast_S_S8x16384x1 log2))
    shapeCasts_S8x16384x1_S8x32x1x512

def lse (q k : FVec Ideal S16384x8x96 .f32) : FVec Ideal S8x32x1x512 .f32 := lseOf (top (sc q k)) (total (expo q k))

/-- Every query's cotangent against its output, from the probabilities. -/
def deltaOf (p : FVec Ideal S8x16384x16384 .f32) (v d : FVec Ideal S16384x8x64 .f32) : FVec Ideal S8x32x1x512 .f32 :=
  shapeCast S8x32x1x512 (transpose S8x16384 [1, 0] (Host.reduceAdd (mulf d (transpose S16384x8x64 [2, 0, 1]
    (Host.dotGeneral dot_S16384x8x64_S8x16384x16384_S8x64x16384_0_2_2_1_1_0 none v p) transposes_S8x64x16384_S16384x8x64_2_0_1))
    (constant S_ .f32 0x00000000#32) reducesTo_S16384x8x64_S16384x8_d2 h_S_) transposes_S16384x8_S8x16384_1_0) shapeCasts_S8x16384_S8x32x1x512

def delta (q k : FVec Ideal S16384x8x96 .f32) (v d : FVec Ideal S16384x8x64 .f32) : FVec Ideal S8x32x1x512 .f32 :=
  deltaOf (Cert.AttnReferenceIdeal.Hand.probs (expo q k) (total (expo q k))) v d

theorem q_arr (c : Dev nD) : V m c main_v37 = qScaled (kq m c) := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

theorem k_arr (c : Dev nD) : V m c main_v40 = truncf .bf16 (wide (kk m c)) bitsLt_bf16_f32 := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

theorem v_arr (c : Dev nD) : V m c main_v43 = truncf .bf16 (wide' (kv m c)) bitsLt_bf16_f32 := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

theorem d_arr (c : Dev nD) : V m c main_v46 = truncf .bf16 (wide' (kd m c)) bitsLt_bf16_f32 := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

theorem l_arr (c : Dev nD) : V m c main_v31 = lse (kq m c) (kk m c) := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

theorem e_arr (c : Dev nD) : V m c main_v25 = delta (kq m c) (kk m c) (kv m c) (kd m c) := by
  simp only [V, V0, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  simp only [StableHlo.TRef.ofBuf_toBuf, StableHlo.TRef.ofBuf, StableHlo.TRef.toBuf, cast_eq]
  rfl

open Cert.AttnReferenceIdeal.Hand (col_at)

theorem zero_word : (FloatOps.sitofp (F := Ideal) .f32 (0#32 : BitVec 32) : EReal) = 0 := by
  show ((((0#32 : BitVec 32).toInt : ℝ)) : EReal) = 0
  simp

theorem wide_at (x : FVec Ideal S16384x8x96 .f32) (Q : Fin 16384) (h : Fin 8) (a : Fin 128) (b : Fin 1024) (hb : b.val = h.val * 128 + a.val) :
    wide x (ix2 Q b) = if e : a.val < 96 then x (ix3 Q h ⟨a.val, e⟩) else 0 := by
  pointwise [wide]
  have ha := a.isLt
  have hh := h.isLt
  have e1 : b.val / 128 = h.val := by omega
  have e2 : b.val % 128 = a.val := by omega
  by_cases e : a.val < 96
  · rw [dif_pos e, dif_pos (by omega)]
    exact congrArg x (funext fun i => Fin.ext (by fin_cases i; exacts [rfl, e1, e2]))
  · rw [dif_neg e, dif_neg (by omega)]
    exact zero_word

theorem wide'_at (x : FVec Ideal S16384x8x64 .f32) (Q : Fin 16384) (h : Fin 8) (a : Fin 128) (b : Fin 1024) (hb : b.val = h.val * 128 + a.val) :
    wide' x (ix2 Q b) = if e : a.val < 64 then x (ix3 Q h ⟨a.val, e⟩) else 0 := by
  pointwise [wide']
  have ha := a.isLt
  have hh := h.isLt
  have e1 : b.val / 128 = h.val := by omega
  have e2 : b.val % 128 = a.val := by omega
  by_cases e : a.val < 64
  · rw [dif_pos e, dif_pos (by omega)]
    exact congrArg x (funext fun i => Fin.ext (by fin_cases i; exacts [rfl, e1, e2]))
  · rw [dif_neg e, dif_neg (by omega)]
    exact zero_word

theorem qScaled_at (x : FVec Ideal S16384x8x96 .f32) (Q : Fin 16384) (b : Fin 1024) :
    qScaled x (ix2 Q b) = wide x (ix2 Q b) * Ideal.div (Ideal.ofBits .f32 0x3DD105EC#32) (Ideal.log (Ideal.ofBits .f32 0x40000000#32)) := by
  pointwise [qScaled, log2]

theorem lseOf_at (t l : FVec Ideal S8x16384 .f32) (h : Fin 8) (n : Fin 32) (r : Fin 512) (Q : Fin 16384) (hQ : Q.val = 512 * n.val + r.val) :
    lseOf t l (ix4 h n (0 : Fin 1) r) = Ideal.div (t (ix2 h Q) + Ideal.log (l (ix2 h Q))) (Ideal.log (Ideal.ofBits .f32 0x40000000#32)) := by
  have hn := n.isLt
  have hr := r.isLt
  have lt : n.val * 512 + r.val < 16384 := by clear hQ; omega
  obtain rfl : Q = ⟨n.val * 512 + r.val, lt⟩ := Fin.ext (by show Q.val = n.val * 512 + r.val; omega)
  pointwise [lseOf, log2]
  rw [col_at, col_at]

theorem deltaOf_at (p : FVec Ideal S8x16384x16384 .f32) (v d : FVec Ideal S16384x8x64 .f32) (h : Fin 8) (n : Fin 32) (r : Fin 512) (Q : Fin 16384) (hQ : Q.val = 512 * n.val + r.val) :
    deltaOf p v d (ix4 h n (0 : Fin 1) r) = ∑ a : Fin 64, d (ix3 Q h a) * ∑ K : Fin 16384, v (ix3 K h a) * p (ix3 h Q K) := by
  have hn := n.isLt
  have hr := r.isLt
  have lt : n.val * 512 + r.val < 16384 := by clear hQ; omega
  obtain rfl : Q = ⟨n.val * 512 + r.val, lt⟩ := Fin.ext (by show Q.val = n.val * 512 + r.val; omega)
  pointwise [deltaOf]

end Cert.AttnKernelIdeal.Hand

end
-- ==== Proof.AttnReal.lean ====
/- The attention's backward kernel: what it is given and leaves, over the reals. -/
module

public import proofs.«01_k».proof.Proof.AttnHost

@[expose] public section

set_option maxRecDepth 200000

noncomputable section

namespace Cert.AttnKernelIdeal.Hand

open Idealize.ShloMosaic Idealize.ShloMosaic.TcCoe Idealize.SL.Sem
open Idealize.ShloMosaic.Pipeline (Dat)
open Cert.AttnKernelIdeal Cert.AttnKernelIdeal.Gen Cert.Reals
open Cert.AttnReferenceIdeal.Hand (Att Reads sc top ex total)

/-- The kernel's head: the queries carry the factor, the sums' logarithms are in base two, the columns are padded with zeros. -/
def headOf (x : Att) : Head where
  q Q a := if h : Q < 16384 then if e : a.val < 96 then x.q ⟨Q, h⟩ ⟨a.val, e⟩ * (x.c * (1 / Real.log 2)) else 0 else 0
  k K a := if h : K < 16384 then if e : a.val < 96 then x.k ⟨K, h⟩ ⟨a.val, e⟩ else 0 else 0
  v K a := if h : K < 16384 then if e : a.val < 64 then x.v ⟨K, h⟩ ⟨a.val, e⟩ else 0 else 0
  d Q a := if h : Q < 16384 then if e : a.val < 64 then x.d ⟨Q, h⟩ ⟨a.val, e⟩ else 0 else 0
  l Q := if h : Q < 16384 then (x.t ⟨Q, h⟩ + Real.log (x.l ⟨Q, h⟩)) * (1 / Real.log 2) else 0
  e Q := if h : Q < 16384 then ∑ a, x.d ⟨Q, h⟩ a * ∑ K, x.v K a * x.p ⟨Q, h⟩ K else 0

theorem sum_columns {n : ℕ} (hn : n ≤ 128) (f : Fin n → ℝ) : (∑ a : Fin 128, if e : a.val < n then f ⟨a.val, e⟩ else 0) = ∑ a, f a := by
  have h1 := Fin.sum_univ_eq_sum_range (fun i => if e : i < n then f ⟨i, e⟩ else 0) 128
  have h2 := Fin.sum_univ_eq_sum_range (fun i => if e : i < n then f ⟨i, e⟩ else 0) n
  rw [h1, ← Finset.sum_subset (Finset.range_mono hn) (fun i _ hi => dif_neg (by simpa using hi)), ← h2]
  exact Finset.sum_congr rfl fun a _ => dif_pos a.isLt

section
variable (x : Att)

theorem headOf_score (K Q : Fin 16384) : ∑ a, (headOf x).k K.val a * (headOf x).q Q.val a = x.s Q K * (1 / Real.log 2) := by
  unfold Att.s
  rw [mul_assoc, Finset.sum_mul, ← sum_columns (n := 96) (by norm_num)]
  refine Finset.sum_congr rfl fun a _ => ?_
  simp only [headOf, K.isLt, Q.isLt, dif_pos, Fin.eta]
  split_ifs <;> ring

theorem headOf_value (K Q : Fin 16384) : ∑ a, (headOf x).v K.val a * (headOf x).d Q.val a = x.w Q K := by
  unfold Att.w
  rw [← sum_columns (n := 64) (by norm_num)]
  refine Finset.sum_congr rfl fun a _ => ?_
  simp only [headOf, K.isLt, Q.isLt, dif_pos, Fin.eta]
  split_ifs <;> ring

theorem headOf_p (K Q : Fin 16384) : (headOf x).p K.val Q.val = x.p Q K := by
  unfold Head.p Att.p Att.e
  rw [headOf_score]
  have hl : (headOf x).l Q.val = (x.t Q + Real.log (x.l Q)) * (1 / Real.log 2) := by simp only [headOf, Q.isLt, dif_pos, Fin.eta]
  rw [hl]
  split_ifs with h
  · have h2 : Real.log 2 ≠ 0 := (Real.log_pos (by norm_num)).ne'
    show (2 : ℝ) ^ (x.s Q K * (1 / Real.log 2) - (x.t Q + Real.log (x.l Q)) * (1 / Real.log 2)) = _
    rw [Real.rpow_def_of_pos (by norm_num : (0 : ℝ) < 2), show Real.log 2 * (x.s Q K * (1 / Real.log 2) - (x.t Q + Real.log (x.l Q)) * (1 / Real.log 2))
      = (x.s Q K - x.t Q) - Real.log (x.l Q) by field_simp; ring, Real.exp_sub, Real.exp_log (x.l_pos Q)]
  · rw [zero_div]

theorem headOf_g (K Q : Fin 16384) : (headOf x).g K.val Q.val = x.g Q K := by
  unfold Head.g Att.g
  rw [headOf_p, headOf_value]
  have he : (headOf x).e Q.val = ∑ K', x.p Q K' * x.w Q K' := by
    simp only [headOf, Q.isLt, dif_pos, Fin.eta]
    unfold Att.w
    simp only [Finset.mul_sum]
    rw [Finset.sum_comm]
    exact Finset.sum_congr rfl fun K' _ => Finset.sum_congr rfl fun a _ => by ring
  rw [he]

/-- The gradients of a head's queries, keys and values as the kernel has them. -/
def gq (r : ℕ) (a : Fin 128) : ℝ := ∑ K ∈ Finset.range 16384, (headOf x).g K r * (headOf x).k K a
def gk (r : ℕ) (a : Fin 128) : ℝ := ∑ Q ∈ Finset.range 16384, (headOf x).g r Q * (headOf x).q Q a
def gv (r : ℕ) (a : Fin 128) : ℝ := ∑ Q ∈ Finset.range 16384, (headOf x).p r Q * (headOf x).d Q a

theorem gq_eq (Q : Fin 16384) (a : Fin 96) (b : Fin 128) (hb : b.val = a.val) : gq x Q.val b * x.c = ∑ K, x.g Q K * x.c * x.k K a := by
  unfold gq
  rw [Finset.sum_range, Finset.sum_mul]
  refine Finset.sum_congr rfl fun K _ => ?_
  have hk : (headOf x).k K.val b = x.k K a := by simp only [headOf, K.isLt, dif_pos, Fin.eta, hb, a.isLt]
  rw [headOf_g, hk]
  ring

theorem gk_eq (K : Fin 16384) (a : Fin 96) (b : Fin 128) (hb : b.val = a.val) : gk x K.val b * Real.log 2 = ∑ Q, x.g Q K * x.c * x.q Q a := by
  unfold gk
  rw [Finset.sum_range, Finset.sum_mul]
  refine Finset.sum_congr rfl fun Q _ => ?_
  have hq : (headOf x).q Q.val b = x.q Q a * (x.c * (1 / Real.log 2)) := by simp only [headOf, Q.isLt, dif_pos, Fin.eta, hb, a.isLt]
  have h2 : Real.log 2 ≠ 0 := (Real.log_pos (by norm_num)).ne'
  rw [headOf_g, hq]
  field_simp

theorem gv_eq (K : Fin 16384) (a : Fin 64) (b : Fin 128) (hb : b.val = a.val) : gv x K.val b = ∑ Q, x.d Q a * x.p Q K := by
  unfold gv
  rw [Finset.sum_range]
  refine Finset.sum_congr rfl fun Q _ => ?_
  have hd : (headOf x).d Q.val b = x.d Q a := by simp only [headOf, Q.isLt, dif_pos, Fin.eta, hb, a.isLt]
  rw [headOf_p, hd]
  ring

end

variable (m : (ℓ : Loc nD τ sig) → Buf (Elt Ideal) ℓ)

/-- Every head's columns after another. -/
def onHeads (f : Att → ℕ → Fin 128 → ℝ) (x : Fin 8 → Att) (r b : ℕ) : ℝ := f (x ⟨b / 128 % 8, by omega⟩) r ⟨b % 128, by omega⟩

theorem onHeads_at (f : Att → ℕ → Fin 128 → ℝ) (x : Fin 8 → Att) (r : ℕ) (h : Fin 8) (a : Fin 128) (b : ℕ) (hb : b = h.val * 128 + a.val) : onHeads f x r b = f (x h) r a := by
  have hh := h.isLt
  have ha := a.isLt
  unfold onHeads
  congr 1
  · exact congrArg x (Fin.ext (show b / 128 % 8 = h.val by omega))
  · exact Fin.ext (show b % 128 = a.val by omega)

/-- A point's head. -/
abbrev headAtPoint (t : Fin cfg0.N) : Fin 8 := ⟨t.val / 32, (idx t).2.2.2.2.2.2.2.2.2.1⟩

theorem log_two : Ideal.log (Ideal.ofBits .f32 0x40000000#32) = ((Real.log 2 : ℝ) : EReal) := by
  rw [ofBits_two, Ideal.log_coe, if_neg (by norm_num)]

theorem log_ne : Real.log 2 ≠ 0 := (Real.log_pos (by norm_num)).ne'

theorem zero_f32 : (Ideal.ofBits .f32 0x00000000#32 : EReal) = ((0 : ℝ) : EReal) := by simp [Ideal.ofBits, Ideal.ieee]

theorem shapeCast_self_at (y : FVec Ideal S512x128 .bf16) (r : Fin 512) (a : Fin 128) : shapeCast S512x128 y shapeCasts_S512x128_S512x128 (ix2 r a) = y (ix2 r a) := by
  pointwise

section
variable {m} {c : Dev nD} {x : Fin 8 → Att} (H : ∀ h, Reads (x h) h (kq m c) (kk m c) (kv m c) (kd m c))
include H

theorem point_q (t : Fin cfg0.N) (r : Fin 16384) (a : Fin 128) : (pointIns m c t).q (ix2 r a) = (((headOf (x (headAtPoint t))).q (r.val) a : ℝ) : EReal) := by
  have hr := r.isLt
  have ha := a.isLt
  have ht : t.val / 32 < 8 := (headAtPoint t).isLt
  have lt : t.val / 32 * 128 + a.val < 1024 := by omega
  have row : r.val < 16384 := by omega
  show iblk m c 0 t (ix2 r a) = _
  blk_simp [iblk]
  have e : (win0_0.blk t).view.emb (ix2 r a) = ix2 (⟨r.val, row⟩ : Fin 16384) (⟨t.val / 32 * 128 + a.val, lt⟩ : Fin 1024) := by blk_ext [idx t]
  rw [e, q_arr]
  refine (qScaled_at _ _ _).trans ?_
  rw [wide_at _ _ (headAtPoint t) a _ rfl, log_two, (H (headAtPoint t)).hc, Ideal.div_coe log_ne]
  by_cases e : a.val < 96
  · simp only [headOf, row, e, dif_pos]
    rw [(H _).hq]
    simp only [EReal.coe_mul]
  · simp only [headOf, row, e, dif_pos, dif_neg, not_false_iff]
    simp

theorem point_k (t : Fin cfg0.N) (r : Fin 512) (a : Fin 128) : (pointIns m c t).k (ix2 r a) = (((headOf (x (headAtPoint t))).k (512 * (t.val % 32) + r.val) a : ℝ) : EReal) := by
  have hr := r.isLt
  have ha := a.isLt
  have ht : t.val / 32 < 8 := (headAtPoint t).isLt
  have lt : t.val / 32 * 128 + a.val < 1024 := by omega
  have row : 512 * (t.val % 32) + r.val < 16384 := by omega
  show shapeCast S512x128 (iblk m c 1 t) shapeCasts_S512x128_S512x128 (ix2 r a) = _
  refine (shapeCast_self_at _ r a).trans ?_
  blk_simp [iblk]
  have e : (win0_1.blk t).view.emb (ix2 r a) = ix2 (⟨512 * (t.val % 32) + r.val, row⟩ : Fin 16384) (⟨t.val / 32 * 128 + a.val, lt⟩ : Fin 1024) := by blk_ext [idx t]
  rw [e, k_arr]
  refine (wide_at _ _ (headAtPoint t) a _ rfl).trans ?_
  by_cases e : a.val < 96
  · simp only [headOf, row, e, dif_pos]
    exact (H _).hk _ _
  · simp only [headOf, row, e, dif_pos, dif_neg, not_false_iff]
    rfl

theorem point_v (t : Fin cfg0.N) (r : Fin 512) (a : Fin 128) : (pointIns m c t).v (ix2 r a) = (((headOf (x (headAtPoint t))).v (512 * (t.val % 32) + r.val) a : ℝ) : EReal) := by
  have hr := r.isLt
  have ha := a.isLt
  have ht : t.val / 32 < 8 := (headAtPoint t).isLt
  have lt : t.val / 32 * 128 + a.val < 1024 := by omega
  have row : 512 * (t.val % 32) + r.val < 16384 := by omega
  show shapeCast S512x128 (iblk m c 2 t) shapeCasts_S512x128_S512x128 (ix2 r a) = _
  refine (shapeCast_self_at _ r a).trans ?_
  blk_simp [iblk]
  have e : (win0_2.blk t).view.emb (ix2 r a) = ix2 (⟨512 * (t.val % 32) + r.val, row⟩ : Fin 16384) (⟨t.val / 32 * 128 + a.val, lt⟩ : Fin 1024) := by blk_ext [idx t]
  rw [e, v_arr]
  refine (wide'_at _ _ (headAtPoint t) a _ rfl).trans ?_
  by_cases e : a.val < 64
  · simp only [headOf, row, e, dif_pos]
    exact (H _).hv _ _
  · simp only [headOf, row, e, dif_pos, dif_neg, not_false_iff]
    rfl

theorem point_d (t : Fin cfg0.N) (r : Fin 16384) (a : Fin 128) : (pointIns m c t).d (ix2 r a) = (((headOf (x (headAtPoint t))).d (r.val) a : ℝ) : EReal) := by
  have hr := r.isLt
  have ha := a.isLt
  have ht : t.val / 32 < 8 := (headAtPoint t).isLt
  have lt : t.val / 32 * 128 + a.val < 1024 := by omega
  have row : r.val < 16384 := by omega
  show iblk m c 3 t (ix2 r a) = _
  blk_simp [iblk]
  have e : (win0_3.blk t).view.emb (ix2 r a) = ix2 (⟨r.val, row⟩ : Fin 16384) (⟨t.val / 32 * 128 + a.val, lt⟩ : Fin 1024) := by blk_ext [idx t]
  rw [e, d_arr]
  refine (wide'_at _ _ (headAtPoint t) a _ rfl).trans ?_
  by_cases e : a.val < 64
  · simp only [headOf, row, e, dif_pos]
    exact (H _).hd _ _
  · simp only [headOf, row, e, dif_pos, dif_neg, not_false_iff]
    rfl

theorem point_l (t : Fin cfg0.N) (n : Fin 32) (r : Fin 512) : (pointIns m c t).l (ix4 (0 : Fin 1) n (0 : Fin 1) r) = (((headOf (x (headAtPoint t))).l (512 * n.val + r.val) : ℝ) : EReal) := by
  have hn := n.isLt
  have hr := r.isLt
  have ht : t.val / 32 < 8 := (headAtPoint t).isLt
  have row : 512 * n.val + r.val < 16384 := by omega
  show iblk m c 4 t (ix4 (0 : Fin 1) n (0 : Fin 1) r) = _
  blk_simp [iblk]
  have e : (win0_4.blk t).view.emb (ix4 (0 : Fin 1) n (0 : Fin 1) r) = ix4 (headAtPoint t) n (0 : Fin 1) r := by blk_ext [idx t]
  rw [e, l_arr]
  refine (lseOf_at _ _ _ n r ⟨512 * n.val + r.val, row⟩ rfl).trans ?_
  unfold expo
  rw [(H _).ht, Cert.AttnReferenceIdeal.Hand.total_eq (H _) _ (H _).ht, log_two, Ideal.log_coe, if_neg (not_le.mpr (Att.l_pos _ _)), ← EReal.coe_add, Ideal.div_coe log_ne, ← EReal.coe_mul]
  simp only [headOf, row, dif_pos]

theorem point_e (t : Fin cfg0.N) (n : Fin 32) (r : Fin 512) : (pointIns m c t).e (ix4 (0 : Fin 1) n (0 : Fin 1) r) = (((headOf (x (headAtPoint t))).e (512 * n.val + r.val) : ℝ) : EReal) := by
  have hn := n.isLt
  have hr := r.isLt
  have ht : t.val / 32 < 8 := (headAtPoint t).isLt
  have row : 512 * n.val + r.val < 16384 := by omega
  show iblk m c 5 t (ix4 (0 : Fin 1) n (0 : Fin 1) r) = _
  blk_simp [iblk]
  have e : (win0_5.blk t).view.emb (ix4 (0 : Fin 1) n (0 : Fin 1) r) = ix4 (headAtPoint t) n (0 : Fin 1) r := by blk_ext [idx t]
  rw [e, e_arr]
  refine (deltaOf_at _ _ _ _ n r ⟨512 * n.val + r.val, row⟩ rfl).trans ?_
  simp only [expo, Cert.AttnReferenceIdeal.Hand.probs_eq (H _) _ (H _).ht, (H _).hd, (H _).hv, ← EReal.coe_mul, ← coe_sum]
  simp only [headOf, row, dif_pos]

theorem holds (t : Fin cfg0.N) : Holds (headOf (x (headAtPoint t))) (t.val % 32) (pointIns m c t) :=
  ⟨point_q H t, point_d H t, point_l H t, point_e H t, point_k H t, point_v H t⟩

/-- What every point leaves: its keys' and values' gradients, and the queries' over the keys so far. -/
theorem st_has : ∀ (n : ℕ) (hn : n < cfg0.N), Has (stAt m c n hn) (fun a b => gk (x (headAtPoint ⟨n, hn⟩)) (512 * (n % 32) + a) b)
    (fun a b => gv (x (headAtPoint ⟨n, hn⟩)) (512 * (n % 32) + a) b)
    (fun r b => ∑ j ∈ Finset.range (n % 32 + 1), (headOf (x (headAtPoint ⟨n, hn⟩))).dq j r b) := by
  intro n
  induction n using Nat.strong_induction_on with
  | _ n ih =>
    intro hn
    have hg := (idx ⟨n, hn⟩).2.2.2.2.2.2.2.2.2.2
    have K := holds H ⟨n, hn⟩
    by_cases h : n % 32 = 0
    · have e := stAt_first m c ⟨n, hn⟩ h (fun _ => (0 : EReal))
      have F := final_has (headOf (x (headAtPoint ⟨n, hn⟩))) (grid0.coords ⟨n, hn⟩) (pointIns m c ⟨n, hn⟩) (by rw [hg]; exact K) (fun _ => (0 : EReal)) (fun _ _ => 0) (by
        intro r b
        unfold start
        rw [if_pos ((first_iff ⟨n, hn⟩).mpr h)]
        exact zero_f32)
      rw [hg] at F
      rw [show stAt m c n hn = _ from e]
      refine ⟨F.k, F.v, fun r b => (F.q r b).trans ?_⟩
      simp [h]
    · have e := stAt_next m c ⟨n, hn⟩ h
      have hn' : n - 1 < cfg0.N := by omega
      have P := ih (n - 1) (by omega) hn'
      have hh : headAtPoint ⟨n - 1, hn'⟩ = headAtPoint ⟨n, hn⟩ := Fin.ext (by show (n - 1) / 32 = n / 32; omega)
      rw [hh] at P
      have F := final_has (headOf (x (headAtPoint ⟨n, hn⟩))) (grid0.coords ⟨n, hn⟩) (pointIns m c ⟨n, hn⟩) (by rw [hg]; exact K) (stAt m c (n - 1) hn').2
        (fun r b => ∑ j ∈ Finset.range ((n - 1) % 32 + 1), (headOf (x (headAtPoint ⟨n, hn⟩))).dq j r b) (by
        intro r b
        unfold start
        rw [if_neg (fun hf => h ((first_iff ⟨n, hn⟩).mp hf))]
        exact P.q r b)
      rw [hg] at F
      rw [show stAt m c n hn = _ from e]
      refine ⟨F.k, F.v, fun r b => (F.q r b).trans ?_⟩
      rw [show n % 32 + 1 = ((n - 1) % 32 + 1) + 1 by omega, Finset.sum_range_succ _ ((n - 1) % 32 + 1), show (n - 1) % 32 + 1 = n % 32 by omega]

omit H in
theorem sum_dq (x : Head) (r : ℕ) (b : Fin 128) : ∑ j ∈ Finset.range 32, x.dq j r b = ∑ K ∈ Finset.range 16384, x.g K r * x.k K b :=
  sum_blocks (fun K => x.g K r * x.k K b) 32

omit H in
theorem scaled_at (y : FVec Ideal S512x128 .f32) (a : Fin 512) (b : Fin 128) : scaled y (ix2 a b) = y (ix2 a b) * ((Real.log 2 : ℝ) : EReal) := by
  pointwise [scaled]
  rw [show Named.named (F := Ideal) (φ := .f32) κ "ln_2" 0x3F317218#32 = ((Real.log 2 : ℝ) : EReal) from IdealRules.named_const.ideal_named_scalar _ _ _ _ rfl]

theorem final6 : (dats m 0 c).arrAt 6 (cfgs 0).N = (fun i => ((onHeads gq x (i 0).val (i 1).val : ℝ) : EReal) : FVec Ideal S16384x1024 .f32) := by
  refine (dats m 0 c).arrAt_eq_of_covers 6 _ (by decide +kernel) fun t hf y => ?_
  blk_simp [idx t]
  rw [after6]
  have h8 : t.val / 32 < 8 := (headAtPoint t).isLt
  have ht := (flush0_6 t).mp hf
  rw [onHeads_at gq x _ (headAtPoint t) (y 1) _ rfl]
  refine Eq.trans (congrArg _ (eq_ix2 y)) (((st_has H t.val t.isLt).q (y 0) (y 1)).trans (congrArg _ ?_))
  rw [ht]
  exact sum_dq _ _ _

theorem final7 : (dats m 0 c).arrAt 7 (cfgs 0).N = (fun i => ((onHeads (fun x r a => gk x r a * Real.log 2) x (i 0).val (i 1).val : ℝ) : EReal) : FVec Ideal S16384x1024 .f32) := by
  refine (dats m 0 c).arrAt_eq_of_covers 7 _ (by decide +kernel) fun t hf y => ?_
  blk_simp [idx t]
  rw [after7]
  have h8 : t.val / 32 < 8 := (headAtPoint t).isLt
  rw [onHeads_at (fun x r a => gk x r a * Real.log 2) x _ (headAtPoint t) (y 1) _ rfl, Nat.mul_comm _ 512]
  refine Eq.trans (congrArg _ (eq_ix2 y)) ((scaled_at (stAt m c t.val t.isLt).1.1 (y 0) (y 1)).trans ?_)
  rw [(st_has H t.val t.isLt).k (y 0) (y 1), ← EReal.coe_mul]

theorem final8 : (dats m 0 c).arrAt 8 (cfgs 0).N = (fun i => ((onHeads gv x (i 0).val (i 1).val : ℝ) : EReal) : FVec Ideal S16384x1024 .f32) := by
  refine (dats m 0 c).arrAt_eq_of_covers 8 _ (by decide +kernel) fun t hf y => ?_
  blk_simp [idx t]
  rw [after8]
  have h8 : t.val / 32 < 8 := (headAtPoint t).isLt
  rw [onHeads_at gv x _ (headAtPoint t) (y 1) _ rfl, Nat.mul_comm _ 512]
  exact Eq.trans (congrArg _ (eq_ix2 y)) ((st_has H t.val t.isLt).v (y 0) (y 1))

end

end Cert.AttnKernelIdeal.Hand

end
-- ==== Proof.AttnTail.lean ====
/- The host lines after the attention's backward kernel: the columns of padding leave, the queries' gradients take the factor. -/
module

public import proofs.«01_k».proof.Proof.AttnReal
public import Idealize.ShloMosaic.Lib.Claim

@[expose] public section

set_option maxRecDepth 200000

noncomputable section

namespace Cert.AttnKernelIdeal.Hand

open Idealize.ShloMosaic Idealize.ShloMosaic.TcCoe Idealize.SL.Sem
open Idealize.ShloMosaic.Pipeline (Dat)
open Cert.AttnKernelIdeal Cert.AttnKernelIdeal.Gen Cert.Reals
open Cert.AttnReferenceIdeal.Hand (Att Reads)

/-- The padded arrays without their padding: heads of 96 columns, -/
def cut96 (y : FVec Ideal S16384x1024 .f32) : FVec Ideal S16384x8x96 .f32 :=
  extractStridedSlice S16384x8x96 ![0, 0, 0] (fun i => shapeCast main_v50.ty.shape y shapeCasts_S16384x1024_S16384x8x128 i) slices_S16384x8x128_S16384x8x96_0_0_0

/-- heads of 64. -/
def cut64 (y : FVec Ideal S16384x1024 .f32) : FVec Ideal S16384x8x64 .f32 :=
  extractStridedSlice S16384x8x64 ![0, 0, 0] (fun i => shapeCast main_v54.ty.shape y shapeCasts_S16384x1024_S16384x8x128 i) slices_S16384x8x128_S16384x8x64_0_0_0

/-- With the scores' factor. -/
def factored (y : FVec Ideal S16384x1024 .f32) : FVec Ideal S16384x1024 .f32 :=
  mulf y (broadcastInDim S16384x1024 ![] bcast_S_S16384x1024 (constant S_ FTy.f32 0x3DD105EC#32))

theorem tail_q (W : Valuation τ sig (Elt Ideal)) : StableHlo.after (List.flatten [hostOps1 (F := Ideal)]) W (Proc.devRef .tc main_v51) = cut96 (factored (W (Proc.devRef .tc main_v47_0))) := by
  simp only [hostOps1, List.flatten_cons, List.flatten_nil, List.append_nil, List.cons_append, List.nil_append]
  after_results
  simp only [StableHlo.TRef.ofBuf_toBuf, StableHlo.TRef.ofBuf, StableHlo.TRef.toBuf, cast_eq]
  rfl

theorem tail_k (W : Valuation τ sig (Elt Ideal)) : StableHlo.after (List.flatten [hostOps1 (F := Ideal)]) W (Proc.devRef .tc main_v53) = cut96 (W (Proc.devRef .tc main_v47_1)) := by
  simp only [hostOps1, List.flatten_cons, List.flatten_nil, List.append_nil, List.cons_append, List.nil_append]
  after_results
  simp only [StableHlo.TRef.ofBuf_toBuf, StableHlo.TRef.ofBuf, StableHlo.TRef.toBuf, cast_eq]
  rfl

theorem tail_v (W : Valuation τ sig (Elt Ideal)) : StableHlo.after (List.flatten [hostOps1 (F := Ideal)]) W (Proc.devRef .tc main_v55) = cut64 (W (Proc.devRef .tc main_v47_2)) := by
  simp only [hostOps1, List.flatten_cons, List.flatten_nil, List.append_nil, List.cons_append, List.nil_append]
  after_results
  simp only [StableHlo.TRef.ofBuf_toBuf, StableHlo.TRef.ofBuf, StableHlo.TRef.toBuf, cast_eq]
  rfl

theorem cut96_at (y : FVec Ideal S16384x1024 .f32) (r : Fin 16384) (h : Fin 8) (a : Fin 96) (b : Fin 1024) (hb : b.val = h.val * 128 + a.val) : cut96 y (ix3 r h a) = y (ix2 r b) := by
  have h1 := r.isLt
  have h2 := h.isLt
  have h3 := a.isLt
  unfold cut96
  pointwise
  congr 1
  blk_ext [hb]

theorem cut64_at (y : FVec Ideal S16384x1024 .f32) (r : Fin 16384) (h : Fin 8) (a : Fin 64) (b : Fin 1024) (hb : b.val = h.val * 128 + a.val) : cut64 y (ix3 r h a) = y (ix2 r b) := by
  have h1 := r.isLt
  have h2 := h.isLt
  have h3 := a.isLt
  unfold cut64
  pointwise
  congr 1
  blk_ext [hb]

theorem factored_at (y : FVec Ideal S16384x1024 .f32) (i : Shape.Idx S16384x1024) : factored y i = y i * Ideal.ofBits .f32 0x3DD105EC#32 := by
  pointwise [factored]

variable (m : (ℓ : Loc nD τ sig) → Buf (Elt Ideal) ℓ) (c : Dev nD)

theorem left_q : Pipeline.afterTail₀ cfgs (dats m) 0 (V0 m) [hostOps1] c main_v51 = cut96 (factored ((dats m 0 c).arrAt 6 (cfgs 0).N)) :=
  (tail_q _).trans (congrArg (fun y => cut96 (factored y)) (Pipeline.withArrays_arr (cfgs 0).spec launch0.win.arr_inj c (V0 m c) (fun w => (dats m 0 c).arrAt w (cfgs 0).N) 6))

theorem left_k : Pipeline.afterTail₀ cfgs (dats m) 0 (V0 m) [hostOps1] c main_v53 = cut96 ((dats m 0 c).arrAt 7 (cfgs 0).N) :=
  (tail_k _).trans (congrArg cut96 (Pipeline.withArrays_arr (cfgs 0).spec launch0.win.arr_inj c (V0 m c) (fun w => (dats m 0 c).arrAt w (cfgs 0).N) 7))

theorem left_v : Pipeline.afterTail₀ cfgs (dats m) 0 (V0 m) [hostOps1] c main_v55 = cut64 ((dats m 0 c).arrAt 8 (cfgs 0).N) :=
  (tail_v _).trans (congrArg cut64 (Pipeline.withArrays_arr (cfgs 0).spec launch0.win.arr_inj c (V0 m c) (fun w => (dats m 0 c).arrAt w (cfgs 0).N) 8))

omit c in
/-- The run: what the results hold, the arguments as they began. -/
theorem result (ρ : Dev nD → PrngReg) : θ_run defs (onTc (τ := τ) (main (F := Ideal))) ⟨m, fun _ => 0, ρ⟩ (fun r => ∀ c : Dev nD,
      r.2.mem ((c.tc : Thread nD τ).loc main_v51) = cut96 (factored ((dats m 0 c).arrAt 6 (cfgs 0).N))
      ∧ r.2.mem ((c.tc : Thread nD τ).loc main_v53) = cut96 ((dats m 0 c).arrAt 7 (cfgs 0).N)
      ∧ r.2.mem ((c.tc : Thread nD τ).loc main_v55) = cut64 ((dats m 0 c).arrAt 8 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v51 (Pipeline.mem_restRefs_of main_v51 (by decide) (by decide))).trans (left_q m c),
      ((h.1 c).2 main_v53 (Pipeline.mem_restRefs_of main_v53 (by decide) (by decide))).trans (left_k m c),
      ((h.1 c).2 main_v55 (Pipeline.mem_restRefs_of main_v55 (by decide) (by decide))).trans (left_v m c), h.2.1 c⟩)
    (θ_run_and (launched m ρ) (kept m ρ))

end Cert.AttnKernelIdeal.Hand

end
-- ==== Proof.AttnPlain.lean ====
/- The frame of the attention's backward kernel as compiled: the run is the one of the kernel with named constants, each name read as its word. -/
module

public import proofs.«01_k».proof.Proof.Gen.AttnKernel
public import proofs.«01_k».proof.Proof.AttnFrame

@[expose] public section

set_option maxRecDepth 200000

noncomputable section

namespace Cert.AttnKernelIdeal.Hand

open Idealize.ShloMosaic Idealize.ShloMosaic.TcCoe
open Idealize.SL.Sem

variable {F : FTy → Type} [FloatOps F]

/-- Every name read as the word printed for it. -/
@[reducible] def asWords : Named F where
  named _ _ {φ} b := FloatOps.ofBits φ b

/-- The frame of the kernel as compiled, -/
def KeptPlain (m : (ℓ : Loc Cert.AttnKernel.nD Cert.AttnKernel.τ Cert.AttnKernel.sig) → Buf (Elt F) ℓ) (ρ : Dev Cert.AttnKernel.nD → PrngReg) : Prop :=
  θ_run Cert.AttnKernel.defs (onTc (τ := Cert.AttnKernel.τ) (Cert.AttnKernel.main (F := F))) ⟨m, fun _ => 0, ρ⟩ (fun r => (∀ c : Dev Cert.AttnKernel.nD,
    r.2.mem ((c.tc : Thread Cert.AttnKernel.nD Cert.AttnKernel.τ).loc Cert.AttnKernel.main_arg0) = m ((c.tc : Thread Cert.AttnKernel.nD Cert.AttnKernel.τ).loc Cert.AttnKernel.main_arg0)
    ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
    ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
    ∧ r.2.mem ((c.tc : Thread Cert.AttnKernel.nD Cert.AttnKernel.τ).loc Cert.AttnKernel.main_arg3) = m ((c.tc : Thread Cert.AttnKernel.nD Cert.AttnKernel.τ).loc Cert.AttnKernel.main_arg3)) ∧ r.2.sem = fun _ => 0)

/-- and of the kernel with names. -/
def KeptNamed [Named F] (m : (ℓ : Loc Cert.AttnKernelIdeal.nD Cert.AttnKernelIdeal.τ Cert.AttnKernelIdeal.sig) → Buf (Elt F) ℓ) (ρ : Dev Cert.AttnKernelIdeal.nD → PrngReg) : Prop :=
  θ_run Cert.AttnKernelIdeal.defs (onTc (τ := Cert.AttnKernelIdeal.τ) (Cert.AttnKernelIdeal.main (F := F))) ⟨m, fun _ => 0, ρ⟩ (fun r => (∀ c : Dev Cert.AttnKernelIdeal.nD,
    r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
    ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
    ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
    ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)) ∧ r.2.sem = fun _ => 0)

theorem kept_same (m : (ℓ : Loc Cert.AttnKernel.nD Cert.AttnKernel.τ Cert.AttnKernel.sig) → Buf (Elt F) ℓ) (ρ : Dev Cert.AttnKernel.nD → PrngReg) :
    KeptPlain m ρ = @KeptNamed F _ asWords m ρ := by
  sl_kernel_rfl

theorem kept_plain (m : (ℓ : Loc Cert.AttnKernel.nD Cert.AttnKernel.τ Cert.AttnKernel.sig) → Buf (Elt F) ℓ) (ρ : Dev Cert.AttnKernel.nD → PrngReg) : KeptPlain m ρ :=
  (kept_same m ρ).mpr (@kept F _ asWords m ρ)

end Cert.AttnKernelIdeal.Hand

end
-- ==== Proof.Attn.lean ====
/- The attention's backward kernel against the derivative of the plain attention. -/
module

public import proofs.«01_k».proof.Defs
public import proofs.«01_k».proof.Proof.AttnTail
public import proofs.«01_k».proof.Proof.AttnPlain
public import proofs.«01_k».proof.Proof.Gen.Pre_attn_finite
public import Idealize.ShloMosaic.Lib.Claim

@[expose] public section

set_option maxRecDepth 200000

noncomputable section

namespace Cert.Proof

open Idealize.ShloMosaic Idealize.ShloMosaic.TcCoe Idealize.SL.Sem
open Idealize.ShloMosaic.Pipeline (Dat)
open Cert.Reals
open Cert.AttnReferenceIdeal.Hand (Att Reads exists_head)
open Cert.AttnKernelIdeal.Hand

theorem attn_reference_frame : Cert.quiescent_AttnReferenceIdeal := fun m ρ _ =>
  (θ_run Cert.AttnReferenceIdeal.defs _ _).mono (fun r h => ⟨fun c => (h c).2.2.2, sem_eq_zero_of_no_sems (by decide) r.2⟩)
    (Cert.AttnReferenceIdeal.Value.run (F := Ideal) m ρ)

theorem attn_preserves : Cert.preserves_AttnKernel_AttnKernelIdeal :=
  ⟨IdealRules.named_const.statement Cert.AttnKernelIdeal.κ "mask" .f32 0xF149F2CA#32 _ rfl,
    IdealRules.named_const.statement Cert.AttnKernelIdeal.κ "ln_2" .f32 0x3F317218#32 _ rfl⟩

section
variable (m : (ℓ : Loc Cert.AttnKernelIdeal.nD Cert.AttnKernelIdeal.τ Cert.AttnKernelIdeal.sig) → Buf (Elt Ideal) ℓ) {c : Dev Cert.AttnKernelIdeal.nD}

/-- Finite arrays hold real heads. -/
theorem heads (hq : ∀ i, IsReal (kq m c i)) (hk : ∀ i, IsReal (kk m c i)) (hv : ∀ i, IsReal (kv m c i)) (hd : ∀ i, IsReal (kd m c i)) :
    ∃ x : Fin 8 → Att, ∀ h, Reads (x h) h (kq m c) (kk m c) (kv m c) (kd m c) :=
  ⟨fun h => (exists_head _ _ _ _ hq hk hv hd h).choose, fun h => (exists_head _ _ _ _ hq hk hv hd h).choose_spec⟩

variable {m} {x : Fin 8 → Att} (H : ∀ h, Reads (x h) h (kq m c) (kk m c) (kv m c) (kd m c))
include H

theorem same_q : cut96 (factored ((dats m 0 c).arrAt 6 (Cert.AttnKernelIdeal.cfgs 0).N)) = Cert.AttnReferenceIdeal.Hand.outQ (kq m c) (kk m c) (kv m c) (kd m c) := by
  funext i
  obtain ⟨r, h, a, rfl⟩ : ∃ (r : Fin 16384) (h : Fin 8) (a : Fin 96), i = ix3 r h a := ⟨i 0, i 1, i 2, eq_ix3 i⟩
  have h2 := h.isLt
  have h3 := a.isLt
  rw [cut96_at _ r h a ⟨h.val * 128 + a.val, by omega⟩ rfl, factored_at, final6 H, Cert.AttnReferenceIdeal.Hand.outQ_eq (H h)]
  show ((onHeads gq x r.val (h.val * 128 + a.val) : ℝ) : EReal) * Ideal.ofBits .f32 0x3DD105EC#32 = _
  rw [onHeads_at gq x r.val h ⟨a.val, by omega⟩ _ rfl, (H h).hc, ← EReal.coe_mul, gq_eq (x h) r a ⟨a.val, by omega⟩ rfl]

theorem same_k : cut96 ((dats m 0 c).arrAt 7 (Cert.AttnKernelIdeal.cfgs 0).N) = Cert.AttnReferenceIdeal.Hand.outK (kq m c) (kk m c) (kv m c) (kd m c) := by
  funext i
  obtain ⟨r, h, a, rfl⟩ : ∃ (r : Fin 16384) (h : Fin 8) (a : Fin 96), i = ix3 r h a := ⟨i 0, i 1, i 2, eq_ix3 i⟩
  have h2 := h.isLt
  have h3 := a.isLt
  rw [cut96_at _ r h a ⟨h.val * 128 + a.val, by omega⟩ rfl, final7 H, Cert.AttnReferenceIdeal.Hand.outK_eq (H h)]
  show ((onHeads (fun x r a => gk x r a * Real.log 2) x r.val (h.val * 128 + a.val) : ℝ) : EReal) = _
  rw [onHeads_at (fun x r a => gk x r a * Real.log 2) x r.val h ⟨a.val, by omega⟩ _ rfl, gk_eq (x h) r a ⟨a.val, by omega⟩ rfl]

theorem same_v : cut64 ((dats m 0 c).arrAt 8 (Cert.AttnKernelIdeal.cfgs 0).N) = Cert.AttnReferenceIdeal.Hand.outV (kq m c) (kk m c) (kv m c) (kd m c) := by
  funext i
  obtain ⟨r, h, a, rfl⟩ : ∃ (r : Fin 16384) (h : Fin 8) (a : Fin 64), i = ix3 r h a := ⟨i 0, i 1, i 2, eq_ix3 i⟩
  have h2 := h.isLt
  have h3 := a.isLt
  rw [cut64_at _ r h a ⟨h.val * 128 + a.val, by omega⟩ rfl, final8 H, Cert.AttnReferenceIdeal.Hand.outV_eq (H h)]
  show ((onHeads gv x r.val (h.val * 128 + a.val) : ℝ) : EReal) = _
  rw [onHeads_at gv x r.val h ⟨a.val, by omega⟩ _ rfl, gv_eq (x h) r a ⟨a.val, by omega⟩ rfl]

end

theorem attn_algebraic : Cert.algebraic_AttnKernelIdeal_AttnReferenceIdeal_pre_attn_finite := by
  pair_intro
  · run_from Cert.AttnKernelIdeal.Hand.result m g
  · run_from Cert.AttnReferenceIdeal.Value.run m' g'
    · obtain ⟨eq, ek, ev, ed⟩ := hagree c
      refine (Cert.AttnReferenceIdeal.Hand.res_q m' c).trans (Eq.symm ?_)
      change Cert.AttnReferenceIdeal.Hand.aq m' c = kq m c at eq
      change Cert.AttnReferenceIdeal.Hand.ak m' c = kk m c at ek
      change Cert.AttnReferenceIdeal.Hand.av m' c = kv m c at ev
      change Cert.AttnReferenceIdeal.Hand.ad m' c = kd m c at ed
      obtain ⟨x, H⟩ := heads m (c := c) (fun i => isReal_of_abs_lt (congrFun (hpre c).1 i)) (fun i => isReal_of_abs_lt (congrFun (hpre c).2.1 i))
        (fun i => isReal_of_abs_lt (congrFun (hpre c).2.2.1 i)) (fun i => isReal_of_abs_lt (congrFun (hpre c).2.2.2 i))
      exact (same_q H).trans (by rw [eq, ek, ev, ed])
    · obtain ⟨eq, ek, ev, ed⟩ := hagree c
      refine (Cert.AttnReferenceIdeal.Hand.res_k m' c).trans (Eq.symm ?_)
      change Cert.AttnReferenceIdeal.Hand.aq m' c = kq m c at eq
      change Cert.AttnReferenceIdeal.Hand.ak m' c = kk m c at ek
      change Cert.AttnReferenceIdeal.Hand.av m' c = kv m c at ev
      change Cert.AttnReferenceIdeal.Hand.ad m' c = kd m c at ed
      obtain ⟨x, H⟩ := heads m (c := c) (fun i => isReal_of_abs_lt (congrFun (hpre c).1 i)) (fun i => isReal_of_abs_lt (congrFun (hpre c).2.1 i))
        (fun i => isReal_of_abs_lt (congrFun (hpre c).2.2.1 i)) (fun i => isReal_of_abs_lt (congrFun (hpre c).2.2.2 i))
      exact (same_k H).trans (by rw [eq, ek, ev, ed])
    · obtain ⟨eq, ek, ev, ed⟩ := hagree c
      refine (Cert.AttnReferenceIdeal.Hand.res_v m' c).trans (Eq.symm ?_)
      change Cert.AttnReferenceIdeal.Hand.aq m' c = kq m c at eq
      change Cert.AttnReferenceIdeal.Hand.ak m' c = kk m c at ek
      change Cert.AttnReferenceIdeal.Hand.av m' c = kv m c at ev
      change Cert.AttnReferenceIdeal.Hand.ad m' c = kd m c at ed
      obtain ⟨x, H⟩ := heads m (c := c) (fun i => isReal_of_abs_lt (congrFun (hpre c).1 i)) (fun i => isReal_of_abs_lt (congrFun (hpre c).2.1 i))
        (fun i => isReal_of_abs_lt (congrFun (hpre c).2.2.1 i)) (fun i => isReal_of_abs_lt (congrFun (hpre c).2.2.2 i))
      exact (same_v H).trans (by rw [eq, ek, ev, ed])

end Cert.Proof

end
-- ==== Proof.AttnfTrip.lean ====
/- One block of the body, and the loops' trips as blocks in a row. -/
module

public import proofs.«01_k».proof.Proof.Gen.AttnfKernelIdeal.Frame

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen
open Idealize.ShloMosaic

variable {F : FTy → Type} [FloatOps F] [Named F]

/-- What a block's loop carries: the running maximum and the weighted sum. -/
abbrev St (F : FTy → Type) := FVec F S512x1 .f32 × FVec F S512x128 .f32

def scores (q k : FVec F S512x128 .bf16) : FVec F S512x512 .f32 :=
  matmul dot_S512x128_S512x128_S512x512_1_1_0_0_n_n none q k (constant S512x512 .f32 0x00000000#32)

def top (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

def mix (s : FVec F S512x512 .f32) (m n : FVec F S512x1 .f32) (v : FVec F S512x128 .bf16) (a : FVec F S512x128 .f32) : FVec F S512x128 .f32 :=
  addf (mulf (broadcastTo S512x128 (exp2 (subf m n)) broadcasts_S512x1_S512x128) a)
    (matmul dot_S512x512_S512x128_S512x128_1_0_0_1_n_n none (truncf .bf16 (exp2 (subf s (broadcastTo S512x512 n broadcasts_S512x1_S512x512))) bitsLt_bf16_f32) v
      (constant S512x128 .f32 0x00000000#32))

/-- One block: the maximum raised to the scores', the sum scaled to it and the block's values added. -/
def step (s : FVec F S512x512 .f32) (v : FVec F S512x128 .bf16) (x : St F) : St F := (top s x.1, mix s x.1 (top s x.1) v x.2)

def cast' (x : Vec F S512x128 .bf16) : FVec F S512x128 .bf16 := shapeCast S512x128 x shapeCasts_S512x128_S512x128

/-- The block of keys (values) a load reads. -/
def at' (b : Memref sig .tc .vmem S16384x128 .bf16) (x : BufTy.Contents (Elt F) b.view.ty) (off : Fin 2 → ℕ) (h : ∀ a, off a + S512x128.size a ≤ S16384x128.size a) :
    Vec F S512x128 .bf16 := b.view.readAt (Elt F) (Rect.unit (s := S16384x128) off S512x128.size h).toLoadRect x

/-- `u` blocks in a row. -/
def steps (q : FVec F S512x128 .bf16) : (u : ℕ) → (Fin u → Vec F S512x128 .bf16) → (Fin u → Vec F S512x128 .bf16) → St F → St F
  | 0, _, _, x => x
  | u + 1, k, v, x => steps q u (fun r => k r.succ) (fun r => v r.succ) (step (scores q (cast' (k 0))) (cast' (v 0)) x)

theorem trip1 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (v0 : Vec F S512x128 .bf16) (X_arg3 : BufTy.Contents (Elt F) arg3.view.ty) (X_arg4 : BufTy.Contents (Elt F) arg4.view.ty) (k : Fin (k0_t1_loop i).trips) (acc : FVec F S512x1 .f32 × FVec F S512x128 .f32) :
    tripR_k0_t1 𝒱 c bd i arg2 harg2 arg3 harg3 arg4 harg4 arg5 harg5 arg6 harg6 v0 X_arg3 X_arg4 k acc
      = steps (cast' v0) 16 (fun r => at' arg3 X_arg3 (k0_off1 i k (BitVec.ofNat 32 r.val)) (k0_off1_inb i k r)) (fun r => at' arg4 X_arg4 (k0_off1 i k (BitVec.ofNat 32 r.val)) (k0_off1_inb i k r)) acc := by
  unfold tripR_k0_t1 trip_k0_t1
  rfl

theorem trip3 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v28_0 : FVec F S512x1 .f32) (v28_1 : FVec F S512x128 .f32) (v30 : BitVec 32) (v31 : BitVec 32) (c8_i32 : BitVec 32) (v32 : BitVec 32) (v34 : BitVec 32) (v36 : BitVec 32) (X_arg3 : BufTy.Contents (Elt F) arg3.view.ty) (X_arg4 : BufTy.Contents (Elt F) arg4.view.ty) (k : Fin (k0_t3_loop i).trips) (acc : FVec F S512x1 .f32 × FVec F S512x128 .f32) :
    tripR_k0_t3 𝒱 c bd i arg2 harg2 arg3 harg3 arg4 harg4 arg5 harg5 arg6 harg6 arg1 v1 v28_0 v28_1 v30 v31 c8_i32 v32 v34 v36 X_arg3 X_arg4 k acc
      = steps (v1) 8 (fun r => at' arg3 X_arg3 (k0_off3 i k (BitVec.ofNat 32 r.val)) (k0_off3_inb i k r)) (fun r => at' arg4 X_arg4 (k0_off3 i k (BitVec.ofNat 32 r.val)) (k0_off3_inb i k r)) acc := by
  unfold tripR_k0_t3 trip_k0_t3
  rfl

theorem trip5 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (X_arg3 : BufTy.Contents (Elt F) arg3.view.ty) (X_arg4 : BufTy.Contents (Elt F) arg4.view.ty) (k : Fin (k0_t5_loop i).trips) (acc : FVec F S512x1 .f32 × FVec F S512x128 .f32) :
    tripR_k0_t5 𝒱 c bd i arg2 harg2 arg3 harg3 arg4 harg4 arg5 harg5 arg6 harg6 arg1 v1 v55_0 v55_1 v57 v75 c0_i32_30 c1_i32_31 v78 X_arg3 X_arg4 k acc
      = steps (v1) 4 (fun r => at' arg3 X_arg3 (k0_off5 i k (BitVec.ofNat 32 r.val)) (k0_off5_inb i k r)) (fun r => at' arg4 X_arg4 (k0_off5 i k (BitVec.ofNat 32 r.val)) (k0_off5_inb i k r)) acc := by
  unfold tripR_k0_t5 trip_k0_t5
  rfl

theorem trip7 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (v84 : BitVec 32) (X_arg3 : BufTy.Contents (Elt F) arg3.view.ty) (X_arg4 : BufTy.Contents (Elt F) arg4.view.ty) (k : Fin (k0_t7_loop i).trips) (acc : FVec F S512x1 .f32 × FVec F S512x128 .f32) :
    tripR_k0_t7 𝒱 c bd i arg2 harg2 arg3 harg3 arg4 harg4 arg5 harg5 arg6 harg6 arg1 v1 v55_0 v55_1 v57 v75 c0_i32_30 c1_i32_31 v78 v84 X_arg3 X_arg4 k acc
      = steps (v1) 2 (fun r => at' arg3 X_arg3 (k0_off7 i k (BitVec.ofNat 32 r.val)) (k0_off7_inb i k r)) (fun r => at' arg4 X_arg4 (k0_off7 i k (BitVec.ofNat 32 r.val)) (k0_off7_inb i k r)) acc := by
  unfold tripR_k0_t7 trip_k0_t7
  rfl

theorem trip9 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v109_0 : FVec F S512x1 .f32) (v109_1 : FVec F S512x128 .f32) (v111 : BitVec 32) (v112 : BitVec 32) (c1_i32_46 : BitVec 32) (v113 : BitVec 32) (v118 : BitVec 32) (v119 : BitVec 1) (X_arg3 : BufTy.Contents (Elt F) arg3.view.ty) (X_arg4 : BufTy.Contents (Elt F) arg4.view.ty) (k : Fin (k0_t9_loop i).trips) (acc : FVec F S512x1 .f32 × FVec F S512x128 .f32) :
    tripR_k0_t9 𝒱 c bd i arg2 harg2 arg3 harg3 arg4 harg4 arg5 harg5 arg6 harg6 arg1 v1 v109_0 v109_1 v111 v112 c1_i32_46 v113 v118 v119 X_arg3 X_arg4 k acc
      = steps (v1) 1 (fun r => at' arg3 X_arg3 (k0_off9 i k) (k0_off9_inb i k)) (fun r => at' arg4 X_arg4 (k0_off9 i k) (k0_off9_inb i k)) acc := by
  unfold tripR_k0_t9 trip_k0_t9
  rfl

end Cert.AttnfKernelIdeal.Value
end
-- ==== Proof.AttnfLoop.lean ====
/- What the forward kernel's loops carry: the state after the blocks before the diagonal, block by block. -/
module

public import proofs.«01_k».proof.Proof.AttnfTrip
public import Idealize.ShloMosaic.Lib.Pipeline.Value
public import Idealize.ShloMosaic.Lib.Pipeline.ValueKit
public import Idealize.ShloMosaic.Lib.WholeRead

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen
open Idealize.ShloMosaic

variable {F : FTy → Type} [FloatOps F] [Named F]

/-- Block `n` of an array's rows. -/
def blockOf (x : Vec F S16384x128 .bf16) (n : ℕ) : Vec F S512x128 .bf16 := fun y =>
  x (ix2 (⟨(512 * n + (y 0).val) % 16384, Nat.mod_lt _ (by norm_num)⟩ : Fin 16384) (y 1))

theorem at'_blockOf (b : Memref sig .tc .vmem S16384x128 .bf16) (hb : b.IsWhole) (x : Vec F S16384x128 .bf16) (n : ℕ) (hn : n < 32) (off : Fin 2 → ℕ)
    (h : ∀ a, off a + S512x128.size a ≤ S16384x128.size a) (e : off = ![512 * n, 0]) : at' b (hb.unread x) off h = blockOf x n := by
  subst e
  funext y
  refine (hb.readAt_unread x (Rect.unit (s := S16384x128) ![512 * n, 0] S512x128.size h).toLoadRect y).trans ?_
  unfold blockOf
  congr 1
  funext a
  fin_cases a
  · exact Fin.ext (by show 512 * n + 1 * (y 0).val = (512 * n + (y 0).val) % 16384; have : (y 0).val < 512 := (y 0).isLt; omega)
  · exact Fin.ext (by show 0 + 1 * (y 1).val = (y 1).val; omega)

/-- The state after the first `n` blocks. -/
def run (q : FVec F S512x128 .bf16) (k v : Vec F S16384x128 .bf16) : ℕ → St F
  | 0 => (broadcast S512x1 (Named.named κ "mask" 0xF149F2CA#32), broadcast S512x128 (Scalar.ofBits .f32 0x00000000#32))
  | n + 1 => step (scores q (cast' (blockOf k n))) (cast' (blockOf v n)) (run q k v n)

theorem steps_run (q : FVec F S512x128 .bf16) (k v : Vec F S16384x128 .bf16) : ∀ (u a : ℕ) (K V : Fin u → Vec F S512x128 .bf16)
    (_ : ∀ r, K r = blockOf k (a + r.val)) (_ : ∀ r, V r = blockOf v (a + r.val)), steps q u K V (run q k v a) = run q k v (a + u)
  | 0, a, K, V, _, _ => rfl
  | u + 1, a, K, V, hk, hv => by
    unfold steps
    rw [hk 0, hv 0]
    refine (steps_run q k v u (a + 1) _ _ (fun r => (hk r.succ).trans ?_) fun r => (hv r.succ).trans ?_).trans ?_
    · congr 1; show a + (r.val + 1) = _; omega
    · congr 1; show a + (r.val + 1) = _; omega
    · congr 1; omega

theorem trips : ∀ i : grid0.Coords, (k0_t1_loop i).trips = (i 1).val / 16 ∧ (k0_t3_loop i).trips = (i 1).val % 16 / 8 ∧ (k0_t5_loop i).trips = (i 1).val % 8 / 4 ∧ (k0_t7_loop i).trips = (i 1).val % 4 / 2 ∧ (k0_t9_loop i).trips = (i 1).val % 2 := by decide +kernel

theorem no_trips : ∀ i : grid0.Coords, (k0_t2_loop i).trips = 0 ∧ (k0_t4_loop i).trips = 0 ∧ (k0_t6_loop i).trips = 0 ∧ (k0_t8_loop i).trips = 0 ∧ (k0_t10_loop i).trips = 0 := by decide +kernel

theorem off1 : ∀ (i : grid0.Coords) (t : Fin (k0_t1_loop i).trips) (r : Fin 16), 0 + 16 * t.val + r.val < 32
    ∧ k0_off1 i t (BitVec.ofNat 32 r.val) = ![512 * (0 + 16 * t.val + r.val), 0] := by decide +kernel

theorem off3 : ∀ (i : grid0.Coords) (t : Fin (k0_t3_loop i).trips) (r : Fin 8), 16 * ((i 1).val / 16) + 8 * t.val + r.val < 32
    ∧ k0_off3 i t (BitVec.ofNat 32 r.val) = ![512 * (16 * ((i 1).val / 16) + 8 * t.val + r.val), 0] := by decide +kernel

theorem off5 : ∀ (i : grid0.Coords) (t : Fin (k0_t5_loop i).trips) (r : Fin 4), 8 * ((i 1).val / 8) + 4 * t.val + r.val < 32
    ∧ k0_off5 i t (BitVec.ofNat 32 r.val) = ![512 * (8 * ((i 1).val / 8) + 4 * t.val + r.val), 0] := by decide +kernel

theorem off7 : ∀ (i : grid0.Coords) (t : Fin (k0_t7_loop i).trips) (r : Fin 2), 4 * ((i 1).val / 4) + 2 * t.val + r.val < 32
    ∧ k0_off7 i t (BitVec.ofNat 32 r.val) = ![512 * (4 * ((i 1).val / 4) + 2 * t.val + r.val), 0] := by decide +kernel

theorem off9 : ∀ (i : grid0.Coords) (t : Fin (k0_t9_loop i).trips), 2 * ((i 1).val / 2) + t.val + 0 < 32
    ∧ k0_off9 i t = ![512 * (2 * ((i 1).val / 2) + t.val + 0), 0] := by decide +kernel

theorem off11 : ∀ i : grid0.Coords, k0_off11 i = ![512 * (i 1).val, 0] := by decide +kernel

theorem loop1 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (v0 : Vec F S512x128 .bf16) (x3 x4 : Vec F S16384x128 .bf16) (init : St F)
    (h0 : init = run (cast' v0) x3 x4 (0)) :
    st_k0_t1 𝒱 c bd i arg2 harg2 arg3 harg3 arg4 harg4 arg5 harg5 arg6 harg6 v0 (harg3.unread x3) (harg4.unread x4) init (k0_t1_loop i).trips = run (cast' v0) x3 x4 (16 * ((i 1).val / 16)) := by
  have key : ∀ n, n ≤ (k0_t1_loop i).trips → st_k0_t1 𝒱 c bd i arg2 harg2 arg3 harg3 arg4 harg4 arg5 harg5 arg6 harg6 v0 (harg3.unread x3) (harg4.unread x4) init n = run (cast' v0) x3 x4 (0 + 16 * n) := by
    intro n
    induction n with
    | zero => intro _; rw [st_k0_t1_zero, Nat.mul_zero, Nat.add_zero]; exact h0
    | succ n ih =>
      intro hn
      rw [st_k0_t1_succ 𝒱 c bd i arg2 harg2 arg3 harg3 arg4 harg4 arg5 harg5 arg6 harg6 v0 (harg3.unread x3) (harg4.unread x4) init ⟨n, hn⟩, trip1, ih (Nat.le_of_lt hn)]
      refine (steps_run _ x3 x4 16 _ _ _ (fun r => ?_) fun r => ?_).trans (congrArg _ (by omega))
      · exact at'_blockOf arg3 harg3 x3 _ (off1 i ⟨n, hn⟩ r).1 _ _ (off1 i ⟨n, hn⟩ r).2
      · exact at'_blockOf arg4 harg4 x4 _ (off1 i ⟨n, hn⟩ r).1 _ _ (off1 i ⟨n, hn⟩ r).2
  rw [key _ le_rfl, (trips i).1]
  congr 1; omega

theorem loop2 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (v0 : Vec F S512x128 .bf16) (v26 : BitVec 32) (X_arg3 : BufTy.Contents (Elt F) arg3.view.ty) (X_arg4 : BufTy.Contents (Elt F) arg4.view.ty) (init : St F) :
    st_k0_t2 𝒱 c bd i arg2 harg2 arg3 harg3 arg4 harg4 arg5 harg5 arg6 harg6 v0 v26 X_arg3 X_arg4 init (k0_t2_loop i).trips = init := by
  rw [(no_trips i).1, st_k0_t2_zero]

theorem loop3 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v28_0 : FVec F S512x1 .f32) (v28_1 : FVec F S512x128 .f32) (v30 : BitVec 32) (v31 : BitVec 32) (c8_i32 : BitVec 32) (v32 : BitVec 32) (v34 : BitVec 32) (v36 : BitVec 32) (x3 x4 : Vec F S16384x128 .bf16) (init : St F)
    (h0 : init = run (v1) x3 x4 (16 * ((i 1).val / 16))) :
    st_k0_t3 𝒱 c bd i arg2 harg2 arg3 harg3 arg4 harg4 arg5 harg5 arg6 harg6 arg1 v1 v28_0 v28_1 v30 v31 c8_i32 v32 v34 v36 (harg3.unread x3) (harg4.unread x4) init (k0_t3_loop i).trips = run (v1) x3 x4 (8 * ((i 1).val / 8)) := by
  have key : ∀ n, n ≤ (k0_t3_loop i).trips → st_k0_t3 𝒱 c bd i arg2 harg2 arg3 harg3 arg4 harg4 arg5 harg5 arg6 harg6 arg1 v1 v28_0 v28_1 v30 v31 c8_i32 v32 v34 v36 (harg3.unread x3) (harg4.unread x4) init n = run (v1) x3 x4 (16 * ((i 1).val / 16) + 8 * n) := by
    intro n
    induction n with
    | zero => intro _; rw [st_k0_t3_zero, Nat.mul_zero, Nat.add_zero]; exact h0
    | succ n ih =>
      intro hn
      rw [st_k0_t3_succ 𝒱 c bd i arg2 harg2 arg3 harg3 arg4 harg4 arg5 harg5 arg6 harg6 arg1 v1 v28_0 v28_1 v30 v31 c8_i32 v32 v34 v36 (harg3.unread x3) (harg4.unread x4) init ⟨n, hn⟩, trip3, ih (Nat.le_of_lt hn)]
      refine (steps_run _ x3 x4 8 _ _ _ (fun r => ?_) fun r => ?_).trans (congrArg _ (by omega))
      · exact at'_blockOf arg3 harg3 x3 _ (off3 i ⟨n, hn⟩ r).1 _ _ (off3 i ⟨n, hn⟩ r).2
      · exact at'_blockOf arg4 harg4 x4 _ (off3 i ⟨n, hn⟩ r).1 _ _ (off3 i ⟨n, hn⟩ r).2
  rw [key _ le_rfl, (trips i).2.1]
  congr 1; omega

theorem loop4 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v28_0 : FVec F S512x1 .f32) (v28_1 : FVec F S512x128 .f32) (v30 : BitVec 32) (v31 : BitVec 32) (c8_i32 : BitVec 32) (v32 : BitVec 32) (v34 : BitVec 32) (v36 : BitVec 32) (v53 : BitVec 32) (X_arg3 : BufTy.Contents (Elt F) arg3.view.ty) (X_arg4 : BufTy.Contents (Elt F) arg4.view.ty) (init : St F) :
    st_k0_t4 𝒱 c bd i arg2 harg2 arg3 harg3 arg4 harg4 arg5 harg5 arg6 harg6 arg1 v1 v28_0 v28_1 v30 v31 c8_i32 v32 v34 v36 v53 X_arg3 X_arg4 init (k0_t4_loop i).trips = init := by
  rw [(no_trips i).2.1, st_k0_t4_zero]

theorem loop5 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (x3 x4 : Vec F S16384x128 .bf16) (init : St F)
    (h0 : init = run (v1) x3 x4 (8 * ((i 1).val / 8))) :
    st_k0_t5 𝒱 c bd i arg2 harg2 arg3 harg3 arg4 harg4 arg5 harg5 arg6 harg6 arg1 v1 v55_0 v55_1 v57 v75 c0_i32_30 c1_i32_31 v78 (harg3.unread x3) (harg4.unread x4) init (k0_t5_loop i).trips = run (v1) x3 x4 (4 * ((i 1).val / 4)) := by
  have key : ∀ n, n ≤ (k0_t5_loop i).trips → st_k0_t5 𝒱 c bd i arg2 harg2 arg3 harg3 arg4 harg4 arg5 harg5 arg6 harg6 arg1 v1 v55_0 v55_1 v57 v75 c0_i32_30 c1_i32_31 v78 (harg3.unread x3) (harg4.unread x4) init n = run (v1) x3 x4 (8 * ((i 1).val / 8) + 4 * n) := by
    intro n
    induction n with
    | zero => intro _; rw [st_k0_t5_zero, Nat.mul_zero, Nat.add_zero]; exact h0
    | succ n ih =>
      intro hn
      rw [st_k0_t5_succ 𝒱 c bd i arg2 harg2 arg3 harg3 arg4 harg4 arg5 harg5 arg6 harg6 arg1 v1 v55_0 v55_1 v57 v75 c0_i32_30 c1_i32_31 v78 (harg3.unread x3) (harg4.unread x4) init ⟨n, hn⟩, trip5, ih (Nat.le_of_lt hn)]
      refine (steps_run _ x3 x4 4 _ _ _ (fun r => ?_) fun r => ?_).trans (congrArg _ (by omega))
      · exact at'_blockOf arg3 harg3 x3 _ (off5 i ⟨n, hn⟩ r).1 _ _ (off5 i ⟨n, hn⟩ r).2
      · exact at'_blockOf arg4 harg4 x4 _ (off5 i ⟨n, hn⟩ r).1 _ _ (off5 i ⟨n, hn⟩ r).2
  rw [key _ le_rfl, (trips i).2.2.1]
  congr 1; omega

theorem loop6 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (v80 : BitVec 32) (X_arg3 : BufTy.Contents (Elt F) arg3.view.ty) (X_arg4 : BufTy.Contents (Elt F) arg4.view.ty) (init : St F) :
    st_k0_t6 𝒱 c bd i arg2 harg2 arg3 harg3 arg4 harg4 arg5 harg5 arg6 harg6 arg1 v1 v55_0 v55_1 v57 v75 c0_i32_30 c1_i32_31 v78 v80 X_arg3 X_arg4 init (k0_t6_loop i).trips = init := by
  rw [(no_trips i).2.2.1, st_k0_t6_zero]

theorem loop7 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (v84 : BitVec 32) (x3 x4 : Vec F S16384x128 .bf16) (init : St F)
    (h0 : init = run (v1) x3 x4 (4 * ((i 1).val / 4))) :
    st_k0_t7 𝒱 c bd i arg2 harg2 arg3 harg3 arg4 harg4 arg5 harg5 arg6 harg6 arg1 v1 v55_0 v55_1 v57 v75 c0_i32_30 c1_i32_31 v78 v84 (harg3.unread x3) (harg4.unread x4) init (k0_t7_loop i).trips = run (v1) x3 x4 (2 * ((i 1).val / 2)) := by
  have key : ∀ n, n ≤ (k0_t7_loop i).trips → st_k0_t7 𝒱 c bd i arg2 harg2 arg3 harg3 arg4 harg4 arg5 harg5 arg6 harg6 arg1 v1 v55_0 v55_1 v57 v75 c0_i32_30 c1_i32_31 v78 v84 (harg3.unread x3) (harg4.unread x4) init n = run (v1) x3 x4 (4 * ((i 1).val / 4) + 2 * n) := by
    intro n
    induction n with
    | zero => intro _; rw [st_k0_t7_zero, Nat.mul_zero, Nat.add_zero]; exact h0
    | succ n ih =>
      intro hn
      rw [st_k0_t7_succ 𝒱 c bd i arg2 harg2 arg3 harg3 arg4 harg4 arg5 harg5 arg6 harg6 arg1 v1 v55_0 v55_1 v57 v75 c0_i32_30 c1_i32_31 v78 v84 (harg3.unread x3) (harg4.unread x4) init ⟨n, hn⟩, trip7, ih (Nat.le_of_lt hn)]
      refine (steps_run _ x3 x4 2 _ _ _ (fun r => ?_) fun r => ?_).trans (congrArg _ (by omega))
      · exact at'_blockOf arg3 harg3 x3 _ (off7 i ⟨n, hn⟩ r).1 _ _ (off7 i ⟨n, hn⟩ r).2
      · exact at'_blockOf arg4 harg4 x4 _ (off7 i ⟨n, hn⟩ r).1 _ _ (off7 i ⟨n, hn⟩ r).2
  rw [key _ le_rfl, (trips i).2.2.2.1]
  congr 1; omega

theorem loop8 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v55_0 : FVec F S512x1 .f32) (v55_1 : FVec F S512x128 .f32) (v57 : BitVec 32) (v75 : BitVec 32) (c0_i32_30 : BitVec 32) (c1_i32_31 : BitVec 32) (v78 : BitVec 32) (v84 : BitVec 32) (v107 : BitVec 32) (X_arg3 : BufTy.Contents (Elt F) arg3.view.ty) (X_arg4 : BufTy.Contents (Elt F) arg4.view.ty) (init : St F) :
    st_k0_t8 𝒱 c bd i arg2 harg2 arg3 harg3 arg4 harg4 arg5 harg5 arg6 harg6 arg1 v1 v55_0 v55_1 v57 v75 c0_i32_30 c1_i32_31 v78 v84 v107 X_arg3 X_arg4 init (k0_t8_loop i).trips = init := by
  rw [(no_trips i).2.2.2.1, st_k0_t8_zero]

theorem loop9 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v109_0 : FVec F S512x1 .f32) (v109_1 : FVec F S512x128 .f32) (v111 : BitVec 32) (v112 : BitVec 32) (c1_i32_46 : BitVec 32) (v113 : BitVec 32) (v118 : BitVec 32) (v119 : BitVec 1) (x3 x4 : Vec F S16384x128 .bf16) (init : St F)
    (h0 : init = run (v1) x3 x4 (2 * ((i 1).val / 2))) :
    st_k0_t9 𝒱 c bd i arg2 harg2 arg3 harg3 arg4 harg4 arg5 harg5 arg6 harg6 arg1 v1 v109_0 v109_1 v111 v112 c1_i32_46 v113 v118 v119 (harg3.unread x3) (harg4.unread x4) init (k0_t9_loop i).trips = run (v1) x3 x4 ((i 1).val) := by
  have key : ∀ n, n ≤ (k0_t9_loop i).trips → st_k0_t9 𝒱 c bd i arg2 harg2 arg3 harg3 arg4 harg4 arg5 harg5 arg6 harg6 arg1 v1 v109_0 v109_1 v111 v112 c1_i32_46 v113 v118 v119 (harg3.unread x3) (harg4.unread x4) init n = run (v1) x3 x4 (2 * ((i 1).val / 2) + 1 * n) := by
    intro n
    induction n with
    | zero => intro _; rw [st_k0_t9_zero, Nat.mul_zero, Nat.add_zero]; exact h0
    | succ n ih =>
      intro hn
      rw [st_k0_t9_succ 𝒱 c bd i arg2 harg2 arg3 harg3 arg4 harg4 arg5 harg5 arg6 harg6 arg1 v1 v109_0 v109_1 v111 v112 c1_i32_46 v113 v118 v119 (harg3.unread x3) (harg4.unread x4) init ⟨n, hn⟩, trip9, ih (Nat.le_of_lt hn)]
      refine (steps_run _ x3 x4 1 _ _ _ (fun r => ?_) fun r => ?_).trans (congrArg _ (by omega))
      · obtain rfl : r = 0 := Subsingleton.elim _ _
        rw [show 2 * ((i 1).val / 2) + 1 * n = 2 * ((i 1).val / 2) + n by omega]
        exact at'_blockOf arg3 harg3 x3 _ (off9 i ⟨n, hn⟩).1 _ _ (off9 i ⟨n, hn⟩).2
      · obtain rfl : r = 0 := Subsingleton.elim _ _
        rw [show 2 * ((i 1).val / 2) + 1 * n = 2 * ((i 1).val / 2) + n by omega]
        exact at'_blockOf arg4 harg4 x4 _ (off9 i ⟨n, hn⟩).1 _ _ (off9 i ⟨n, hn⟩).2
  rw [key _ le_rfl, (trips i).2.2.2.2]
  congr 1; omega

theorem loop10 (𝒱 : Variants) (c : Dev nD) (bd : Option 𝒱.V) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S512x128 .f32) (harg5 : arg5.IsWhole) (arg6 : Memref sig .tc .vmem S1x1x1x512 .f32) (harg6 : arg6.IsWhole) (arg1 : BitVec 32) (v1 : FVec F S512x128 .bf16) (v109_0 : FVec F S512x1 .f32) (v109_1 : FVec F S512x128 .f32) (v111 : BitVec 32) (v112 : BitVec 32) (c1_i32_46 : BitVec 32) (v113 : BitVec 32) (v118 : BitVec 32) (v119 : BitVec 1) (X_arg3 : BufTy.Contents (Elt F) arg3.view.ty) (X_arg4 : BufTy.Contents (Elt F) arg4.view.ty) (init : St F) :
    st_k0_t10 𝒱 c bd i arg2 harg2 arg3 harg3 arg4 harg4 arg5 harg5 arg6 harg6 arg1 v1 v109_0 v109_1 v111 v112 c1_i32_46 v113 v118 v119 X_arg3 X_arg4 init (k0_t10_loop i).trips = init := by
  rw [(no_trips i).2.2.2.2, st_k0_t10_zero]

/-- The scores of the diagonal block: a key after its query is masked. -/
def masked (s : FVec F S512x512 .f32) : FVec F S512x512 .f32 :=
  select (cmpi .sle (iota .tc S512x512 32 [1] iota_S512x512_d1_w32) (iota .tc S512x512 32 [0] iota_S512x512_d0_w32)) s
    (broadcast S512x512 (Named.named κ "mask" 0xF149F2CA#32))

/-- The state after the diagonal block, number `n`. -/
def last (q : FVec F S512x128 .bf16) (k v : Vec F S16384x128 .bf16) (n : ℕ) : St F :=
  step (masked (scores q (cast' (blockOf k n)))) (cast' (blockOf v n)) (run q k v n)

/-- The weights' sums: the lane whose values are all one. -/
def total (a : FVec F S512x128 .f32) : FVec F S512x1 .f32 := extractStridedSlice S512x1 ![0, 64] a slices_S512x128_o0_64_S512x1

/-- What the kernel stores from the state it ends with. -/
def outO (x : St F) : FVec F S512x128 .f32 := k0_pay1 x.2 (broadcastTo S512x128 (total x.2) broadcasts_S512x1_S512x128)
def outL (x : St F) : FVec F S1x1x1x512 .f32 := k0_pay2 x.1 (total x.2)

end Cert.AttnfKernelIdeal.Value
end
-- ==== Proof.AttnfOut.lean ====
/- What the forward kernel leaves at each point: the two results of the state after the diagonal block. -/
module

public import proofs.«01_k».proof.Proof.AttnfLoop

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen
open Idealize.ShloMosaic

variable {F : FTy → Type} [FloatOps F] [Named F]

theorem ld_blockOf (x : Vec F S16384x128 .bf16) (n : ℕ) (hn : n < 32) (off : Fin 2 → ℕ) (h : ∀ a, off a + S512x128.size a ≤ S16384x128.size a)
    (e : off = ![512 * n, 0]) : (View.ld x (Rect.unit (s := S16384x128) off S512x128.size h) : Vec F S512x128 .bf16) = blockOf x n := by
  subst e
  funext y
  unfold blockOf View.ld
  refine congrArg x ?_
  funext a
  fin_cases a
  · exact Fin.ext (by show 512 * n + 1 * (y 0).val = (512 * n + (y 0).val) % 16384; have : (y 0).val < 512 := (y 0).isLt; omega)
  · exact Fin.ext (by show 0 + 1 * (y 1).val = (y 1).val; omega)

section

variable (i : grid0.Coords) (x0 : Vec F S512x128 .bf16) (k v : Vec F S16384x128 .bf16) (S T : St F)

theorem diag_acc (hS : S = run (cast' x0) k v (i 1).val) (hT : T = run (cast' x0) k v (i 1).val) :
    k0_pay192 (k0_pay169 x0) S.1 T.2 (View.ld k (Rect.unit (s := S16384x128) (k0_off11 i) S512x128.size (k0_off11_inb i)))
      (View.ld v (Rect.unit (s := S16384x128) (k0_off11 i) S512x128.size (k0_off11_inb i))) = (last (cast' x0) k v (i 1).val).2 := by
  subst hS; subst hT
  rw [ld_blockOf k (i 1).val (i 1).isLt _ _ (off11 i), ld_blockOf v (i 1).val (i 1).isLt _ _ (off11 i)]
  rfl

theorem diag_top (hS : S = run (cast' x0) k v (i 1).val) :
    k0_pay191 (k0_pay169 x0) S.1 (View.ld k (Rect.unit (s := S16384x128) (k0_off11 i) S512x128.size (k0_off11_inb i))) = (last (cast' x0) k v (i 1).val).1 := by
  subst hS
  rw [ld_blockOf k (i 1).val (i 1).isLt _ _ (off11 i)]
  rfl

end

variable (m : (ℓ : Loc nD τ sig) → Buf (Elt F) ℓ)

theorem out3 (c : Dev nD) (t : Fin cfg0.N) :
    (outsAt0 m c t).1 = outO (last (cast' (iblk m c 0 t)) (iblk m c 1 t) (iblk m c 2 t) (grid0.coords t 1).val) := by
  conv_lhs => unfold outsAt0
  frame_out
  unfold outO
  refine congrArg₂ _ (diag_acc _ _ _ _ _ _ ?_ ?_) (congrArg (fun a => broadcastTo S512x128 (total a) broadcasts_S512x1_S512x128) (diag_acc _ _ _ _ _ _ ?_ ?_))
  all_goals
    refine (loop10 _ _ _ _ _ _ _ _ _ _ _ _ _ _ _ _ _ _ _ _ _ _ _ _ _ _ _).trans ?_
    refine loop9 _ _ _ _ _ _ _ _ _ _ _ _ _ _ _ _ _ _ _ _ _ _ _ _ _ _ _ ?_
    refine (loop8 _ _ _ _ _ _ _ _ _ _ _ _ _ _ _ _ _ _ _ _ _ _ _ _ _ _ _ _).trans ?_
    refine loop7 _ _ _ _ _ _ _ _ _ _ _ _ _ _ _ _ _ _ _ _ _ _ _ _ _ _ _ ?_
    refine (loop6 _ _ _ _ _ _ _ _ _ _ _ _ _ _ _ _ _ _ _ _ _ _ _ _ _ _ _).trans ?_
    refine loop5 _ _ _ _ _ _ _ _ _ _ _ _ _ _ _ _ _ _ _ _ _ _ _ _ _ _ ?_
    refine (loop4 _ _ _ _ _ _ _ _ _ _ _ _ _ _ _ _ _ _ _ _ _ _ _ _ _ _ _ _).trans ?_
    refine loop3 _ _ _ _ _ _ _ _ _ _ _ _ _ _ _ _ _ _ _ _ _ _ _ _ _ _ _ ?_
    refine (loop2 _ _ _ _ _ _ _ _ _ _ _ _ _ _ _ _ _ _ _).trans ?_
    refine loop1 _ _ _ _ _ _ _ _ _ _ _ _ _ _ _ _ _ _ ?_
    rfl

theorem out4 (c : Dev nD) (t : Fin cfg0.N) :
    (outsAt0 m c t).2 = outL (last (cast' (iblk m c 0 t)) (iblk m c 1 t) (iblk m c 2 t) (grid0.coords t 1).val) := by
  conv_lhs => unfold outsAt0
  frame_out
  unfold outL
  refine congrArg₂ _ (diag_top _ _ _ _ _ ?_) (congrArg total (diag_acc _ _ _ _ _ _ ?_ ?_))
  all_goals
    refine (loop10 _ _ _ _ _ _ _ _ _ _ _ _ _ _ _ _ _ _ _ _ _ _ _ _ _ _ _).trans ?_
    refine loop9 _ _ _ _ _ _ _ _ _ _ _ _ _ _ _ _ _ _ _ _ _ _ _ _ _ _ _ ?_
    refine (loop8 _ _ _ _ _ _ _ _ _ _ _ _ _ _ _ _ _ _ _ _ _ _ _ _ _ _ _ _).trans ?_
    refine loop7 _ _ _ _ _ _ _ _ _ _ _ _ _ _ _ _ _ _ _ _ _ _ _ _ _ _ _ ?_
    refine (loop6 _ _ _ _ _ _ _ _ _ _ _ _ _ _ _ _ _ _ _ _ _ _ _ _ _ _ _).trans ?_
    refine loop5 _ _ _ _ _ _ _ _ _ _ _ _ _ _ _ _ _ _ _ _ _ _ _ _ _ _ ?_
    refine (loop4 _ _ _ _ _ _ _ _ _ _ _ _ _ _ _ _ _ _ _ _ _ _ _ _ _ _ _ _).trans ?_
    refine loop3 _ _ _ _ _ _ _ _ _ _ _ _ _ _ _ _ _ _ _ _ _ _ _ _ _ _ _ ?_
    refine (loop2 _ _ _ _ _ _ _ _ _ _ _ _ _ _ _ _ _ _ _).trans ?_
    refine loop1 _ _ _ _ _ _ _ _ _ _ _ _ _ _ _ _ _ _ ?_
    rfl

end Cert.AttnfKernelIdeal.Value
end
-- ==== Proof.AttnfRow.lean ====
/- What a row of the running maximum and of the weighted sum means: the forward kernel's blocks over real arguments. -/
module

public import proofs.«01_k».proof.Proof.AttnfOut
public import proofs.«01_k».proof.Proof.Reals

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen Cert.Reals

theorem minf : Ideal.ofBits .f32 0xFF800000#32 = (⊥ : EReal) := by simp [Ideal.ofBits, Ideal.ieee]

theorem maskWord : Named.named (F := Ideal) (φ := .f32) κ "mask" 0xF149F2CA#32 = (⊥ : EReal) :=
  IdealRules.named_const.ideal_named_scalar _ _ _ _ rfl

theorem log2eWord : Named.named (F := Ideal) (φ := .f32) κ "log2_e" 0x3FB8AA3B#32 = (((Real.log 2)⁻¹ : ℝ) : EReal) :=
  IdealRules.named_const.ideal_named_scalar _ _ _ _ rfl

/-! ## Reading the block's arrays -/

theorem scores_at (q k : FVec Ideal S512x128 .bf16) (r b : Fin 512) : scores q k (ix2 r b) = ∑ c : Fin 128, q (ix2 r c) * k (ix2 b c) := by
  pointwise [scores]

theorem masked_at (s : FVec Ideal S512x512 .f32) (r b : Fin 512) : masked s (ix2 r b) = if b.val ≤ r.val then s (ix2 r b) else ⊥ := by
  pointwise [masked]
  have ha := r.isLt
  have hb := b.isLt
  rw [WordCmp.cmpi_sle_ofNat (by omega) (by omega), maskWord]
  by_cases h : b.val ≤ r.val <;> simp [Scalar.select, h]

theorem top_at (s : FVec Ideal S512x512 .f32) (m : FVec Ideal S512x1 .f32) (r : Fin 512) :
    top s m (ix2 r (0 : Fin 1)) = max (m (ix2 r (0 : Fin 1))) (Finset.univ.fold max (⊥ : EReal) fun b : Fin 512 => s (ix2 r b)) := by
  pointwise [top]
  rw [minf]

theorem mix_at (s : FVec Ideal S512x512 .f32) (m n : FVec Ideal S512x1 .f32) (v : FVec Ideal S512x128 .bf16) (a : FVec Ideal S512x128 .f32) (r : Fin 512) (c : Fin 128) :
    mix s m n v a (ix2 r c) = Ideal.exp2 (m (ix2 r (0 : Fin 1)) - n (ix2 r (0 : Fin 1))) * a (ix2 r c)
      + ∑ b : Fin 512, Ideal.exp2 (s (ix2 r b) - n (ix2 r (0 : Fin 1))) * v (ix2 b c) := by
  pointwise [mix]
  rfl

theorem cast'_at (x : FVec Ideal S512x128 .bf16) (r : Fin 512) (c : Fin 128) : cast' x (ix2 r c) = x (ix2 r c) := by
  pointwise [cast']

theorem total_at (a : FVec Ideal S512x128 .f32) (r : Fin 512) : total a (ix2 r (0 : Fin 1)) = a (ix2 r (64 : Fin 128)) := by
  pointwise [total]

theorem outO_at (x : St Ideal) (r : Fin 512) (c : Fin 128) : outO x (ix2 r c) = Ideal.div (x.2 (ix2 r c)) (x.2 (ix2 r (64 : Fin 128))) := by
  pointwise [outO, k0_pay1]
  rw [total_at]

theorem outL_at (x : St Ideal) (r : Fin 512) :
    outL x (ix4 (0 : Fin 1) (0 : Fin 1) (0 : Fin 1) r) = x.1 (ix2 r (0 : Fin 1)) + Ideal.log (x.2 (ix2 r (64 : Fin 128))) * (((Real.log 2)⁻¹ : ℝ) : EReal) := by
  pointwise [outL, k0_pay2]
  rw [total_at, log2eWord]

/-! ## A row -/

/-- A row's state after the keys numbered below `n`: nothing yet, or a finite reference point `M` the weights are taken against. -/
def Row (s : ℕ → ℝ) (v : ℕ → Fin 128 → ℝ) (n : ℕ) (m : EReal) (a : Fin 128 → EReal) : Prop :=
  (n = 0 ∧ m = ⊥ ∧ ∀ c, a c = 0) ∨ ∃ M : ℝ, m = (M : EReal) ∧ ∀ c, a c = ((∑ K ∈ Finset.range n, (2 : ℝ) ^ (s K - M) * v K c : ℝ) : EReal)

theorem fold_eq {ι : Type*} (t : Finset ι) (f : ι → EReal) (hf : ∀ i ∈ t, f i ≠ ⊤) (i : ι) (hi : i ∈ t) (hb : f i ≠ ⊥) :
    ∃ M : ℝ, t.fold max (⊥ : EReal) f = (M : EReal) := by
  classical
  have h1 : t.fold max (⊥ : EReal) f ≠ ⊤ := by
    clear hi
    induction t using Finset.induction_on with
    | empty => simp
    | insert j t hj ih =>
      rw [Finset.fold_insert hj]
      rcases max_choice (f j) (t.fold max ⊥ f) with h | h <;> rw [h]
      · exact hf j (Finset.mem_insert_self _ _)
      · exact ih fun k hk => hf k (Finset.mem_insert_of_mem hk)
  have h2 : t.fold max (⊥ : EReal) f ≠ ⊥ := by
    intro h
    exact hb (le_bot_iff.mp (h ▸ (Finset.le_fold_max (f i)).mpr (.inr ⟨i, hi, le_rfl⟩)))
  exact isReal_of_ne h1 h2

/-- A block's scores, `w` of whose 512 keys are seen (the first ones), carry a row on. -/
theorem row_step (s : ℕ → ℝ) (v : ℕ → Fin 128 → ℝ) (n w : ℕ) (hw : 0 < w) (hw' : w ≤ 512) (m : EReal) (a : Fin 128 → EReal) (h : Row s v n m a)
    (f : Fin 512 → EReal) (hf : ∀ b : Fin 512, f b = if b.val < w then ((s (n + b.val) : ℝ) : EReal) else ⊥) (y : Fin 512 → Fin 128 → EReal)
    (hy : ∀ (b : Fin 512) c, y b c = ((v (n + b.val) c : ℝ) : EReal)) :
    ∃ M : ℝ, max m (Finset.univ.fold max (⊥ : EReal) f) = (M : EReal)
      ∧ ∀ c, Ideal.exp2 (m - (M : EReal)) * a c + ∑ b : Fin 512, Ideal.exp2 (f b - (M : EReal)) * y b c
        = ((∑ K ∈ Finset.range (n + w), (2 : ℝ) ^ (s K - M) * v K c : ℝ) : EReal) := by
  obtain ⟨T, hT⟩ := fold_eq Finset.univ f (fun b _ => by rw [hf]; split_ifs; exacts [EReal.coe_ne_top _, bot_ne_top]) (⟨0, by norm_num⟩ : Fin 512) (Finset.mem_univ _)
    (by rw [hf, if_pos hw]; exact EReal.coe_ne_bot _)
  rw [hT]
  have new : ∀ (M : ℝ) c, ∑ b : Fin 512, Ideal.exp2 (f b - (M : EReal)) * y b c = ((∑ j ∈ Finset.range w, (2 : ℝ) ^ (s (n + j) - M) * v (n + j) c : ℝ) : EReal) := by
    intro M c
    have e : ∀ b : Fin 512, Ideal.exp2 (f b - (M : EReal)) * y b c
        = ((if b.val < w then (2 : ℝ) ^ (s (n + b.val) - M) * v (n + b.val) c else 0 : ℝ) : EReal) := by
      intro b
      rw [hf, hy]
      split_ifs
      · rw [← EReal.coe_sub, Ideal.exp2_coe, ← EReal.coe_mul]; rfl
      · rw [EReal.bot_sub, Ideal.exp2_bot, zero_mul]; rfl
    rw [Finset.sum_congr rfl fun b _ => e b, ← coe_sum]
    congr 1
    rw [Fin.sum_univ_eq_sum_range (fun j => if j < w then (2 : ℝ) ^ (s (n + j) - M) * v (n + j) c else 0) 512, ← Finset.sum_filter]
    refine Finset.sum_congr ?_ fun _ _ => rfl
    ext j
    simp only [Finset.mem_filter, Finset.mem_range]
    omega
  rcases h with ⟨rfl, rfl, ha⟩ | ⟨M0, rfl, ha⟩
  · refine ⟨T, max_eq_right bot_le, fun c => ?_⟩
    rw [ha, mul_zero, zero_add, new]
    simp only [Nat.zero_add]
  · refine ⟨max M0 T, (EReal.coe_strictMono.monotone.map_max).symm, fun c => ?_⟩
    rw [new, ha, ← EReal.coe_sub, Ideal.exp2_coe, ← EReal.coe_mul, ← EReal.coe_add]
    congr 1
    rw [Finset.sum_range_add, Finset.mul_sum]
    congr 1
    refine Finset.sum_congr rfl fun K _ => ?_
    rw [← mul_assoc]
    congr 1
    refine (Real.rpow_add (by norm_num : (0 : ℝ) < 2) _ _).symm.trans ?_
    congr 1; ring

theorem rows_at (x : Vec Ideal S16384x128 .bf16) (n : ℕ) (hn : n < 32) (r : Fin 512) (c : Fin 128) :
    blockOf x n (ix2 r c) = x (ix2 (⟨512 * n + r.val, by have := r.isLt; omega⟩ : Fin 16384) c) := by
  have := r.isLt
  unfold blockOf
  refine congrArg x (funext fun a => ?_)
  fin_cases a
  · exact Fin.ext (by show (512 * n + r.val) % 16384 = _; exact Nat.mod_eq_of_lt (by omega))
  · rfl

section

variable (q : FVec Ideal S512x128 .bf16) (k v : Vec Ideal S16384x128 .bf16) (q' : Fin 512 → Fin 128 → ℝ) (k' v' : ℕ → Fin 128 → ℝ)
  (hq : ∀ r c, q (ix2 r c) = ((q' r c : ℝ) : EReal)) (hk : ∀ (K : Fin 16384) c, k (ix2 K c) = ((k' K.val c : ℝ) : EReal))
  (hv : ∀ (K : Fin 16384) c, v (ix2 K c) = ((v' K.val c : ℝ) : EReal))
include hq hk hv

theorem scores_real (n : ℕ) (hn : n < 32) (r b : Fin 512) :
    scores q (cast' (blockOf k n)) (ix2 r b) = ((∑ c, q' r c * k' (512 * n + b.val) c : ℝ) : EReal) := by
  rw [scores_at, coe_sum]
  refine Finset.sum_congr rfl fun c _ => ?_
  rw [hq, cast'_at, rows_at k n hn, hk, EReal.coe_mul]

theorem run_row (r : Fin 512) : ∀ n, n ≤ 32 → Row (fun K => ∑ c, q' r c * k' K c) v' (512 * n) ((run q k v n).1 (ix2 r (0 : Fin 1))) fun c => (run q k v n).2 (ix2 r c)
  | 0, _ => .inl ⟨rfl, maskWord, fun c => (show Ideal.ofBits .f32 0x00000000#32 = 0 by simp [Ideal.ofBits, Ideal.ieee])⟩
  | n + 1, hn => by
    have ih := run_row r n (by omega)
    obtain ⟨M, h1, h2⟩ := row_step _ _ _ 512 (by norm_num) le_rfl _ _ ih (fun b => scores q (cast' (blockOf k n)) (ix2 r b))
      (fun b => by rw [if_pos b.isLt]; exact scores_real q k v q' k' v' hq hk hv n (by omega) r b)
      (fun b c => cast' (blockOf v n) (ix2 b c)) (fun b c => by rw [cast'_at, rows_at v n (by omega), hv])
    refine .inr ⟨M, ?_, fun c => ?_⟩
    · unfold run step; exact (top_at _ _ _).trans h1
    · unfold run step
      refine (mix_at _ _ _ _ _ _ _).trans ?_
      rw [(top_at _ _ _).trans h1]
      exact h2 c

/-- After the diagonal block a row has met the keys up to its query. -/
theorem last_row (n : ℕ) (hn : n < 32) (r : Fin 512) : ∃ M : ℝ, (last q k v n).1 (ix2 r (0 : Fin 1)) = (M : EReal) ∧ ∀ c, (last q k v n).2 (ix2 r c)
    = ((∑ K ∈ Finset.range (512 * n + r.val + 1), (2 : ℝ) ^ ((∑ c, q' r c * k' K c) - M) * v' K c : ℝ) : EReal) := by
  obtain ⟨M, h1, h2⟩ := row_step _ _ _ (r.val + 1) (by omega) r.isLt _ _ (run_row q k v q' k' v' hq hk hv r n (by omega))
    (fun b => masked (scores q (cast' (blockOf k n))) (ix2 r b))
    (fun b => by
      rw [masked_at, scores_real q k v q' k' v' hq hk hv n hn r b]
      simp only [Nat.lt_succ_iff])
    (fun b c => cast' (blockOf v n) (ix2 b c)) (fun b c => by rw [cast'_at, rows_at v n hn, hv])
  refine ⟨M, ?_, fun c => ?_⟩
  · unfold last step; exact (top_at _ _ _).trans h1
  · unfold last step
    refine (mix_at _ _ _ _ _ _ _).trans ?_
    rw [(top_at _ _ _).trans h1]
    exact h2 c

end

end Cert.AttnfKernelIdeal.Value
end
-- ==== Proof.AttnfHost.lean ====
/- The attention's forward kernel: what it is given and leaves, over the reals. -/
module

public import proofs.«01_k».proof.Proof.AttnfRow
public import proofs.«01_k».proof.Proof.AttnHost
public import proofs.«01_k».proof.Proof.AttnReal
public import Idealize.ShloMosaic.Lib.Pipeline.ValueKit

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen Cert.Reals
open Cert.AttnReferenceIdeal.Hand (Att Reads)
open Cert.AttnKernelIdeal.Hand (wide wide' qScaled wide_at wide'_at qScaled_at sum_columns log_two log_ne)

variable (m : (ℓ : Loc nD τ sig) → Buf (Elt Ideal) ℓ)

/-- The block each window of a point reads or writes: the point's query block and its head. -/
theorem idx : ∀ t : Fin cfg0.N, win0_0.index t = ![t.val % 32, t.val / 32] ∧ win0_1.index t = ![0, t.val / 32] ∧ win0_2.index t = ![0, t.val / 32]
    ∧ win0_3.index t = ![t.val % 32, t.val / 32] ∧ win0_4.index t = ![t.val / 32, t.val % 32, 0, 0] ∧ t.val / 32 < 8
    ∧ (grid0.coords t 1).val = t.val % 32 :=
  (by decide +kernel : ∀ t : Fin grid0.N, _)

abbrev kq (c : Dev nD) : FVec Ideal S16384x8x96 .f32 := m ((c : Thread nD τ).loc main_arg0)
abbrev kk (c : Dev nD) : FVec Ideal S16384x8x96 .f32 := m ((c : Thread nD τ).loc main_arg1)
abbrev kv (c : Dev nD) : FVec Ideal S16384x8x64 .f32 := m ((c : Thread nD τ).loc main_arg2)

/-- A column's remainder by 128, with the divisor's sign, is 64. -/
def isOne (a : BitVec 32) : BitVec 1 :=
  let d := Scalar.select (IntOp.cmpi .eq (128#32) (0#32)) (1#32) (128#32)
  let r := IntOp.remsi .host a d
  IntOp.cmpi .eq (Scalar.select (IntOp.andi (IntOp.cmpi .ne (IntOp.cmpi .slt r 0#32) (IntOp.cmpi .slt d 0#32)) (IntOp.cmpi .ne r 0#32)) (IntOp.addi r d) r) 64#32

theorem isOne_at : ∀ b : Fin 1024, isOne (BitVec.ofNat 32 b.val) = BitVec.ofBool (decide (b.val % 128 = 64)) := by decide +kernel

/-- The columns of the number one among the values' columns. -/
def ones : Vec Ideal S16384x1024 .i1 :=
  let d : Vec Ideal S_ .i32 := constantI S_ 32 128#32
  let d' := select (cmpi .eq (id d) (constantI S_ 32 0#32)) (constantI S_ 32 1#32) (id d)
  let x : Vec Ideal S16384x1024 .i32 := iotaInDim S16384x1024 32 1
  let w (y : Vec Ideal S_ .i32) : Vec Ideal S16384x1024 .i32 := broadcastInDim S16384x1024 ![] bcast_S_S16384x1024 y
  let r := Host.remsi x (w d')
  let f := andi (cmpi .ne (cmpi .slt r (w (constantI S_ 32 0#32))) (broadcastInDim S16384x1024 ![] bcast_S_S16384x1024 (cmpi .slt d' (constantI S_ 32 0#32)))) (cmpi .ne r (w (constantI S_ 32 0#32)))
  cmpi .eq (select f (addi r (w d')) r) (w (constantI S_ 32 64#32))

/-- The values with a column of ones in every head. -/
def counted (x : FVec Ideal S16384x8x64 .f32) : FVec Ideal S16384x1024 .bf16 :=
  truncf .bf16 (select ones (broadcastInDim S16384x1024 ![] bcast_S_S16384x1024 (id (constant S_ .f32 0x3F800000#32))) (wide' x)) bitsLt_bf16_f32

theorem q_arr (c : Dev nD) : V m c main_v6 = qScaled (kq m c) := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.ofBuf, StableHlo.TRef.toBuf, cast_eq]
  rfl

theorem k_arr (c : Dev nD) : V m c main_v17 = truncf .bf16 (wide (kk m c)) bitsLt_bf16_f32 := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.ofBuf, StableHlo.TRef.toBuf, cast_eq]
  rfl

theorem v_arr (c : Dev nD) : V m c main_v14 = counted (kv m c) := by
  simp only [V, V0, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf, StableHlo.TRef.ofBuf, StableHlo.TRef.toBuf, cast_eq]
  rfl

theorem ones_at (Q : Fin 16384) (b : Fin 1024) : ones (ix2 Q b) = BitVec.ofBool (decide (b.val % 128 = 64)) :=
  (rfl : ones (ix2 Q b) = isOne (BitVec.ofNat 32 b.val)).trans (isOne_at b)

theorem one_word : (Ideal.ofBits .f32 0x3F800000#32 : EReal) = ((1 : ℝ) : EReal) := by
  simp [Ideal.ofBits, Ideal.ieee, -EReal.coe_mul]
  norm_num

theorem counted_at (x : FVec Ideal S16384x8x64 .f32) (Q : Fin 16384) (b : Fin 1024) :
    counted x (ix2 Q b) = if b.val % 128 = 64 then ((1 : ℝ) : EReal) else wide' x (ix2 Q b) := by
  have e : counted x (ix2 Q b) = Scalar.select (ones (ix2 Q b)) (Ideal.ofBits .f32 0x3F800000#32) (wide' x (ix2 Q b)) := rfl
  rw [e, ones_at, one_word]
  by_cases h : b.val % 128 = 64 <;> simp [Scalar.select, h]

end Cert.AttnfKernelIdeal.Value
end
-- ==== Proof.AttnfReal.lean ====
/- The attention's forward kernel over the whole array: outputs and the rows' logarithms of the sums. -/
module

public import proofs.«01_k».proof.Proof.AttnfHost

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen Cert.Reals
open Cert.AttnReferenceIdeal.Hand (Att Reads)
open Cert.AttnKernelIdeal.Hand (wide wide' qScaled wide_at wide'_at qScaled_at sum_columns log_two log_ne headOf headOf_score onHeads onHeads_at)

/-- A head's values with the column of ones. -/
def vals (x : Att) (K : ℕ) (a : Fin 128) : ℝ := if a.val = 64 then 1 else (headOf x).v K a

/-- A row's weighted sum over its total. -/
def outRow (x : Att) (r : ℕ) (a : Fin 128) : ℝ := if h : r < 16384 then (∑ K : Fin 16384, x.e ⟨r, h⟩ K * vals x K.val a) * (1 / x.l ⟨r, h⟩) else 0

/-- A row's logarithm of its total in base two. -/
def logRow (x : Att) (r : ℕ) : ℝ := if h : r < 16384 then (x.t ⟨r, h⟩ + Real.log (x.l ⟨r, h⟩)) * (1 / Real.log 2) else 0

section
variable (x : Att)

theorem weight (Q K : Fin 16384) (M : ℝ) : (2 : ℝ) ^ ((∑ c, (headOf x).q Q.val c * (headOf x).k K.val c) - M)
    = Real.exp (x.t Q - M * Real.log 2) * Real.exp (x.s Q K - x.t Q) := by
  rw [Finset.sum_congr rfl fun c _ => mul_comm ((headOf x).q Q.val c) ((headOf x).k K.val c), headOf_score, Real.rpow_def_of_pos (by norm_num), ← Real.exp_add]
  congr 1
  have := log_ne
  field_simp
  ring

theorem sum_seen (Q : Fin 16384) (M : ℝ) (v : ℕ → ℝ) :
    ∑ K ∈ Finset.range (Q.val + 1), (2 : ℝ) ^ ((∑ c, (headOf x).q Q.val c * (headOf x).k K c) - M) * v K
      = Real.exp (x.t Q - M * Real.log 2) * ∑ K : Fin 16384, x.e Q K * v K.val := by
  have h1 := Fin.sum_univ_eq_sum_range (fun K => if K ≤ Q.val then (2 : ℝ) ^ ((∑ c, (headOf x).q Q.val c * (headOf x).k K c) - M) * v K else 0) 16384
  have h2 : Finset.range (Q.val + 1) = (Finset.range 16384).filter (fun K => K ≤ Q.val) := by
    have := Q.isLt
    ext K
    simp only [Finset.mem_filter, Finset.mem_range]
    omega
  rw [h2, Finset.sum_filter, ← h1, Finset.mul_sum]
  refine Finset.sum_congr rfl fun K _ => ?_
  unfold Att.e
  split_ifs
  · rw [weight]; ring
  · ring

theorem sum_one (Q : Fin 16384) : ∑ K : Fin 16384, x.e Q K * vals x K.val (64 : Fin 128) = x.l Q := by
  refine Finset.sum_congr rfl fun K _ => ?_
  show x.e Q K * (if (64 : ℕ) = 64 then 1 else (headOf x).v K.val 64) = x.e Q K
  rw [if_pos rfl, mul_one]

/-- A state that has met a row's keys gives the row's output, -/
theorem outO_row (Q : Fin 16384) (s : St Ideal) (r : Fin 512) (M : ℝ) (hs : ∀ c, s.2 (ix2 r c)
      = ((∑ K ∈ Finset.range (Q.val + 1), (2 : ℝ) ^ ((∑ c, (headOf x).q Q.val c * (headOf x).k K c) - M) * vals x K c : ℝ) : EReal)) (c : Fin 128) :
    outO s (ix2 r c) = ((outRow x Q.val c : ℝ) : EReal) := by
  have w := Real.exp_ne_zero (x.t Q - M * Real.log 2)
  have l := (x.l_pos Q).ne'
  rw [outO_at, hs, hs, sum_seen x Q M fun K => vals x K c, sum_seen x Q M fun K => vals x K 64, sum_one, Ideal.div_coe (mul_ne_zero w l), ← EReal.coe_mul]
  congr 1
  simp only [outRow, Q.isLt, dif_pos, Fin.eta]
  field_simp

/-- and its logarithm. -/
theorem outL_row (Q : Fin 16384) (s : St Ideal) (r : Fin 512) (M : ℝ) (hm : s.1 (ix2 r (0 : Fin 1)) = (M : EReal)) (hs : ∀ c, s.2 (ix2 r c)
      = ((∑ K ∈ Finset.range (Q.val + 1), (2 : ℝ) ^ ((∑ c, (headOf x).q Q.val c * (headOf x).k K c) - M) * vals x K c : ℝ) : EReal)) :
    outL s (ix4 (0 : Fin 1) (0 : Fin 1) (0 : Fin 1) r) = ((logRow x Q.val : ℝ) : EReal) := by
  have w := Real.exp_pos (x.t Q - M * Real.log 2)
  have l := x.l_pos Q
  have p := mul_pos w l
  rw [outL_at, hs, hm, sum_seen x Q M fun K => vals x K 64, sum_one, Ideal.log_coe, if_neg p.not_ge, ← EReal.coe_mul, ← EReal.coe_add]
  congr 1
  simp only [logRow, Q.isLt, dif_pos, Fin.eta]
  rw [Real.log_mul w.ne' l.ne', Real.log_exp]
  have := log_ne
  field_simp
  ring

end

variable (m : (ℓ : Loc nD τ sig) → Buf (Elt Ideal) ℓ)

/-- A point's head. -/
abbrev headAt (t : Fin cfg0.N) : Fin 8 := ⟨t.val / 32, (idx t).2.2.2.2.2.1⟩

section
variable {m} {c : Dev nD} {x : Fin 8 → Att} (H : ∀ h, Reads (x h) h (kq m c) (kk m c) (kv m c) (kv m c))
include H

theorem block_q (t : Fin cfg0.N) (r : Fin 512) (a : Fin 128) : (iblk m c 0 t : FVec Ideal S512x128 .bf16) (ix2 r a) = (((headOf (x (headAt t))).q (512 * (t.val % 32) + r.val) a : ℝ) : EReal) := by
  have hr := r.isLt
  have ha := a.isLt
  have ht : t.val / 32 < 8 := (headAt t).isLt
  have lt : t.val / 32 * 128 + a.val < 1024 := by omega
  have row : 512 * (t.val % 32) + r.val < 16384 := by omega
  blk_simp [iblk]
  have e : (win0_0.blk t).view.emb (ix2 r a) = ix2 (⟨512 * (t.val % 32) + r.val, row⟩ : Fin 16384) (⟨t.val / 32 * 128 + a.val, lt⟩ : Fin 1024) := by blk_ext [idx t]
  rw [e, q_arr]
  refine (qScaled_at _ _ _).trans ?_
  rw [wide_at _ _ (headAt t) a _ rfl, log_two, (H (headAt t)).hc, Ideal.div_coe log_ne]
  by_cases e : a.val < 96
  · simp only [headOf, row, e, dif_pos]
    rw [(H _).hq]
    simp only [EReal.coe_mul]
  · simp only [headOf, row, e, dif_pos, dif_neg, not_false_iff]
    simp

theorem block_k (t : Fin cfg0.N) (K : Fin 16384) (a : Fin 128) : (iblk m c 1 t : Vec Ideal S16384x128 .bf16) (ix2 K a) = (((headOf (x (headAt t))).k K.val a : ℝ) : EReal) := by
  have hr := K.isLt
  have ha := a.isLt
  have ht : t.val / 32 < 8 := (headAt t).isLt
  have lt : t.val / 32 * 128 + a.val < 1024 := by omega
  blk_simp [iblk]
  have e : (win0_1.blk t).view.emb (ix2 K a) = ix2 K (⟨t.val / 32 * 128 + a.val, lt⟩ : Fin 1024) := by blk_ext [idx t]
  rw [e, k_arr]
  refine (wide_at _ _ (headAt t) a _ rfl).trans ?_
  by_cases e : a.val < 96
  · simp only [headOf, hr, e, dif_pos]
    exact (H _).hk _ _
  · simp only [headOf, hr, e, dif_pos, dif_neg, not_false_iff]
    rfl

theorem block_v (t : Fin cfg0.N) (K : Fin 16384) (a : Fin 128) : (iblk m c 2 t : Vec Ideal S16384x128 .bf16) (ix2 K a) = ((vals (x (headAt t)) K.val a : ℝ) : EReal) := by
  have hr := K.isLt
  have ha := a.isLt
  have ht : t.val / 32 < 8 := (headAt t).isLt
  have lt : t.val / 32 * 128 + a.val < 1024 := by omega
  blk_simp [iblk]
  have e : (win0_2.blk t).view.emb (ix2 K a) = ix2 K (⟨t.val / 32 * 128 + a.val, lt⟩ : Fin 1024) := by blk_ext [idx t]
  rw [e, v_arr]
  refine (counted_at _ _ _).trans ?_
  have e1 : (t.val / 32 * 128 + a.val) % 128 = a.val := by omega
  show (if (t.val / 32 * 128 + a.val) % 128 = 64 then _ else _) = _
  rw [e1]
  unfold vals
  by_cases e2 : a.val = 64
  · rw [if_pos e2, if_pos e2]
  · rw [if_neg e2, if_neg e2]
    refine (wide'_at _ _ (headAt t) a _ rfl).trans ?_
    by_cases e : a.val < 64
    · simp only [headOf, hr, e, dif_pos]
      exact (H _).hv _ _
    · simp only [headOf, hr, e, dif_pos, dif_neg, not_false_iff]
      rfl

/-- What a point's rows have met. -/
theorem met (t : Fin cfg0.N) (r : Fin 512) : ∃ M : ℝ,
    (last (cast' (iblk m c 0 t)) (iblk m c 1 t) (iblk m c 2 t) (grid0.coords t 1).val).1 (ix2 r (0 : Fin 1)) = (M : EReal)
    ∧ ∀ a, (last (cast' (iblk m c 0 t)) (iblk m c 1 t) (iblk m c 2 t) (grid0.coords t 1).val).2 (ix2 r a)
      = ((∑ K ∈ Finset.range (512 * (t.val % 32) + r.val + 1), (2 : ℝ) ^ ((∑ c, (headOf (x (headAt t))).q (512 * (t.val % 32) + r.val) c * (headOf (x (headAt t))).k K c) - M)
        * vals (x (headAt t)) K a : ℝ) : EReal) := by
  rw [(idx t).2.2.2.2.2.2]
  exact last_row (cast' (iblk m c 0 t)) (iblk m c 1 t) (iblk m c 2 t) (fun r a => (headOf (x (headAt t))).q (512 * (t.val % 32) + r.val) a) (headOf (x (headAt t))).k
    (vals (x (headAt t))) (fun r a => (cast'_at _ r a).trans (block_q H t r a)) (block_k H t) (block_v H t) (t.val % 32) (Nat.mod_lt _ (by norm_num)) r

theorem final3 : (dats m 0 c).arrAt 3 (cfgs 0).N = (fun i => ((onHeads outRow x (i 0).val (i 1).val : ℝ) : EReal) : FVec Ideal S16384x1024 .f32) := by
  refine (dats m 0 c).arrAt_eq_of_covers 3 _ (by decide +kernel) fun t hf y => ?_
  blk_simp [idx t]
  rw [after0_3]
  have h8 : t.val / 32 < 8 := (headAt t).isLt
  have hr : (y 0).val < 512 := (y 0).isLt
  have row : 512 * (t.val % 32) + (y 0).val < 16384 := by omega
  rw [onHeads_at outRow x _ (headAt t) (y 1) _ rfl, Nat.mul_comm _ 512, out3]
  obtain ⟨M, h1, h2⟩ := met H t (y 0)
  exact Eq.trans (congrArg _ (eq_ix2 y)) (outO_row (x (headAt t)) ⟨512 * (t.val % 32) + (y 0).val, row⟩ _ (y 0) M h2 (y 1))

theorem final4 : (dats m 0 c).arrAt 4 (cfgs 0).N = (fun i => ((logRow (x (i 0)) (512 * (i 1).val + (i 3).val) : ℝ) : EReal) : FVec Ideal S8x32x1x512 .f32) := by
  refine (dats m 0 c).arrAt_eq_of_covers 4 _ (by decide +kernel) fun t hf y => ?_
  have h8 : t.val / 32 < 8 := (headAt t).isLt
  have hr : (y 3).val < 512 := (y 3).isLt
  have row : 512 * (t.val % 32) + (y 3).val < 16384 := by omega
  have e : ((cfg0.win 4).blk t).view.emb y = ix4 (headAt t) (⟨t.val % 32, Nat.mod_lt _ (by norm_num)⟩ : Fin 32) (0 : Fin 1) (y 3) := by blk_ext [idx t]
  rw [e]
  blk_simp
  rw [after0_4, out4]
  obtain ⟨M, h1, h2⟩ := met H t (y 3)
  have e4 : y = ix4 (0 : Fin 1) (0 : Fin 1) (0 : Fin 1) (y 3) := (eq_ix4 y).trans (by congr 1 <;> exact Subsingleton.elim _ _)
  exact Eq.trans (congrArg _ e4) (outL_row (x (headAt t)) ⟨512 * (t.val % 32) + (y 3).val, row⟩ _ (y 3) M h1 h2)

end

end Cert.AttnfKernelIdeal.Value
end
-- ==== Proof.Attnf.lean ====
/- The attention's forward kernel against the plain attention: outputs and logarithms of the rows' sums. -/
module

public import proofs.«01_k».proof.Defs
public import proofs.«01_k».proof.Proof.AttnfReal
public import proofs.«01_k».proof.Proof.AttnTail
public import proofs.«01_k».proof.Proof.Gen.AttnfReferenceIdeal.Run
public import proofs.«01_k».proof.Proof.Gen.Pre_attnf_finite
public import Idealize.ShloMosaic.Lib.Claim

@[expose] public section

set_option maxRecDepth 200000

noncomputable section

namespace Cert.AttnfKernelIdeal.Value

open Idealize.ShloMosaic Idealize.ShloMosaic.TcCoe Idealize.SL.Sem
open Idealize.ShloMosaic.Pipeline (Dat)
open Cert.AttnfKernelIdeal Cert.AttnfKernelIdeal.Gen Cert.Reals
open Cert.AttnReferenceIdeal.Hand (Att Reads exists_head sc E L probs probs_eq top_eq ex total_eq)
open Cert.AttnKernelIdeal.Hand (sum_columns log_two log_ne headOf onHeads onHeads_at lseOf lseOf_at cut64 cut64_at)

variable (m : (ℓ : Loc nD τ sig) → Buf (Elt Ideal) ℓ) (c : Dev nD)

theorem tail_o (W : Valuation τ sig (Elt Ideal)) : StableHlo.after (List.flatten [hostOps1 (F := Ideal)]) W (Proc.devRef .tc main_v20) = cut64 (W (Proc.devRef .tc main_v18_0)) := by
  simp only [hostOps1, List.flatten_cons, List.flatten_nil, List.append_nil, List.cons_append, List.nil_append]
  after_results
  try simp only [StableHlo.TRef.ofBuf_toBuf, StableHlo.TRef.ofBuf, StableHlo.TRef.toBuf, cast_eq]
  rfl

theorem left_o : Pipeline.afterTail₀ cfgs (dats m) 0 (V0 m) [hostOps1] c main_v20 = cut64 ((dats m 0 c).arrAt 3 (cfgs 0).N) :=
  (tail_o _).trans (congrArg cut64 (Pipeline.withArrays_arr (cfgs 0).spec launch0.win.arr_inj c (V0 m c) (fun w => (dats m 0 c).arrAt w (cfgs 0).N) 3))

omit c in
/-- The run: what the results hold, the arguments as they began. -/
theorem result (ρ : Dev nD → PrngReg) : θ_run defs (onTc (τ := τ) (main (F := Ideal))) ⟨m, fun _ => 0, ρ⟩ (fun r => ∀ c : Dev nD,
      r.2.mem ((c.tc : Thread nD τ).loc main_v20) = cut64 ((dats m 0 c).arrAt 3 (cfgs 0).N)
      ∧ r.2.mem ((c.tc : Thread nD τ).loc main_v18_1) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v20 (Pipeline.mem_restRefs_of main_v20 (by decide) (by decide))).trans (left_o m c), (h.1 c).1 4, h.2 c⟩)
    (θ_run_and (run_main m ρ) (unchanged m ρ))

/-- The plain attention's output. -/
def outA (q k : FVec Ideal S16384x8x96 .f32) (v : FVec Ideal S16384x8x64 .f32) : FVec Ideal S16384x8x64 .f32 :=
  transpose S16384x8x64 [2, 0, 1] (Host.dotGeneral (F := Ideal) (φ₁ := .f32) (φ₂ := .f32) Cert.AttnfReferenceIdeal.dot_S16384x8x64_S8x16384x16384_S8x64x16384_0_2_2_1_1_0 none v (probs (E q k) (L q k)))
    Cert.AttnfReferenceIdeal.Gen.transposes_S8x64x16384_S16384x8x64_2_0_1

theorem outA_at (q k : FVec Ideal S16384x8x96 .f32) (v : FVec Ideal S16384x8x64 .f32) (Q : Fin 16384) (h : Fin 8) (a : Fin 64) :
    outA q k v (ix3 Q h a) = ∑ K : Fin 16384, v (ix3 K h a) * probs (E q k) (L q k) (ix3 h Q K) := by
  pointwise [outA]

/-- Its rows' logarithms of the sums in base two. -/
def logA (q k : FVec Ideal S16384x8x96 .f32) : FVec Ideal S8x32x1x512 .f32 := lseOf (Cert.AttnReferenceIdeal.Hand.top (sc q k)) (Cert.AttnReferenceIdeal.Hand.total (ex (sc q k) (Cert.AttnReferenceIdeal.Hand.top (sc q k))))

/-- Finite arrays hold real heads. -/
theorem heads (hq : ∀ i, IsReal (kq m c i)) (hk : ∀ i, IsReal (kk m c i)) (hv : ∀ i, IsReal (kv m c i)) :
    ∃ x : Fin 8 → Att, ∀ h, Reads (x h) h (kq m c) (kk m c) (kv m c) (kv m c) :=
  ⟨fun h => (exists_head _ _ _ _ hq hk hv hv h).choose, fun h => (exists_head _ _ _ _ hq hk hv hv h).choose_spec⟩

section
variable {m} {c} {x : Fin 8 → Att} (H : ∀ h, Reads (x h) h (kq m c) (kk m c) (kv m c) (kv m c))
include H

theorem same_o : cut64 ((dats m 0 c).arrAt 3 (cfgs 0).N) = outA (kq m c) (kk m c) (kv m c) := by
  funext i
  obtain ⟨r, h, a, rfl⟩ : ∃ (r : Fin 16384) (h : Fin 8) (a : Fin 64), i = ix3 r h a := ⟨i 0, i 1, i 2, eq_ix3 i⟩
  have h2 := h.isLt
  have h3 := a.isLt
  have hp : ∀ K, probs (E (kq m c) (kk m c)) (L (kq m c) (kk m c)) (ix3 h r K) = (((x h).p r K : ℝ) : EReal) := probs_eq (H h) _ (top_eq (H h)) r
  rw [cut64_at _ r h a ⟨h.val * 128 + a.val, by omega⟩ rfl, final3 H, outA_at]
  show ((onHeads outRow x r.val (h.val * 128 + a.val) : ℝ) : EReal) = _
  rw [onHeads_at outRow x r.val h ⟨a.val, by omega⟩ _ rfl]
  simp only [hp, (H h).hv, ← EReal.coe_mul, ← coe_sum]
  congr 1
  simp only [outRow, r.isLt, dif_pos, Fin.eta]
  rw [Finset.sum_mul]
  refine Finset.sum_congr rfl fun K _ => ?_
  have hv : vals (x h) K.val ⟨a.val, by omega⟩ = (x h).v K a := by
    unfold vals
    rw [if_neg (by show ¬ a.val = 64; omega)]
    simp only [headOf, K.isLt, h3, dif_pos, Fin.eta]
  rw [hv]
  unfold Att.p
  ring

theorem same_l : (dats m 0 c).arrAt 4 (cfgs 0).N = logA (kq m c) (kk m c) := by
  rw [final4 H]
  funext i
  obtain ⟨h, n, r, rfl⟩ : ∃ (h : Fin 8) (n : Fin 32) (r : Fin 512), i = ix4 h n (0 : Fin 1) r := ⟨i 0, i 1, i 3, (eq_ix4 i).trans (by congr 1; exact Subsingleton.elim _ _)⟩
  have h2 := n.isLt
  have h3 := r.isLt
  have lt : 512 * n.val + r.val < 16384 := by omega
  unfold logA
  rw [lseOf_at _ _ h n r ⟨512 * n.val + r.val, lt⟩ rfl, (H h).ht, total_eq (H h) _ (H h).ht, log_two, Ideal.div_coe log_ne, Ideal.log_coe, if_neg ((x h).l_pos _).not_ge,
    ← EReal.coe_add, ← EReal.coe_mul]
  show ((logRow (x h) (512 * n.val + r.val) : ℝ) : EReal) = _
  simp only [logRow, lt, dif_pos]

end

end Cert.AttnfKernelIdeal.Value

namespace Cert.Proof

open Idealize.ShloMosaic Idealize.ShloMosaic.TcCoe Idealize.SL.Sem
open Idealize.ShloMosaic.Pipeline (Dat)
open Cert.Reals Cert.AttnfKernelIdeal.Value

theorem attnf_reference_frame : Cert.quiescent_AttnfReferenceIdeal := fun m ρ _ =>
  (θ_run Cert.AttnfReferenceIdeal.defs _ _).mono (fun r h => ⟨fun c => (h c).2.2, sem_eq_zero_of_no_sems (by decide) r.2⟩)
    (Cert.AttnfReferenceIdeal.Value.run (F := Ideal) m ρ)

theorem attnf_preserves : Cert.preserves_AttnfKernel_AttnfKernelIdeal :=
  ⟨IdealRules.named_const.statement Cert.AttnfKernelIdeal.κ "mask" .f32 0xF149F2CA#32 _ rfl,
    IdealRules.named_const.statement Cert.AttnfKernelIdeal.κ "log2_e" .f32 0x3FB8AA3B#32 _ rfl⟩

set_option maxHeartbeats 2000000 in
theorem attnf_algebraic : Cert.algebraic_AttnfKernelIdeal_AttnfReferenceIdeal_pre_attnf_finite := by
  pair_intro
  · run_from Cert.AttnfKernelIdeal.Value.result m g
  · run_from Cert.AttnfReferenceIdeal.Value.run m' g'
    all_goals
      obtain ⟨eq, ek, ev⟩ := hagree c
      obtain ⟨x, H⟩ := heads m c (fun i => isReal_of_abs_lt (congrFun (hpre c).1 i)) (fun i => isReal_of_abs_lt (congrFun (hpre c).2.1 i))
        (fun i => isReal_of_abs_lt (congrFun (hpre c).2.2 i))
    · refine Eq.trans ?_ (same_o H).symm
      refine (rfl : _ = outA _ _ _).trans ?_
      exact congr (congr (congrArg outA eq) ek) ev
    · refine Eq.trans ?_ (same_l H).symm
      rfl

end Cert.Proof
end
-- ==== Proof.Rows.lean ====
/- Real laws of one row: the scale of a root-mean-square norm and its gradient, a row's softmax, and the constants in them. -/
module

public import Idealize.ShloMosaic.PureOps.Ideal
public import Idealize.ShloMosaic.Lib.IdealHost
public import Idealize.ShloMosaic.Lib.Pointwise
public import proofs.«01_k».proof.Proof.Reals

@[expose] public section

noncomputable section

namespace Cert.Rows

open Idealize.ShloMosaic Cert.Reals

/-- The norm's small constant, exactly the rational its f32 pattern denotes. -/
def eps : ℝ := 8796093 / 2 ^ 43

theorem ofBits_eps : Ideal.ofBits .f32 0x358637BD#32 = (eps : EReal) := by
  simp [Ideal.ofBits, Ideal.ieee, -EReal.coe_mul, eps]; norm_num

theorem ofBits_1024 : Ideal.ofBits .f32 0x44800000#32 = ((1024 : ℝ) : EReal) := by
  simp [Ideal.ofBits, Ideal.ieee, -EReal.coe_mul]; norm_num

theorem ofBits_16th : Ideal.ofBits .f32 0x3D800000#32 = ((1 / 16 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_bot : Ideal.ofBits .f32 0xFF800000#32 = ⊥ := by simp [Ideal.ofBits, Ideal.ieee]

/-- A row's mean square with the small constant. -/
def ms (x : Fin 1024 → ℝ) : ℝ := (∑ a, x a * x a) / 1024 + eps

theorem ms_pos (x : Fin 1024 → ℝ) : 0 < ms x := by
  have h : 0 ≤ ∑ a, x a * x a := Finset.sum_nonneg fun a _ => mul_self_nonneg (x a)
  have e : (0 : ℝ) < eps := by unfold eps; norm_num
  unfold ms; positivity

/-- A row's scale: one over the root of its mean square. -/
def scale (x : Fin 1024 → ℝ) : ℝ := (Real.sqrt (ms x))⁻¹

theorem div_1024 (x : ℝ) : Ideal.div (x : EReal) (Ideal.ofBits .f32 0x44800000#32) = ((x / 1024 : ℝ) : EReal) := by
  rw [ofBits_1024, Ideal.div_coe (by norm_num), ← EReal.coe_mul]; congr 1; ring

theorem ms_eq (x : Fin 1024 → ℝ) : Ideal.div (∑ a, (x a : EReal) * (x a : EReal)) (Ideal.ofBits .f32 0x44800000#32) + Ideal.ofBits .f32 0x358637BD#32 = (ms x : EReal) := by
  simp only [← EReal.coe_mul, ← coe_sum, div_1024, ofBits_eps, ← EReal.coe_add, ms]

theorem rsqrt_pos {y : ℝ} (h : 0 < y) : Ideal.rsqrt (y : EReal) = (((Real.sqrt y)⁻¹ : ℝ) : EReal) := by
  rw [Ideal.rsqrt_coe, if_neg (not_lt.mpr h.le), if_neg h.ne']

theorem scale_eq (x : Fin 1024 → ℝ) : Ideal.rsqrt (ms x : EReal) = (scale x : EReal) := rsqrt_pos (ms_pos x)

theorem scale_div_ms (x : Fin 1024 → ℝ) : Ideal.div (scale x : EReal) (ms x : EReal) = ((scale x * scale x * scale x : ℝ) : EReal) := by
  rw [Ideal.div_coe (ms_pos x).ne', ← EReal.coe_mul]; congr 1
  have h : scale x * scale x = 1 / ms x := by
    unfold scale; rw [← mul_inv, Real.mul_self_sqrt (ms_pos x).le, one_div]
  rw [mul_assoc, ← h]

/-- The gradient of a scaled row: what comes back through the row itself and through its scale. -/
def back (x g : Fin 1024 → ℝ) (a : Fin 1024) : ℝ := scale x * (g a - x a * scale x * ((∑ b, g b * (x b * scale x)) / 1024))

/-- The same gradient as the derivative of the staged norm writes it. -/
theorem back_staged (x g : Fin 1024 → ℝ) (a : Fin 1024) (d : ℝ) :
    d + g a * scale x + x a * ((∑ b, x b * g b) * (-(1 / 2) * (scale x * scale x * scale x)) / 1024) + (∑ b, x b * g b) * (-(1 / 2) * (scale x * scale x * scale x)) / 1024 * x a
      = d + back x g a := by
  unfold back
  have h : (∑ b, g b * (x b * scale x)) = scale x * ∑ b, x b * g b := by
    rw [Finset.mul_sum]; exact Finset.sum_congr rfl fun b _ => by ring
  rw [h]; ring

/-- A row's softmax weights. -/
def soft {n : ℕ} (s : Fin n → ℝ) (j : Fin n) : ℝ := Real.exp (s j) / ∑ k, Real.exp (s k)

theorem fold_top {n : ℕ} (hn : 0 < n) (s : Fin n → ℝ) : ∃ M : ℝ, Finset.univ.fold max (⊥ : EReal) (fun j => (s j : EReal)) = (M : EReal) := by
  have h : ∀ t : Finset (Fin n), t.Nonempty → IsReal (t.fold max (⊥ : EReal) fun j => (s j : EReal)) := by
    classical
    intro t ht
    induction ht using Finset.Nonempty.cons_induction with
    | singleton a => rw [Finset.fold_singleton, max_eq_left bot_le]; exact .coe _
    | cons a t ha ht ih =>
      rw [Finset.fold_cons]
      rcases max_choice ((s a : ℝ) : EReal) (t.fold max ⊥ fun j => (s j : EReal)) with e | e <;> rw [e]
      · exact .coe _
      · exact ih
  exact h _ ⟨⟨0, hn⟩, Finset.mem_univ _⟩

/-- A row's exponentials less its maximum: some positive multiple of the plain exponentials. -/
theorem exps {n : ℕ} (hn : 0 < n) (s : Fin n → ℝ) : ∃ C : ℝ, 0 < C ∧ ∀ j, Ideal.exp ((s j : EReal) - Finset.univ.fold max (⊥ : EReal) fun j => (s j : EReal)) = ((Real.exp (s j) * C : ℝ) : EReal) := by
  obtain ⟨M, hM⟩ := fold_top hn s
  refine ⟨Real.exp (-M), Real.exp_pos _, fun j => ?_⟩
  rw [hM, ← EReal.coe_sub, Ideal.exp_coe, sub_eq_add_neg, Real.exp_add]

theorem sum_exp_pos {n : ℕ} (hn : 0 < n) (s : Fin n → ℝ) : 0 < ∑ k, Real.exp (s k) :=
  Finset.sum_pos (fun k _ => Real.exp_pos _) ⟨⟨0, hn⟩, Finset.mem_univ _⟩

/-- The stable softmax is the plain one. -/
theorem soft_eq {n : ℕ} (hn : 0 < n) (s : Fin n → ℝ) (j : Fin n) :
    Ideal.div (Ideal.exp ((s j : EReal) - Finset.univ.fold max (⊥ : EReal) fun j => (s j : EReal)))
      (∑ k, Ideal.exp ((s k : EReal) - Finset.univ.fold max (⊥ : EReal) fun j => (s j : EReal))) = (soft s j : EReal) := by
  obtain ⟨C, hC, h⟩ := exps hn s
  have hp := sum_exp_pos hn s
  simp only [h, ← coe_sum, ← Finset.sum_mul]
  rw [Ideal.div_coe (mul_pos hp hC).ne', ← EReal.coe_mul]; congr 1
  unfold soft; field_simp

end Cert.Rows
end
-- ==== Proof.XattnBody.lean ====
/- One row of the memory attention's backward in real numbers, and the kernel's payloads: whenever a block's entries are the reals of this specification, so is what each payload computes. The four heads are four column tiles of the same arithmetic. -/
module

public import proofs.«01_k».proof.Defs
public import proofs.«01_k».proof.Proof.Rows
public import proofs.«01_k».proof.Proof.Gen.XattnKernelIdeal.Frame
public import Idealize.ShloMosaic.Lib.Pipeline.ValueKit
public import Idealize.ShloMosaic.Lib.Pointwise
public import Idealize.ShloMosaic.Lib.Claim

@[expose] public section

set_option maxRecDepth 200000

noncomputable section

namespace Cert.XattnKernelIdeal.Value

open Idealize.ShloMosaic Idealize.ShloMosaic.TcCoe Idealize.SL.Sem
open Idealize.ShloMosaic.Pipeline (Dat)
open Cert.XattnKernelIdeal Cert.XattnKernelIdeal.Gen Cert.Rows Cert.Reals

/-- Column `c` of head `h`. -/
def col (h : Fin 4) (c : Fin 256) : Fin 1024 := ⟨256 * h.val + c.val, by omega⟩

theorem col_zero (c : Fin 256) (hc) : (⟨c.val, hc⟩ : Fin 1024) = col 0 c := Fin.ext (by simp [col])
theorem col_one (c : Fin 256) (hc) : (⟨256 + c.val, hc⟩ : Fin 1024) = col 1 c := rfl
theorem col_two (c : Fin 256) (hc) : (⟨512 + c.val, hc⟩ : Fin 1024) = col 2 c := rfl
theorem col_three (c : Fin 256) (hc) : (⟨768 + c.val, hc⟩ : Fin 1024) = col 3 c := rfl

/-- A head-by-head row laid out in columns. -/
def flat (f : Fin 4 → Fin 256 → ℝ) (b : Fin 1024) : ℝ := f ⟨b.val / 256, by omega⟩ ⟨b.val % 256, by omega⟩

theorem flat_col (f : Fin 4 → Fin 256 → ℝ) (h : Fin 4) (c : Fin 256) : flat f (col h c) = f h c := by
  unfold flat; congr 1 <;> (try congr 1) <;> (try apply Fin.ext) <;> (simp only [col]; omega)

theorem flat_at (f : Fin 4 → Fin 256 → ℝ) (b : Fin 1024) (h : Fin 4) (c : Fin 256) (e : b.val = 256 * h.val + c.val) : flat f b = f h c := by
  rw [show b = col h c from Fin.ext e, flat_col]

/-- Four column tiles side by side, read at a column. -/
theorem flat_tiles (f : Fin 4 → Fin 256 → ℝ) (b : Fin 1024) (u : Fin 4 → Fin 256 → EReal) (hu : ∀ h c, u h c = (f h c : EReal)) :
    (if h : b.val < 256 then u 0 ⟨b.val, h⟩ else if h : b.val - 256 < 256 then u 1 ⟨b.val - 256, h⟩
      else if h : b.val - 256 - 256 < 256 then u 2 ⟨b.val - 256 - 256, h⟩ else u 3 ⟨b.val - 256 - 256 - 256, by omega⟩) = (flat f b : EReal) := by
  simp only [hu]
  split_ifs with h0 h1 h2
  · rw [flat_at f b 0 ⟨b.val, h0⟩ (by simp)]
  · rw [flat_at f b 1 ⟨b.val - 256, h1⟩ (by simp; omega)]
  · rw [flat_at f b 2 ⟨b.val - 256 - 256, h2⟩ (by simp; omega)]
  · rw [flat_at f b 3 ⟨b.val - 256 - 256 - 256, by omega⟩ (by simp; omega)]

/-- The arguments every row shares. -/
structure Mem where
  g : Fin 1024 → ℝ
  wq : Fin 1024 → Fin 1024 → ℝ
  wo : Fin 1024 → Fin 1024 → ℝ
  k : Fin 256 → Fin 1024 → ℝ
  v : Fin 256 → Fin 1024 → ℝ

namespace Mem

variable (w : Mem) (x d : Fin 1024 → ℝ)

/-- The normed row, its query, scores, weights and output. -/
def hx (a : Fin 1024) : ℝ := x a * scale x * w.g a
def q (b : Fin 1024) : ℝ := ∑ a, w.hx x a * w.wq a b
def s (h : Fin 4) (j : Fin 256) : ℝ := (∑ c, w.q x (col h c) * w.k j (col h c)) * (1 / 16)
def p (h : Fin 4) (j : Fin 256) : ℝ := soft (w.s x h) j
def o (h : Fin 4) (c : Fin 256) : ℝ := ∑ j, w.p x h j * w.v j (col h c)
/-- The cotangent before the output matrix, the weights', the scores', the query's, the normed row's, the row's and the gain's. -/
def e (b : Fin 1024) : ℝ := ∑ a, d a * w.wo b a
def dp (h : Fin 4) (j : Fin 256) : ℝ := ∑ c, w.e d (col h c) * w.v j (col h c)
def ds (h : Fin 4) (j : Fin 256) : ℝ := w.p x h j * (w.dp d h j - ∑ j, w.p x h j * w.dp d h j) * (1 / 16)
def dq (h : Fin 4) (c : Fin 256) : ℝ := ∑ j, w.ds x d h j * w.k j (col h c)
def dh (a : Fin 1024) : ℝ := ∑ b, flat (w.dq x d) b * w.wq a b
def dx (a : Fin 1024) : ℝ := d a + back x (fun b => w.dh x d b * w.g b) a
def dg (a : Fin 1024) : ℝ := w.dh x d a * (x a * scale x)

end Mem

variable (w : Mem) (x d : Fin 512 → Fin 1024 → ℝ)
variable (X D Q E : Vec Ideal S512x1024 .f32) (G : Vec Ideal S1x1024 .f32) (Wq Wo : Vec Ideal S1024x1024 .bf16) (K V : Vec Ideal S256x256 .bf16)
variable (S P T : FVec Ideal S512x256 .f32) (A : Vec Ideal S256x256 .f32) (R : FVec Ideal S512x1 .f32)
variable (h : Fin 4)

/-- What the pieces of a block hold: each entry a real of the specification at the block's row. -/
abbrev IsX : Prop := ∀ r a, X (ix2 r a) = (x r a : EReal)
abbrev IsG : Prop := ∀ a, G (ix2 0 a) = (w.g a : EReal)
abbrev IsWq : Prop := ∀ a b, Wq (ix2 a b) = (w.wq a b : EReal)
abbrev IsWo : Prop := ∀ a b, Wo (ix2 a b) = (w.wo a b : EReal)
abbrev IsK : Prop := ∀ j c, K (ix2 j c) = (w.k j (col h c) : EReal)
abbrev IsV : Prop := ∀ j c, V (ix2 j c) = (w.v j (col h c) : EReal)
abbrev IsQ : Prop := ∀ r b, Q (ix2 r b) = (w.q (x r) b : EReal)
abbrev IsE : Prop := ∀ r b, E (ix2 r b) = (w.e (d r) b : EReal)
abbrev IsP : Prop := ∀ r j, P (ix2 r j) = (w.p (x r) h j : EReal)
abbrev IsS : Prop := ∀ r j, S (ix2 r j) = (w.ds (x r) (d r) h j : EReal)

theorem at5 (hX : IsX x X) (r : Fin 512) : k0_pay5 X (ix2 r 0) = (scale (x r) : EReal) := by
  pointwise [k0_pay5]
  simp only [hX r, ms_eq, scale_eq]

theorem at6 (hX : IsX x X) (hG : IsG w G) (r : Fin 512) (a : Fin 1024) : k0_pay6 X G (ix2 r a) = (w.hx (x r) a : EReal) := by
  pointwise [k0_pay6]
  rw [hX, hG, at5 x X hX, ← EReal.coe_mul, ← EReal.coe_mul]; rfl

theorem at7 (hX : IsX x X) (hG : IsG w G) (hW : IsWq w Wq) : IsQ w x (k0_pay7 X G Wq) := by
  intro r b
  pointwise [k0_pay7]
  simp only [at6 w x X G hX hG, hW, ← EReal.coe_mul, ← coe_sum]; rfl

/-- Scores of one head from the queries' column tile. -/
theorem score (hQ : IsQ w x Q) (hK : IsK w K h) (r : Fin 512) (j : Fin 256) :
    (∑ c, Q (ix2 r (col h c)) * K (ix2 j c)) * Ideal.ofBits .f32 0x3D800000#32 = (w.s (x r) h j : EReal) := by
  simp only [hQ r _, hK j _, ofBits_16th, ← EReal.coe_mul, ← coe_sum]; rfl

theorem at8_10 (hQ : IsQ w x (k0_pay7 X G Wq)) (hK : IsK w K 0) : IsP w x (k0_pay10 (k0_pay8 X G Wq K) (k0_pay9 X G Wq K)) 0 := by
  intro r j
  pointwise [k0_pay8, k0_pay9, k0_pay10]
  simp only [col_zero, score w x _ K 0 hQ hK, ofBits_bot]
  exact soft_eq (by norm_num) _ _

theorem at12 (hQ : IsQ w x Q) (hK : IsK w K 1) : IsP w x (k0_pay12 Q K) 1 := by
  intro r j
  pointwise [k0_pay12]
  simp only [col_one, score w x Q K 1 hQ hK, ofBits_bot]
  exact soft_eq (by norm_num) _ _

theorem at14 (hQ : IsQ w x Q) (hK : IsK w K 2) : IsP w x (k0_pay14 Q K) 2 := by
  intro r j
  pointwise [k0_pay14]
  simp only [col_two, score w x Q K 2 hQ hK, ofBits_bot]
  exact soft_eq (by norm_num) _ _

theorem at15 (hQ : IsQ w x Q) (hK : IsK w K 3) : IsP w x (k0_pay15 Q K) 3 := by
  intro r j
  pointwise [k0_pay15]
  simp only [col_three, score w x Q K 3 hQ hK, ofBits_bot]
  exact soft_eq (by norm_num) _ _

theorem at18 (hD : IsX d D) (hW : IsWo w Wo) : IsE w d (k0_pay18 D Wo) := by
  intro r b
  pointwise [k0_pay18]
  simp only [hD, hW, ← EReal.coe_mul, ← coe_sum]; rfl

/-- The weights' gradient of one head from the column tile of the cotangent. -/
theorem weight (hE : IsE w d E) (hV : IsV w V h) (r : Fin 512) (j : Fin 256) :
    ∑ c, E (ix2 r (col h c)) * V (ix2 j c) = (w.dp (d r) h j : EReal) := by
  simp only [hE r _, hV j _, ← EReal.coe_mul, ← coe_sum]; rfl

/-- The scores' gradient of one head. -/
theorem scores (hP : IsP w x P h) (r : Fin 512) (j : Fin 256) :
    P (ix2 r j) * ((w.dp (d r) h j : EReal) - ∑ j, P (ix2 r j) * (w.dp (d r) h j : EReal)) * Ideal.ofBits .f32 0x3D800000#32 = (w.ds (x r) (d r) h j : EReal) := by
  simp only [hP r _, ofBits_16th, ← EReal.coe_mul, ← coe_sum, ← EReal.coe_sub]; rfl

theorem at22 (hE : IsE w d (k0_pay18 D Wo)) (hV : IsV w V 0) (hP : IsP w x P 0) :
    IsS w x d (k0_pay22 P (k0_pay20 V) (k0_pay21 D Wo) (constant S512x256 .f32 0x00000000#32)) 0 := by
  intro r j
  pointwise [k0_pay22, k0_pay20, k0_pay21, k0_pay19]
  simp only [col_zero, weight w d _ V 0 hE hV]
  exact scores w x d P 0 hP r j

theorem at33 (hE : IsE w d E) (hV : IsV w V 2) (hP : IsP w x P 2) : IsS w x d (k0_pay33 P E V) 2 := by
  intro r j
  pointwise [k0_pay33, k0_pay32]
  simp only [col_two, weight w d E V 2 hE hV]
  exact scores w x d P 2 hP r j

theorem at40 (hE : IsE w d E) (hV : IsV w V 3) (hP : IsP w x P 3) : IsS w x d (k0_pay40 P E V) 3 := by
  intro r j
  pointwise [k0_pay40, k0_pay39]
  simp only [col_three, weight w d E V 3 hE hV]
  exact scores w x d P 3 hP r j

theorem at27 (hE : IsE w d E) (hV : IsV w V 1) (hP : IsP w x P 1) : IsS w x d (k0_pay28 (k0_pay27 P E V)) 1 := by
  intro r j
  pointwise [k0_pay28, k0_pay27, k0_pay26]
  simp only [col_one, weight w d E V 1 hE hV]
  exact scores w x d P 1 hP r j

/-- The query's gradient of one head. -/
theorem query (hS : IsS w x d S h) (hK : IsK w K h) (r : Fin 512) (c : Fin 256) : ∑ j, S (ix2 r j) * K (ix2 j c) = (w.dq (x r) (d r) h c : EReal) := by
  simp only [hS r _, hK _ _, ← EReal.coe_mul, ← coe_sum]; rfl

/-- One block's step of the keys' gradient, of the values' gradient. -/
theorem key (hS : IsS w x d S h) (hQ : IsQ w x Q) (j c : Fin 256) : ∑ r, S (ix2 r j) * Q (ix2 r (col h c)) = ((∑ r, w.ds (x r) (d r) h j * w.q (x r) (col h c) : ℝ) : EReal) := by
  simp only [hS, hQ, ← EReal.coe_mul, ← coe_sum]
theorem value (hP : IsP w x P h) (hE : IsE w d E) (j c : Fin 256) : ∑ r, P (ix2 r j) * E (ix2 r (col h c)) = ((∑ r, w.p (x r) h j * w.e (d r) (col h c) : ℝ) : EReal) := by
  simp only [hP, hE, ← EReal.coe_mul, ← coe_sum]

theorem query0 (hS : IsS w x d (k0_pay22 P (k0_pay20 V) (k0_pay21 D Wo) (constant S512x256 .f32 0x00000000#32)) 0) (hK : IsK w K 0) (r : Fin 512) (c : Fin 256) : k0_pay23 P (k0_pay20 V) (k0_pay21 D Wo) (constant S512x256 .f32 0x00000000#32) K (ix2 r c) = (w.dq (x r) (d r) 0 c : EReal) := by
  pointwise [k0_pay23]
  exact query w x d K _ 0 hS hK r c

theorem key0 (hS : IsS w x d (k0_pay22 P (k0_pay20 V) (k0_pay21 D Wo) (constant S512x256 .f32 0x00000000#32)) 0) (hQ : IsQ w x Q) (j c : Fin 256) :
    k0_pay24 Q P (k0_pay20 V) (k0_pay21 D Wo) (constant S512x256 .f32 0x00000000#32) A (ix2 j c) = A (ix2 j c) + ((∑ r, w.ds (x r) (d r) 0 j * w.q (x r) (col 0 c) : ℝ) : EReal) := by
  pointwise [k0_pay24]
  simp only [col_zero]
  rw [key w x d Q _ 0 hS hQ]

theorem value0 (hP : IsP w x P 0) (hE : IsE w d (k0_pay18 D Wo)) (j c : Fin 256) :
    k0_pay25 P (k0_pay19 D Wo) A (ix2 j c) = A (ix2 j c) + ((∑ r, w.p (x r) 0 j * w.e (d r) (col 0 c) : ℝ) : EReal) := by
  pointwise [k0_pay25, k0_pay19]
  simp only [col_zero]
  rw [value w x d _ P 0 hP hE]

theorem query1 (hS : IsS w x d (k0_pay28 T) 1) (hK : IsK w K 1) (r : Fin 512) (c : Fin 256) : k0_pay29 T K (ix2 r c) = (w.dq (x r) (d r) 1 c : EReal) := by
  pointwise [k0_pay29]
  exact query w x d K _ 1 hS hK r c

theorem key1 (hS : IsS w x d (k0_pay28 T) 1) (hQ : IsQ w x Q) (j c : Fin 256) :
    k0_pay30 Q T A (ix2 j c) = A (ix2 j c) + ((∑ r, w.ds (x r) (d r) 1 j * w.q (x r) (col 1 c) : ℝ) : EReal) := by
  pointwise [k0_pay30]
  simp only [col_one]
  rw [key w x d Q _ 1 hS hQ]

theorem value1 (hP : IsP w x P 1) (hE : IsE w d (E)) (j c : Fin 256) :
    k0_pay31 P (k0_pay26 E) A (ix2 j c) = A (ix2 j c) + ((∑ r, w.p (x r) 1 j * w.e (d r) (col 1 c) : ℝ) : EReal) := by
  pointwise [k0_pay31, k0_pay26]
  simp only [col_one]
  rw [value w x d _ P 1 hP hE]

theorem query2 (hS : IsS w x d (k0_pay33 P E V) 2) (hK : IsK w K 2) (r : Fin 512) (c : Fin 256) : k0_pay36 (k0_pay34 K) (k0_pay35 P E V) (ix2 r c) = (w.dq (x r) (d r) 2 c : EReal) := by
  pointwise [k0_pay36, k0_pay34, k0_pay35]
  exact query w x d K _ 2 hS hK r c

theorem key2 (hS : IsS w x d (S) 2) (hQ : IsQ w x Q) (j c : Fin 256) :
    k0_pay37 Q S A (ix2 j c) = A (ix2 j c) + ((∑ r, w.ds (x r) (d r) 2 j * w.q (x r) (col 2 c) : ℝ) : EReal) := by
  pointwise [k0_pay37]
  simp only [col_two]
  rw [key w x d Q _ 2 hS hQ]

theorem value2 (hP : IsP w x P 2) (hE : IsE w d (E)) (j c : Fin 256) :
    k0_pay38 P (k0_pay32 E) A (ix2 j c) = A (ix2 j c) + ((∑ r, w.p (x r) 2 j * w.e (d r) (col 2 c) : ℝ) : EReal) := by
  pointwise [k0_pay38, k0_pay32]
  simp only [col_two]
  rw [value w x d _ P 2 hP hE]

theorem query3 (hS : IsS w x d (k0_pay40 P E V) 3) (hK : IsK w K 3) (r : Fin 512) (c : Fin 256) : k0_pay41 P E V K (ix2 r c) = (w.dq (x r) (d r) 3 c : EReal) := by
  pointwise [k0_pay41]
  exact query w x d K _ 3 hS hK r c

theorem key3 (hS : IsS w x d (k0_pay40 P E V) 3) (hQ : IsQ w x Q) (j c : Fin 256) :
    k0_pay45 (k0_pay42 A) (k0_pay43 Q) (k0_pay44 P E V) (ix2 j c) = A (ix2 j c) + ((∑ r, w.ds (x r) (d r) 3 j * w.q (x r) (col 3 c) : ℝ) : EReal) := by
  pointwise [k0_pay45, k0_pay42, k0_pay43, k0_pay44]
  simp only [col_three]
  rw [key w x d Q _ 3 hS hQ]

theorem value3 (hP : IsP w x P 3) (hE : IsE w d (E)) (j c : Fin 256) :
    k0_pay46 P (k0_pay39 E) A (ix2 j c) = A (ix2 j c) + ((∑ r, w.p (x r) 3 j * w.e (d r) (col 3 c) : ℝ) : EReal) := by
  pointwise [k0_pay46, k0_pay39]
  simp only [col_three]
  rw [value w x d _ P 3 hP hE]

/-- One head's output from its weights. -/
theorem output (hP : IsP w x P h) (hV : IsV w V h) (r : Fin 512) (c : Fin 256) : ∑ j, P (ix2 r j) * V (ix2 j c) = (w.o (x r) h c : EReal) := by
  simp only [hP r _, hV _ _, ← EReal.coe_mul, ← coe_sum]; rfl

theorem at11 (P' : FVec Ideal S512x256 .f32) (hP : IsP w x (k0_pay10 P P') 0) (hV : IsV w V 0) (r : Fin 512) (c : Fin 256) : k0_pay11 P P' V (ix2 r c) = (w.o (x r) 0 c : EReal) := by
  pointwise [k0_pay11]
  exact output w x V _ 0 hP hV r c

theorem at13 (hP : IsP w x (k0_pay12 Q K) 1) (hV : IsV w V 1) (r : Fin 512) (c : Fin 256) : k0_pay13 Q K V (ix2 r c) = (w.o (x r) 1 c : EReal) := by
  pointwise [k0_pay13]
  exact output w x V _ 1 hP hV r c

/-- The head outputs side by side, and the heads' query gradients. -/
theorem at17 (O0 O1 P2 : FVec Ideal S512x256 .f32) (V2 V3 K3 : Vec Ideal S256x256 .bf16)
    (h0 : ∀ r c, O0 (ix2 r c) = (w.o (x r) 0 c : EReal)) (h1 : ∀ r c, O1 (ix2 r c) = (w.o (x r) 1 c : EReal)) (h2 : IsP w x P2 2)
    (h3 : IsP w x (k0_pay15 Q K3) 3) (v2 : IsV w V2 2) (v3 : IsV w V3 3) (r : Fin 512) (b : Fin 1024) :
    k0_pay17 Q O0 O1 P2 V2 K3 V3 (ix2 r b) = (flat (w.o (x r)) b : EReal) := by
  pointwise [k0_pay17]
  simp only [output w x V2 P2 2 h2 v2, output w x V3 _ 3 h3 v3, h0, h1]
  exact flat_tiles (w.o (x r)) b (fun h c => (w.o (x r) h c : EReal)) fun _ _ => rfl

theorem at47 (S0 S1 S2 S3 : FVec Ideal S512x256 .f32) (h0 : ∀ r c, S0 (ix2 r c) = (w.dq (x r) (d r) 0 c : EReal)) (h1 : ∀ r c, S1 (ix2 r c) = (w.dq (x r) (d r) 1 c : EReal))
    (h2 : ∀ r c, S2 (ix2 r c) = (w.dq (x r) (d r) 2 c : EReal)) (h3 : ∀ r c, S3 (ix2 r c) = (w.dq (x r) (d r) 3 c : EReal)) (r : Fin 512) (b : Fin 1024) :
    k0_pay47 S0 S1 S2 S3 (ix2 r b) = (flat (w.dq (x r) (d r)) b : EReal) := by
  pointwise [k0_pay47]
  simp only [h0, h1, h2, h3]
  exact flat_tiles (w.dq (x r) (d r)) b (fun h c => (w.dq (x r) (d r) h c : EReal)) fun _ _ => rfl

theorem at48 (S0 S1 S2 S3 : FVec Ideal S512x256 .f32) (h : ∀ r b, k0_pay47 S0 S1 S2 S3 (ix2 r b) = (flat (w.dq (x r) (d r)) b : EReal)) (hW : IsWq w Wq) (r : Fin 512) (a : Fin 1024) :
    k0_pay48 S0 S1 S2 S3 Wq (ix2 r a) = (w.dh (x r) (d r) a : EReal) := by
  pointwise [k0_pay48]
  simp only [h, hW, ← EReal.coe_mul, ← coe_sum]; rfl

theorem at51 (S0 S1 S2 S3 : FVec Ideal S512x256 .f32) (h : ∀ r a, k0_pay48 S0 S1 S2 S3 Wq (ix2 r a) = (w.dh (x r) (d r) a : EReal))
    (hX : IsX x X) (hD : IsX d D) (hR : ∀ r, R (ix2 r 0) = (scale (x r) : EReal)) (hG : IsG w G) (r : Fin 512) (a : Fin 1024) :
    k0_pay51 X D R S0 S1 S2 S3 G Wq (ix2 r a) = (w.dx (x r) (d r) a : EReal) := by
  pointwise [k0_pay51, k0_pay49]
  simp only [h, hX r _, hD r _, hR, hG, ← EReal.coe_mul, ← coe_sum, div_1024, ← EReal.coe_sub, ← EReal.coe_add]
  rfl

theorem at1 (S0 S1 S2 S3 : FVec Ideal S512x256 .f32) (h : ∀ r a, k0_pay48 S0 S1 S2 S3 Wq (ix2 r a) = (w.dh (x r) (d r) a : EReal))
    (hX : IsX x X) (hR : ∀ r, R (ix2 r 0) = (scale (x r) : EReal)) (Z : Vec Ideal S1x1024 .f32) (a : Fin 1024) :
    k0_pay1 (k0_pay50 X R S0 S1 S2 S3 Wq) Z (ix2 0 a) = Z (ix2 0 a) + ((∑ r, w.dg (x r) (d r) a : ℝ) : EReal) := by
  pointwise [k0_pay1, k0_pay50, k0_pay49]
  simp only [h, hX _ _, hR, ← EReal.coe_mul, ← coe_sum]; rfl

end Cert.XattnKernelIdeal.Value
end
-- ==== Proof.XattnOut.lean ====
/- What the memory attention's backward kernel leaves in its seven result arrays: at every grid point a block's rows, and the three gradients that are summed over the grid points. -/
module

public import proofs.«01_k».proof.Proof.XattnBody
public import Idealize.ShloMosaic.Lib.Pipeline.ReadBack

@[expose] public section

set_option maxRecDepth 200000

noncomputable section

namespace Cert.XattnKernelIdeal.Value

open Idealize.ShloMosaic Idealize.ShloMosaic.TcCoe Idealize.SL.Sem
open Idealize.ShloMosaic.Pipeline (Dat)
open Cert.XattnKernelIdeal Cert.XattnKernelIdeal.Gen Cert.Rows Cert.Reals

/-- One block's step of the keys' gradient, of the values' gradient. -/
def Mem.stepK (w : Mem) (x d : Fin 512 → Fin 1024 → ℝ) (j : Fin 256) (b : Fin 1024) : ℝ := flat (fun h c => ∑ r, w.ds (x r) (d r) h j * w.q (x r) (col h c)) b
def Mem.stepV (w : Mem) (x d : Fin 512 → Fin 1024 → ℝ) (j : Fin 256) (b : Fin 1024) : ℝ := flat (fun h c => ∑ r, w.p (x r) h j * w.e (d r) (col h c)) b

theorem Mem.stepK_col (w : Mem) (x d : Fin 512 → Fin 1024 → ℝ) (j : Fin 256) (h : Fin 4) (c : Fin 256) : w.stepK x d j (col h c) = ∑ r, w.ds (x r) (d r) h j * w.q (x r) (col h c) := flat_col _ h c
theorem Mem.stepV_col (w : Mem) (x d : Fin 512 → Fin 1024 → ℝ) (j : Fin 256) (h : Fin 4) (c : Fin 256) : w.stepV x d j (col h c) = ∑ r, w.p (x r) h j * w.e (d r) (col h c) := flat_col _ h c

/-- The four column tiles cover the block. -/
theorem tiles (p3 p2 p1 p0 : S256x256.Idx → Elt Ideal .f32) (y : S256x1024.Idx) :
    ∃ p ∈ ([⟨Rect.unit ![0, 768] ![256, 256] inb_S256x1024_S256x256_0_768, p3⟩, ⟨Rect.unit ![0, 512] ![256, 256] inb_S256x1024_S256x256_0_512, p2⟩,
      ⟨Rect.unit ![0, 256] ![256, 256] inb_S256x1024_S256x256_0_256, p1⟩, ⟨Rect.unit ![0, 0] ![256, 256] inb_S256x1024_S256x256_0_0, p0⟩] : List (View.Piece (Elt Ideal) S256x1024 .f32)), y ∈ p.1.set :=
  View.cover_of_tiledL (s := S256x1024) _ S256x256.size (by sl_kernel_rfl) y

variable (m : (ℓ : Loc nD τ sig) → Buf (Elt Ideal) ℓ) (c : Dev nD) (w : Mem) (x d : Fin 16384 → Fin 1024 → ℝ)

/-- The arguments are the reals of the specification. -/
structure Holds : Prop where
  x : ∀ r a, (show FVec Ideal S16384x1024 .f32 from m ((c.tc : Thread nD τ).loc main_arg0)) (ix2 r a) = (x r a : EReal)
  g : ∀ a, (show FVec Ideal S1024 .f32 from m ((c.tc : Thread nD τ).loc main_arg1)) (ix1 a) = (w.g a : EReal)
  wq : ∀ a b, (show FVec Ideal S1024x1024 .f32 from m ((c.tc : Thread nD τ).loc main_arg2)) (ix2 a b) = (w.wq a b : EReal)
  k : ∀ a b, (show FVec Ideal S256x1024 .f32 from m ((c.tc : Thread nD τ).loc main_arg3)) (ix2 a b) = (w.k a b : EReal)
  v : ∀ a b, (show FVec Ideal S256x1024 .f32 from m ((c.tc : Thread nD τ).loc main_arg4)) (ix2 a b) = (w.v a b : EReal)
  wo : ∀ a b, (show FVec Ideal S1024x1024 .f32 from m ((c.tc : Thread nD τ).loc main_arg5)) (ix2 a b) = (w.wo a b : EReal)
  d : ∀ r a, (show FVec Ideal S16384x1024 .f32 from m ((c.tc : Thread nD τ).loc main_arg6)) (ix2 r a) = (d r a : EReal)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

theorem point_lt (t : Fin cfg0.N) : t.val < 32 := t.isLt

/-- Row `r` of block `t`. -/
def row (t : Fin cfg0.N) (r : Fin 512) : Fin 16384 := ⟨t.val * 512 + r.val, by have := point_lt t; omega⟩

variable (H : Holds m c w x d) (t : Fin cfg0.N)
include H

theorem blk0 : IsX (fun r => x (row t r)) (iblk m c 0 t) := by
  intro r a
  refine Eq.trans ?_ (H.x (row t r) a)
  blk_point [iblk, V, idx t, row]

theorem blk1 : IsX (fun r => d (row t r)) (iblk m c 1 t) := by
  intro r a
  refine Eq.trans ?_ (H.d (row t r) a)
  blk_point [iblk, V, idx t, row]

theorem blk2 : IsG w (iblk m c 2 t) := by
  intro a
  refine Eq.trans ?_ (H.g a)
  blk_simp [iblk]; entry_read; pointwise
  blk_ext [idx t]

theorem blk3 : IsWq w (iblk m c 3 t) := by
  intro a b
  refine Eq.trans ?_ (H.wq a b)
  blk_simp [iblk]; entry_read; pointwise
  blk_ext [idx t]

theorem blk6 : IsWo w (iblk m c 6 t) := by
  intro a b
  refine Eq.trans ?_ (H.wo a b)
  blk_simp [iblk]; entry_read; pointwise
  blk_ext [idx t]

theorem blk4 (j : Fin 256) (b : Fin 1024) : iblk m c 4 t (ix2 j b) = (w.k j b : EReal) := by
  refine Eq.trans ?_ (H.k j b)
  blk_simp [iblk]; entry_read; pointwise
  blk_ext [idx t]

theorem blk5 (j : Fin 256) (b : Fin 1024) : iblk m c 5 t (ix2 j b) = (w.v j b : EReal) := by
  refine Eq.trans ?_ (H.v j b)
  blk_simp [iblk]; entry_read; pointwise
  blk_ext [idx t]

theorem keys0 : IsK w (View.ld (iblk m c 4 t) (Rect.unit ![0, 0] ![256, 256] inb_S256x1024_S256x256_0_0)) 0 := by
  intro j b
  pointwise
  rw [blk4 m c w x d H t, col_zero]

theorem vals0 : IsV w (View.ld (iblk m c 5 t) (Rect.unit ![0, 0] ![256, 256] inb_S256x1024_S256x256_0_0)) 0 := by
  intro j b
  pointwise
  rw [blk5 m c w x d H t, col_zero]

theorem keys1 : IsK w (View.ld (iblk m c 4 t) (Rect.unit ![0, 256] ![256, 256] inb_S256x1024_S256x256_0_256)) 1 := by
  intro j b
  pointwise
  rw [blk4 m c w x d H t, col_one]

theorem vals1 : IsV w (View.ld (iblk m c 5 t) (Rect.unit ![0, 256] ![256, 256] inb_S256x1024_S256x256_0_256)) 1 := by
  intro j b
  pointwise
  rw [blk5 m c w x d H t, col_one]

theorem keys2 : IsK w (View.ld (iblk m c 4 t) (Rect.unit ![0, 512] ![256, 256] inb_S256x1024_S256x256_0_512)) 2 := by
  intro j b
  pointwise
  rw [blk4 m c w x d H t, col_two]

theorem vals2 : IsV w (View.ld (iblk m c 5 t) (Rect.unit ![0, 512] ![256, 256] inb_S256x1024_S256x256_0_512)) 2 := by
  intro j b
  pointwise
  rw [blk5 m c w x d H t, col_two]

theorem keys3 : IsK w (View.ld (iblk m c 4 t) (Rect.unit ![0, 768] ![256, 256] inb_S256x1024_S256x256_0_768)) 3 := by
  intro j b
  pointwise
  rw [blk4 m c w x d H t, col_three]

theorem vals3 : IsV w (View.ld (iblk m c 5 t) (Rect.unit ![0, 768] ![256, 256] inb_S256x1024_S256x256_0_768)) 3 := by
  intro j b
  pointwise
  rw [blk5 m c w x d H t, col_three]

theorem queries : IsQ w (fun r => x (row t r)) (k0_pay7 (iblk m c 0 t) (iblk m c 2 t) (iblk m c 3 t)) := at7 w _ _ _ _ (blk0 m c w x d H t) (blk2 m c w x d H t) (blk3 m c w x d H t)
theorem cots : IsE w (fun r => d (row t r)) (k0_pay18 (iblk m c 1 t) (iblk m c 6 t)) := at18 w _ _ _ (blk1 m c w x d H t) (blk6 m c w x d H t)

theorem weights0 : IsP w (fun r => x (row t r)) (k0_pay10 (k0_pay8 (iblk m c 0 t) (iblk m c 2 t) (iblk m c 3 t) (View.ld (iblk m c 4 t) (Rect.unit ![0, 0] ![256, 256] inb_S256x1024_S256x256_0_0))) (k0_pay9 (iblk m c 0 t) (iblk m c 2 t) (iblk m c 3 t) (View.ld (iblk m c 4 t) (Rect.unit ![0, 0] ![256, 256] inb_S256x1024_S256x256_0_0)))) 0 := at8_10 w _ _ _ _ _ (queries m c w x d H t) (keys0 m c w x d H t)

theorem weights1 : IsP w (fun r => x (row t r)) (k0_pay12 (k0_pay7 (iblk m c 0 t) (iblk m c 2 t) (iblk m c 3 t)) (View.ld (iblk m c 4 t) (Rect.unit ![0, 256] ![256, 256] inb_S256x1024_S256x256_0_256))) 1 := at12 w _ _ _ (queries m c w x d H t) (keys1 m c w x d H t)

theorem weights2 : IsP w (fun r => x (row t r)) (k0_pay14 (k0_pay7 (iblk m c 0 t) (iblk m c 2 t) (iblk m c 3 t)) (View.ld (iblk m c 4 t) (Rect.unit ![0, 512] ![256, 256] inb_S256x1024_S256x256_0_512))) 2 := at14 w _ _ _ (queries m c w x d H t) (keys2 m c w x d H t)

theorem weights3 : IsP w (fun r => x (row t r)) (k0_pay15 (k0_pay7 (iblk m c 0 t) (iblk m c 2 t) (iblk m c 3 t)) (View.ld (iblk m c 4 t) (Rect.unit ![0, 768] ![256, 256] inb_S256x1024_S256x256_0_768))) 3 := at15 w _ _ _ (queries m c w x d H t) (keys3 m c w x d H t)

theorem scores0 : IsS w (fun r => x (row t r)) (fun r => d (row t r)) (k0_pay22 (k0_pay10 (k0_pay8 (iblk m c 0 t) (iblk m c 2 t) (iblk m c 3 t) (View.ld (iblk m c 4 t) (Rect.unit ![0, 0] ![256, 256] inb_S256x1024_S256x256_0_0))) (k0_pay9 (iblk m c 0 t) (iblk m c 2 t) (iblk m c 3 t) (View.ld (iblk m c 4 t) (Rect.unit ![0, 0] ![256, 256] inb_S256x1024_S256x256_0_0)))) (k0_pay20 (View.ld (iblk m c 5 t) (Rect.unit ![0, 0] ![256, 256] inb_S256x1024_S256x256_0_0))) (k0_pay21 (iblk m c 1 t) (iblk m c 6 t)) (constant S512x256 .f32 0x00000000#32)) 0 := at22 w (fun r => x (row t r)) (fun r => d (row t r)) _ _ _ _ (cots m c w x d H t) (vals0 m c w x d H t) (weights0 m c w x d H t)

theorem scores1 : IsS w (fun r => x (row t r)) (fun r => d (row t r)) (k0_pay28 (k0_pay27 (k0_pay12 (k0_pay7 (iblk m c 0 t) (iblk m c 2 t) (iblk m c 3 t)) (View.ld (iblk m c 4 t) (Rect.unit ![0, 256] ![256, 256] inb_S256x1024_S256x256_0_256))) (k0_pay18 (iblk m c 1 t) (iblk m c 6 t)) (View.ld (iblk m c 5 t) (Rect.unit ![0, 256] ![256, 256] inb_S256x1024_S256x256_0_256)))) 1 := at27 w (fun r => x (row t r)) (fun r => d (row t r)) _ _ _ (cots m c w x d H t) (vals1 m c w x d H t) (weights1 m c w x d H t)

theorem scores2 : IsS w (fun r => x (row t r)) (fun r => d (row t r)) (k0_pay33 (k0_pay14 (k0_pay7 (iblk m c 0 t) (iblk m c 2 t) (iblk m c 3 t)) (View.ld (iblk m c 4 t) (Rect.unit ![0, 512] ![256, 256] inb_S256x1024_S256x256_0_512))) (k0_pay18 (iblk m c 1 t) (iblk m c 6 t)) (View.ld (iblk m c 5 t) (Rect.unit ![0, 512] ![256, 256] inb_S256x1024_S256x256_0_512))) 2 := at33 w (fun r => x (row t r)) (fun r => d (row t r)) _ _ _ (cots m c w x d H t) (vals2 m c w x d H t) (weights2 m c w x d H t)

theorem scores3 : IsS w (fun r => x (row t r)) (fun r => d (row t r)) (k0_pay40 (k0_pay15 (k0_pay7 (iblk m c 0 t) (iblk m c 2 t) (iblk m c 3 t)) (View.ld (iblk m c 4 t) (Rect.unit ![0, 768] ![256, 256] inb_S256x1024_S256x256_0_768))) (k0_pay18 (iblk m c 1 t) (iblk m c 6 t)) (View.ld (iblk m c 5 t) (Rect.unit ![0, 768] ![256, 256] inb_S256x1024_S256x256_0_768))) 3 := at40 w (fun r => x (row t r)) (fun r => d (row t r)) _ _ _ (cots m c w x d H t) (vals3 m c w x d H t) (weights3 m c w x d H t)

theorem queries0 (r : Fin 512) (b : Fin 256) : (k0_pay23 (k0_pay10 (k0_pay8 (iblk m c 0 t) (iblk m c 2 t) (iblk m c 3 t) (View.ld (iblk m c 4 t) (Rect.unit ![0, 0] ![256, 256] inb_S256x1024_S256x256_0_0))) (k0_pay9 (iblk m c 0 t) (iblk m c 2 t) (iblk m c 3 t) (View.ld (iblk m c 4 t) (Rect.unit ![0, 0] ![256, 256] inb_S256x1024_S256x256_0_0)))) (k0_pay20 (View.ld (iblk m c 5 t) (Rect.unit ![0, 0] ![256, 256] inb_S256x1024_S256x256_0_0))) (k0_pay21 (iblk m c 1 t) (iblk m c 6 t)) (constant S512x256 .f32 0x00000000#32) (View.ld (iblk m c 4 t) (Rect.unit ![0, 0] ![256, 256] inb_S256x1024_S256x256_0_0))) (ix2 r b) = (w.dq (x (row t r)) (d (row t r)) 0 b : EReal) :=
  query0 w (fun r => x (row t r)) (fun r => d (row t r)) _ _ _ _ _ (scores0 m c w x d H t) (keys0 m c w x d H t) r b

theorem queries1 (r : Fin 512) (b : Fin 256) : (k0_pay29 (k0_pay27 (k0_pay12 (k0_pay7 (iblk m c 0 t) (iblk m c 2 t) (iblk m c 3 t)) (View.ld (iblk m c 4 t) (Rect.unit ![0, 256] ![256, 256] inb_S256x1024_S256x256_0_256))) (k0_pay18 (iblk m c 1 t) (iblk m c 6 t)) (View.ld (iblk m c 5 t) (Rect.unit ![0, 256] ![256, 256] inb_S256x1024_S256x256_0_256))) (View.ld (iblk m c 4 t) (Rect.unit ![0, 256] ![256, 256] inb_S256x1024_S256x256_0_256))) (ix2 r b) = (w.dq (x (row t r)) (d (row t r)) 1 b : EReal) :=
  query1 w (fun r => x (row t r)) (fun r => d (row t r)) _ _ (scores1 m c w x d H t) (keys1 m c w x d H t) r b

theorem queries2 (r : Fin 512) (b : Fin 256) : (k0_pay36 (k0_pay34 (View.ld (iblk m c 4 t) (Rect.unit ![0, 512] ![256, 256] inb_S256x1024_S256x256_0_512))) (k0_pay35 (k0_pay14 (k0_pay7 (iblk m c 0 t) (iblk m c 2 t) (iblk m c 3 t)) (View.ld (iblk m c 4 t) (Rect.unit ![0, 512] ![256, 256] inb_S256x1024_S256x256_0_512))) (k0_pay18 (iblk m c 1 t) (iblk m c 6 t)) (View.ld (iblk m c 5 t) (Rect.unit ![0, 512] ![256, 256] inb_S256x1024_S256x256_0_512)))) (ix2 r b) = (w.dq (x (row t r)) (d (row t r)) 2 b : EReal) :=
  query2 w (fun r => x (row t r)) (fun r => d (row t r)) _ _ _ _ (scores2 m c w x d H t) (keys2 m c w x d H t) r b

theorem queries3 (r : Fin 512) (b : Fin 256) : (k0_pay41 (k0_pay15 (k0_pay7 (iblk m c 0 t) (iblk m c 2 t) (iblk m c 3 t)) (View.ld (iblk m c 4 t) (Rect.unit ![0, 768] ![256, 256] inb_S256x1024_S256x256_0_768))) (k0_pay18 (iblk m c 1 t) (iblk m c 6 t)) (View.ld (iblk m c 5 t) (Rect.unit ![0, 768] ![256, 256] inb_S256x1024_S256x256_0_768)) (View.ld (iblk m c 4 t) (Rect.unit ![0, 768] ![256, 256] inb_S256x1024_S256x256_0_768))) (ix2 r b) = (w.dq (x (row t r)) (d (row t r)) 3 b : EReal) :=
  query3 w (fun r => x (row t r)) (fun r => d (row t r)) _ _ _ _ (scores3 m c w x d H t) (keys3 m c w x d H t) r b

theorem gradq (r : Fin 512) (b : Fin 1024) : k0_pay47 (k0_pay23 (k0_pay10 (k0_pay8 (iblk m c 0 t) (iblk m c 2 t) (iblk m c 3 t) (View.ld (iblk m c 4 t) (Rect.unit ![0, 0] ![256, 256] inb_S256x1024_S256x256_0_0))) (k0_pay9 (iblk m c 0 t) (iblk m c 2 t) (iblk m c 3 t) (View.ld (iblk m c 4 t) (Rect.unit ![0, 0] ![256, 256] inb_S256x1024_S256x256_0_0)))) (k0_pay20 (View.ld (iblk m c 5 t) (Rect.unit ![0, 0] ![256, 256] inb_S256x1024_S256x256_0_0))) (k0_pay21 (iblk m c 1 t) (iblk m c 6 t)) (constant S512x256 .f32 0x00000000#32) (View.ld (iblk m c 4 t) (Rect.unit ![0, 0] ![256, 256] inb_S256x1024_S256x256_0_0))) (k0_pay29 (k0_pay27 (k0_pay12 (k0_pay7 (iblk m c 0 t) (iblk m c 2 t) (iblk m c 3 t)) (View.ld (iblk m c 4 t) (Rect.unit ![0, 256] ![256, 256] inb_S256x1024_S256x256_0_256))) (k0_pay18 (iblk m c 1 t) (iblk m c 6 t)) (View.ld (iblk m c 5 t) (Rect.unit ![0, 256] ![256, 256] inb_S256x1024_S256x256_0_256))) (View.ld (iblk m c 4 t) (Rect.unit ![0, 256] ![256, 256] inb_S256x1024_S256x256_0_256))) (k0_pay36 (k0_pay34 (View.ld (iblk m c 4 t) (Rect.unit ![0, 512] ![256, 256] inb_S256x1024_S256x256_0_512))) (k0_pay35 (k0_pay14 (k0_pay7 (iblk m c 0 t) (iblk m c 2 t) (iblk m c 3 t)) (View.ld (iblk m c 4 t) (Rect.unit ![0, 512] ![256, 256] inb_S256x1024_S256x256_0_512))) (k0_pay18 (iblk m c 1 t) (iblk m c 6 t)) (View.ld (iblk m c 5 t) (Rect.unit ![0, 512] ![256, 256] inb_S256x1024_S256x256_0_512)))) (k0_pay41 (k0_pay15 (k0_pay7 (iblk m c 0 t) (iblk m c 2 t) (iblk m c 3 t)) (View.ld (iblk m c 4 t) (Rect.unit ![0, 768] ![256, 256] inb_S256x1024_S256x256_0_768))) (k0_pay18 (iblk m c 1 t) (iblk m c 6 t)) (View.ld (iblk m c 5 t) (Rect.unit ![0, 768] ![256, 256] inb_S256x1024_S256x256_0_768)) (View.ld (iblk m c 4 t) (Rect.unit ![0, 768] ![256, 256] inb_S256x1024_S256x256_0_768))) (ix2 r b) = (flat (w.dq (x (row t r)) (d (row t r))) b : EReal) :=
  at47 w (fun r => x (row t r)) (fun r => d (row t r)) _ _ _ _ (queries0 m c w x d H t) (queries1 m c w x d H t) (queries2 m c w x d H t) (queries3 m c w x d H t) r b

theorem gradh (r : Fin 512) (b : Fin 1024) : k0_pay48 (k0_pay23 (k0_pay10 (k0_pay8 (iblk m c 0 t) (iblk m c 2 t) (iblk m c 3 t) (View.ld (iblk m c 4 t) (Rect.unit ![0, 0] ![256, 256] inb_S256x1024_S256x256_0_0))) (k0_pay9 (iblk m c 0 t) (iblk m c 2 t) (iblk m c 3 t) (View.ld (iblk m c 4 t) (Rect.unit ![0, 0] ![256, 256] inb_S256x1024_S256x256_0_0)))) (k0_pay20 (View.ld (iblk m c 5 t) (Rect.unit ![0, 0] ![256, 256] inb_S256x1024_S256x256_0_0))) (k0_pay21 (iblk m c 1 t) (iblk m c 6 t)) (constant S512x256 .f32 0x00000000#32) (View.ld (iblk m c 4 t) (Rect.unit ![0, 0] ![256, 256] inb_S256x1024_S256x256_0_0))) (k0_pay29 (k0_pay27 (k0_pay12 (k0_pay7 (iblk m c 0 t) (iblk m c 2 t) (iblk m c 3 t)) (View.ld (iblk m c 4 t) (Rect.unit ![0, 256] ![256, 256] inb_S256x1024_S256x256_0_256))) (k0_pay18 (iblk m c 1 t) (iblk m c 6 t)) (View.ld (iblk m c 5 t) (Rect.unit ![0, 256] ![256, 256] inb_S256x1024_S256x256_0_256))) (View.ld (iblk m c 4 t) (Rect.unit ![0, 256] ![256, 256] inb_S256x1024_S256x256_0_256))) (k0_pay36 (k0_pay34 (View.ld (iblk m c 4 t) (Rect.unit ![0, 512] ![256, 256] inb_S256x1024_S256x256_0_512))) (k0_pay35 (k0_pay14 (k0_pay7 (iblk m c 0 t) (iblk m c 2 t) (iblk m c 3 t)) (View.ld (iblk m c 4 t) (Rect.unit ![0, 512] ![256, 256] inb_S256x1024_S256x256_0_512))) (k0_pay18 (iblk m c 1 t) (iblk m c 6 t)) (View.ld (iblk m c 5 t) (Rect.unit ![0, 512] ![256, 256] inb_S256x1024_S256x256_0_512)))) (k0_pay41 (k0_pay15 (k0_pay7 (iblk m c 0 t) (iblk m c 2 t) (iblk m c 3 t)) (View.ld (iblk m c 4 t) (Rect.unit ![0, 768] ![256, 256] inb_S256x1024_S256x256_0_768))) (k0_pay18 (iblk m c 1 t) (iblk m c 6 t)) (View.ld (iblk m c 5 t) (Rect.unit ![0, 768] ![256, 256] inb_S256x1024_S256x256_0_768)) (View.ld (iblk m c 4 t) (Rect.unit ![0, 768] ![256, 256] inb_S256x1024_S256x256_0_768))) (iblk m c 3 t) (ix2 r b) = (w.dh (x (row t r)) (d (row t r)) b : EReal) :=
  at48 w (fun r => x (row t r)) (fun r => d (row t r)) _ _ _ _ _ (gradq m c w x d H t) (blk3 m c w x d H t) r b

theorem out7 (r : Fin 512) (b : Fin 1024) : (outsAt0 m c t.val t.isLt).1 (ix2 r b) = (w.dx (x (row t r)) (d (row t r)) b : EReal) := by
  have e := at51 w (fun r => x (row t r)) (fun r => d (row t r)) _ _ _ _ _ _ _ _ _ (gradh m c w x d H t) (blk0 m c w x d H t) (blk1 m c w x d H t) (at5 _ _ (blk0 m c w x d H t)) (blk2 m c w x d H t) r b
  by_cases h0 : t.val % 32 = 0
  · rw [outsAt0_A m c t h0]; frame_out; exact e
  · rw [outsAt0_B m c t h0]; frame_out; exact e

theorem out8 (r : Fin 512) (b : Fin 1024) : (outsAt0 m c t.val t.isLt).2.1 (ix2 r b) = (flat (w.o (x (row t r))) b : EReal) := by
  have e := at17 w (fun r => x (row t r)) _ _ _ _ _ _ _ (at11 w (fun r => x (row t r)) _ _ _ (weights0 m c w x d H t) (vals0 m c w x d H t)) (at13 w (fun r => x (row t r)) _ _ _ (weights1 m c w x d H t) (vals1 m c w x d H t)) (weights2 m c w x d H t) (weights3 m c w x d H t) (vals2 m c w x d H t) (vals3 m c w x d H t) r b
  by_cases h0 : t.val % 32 = 0
  · rw [outsAt0_A m c t h0]; frame_out; exact e
  · rw [outsAt0_B m c t h0]; frame_out; exact e

theorem out9 (r : Fin 512) (b : Fin 1024) : (outsAt0 m c t.val t.isLt).2.2.1 (ix2 r b) = (flat (w.dq (x (row t r)) (d (row t r))) b : EReal) := by
  have e := gradq m c w x d H t r b
  by_cases h0 : t.val % 32 = 0
  · rw [outsAt0_A m c t h0]; frame_out; exact e
  · rw [outsAt0_B m c t h0]; frame_out; exact e

theorem out10 (r : Fin 512) (b : Fin 1024) : (outsAt0 m c t.val t.isLt).2.2.2.1 (ix2 r b) = (w.hx (x (row t r)) b : EReal) := by
  have e : k0_pay16 (k0_pay6 (iblk m c 0 t) (iblk m c 2 t)) (ix2 r b) = (w.hx (x (row t r)) b : EReal) := by
    pointwise [k0_pay16]; exact at6 w (fun r => x (row t r)) _ _ (blk0 m c w x d H t) (blk2 m c w x d H t) r b
  by_cases h0 : t.val % 32 = 0
  · rw [outsAt0_A m c t h0]; frame_out; exact e
  · rw [outsAt0_B m c t h0]; frame_out; exact e

theorem out11 (b : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.2.2.1 (ix2 0 b)) :
    (outsAt0 m c t.val t.isLt).2.2.2.2.1 (ix2 0 b) = Z + ((∑ r, w.dg (x (row t r)) (d (row t r)) b : ℝ) : EReal) := by
  by_cases h0 : t.val % 32 = 0
  · rw [outsAt0_A m c t h0]; frame_out
    refine (at1 w (fun r => x (row t r)) (fun r => d (row t r)) _ _ _ _ _ _ _ (gradh m c w x d H t) (blk0 m c w x d H t) (at5 _ _ (blk0 m c w x d H t)) _ b).trans ?_
    rw [hZ h0]; pointwise [k0_pay2]
  · rw [outsAt0_B m c t h0]; frame_out
    refine (at1 w (fun r => x (row t r)) (fun r => d (row t r)) _ _ _ _ _ _ _ (gradh m c w x d H t) (blk0 m c w x d H t) (at5 _ _ (blk0 m c w x d H t)) _ b).trans ?_
    rw [hZ' h0]

theorem out12 (j : Fin 256) (b : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.2.2.2.1 (ix2 j b)) :
    (outsAt0 m c t.val t.isLt).2.2.2.2.2.1 (ix2 j b) = Z + (w.stepK (fun r => x (row t r)) (fun r => d (row t r)) j b : EReal) := by
  by_cases hr : t.val % 32 = 0
  · rw [outsAt0_A m c t hr, hZ hr]; frame_out
    refine (View.canon_append_of_piecesOf (Val := Elt Ideal) (e := .f32) (s := S256x1024) (fun y => 0 + (w.stepK (fun r => x (row t r)) (fun r => d (row t r)) (y 0) (y 1) : EReal)) [_] [_, _, _, _] ⟨fun z => ?_, fun z => ?_, fun z => ?_, fun z => ?_, trivial⟩ (ix2 j b) ?_)
    · obtain ⟨i, e, rfl⟩ : ∃ i e, z = ix2 i e := ⟨_, _, eq_ix2 z⟩
      refine (key3 w (fun r => x (row t r)) (fun r => d (row t r)) (hS := scores3 m c w x d H t) (hQ := queries m c w x d H t) (A := _) (j := _) (c := _)).trans ?_
      rw [show (Rect.unit ![0, 768] ![256, 256] inb_S256x1024_S256x256_0_768).emb (ix2 i e) = ix2 i (col 3 e) from by blk_ext [col]]
      refine congrArg₂ (· + ·) ?_ (congrArg _ (Mem.stepK_col w _ _ _ 3 e).symm)
      rw [View.readCov_skip, View.readCov_skip, View.readCov_skip, View.readCov_fill]
      · pointwise [k0_pay3]
      all_goals first | rfl | decide
    · obtain ⟨i, e, rfl⟩ : ∃ i e, z = ix2 i e := ⟨_, _, eq_ix2 z⟩
      refine (key2 w (fun r => x (row t r)) (fun r => d (row t r)) (hS := scores2 m c w x d H t) (hQ := queries m c w x d H t) (A := _) (j := _) (c := _)).trans ?_
      rw [show (Rect.unit ![0, 512] ![256, 256] inb_S256x1024_S256x256_0_512).emb (ix2 i e) = ix2 i (col 2 e) from by blk_ext [col]]
      refine congrArg₂ (· + ·) ?_ (congrArg _ (Mem.stepK_col w _ _ _ 2 e).symm)
      rw [View.readCov_skip, View.readCov_skip, View.readCov_fill]
      · pointwise [k0_pay3]
      all_goals first | rfl | decide
    · obtain ⟨i, e, rfl⟩ : ∃ i e, z = ix2 i e := ⟨_, _, eq_ix2 z⟩
      refine (key1 w (fun r => x (row t r)) (fun r => d (row t r)) (hS := scores1 m c w x d H t) (hQ := queries m c w x d H t) (A := _) (j := _) (c := _)).trans ?_
      rw [show (Rect.unit ![0, 256] ![256, 256] inb_S256x1024_S256x256_0_256).emb (ix2 i e) = ix2 i (col 1 e) from by blk_ext [col]]
      refine congrArg₂ (· + ·) ?_ (congrArg _ (Mem.stepK_col w _ _ _ 1 e).symm)
      rw [View.readCov_skip, View.readCov_fill]
      · pointwise [k0_pay3]
      all_goals first | rfl | decide
    · obtain ⟨i, e, rfl⟩ : ∃ i e, z = ix2 i e := ⟨_, _, eq_ix2 z⟩
      refine (key0 w (fun r => x (row t r)) (fun r => d (row t r)) (hS := scores0 m c w x d H t) (hQ := queries m c w x d H t) (A := _) (j := _) (c := _)).trans ?_
      rw [show (Rect.unit ![0, 0] ![256, 256] inb_S256x1024_S256x256_0_0).emb (ix2 i e) = ix2 i (col 0 e) from by blk_ext [col]]
      refine congrArg₂ (· + ·) ?_ (congrArg _ (Mem.stepK_col w _ _ _ 0 e).symm)
      rw [View.readCov_fill]
      · pointwise [k0_pay3]
      all_goals first | rfl | decide
    · exact tiles _ _ _ _ _
  · rw [outsAt0_B m c t hr, hZ' hr]; frame_out
    canon_tiles z h
    · obtain ⟨i, e, rfl⟩ : ∃ i e, z = ix2 i e := ⟨_, _, eq_ix2 z⟩
      obtain rfl : j = i := Fin.ext h0
      refine (key3 w (fun r => x (row t r)) (fun r => d (row t r)) (hS := scores3 m c w x d H t) (hQ := queries m c w x d H t) (A := _) (j := _) (c := _)).trans ?_
      obtain rfl : b = col 3 e := Fin.ext (h1.trans (by simp [col]))
      refine congrArg₂ (· + ·) ?_ (congrArg _ (Mem.stepK_col w _ _ _ 3 e).symm)
      pointwise
      all_goals exact congrArg _ (by blk_ext [col])
    · obtain ⟨i, e, rfl⟩ : ∃ i e, z = ix2 i e := ⟨_, _, eq_ix2 z⟩
      obtain rfl : j = i := Fin.ext h0
      refine (key2 w (fun r => x (row t r)) (fun r => d (row t r)) (hS := scores2 m c w x d H t) (hQ := queries m c w x d H t) (A := _) (j := _) (c := _)).trans ?_
      obtain rfl : b = col 2 e := Fin.ext (h1.trans (by simp [col]))
      refine congrArg₂ (· + ·) ?_ (congrArg _ (Mem.stepK_col w _ _ _ 2 e).symm)
      pointwise
      all_goals exact congrArg _ (by blk_ext [col])
    · obtain ⟨i, e, rfl⟩ : ∃ i e, z = ix2 i e := ⟨_, _, eq_ix2 z⟩
      obtain rfl : j = i := Fin.ext h0
      refine (key1 w (fun r => x (row t r)) (fun r => d (row t r)) (hS := scores1 m c w x d H t) (hQ := queries m c w x d H t) (A := _) (j := _) (c := _)).trans ?_
      obtain rfl : b = col 1 e := Fin.ext (h1.trans (by simp [col]))
      refine congrArg₂ (· + ·) ?_ (congrArg _ (Mem.stepK_col w _ _ _ 1 e).symm)
      pointwise
      all_goals exact congrArg _ (by blk_ext [col])
    · obtain ⟨i, e, rfl⟩ : ∃ i e, z = ix2 i e := ⟨_, _, eq_ix2 z⟩
      obtain rfl : j = i := Fin.ext h0
      refine (key0 w (fun r => x (row t r)) (fun r => d (row t r)) (hS := scores0 m c w x d H t) (hQ := queries m c w x d H t) (A := _) (j := _) (c := _)).trans ?_
      obtain rfl : b = col 0 e := Fin.ext (h1.trans (by simp [col]))
      refine congrArg₂ (· + ·) ?_ (congrArg _ (Mem.stepK_col w _ _ _ 0 e).symm)
      pointwise
      all_goals exact congrArg _ (by blk_ext [col])

theorem out13 (j : Fin 256) (b : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.2.2.2.2 (ix2 j b)) :
    (outsAt0 m c t.val t.isLt).2.2.2.2.2.2 (ix2 j b) = Z + (w.stepV (fun r => x (row t r)) (fun r => d (row t r)) j b : EReal) := by
  by_cases hr : t.val % 32 = 0
  · rw [outsAt0_A m c t hr, hZ hr]; frame_out
    refine (View.canon_append_of_piecesOf (Val := Elt Ideal) (e := .f32) (s := S256x1024) (fun y => 0 + (w.stepV (fun r => x (row t r)) (fun r => d (row t r)) (y 0) (y 1) : EReal)) [_] [_, _, _, _] ⟨fun z => ?_, fun z => ?_, fun z => ?_, fun z => ?_, trivial⟩ (ix2 j b) ?_)
    · obtain ⟨i, e, rfl⟩ : ∃ i e, z = ix2 i e := ⟨_, _, eq_ix2 z⟩
      refine (value3 w (fun r => x (row t r)) (fun r => d (row t r)) (hP := weights3 m c w x d H t) (hE := cots m c w x d H t) (A := _) (j := _) (c := _)).trans ?_
      rw [show (Rect.unit ![0, 768] ![256, 256] inb_S256x1024_S256x256_0_768).emb (ix2 i e) = ix2 i (col 3 e) from by blk_ext [col]]
      refine congrArg₂ (· + ·) ?_ (congrArg _ (Mem.stepV_col w _ _ _ 3 e).symm)
      rw [View.readCov_skip, View.readCov_skip, View.readCov_skip, View.readCov_fill]
      · pointwise [k0_pay4]
      all_goals first | rfl | decide
    · obtain ⟨i, e, rfl⟩ : ∃ i e, z = ix2 i e := ⟨_, _, eq_ix2 z⟩
      refine (value2 w (fun r => x (row t r)) (fun r => d (row t r)) (hP := weights2 m c w x d H t) (hE := cots m c w x d H t) (A := _) (j := _) (c := _)).trans ?_
      rw [show (Rect.unit ![0, 512] ![256, 256] inb_S256x1024_S256x256_0_512).emb (ix2 i e) = ix2 i (col 2 e) from by blk_ext [col]]
      refine congrArg₂ (· + ·) ?_ (congrArg _ (Mem.stepV_col w _ _ _ 2 e).symm)
      rw [View.readCov_skip, View.readCov_skip, View.readCov_fill]
      · pointwise [k0_pay4]
      all_goals first | rfl | decide
    · obtain ⟨i, e, rfl⟩ : ∃ i e, z = ix2 i e := ⟨_, _, eq_ix2 z⟩
      refine (value1 w (fun r => x (row t r)) (fun r => d (row t r)) (hP := weights1 m c w x d H t) (hE := cots m c w x d H t) (A := _) (j := _) (c := _)).trans ?_
      rw [show (Rect.unit ![0, 256] ![256, 256] inb_S256x1024_S256x256_0_256).emb (ix2 i e) = ix2 i (col 1 e) from by blk_ext [col]]
      refine congrArg₂ (· + ·) ?_ (congrArg _ (Mem.stepV_col w _ _ _ 1 e).symm)
      rw [View.readCov_skip, View.readCov_fill]
      · pointwise [k0_pay4]
      all_goals first | rfl | decide
    · obtain ⟨i, e, rfl⟩ : ∃ i e, z = ix2 i e := ⟨_, _, eq_ix2 z⟩
      refine (value0 w (fun r => x (row t r)) (fun r => d (row t r)) (hP := weights0 m c w x d H t) (hE := cots m c w x d H t) (A := _) (j := _) (c := _)).trans ?_
      rw [show (Rect.unit ![0, 0] ![256, 256] inb_S256x1024_S256x256_0_0).emb (ix2 i e) = ix2 i (col 0 e) from by blk_ext [col]]
      refine congrArg₂ (· + ·) ?_ (congrArg _ (Mem.stepV_col w _ _ _ 0 e).symm)
      rw [View.readCov_fill]
      · pointwise [k0_pay4]
      all_goals first | rfl | decide
    · exact tiles _ _ _ _ _
  · rw [outsAt0_B m c t hr, hZ' hr]; frame_out
    canon_tiles z h
    · obtain ⟨i, e, rfl⟩ : ∃ i e, z = ix2 i e := ⟨_, _, eq_ix2 z⟩
      obtain rfl : j = i := Fin.ext h0
      refine (value3 w (fun r => x (row t r)) (fun r => d (row t r)) (hP := weights3 m c w x d H t) (hE := cots m c w x d H t) (A := _) (j := _) (c := _)).trans ?_
      obtain rfl : b = col 3 e := Fin.ext (h1.trans (by simp [col]))
      refine congrArg₂ (· + ·) ?_ (congrArg _ (Mem.stepV_col w _ _ _ 3 e).symm)
      pointwise
      all_goals exact congrArg _ (by blk_ext [col])
    · obtain ⟨i, e, rfl⟩ : ∃ i e, z = ix2 i e := ⟨_, _, eq_ix2 z⟩
      obtain rfl : j = i := Fin.ext h0
      refine (value2 w (fun r => x (row t r)) (fun r => d (row t r)) (hP := weights2 m c w x d H t) (hE := cots m c w x d H t) (A := _) (j := _) (c := _)).trans ?_
      obtain rfl : b = col 2 e := Fin.ext (h1.trans (by simp [col]))
      refine congrArg₂ (· + ·) ?_ (congrArg _ (Mem.stepV_col w _ _ _ 2 e).symm)
      pointwise
      all_goals exact congrArg _ (by blk_ext [col])
    · obtain ⟨i, e, rfl⟩ : ∃ i e, z = ix2 i e := ⟨_, _, eq_ix2 z⟩
      obtain rfl : j = i := Fin.ext h0
      refine (value1 w (fun r => x (row t r)) (fun r => d (row t r)) (hP := weights1 m c w x d H t) (hE := cots m c w x d H t) (A := _) (j := _) (c := _)).trans ?_
      obtain rfl : b = col 1 e := Fin.ext (h1.trans (by simp [col]))
      refine congrArg₂ (· + ·) ?_ (congrArg _ (Mem.stepV_col w _ _ _ 1 e).symm)
      pointwise
      all_goals exact congrArg _ (by blk_ext [col])
    · obtain ⟨i, e, rfl⟩ : ∃ i e, z = ix2 i e := ⟨_, _, eq_ix2 z⟩
      obtain rfl : j = i := Fin.ext h0
      refine (value0 w (fun r => x (row t r)) (fun r => d (row t r)) (hP := weights0 m c w x d H t) (hE := cots m c w x d H t) (A := _) (j := _) (c := _)).trans ?_
      obtain rfl : b = col 0 e := Fin.ext (h1.trans (by simp [col]))
      refine congrArg₂ (· + ·) ?_ (congrArg _ (Mem.stepV_col w _ _ _ 0 e).symm)
      pointwise
      all_goals exact congrArg _ (by blk_ext [col])

end Cert.XattnKernelIdeal.Value
end
-- ==== Proof.XattnRef.lean ====
/- The reference of the memory attention's backward, stage by stage, over real arguments: every result is the row specification the kernel's blocks compute. -/
module

public import proofs.«01_k».proof.Proof.XattnBody
public import proofs.«01_k».proof.Proof.Gen.XattnReferenceIdeal.Run

@[expose] public section

set_option maxRecDepth 200000

noncomputable section

namespace Cert.XattnReferenceIdeal.Value

open Idealize.ShloMosaic Idealize.ShloMosaic.TcCoe Idealize.SL.Sem
open Idealize.ShloMosaic.Pipeline (Dat)
open Cert.XattnReferenceIdeal Cert.XattnReferenceIdeal.Gen Cert.Rows Cert.Reals
open Cert.XattnKernelIdeal.Value (Mem col flat flat_col flat_at)

variable (V0 : Valuation τ sig (Elt Ideal)) (w : Mem) (x d : Fin 16384 → Fin 1024 → ℝ)

/-- The arguments are the reals of the specification. -/
structure Holds : Prop where
  x : ∀ r a, (V0 (Proc.devRef .tc main_arg0) : FVec Ideal S16384x1024 .f32) (ix2 r a) = (x r a : EReal)
  g : ∀ a, (V0 (Proc.devRef .tc main_arg1) : FVec Ideal S1024 .f32) (ix1 a) = (w.g a : EReal)
  wq : ∀ a b, (V0 (Proc.devRef .tc main_arg2) : FVec Ideal S1024x1024 .f32) (ix2 a b) = (w.wq a b : EReal)
  k : ∀ a b, (V0 (Proc.devRef .tc main_arg3) : FVec Ideal S256x1024 .f32) (ix2 a b) = (w.k a b : EReal)
  v : ∀ a b, (V0 (Proc.devRef .tc main_arg4) : FVec Ideal S256x1024 .f32) (ix2 a b) = (w.v a b : EReal)
  wo : ∀ a b, (V0 (Proc.devRef .tc main_arg5) : FVec Ideal S1024x1024 .f32) (ix2 a b) = (w.wo a b : EReal)
  d : ∀ r a, (V0 (Proc.devRef .tc main_arg6) : FVec Ideal S16384x1024 .f32) (ix2 r a) = (d r a : EReal)

theorem v125_eq : res_main_v125 V0 = res_main_v35 V0 := rfl
theorem v185_eq : res_main_v185 V0 = res_main_v35 V0 := rfl
theorem v146_eq : res_main_v146 V0 = res_main_v56 V0 := rfl
theorem v148_eq : res_main_v148 V0 = res_main_v58 V0 := rfl
theorem v192_eq : res_main_v192 V0 = res_main_v56 V0 := rfl
theorem v121_eq : res_main_v121 V0 = res_main_v31 V0 := rfl
theorem v122_eq : res_main_v122 V0 = res_main_v32 V0 := rfl

theorem col_mul (h : Fin 4) (c : Fin 256) (hc) : (⟨h.val * 256 + c.val, hc⟩ : Fin 1024) = col h c := Fin.ext (by simp [col, Nat.mul_comm])

/-- A score array's row maximum, exponentials and pulled-back weights, over any arrays. -/
abbrev Cube := FVec Ideal S4x16384x256 .f32
def top (s : Cube) : FVec Ideal S4x16384 .f32 := Host.reduce FloatOps.maximumf s (constant S_ .f32 0xFF800000#32) reducesTo_S4x16384x256_S4x16384_d2 h_S_
def lifted (s : Cube) (t : FVec Ideal S4x16384 .f32) : Cube := Host.exp (subf s (broadcastInDim S4x16384x256 ![0, 1, 2] bcast_S4x16384x1_S4x16384x256_0_1_2 (broadcastInDim S4x16384x1 ![0, 1] bcast_S4x16384_S4x16384x1_0_1 (maximumf (broadcastInDim S4x16384 ![] bcast_S_S4x16384 (constant S_ .f32 0xFF800000#32)) t))))
def probs (E : Cube) : Cube := Host.divf E (broadcastInDim S4x16384x256 ![0, 1, 2] bcast_S4x16384x1_S4x16384x256_0_1_2 (broadcastInDim S4x16384x1 ![0, 1] bcast_S4x16384_S4x16384x1_0_1 (Host.reduceAdd E (constant S_ .f32 0x00000000#32) reducesTo_S4x16384x256_S4x16384_d2 h_S_)))
def pulled (D E : Cube) (L : FVec Ideal S4x16384x1 .f32) : Cube :=
  mulf (mulf (addf (Host.divf D (broadcastInDim S4x16384x256 ![0, 1, 2] bcast_S4x16384x1_S4x16384x256_0_1_2 L)) (broadcastInDim S4x16384x256 ![0, 1] bcast_S4x16384_S4x16384x256_0_1 (Host.reduceAdd (Host.negf (shapeCast S4x16384x1 (Host.reduceAdd (mulf (mulf D (broadcastInDim S4x16384x256 ![0, 1, 2] bcast_S4x16384x1_S4x16384x256_0_1_2 (Host.divf (broadcastInDim S4x16384x1 ![] bcast_S_S4x16384x1 (constant S_ .f32 0x3F800000#32)) (mulf L L)))) E) (constant S_ .f32 0x00000000#32) reducesTo_S4x16384x256_S4x16384_d2 h_S_) shapeCasts_S4x16384_S4x16384x1)) (constant S_ .f32 0x00000000#32) reducesTo_S4x16384x1_S4x16384_d2 h_S_))) E) (broadcastInDim S4x16384x256 ![] bcast_S_S4x16384x256 (constant S_ .f32 0x3D800000#32))

theorem v36_eq : res_main_v36 V0 = top (res_main_v35 V0) := rfl
theorem v56_eq : res_main_v56 V0 = lifted (res_main_v35 V0) (res_main_v36 V0) := rfl
theorem v89_eq : res_main_v89 V0 = pulled (res_main_v73 V0) (res_main_v56 V0) (res_main_v58 V0) := rfl

theorem top_at (s : Cube) (h : Fin 4) (r : Fin 16384) : top s (ix2 h r) = Finset.univ.fold max (⊥ : EReal) fun j : Fin 256 => s (ix3 h r j) := by
  pointwise [top]
  rw [ofBits_bot]

theorem lifted_at (s : Cube) (t : FVec Ideal S4x16384 .f32) (h : Fin 4) (r : Fin 16384) (j : Fin 256) : lifted s t (ix3 h r j) = Ideal.exp (s (ix3 h r j) - t (ix2 h r)) := by
  pointwise [lifted]
  rw [ofBits_bot, max_eq_right bot_le]

theorem pulled_at (D E : Cube) (L : FVec Ideal S4x16384x1 .f32) (h : Fin 4) (r : Fin 16384) (j : Fin 256) : pulled D E L (ix3 h r j)
    = (Ideal.div (D (ix3 h r j)) (L (ix3 h r 0)) + -∑ k, D (ix3 h r k) * Ideal.div (Ideal.ofBits .f32 0x3F800000#32) (L (ix3 h r 0) * L (ix3 h r 0)) * E (ix3 h r k)) * E (ix3 h r j) * Ideal.ofBits .f32 0x3D800000#32 := by
  pointwise [pulled]
  rw [Fin.sum_univ_one]

theorem ofBits_one : Ideal.ofBits .f32 0x3F800000#32 = ((1 : ℝ) : EReal) := by
  simp [Ideal.ofBits, Ideal.ieee, -EReal.coe_mul]; norm_num

/-- The pulled-back weight over reals. -/
theorem pulled_real {n : ℕ} (s D : Fin n → ℝ) (C : ℝ) (hC : 0 < C) (hn : 0 < n) (j : Fin n) :
    (D j * (1 / ((∑ k, Real.exp (s k)) * C)) + -∑ k, D k * (1 * (1 / ((∑ k, Real.exp (s k)) * C * ((∑ k, Real.exp (s k)) * C)))) * (Real.exp (s k) * C)) * (Real.exp (s j) * C) * (1 / 16)
      = soft s j * (D j - ∑ k, soft s k * D k) * (1 / 16) := by
  have hp := sum_exp_pos hn s
  unfold soft
  have e : ∑ k, D k * (1 * (1 / ((∑ k, Real.exp (s k)) * C * ((∑ k, Real.exp (s k)) * C)))) * (Real.exp (s k) * C) = (∑ k, Real.exp (s k) / (∑ k, Real.exp (s k)) * D k) / ((∑ k, Real.exp (s k)) * C) := by
    rw [Finset.sum_div]; refine Finset.sum_congr rfl fun k _ => ?_; field_simp
  rw [e]; field_simp; ring

variable {V0 w x d} (H : Holds V0 w x d) (r : Fin 16384)
include H

theorem v19 : res_main_v19 V0 (ix2 r 0) = (ms (x r) : EReal) := by
  pointwise [res_main_v19]
  simp only [H.x, ms_eq]

theorem v20 : res_main_v20 V0 (ix2 r 0) = (scale (x r) : EReal) := by
  pointwise [res_main_v20]
  rw [v19 H, scale_eq]

theorem v25 (a : Fin 1024) : res_main_v25 V0 (ix2 r a) = ((x r a * scale (x r) : ℝ) : EReal) := by
  pointwise [res_main_v25]
  simp only [v20 H, H.x, ← EReal.coe_mul]

theorem v12 (a : Fin 1024) : res_main_v12 V0 (ix2 r a) = (w.hx (x r) a : EReal) := by
  pointwise [res_main_v12]
  simp only [H.x, ms_eq, scale_eq]
  simp only [H.g, ← EReal.coe_mul]; rfl

theorem v30 (h : Fin 4) (c : Fin 256) : res_main_v30 V0 (ix3 r h c) = (w.q (x r) (col h c) : EReal) := by
  pointwise [res_main_v30, res_main_v26]
  simp only [v25 H, H.g, H.wq, col_mul, ← EReal.coe_mul, ← coe_sum]; rfl

theorem v31 (j : Fin 256) (h : Fin 4) (c : Fin 256) : res_main_v31 V0 (ix3 j h c) = (w.k j (col h c) : EReal) := by
  pointwise [res_main_v31]
  simp only [H.k, col_mul]

theorem v32 (j : Fin 256) (h : Fin 4) (c : Fin 256) : res_main_v32 V0 (ix3 j h c) = (w.v j (col h c) : EReal) := by
  pointwise [res_main_v32]
  simp only [H.v, col_mul]

theorem v35 (h : Fin 4) (j : Fin 256) : res_main_v35 V0 (ix3 h r j) = (w.s (x r) h j : EReal) := by
  pointwise [res_main_v35]
  simp only [v30 H, v31 H, ofBits_16th, ← EReal.coe_mul, ← coe_sum]; rfl

theorem v36 (h : Fin 4) : res_main_v36 V0 (ix2 h r) = Finset.univ.fold max (⊥ : EReal) fun j => (w.s (x r) h j : EReal) := by
  rw [v36_eq, top_at]
  simp only [v35 H]

theorem v56 (h : Fin 4) : ∃ C : ℝ, 0 < C ∧ ∀ j, res_main_v56 V0 (ix3 h r j) = ((Real.exp (w.s (x r) h j) * C : ℝ) : EReal) := by
  obtain ⟨C, hC, e⟩ := exps (by norm_num) (w.s (x r) h)
  refine ⟨C, hC, fun j => ?_⟩
  rw [v56_eq, lifted_at, v36 H, v35 H]
  exact e j

theorem v58 (h : Fin 4) {C : ℝ} (e : ∀ j, res_main_v56 V0 (ix3 h r j) = ((Real.exp (w.s (x r) h j) * C : ℝ) : EReal)) :
    res_main_v58 V0 (ix3 h r 0) = (((∑ j, Real.exp (w.s (x r) h j)) * C : ℝ) : EReal) := by
  pointwise [res_main_v58]
  simp only [e, ← coe_sum, Finset.sum_mul]

theorem v60 (h : Fin 4) (j : Fin 256) : res_main_v60 V0 (ix3 h r j) = (w.p (x r) h j : EReal) := by
  obtain ⟨C, hC, e⟩ := v56 H r h
  have hp := sum_exp_pos (by norm_num) (w.s (x r) h)
  pointwise [res_main_v60]
  rw [v58 H r h e, e, Ideal.div_coe (mul_pos hp hC).ne', ← EReal.coe_mul]
  unfold Mem.p soft; congr 1; field_simp

theorem v72 (h : Fin 4) (c : Fin 256) : res_main_v72 V0 (ix3 h c r) = (w.e (d r) (col h c) : EReal) := by
  pointwise [res_main_v72]
  simp only [H.d, H.wo, col_mul, ← EReal.coe_mul, ← coe_sum]; rfl

theorem v73 (h : Fin 4) (j : Fin 256) : res_main_v73 V0 (ix3 h r j) = (w.dp (d r) h j : EReal) := by
  pointwise [res_main_v73]
  simp only [v72 H, v32 H, ← EReal.coe_mul, ← coe_sum]; rfl

theorem v89 (h : Fin 4) (j : Fin 256) : res_main_v89 V0 (ix3 h r j) = (w.ds (x r) (d r) h j : EReal) := by
  obtain ⟨C, hC, e⟩ := v56 H r h
  have hp := sum_exp_pos (by norm_num) (w.s (x r) h)
  rw [v89_eq, pulled_at]
  simp only [v73 H, v58 H r h e, e, ofBits_one, ofBits_16th, ← EReal.coe_mul]
  rw [Ideal.div_coe (mul_pos hp hC).ne', Ideal.div_coe (mul_pos (mul_pos hp hC) (mul_pos hp hC)).ne']
  simp only [← EReal.coe_mul, ← coe_sum, ← EReal.coe_neg, ← EReal.coe_add]
  exact congrArg _ (pulled_real (w.s (x r) h) (w.dp (d r) h) C hC (by norm_num) j)

theorem v97 (a : Fin 1024) : res_main_v97 V0 (ix2 r a) = (w.dh (x r) (d r) a : EReal) := by
  pointwise [res_main_v97]
  simp only [v89 H, v31 H, H.wq, ← EReal.coe_mul, ← coe_sum]; rfl

theorem v102 (a : Fin 1024) : res_main_v102 V0 (ix2 r a) = ((w.dh (x r) (d r) a * w.g a : ℝ) : EReal) := by
  pointwise [res_main_v102, res_main_v26]
  simp only [v97 H, H.g, ← EReal.coe_mul]

theorem v114 (a : Fin 1024) : res_main_v114 V0 (ix2 r a) = (((∑ b, x r b * (w.dh (x r) (d r) b * w.g b)) * (-(1 / 2) * (scale (x r) * scale (x r) * scale (x r))) / 1024 : ℝ) : EReal) := by
  pointwise [res_main_v114]
  rw [Fin.sum_univ_one]
  simp only [v102 H, v19 H, v20 H, H.x, scale_div_ms, ofBits_neg_half, ← EReal.coe_mul, ← coe_sum, div_1024]

theorem v161 (h : Fin 4) (j : Fin 256) : res_main_v161 V0 (ix3 h r j) = (w.dp (d r) h j : EReal) := by
  pointwise [res_main_v161]
  rw [v122_eq]
  simp only [v32 H, H.d, H.wo, col_mul, ← EReal.coe_mul, ← coe_sum]; rfl

theorem v161_eq : res_main_v161 V0 = res_main_v73 V0 := by
  funext y
  obtain ⟨h, r, j, rfl⟩ : ∃ h r j, y = ix3 h r j := ⟨_, _, _, eq_ix3 y⟩
  rw [v161 H, v73 H]

theorem res118 (a : Fin 1024) (T : FVec Ideal S16384x1024 .f32) (hT : T = addf (addf (addf (V0 (Proc.devRef .tc main_arg6)) (mulf (res_main_v102 V0) (broadcastInDim S16384x1024 ![0, 1] bcast_S16384x1_S16384x1024_0_1 (res_main_v20 V0)))) (mulf (V0 (Proc.devRef .tc main_arg0)) (res_main_v114 V0))) (mulf (res_main_v114 V0) (V0 (Proc.devRef .tc main_arg0)))) : T (ix2 r a) = (w.dx (x r) (d r) a : EReal) := by
  subst hT
  pointwise
  simp only [H.d, H.x, v102 H, v20 H, v114 H, ← EReal.coe_mul, ← EReal.coe_add]
  exact congrArg _ (back_staged (x r) (fun b => w.dh (x r) (d r) b * w.g b) a (d r a))

theorem outputs (P : Cube) (hP : ∀ h r j, P (ix3 h r j) = (w.p (x r) h j : EReal)) (a : Fin 1024) :
    (truncf .bf16 (shapeCast S16384x1024 (transpose S16384x4x256 [2, 0, 1] (Host.dotGeneral (F := Ideal) (φ₁ := .f32) (φ₂ := .f32) dot_S256x4x256_S4x16384x256_S4x256x16384_0_2_2_1_1_0 none (res_main_v32 V0 : FVec Ideal S256x4x256 .f32) P) transposes_S4x256x16384_S16384x4x256_2_0_1) shapeCasts_S16384x4x256_S16384x1024) bitsLt_bf16_f32 : FVec Ideal S16384x1024 .bf16) (ix2 r a) = (flat (w.o (x r)) a : EReal) := by
  pointwise
  simp only [hP, v32 H, ← EReal.coe_mul, ← coe_sum]
  exact congrArg _ (Finset.sum_congr rfl fun j _ => mul_comm _ _)

theorem queries (P : Cube) (hP : ∀ h r j, P (ix3 h r j) = (w.ds (x r) (d r) h j : EReal)) (a : Fin 1024) :
    (truncf .bf16 (shapeCast S16384x1024 (transpose S16384x4x256 [1, 0, 2] (Host.dotGeneral (F := Ideal) (φ₁ := .f32) (φ₂ := .f32) dot_S4x16384x256_S256x4x256_S4x16384x256_2_0_1_2_0_1 none P (res_main_v121 V0 : FVec Ideal S256x4x256 .f32)) transposes_S4x16384x256_S16384x4x256_1_0_2) shapeCasts_S16384x4x256_S16384x1024) bitsLt_bf16_f32 : FVec Ideal S16384x1024 .bf16) (ix2 r a) = (flat (w.dq (x r) (d r)) a : EReal) := by
  rw [v121_eq]
  pointwise
  simp only [hP, v31 H, ← EReal.coe_mul, ← coe_sum]; rfl

theorem weights' (h : Fin 4) (j : Fin 256) : probs (res_main_v192 V0) (ix3 h r j) = (w.p (x r) h j : EReal) := v60 H r h j
theorem scores' (h : Fin 4) (j : Fin 256) : pulled (res_main_v161 V0) (res_main_v146 V0) (res_main_v148 V0) (ix3 h r j) = (w.ds (x r) (d r) h j : EReal) := by
  rw [v161_eq H, v146_eq, v148_eq, ← v89_eq]; exact v89 H r h j

omit H in
theorem res202 (T : FVec Ideal S16384x1024 .bf16) (hT : T = truncf .bf16 (res_main_v12 V0) bitsLt_bf16_f32) (r : Fin 16384) (a : Fin 1024) : T (ix2 r a) = res_main_v12 V0 (ix2 r a) := by
  subst hT
  pointwise

theorem res203 (a : Fin 1024) (T : FVec Ideal S1x1024 .f32) (hT : T = shapeCast _ (Host.reduceAdd (shapeCast _ (Host.reduceAdd (mulf (res_main_v25 V0) (res_main_v97 V0)) (constant S_ .f32 0x00000000#32) reducesTo_S16384x1024_S1024_d0 h_S_) shapeCasts_S1024_S1x1024) (constant S_ .f32 0x00000000#32) reducesTo_S1x1024_S1024_d0 h_S_) shapeCasts_S1024_S1x1024) : T (ix2 0 a) = ((∑ r, w.dg (x r) (d r) a : ℝ) : EReal) := by
  subst hT
  pointwise
  rw [Fin.sum_univ_one]
  simp only [v25 H, v97 H, ← EReal.coe_mul, ← coe_sum]
  exact congrArg _ (Finset.sum_congr rfl fun r _ => mul_comm _ _)

theorem res95 (j : Fin 256) (a : Fin 1024) (T : FVec Ideal S256x1024 .f32) (hT : T = shapeCast _ (transpose S256x4x256 [1, 0, 2] (Host.dotGeneral (F := Ideal) (φ₁ := .f32) (φ₂ := .f32) dot_S4x16384x256_S16384x4x256_S4x256x256_1_0_2_2_0_1 none (res_main_v89 V0 : Cube) (res_main_v30 V0 : FVec Ideal S16384x4x256 .f32)) transposes_S4x256x256_S256x4x256_1_0_2) shapeCasts_S256x4x256_S256x1024) : T (ix2 j a) = (flat (fun h c => ∑ r, w.ds (x r) (d r) h j * w.q (x r) (col h c)) a : EReal) := by
  subst hT
  pointwise
  simp only [v89 H, v30 H, ← EReal.coe_mul, ← coe_sum]; rfl

theorem res94 (j : Fin 256) (a : Fin 1024) (T : FVec Ideal S256x1024 .f32) (hT : T = shapeCast _ (transpose S256x4x256 [2, 0, 1] (Host.dotGeneral (F := Ideal) (φ₁ := .f32) (φ₂ := .f32) dot_S4x256x16384_S4x16384x256_S4x256x256_2_1_1_2_0_0 none (res_main_v72 V0 : FVec Ideal S4x256x16384 .f32) (res_main_v60 V0 : Cube)) transposes_S4x256x256_S256x4x256_2_0_1) shapeCasts_S256x4x256_S256x1024) : T (ix2 j a) = (flat (fun h c => ∑ r, w.p (x r) h j * w.e (d r) (col h c)) a : EReal) := by
  subst hT
  pointwise
  simp only [v72 H, v60 H, ← EReal.coe_mul, ← coe_sum]
  exact congrArg _ (Finset.sum_congr rfl fun r _ => mul_comm _ _)

end Cert.XattnReferenceIdeal.Value
end
-- ==== Proof.Xattn.lean ====
/- The memory attention's backward: the kernel's seven results over the whole array, and the value claim. -/
module

public import proofs.«01_k».proof.Proof.XattnOut
public import proofs.«01_k».proof.Proof.XattnRef
public import proofs.«01_k».proof.Proof.Gen.Pre_xattn_finite

@[expose] public section

set_option maxRecDepth 200000

noncomputable section

namespace Cert.XattnKernelIdeal.Value

open Idealize.ShloMosaic Idealize.ShloMosaic.TcCoe Idealize.SL.Sem
open Idealize.ShloMosaic.Pipeline (Dat)
open Cert.XattnKernelIdeal Cert.XattnKernelIdeal.Gen Cert.Rows Cert.Reals

variable (m : (ℓ : Loc nD τ sig) → Buf (Elt Ideal) ℓ) (c : Dev nD) (w : Mem) (x d : Fin 16384 → Fin 1024 → ℝ) (H : Holds m c w x d)
include H

theorem final7 : (dats m 0 c).arrAt 7 (cfgs 0).N = (fun i => ((w.dx (x (i 0)) (d (i 0)) (i 1) : ℝ) : EReal) : FVec Ideal S16384x1024 .f32) := by
  refine (dats m 0 c).arrAt_eq_of_covers 7 _ (by decide +kernel) fun t hf y => ?_
  have e : ((cfg0.win 7).blk t).view.emb y = ix2 (row t (y 0)) (y 1) := by blk_ext [idx t, row]
  rw [e]
  blk_simp; rw [after0_7]
  exact Eq.trans (congrArg _ (eq_ix2 y)) (out7 m c w x d H t (y 0) (y 1))

theorem final8 : (dats m 0 c).arrAt 8 (cfgs 0).N = (fun i => ((flat (w.o (x (i 0))) (i 1) : ℝ) : EReal) : FVec Ideal S16384x1024 .bf16) := by
  refine (dats m 0 c).arrAt_eq_of_covers 8 _ (by decide +kernel) fun t hf y => ?_
  have e : ((cfg0.win 8).blk t).view.emb y = ix2 (row t (y 0)) (y 1) := by blk_ext [idx t, row]
  rw [e]
  blk_simp; rw [after0_8]
  exact Eq.trans (congrArg _ (eq_ix2 y)) (out8 m c w x d H t (y 0) (y 1))

theorem final9 : (dats m 0 c).arrAt 9 (cfgs 0).N = (fun i => ((flat (w.dq (x (i 0)) (d (i 0))) (i 1) : ℝ) : EReal) : FVec Ideal S16384x1024 .bf16) := by
  refine (dats m 0 c).arrAt_eq_of_covers 9 _ (by decide +kernel) fun t hf y => ?_
  have e : ((cfg0.win 9).blk t).view.emb y = ix2 (row t (y 0)) (y 1) := by blk_ext [idx t, row]
  rw [e]
  blk_simp; rw [after0_9]
  exact Eq.trans (congrArg _ (eq_ix2 y)) (out9 m c w x d H t (y 0) (y 1))

theorem final10 : (dats m 0 c).arrAt 10 (cfgs 0).N = (fun i => ((w.hx (x (i 0)) (i 1) : ℝ) : EReal) : FVec Ideal S16384x1024 .bf16) := by
  refine (dats m 0 c).arrAt_eq_of_covers 10 _ (by decide +kernel) fun t hf y => ?_
  have e : ((cfg0.win 10).blk t).view.emb y = ix2 (row t (y 0)) (y 1) := by blk_ext [idx t, row]
  rw [e]
  blk_simp; rw [after0_10]
  exact Eq.trans (congrArg _ (eq_ix2 y)) (out10 m c w x d H t (y 0) (y 1))

omit H in
theorem ix2_one (y : S1x1024.Idx) : y = ix2 (0 : Fin 1) (y 1) := (eq_ix2 y).trans (congrArg (fun z : Fin 1 => ix2 z (y 1)) (Subsingleton.elim _ _))

theorem final11 : (dats m 0 c).arrAt 11 (cfgs 0).N = (fun i => ((∑ r, w.dg (x r) (d r) (i 1) : ℝ) : EReal) : FVec Ideal S1x1024 .f32) := by
  refine (dats m 0 c).arrAt_eq_of_covers 11 _ (by decide +kernel) fun t hf y => ?_
  have e : ((cfg0.win 11).blk t).view.emb y = y := by blk_ext [idx t]
  rw [e]
  blk_simp; rw [after0_11]
  rw [Pipeline.eq_sum_fin_of_reset_step_apply_of_flush (fun n h => (outsAt0 m c n h).2.2.2.2.1) 32 (fun _ => (0 : EReal)) (fun t y => ((∑ r, w.dg (x (row t r)) (d (row t r)) (y 1) : ℝ) : EReal))
    (fun t h y => by rw [ix2_one y]; exact out11 m c w x d H t (y 1) 0 (fun _ => rfl) fun h' => absurd h h')
    (fun t h y => by rw [ix2_one y]; exact out11 m c w x d H t (y 1) _ (fun h' => absurd h' h) fun _ => rfl) t ((flush0_11 t).mp hf) y]
  rw [zero_add]
  simp only [coe_sum]
  refine Fin.sum_mul_add_congr fun s k hl => ?_
  rw [show row ⟨_, Pipeline.run_point_lt_of_flush t ((flush0_11 t).mp hf) s⟩ k = ⟨_, hl⟩ from Fin.ext (by have := point_lt t; simp only [row]; omega)]

theorem final12 : (dats m 0 c).arrAt 12 (cfgs 0).N = (fun i => ((flat (fun h e => ∑ r, w.ds (x r) (d r) h (i 0) * w.q (x r) (col h e)) (i 1) : ℝ) : EReal) : FVec Ideal S256x1024 .f32) := by
  refine (dats m 0 c).arrAt_eq_of_covers 12 _ (by decide +kernel) fun t hf y => ?_
  have e : ((cfg0.win 12).blk t).view.emb y = y := by blk_ext [idx t]
  rw [e]
  blk_simp; rw [after0_12]
  rw [Pipeline.eq_sum_fin_of_reset_step_apply_of_flush (fun n h => (outsAt0 m c n h).2.2.2.2.2.1) 32 (fun _ => (0 : EReal)) (fun t y => ((w.stepK (fun r => x (row t r)) (fun r => d (row t r)) (y 0) (y 1) : ℝ) : EReal))
    (fun t h y => by rw [eq_ix2 y]; exact out12 m c w x d H t (y 0) (y 1) 0 (fun _ => rfl) fun h' => absurd h h')
    (fun t h y => by rw [eq_ix2 y]; exact out12 m c w x d H t (y 0) (y 1) _ (fun h' => absurd h' h) fun _ => rfl) t ((flush0_12 t).mp hf) y]
  rw [zero_add]
  simp only [Mem.stepK, Mem.stepV, flat, coe_sum]
  refine Fin.sum_mul_add_congr fun s k hl => ?_
  rw [show row ⟨_, Pipeline.run_point_lt_of_flush t ((flush0_12 t).mp hf) s⟩ k = ⟨_, hl⟩ from Fin.ext (by have := point_lt t; simp only [row]; omega)]

theorem final13 : (dats m 0 c).arrAt 13 (cfgs 0).N = (fun i => ((flat (fun h e => ∑ r, w.p (x r) h (i 0) * w.e (d r) (col h e)) (i 1) : ℝ) : EReal) : FVec Ideal S256x1024 .f32) := by
  refine (dats m 0 c).arrAt_eq_of_covers 13 _ (by decide +kernel) fun t hf y => ?_
  have e : ((cfg0.win 13).blk t).view.emb y = y := by blk_ext [idx t]
  rw [e]
  blk_simp; rw [after0_13]
  rw [Pipeline.eq_sum_fin_of_reset_step_apply_of_flush (fun n h => (outsAt0 m c n h).2.2.2.2.2.2) 32 (fun _ => (0 : EReal)) (fun t y => ((w.stepV (fun r => x (row t r)) (fun r => d (row t r)) (y 0) (y 1) : ℝ) : EReal))
    (fun t h y => by rw [eq_ix2 y]; exact out13 m c w x d H t (y 0) (y 1) 0 (fun _ => rfl) fun h' => absurd h h')
    (fun t h y => by rw [eq_ix2 y]; exact out13 m c w x d H t (y 0) (y 1) _ (fun h' => absurd h' h) fun _ => rfl) t ((flush0_13 t).mp hf) y]
  rw [zero_add]
  simp only [Mem.stepK, Mem.stepV, flat, coe_sum]
  refine Fin.sum_mul_add_congr fun s k hl => ?_
  rw [show row ⟨_, Pipeline.run_point_lt_of_flush t ((flush0_13 t).mp hf) s⟩ k = ⟨_, hl⟩ from Fin.ext (by have := point_lt t; simp only [row]; omega)]

end Cert.XattnKernelIdeal.Value

namespace Cert.Proof

open Idealize.ShloMosaic Idealize.SL.Sem Cert.Reals Cert.XattnKernelIdeal.Value

/-- The reference is host operations only and declares no semaphore. -/
theorem xattn_reference_frame : Cert.quiescent_XattnReferenceIdeal := fun m ρ _ =>
  (θ_run Cert.XattnReferenceIdeal.defs _ _).mono (fun r h => ⟨fun c => (h c).2.2.2.2.2.2.2,
      sem_eq_zero_of_no_sems (by decide) r.2⟩)
    (Cert.XattnReferenceIdeal.Value.run (F := Ideal) m ρ)

theorem real_eq {y : EReal} (h : IsReal y) : y = ((y.toReal : ℝ) : EReal) := by
  obtain ⟨r, rfl⟩ := h; rfl

/-- Finite arguments are reals, the same in both programs. -/
theorem xattn_reals (m : (ℓ : Loc Cert.XattnKernelIdeal.nD Cert.XattnKernelIdeal.τ Cert.XattnKernelIdeal.sig) → Buf (Elt Ideal) ℓ)
    (m' : (ℓ : Loc Cert.XattnReferenceIdeal.nD Cert.XattnReferenceIdeal.τ Cert.XattnReferenceIdeal.sig) → Buf (Elt Ideal) ℓ) (c : Dev Cert.XattnKernelIdeal.nD)
    (hx : ∀ i, IsReal (m ((c.tc : Thread _ Cert.XattnKernelIdeal.τ).loc Cert.XattnKernelIdeal.main_arg0) i))
    (hg : ∀ i, IsReal (m ((c.tc : Thread _ Cert.XattnKernelIdeal.τ).loc Cert.XattnKernelIdeal.main_arg1) i))
    (hwq : ∀ i, IsReal (m ((c.tc : Thread _ Cert.XattnKernelIdeal.τ).loc Cert.XattnKernelIdeal.main_arg2) i))
    (hk : ∀ i, IsReal (m ((c.tc : Thread _ Cert.XattnKernelIdeal.τ).loc Cert.XattnKernelIdeal.main_arg3) i))
    (hv : ∀ i, IsReal (m ((c.tc : Thread _ Cert.XattnKernelIdeal.τ).loc Cert.XattnKernelIdeal.main_arg4) i))
    (hwo : ∀ i, IsReal (m ((c.tc : Thread _ Cert.XattnKernelIdeal.τ).loc Cert.XattnKernelIdeal.main_arg5) i))
    (hd : ∀ i, IsReal (m ((c.tc : Thread _ Cert.XattnKernelIdeal.τ).loc Cert.XattnKernelIdeal.main_arg6) i))
    (ax : m' ((c.tc : Thread _ Cert.XattnReferenceIdeal.τ).loc Cert.XattnReferenceIdeal.main_arg0) = m ((c.tc : Thread _ Cert.XattnKernelIdeal.τ).loc Cert.XattnKernelIdeal.main_arg0))
    (ag : m' ((c.tc : Thread _ Cert.XattnReferenceIdeal.τ).loc Cert.XattnReferenceIdeal.main_arg1) = m ((c.tc : Thread _ Cert.XattnKernelIdeal.τ).loc Cert.XattnKernelIdeal.main_arg1))
    (awq : m' ((c.tc : Thread _ Cert.XattnReferenceIdeal.τ).loc Cert.XattnReferenceIdeal.main_arg2) = m ((c.tc : Thread _ Cert.XattnKernelIdeal.τ).loc Cert.XattnKernelIdeal.main_arg2))
    (ak : m' ((c.tc : Thread _ Cert.XattnReferenceIdeal.τ).loc Cert.XattnReferenceIdeal.main_arg3) = m ((c.tc : Thread _ Cert.XattnKernelIdeal.τ).loc Cert.XattnKernelIdeal.main_arg3))
    (av : m' ((c.tc : Thread _ Cert.XattnReferenceIdeal.τ).loc Cert.XattnReferenceIdeal.main_arg4) = m ((c.tc : Thread _ Cert.XattnKernelIdeal.τ).loc Cert.XattnKernelIdeal.main_arg4))
    (awo : m' ((c.tc : Thread _ Cert.XattnReferenceIdeal.τ).loc Cert.XattnReferenceIdeal.main_arg5) = m ((c.tc : Thread _ Cert.XattnKernelIdeal.τ).loc Cert.XattnKernelIdeal.main_arg5))
    (ad : m' ((c.tc : Thread _ Cert.XattnReferenceIdeal.τ).loc Cert.XattnReferenceIdeal.main_arg6) = m ((c.tc : Thread _ Cert.XattnKernelIdeal.τ).loc Cert.XattnKernelIdeal.main_arg6)) :
    ∃ w x d, Cert.XattnKernelIdeal.Value.Holds m c w x d ∧ Cert.XattnReferenceIdeal.Value.Holds (StableHlo.launchContents m' c) w x d :=
  ⟨⟨fun a => EReal.toReal ((m ((c.tc : Thread _ Cert.XattnKernelIdeal.τ).loc Cert.XattnKernelIdeal.main_arg1) : _ → EReal) (ix1 a)), fun a b => EReal.toReal ((m ((c.tc : Thread _ Cert.XattnKernelIdeal.τ).loc Cert.XattnKernelIdeal.main_arg2) : _ → EReal) (ix2 a b)),
      fun a b => EReal.toReal ((m ((c.tc : Thread _ Cert.XattnKernelIdeal.τ).loc Cert.XattnKernelIdeal.main_arg5) : _ → EReal) (ix2 a b)), fun a b => EReal.toReal ((m ((c.tc : Thread _ Cert.XattnKernelIdeal.τ).loc Cert.XattnKernelIdeal.main_arg3) : _ → EReal) (ix2 a b)),
      fun a b => EReal.toReal ((m ((c.tc : Thread _ Cert.XattnKernelIdeal.τ).loc Cert.XattnKernelIdeal.main_arg4) : _ → EReal) (ix2 a b))⟩, fun r a => EReal.toReal ((m ((c.tc : Thread _ Cert.XattnKernelIdeal.τ).loc Cert.XattnKernelIdeal.main_arg0) : _ → EReal) (ix2 r a)), fun r a => EReal.toReal ((m ((c.tc : Thread _ Cert.XattnKernelIdeal.τ).loc Cert.XattnKernelIdeal.main_arg6) : _ → EReal) (ix2 r a)),
    ⟨fun _ _ => real_eq (hx _), fun _ => real_eq (hg _), fun _ _ => real_eq (hwq _), fun _ _ => real_eq (hk _), fun _ _ => real_eq (hv _), fun _ _ => real_eq (hwo _), fun _ _ => real_eq (hd _)⟩,
    ⟨fun _ _ => (congrFun ax _).trans (real_eq (hx _)), fun _ => (congrFun ag _).trans (real_eq (hg _)), fun _ _ => (congrFun awq _).trans (real_eq (hwq _)),
      fun _ _ => (congrFun ak _).trans (real_eq (hk _)), fun _ _ => (congrFun av _).trans (real_eq (hv _)), fun _ _ => (congrFun awo _).trans (real_eq (hwo _)),
      fun _ _ => (congrFun ad _).trans (real_eq (hd _))⟩⟩

set_option maxHeartbeats 2000000 in
/-- The kernel's results are the derivative of the reference's forward lines. -/
theorem xattn_algebraic : Cert.algebraic_XattnKernelIdeal_XattnReferenceIdeal_pre_xattn_finite := by
  pair_intro
  · run_from Cert.XattnKernelIdeal.Gen.run_main m g
  · run_from Cert.XattnReferenceIdeal.Value.run m' g'
    all_goals
      obtain ⟨ax, ag, awq, ak, av, awo, ad⟩ := hagree c
      obtain ⟨w, x, d, H, H'⟩ := xattn_reals m m' c (fun i => isReal_of_abs_lt (congrFun (hpre c).1 i)) (fun i => isReal_of_abs_lt (congrFun (hpre c).2.1 i))
        (fun i => isReal_of_abs_lt (congrFun (hpre c).2.2.1 i)) (fun i => isReal_of_abs_lt (congrFun (hpre c).2.2.2.1 i)) (fun i => isReal_of_abs_lt (congrFun (hpre c).2.2.2.2.1 i))
        (fun i => isReal_of_abs_lt (congrFun (hpre c).2.2.2.2.2.1 i)) (fun i => isReal_of_abs_lt (congrFun (hpre c).2.2.2.2.2.2 i)) ax ag awq ak av awo ad
      try rw [← ax]
      try rw [← ad]
      try rw [← av]
      clear hpre hagree ax ag awq ak av awo ad
    · refine Eq.trans ?_ (final7 m c w x d H).symm
      funext j; obtain ⟨r, a, rfl⟩ : ∃ r a, j = ix2 r a := ⟨_, _, eq_ix2 j⟩
      exact Cert.XattnReferenceIdeal.Value.res118 H' r a _ rfl
    · refine Eq.trans ?_ (final8 m c w x d H).symm
      funext j; obtain ⟨r, a, rfl⟩ : ∃ r a, j = ix2 r a := ⟨_, _, eq_ix2 j⟩
      exact Cert.XattnReferenceIdeal.Value.outputs H' r _ (fun h r j => Cert.XattnReferenceIdeal.Value.weights' H' r h j) a
    · refine Eq.trans ?_ (final9 m c w x d H).symm
      funext j; obtain ⟨r, a, rfl⟩ : ∃ r a, j = ix2 r a := ⟨_, _, eq_ix2 j⟩
      exact Cert.XattnReferenceIdeal.Value.queries H' r _ (fun h r j => Cert.XattnReferenceIdeal.Value.scores' H' r h j) a
    · refine Eq.trans ?_ (final10 m c w x d H).symm
      funext j; obtain ⟨r, a, rfl⟩ : ∃ r a, j = ix2 r a := ⟨_, _, eq_ix2 j⟩
      exact (Cert.XattnReferenceIdeal.Value.res202 _ rfl r a).trans (Cert.XattnReferenceIdeal.Value.v12 H' r a)
    · refine Eq.trans ?_ (final11 m c w x d H).symm
      funext j; rw [ix2_one j]
      exact Cert.XattnReferenceIdeal.Value.res203 H' (j 1) _ rfl
    · refine Eq.trans ?_ (final12 m c w x d H).symm
      funext j; obtain ⟨r, a, rfl⟩ : ∃ r a, j = ix2 r a := ⟨_, _, eq_ix2 j⟩
      exact Cert.XattnReferenceIdeal.Value.res95 H' r a _ rfl
    · refine Eq.trans ?_ (final13 m c w x d H).symm
      funext j; obtain ⟨r, a, rfl⟩ : ∃ r a, j = ix2 r a := ⟨_, _, eq_ix2 j⟩
      exact Cert.XattnReferenceIdeal.Value.res94 H' r a _ rfl

end Cert.Proof

end
-- ==== Proof.Post.lean ====
/- The even block's output projection, backward: the kernel's five arrays, index by index, and what the host lines around it make. -/
module

public import proofs.«01_k».proof.Proof.Reals
public import proofs.«01_k».proof.Proof.Gen.PostKernelIdeal.Frame
public import proofs.«01_k».proof.Proof.Gen.PostReferenceIdeal.Run
public import proofs.«01_k».proof.Defs
public import Idealize.ShloMosaic.Lib.Claim
public import Idealize.ShloMosaic.Lib.Pipeline.Value
public import Idealize.ShloMosaic.Lib.Pipeline.ValueKit

@[expose] public section

set_option maxRecDepth 200000

noncomputable section

namespace Cert.PostKernelIdeal.Value

open Idealize.ShloMosaic Idealize.ShloMosaic.TcCoe Idealize.SL.Sem
open Idealize.ShloMosaic.Pipeline (Dat)
open Cert.PostKernelIdeal Cert.PostKernelIdeal.Gen Cert.Reals

/-- Column `a` of the padded head `h`. -/
def lane (h : Fin 8) (a : Fin 128) : Fin 1024 := ⟨h.val * 128 + a.val, by omega⟩

/-- A row's product with its cotangent, summed over one padded head. -/
def dsum {n : ℕ} (X O : Fin n → Fin 1024 → EReal) (W : Fin 1024 → Fin 1024 → EReal) (h : Fin 8) (q : Fin n) : EReal :=
  ∑ a : Fin 128, (∑ k, X q k * W (lane h a) k) * O q (lane h a)

variable (X : Vec Ideal S512x1024 .f32) (O : Vec Ideal S512x1024 .f32) (W : Vec Ideal S1024x1024 .bf16) (U : Vec Ideal S512x1024 .bf16)

abbrev ofX (Y : FVec Ideal S512x1024 .f32) : Fin 512 → Fin 1024 → EReal := fun r k => Y (ix2 r k)
abbrev ofW (Y : FVec Ideal S1024x1024 .bf16) : Fin 1024 → Fin 1024 → EReal := fun r k => Y (ix2 r k)

theorem pay7_at (r : Fin 512) (j : Fin 512) : k0_pay7 X U (ix2 r j) = ∑ k, X (ix2 r k) * U (ix2 j k) := by
  pointwise [k0_pay7]

theorem pay8_at (r : Fin 512) (j : Fin 1024) : k0_pay8 X W (ix2 r j) = ∑ k, X (ix2 r k) * W (ix2 j k) := by
  pointwise [k0_pay8]

theorem pay9_at (r : Fin 512) (j : Fin 1024) : k0_pay9 X W (ix2 r j) = ∑ k, X (ix2 r k) * W (ix2 j k) := by
  pointwise [k0_pay9]
  exact pay8_at X W r j

theorem pay10_at (r : Fin 512) (j : Fin 1024) : k0_pay10 X O W (ix2 r j) = (∑ k, X (ix2 r k) * W (ix2 j k)) * O (ix2 r j) := by
  pointwise [k0_pay10, k0_pay6]
  rw [pay8_at]

theorem head0 (q : Fin 512) : k0_pay11 X O W (ix4 0 0 0 q) = dsum (ofX X) (ofX O) (ofW W) 0 q := by
  pointwise [k0_pay11]
  refine Finset.sum_congr rfl fun a _ => ?_
  rw [show (⟨_, _⟩ : Fin 1024) = lane 0 a from Fin.ext (by simp [lane]; try omega)]
  exact pay10_at X O W q _

theorem head1 (q : Fin 512) : k0_pay13 (k0_pay12 X O W) (ix4 0 0 0 q) = dsum (ofX X) (ofX O) (ofW W) 1 q := by
  pointwise [k0_pay13, k0_pay12]
  refine Finset.sum_congr rfl fun a _ => ?_
  rw [show (⟨_, _⟩ : Fin 1024) = lane 1 a from Fin.ext (by simp [lane]; try omega)]
  exact pay10_at X O W q _

theorem head2 (q : Fin 512) : k0_pay14 (k0_pay10 X O W) (ix4 0 0 0 q) = dsum (ofX X) (ofX O) (ofW W) 2 q := by
  pointwise [k0_pay14]
  refine Finset.sum_congr rfl fun a _ => ?_
  rw [show (⟨_, _⟩ : Fin 1024) = lane 2 a from Fin.ext (by simp [lane]; try omega)]
  exact pay10_at X O W q _

theorem head3 (q : Fin 512) : k0_pay15 (k0_pay10 X O W) (ix4 0 0 0 q) = dsum (ofX X) (ofX O) (ofW W) 3 q := by
  pointwise [k0_pay15]
  refine Finset.sum_congr rfl fun a _ => ?_
  rw [show (⟨_, _⟩ : Fin 1024) = lane 3 a from Fin.ext (by simp [lane]; try omega)]
  exact pay10_at X O W q _

theorem head4 (q : Fin 512) : k0_pay16 (k0_pay10 X O W) (ix4 0 0 0 q) = dsum (ofX X) (ofX O) (ofW W) 4 q := by
  pointwise [k0_pay16]
  refine Finset.sum_congr rfl fun a _ => ?_
  rw [show (⟨_, _⟩ : Fin 1024) = lane 4 a from Fin.ext (by simp [lane]; try omega)]
  exact pay10_at X O W q _

theorem head5 (q : Fin 512) : k0_pay18 (k0_pay17 (k0_pay10 X O W)) (ix4 0 0 0 q) = dsum (ofX X) (ofX O) (ofW W) 5 q := by
  pointwise [k0_pay18, k0_pay17]
  refine Finset.sum_congr rfl fun a _ => ?_
  rw [show (⟨_, _⟩ : Fin 1024) = lane 5 a from Fin.ext (by simp [lane]; try omega)]
  exact pay10_at X O W q _

theorem head6 (q : Fin 512) : k0_pay19 (k0_pay10 X O W) (ix4 0 0 0 q) = dsum (ofX X) (ofX O) (ofW W) 6 q := by
  pointwise [k0_pay19]
  refine Finset.sum_congr rfl fun a _ => ?_
  rw [show (⟨_, _⟩ : Fin 1024) = lane 6 a from Fin.ext (by simp [lane]; try omega)]
  exact pay10_at X O W q _

theorem head7 (q : Fin 512) : k0_pay20 (k0_pay10 X O W) (ix4 0 0 0 q) = dsum (ofX X) (ofX O) (ofW W) 7 q := by
  pointwise [k0_pay20]
  refine Finset.sum_congr rfl fun a _ => ?_
  rw [show (⟨_, _⟩ : Fin 1024) = lane 7 a from Fin.ext (by simp [lane]; try omega)]
  exact pay10_at X O W q _

theorem zero_word : (FloatOps.sitofp (F := Ideal) .f32 (0#32 : BitVec 32) : EReal) = 0 := by
  show ((((0#32 : BitVec 32).toInt : ℝ)) : EReal) = 0
  simp

theorem zero_word' : (FloatOps.sitofp (F := Ideal) .bf16 (0#32 : BitVec 32) : EReal) = 0 := by
  show ((((0#32 : BitVec 32).toInt : ℝ)) : EReal) = 0
  simp

/-- Column `a` of head `h` without padding. -/
def thin (h : Fin 8) (a : Fin 64) : Fin 512 := ⟨h.val * 64 + a.val, by omega⟩
def upper (j : Fin 512) : Fin 1024 := ⟨j.val, by omega⟩
def lower (j : Fin 512) : Fin 1024 := ⟨512 + j.val, by omega⟩

/-- The attention's output in padded heads, -/
def padO (x : FVec Ideal S16384x512 .f32) : FVec Ideal S16384x1024 .f32 :=
  shapeCast S16384x1024 (pad S16384x8x128 ![0, 0, 0] ![0, 0, 64] ![0, 0, 0] (shapeCast S16384x8x64 x shapeCasts_S16384x512_S16384x8x64) (sitofp .f32 (constantI S_ 32 0#32 : Vec Ideal S_ .i32)) pads_S16384x8x64_S16384x8x128_000_000_0640 h_S_)
    shapeCasts_S16384x8x128_S16384x1024

/-- the weights' lower half with a row to every column of the output, -/
def lowW (w : FVec Ideal S1024x1024 .f32) : FVec Ideal S1024x8x64 .bf16 :=
  shapeCast S1024x8x64 (transpose S1024x512 [1, 0] (extractStridedSlice S512x1024 ![512, 0] (truncf .bf16 w bitsLt_bf16_f32) slices_S1024x1024_S512x1024_512_0) transposes_S512x1024_S1024x512_1_0) shapeCasts_S1024x512_S1024x8x64

/-- the same in padded heads, a column to every column. -/
def widen (y : FVec Ideal S1024x8x64 .bf16) : FVec Ideal S1024x1024 .bf16 :=
  transpose S1024x1024 [1, 0] (shapeCast S1024x1024 (pad S1024x8x128 ![0, 0, 0] ![0, 0, 64] ![0, 0, 0] y
    (sitofp .bf16 (constantI S_ 32 0#32 : Vec Ideal S_ .i32)) pads_S1024x8x64_S1024x8x128_000_000_0640 h_S_) shapeCasts_S1024x8x128_S1024x1024) transposes_S1024x1024_S1024x1024_1_0

def padW (w : FVec Ideal S1024x1024 .f32) : FVec Ideal S1024x1024 .bf16 := widen (lowW w)

def topW (w : FVec Ideal S1024x1024 .f32) : FVec Ideal S512x1024 .bf16 :=
  extractStridedSlice S512x1024 ![0, 0] (truncf .bf16 w bitsLt_bf16_f32) slices_S1024x1024_S512x1024_0_0

theorem padO_at (x : FVec Ideal S16384x512 .f32) (r : Fin 16384) (h : Fin 8) (a : Fin 128) :
    padO x (ix2 r (lane h a)) = if e : a.val < 64 then x (ix2 r (thin h ⟨a.val, e⟩)) else 0 := by
  pointwise [padO]
  have ha := a.isLt
  have hh := h.isLt
  have e1 : (lane h a).val / 128 = h.val := by simp only [lane]; omega
  have e2 : (lane h a).val % 128 = a.val := by simp only [lane]; omega
  by_cases e : a.val < 64
  · rw [dif_pos e, dif_pos (by omega)]
    exact congrArg x (funext fun i => Fin.ext (by fin_cases i; exacts [rfl, by simp [thin]; omega]))
  · rw [dif_neg e, dif_neg (by omega)]
    exact zero_word

theorem lowW_at (w : FVec Ideal S1024x1024 .f32) (k : Fin 1024) (h : Fin 8) (a : Fin 64) :
    lowW w (ix3 k h a) = w (ix2 (lower (thin h a)) k) := by
  have h1 := k.isLt
  have h2 := h.isLt
  have h3 := a.isLt
  pointwise [lowW]
  refine congrArg w ?_
  blk_ext [lower, thin]

theorem widen_at (y : FVec Ideal S1024x8x64 .bf16) (k : Fin 1024) (h : Fin 8) (a : Fin 128) :
    widen y (ix2 (lane h a) k) = if e : a.val < 64 then y (ix3 k h ⟨a.val, e⟩) else 0 := by
  pointwise [widen]
  have ha := a.isLt
  have hh := h.isLt
  have e1 : (lane h a).val / 128 = h.val := by simp only [lane]; omega
  have e2 : (lane h a).val % 128 = a.val := by simp only [lane]; omega
  by_cases e : a.val < 64
  · rw [dif_pos e, dif_pos (by omega)]
    exact congrArg y (funext fun i => Fin.ext (by fin_cases i; exacts [rfl, e1, e2]))
  · rw [dif_neg e, dif_neg (by omega)]
    exact zero_word'

theorem padW_at (w : FVec Ideal S1024x1024 .f32) (k : Fin 1024) (h : Fin 8) (a : Fin 128) :
    padW w (ix2 (lane h a) k) = if e : a.val < 64 then w (ix2 (lower (thin h ⟨a.val, e⟩)) k) else 0 := by
  unfold padW
  rw [widen_at]
  simp only [lowW_at]

theorem topW_at (w : FVec Ideal S1024x1024 .f32) (k : Fin 1024) (j : Fin 512) : topW w (ix2 j k) = w (ix2 (upper j) k) := by
  pointwise [topW]
  congr 1

variable (m : (ℓ : Loc nD τ sig) → Buf (Elt Ideal) ℓ) (c : Dev nD)

abbrev ky (c : Dev nD) : FVec Ideal S16384x512 .f32 := m ((c : Thread nD τ).loc main_arg0)
abbrev ko (c : Dev nD) : FVec Ideal S16384x512 .f32 := m ((c : Thread nD τ).loc main_arg1)
abbrev kw (c : Dev nD) : FVec Ideal S1024x1024 .f32 := m ((c : Thread nD τ).loc main_arg2)
abbrev kd (c : Dev nD) : FVec Ideal S16384x1024 .f32 := m ((c : Thread nD τ).loc main_arg3)

theorem y_arr : V m c main_v1 = truncf .bf16 (ky m c) bitsLt_bf16_f32 := by
  simp only [V, V0, hostOps0, hostOps0_1, hostOps0_2, hostOps0_3, hostOps0_4, List.flatten_cons, List.flatten_nil, List.append_nil, List.cons_append, List.nil_append]
  entry_read
  try rfl

theorem o_arr : V m c main_v4 = padO (ko m c) := by
  simp only [V, V0, hostOps0, hostOps0_1, hostOps0_2, hostOps0_3, hostOps0_4, List.flatten_cons, List.flatten_nil, List.append_nil, List.cons_append, List.nil_append]
  entry_read
  simp only [StableHlo.TRef.ofBuf_toBuf, StableHlo.TRef.ofBuf, StableHlo.TRef.toBuf, cast_eq]
  rfl

theorem u_arr : V m c main_v5 = topW (kw m c) := by
  simp only [V, V0, hostOps0, hostOps0_1, hostOps0_2, hostOps0_3, hostOps0_4, List.flatten_cons, List.flatten_nil, List.append_nil, List.cons_append, List.nil_append]
  entry_read
  try rfl

theorem w_arr : V m c main_v11 = padW (kw m c) := by
  simp only [V, V0, hostOps0, hostOps0_1, hostOps0_2, hostOps0_3, hostOps0_4, List.flatten_cons, List.flatten_nil, List.append_nil, List.cons_append, List.nil_append]
  entry_read
  simp only [StableHlo.TRef.ofBuf_toBuf, StableHlo.TRef.ofBuf, StableHlo.TRef.toBuf, cast_eq]
  rfl

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, t.val, 0, 0] ∧ win0_8.index t = ![0, 0]
    ∧ win0_9.index t = ![0, 0] :=
  (by decide +kernel : ∀ t : Fin grid0.N, _)

theorem point_lt (t : Fin cfg0.N) : t.val < 32 := t.isLt

/-- Row `r` of block `t`. -/
def row (t : Fin cfg0.N) (r : Fin 512) : Fin 16384 := ⟨t.val * 512 + r.val, by have := point_lt t; omega⟩

variable (t : Fin cfg0.N)

theorem blk0 (r : Fin 512) (k : Fin 1024) : iblk m c 0 t (ix2 r k) = kd m c (ix2 (row t r) k) := by
  blk_point [iblk, V, idx t, row]

theorem blk1 (r : Fin 512) (k : Fin 512) : iblk m c 1 t (ix2 r k) = ky m c (ix2 (row t r) k) := by
  have e : truncf .bf16 (ky m c) bitsLt_bf16_f32 (ix2 (row t r) k) = ky m c (ix2 (row t r) k) := by pointwise
  rw [← e, ← y_arr]
  blk_point [iblk, idx t, row]

theorem blk2 (r : Fin 512) (k : Fin 1024) : iblk m c 2 t (ix2 r k) = padO (ko m c) (ix2 (row t r) k) := by
  rw [← o_arr]
  blk_point [iblk, idx t, row]

theorem blk3 (j : Fin 512) (k : Fin 1024) : iblk m c 3 t (ix2 j k) = topW (kw m c) (ix2 j k) := by
  rw [← u_arr]
  blk_point [iblk, idx t]

theorem blk4 (j : Fin 1024) (k : Fin 1024) : iblk m c 4 t (ix2 j k) = padW (kw m c) (ix2 j k) := by
  rw [← w_arr]
  blk_point [iblk, idx t]

omit t m c in
theorem cell (z : S1x1x1x512.Idx) : z = ix4 (0 : Fin 1) (0 : Fin 1) (0 : Fin 1) (z 3) := by
  funext i; fin_cases i
  exacts [Subsingleton.elim (α := Fin 1) _ _, Subsingleton.elim (α := Fin 1) _ _, Subsingleton.elim (α := Fin 1) _ _, rfl]

theorem pay22_at (P : Vec Ideal S512x512 .bf16) (A : Vec Ideal S512x1024 .f32) (j : Fin 512) (k : Fin 1024) :
    k0_pay1 (k0_pay22 X P A) (ix2 j k) = A (ix2 j k) + ∑ r, P (ix2 r j) * X (ix2 r k) := by
  pointwise [k0_pay1, k0_pay22]

theorem pay6_at (r : Fin 512) (j : Fin 1024) : k0_pay6 O (ix2 r j) = O (ix2 r j) := by
  pointwise [k0_pay6]

theorem pay4_at (A : Vec Ideal S1024x1024 .f32) (j : Fin 1024) (k : Fin 1024) :
    k0_pay4 X O A (ix2 j k) = A (ix2 j k) + ∑ r, O (ix2 r j) * X (ix2 r k) := by
  pointwise [k0_pay4]

theorem out5 (r : Fin 512) (j : Fin 512) : (outsAt0 m c t.val t.isLt).1 (ix2 r j) = ∑ k, kd m c (ix2 (row t r) k) * kw m c (ix2 (upper j) k) := by
  have e : k0_pay7 (iblk m c 0 t) (iblk m c 3 t) (ix2 r j) = ∑ k, kd m c (ix2 (row t r) k) * kw m c (ix2 (upper j) k) := by
    rw [pay7_at]; simp only [blk0, blk3, topW_at]
  by_cases h0 : t.val % 32 = 0
  · rw [outsAt0_A m c t h0 (by omega) h0 (by omega)]; frame_out; exact e
  · by_cases h1 : t.val % 32 = 31
    · rw [outsAt0_C m c t h0 h1 h0 h1]; frame_out; exact e
    · rw [outsAt0_B m c t h0 h1 h0 h1]; frame_out; exact e

theorem out6 (r : Fin 512) (j : Fin 1024) : (outsAt0 m c t.val t.isLt).2.1 (ix2 r j) = ∑ k, kd m c (ix2 (row t r) k) * padW (kw m c) (ix2 j k) := by
  have e : k0_pay9 (iblk m c 0 t) (iblk m c 4 t) (ix2 r j) = ∑ k, kd m c (ix2 (row t r) k) * padW (kw m c) (ix2 j k) := by
    rw [pay9_at]; simp only [blk0, blk4]
  by_cases h0 : t.val % 32 = 0
  · rw [outsAt0_A m c t h0 (by omega) h0 (by omega)]; frame_out; exact e
  · by_cases h1 : t.val % 32 = 31
    · rw [outsAt0_C m c t h0 h1 h0 h1]; frame_out; exact e
    · rw [outsAt0_B m c t h0 h1 h0 h1]; frame_out; exact e

theorem out7 (h : Fin 8) (q : Fin 512) : (outsAt0 m c t.val t.isLt).2.2.1 (ix4 h 0 0 q)
    = dsum (fun q k => kd m c (ix2 (row t q) k)) (fun q k => padO (ko m c) (ix2 (row t q) k)) (fun j k => padW (kw m c) (ix2 j k)) h q := by
  have e : ∀ h q, dsum (fun q k => kd m c (ix2 (row t q) k)) (fun q k => padO (ko m c) (ix2 (row t q) k)) (fun j k => padW (kw m c) (ix2 j k)) h q
      = dsum (ofX (iblk m c 0 t)) (ofX (iblk m c 2 t)) (ofW (iblk m c 4 t)) h q := fun h q => by
    simp only [dsum, blk0, blk2, blk4]
  by_cases g0 : t.val % 32 = 0
  · rw [outsAt0_A m c t g0 (by omega) g0 (by omega)]; frame_out
    canon_tiles z h
    · obtain rfl : h = 7 := Fin.ext (by have e0 : h.val = _ := h0; show h.val = 7; omega)
      obtain rfl : q = z 3 := Fin.ext h3
      rw [cell z]; exact (head7 _ _ _ _).trans (e _ _).symm
    · obtain rfl : h = 6 := Fin.ext (by have e0 : h.val = _ := h0; show h.val = 6; omega)
      obtain rfl : q = z 3 := Fin.ext h3
      rw [cell z]; exact (head6 _ _ _ _).trans (e _ _).symm
    · obtain rfl : h = 5 := Fin.ext (by have e0 : h.val = _ := h0; show h.val = 5; omega)
      obtain rfl : q = z 3 := Fin.ext h3
      rw [cell z]; exact (head5 _ _ _ _).trans (e _ _).symm
    · obtain rfl : h = 4 := Fin.ext (by have e0 : h.val = _ := h0; show h.val = 4; omega)
      obtain rfl : q = z 3 := Fin.ext h3
      rw [cell z]; exact (head4 _ _ _ _).trans (e _ _).symm
    · obtain rfl : h = 3 := Fin.ext (by have e0 : h.val = _ := h0; show h.val = 3; omega)
      obtain rfl : q = z 3 := Fin.ext h3
      rw [cell z]; exact (head3 _ _ _ _).trans (e _ _).symm
    · obtain rfl : h = 2 := Fin.ext (by have e0 : h.val = _ := h0; show h.val = 2; omega)
      obtain rfl : q = z 3 := Fin.ext h3
      rw [cell z]; exact (head2 _ _ _ _).trans (e _ _).symm
    · obtain rfl : h = 1 := Fin.ext (by have e0 : h.val = _ := h0; show h.val = 1; omega)
      obtain rfl : q = z 3 := Fin.ext h3
      rw [cell z]; exact (head1 _ _ _ _).trans (e _ _).symm
    · obtain rfl : h = 0 := Fin.ext (by have e0 : h.val = _ := h0; show h.val = 0; omega)
      obtain rfl : q = z 3 := Fin.ext h3
      rw [cell z]; exact (head0 _ _ _ _).trans (e _ _).symm
  · by_cases g1 : t.val % 32 = 31
    · rw [outsAt0_C m c t g0 g1 g0 g1]; frame_out
      canon_tiles z h
      · obtain rfl : h = 7 := Fin.ext (by have e0 : h.val = _ := h0; show h.val = 7; omega)
        obtain rfl : q = z 3 := Fin.ext h3
        rw [cell z]; exact (head7 _ _ _ _).trans (e _ _).symm
      · obtain rfl : h = 6 := Fin.ext (by have e0 : h.val = _ := h0; show h.val = 6; omega)
        obtain rfl : q = z 3 := Fin.ext h3
        rw [cell z]; exact (head6 _ _ _ _).trans (e _ _).symm
      · obtain rfl : h = 5 := Fin.ext (by have e0 : h.val = _ := h0; show h.val = 5; omega)
        obtain rfl : q = z 3 := Fin.ext h3
        rw [cell z]; exact (head5 _ _ _ _).trans (e _ _).symm
      · obtain rfl : h = 4 := Fin.ext (by have e0 : h.val = _ := h0; show h.val = 4; omega)
        obtain rfl : q = z 3 := Fin.ext h3
        rw [cell z]; exact (head4 _ _ _ _).trans (e _ _).symm
      · obtain rfl : h = 3 := Fin.ext (by have e0 : h.val = _ := h0; show h.val = 3; omega)
        obtain rfl : q = z 3 := Fin.ext h3
        rw [cell z]; exact (head3 _ _ _ _).trans (e _ _).symm
      · obtain rfl : h = 2 := Fin.ext (by have e0 : h.val = _ := h0; show h.val = 2; omega)
        obtain rfl : q = z 3 := Fin.ext h3
        rw [cell z]; exact (head2 _ _ _ _).trans (e _ _).symm
      · obtain rfl : h = 1 := Fin.ext (by have e0 : h.val = _ := h0; show h.val = 1; omega)
        obtain rfl : q = z 3 := Fin.ext h3
        rw [cell z]; exact (head1 _ _ _ _).trans (e _ _).symm
      · obtain rfl : h = 0 := Fin.ext (by have e0 : h.val = _ := h0; show h.val = 0; omega)
        obtain rfl : q = z 3 := Fin.ext h3
        rw [cell z]; exact (head0 _ _ _ _).trans (e _ _).symm
    · rw [outsAt0_B m c t g0 g1 g0 g1]; frame_out
      canon_tiles z h
      · obtain rfl : h = 7 := Fin.ext (by have e0 : h.val = _ := h0; show h.val = 7; omega)
        obtain rfl : q = z 3 := Fin.ext h3
        rw [cell z]; exact (head7 _ _ _ _).trans (e _ _).symm
      · obtain rfl : h = 6 := Fin.ext (by have e0 : h.val = _ := h0; show h.val = 6; omega)
        obtain rfl : q = z 3 := Fin.ext h3
        rw [cell z]; exact (head6 _ _ _ _).trans (e _ _).symm
      · obtain rfl : h = 5 := Fin.ext (by have e0 : h.val = _ := h0; show h.val = 5; omega)
        obtain rfl : q = z 3 := Fin.ext h3
        rw [cell z]; exact (head5 _ _ _ _).trans (e _ _).symm
      · obtain rfl : h = 4 := Fin.ext (by have e0 : h.val = _ := h0; show h.val = 4; omega)
        obtain rfl : q = z 3 := Fin.ext h3
        rw [cell z]; exact (head4 _ _ _ _).trans (e _ _).symm
      · obtain rfl : h = 3 := Fin.ext (by have e0 : h.val = _ := h0; show h.val = 3; omega)
        obtain rfl : q = z 3 := Fin.ext h3
        rw [cell z]; exact (head3 _ _ _ _).trans (e _ _).symm
      · obtain rfl : h = 2 := Fin.ext (by have e0 : h.val = _ := h0; show h.val = 2; omega)
        obtain rfl : q = z 3 := Fin.ext h3
        rw [cell z]; exact (head2 _ _ _ _).trans (e _ _).symm
      · obtain rfl : h = 1 := Fin.ext (by have e0 : h.val = _ := h0; show h.val = 1; omega)
        obtain rfl : q = z 3 := Fin.ext h3
        rw [cell z]; exact (head1 _ _ _ _).trans (e _ _).symm
      · obtain rfl : h = 0 := Fin.ext (by have e0 : h.val = _ := h0; show h.val = 0; omega)
        obtain rfl : q = z 3 := Fin.ext h3
        rw [cell z]; exact (head0 _ _ _ _).trans (e _ _).symm

theorem acc8 (j : Fin 512) (k : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.2.2.2.1 (ix2 j k)) :
    (outsAt0 m c t.val t.isLt).2.2.2.2.2.1 (ix2 j k) = Z + ∑ r, ky m c (ix2 (row t r) j) * kd m c (ix2 (row t r) k) := by
  by_cases h0 : t.val % 32 = 0
  · rw [outsAt0_A m c t h0 (by omega) h0 (by omega), hZ h0]; frame_out
    refine (pay22_at _ _ _ j k).trans ?_
    rw [show k0_pay21 (F := Ideal) (ix2 j k) = (0 : EReal) from by pointwise [k0_pay21]]
    exact congrArg₂ (· + ·) rfl (Finset.sum_congr rfl fun r _ => by rw [blk0, blk1])
  · by_cases h1 : t.val % 32 = 31
    · rw [outsAt0_C m c t h0 h1 h0 h1, hZ' h0]; frame_out
      exact (pay22_at _ _ _ j k).trans (congrArg₂ (· + ·) (congrFun ((Memref.isWhole_whole _).read_unread _) _) (Finset.sum_congr rfl fun r _ => by rw [blk0, blk1]))
    · rw [outsAt0_B m c t h0 h1 h0 h1, hZ' h0]; frame_out
      exact (pay22_at _ _ _ j k).trans (congrArg₂ (· + ·) (congrFun ((Memref.isWhole_whole _).read_unread _) _) (Finset.sum_congr rfl fun r _ => by rw [blk0, blk1]))

theorem acc9 (j : Fin 1024) (k : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.2.2.2.2 (ix2 j k)) :
    (outsAt0 m c t.val t.isLt).2.2.2.2.2.2 (ix2 j k) = Z + ∑ r, padO (ko m c) (ix2 (row t r) j) * kd m c (ix2 (row t r) k) := by
  by_cases h0 : t.val % 32 = 0
  · rw [outsAt0_A m c t h0 (by omega) h0 (by omega), hZ h0]; frame_out
    refine (pay4_at _ _ _ j k).trans ?_
    rw [show k0_pay3 (F := Ideal) (ix2 j k) = (0 : EReal) from by pointwise [k0_pay3]]
    exact congrArg₂ (· + ·) rfl (Finset.sum_congr rfl fun r _ => by rw [blk0, pay6_at, blk2])
  · by_cases h1 : t.val % 32 = 31
    · rw [outsAt0_C m c t h0 h1 h0 h1, hZ' h0]; frame_out
      exact (pay4_at _ _ _ j k).trans (congrArg₂ (· + ·) (congrFun ((Memref.isWhole_whole _).read_unread _) _) (Finset.sum_congr rfl fun r _ => by rw [blk0, pay6_at, blk2]))
    · rw [outsAt0_B m c t h0 h1 h0 h1, hZ' h0]; frame_out
      exact (pay4_at _ _ _ j k).trans (congrArg₂ (· + ·) (congrFun ((Memref.isWhole_whole _).read_unread _) _) (Finset.sum_congr rfl fun r _ => by rw [blk0, pay6_at, blk2]))

theorem last8 (h1 : t.val % 32 = 31) (j : Fin 512) (k : Fin 1024) : (outsAt0 m c t.val t.isLt).2.2.2.1 (ix2 j k) = (outsAt0 m c t.val t.isLt).2.2.2.2.2.1 (ix2 j k) := by
  rw [outsAt0_C m c t (by omega) h1 (by omega) h1]; frame_out
  pointwise [k0_pay2]
  all_goals rfl

theorem last9 (h1 : t.val % 32 = 31) (j : Fin 1024) (k : Fin 1024) : (outsAt0 m c t.val t.isLt).2.2.2.2.1 (ix2 j k) = (outsAt0 m c t.val t.isLt).2.2.2.2.2.2 (ix2 j k) := by
  rw [outsAt0_C m c t (by omega) h1 (by omega) h1]; frame_out
  pointwise [k0_pay5]
  all_goals rfl

theorem final5 : (dats m 0 c).arrAt 5 (cfgs 0).N = (fun i => (∑ k, kd m c (ix2 (i 0) k) * kw m c (ix2 (upper (i 1)) k) : EReal) : FVec Ideal S16384x512 .f32) := by
  refine (dats m 0 c).arrAt_eq_of_covers 5 _ (by decide +kernel) fun t hf y => ?_
  have e : ((cfg0.win 5).blk t).view.emb y = ix2 (row t (y 0)) (y 1) := by blk_ext [idx t, row]
  rw [e]
  blk_simp; rw [after0_5]
  exact Eq.trans (congrArg _ (eq_ix2 y)) (out5 m c t (y 0) (y 1))

theorem final6 : (dats m 0 c).arrAt 6 (cfgs 0).N = (fun i => (∑ k, kd m c (ix2 (i 0) k) * padW (kw m c) (ix2 (i 1) k) : EReal) : FVec Ideal S16384x1024 .bf16) := by
  refine (dats m 0 c).arrAt_eq_of_covers 6 _ (by decide +kernel) fun t hf y => ?_
  have e : ((cfg0.win 6).blk t).view.emb y = ix2 (row t (y 0)) (y 1) := by blk_ext [idx t, row]
  rw [e]
  blk_simp; rw [after0_6]
  exact Eq.trans (congrArg _ (eq_ix2 y)) (out6 m c t (y 0) (y 1))

def wrow (t : Fin 32) (r : Fin 512) : Fin 16384 := ⟨t.val * 512 + r.val, by omega⟩

theorem final7 : (dats m 0 c).arrAt 7 (cfgs 0).N = (fun i => (dsum (fun q k => kd m c (ix2 (wrow (i 1) q) k)) (fun q k => padO (ko m c) (ix2 (wrow (i 1) q) k)) (fun j k => padW (kw m c) (ix2 j k)) (i 0) (i 3) : EReal) : FVec Ideal S8x32x1x512 .f32) := by
  refine (dats m 0 c).arrAt_eq_of_covers 7 _ (by decide +kernel) fun t hf y => ?_
  have e : ((cfg0.win 7).blk t).view.emb y = ix4 (y 0) (⟨t.val, point_lt t⟩ : Fin 32) (0 : Fin 1) (y 3) := by blk_ext [idx t]
  rw [e]
  blk_simp; rw [after0_7]
  have e' : y = ix4 (y 0) (0 : Fin 1) (0 : Fin 1) (y 3) := by
    funext i; fin_cases i
    exacts [rfl, Subsingleton.elim (α := Fin 1) _ _, Subsingleton.elim (α := Fin 1) _ _, rfl]
  exact Eq.trans (congrArg _ e') (out7 m c t (y 0) (y 3))

theorem final8 : (dats m 0 c).arrAt 8 (cfgs 0).N = (fun i => (∑ r, ky m c (ix2 r (i 0)) * kd m c (ix2 r (i 1)) : EReal) : FVec Ideal S512x1024 .bf16) := by
  refine (dats m 0 c).arrAt_eq_of_covers 8 _ (by decide +kernel) fun t hf y => ?_
  have e : ((cfg0.win 8).blk t).view.emb y = y := by blk_ext [idx t]
  rw [e]
  blk_simp; rw [after0_8]
  have hl := (flush0_8 t).mp hf
  refine ((congrArg _ (eq_ix2 y)).trans (last8 m c t hl (y 0) (y 1))).trans ?_
  rw [← eq_ix2 y]
  rw [Pipeline.eq_sum_fin_of_reset_step_apply_of_flush (fun n h => (outsAt0 m c n h).2.2.2.2.2.1) 32 (fun _ => (0 : EReal)) (fun t y => (∑ r, ky m c (ix2 (row t r) (y 0)) * kd m c (ix2 (row t r) (y 1)) : EReal))
    (fun t h y => by rw [eq_ix2 y]; exact acc8 m c t (y 0) (y 1) 0 (fun _ => rfl) fun h' => absurd h h')
    (fun t h y => by rw [eq_ix2 y]; exact acc8 m c t (y 0) (y 1) _ (fun h' => absurd h' h) fun _ => rfl) t hl y]
  rw [zero_add]
  refine Fin.sum_mul_add_congr fun s k hk => ?_
  rw [show row ⟨_, Pipeline.run_point_lt_of_flush t hl s⟩ k = ⟨_, hk⟩ from Fin.ext (by have := point_lt t; simp only [row]; omega)]

theorem final9 : (dats m 0 c).arrAt 9 (cfgs 0).N = (fun i => (∑ r, padO (ko m c) (ix2 r (i 0)) * kd m c (ix2 r (i 1)) : EReal) : FVec Ideal S1024x1024 .bf16) := by
  refine (dats m 0 c).arrAt_eq_of_covers 9 _ (by decide +kernel) fun t hf y => ?_
  have e : ((cfg0.win 9).blk t).view.emb y = y := by blk_ext [idx t]
  rw [e]
  blk_simp; rw [after0_9]
  have hl := (flush0_9 t).mp hf
  refine ((congrArg _ (eq_ix2 y)).trans (last9 m c t hl (y 0) (y 1))).trans ?_
  rw [← eq_ix2 y]
  rw [Pipeline.eq_sum_fin_of_reset_step_apply_of_flush (fun n h => (outsAt0 m c n h).2.2.2.2.2.2) 32 (fun _ => (0 : EReal)) (fun t y => (∑ r, padO (ko m c) (ix2 (row t r) (y 0)) * kd m c (ix2 (row t r) (y 1)) : EReal))
    (fun t h y => by rw [eq_ix2 y]; exact acc9 m c t (y 0) (y 1) 0 (fun _ => rfl) fun h' => absurd h h')
    (fun t h y => by rw [eq_ix2 y]; exact acc9 m c t (y 0) (y 1) _ (fun h' => absurd h' h) fun _ => rfl) t hl y]
  rw [zero_add]
  refine Fin.sum_mul_add_congr fun s k hk => ?_
  rw [show row ⟨_, Pipeline.run_point_lt_of_flush t hl s⟩ k = ⟨_, hk⟩ from Fin.ext (by have := point_lt t; simp only [row]; omega)]

/-- The attention's gradient without its padding, -/
def cutO (y : FVec Ideal S16384x1024 .bf16) : FVec Ideal S16384x512 .bf16 :=
  shapeCast S16384x512 (extractStridedSlice S16384x8x64 ![0, 0, 0] (shapeCast S16384x8x128 y shapeCasts_S16384x1024_S16384x8x128) slices_S16384x8x128_S16384x8x64_0_0_0) shapeCasts_S16384x8x64_S16384x512

/-- the lower weights' gradient without its padding, -/
def cutW (y : FVec Ideal S1024x1024 .bf16) : FVec Ideal S512x1024 .bf16 :=
  transpose S512x1024 [1, 0] (shapeCast S1024x512 (extractStridedSlice S1024x8x64 ![0, 0, 0] (shapeCast S1024x8x128 (transpose S1024x1024 [1, 0] y transposes_S1024x1024_S1024x1024_1_0) shapeCasts_S1024x1024_S1024x8x128) slices_S1024x8x128_S1024x8x64_0_0_0) shapeCasts_S1024x8x64_S1024x512) transposes_S1024x512_S512x1024_1_0

/-- and the two halves joined. -/
def joinW (a b : FVec Ideal S512x1024 .bf16) : FVec Ideal S1024x1024 .bf16 :=
  concatenate S1024x1024 0 [⟨S512x1024, a⟩, ⟨S512x1024, b⟩] concatenates_S512x1024_S512x1024_S1024x1024_d0

theorem cutO_at (y : FVec Ideal S16384x1024 .bf16) (r : Fin 16384) (h : Fin 8) (a : Fin 64) : cutO y (ix2 r (thin h a)) = y (ix2 r (lane h ⟨a.val, by omega⟩)) := by
  have h1 := r.isLt
  have h2 := h.isLt
  have h3 := a.isLt
  pointwise [cutO]
  refine congrArg y ?_
  blk_ext [lane, thin]

theorem cutW_at (y : FVec Ideal S1024x1024 .bf16) (k : Fin 1024) (h : Fin 8) (a : Fin 64) : cutW y (ix2 (thin h a) k) = y (ix2 (lane h ⟨a.val, by omega⟩) k) := by
  have h1 := k.isLt
  have h2 := h.isLt
  have h3 := a.isLt
  pointwise [cutW]
  refine congrArg y ?_
  blk_ext [lane, thin]

theorem joinW_upper (a b : FVec Ideal S512x1024 .bf16) (j : Fin 512) (k : Fin 1024) : joinW a b (ix2 (upper j) k) = a (ix2 j k) := by
  have h1 := j.isLt
  pointwise [joinW]
  exact dif_pos h1

theorem joinW_lower (a b : FVec Ideal S512x1024 .bf16) (j : Fin 512) (k : Fin 1024) : joinW a b (ix2 (lower j) k) = b (ix2 j k) := by
  have h1 := j.isLt
  pointwise [joinW]
  rw [dif_neg (by simp only [lower]; omega)]
  exact congrArg b (by blk_ext [lower])

theorem tail_o (W : Valuation τ sig (Elt Ideal)) : StableHlo.after (List.flatten [hostOps1 (F := Ideal)]) W (Proc.devRef .tc main_v21) = cutO (W (Proc.devRef .tc main_v12_1)) := by
  simp only [hostOps1, List.flatten_cons, List.flatten_nil, List.append_nil, List.cons_append, List.nil_append]
  after_results
  try rfl

theorem tail_w (W : Valuation τ sig (Elt Ideal)) : StableHlo.after (List.flatten [hostOps1 (F := Ideal)]) W (Proc.devRef .tc main_v18) = joinW (W (Proc.devRef .tc main_v12_3)) (cutW (W (Proc.devRef .tc main_v12_4))) := by
  simp only [hostOps1, List.flatten_cons, List.flatten_nil, List.append_nil, List.cons_append, List.nil_append]
  after_results
  try rfl

theorem left_o : Pipeline.afterTail₀ cfgs (dats m) 0 (V0 m) [hostOps1] c main_v21 = cutO ((dats m 0 c).arrAt 6 (cfgs 0).N) :=
  (tail_o _).trans (congrArg cutO (Pipeline.withArrays_arr (cfgs 0).spec launch0.win.arr_inj c (V0 m c) (fun w => (dats m 0 c).arrAt w (cfgs 0).N) 6))

theorem left_w : Pipeline.afterTail₀ cfgs (dats m) 0 (V0 m) [hostOps1] c main_v18 = joinW ((dats m 0 c).arrAt 8 (cfgs 0).N) (cutW ((dats m 0 c).arrAt 9 (cfgs 0).N)) :=
  (tail_w _).trans (congrArg₂ (fun a b => joinW a (cutW b)) (Pipeline.withArrays_arr (cfgs 0).spec launch0.win.arr_inj c (V0 m c) (fun w => (dats m 0 c).arrAt w (cfgs 0).N) 8)
    (Pipeline.withArrays_arr (cfgs 0).spec launch0.win.arr_inj c (V0 m c) (fun w => (dats m 0 c).arrAt w (cfgs 0).N) 9))

omit c t in
/-- The run: what the results hold, the arguments as they began. -/
theorem result (ρ : Dev nD → PrngReg) : θ_run defs (onTc (τ := τ) (main (F := Ideal))) ⟨m, fun _ => 0, ρ⟩ (fun r => ∀ c : Dev nD,
      r.2.mem ((c.tc : Thread nD τ).loc main_v12_0) = (dats m 0 c).arrAt 5 (cfgs 0).N
      ∧ r.2.mem ((c.tc : Thread nD τ).loc main_v21) = cutO ((dats m 0 c).arrAt 6 (cfgs 0).N)
      ∧ r.2.mem ((c.tc : Thread nD τ).loc main_v12_2) = (dats m 0 c).arrAt 7 (cfgs 0).N
      ∧ r.2.mem ((c.tc : Thread nD τ).loc main_v18) = joinW ((dats m 0 c).arrAt 8 (cfgs 0).N) (cutW ((dats m 0 c).arrAt 9 (cfgs 0).N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 5,
      ((h.1 c).2 main_v21 (Pipeline.mem_restRefs_of main_v21 (by decide) (by decide))).trans (left_o m c),
      (h.1 c).1 7,
      ((h.1 c).2 main_v18 (Pipeline.mem_restRefs_of main_v18 (by decide) (by decide))).trans (left_w m c), h.2 c⟩)
    (θ_run_and (run_main m ρ) (unchanged m ρ))

end Cert.PostKernelIdeal.Value

namespace Cert.PostReferenceIdeal.Value

open Idealize.ShloMosaic Idealize.ShloMosaic.TcCoe Idealize.SL.Sem
open Cert.PostReferenceIdeal Cert.PostReferenceIdeal.Gen Cert.Reals
open Cert.PostKernelIdeal.Value (lane thin upper lower)

variable (y o : FVec Ideal S16384x512 .f32) (w : FVec Ideal S1024x1024 .f32) (d : FVec Ideal S16384x1024 .f32)

/-- The gradient of the joined columns, -/
def dcol : FVec Ideal S16384x1024 .f32 :=
  Host.dotGeneral (F := Ideal) (φ₁ := .f32) (φ₂ := .f32) dot_S16384x1024_S1024x1024_S16384x1024_1_1_0_0_n_n none d w

/-- its half of the attention, -/
def dlow (x : FVec Ideal S16384x1024 .f32) : FVec Ideal S16384x512 .f32 := extractStridedSlice S16384x512 ![0, 512] x slices_S16384x1024_S16384x512_0_512

/-- the sum of a product over each head, -/
def heads (x : FVec Ideal S16384x512 .f32) : FVec Ideal S8x32x1x512 .f32 :=
  shapeCast S8x32x1x512 (transpose S8x16384 [1, 0] (Host.reduceAdd (F := Ideal) (φ := .f32) (shapeCast S16384x8x64 x shapeCasts_S16384x512_S16384x8x64)
    (constant S_ .f32 0x00000000#32) reducesTo_S16384x8x64_S16384x8_d2 h_S_) transposes_S16384x8_S8x16384_1_0) shapeCasts_S8x16384_S8x32x1x512

/-- the columns joined, -/
def joined : FVec Ideal S16384x1024 .f32 := concatenate S16384x1024 1 [⟨S16384x512, y⟩, ⟨S16384x512, o⟩] concatenates_S16384x512_S16384x512_S16384x1024_d1

/-- and the weights' gradient. -/
def dwt (x : FVec Ideal S16384x1024 .f32) : FVec Ideal S1024x1024 .f32 :=
  transpose S1024x1024 [1, 0] (Host.dotGeneral (F := Ideal) (φ₁ := .f32) (φ₂ := .f32) dot_S16384x1024_S16384x1024_S1024x1024_0_0_1_1_n_n none d x) transposes_S1024x1024_S1024x1024_1_0

theorem dcol_at (r : Fin 16384) (j : Fin 1024) : dcol w d (ix2 r j) = ∑ k : Fin 1024, d (ix2 r k) * w (ix2 j k) := by
  pointwise [dcol]

theorem dlow_at (x : FVec Ideal S16384x1024 .f32) (r : Fin 16384) (j : Fin 512) : dlow x (ix2 r j) = x (ix2 r (lower j)) := by
  pointwise [dlow]
  exact congrArg x (by blk_ext [lower])

theorem heads_at (x : FVec Ideal S16384x512 .f32) (h : Fin 8) (t : Fin 32) (q : Fin 512) (r : Fin 16384) (hr : r.val = t.val * 512 + q.val) :
    heads x (ix4 h t (0 : Fin 1) q) = ∑ a : Fin 64, x (ix2 r (thin h a)) := by
  have h1 := h.isLt
  have h2 := t.isLt
  have h3 := q.isLt
  pointwise [heads]
  refine Finset.sum_congr rfl fun a _ => congrArg x ?_
  have h4 := a.isLt
  blk_ext [thin, hr]

theorem joined_upper (r : Fin 16384) (j : Fin 512) : joined y o (ix2 r (upper j)) = y (ix2 r j) := by
  have h1 := j.isLt
  pointwise [joined]
  exact dif_pos h1

theorem joined_lower (r : Fin 16384) (j : Fin 512) : joined y o (ix2 r (lower j)) = o (ix2 r j) := by
  have h1 := j.isLt
  pointwise [joined]
  rw [dif_neg (by simp only [lower]; omega)]
  exact congrArg o (by blk_ext [lower])

theorem dwt_at (x : FVec Ideal S16384x1024 .f32) (j k : Fin 1024) : dwt d x (ix2 j k) = ∑ r : Fin 16384, x (ix2 r j) * d (ix2 r k) := by
  pointwise [dwt]
  exact Finset.sum_congr rfl fun r _ => mul_comm _ _

end Cert.PostReferenceIdeal.Value

namespace Cert.Proof

open Idealize.ShloMosaic Idealize.SL.Sem Cert.Reals Cert.PostKernelIdeal Cert.PostKernelIdeal.Value

/-- The reference is host operations only and declares no semaphore. -/
theorem post_reference_frame : Cert.quiescent_PostReferenceIdeal := fun m ρ _ =>
  (θ_run Cert.PostReferenceIdeal.defs _ _).mono (fun r h => ⟨fun c => (h c).2.2.2.2,
      sem_eq_zero_of_no_sems (by decide) r.2⟩)
    (Cert.PostReferenceIdeal.Value.run (F := Ideal) m ρ)

/-- Column `j` is a column of one head. -/
theorem as_thin (j : Fin 512) : ∃ h a, j = thin h a := ⟨⟨j.val / 64, by omega⟩, ⟨j.val % 64, by omega⟩, Fin.ext (by simp only [thin]; omega)⟩

/-- A padded head's sum is the head's own. -/
theorem sum_head (f : Fin 128 → EReal) (g : Fin 64 → EReal) (h : ∀ a : Fin 64, f ⟨a.val, by omega⟩ = g a) (h0 : ∀ a : Fin 128, ¬ a.val < 64 → f a = 0) : ∑ a, f a = ∑ a, g a := by
  rw [show (∑ a : Fin 128, f a) = ∑ a : Fin (64 + 64), f a from rfl, Fin.sum_univ_add]
  rw [Finset.sum_eq_zero (f := fun a : Fin 64 => f (Fin.natAdd 64 a)) fun a _ => h0 _ (by simp), add_zero]
  exact Finset.sum_congr rfl fun a _ => h a

theorem as_half (j : Fin 1024) : (∃ i, j = upper i) ∨ ∃ i, j = lower i := by
  by_cases h : j.val < 512
  · exact .inl ⟨⟨j.val, h⟩, rfl⟩
  · exact .inr ⟨⟨j.val - 512, by omega⟩, Fin.ext (by simp only [lower]; omega)⟩

open Cert.PostReferenceIdeal.Value (dcol dlow heads joined dwt dcol_at dlow_at heads_at joined_upper joined_lower dwt_at)

theorem post_do (o : FVec Ideal S16384x512 .f32) (w : FVec Ideal S1024x1024 .f32) (d : FVec Ideal S16384x1024 .f32) (r : Fin 16384) (h : Fin 8) (a : Fin 64) :
    (dlow (dcol w d) (ix2 r (thin h a)) : EReal) = ∑ k, d (ix2 r k) * padW w (ix2 (lane h ⟨a.val, by omega⟩) k) := by
  rw [dlow_at, dcol_at]
  exact Finset.sum_congr rfl fun k _ => congrArg _ ((padW_at w k h ⟨a.val, by omega⟩).trans (dif_pos a.isLt)).symm

theorem post_delta (o : FVec Ideal S16384x512 .f32) (w : FVec Ideal S1024x1024 .f32) (d : FVec Ideal S16384x1024 .f32) (h : Fin 8) (t : Fin 32) (q : Fin 512) :
    heads (mulf (F := Ideal) (φ := .f32) (dlow (dcol w d)) o) (ix4 h t (0 : Fin 1) q)
      = dsum (fun q k => d (ix2 (wrow t q) k)) (fun q k => padO o (ix2 (wrow t q) k)) (fun j k => padW w (ix2 j k)) h q := by
  rw [heads_at _ h t q (wrow t q) rfl]
  refine (sum_head _ _ (fun a => ?_) fun a ha => ?_).symm
  · beta_reduce; rw [padO_at, dif_pos a.isLt, ← post_do o w d]; rfl
  · beta_reduce; rw [padO_at, dif_neg ha, mul_zero]

theorem post_dw (y o : FVec Ideal S16384x512 .f32) (d : FVec Ideal S16384x1024 .f32) (A : FVec Ideal S512x1024 .bf16) (B : FVec Ideal S1024x1024 .bf16)
    (hA : ∀ j k, A (ix2 j k) = ∑ r, y (ix2 r j) * d (ix2 r k)) (hB : ∀ j k, B (ix2 j k) = ∑ r, padO o (ix2 r j) * d (ix2 r k)) (j k : Fin 1024) :
    (dwt d (joined y o) (ix2 j k) : EReal) = joinW A (cutW B) (ix2 j k) := by
  rw [dwt_at]
  obtain ⟨i, rfl⟩ | ⟨i, rfl⟩ := as_half j
  · rw [joinW_upper, hA]; simp only [joined_upper]
  · obtain ⟨h, a, rfl⟩ := as_thin i
    rw [joinW_lower, cutW_at, hB]
    refine Finset.sum_congr rfl fun r _ => ?_
    rw [joined_lower, padO_at, dif_pos a.isLt]

set_option maxHeartbeats 2000000 in
/-- The kernel's results are the derivative of the reference's forward lines. -/
theorem post_algebraic : Cert.algebraic_PostKernelIdeal_PostReferenceIdeal := by
  pair_intro
  · run_from result m g
  · run_from Cert.PostReferenceIdeal.Value.run m' g'
    all_goals
      clear hpre hagree
    · refine Eq.trans ?_ (final5 m c).symm
      funext i; obtain ⟨r, j, rfl⟩ : ∃ r j, i = ix2 r j := ⟨_, _, eq_ix2 i⟩
      pointwise
      exact Finset.sum_congr rfl fun k _ => congrArg _ (congrArg _ (by blk_ext [upper]))
    · refine Eq.trans ?_ (congrArg cutO (final6 m c)).symm
      funext i; obtain ⟨r, j, rfl⟩ : ∃ r j, i = ix2 r j := ⟨_, _, eq_ix2 i⟩
      obtain ⟨h, a, rfl⟩ := as_thin j
      refine (post_do (ko m c) (kw m c) (kd m c) r h a).trans ?_
      rw [cutO_at]; rfl
    · refine Eq.trans ?_ (final7 m c).symm
      funext i
      obtain ⟨h, t, q, rfl⟩ : ∃ (h : Fin 8) (t : Fin 32) (q : Fin 512), i = ix4 h t (0 : Fin 1) q := ⟨i 0, i 1, i 3, by
        funext k; fin_cases k
        exacts [rfl, rfl, Subsingleton.elim (α := Fin 1) _ _, rfl]⟩
      exact post_delta (ko m c) (kw m c) (kd m c) h t q
    · refine Eq.trans ?_ (congrArg₂ (fun a b => joinW a (cutW b)) (final8 m c) (final9 m c)).symm
      funext i; obtain ⟨j, k, rfl⟩ : ∃ j k, i = ix2 j k := ⟨_, _, eq_ix2 i⟩
      exact post_dw (ky m c) (ko m c) (kd m c) _ _ (fun _ _ => rfl) (fun _ _ => rfl) j k

end Cert.Proof
end
-- ==== Proof.ConvBody.lean ====
/- One row of the short convolution's backward in real numbers, and the kernel's payloads: whenever a block's entries are the reals of this specification, so is what each payload computes. -/
module

public import proofs.«01_k».proof.Defs
public import proofs.«01_k».proof.Proof.Rows
public import proofs.«01_k».proof.Proof.Gen.ConvKernelIdeal.Frame
public import Idealize.ShloMosaic.Lib.Pipeline.ValueKit
public import Idealize.ShloMosaic.Lib.Pointwise
public import Idealize.ShloMosaic.Lib.Claim

@[expose] public section

set_option maxRecDepth 200000

noncomputable section

namespace Cert.ConvKernelIdeal.Value

open Idealize.ShloMosaic Idealize.ShloMosaic.TcCoe Idealize.SL.Sem
open Idealize.ShloMosaic.Pipeline (Dat)
open Cert.ConvKernelIdeal Cert.ConvKernelIdeal.Gen Cert.Rows Cert.Reals

/-- An array's row `n`, zero past its end. -/
def ahead (f : Fin 16384 → Fin 1024 → ℝ) (n : ℕ) (a : Fin 1024) : ℝ := if h : n < 16384 then f ⟨n, h⟩ a else 0
/-- An array's row `n - 8`, zero before its start. -/
def behind (f : Fin 16384 → Fin 1024 → ℝ) (n : ℕ) (a : Fin 1024) : ℝ := if h : 8 ≤ n ∧ n - 8 < 16384 then f ⟨n - 8, h.2⟩ a else 0

/-- The arguments every row shares. -/
structure Par where
  g : Fin 1024 → ℝ
  win : Fin 1024 → Fin 2048 → ℝ
  cw : Fin 4 → Fin 1024 → ℝ

/-- Column `a` of the right half. -/
def right (a : Fin 1024) : Fin 2048 := ⟨1024 + a.val, by omega⟩

namespace Par

variable (w : Par)

/-- The normed row, and its product with the input matrix. -/
def hx (x : Fin 1024 → ℝ) (a : Fin 1024) : ℝ := x a * scale x * w.g a
def z (x : Fin 1024 → ℝ) (j : Fin 2048) : ℝ := ∑ a, w.hx x a * w.win a j
def zr (x : Fin 16384 → Fin 1024 → ℝ) (r : Fin 16384) (a : Fin 1024) : ℝ := w.z (x r) (right a)
/-- The convolution's input cotangent at row `n` of a padded cotangent. -/
def db (b : ℕ → Fin 1024 → ℝ) (n : ℕ) (a : Fin 1024) : ℝ := w.cw 3 a * b n a + w.cw 0 a * b (n + 3) a + w.cw 1 a * b (n + 2) a + w.cw 2 a * b (n + 1) a
/-- Both branches' cotangents side by side. -/
def dz (c b : Fin 1024 → ℝ) (j : Fin 2048) : ℝ := if h : j.val < 1024 then c ⟨j.val, h⟩ else b ⟨j.val - 1024, by omega⟩
/-- The normed row's cotangent, the row's and the gain's. -/
def dh (e : Fin 2048 → ℝ) (a : Fin 1024) : ℝ := ∑ j, e j * w.win a j
def dx (x d : Fin 1024 → ℝ) (e : Fin 2048 → ℝ) (a : Fin 1024) : ℝ := d a + back x (fun b => w.dh e b * w.g b) a
def dg (x : Fin 1024 → ℝ) (e : Fin 2048 → ℝ) (a : Fin 1024) : ℝ := w.dh e a * (x a * scale x)

end Par

variable (w : Par) (x d c : Fin 512 → Fin 1024 → ℝ) (b p : ℕ → Fin 1024 → ℝ) (e : Fin 512 → Fin 2048 → ℝ)
variable (X D C B Z N DH Y : Vec Ideal S512x1024 .f32) (G O : Vec Ideal S1x1024 .f32) (W : Vec Ideal S1024x2048 .bf16)
variable (U T : FVec Ideal S520x1024 .f32) (R : FVec Ideal S512x1 .f32) (E : FVec Ideal S512x2048 .bf16)

/-- What the pieces of a block hold: each entry a real of the specification at the block's row. -/
abbrev IsX : Prop := ∀ r a, X (ix2 r a) = (x r a : EReal)
abbrev IsG : Prop := ∀ a, G (ix2 0 a) = (w.g a : EReal)
abbrev IsW : Prop := ∀ a j, W (ix2 a j) = (w.win a j : EReal)
abbrev IsC (k : Fin 4) : Prop := ∀ a, G (ix2 0 a) = (w.cw k a : EReal)
abbrev IsU : Prop := ∀ (r : Fin 520) a, U (ix2 r a) = (b r.val a : EReal)

theorem below (n : Fin 32) : (Scalar.extui (Scalar.cmpi .slt (BitVec.ofNat 32 n.val) 31#32) : BitVec 32).toInt = if n.val < 31 then 1 else 0 := by
  revert n; decide +kernel

theorem above (n : Fin 32) : (Scalar.extui (Scalar.cmpi .sgt (BitVec.ofNat 32 n.val) 0#32) : BitVec 32).toInt = if 0 < n.val then 1 else 0 := by
  revert n; decide +kernel

theorem masked_on (y : EReal) : y * (((1 : ℤ) : ℝ) : EReal) = y := by simp
theorem masked_off (y : EReal) : y * (((0 : ℤ) : ℝ) : EReal) = 0 := by simp

theorem at8 (i : grid0.Coords) (H : Vec Ideal S8x1024 .f32) (hB : ∀ r a, B (ix2 r a) = (b r.val a : EReal)) (hH : (i 0).val < 31 → ∀ r a, H (ix2 r a) = (b (512 + r.val) a : EReal))
    (h0 : ¬(i 0).val < 31 → ∀ n a, 512 ≤ n → b n a = 0) : IsU b (k0_pay8 i B H) := by
  intro r a
  pointwise [k0_pay8]
  have e := below (i 0)
  by_cases h : r.val < 512
  · rw [dif_pos h]; exact hB _ _
  · rw [dif_neg h]
    by_cases h1 : (i 0).val < 31
    · rw [if_pos h1] at e
      refine Eq.trans (congrArg (fun z : ℤ => H (ix2 ⟨r.val - 512, by omega⟩ a) * ((z : ℝ) : EReal)) e) ?_
      rw [masked_on, hH h1]; congr 2; simp only; omega
    · rw [if_neg h1] at e
      refine Eq.trans (congrArg (fun z : ℤ => H (ix2 ⟨r.val - 512, by omega⟩ a) * ((z : ℝ) : EReal)) e) ?_
      rw [masked_off, h0 h1 _ _ (by omega)]; rfl

theorem at9 (i : grid0.Coords) (H : Vec Ideal S8x1024 .f32) (hZ : ∀ r a, Z (ix2 r a) = (p (8 + r.val) a : EReal)) (hH : 0 < (i 0).val → ∀ r a, H (ix2 r a) = (p r.val a : EReal))
    (h0 : ¬0 < (i 0).val → ∀ n a, n < 8 → p n a = 0) : IsU p (k0_pay9 i H Z) := by
  intro r a
  pointwise [k0_pay9]
  have e := above (i 0)
  by_cases h : r.val < 8
  · rw [dif_pos h]
    by_cases h1 : 0 < (i 0).val
    · rw [if_pos h1] at e
      refine Eq.trans (congrArg (fun z : ℤ => H (ix2 ⟨r.val, by omega⟩ a) * ((z : ℝ) : EReal)) e) ?_
      rw [masked_on, hH h1]
    · rw [if_neg h1] at e
      refine Eq.trans (congrArg (fun z : ℤ => H (ix2 ⟨r.val, by omega⟩ a) * ((z : ℝ) : EReal)) e) ?_
      rw [masked_off, h0 h1 _ _ (by omega)]; rfl
  · rw [dif_neg h, hZ]; congr 2; simp only; omega

theorem at14 (hB : ∀ r a, B (ix2 r a) = (b r.val a : EReal)) (hU : IsU b U) (C3 C0 C1 C2 : Vec Ideal S1x1024 .f32) (h3 : IsC w C3 3) (h0 : IsC w C0 0) (h1 : IsC w C1 1) (h2 : IsC w C2 2) (r : Fin 512) (a : Fin 1024) :
    k0_pay14 U (k0_pay10 B C3) C0 C1 C2 (ix2 r a) = (w.db b r.val a : EReal) := by
  pointwise [k0_pay14, k0_pay10]
  simp only [hU _ _, hB, h3 a, h0 a, h1 a, h2 a, ← EReal.coe_mul, ← EReal.coe_add]
  unfold Par.db
  congr <;> omega

theorem at11 (hB : ∀ r a, B (ix2 r a) = (b r.val a : EReal)) (hZ : ∀ r a, Z (ix2 r a) = (p (8 + r.val) a : EReal)) (a : Fin 1024) :
    k0_pay11 B O Z (ix2 0 a) = O (ix2 0 a) + ((∑ r : Fin 512, b r.val a * p (r.val + 5 + 3) a : ℝ) : EReal) := by
  pointwise [k0_pay11]
  simp only [hB, hZ, ← EReal.coe_mul, ← coe_sum]
  refine congrArg (O (ix2 0 a) + ·) (congrArg _ (Finset.sum_congr rfl fun r _ => ?_))
  rw [show 8 + r.val = r.val + 5 + 3 by omega]

theorem at12 (hB : ∀ r a, B (ix2 r a) = (b r.val a : EReal)) (hT : IsU p T) (a : Fin 1024) :
    k0_pay12 B T O (ix2 0 a) = O (ix2 0 a) + ((∑ r : Fin 512, b r.val a * p (r.val + 5 + 0) a : ℝ) : EReal) := by
  pointwise [k0_pay12]
  simp only [hB, hT _ _, ← EReal.coe_mul, ← coe_sum]
  refine congrArg (O (ix2 0 a) + ·) (congrArg _ (Finset.sum_congr rfl fun r _ => ?_))
  congr 2; omega

theorem at13 (hB : ∀ r a, B (ix2 r a) = (b r.val a : EReal)) (hT : IsU p T) (a : Fin 1024) :
    k0_pay13 B T O (ix2 0 a) = O (ix2 0 a) + ((∑ r : Fin 512, b r.val a * p (r.val + 5 + 1) a : ℝ) : EReal) := by
  pointwise [k0_pay13]
  simp only [hB, hT _ _, ← EReal.coe_mul, ← coe_sum]
  refine congrArg (O (ix2 0 a) + ·) (congrArg _ (Finset.sum_congr rfl fun r _ => ?_))
  congr 2; omega

theorem at16 (hB : ∀ r a, B (ix2 r a) = (b r.val a : EReal)) (hT : IsU p T) (a : Fin 1024) :
    k0_pay16 B T (k0_pay15 O) (ix2 0 a) = O (ix2 0 a) + ((∑ r : Fin 512, b r.val a * p (r.val + 5 + 2) a : ℝ) : EReal) := by
  pointwise [k0_pay16, k0_pay15]
  simp only [hB, hT _ _, ← EReal.coe_mul, ← coe_sum]
  refine congrArg (O (ix2 0 a) + ·) (congrArg _ (Finset.sum_congr rfl fun r _ => ?_))
  congr 2; omega

abbrev IsE : Prop := ∀ r j, E (ix2 r j) = (e r j : EReal)

theorem at17 (q : Fin 512 → Fin 1024 → ℝ) (hC : IsX c C) (hN : IsX q N) : IsE (fun r => Par.dz (c r) (q r)) (k0_pay17 N C) := by
  intro r j
  pointwise [k0_pay17]
  unfold Par.dz
  by_cases h : j.val < 1024
  · rw [dif_pos h, dif_pos h]; exact hC _ _
  · rw [dif_neg h, dif_neg h]; exact hN _ _

theorem at18 (hX : IsX x X) (r : Fin 512) : k0_pay18 X (ix2 r 0) = (scale (x r) : EReal) := by
  pointwise [k0_pay18]
  simp only [hX r, ms_eq, scale_eq]

theorem at19 (hX : IsX x X) (hG : IsG w G) (r : Fin 512) (a : Fin 1024) : k0_pay19 X G (ix2 r a) = (w.hx (x r) a : EReal) := by
  pointwise [k0_pay19]
  rw [hX, hG, at18 x X hX, ← EReal.coe_mul, ← EReal.coe_mul]; rfl

theorem at20 (hE : IsE e (k0_pay17 N C)) (hW : IsW w W) (r : Fin 512) (a : Fin 1024) : k0_pay20 N C W (ix2 r a) = (w.dh (e r) a : EReal) := by
  pointwise [k0_pay20]
  simp only [hE _ _, hW _ _, ← EReal.coe_mul, ← coe_sum]; rfl

theorem at21 (hX : IsX x X) (r : Fin 512) (a : Fin 1024) : k0_pay21 X (ix2 r a) = ((x r a * scale (x r) : ℝ) : EReal) := by
  pointwise [k0_pay21]
  rw [hX, at18 x X hX, ← EReal.coe_mul]

theorem at22 (hE : IsE e (k0_pay17 N C)) (hW : IsW w W) (hG : IsG w G) (r : Fin 512) (a : Fin 1024) : k0_pay22 N C G W (ix2 r a) = ((w.dh (e r) a * w.g a : ℝ) : EReal) := by
  pointwise [k0_pay22]
  rw [at20 w e C N W hE hW, hG, ← EReal.coe_mul]

theorem at23 (hX : IsX x X) (hE : IsE e (k0_pay17 N C)) (hW : IsW w W) (hG : IsG w G) (r : Fin 512) :
    k0_pay23 N C X G W (ix2 r 0) = (((∑ a, w.dh (e r) a * w.g a * (x r a * scale (x r))) / 1024 : ℝ) : EReal) := by
  pointwise [k0_pay23]
  simp only [at22 w e C N G W hE hW hG, at21 x X hX, ← EReal.coe_mul, ← coe_sum, div_1024]

theorem at1 (hX : IsX x X) (hD : IsX d D) (hE : IsE e (k0_pay17 N C)) (hW : IsW w W) (hG : IsG w G) (r : Fin 512) (a : Fin 1024) :
    k0_pay1 (k0_pay18 X) (k0_pay21 X) (k0_pay22 N C G W) (k0_pay23 N C X G W) D (ix2 r a) = (w.dx (x r) (d r) (e r) a : EReal) := by
  pointwise [k0_pay1]
  rw [hD, at18 x X hX, at21 x X hX, at22 w e C N G W hE hW hG, at23 w x e X C N G W hX hE hW hG]
  simp only [← EReal.coe_mul, ← EReal.coe_sub, ← EReal.coe_add]; rfl

theorem at2 (hX : IsX x X) (hE : IsE e (k0_pay17 N C)) (hW : IsW w W) (a : Fin 1024) :
    k0_pay2 (k0_pay20 N C W) (k0_pay21 X) O (ix2 0 a) = O (ix2 0 a) + ((∑ r, w.dg (x r) (e r) a : ℝ) : EReal) := by
  pointwise [k0_pay2]
  simp only [at20 w e C N W hE hW, at21 x X hX, ← EReal.coe_mul, ← coe_sum]; rfl

theorem at4 (hX : IsX x X) (hG : IsG w G) (hE : IsE e E) (A : Vec Ideal S1024x2048 .f32) (a : Fin 1024) (j : Fin 2048) :
    k0_pay4 E (k0_pay19 X G) A (ix2 a j) = A (ix2 a j) + ((∑ r, w.hx (x r) a * e r j : ℝ) : EReal) := by
  pointwise [k0_pay4]
  simp only [at19 w x X G hX hG, hE _ _, ← EReal.coe_mul, ← coe_sum]

end Cert.ConvKernelIdeal.Value
end
-- ==== Proof.ConvOut.lean ====
/- What the short convolution's backward kernel leaves in its four result arrays: at every grid point a block's rows, and the gradients that are summed over the grid points. -/
module

public import proofs.«01_k».proof.Proof.ConvBody
public import Idealize.ShloMosaic.Lib.Pipeline.ReadBack
public import Idealize.ShloMosaic.Lib.WholeRead

@[expose] public section

set_option maxRecDepth 200000

noncomputable section

namespace Cert.ConvKernelIdeal.Value

open Idealize.ShloMosaic Idealize.ShloMosaic.TcCoe Idealize.SL.Sem
open Idealize.ShloMosaic.Pipeline (Dat)
open Cert.ConvKernelIdeal Cert.ConvKernelIdeal.Gen Cert.Rows Cert.Reals

variable (m : (ℓ : Loc nD τ sig) → Buf (Elt Ideal) ℓ) (c : Dev nD) (w : Par) (x d u b : Fin 16384 → Fin 1024 → ℝ)

/-- The arguments are the reals of the specification. -/
structure Holds : Prop where
  x : ∀ r a, (show FVec Ideal S16384x1024 .f32 from m ((c.tc : Thread nD τ).loc main_arg0)) (ix2 r a) = (x r a : EReal)
  g : ∀ a, (show FVec Ideal S1024 .f32 from m ((c.tc : Thread nD τ).loc main_arg1)) (ix1 a) = (w.g a : EReal)
  win : ∀ a j, (show FVec Ideal S1024x2048 .f32 from m ((c.tc : Thread nD τ).loc main_arg2)) (ix2 a j) = (w.win a j : EReal)
  cw : ∀ k a, (show FVec Ideal S4x1024 .f32 from m ((c.tc : Thread nD τ).loc main_arg3)) (ix2 k a) = (w.cw k a : EReal)
  d : ∀ r a, (show FVec Ideal S16384x1024 .f32 from m ((c.tc : Thread nD τ).loc main_arg4)) (ix2 r a) = (d r a : EReal)
  u : ∀ r a, (show FVec Ideal S16384x1024 .f32 from m ((c.tc : Thread nD τ).loc main_arg5)) (ix2 r a) = (u r a : EReal)
  b : ∀ r a, (show FVec Ideal S16384x1024 .f32 from m ((c.tc : Thread nD τ).loc main_arg6)) (ix2 r a) = (b r a : EReal)

/-- The convolution's input, as the host makes it. -/
def zHost (X : FVec Ideal S16384x1024 .f32) (G : FVec Ideal S1024 .f32) (W : FVec Ideal S1024x2048 .f32) : FVec Ideal S16384x2048 .f32 :=
  Host.dotGeneral (F := Ideal) (φ₁ := .f32) (φ₂ := .f32) dot_S16384x1024_S1024x2048_S16384x2048_1_0_0_1_n_n none
    (mulf (mulf X (broadcastInDim S16384x1024 ![0, 1] bcast_S16384x1_S16384x1024_0_1 (Host.rsqrt (addf (Host.divf (broadcastInDim S16384x1 ![0] bcast_S16384_S16384x1_0 (Host.reduceAdd (F := Ideal) (φ := .f32) (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 G))) W

theorem z_arr : V m c main_v13 = zHost (m ((c.tc : Thread nD τ).loc main_arg0)) (m ((c.tc : Thread nD τ).loc main_arg1)) (m ((c.tc : Thread nD τ).loc main_arg2)) := by
  simp only [V, hostOps0]
  entry_read
  rfl

theorem idx : ∀ t : Fin cfg0.N, win0_0.index t = ![t.val, 0] ∧ win0_1.index t = ![t.val, 0] ∧ win0_2.index t = ![t.val, 1] ∧ win0_3.index t = ![t.val * 64 - 1, 1]
    ∧ win0_4.index t = ![t.val, 0] ∧ win0_5.index t = ![min (t.val * 64 + 64) 2047, 0] ∧ win0_6.index t = ![t.val, 0] ∧ win0_7.index t = ![0, 0] ∧ win0_8.index t = ![0, 0]
    ∧ win0_9.index t = ![0, 0] ∧ win0_10.index t = ![t.val, 0] ∧ win0_11.index t = ![0, 0] ∧ win0_12.index t = ![0, 0] ∧ win0_13.index t = ![0, 0] :=
  (by decide +kernel : ∀ t : Fin grid0.N, _)

theorem point_lt (t : Fin cfg0.N) : t.val < 32 := t.isLt

theorem coord (t : Fin cfg0.N) : (grid0.coords t 0).val = t.val := (by decide +kernel : ∀ t : Fin grid0.N, (grid0.coords t 0).val = t.val) t

/-- Row `r` of block `t`. -/
def row (t : Fin cfg0.N) (r : Fin 512) : Fin 16384 := ⟨t.val * 512 + r.val, by have := point_lt t; omega⟩

variable (H : Holds m c w x d u b) (t : Fin cfg0.N)
include H

theorem z_at (r : Fin 16384) (j : Fin 2048) : V m c main_v13 (ix2 r j) = (w.z (x r) j : EReal) := by
  rw [z_arr]
  refine Eq.trans (b := zHost _ _ _ (ix2 r j)) rfl ?_
  pointwise [zHost]
  simp only [H.x, ms_eq, scale_eq]
  simp only [H.g, H.win, ← EReal.coe_mul, ← coe_sum]; rfl

theorem blk0 : IsX (fun r => x (row t r)) (iblk m c 0 t) := by
  intro r a
  refine Eq.trans ?_ (H.x (row t r) a)
  blk_point [iblk, V, idx t, row]

theorem blk1 : IsX (fun r => d (row t r)) (iblk m c 1 t) := by
  intro r a
  refine Eq.trans ?_ (H.d (row t r) a)
  blk_point [iblk, V, idx t, row]

theorem blk2 (r : Fin 512) (a : Fin 1024) : iblk m c 2 t (ix2 r a) = (behind (w.zr x) (t.val * 512 + (8 + r.val)) a : EReal) := by
  have := point_lt t
  refine Eq.trans (b := V m c main_v13 (ix2 (row t r) (right a))) ?_ ?_
  · blk_simp [iblk]
    refine congrArg (V m c main_v13) ?_
    blk_ext [idx t, row, right]
  · rw [z_at m c w x d u b H, behind, dif_pos (by omega)]
    rw [show (⟨t.val * 512 + (8 + r.val) - 8, by omega⟩ : Fin 16384) = row t r from Fin.ext (by simp only [row]; omega)]; rfl

theorem blk3 (h0 : 0 < t.val) (r : Fin 8) (a : Fin 1024) : iblk m c 3 t (ix2 r a) = (behind (w.zr x) (t.val * 512 + r.val) a : EReal) := by
  have := point_lt t
  refine Eq.trans (b := V m c main_v13 (ix2 (⟨t.val * 512 + r.val - 8, by omega⟩ : Fin 16384) (right a))) ?_ ?_
  · blk_simp [iblk]
    refine congrArg (V m c main_v13) ?_
    blk_ext [idx t, right]
  · rw [z_at m c w x d u b H, behind, dif_pos (by omega)]; rfl

theorem blk4 (r : Fin 512) (a : Fin 1024) : iblk m c 4 t (ix2 r a) = (ahead b (t.val * 512 + r.val) a : EReal) := by
  have := point_lt t
  rw [ahead, dif_pos (by omega)]
  refine Eq.trans ?_ (H.b (row t r) a)
  blk_point [iblk, V, idx t, row]

theorem blk5 (h0 : t.val < 31) (r : Fin 8) (a : Fin 1024) : iblk m c 5 t (ix2 r a) = (ahead b (t.val * 512 + (512 + r.val)) a : EReal) := by
  rw [ahead, dif_pos (by omega)]
  refine Eq.trans ?_ (H.b ⟨t.val * 512 + (512 + r.val), by omega⟩ a)
  blk_point [iblk, V, idx t]

theorem blk6 : IsX (fun r => u (row t r)) (iblk m c 6 t) := by
  intro r a
  refine Eq.trans ?_ (H.u (row t r) a)
  blk_point [iblk, V, idx t, row]

theorem blk7 : IsG w (iblk m c 7 t) := by
  intro a
  refine Eq.trans ?_ (H.g a)
  blk_simp [iblk]; entry_read; pointwise
  blk_ext [idx t]

theorem blk8 (k : Fin 4) (a : Fin 1024) : iblk m c 8 t (ix2 k a) = (w.cw k a : EReal) := by
  refine Eq.trans ?_ (H.cw k a)
  blk_point [iblk, V, idx t]

theorem blk9 : IsW w (iblk m c 9 t) := by
  intro a j
  refine Eq.trans ?_ (H.win a j)
  blk_simp [iblk]; entry_read; pointwise
  blk_ext [idx t]

/-- The loaded rows of the taps. -/
abbrev tap3 : Vec Ideal S1x1024 .f32 := View.ld (iblk m c 8 t) (Rect.unit ![3, 0] ![1, 1024] inb_S4x1024_S1x1024_3_0)
abbrev tap0 : Vec Ideal S1x1024 .f32 := View.ld (iblk m c 8 t) (Rect.unit ![0, 0] ![1, 1024] inb_S4x1024_S1x1024_0_0)
abbrev tap1 : Vec Ideal S1x1024 .f32 := View.ld (iblk m c 8 t) (Rect.unit ![1, 0] ![1, 1024] inb_S4x1024_S1x1024_1_0)
abbrev tap2 : Vec Ideal S1x1024 .f32 := View.ld (iblk m c 8 t) (Rect.unit ![2, 0] ![1, 1024] inb_S4x1024_S1x1024_2_0)

theorem tap3_eq : IsC w (tap3 m c t) 3 := fun a => by
  unfold tap3; pointwise; exact blk8 m c w x d u b H t 3 a
theorem tap0_eq : IsC w (tap0 m c t) 0 := fun a => by
  unfold tap0; pointwise; exact blk8 m c w x d u b H t 0 a
theorem tap1_eq : IsC w (tap1 m c t) 1 := fun a => by
  unfold tap1; pointwise; exact blk8 m c w x d u b H t 1 a
theorem tap2_eq : IsC w (tap2 m c t) 2 := fun a => by
  unfold tap2; pointwise; exact blk8 m c w x d u b H t 2 a

theorem ext : IsU (fun n => ahead b (t.val * 512 + n)) (k0_pay8 (grid0.coords t) (iblk m c 4 t) (iblk m c 5 t)) :=
  at8 _ _ _ _ (blk4 m c w x d u b H t) (fun h => blk5 m c w x d u b H t (by rwa [coord] at h))
    fun h n a hn => by rw [coord] at h; exact dif_neg (by omega)

theorem exx : IsU (fun n => behind (w.zr x) (t.val * 512 + n)) (k0_pay9 (grid0.coords t) (iblk m c 3 t) (iblk m c 2 t)) :=
  at9 _ _ _ _ (blk2 m c w x d u b H t) (fun h => blk3 m c w x d u b H t (by rwa [coord] at h))
    fun h n a hn => by rw [coord] at h; exact dif_neg (by omega)

/-- Both branches' cotangents at a row of the whole array. -/
def _root_.Cert.ConvKernelIdeal.Value.Par.cot (w : Par) (u b : Fin 16384 → Fin 1024 → ℝ) (r : Fin 16384) : Fin 2048 → ℝ := Par.dz (u r) (w.db (ahead b) r.val)

abbrev dxbp : FVec Ideal S512x1024 .f32 :=
  k0_pay14 (k0_pay8 (grid0.coords t) (iblk m c 4 t) (iblk m c 5 t)) (k0_pay10 (iblk m c 4 t) (tap3 m c t)) (tap0 m c t) (tap1 m c t) (tap2 m c t)

theorem cots : IsE (fun r => w.cot u b (row t r)) (k0_pay17 (dxbp m c t) (iblk m c 6 t)) :=
  at17 (fun r => u (row t r)) _ _ (fun r => w.db (ahead b) (row t r).val) (blk6 m c w x d u b H t) fun r a =>
    at14 w (fun n => ahead b (t.val * 512 + n)) _ _ (blk4 m c w x d u b H t) (ext m c w x d u b H t) _ _ _ _ (tap3_eq m c w x d u b H t) (tap0_eq m c w x d u b H t) (tap1_eq m c w x d u b H t) (tap2_eq m c w x d u b H t) r a

theorem out10 (r : Fin 512) (a : Fin 1024) : (outsAt0 m c t.val t.isLt).1 (ix2 r a) = (w.dx (x (row t r)) (d (row t r)) (w.cot u b (row t r)) a : EReal) := by
  have e := at1 w (fun r => x (row t r)) (fun r => d (row t r)) (fun r => w.cot u b (row t r)) _ _ _ _ _ _ (blk0 m c w x d u b H t) (blk1 m c w x d u b H t) (cots m c w x d u b H t) (blk9 m c w x d u b H t) (blk7 m c w x d u b H t) r a
  by_cases h0 : t.val % 32 = 0
  · rw [outsAt0_A m c t h0 h0 (by omega)]; frame_out; exact e
  · by_cases h1 : t.val % 32 = 31
    · rw [outsAt0_C m c t h0 h0 h1]; frame_out; exact e
    · rw [outsAt0_B m c t h0 h0 h1]; frame_out; exact e

theorem out12 (a : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.2.1 (ix2 0 a)) :
    (outsAt0 m c t.val t.isLt).2.2.1 (ix2 0 a) = Z + ((∑ r, w.dg (x (row t r)) (w.cot u b (row t r)) a : ℝ) : EReal) := by
  have e := fun O => at2 w (fun r => x (row t r)) (fun r => w.cot u b (row t r)) _ _ _ O _ (blk0 m c w x d u b H t) (cots m c w x d u b H t) (blk9 m c w x d u b H t) a
  by_cases h0 : t.val % 32 = 0
  · rw [outsAt0_A m c t h0 h0 (by omega)]; frame_out
    refine (e _).trans ?_
    rw [hZ h0]; pointwise [k0_pay7]
  · by_cases h1 : t.val % 32 = 31
    · rw [outsAt0_C m c t h0 h0 h1]; frame_out
      refine (e _).trans ?_
      rw [hZ' h0]
    · rw [outsAt0_B m c t h0 h0 h1]; frame_out
      refine (e _).trans ?_
      rw [hZ' h0]

theorem acc (a : Fin 1024) (j : Fin 2048) (Z : EReal) (hZ : (h : t.val % 32 = 0) → Z = 0) (hZ' : (h : ¬ t.val % 32 = 0) → Z = (outsAt0 m c (t.val - 1) (Nat.lt_of_le_of_lt (Nat.sub_le _ _) t.isLt)).2.2.2.2 (ix2 a j)) :
    (outsAt0 m c t.val t.isLt).2.2.2.2 (ix2 a j) = Z + ((∑ r, w.hx (x (row t r)) a * w.cot u b (row t r) j : ℝ) : EReal) := by
  have e := fun A => at4 w (fun r => x (row t r)) (fun r => w.cot u b (row t r)) _ _ _ (blk0 m c w x d u b H t) (blk7 m c w x d u b H t) (cots m c w x d u b H t) A a j
  by_cases h0 : t.val % 32 = 0
  · rw [outsAt0_A m c t h0 h0 (by omega), hZ h0]; frame_out
    refine (e _).trans ?_
    rw [show k0_pay3 (F := Ideal) (ix2 a j) = (0 : EReal) from by pointwise [k0_pay3]]
  · by_cases h1 : t.val % 32 = 31
    · rw [outsAt0_C m c t h0 h0 h1, hZ' h0]; frame_out
      exact (e _).trans (congrArg (· + _) (congrFun ((Memref.isWhole_whole _).read_unread _) _))
    · rw [outsAt0_B m c t h0 h0 h1, hZ' h0]; frame_out
      exact (e _).trans (congrArg (· + _) (congrFun ((Memref.isWhole_whole _).read_unread _) _))

omit H in
theorem last13 (h1 : t.val % 32 = 31) (a : Fin 1024) (j : Fin 2048) : (outsAt0 m c t.val t.isLt).2.2.2.1 (ix2 a j) = (outsAt0 m c t.val t.isLt).2.2.2.2 (ix2 a j) := by
  rw [outsAt0_C m c t (by omega) (by omega) h1]; frame_out
  pointwise [k0_pay5]
  all_goals rfl

end Cert.ConvKernelIdeal.Value
end
-- ==== Proof.ConvTaps.lean ====
/- The gradient of the convolution's four taps, summed over the grid points. -/
module

public import proofs.«01_k».proof.Proof.ConvOut

@[expose] public section

set_option maxRecDepth 200000

noncomputable section

namespace Cert.ConvKernelIdeal.Value

open Idealize.ShloMosaic Idealize.ShloMosaic.TcCoe Idealize.SL.Sem
open Idealize.ShloMosaic.Pipeline (Dat)
open Cert.ConvKernelIdeal Cert.ConvKernelIdeal.Gen Cert.Rows Cert.Reals

/-- The four tap rows cover the block. -/
theorem taps (p2 p1 p0 p3 : S1x1024.Idx → Elt Ideal .f32) (y : S4x1024.Idx) :
    ∃ p ∈ ([⟨Rect.unit ![2, 0] ![1, 1024] inb_S4x1024_S1x1024_2_0, p2⟩, ⟨Rect.unit ![1, 0] ![1, 1024] inb_S4x1024_S1x1024_1_0, p1⟩,
      ⟨Rect.unit ![0, 0] ![1, 1024] inb_S4x1024_S1x1024_0_0, p0⟩, ⟨Rect.unit ![3, 0] ![1, 1024] inb_S4x1024_S1x1024_3_0, p3⟩] : List (View.Piece (Elt Ideal) S4x1024 .f32)), y ∈ p.1.set :=
  View.cover_of_tiledL (s := S4x1024) _ S1x1024.size (by sl_kernel_rfl) y

/-- One block's step of a tap's gradient. -/
def Par.step (w : Par) (x b : Fin 16384 → Fin 1024 → ℝ) (t : ℕ) (k : Fin 4) (a : Fin 1024) : ℝ :=
  ∑ r : Fin 512, ahead b (t * 512 + r.val) a * behind (w.zr x) (t * 512 + (r.val + 5 + k.val)) a

variable (m : (ℓ : Loc nD τ sig) → Buf (Elt Ideal) ℓ) (c : Dev nD) (w : Par) (x d u b : Fin 16384 → Fin 1024 → ℝ)
variable (H : Holds m c w x d u b) (t : Fin cfg0.N)
include H

theorem tapped3 (O : Vec Ideal S1x1024 .f32) (a : Fin 1024) : k0_pay11 (iblk m c 4 t) O (iblk m c 2 t) (ix2 0 a) = O (ix2 0 a) + (w.step x b t.val 3 a : EReal) :=
  at11 (fun n => ahead b (t.val * 512 + n)) (fun n => behind (w.zr x) (t.val * 512 + n)) _ _ O (blk4 m c w x d u b H t) (blk2 m c w x d u b H t) a

theorem tapped0 (O : Vec Ideal S1x1024 .f32) (a : Fin 1024) : k0_pay12 (iblk m c 4 t) (k0_pay9 (grid0.coords t) (iblk m c 3 t) (iblk m c 2 t)) O (ix2 0 a) = O (ix2 0 a) + (w.step x b t.val 0 a : EReal) :=
  at12 (fun n => ahead b (t.val * 512 + n)) (fun n => behind (w.zr x) (t.val * 512 + n)) _ O _ (blk4 m c w x d u b H t) (exx m c w x d u b H t) a

theorem tapped1 (O : Vec Ideal S1x1024 .f32) (a : Fin 1024) : k0_pay13 (iblk m c 4 t) (k0_pay9 (grid0.coords t) (iblk m c 3 t) (iblk m c 2 t)) O (ix2 0 a) = O (ix2 0 a) + (w.step x b t.val 1 a : EReal) :=
  at13 (fun n => ahead b (t.val * 512 + n)) (fun n => behind (w.zr x) (t.val * 512 + n)) _ O _ (blk4 m c w x d u b H t) (exx m c w x d u b H t) a

theorem tapped2 (O : Vec Ideal S1x1024 .f32) (a : Fin 1024) : k0_pay16 (iblk m c 4 t) (k0_pay9 (grid0.coords t) (iblk m c 3 t) (iblk m c 2 t)) (k0_pay15 O) (ix2 0 a) = O (ix2 0 a) + (w.step x b t.val 2 a : EReal) :=
  at16 (fun n => ahead b (t.val * 512 + n)) (fun n => behind (w.zr x) (t.val * 512 + n)) _ O _ (blk4 m c w x d u b H t) (exx m c w x d u b H t) a

omit H in
theorem one_row (z : S1x1024.Idx) : ∃ a, z = ix2 (0 : Fin 1) a := ⟨z 1, (eq_ix2 z).trans (congrArg (fun q : Fin 1 => ix2 q (z 1)) (Subsingleton.elim _ _))⟩

theorem out11 (k : Fin 4) (a : Fin 1024) (Z : EReal) (hZ : (h : t.val % 32 = 0) → Z = 0) (hZ' : (h : ¬ t.val % 32 = 0) → Z = (outsAt0 m c (t.val - 1) (Nat.lt_of_le_of_lt (Nat.sub_le _ _) t.isLt)).2.1 (ix2 k a)) :
    (outsAt0 m c t.val t.isLt).2.1 (ix2 k a) = Z + (w.step x b t.val k a : EReal) := by
  by_cases hr : t.val % 32 = 0
  · rw [outsAt0_A m c t hr hr (by omega), hZ hr]; frame_out
    refine (View.canon_append_of_piecesOf (Val := Elt Ideal) (e := .f32) (s := S4x1024) (fun y => 0 + (w.step x b t.val (y 0) (y 1) : EReal)) [_] [_, _, _, _] ⟨fun z => ?_, fun z => ?_, fun z => ?_, fun z => ?_, trivial⟩ (ix2 k a) ?_)
    · obtain ⟨e, rfl⟩ := one_row z
      refine (tapped2 m c w x d u b H t _ e).trans ?_
      rw [show (Rect.unit ![2, 0] ![1, 1024] inb_S4x1024_S1x1024_2_0).emb (ix2 0 e) = ix2 (2 : Fin 4) e from by blk_ext]
      refine congrArg (· + _) ?_
      rw [View.readCov_skip, View.readCov_skip, View.readCov_skip, View.readCov_fill]
      · pointwise [k0_pay6]
      all_goals first | rfl | decide
    · obtain ⟨e, rfl⟩ := one_row z
      refine (tapped1 m c w x d u b H t _ e).trans ?_
      rw [show (Rect.unit ![1, 0] ![1, 1024] inb_S4x1024_S1x1024_1_0).emb (ix2 0 e) = ix2 (1 : Fin 4) e from by blk_ext]
      refine congrArg (· + _) ?_
      rw [View.readCov_skip, View.readCov_skip, View.readCov_fill]
      · pointwise [k0_pay6]
      all_goals first | rfl | decide
    · obtain ⟨e, rfl⟩ := one_row z
      refine (tapped0 m c w x d u b H t _ e).trans ?_
      rw [show (Rect.unit ![0, 0] ![1, 1024] inb_S4x1024_S1x1024_0_0).emb (ix2 0 e) = ix2 (0 : Fin 4) e from by blk_ext]
      refine congrArg (· + _) ?_
      rw [View.readCov_skip, View.readCov_fill]
      · pointwise [k0_pay6]
      all_goals first | rfl | decide
    · obtain ⟨e, rfl⟩ := one_row z
      refine (tapped3 m c w x d u b H t _ e).trans ?_
      rw [show (Rect.unit ![3, 0] ![1, 1024] inb_S4x1024_S1x1024_3_0).emb (ix2 0 e) = ix2 (3 : Fin 4) e from by blk_ext]
      refine congrArg (· + _) ?_
      rw [View.readCov_fill]
      · pointwise [k0_pay6]
      all_goals first | rfl | decide
    · exact taps _ _ _ _ _
  · have hc : ∀ q, (q : Fin 4) = k → (outsAt0 m c (t.val - 1) (Nat.lt_of_le_of_lt (Nat.sub_le _ _) t.isLt)).2.1 (ix2 q a) = Z := fun q hq => by rw [hq, hZ' hr]
    by_cases h1 : t.val % 32 = 31
    · rw [outsAt0_C m c t hr hr h1]; frame_out
      canon_tiles z h
      · obtain ⟨e, rfl⟩ := one_row z
        obtain rfl : a = e := Fin.ext h1
        obtain rfl : k = 2 := Fin.ext h0
        refine (tapped2 m c w x d u b H t _ a).trans (congrArg (· + _) ?_)
        pointwise
        exact hc _ rfl
      · obtain ⟨e, rfl⟩ := one_row z
        obtain rfl : a = e := Fin.ext h1
        obtain rfl : k = 1 := Fin.ext h0
        refine (tapped1 m c w x d u b H t _ a).trans (congrArg (· + _) ?_)
        pointwise
        exact hc _ rfl
      · obtain ⟨e, rfl⟩ := one_row z
        obtain rfl : a = e := Fin.ext h1
        obtain rfl : k = 0 := Fin.ext h0
        refine (tapped0 m c w x d u b H t _ a).trans (congrArg (· + _) ?_)
        pointwise
        exact hc _ rfl
      · obtain ⟨e, rfl⟩ := one_row z
        obtain rfl : a = e := Fin.ext h1
        obtain rfl : k = 3 := Fin.ext h0
        refine (tapped3 m c w x d u b H t _ a).trans (congrArg (· + _) ?_)
        pointwise
        exact hc _ rfl
    · rw [outsAt0_B m c t hr hr h1]; frame_out
      canon_tiles z h
      · obtain ⟨e, rfl⟩ := one_row z
        obtain rfl : a = e := Fin.ext h1
        obtain rfl : k = 2 := Fin.ext h0
        refine (tapped2 m c w x d u b H t _ a).trans (congrArg (· + _) ?_)
        pointwise
        exact hc _ rfl
      · obtain ⟨e, rfl⟩ := one_row z
        obtain rfl : a = e := Fin.ext h1
        obtain rfl : k = 1 := Fin.ext h0
        refine (tapped1 m c w x d u b H t _ a).trans (congrArg (· + _) ?_)
        pointwise
        exact hc _ rfl
      · obtain ⟨e, rfl⟩ := one_row z
        obtain rfl : a = e := Fin.ext h1
        obtain rfl : k = 0 := Fin.ext h0
        refine (tapped0 m c w x d u b H t _ a).trans (congrArg (· + _) ?_)
        pointwise
        exact hc _ rfl
      · obtain ⟨e, rfl⟩ := one_row z
        obtain rfl : a = e := Fin.ext h1
        obtain rfl : k = 3 := Fin.ext h0
        refine (tapped3 m c w x d u b H t _ a).trans (congrArg (· + _) ?_)
        pointwise
        exact hc _ rfl

end Cert.ConvKernelIdeal.Value
end
-- ==== Proof.ConvRef.lean ====
/- The reference of the short convolution's backward, stage by stage, over real arguments: every result is the row specification the kernel's blocks compute. -/
module

public import proofs.«01_k».proof.Proof.ConvBody
public import proofs.«01_k».proof.Proof.Gen.ConvReferenceIdeal.Run

@[expose] public section

set_option maxRecDepth 200000

noncomputable section

namespace Cert.ConvReferenceIdeal.Value

open Idealize.ShloMosaic Idealize.ShloMosaic.TcCoe Idealize.SL.Sem
open Idealize.ShloMosaic.Pipeline (Dat)
open Cert.ConvReferenceIdeal Cert.ConvReferenceIdeal.Gen Cert.Rows Cert.Reals
open Cert.ConvKernelIdeal.Value (Par ahead behind right)

abbrev Rows1 := FVec Ideal S16384x1024 .f32
abbrev Rows2 := FVec Ideal S16384x2048 .f32
abbrev Col := FVec Ideal S16384x1 .f32

/-- The reference's stages, over any arrays: mean square, scale, normed row, convolution input, padded input, the taps' gradient, one tap's product, the input's cotangent. -/
def msA (X : Rows1) : Col := addf (Host.divf (broadcastInDim S16384x1 ![0] bcast_S16384_S16384x1_0 (Host.reduceAdd (F := Ideal) (φ := .f32) (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rsA (M : Col) : Col := Host.rsqrt M
def xnA (X : Rows1) (R : Col) : Rows1 := mulf X (broadcastInDim S16384x1024 ![0, 1] bcast_S16384x1_S16384x1024_0_1 R)
def hA (N : Rows1) (G : FVec Ideal S1024 .f32) : Rows1 := mulf N (broadcastInDim S16384x1024 ![0, 1] bcast_S1x1024_S16384x1024_0_1 (broadcastInDim S1x1024 ![1] bcast_S1024_S1x1024_1 G))
def zA (N : Rows1) (W : FVec Ideal S1024x2048 .f32) : Rows2 := Host.dotGeneral (F := Ideal) (φ₁ := .f32) (φ₂ := .f32) dot_S16384x1024_S1024x2048_S16384x2048_1_0_0_1_n_n none N W
def extA (Z : Rows2) : FVec Ideal S16387x1024 .f32 := concatenate S16387x1024 0 [⟨S3x1024, (broadcastInDim S3x1024 ![] bcast_S_S3x1024 (constant S_ .f32 0x00000000#32))⟩, ⟨S16384x1024, (extractStridedSlice S16384x1024 ![0, 1024] Z slices_S16384x2048_S16384x1024_0_1024)⟩] concatenates_S3x1024_S16384x1024_S16387x1024_d0
def colsum (E B : Rows1) : FVec Ideal S1x1024 .f32 := broadcastInDim S1x1024 ![1] bcast_S1024_S1x1024_1 (Host.reduceAdd (F := Ideal) (φ := .f32) (shapeCast S1x1024 (Host.reduceAdd (F := Ideal) (φ := .f32) (mulf E (shapeCast S16384x1024 B shapeCasts_S16384x1024_S16384x1024)) (constant S_ .f32 0x00000000#32) reducesTo_S16384x1024_S1024_d0 h_S_) shapeCasts_S1024_S1x1024) (constant S_ .f32 0x00000000#32) reducesTo_S1x1024_S1024_d0 h_S_)
def stackA (T3 T2 T1 T0 : FVec Ideal S1x1024 .f32) : FVec Ideal S4x1024 .f32 :=
  addf (addf (addf (pad S4x1024 ![3, 0] ![0, 0] ![0, 0] T3 (constant S_ .f32 0x00000000#32) pads_S1x1024_S4x1024_300_000 h_S_) (pad S4x1024 ![2, 0] ![1, 0] ![0, 0] T2 (constant S_ .f32 0x00000000#32) pads_S1x1024_S4x1024_210_000 h_S_)) (pad S4x1024 ![1, 0] ![2, 0] ![0, 0] T1 (constant S_ .f32 0x00000000#32) pads_S1x1024_S4x1024_120_000 h_S_)) (pad S4x1024 ![0, 0] ![3, 0] ![0, 0] T0 (constant S_ .f32 0x00000000#32) pads_S1x1024_S4x1024_030_000 h_S_)
def dcwA (E : FVec Ideal S16387x1024 .f32) (B : Rows1) : FVec Ideal S4x1024 .f32 :=
  stackA (colsum (extractStridedSlice S16384x1024 ![3, 0] E slices_S16387x1024_S16384x1024_3_0) B) (colsum (extractStridedSlice S16384x1024 ![2, 0] E slices_S16387x1024_S16384x1024_2_0) B)
    (colsum (extractStridedSlice S16384x1024 ![1, 0] E slices_S16387x1024_S16384x1024_1_0) B) (colsum (extractStridedSlice S16384x1024 ![0, 0] E slices_S16387x1024_S16384x1024_0_0) B)
def tapA (B : Rows1) (T : FVec Ideal S1x1024 .f32) : Rows1 := mulf (shapeCast S16384x1024 B shapeCasts_S16384x1024_S16384x1024) (broadcastInDim S16384x1024 ![0, 1] bcast_S1x1024_S16384x1024_0_1 (broadcastInDim S1x1024 ![1] bcast_S1024_S1x1024_1 (shapeCast S1024 T shapeCasts_S1x1024_S1024)))
def overlap (T3 T2 T1 T0 : Rows1) : Rows1 :=
  extractStridedSlice S16384x1024 ![3, 0] (addf (addf (addf (pad S16387x1024 ![3, 0] ![0, 0] ![0, 0] T3 (constant (F := Ideal) S_ .f32 0x00000000#32) pads_S16384x1024_S16387x1024_300_000 h_S_) (pad S16387x1024 ![2, 0] ![1, 0] ![0, 0] T2 (constant S_ .f32 0x00000000#32) pads_S16384x1024_S16387x1024_210_000 h_S_)) (pad S16387x1024 ![1, 0] ![2, 0] ![0, 0] T1 (constant S_ .f32 0x00000000#32) pads_S16384x1024_S16387x1024_120_000 h_S_)) (pad S16387x1024 ![0, 0] ![3, 0] ![0, 0] T0 (constant S_ .f32 0x00000000#32) pads_S16384x1024_S16387x1024_030_000 h_S_)) slices_S16387x1024_S16384x1024_3_0
def dbA (C : FVec Ideal S4x1024 .f32) (B : Rows1) : Rows1 :=
  overlap (tapA B (extractStridedSlice S1x1024 ![3, 0] C slices_S4x1024_S1x1024_3_0)) (tapA B (extractStridedSlice S1x1024 ![2, 0] C slices_S4x1024_S1x1024_2_0)) (tapA B (extractStridedSlice S1x1024 ![1, 0] C slices_S4x1024_S1x1024_1_0)) (tapA B (extractStridedSlice S1x1024 ![0, 0] C slices_S4x1024_S1x1024_0_0))
def dzA (U D : Rows1) : Rows2 := concatenate S16384x2048 1 [⟨S16384x1024, U⟩, ⟨S16384x1024, D⟩] concatenates_S16384x1024_S16384x1024_S16384x2048_d1
def dhA (E : Rows2) (W : FVec Ideal S1024x2048 .f32) : Rows1 := Host.dotGeneral (F := Ideal) (φ₁ := .f32) (φ₂ := .f32) dot_S16384x2048_S1024x2048_S16384x1024_1_1_0_0_n_n none E W
def dwinA (E : Rows2) (N : Rows1) : FVec Ideal S1024x2048 .bf16 := truncf .bf16 (transpose S1024x2048 [1, 0] (Host.dotGeneral (F := Ideal) (φ₁ := .f32) (φ₂ := .f32) dot_S16384x2048_S16384x1024_S2048x1024_0_0_1_1_n_n none E N) transposes_S2048x1024_S1024x2048_1_0) bitsLt_bf16_f32
def dgA (N H : Rows1) : FVec Ideal S1x1024 .f32 := shapeCast S1x1024 (Host.reduceAdd (F := Ideal) (φ := .f32) (shapeCast S1x1024 (Host.reduceAdd (F := Ideal) (φ := .f32) (mulf N H) (constant S_ .f32 0x00000000#32) reducesTo_S16384x1024_S1024_d0 h_S_) shapeCasts_S1024_S1x1024) (constant S_ .f32 0x00000000#32) reducesTo_S1x1024_S1024_d0 h_S_) shapeCasts_S1024_S1x1024
def meanA (X Y : Rows1) (R M : Col) : FVec Ideal S16384 .f32 :=
  Host.reduceAdd (F := Ideal) (φ := .f32) (Host.divf (mulf (shapeCast S16384x1 (Host.reduceAdd (F := Ideal) (φ := .f32) (mulf X Y) (constant S_ .f32 0x00000000#32) reducesTo_S16384x1024_S16384_d1 h_S_) shapeCasts_S16384_S16384x1) (mulf (broadcastInDim S16384x1 ![] bcast_S_S16384x1 (constant S_ .f32 0xBF000000#32)) (Host.divf R M))) (broadcastInDim S16384x1 ![] bcast_S_S16384x1 (constant S_ .f32 0x44800000#32))) (constant S_ .f32 0x00000000#32) reducesTo_S16384x1_S16384_d1 h_S_
def dxA (D X Y : Rows1) (R : Col) (Q : FVec Ideal S16384 .f32) : Rows1 :=
  addf (addf (addf D (mulf Y (broadcastInDim S16384x1024 ![0, 1] bcast_S16384x1_S16384x1024_0_1 R))) (mulf X (broadcastInDim S16384x1024 ![0] bcast_S16384_S16384x1024_0 Q))) (mulf (broadcastInDim S16384x1024 ![0] bcast_S16384_S16384x1024_0 Q) X)

variable (X D U B : Rows1) (G : FVec Ideal S1024 .f32) (W : FVec Ideal S1024x2048 .f32) (C : FVec Ideal S4x1024 .f32)
variable (w : Par) (x d u b : Fin 16384 → Fin 1024 → ℝ)

/-- The arguments are the reals of the specification. -/
structure Holds : Prop where
  x : ∀ r a, X (ix2 r a) = (x r a : EReal)
  g : ∀ a, G (ix1 a) = (w.g a : EReal)
  win : ∀ a j, W (ix2 a j) = (w.win a j : EReal)
  cw : ∀ k a, C (ix2 k a) = (w.cw k a : EReal)
  d : ∀ r a, D (ix2 r a) = (d r a : EReal)
  u : ∀ r a, U (ix2 r a) = (u r a : EReal)
  b : ∀ r a, B (ix2 r a) = (b r a : EReal)

theorem colsum_at (E B : Rows1) (a : Fin 1024) : colsum E B (ix2 0 a) = ∑ r, E (ix2 r a) * B (ix2 r a) := by
  pointwise [colsum]
  rw [Fin.sum_univ_one]

theorem dgA_at (E B : Rows1) (a : Fin 1024) : dgA E B (ix2 0 a) = ∑ r, E (ix2 r a) * B (ix2 r a) := by
  pointwise [dgA]
  rw [Fin.sum_univ_one]

theorem stackA_at (T : Fin 4 → FVec Ideal S1x1024 .f32) (k : Fin 4) (a : Fin 1024) : stackA (T 3) (T 2) (T 1) (T 0) (ix2 k a) = T k (ix2 0 a) := by
  fin_cases k <;> pointwise [stackA] <;> simp

theorem extA_at (Z : Rows2) (n : Fin 16387) (a : Fin 1024) : extA Z (ix2 n a) = if h : n.val < 3 then 0 else Z (ix2 (⟨n.val - 3, by omega⟩ : Fin 16384) (right a)) := by
  pointwise [extA]
  rfl

theorem overlap_at (T3 T2 T1 T0 : Rows1) (r : Fin 16384) (a : Fin 1024) : overlap T3 T2 T1 T0 (ix2 r a) = T3 (ix2 r a)
    + (if h : r.val + 1 < 16384 then T2 (ix2 (⟨r.val + 1, h⟩ : Fin 16384) a) else 0) + (if h : r.val + 2 < 16384 then T1 (ix2 (⟨r.val + 2, h⟩ : Fin 16384) a) else 0)
    + (if h : r.val + 3 < 16384 then T0 (ix2 (⟨r.val + 3, h⟩ : Fin 16384) a) else 0) := by
  pointwise [overlap]
  refine congrArg₂ (· + ·) (congrArg₂ (· + ·) (congrArg₂ (· + ·) rfl ?_) ?_) ?_
  · by_cases h : r.val + 1 < 16384
    · rw [dif_pos ⟨by omega, by omega⟩, dif_pos h]; congr 2; exact Fin.ext (by simp only; omega)
    · rw [dif_neg (by omega), dif_neg h]
  · by_cases h : r.val + 2 < 16384
    · rw [dif_pos ⟨by omega, by omega⟩, dif_pos h]; congr 2; exact Fin.ext (by simp only; omega)
    · rw [dif_neg (by omega), dif_neg h]
  · by_cases h : r.val + 3 < 16384
    · rw [dif_pos (by omega), dif_pos h]; congr 2; exact Fin.ext (by simp only; omega)
    · rw [dif_neg (by omega), dif_neg h]

theorem tapA_at (T : FVec Ideal S1x1024 .f32) (r : Fin 16384) (a : Fin 1024) : tapA B T (ix2 r a) = B (ix2 r a) * T (ix2 0 a) := by
  pointwise [tapA]

theorem msA_at (r : Fin 16384) (hX : ∀ r a, X (ix2 r a) = (x r a : EReal)) : msA X (ix2 r 0) = (ms (x r) : EReal) := by
  pointwise [msA]
  simp only [hX]; exact ms_eq _

theorem rsA_at (M : Col) (r : Fin 16384) (hM : M (ix2 r 0) = (ms (x r) : EReal)) : rsA M (ix2 r 0) = (scale (x r) : EReal) := by
  pointwise [rsA]
  rw [hM]; exact scale_eq _

theorem xnA_at (R : Col) (r : Fin 16384) (a : Fin 1024) : xnA X R (ix2 r a) = X (ix2 r a) * R (ix2 r 0) := by
  pointwise [xnA]

theorem hA_at (N : Rows1) (r : Fin 16384) (a : Fin 1024) : hA N G (ix2 r a) = N (ix2 r a) * G (ix1 a) := by
  pointwise [hA]

theorem zA_at (N : Rows1) (r : Fin 16384) (j : Fin 2048) : zA N W (ix2 r j) = ∑ a, N (ix2 r a) * W (ix2 a j) := by
  pointwise [zA]

theorem dzA_at (E F : Rows1) (r : Fin 16384) (j : Fin 2048) : dzA E F (ix2 r j) = if h : j.val < 1024 then E (ix2 r (⟨j.val, h⟩ : Fin 1024)) else F (ix2 r (⟨j.val - 1024, by omega⟩ : Fin 1024)) := by
  pointwise [dzA]

theorem dhA_at (E : Rows2) (r : Fin 16384) (a : Fin 1024) : dhA E W (ix2 r a) = ∑ j, E (ix2 r j) * W (ix2 a j) := by
  pointwise [dhA]

theorem dwinA_at (E : Rows2) (N : Rows1) (a : Fin 1024) (j : Fin 2048) : dwinA E N (ix2 a j) = ∑ r, E (ix2 r j) * N (ix2 r a) := by
  pointwise [dwinA]

theorem meanA_at (Y : Rows1) (R M : Col) (r : Fin 16384) : meanA X Y R M (ix1 r) = Ideal.div ((∑ a, X (ix2 r a) * Y (ix2 r a)) * (Ideal.ofBits .f32 0xBF000000#32 * Ideal.div (R (ix2 r 0)) (M (ix2 r 0)))) (Ideal.ofBits .f32 0x44800000#32) := by
  pointwise [meanA]
  rw [Fin.sum_univ_one]

theorem dxA_at (Y : Rows1) (R : Col) (Q : FVec Ideal S16384 .f32) (r : Fin 16384) (a : Fin 1024) :
    dxA D X Y R Q (ix2 r a) = D (ix2 r a) + Y (ix2 r a) * R (ix2 r 0) + X (ix2 r a) * Q (ix1 r) + Q (ix1 r) * X (ix2 r a) := by
  pointwise [dxA]

/-- The four results. -/
def resN : Rows1 := xnA X (rsA (msA X))
def resZ : Rows2 := zA (hA (resN X) G) W
def resE : Rows2 := dzA U (dbA C B)
def resDx : Rows1 := dxA D X (hA (dhA (resE U B C) W) G) (rsA (msA X)) (meanA X (hA (dhA (resE U B C) W) G) (rsA (msA X)) (msA X))

variable (m : (ℓ : Loc nD τ sig) → Buf (Elt Ideal) ℓ) (ρ : Dev nD → PrngReg)

/-- The reference leaves the stages' results, and its arguments as they were. -/
theorem result : θ_run defs (onTc (τ := τ) (main (F := Ideal))) ⟨m, fun _ => 0, ρ⟩ fun r => ∀ c : Dev nD,
      r.2.mem ((c.tc : Thread nD τ).loc main_v123) = resDx (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg3))
      ∧ r.2.mem ((c.tc : Thread nD τ).loc main_v94) = dcwA (extA (resZ (m ((c.tc : Thread nD τ).loc main_arg0)) (m ((c.tc : Thread nD τ).loc main_arg1)) (m ((c.tc : Thread nD τ).loc main_arg2)))) (m ((c.tc : Thread nD τ).loc main_arg6))
      ∧ r.2.mem ((c.tc : Thread nD τ).loc main_v124) = dgA (resN (m ((c.tc : Thread nD τ).loc main_arg0))) (dhA (resE (m ((c.tc : Thread nD τ).loc main_arg5)) (m ((c.tc : Thread nD τ).loc main_arg6)) (m ((c.tc : Thread nD τ).loc main_arg3))) (m ((c.tc : Thread nD τ).loc main_arg2)))
      ∧ r.2.mem ((c.tc : Thread nD τ).loc main_v125) = dwinA (resE (m ((c.tc : Thread nD τ).loc main_arg5)) (m ((c.tc : Thread nD τ).loc main_arg6)) (m ((c.tc : Thread nD τ).loc main_arg3))) (hA (resN (m ((c.tc : Thread nD τ).loc main_arg0))) (m ((c.tc : Thread nD τ).loc main_arg1)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6)) :=
  (θ_run defs _ _).mono (fun _ h c => ⟨(h c).1, (h c).2.1, (h c).2.2.1, (h c).2.2.2.1, (h c).2.2.2.2⟩) (run (F := Ideal) m ρ)

variable {X D U B G W C w x d u b} (H : Holds X D U B G W C w x d u b)
include H

theorem resN_at (r : Fin 16384) (a : Fin 1024) : resN X (ix2 r a) = ((x r a * scale (x r) : ℝ) : EReal) := by
  rw [resN, xnA_at, rsA_at x _ r (msA_at X x r H.x), H.x, ← EReal.coe_mul]

theorem hx_at (r : Fin 16384) (a : Fin 1024) : hA (resN X) G (ix2 r a) = (w.hx (x r) a : EReal) := by
  rw [hA_at, resN_at H, H.g, ← EReal.coe_mul]; rfl

theorem resZ_at (r : Fin 16384) (j : Fin 2048) : resZ X G W (ix2 r j) = (w.z (x r) j : EReal) := by
  rw [resZ, zA_at]; simp only [hx_at H, H.win, ← EReal.coe_mul, ← coe_sum]; rfl

theorem part (T : FVec Ideal S1x1024 .f32) (t : ℝ) (a : Fin 1024) (n : ℕ) (hT : T (ix2 0 a) = (t : EReal)) :
    (if h : n < 16384 then tapA B T (ix2 (⟨n, h⟩ : Fin 16384) a) else 0) = ((t * ahead b n a : ℝ) : EReal) := by
  unfold ahead
  by_cases h : n < 16384
  · rw [dif_pos h, dif_pos h, tapA_at, hT, H.b, ← EReal.coe_mul, mul_comm]
  · rw [dif_neg h, dif_neg h, mul_zero]; rfl

theorem dbA_at (r : Fin 16384) (a : Fin 1024) : dbA C B (ix2 r a) = (w.db (ahead b) r.val a : EReal) := by
  have c3 : extractStridedSlice S1x1024 ![3, 0] C slices_S4x1024_S1x1024_3_0 (ix2 0 a) = (w.cw 3 a : EReal) := by pointwise []; exact H.cw 3 a
  have c2 : extractStridedSlice S1x1024 ![2, 0] C slices_S4x1024_S1x1024_2_0 (ix2 0 a) = (w.cw 2 a : EReal) := by pointwise []; exact H.cw 2 a
  have c1 : extractStridedSlice S1x1024 ![1, 0] C slices_S4x1024_S1x1024_1_0 (ix2 0 a) = (w.cw 1 a : EReal) := by pointwise []; exact H.cw 1 a
  have c0 : extractStridedSlice S1x1024 ![0, 0] C slices_S4x1024_S1x1024_0_0 (ix2 0 a) = (w.cw 0 a : EReal) := by pointwise []; exact H.cw 0 a
  rw [dbA, overlap_at, part H _ _ a _ c2, part H _ _ a _ c1, part H _ _ a _ c0, tapA_at, c3, H.b]
  simp only [← EReal.coe_mul, ← EReal.coe_add]
  unfold Par.db
  rw [show ahead b r.val a = b r a from dif_pos r.isLt]
  congr 1; ring

theorem resE_at (r : Fin 16384) (j : Fin 2048) : resE U B C (ix2 r j) = (Par.dz (u r) (w.db (ahead b) r.val) j : EReal) := by
  rw [resE, dzA_at]; unfold Par.dz
  by_cases h : j.val < 1024
  · rw [dif_pos h, dif_pos h, H.u]
  · rw [dif_neg h, dif_neg h, dbA_at H]

theorem dh_at (r : Fin 16384) (a : Fin 1024) : dhA (resE U B C) W (ix2 r a) = (w.dh (Par.dz (u r) (w.db (ahead b) r.val)) a : EReal) := by
  rw [dhA_at]; simp only [resE_at H, H.win, ← EReal.coe_mul, ← coe_sum]; rfl

theorem resDx_at (r : Fin 16384) (a : Fin 1024) : resDx X D U B G W C (ix2 r a) = (w.dx (x r) (d r) (Par.dz (u r) (w.db (ahead b) r.val)) a : EReal) := by
  rw [resDx, dxA_at, meanA_at, rsA_at x _ r (msA_at X x r H.x), msA_at X x r H.x]
  simp only [hA_at, dh_at H, H.x, H.d, H.g, scale_div_ms, ofBits_neg_half, ← EReal.coe_mul, ← coe_sum, div_1024, ← EReal.coe_add]
  exact congrArg _ (back_staged (x r) (fun b' => w.dh (Par.dz (u r) (w.db (ahead b) r.val)) b' * w.g b') a (d r a))

theorem resDg_at (a : Fin 1024) : dgA (resN X) (dhA (resE U B C) W) (ix2 0 a) = ((∑ r, w.dg (x r) (Par.dz (u r) (w.db (ahead b) r.val)) a : ℝ) : EReal) := by
  rw [dgA_at]; simp only [resN_at H, dh_at H, ← EReal.coe_mul, ← coe_sum]
  exact congrArg _ (Finset.sum_congr rfl fun r _ => mul_comm _ _)

theorem resDwin_at (a : Fin 1024) (j : Fin 2048) : dwinA (resE U B C) (hA (resN X) G) (ix2 a j) = ((∑ r, w.hx (x r) a * Par.dz (u r) (w.db (ahead b) r.val) j : ℝ) : EReal) := by
  rw [dwinA_at]; simp only [resE_at H, hx_at H, ← EReal.coe_mul, ← coe_sum]
  exact congrArg _ (Finset.sum_congr rfl fun r _ => mul_comm _ _)

theorem ext_at (k : Fin 4) (r : Fin 16384) (a : Fin 1024) (h : k.val + r.val < 16387) : extA (resZ X G W) (ix2 (⟨k.val + r.val, h⟩ : Fin 16387) a) = (behind (w.zr x) (r.val + 5 + k.val) a : EReal) := by
  rw [extA_at]; unfold behind
  by_cases h' : k.val + r.val < 3
  · rw [dif_pos h', dif_neg (by omega)]; rfl
  · rw [dif_neg h', dif_pos (by omega), resZ_at H]; unfold Par.zr
    congr 3; exact Fin.ext (by simp only; omega)

theorem resDcw_at (k : Fin 4) (a : Fin 1024) : dcwA (extA (resZ X G W)) B (ix2 k a) = ((∑ r : Fin 16384, b r a * behind (w.zr x) (r.val + 5 + k.val) a : ℝ) : EReal) := by
  have s (k : Fin 4) (S) (hS : ∀ r : Fin 16384, S (ix2 r a) = (behind (w.zr x) (r.val + 5 + k.val) a : EReal)) : colsum S B (ix2 0 a) = ((∑ r : Fin 16384, b r a * behind (w.zr x) (r.val + 5 + k.val) a : ℝ) : EReal) := by
    rw [colsum_at]; simp only [hS, H.b, ← EReal.coe_mul, ← coe_sum]
    exact congrArg _ (Finset.sum_congr rfl fun r _ => mul_comm _ _)
  refine Eq.trans (stackA_at ![_, _, _, _] k a) ?_
  fin_cases k
  · refine s 0 _ fun r => ?_; pointwise []; exact Eq.trans (congrArg (fun n => extA _ (ix2 n a)) (Fin.ext (Nat.zero_add r.val).symm)) (ext_at H 0 r a (by have := r.isLt; show 0 + r.val < _; omega))
  · refine s 1 _ fun r => ?_; pointwise []; exact ext_at H 1 r a _
  · refine s 2 _ fun r => ?_; pointwise []; exact ext_at H 2 r a _
  · refine s 3 _ fun r => ?_; pointwise []; exact ext_at H 3 r a _

end Cert.ConvReferenceIdeal.Value
end
-- ==== Proof.Conv.lean ====
/- The short convolution's backward: the kernel's four results over the whole array, and the value claim. -/
module

public import proofs.«01_k».proof.Proof.ConvTaps
public import proofs.«01_k».proof.Proof.ConvRef
public import proofs.«01_k».proof.Proof.Gen.Pre_conv_finite

@[expose] public section

set_option maxRecDepth 200000

noncomputable section

namespace Cert.ConvKernelIdeal.Value

open Idealize.ShloMosaic Idealize.ShloMosaic.TcCoe Idealize.SL.Sem
open Idealize.ShloMosaic.Pipeline (Dat)
open Cert.ConvKernelIdeal Cert.ConvKernelIdeal.Gen Cert.Rows Cert.Reals

variable (m : (ℓ : Loc nD τ sig) → Buf (Elt Ideal) ℓ) (c : Dev nD) (w : Par) (x d u b : Fin 16384 → Fin 1024 → ℝ) (H : Holds m c w x d u b)
include H

theorem final10 : (dats m 0 c).arrAt 10 (cfgs 0).N = (fun i => ((w.dx (x (i 0)) (d (i 0)) (w.cot u b (i 0)) (i 1) : ℝ) : EReal) : FVec Ideal S16384x1024 .f32) := by
  refine (dats m 0 c).arrAt_eq_of_covers 10 _ (by decide +kernel) fun t hf y => ?_
  have e : ((cfg0.win 10).blk t).view.emb y = ix2 (row t (y 0)) (y 1) := by blk_ext [idx t, row]
  rw [e]
  blk_simp; rw [after0_10]
  exact Eq.trans (congrArg _ (eq_ix2 y)) (out10 m c w x d u b H t (y 0) (y 1))

omit H in
theorem ix2_one (y : S1x1024.Idx) : y = ix2 (0 : Fin 1) (y 1) := (eq_ix2 y).trans (congrArg (fun z : Fin 1 => ix2 z (y 1)) (Subsingleton.elim _ _))

theorem final12 : (dats m 0 c).arrAt 12 (cfgs 0).N = (fun i => ((∑ r, w.dg (x r) (w.cot u b r) (i 1) : ℝ) : EReal) : FVec Ideal S1x1024 .f32) := by
  refine (dats m 0 c).arrAt_eq_of_covers 12 _ (by decide +kernel) fun t hf y => ?_
  have e : ((cfg0.win 12).blk t).view.emb y = y := by blk_ext [idx t]
  rw [e]
  blk_simp; rw [after0_12]
  have hl := (flush0_12 t).mp hf
  rw [Pipeline.eq_sum_fin_of_reset_step_apply_of_flush (fun n h => (outsAt0 m c n h).2.2.1) 32 (fun _ => (0 : EReal)) (fun t y => ((∑ r, w.dg (x (row t r)) (w.cot u b (row t r)) (y 1) : ℝ) : EReal))
    (fun t h y => by rw [ix2_one y]; exact out12 m c w x d u b H t (y 1) 0 (fun _ => rfl) fun h' => absurd h h')
    (fun t h y => by rw [ix2_one y]; exact out12 m c w x d u b H t (y 1) _ (fun h' => absurd h' h) fun _ => rfl) t hl y]
  rw [zero_add]
  simp only [coe_sum]
  refine Fin.sum_mul_add_congr fun s k hk => ?_
  rw [show row ⟨_, Pipeline.run_point_lt_of_flush t hl s⟩ k = ⟨_, hk⟩ from Fin.ext (by have := point_lt t; simp only [row]; omega)]

theorem final13 : (dats m 0 c).arrAt 13 (cfgs 0).N = (fun i => ((∑ r, w.hx (x r) (i 0) * w.cot u b r (i 1) : ℝ) : EReal) : FVec Ideal S1024x2048 .bf16) := by
  refine (dats m 0 c).arrAt_eq_of_covers 13 _ (by decide +kernel) fun t hf y => ?_
  have e : ((cfg0.win 13).blk t).view.emb y = y := by blk_ext [idx t]
  rw [e]
  blk_simp; rw [after0_13]
  have hl := (flush0_13 t).mp hf
  refine ((congrArg _ (eq_ix2 y)).trans (last13 m c t hl (y 0) (y 1))).trans ?_
  rw [← eq_ix2 y]
  rw [Pipeline.eq_sum_fin_of_reset_step_apply_of_flush (fun n h => (outsAt0 m c n h).2.2.2.2) 32 (fun _ => (0 : EReal)) (fun t y => ((∑ r, w.hx (x (row t r)) (y 0) * w.cot u b (row t r) (y 1) : ℝ) : EReal))
    (fun t h y => by rw [eq_ix2 y]; exact acc m c w x d u b H t (y 0) (y 1) 0 (fun _ => rfl) fun h' => absurd h h')
    (fun t h y => by rw [eq_ix2 y]; exact acc m c w x d u b H t (y 0) (y 1) _ (fun h' => absurd h' h) fun _ => rfl) t hl y]
  rw [zero_add]
  simp only [coe_sum]
  refine Fin.sum_mul_add_congr fun s k hk => ?_
  rw [show row ⟨_, Pipeline.run_point_lt_of_flush t hl s⟩ k = ⟨_, hk⟩ from Fin.ext (by have := point_lt t; simp only [row]; omega)]

theorem final11 : (dats m 0 c).arrAt 11 (cfgs 0).N = (fun i => ((∑ r : Fin 16384, b r (i 1) * behind (w.zr x) (r.val + 5 + (i 0).val) (i 1) : ℝ) : EReal) : FVec Ideal S4x1024 .f32) := by
  refine (dats m 0 c).arrAt_eq_of_covers 11 _ (by decide +kernel) fun t hf y => ?_
  have e : ((cfg0.win 11).blk t).view.emb y = y := by blk_ext [idx t]
  rw [e]
  blk_simp; rw [after0_11]
  have hl := (flush0_11 t).mp hf
  rw [Pipeline.eq_sum_fin_of_reset_step_apply_of_flush (fun n h => (outsAt0 m c n h).2.1) 32 (fun _ => (0 : EReal)) (fun t y => ((w.step x b t.val (y 0) (y 1) : ℝ) : EReal))
    (fun t h y => by rw [eq_ix2 y]; exact out11 m c w x d u b H t (y 0) (y 1) 0 (fun _ => rfl) fun h' => absurd h h')
    (fun t h y => by rw [eq_ix2 y]; exact out11 m c w x d u b H t (y 0) (y 1) _ (fun h' => absurd h' h) fun _ => rfl) t hl y]
  rw [zero_add]
  simp only [Par.step, coe_sum]
  refine Fin.sum_mul_add_congr fun s k hk => ?_
  have e : (32 * (t.val / 32) + s.val) * 512 + k.val = s.val * 512 + k.val := by have := point_lt t; omega
  rw [← Nat.add_assoc, ← Nat.add_assoc, e, show ahead b (s.val * 512 + k.val) (y 1) = b ⟨s.val * 512 + k.val, hk⟩ (y 1) from dif_pos hk]

end Cert.ConvKernelIdeal.Value

namespace Cert.Proof

open Idealize.ShloMosaic Idealize.SL.Sem Cert.Reals Cert.ConvKernelIdeal.Value

/-- The reference is host operations only and declares no semaphore. -/
theorem conv_reference_frame : Cert.quiescent_ConvReferenceIdeal := fun m ρ _ =>
  (θ_run Cert.ConvReferenceIdeal.defs _ _).mono (fun r h => ⟨fun c => (h c).2.2.2.2,
      sem_eq_zero_of_no_sems (by decide) r.2⟩)
    (Cert.ConvReferenceIdeal.Value.run (F := Ideal) m ρ)

theorem conv_real {y : EReal} (h : IsReal y) : y = ((y.toReal : ℝ) : EReal) := by
  obtain ⟨r, rfl⟩ := h; rfl

/-- Finite arguments are reals, the same in both programs. -/
theorem conv_reals (m : (ℓ : Loc Cert.ConvKernelIdeal.nD Cert.ConvKernelIdeal.τ Cert.ConvKernelIdeal.sig) → Buf (Elt Ideal) ℓ)
    (c : Dev Cert.ConvKernelIdeal.nD)
    (hx : ∀ i, IsReal (m ((c.tc : Thread _ Cert.ConvKernelIdeal.τ).loc Cert.ConvKernelIdeal.main_arg0) i))
    (hg : ∀ i, IsReal (m ((c.tc : Thread _ Cert.ConvKernelIdeal.τ).loc Cert.ConvKernelIdeal.main_arg1) i))
    (hwin : ∀ i, IsReal (m ((c.tc : Thread _ Cert.ConvKernelIdeal.τ).loc Cert.ConvKernelIdeal.main_arg2) i))
    (hcw : ∀ i, IsReal (m ((c.tc : Thread _ Cert.ConvKernelIdeal.τ).loc Cert.ConvKernelIdeal.main_arg3) i))
    (hd : ∀ i, IsReal (m ((c.tc : Thread _ Cert.ConvKernelIdeal.τ).loc Cert.ConvKernelIdeal.main_arg4) i))
    (hu : ∀ i, IsReal (m ((c.tc : Thread _ Cert.ConvKernelIdeal.τ).loc Cert.ConvKernelIdeal.main_arg5) i))
    (hb : ∀ i, IsReal (m ((c.tc : Thread _ Cert.ConvKernelIdeal.τ).loc Cert.ConvKernelIdeal.main_arg6) i)) :
    ∃ w x d u b, Cert.ConvKernelIdeal.Value.Holds m c w x d u b
      ∧ Cert.ConvReferenceIdeal.Value.Holds (m ((c.tc : Thread _ Cert.ConvKernelIdeal.τ).loc Cert.ConvKernelIdeal.main_arg0)) (m ((c.tc : Thread _ Cert.ConvKernelIdeal.τ).loc Cert.ConvKernelIdeal.main_arg4)) (m ((c.tc : Thread _ Cert.ConvKernelIdeal.τ).loc Cert.ConvKernelIdeal.main_arg5)) (m ((c.tc : Thread _ Cert.ConvKernelIdeal.τ).loc Cert.ConvKernelIdeal.main_arg6)) (m ((c.tc : Thread _ Cert.ConvKernelIdeal.τ).loc Cert.ConvKernelIdeal.main_arg1)) (m ((c.tc : Thread _ Cert.ConvKernelIdeal.τ).loc Cert.ConvKernelIdeal.main_arg2)) (m ((c.tc : Thread _ Cert.ConvKernelIdeal.τ).loc Cert.ConvKernelIdeal.main_arg3)) w x d u b :=
  ⟨⟨fun a => EReal.toReal ((m ((c.tc : Thread _ Cert.ConvKernelIdeal.τ).loc Cert.ConvKernelIdeal.main_arg1) : _ → EReal) (ix1 a)),
    fun r a => EReal.toReal ((m ((c.tc : Thread _ Cert.ConvKernelIdeal.τ).loc Cert.ConvKernelIdeal.main_arg2) : _ → EReal) (ix2 r a)),
    fun r a => EReal.toReal ((m ((c.tc : Thread _ Cert.ConvKernelIdeal.τ).loc Cert.ConvKernelIdeal.main_arg3) : _ → EReal) (ix2 r a))⟩, fun r a => EReal.toReal ((m ((c.tc : Thread _ Cert.ConvKernelIdeal.τ).loc Cert.ConvKernelIdeal.main_arg0) : _ → EReal) (ix2 r a)),
    fun r a => EReal.toReal ((m ((c.tc : Thread _ Cert.ConvKernelIdeal.τ).loc Cert.ConvKernelIdeal.main_arg4) : _ → EReal) (ix2 r a)),
    fun r a => EReal.toReal ((m ((c.tc : Thread _ Cert.ConvKernelIdeal.τ).loc Cert.ConvKernelIdeal.main_arg5) : _ → EReal) (ix2 r a)),
    fun r a => EReal.toReal ((m ((c.tc : Thread _ Cert.ConvKernelIdeal.τ).loc Cert.ConvKernelIdeal.main_arg6) : _ → EReal) (ix2 r a)),
    ⟨fun _ _ => conv_real (hx _), fun _ => conv_real (hg _), fun _ _ => conv_real (hwin _), fun _ _ => conv_real (hcw _), fun _ _ => conv_real (hd _), fun _ _ => conv_real (hu _), fun _ _ => conv_real (hb _)⟩,
    ⟨fun _ _ => conv_real (hx _), fun _ => conv_real (hg _), fun _ _ => conv_real (hwin _), fun _ _ => conv_real (hcw _), fun _ _ => conv_real (hd _), fun _ _ => conv_real (hu _), fun _ _ => conv_real (hb _)⟩⟩

set_option maxHeartbeats 2000000 in
/-- The kernel's results are the derivative of the reference's forward lines. -/
theorem conv_algebraic : Cert.algebraic_ConvKernelIdeal_ConvReferenceIdeal_pre_conv_finite := by
  pair_intro
  · run_from Cert.ConvKernelIdeal.Gen.run_main m g
  · run_from Cert.ConvReferenceIdeal.Value.result m' g'
    all_goals
      obtain ⟨w, x, d, u, b, H, H'⟩ := conv_reals m c (fun i => isReal_of_abs_lt (congrFun (hpre c).1 i))
        (fun i => isReal_of_abs_lt (congrFun (hpre c).2.1 i))
        (fun i => isReal_of_abs_lt (congrFun (hpre c).2.2.1 i))
        (fun i => isReal_of_abs_lt (congrFun (hpre c).2.2.2.1 i))
        (fun i => isReal_of_abs_lt (congrFun (hpre c).2.2.2.2.1 i))
        (fun i => isReal_of_abs_lt (congrFun (hpre c).2.2.2.2.2.1 i))
        (fun i => isReal_of_abs_lt (congrFun (hpre c).2.2.2.2.2.2 i))
      clear hpre hagree
    · refine Eq.trans ?_ (final10 m c w x d u b H).symm
      funext j; obtain ⟨r, a, rfl⟩ : ∃ r a, j = ix2 r a := ⟨_, _, eq_ix2 j⟩
      exact Cert.ConvReferenceIdeal.Value.resDx_at H' r a
    · refine Eq.trans ?_ (final11 m c w x d u b H).symm
      funext j; obtain ⟨r, a, rfl⟩ : ∃ r a, j = ix2 r a := ⟨_, _, eq_ix2 j⟩
      exact Cert.ConvReferenceIdeal.Value.resDcw_at H' r a
    · refine Eq.trans ?_ (final12 m c w x d u b H).symm
      funext j; rw [ix2_one j]
      exact Cert.ConvReferenceIdeal.Value.resDg_at H' (j 1)
    · refine Eq.trans ?_ (final13 m c w x d u b H).symm
      funext j; obtain ⟨r, a, rfl⟩ : ∃ r a, j = ix2 r a := ⟨_, _, eq_ix2 j⟩
      exact Cert.ConvReferenceIdeal.Value.resDwin_at H' r a

end Cert.Proof
end
-- ==== Proof.FfnSpec.lean ====
/- One row of the gated feed-forward layer in real numbers, its loss and its gradients, and the laws that split the hidden columns into chunks. -/
module

public import proofs.«01_k».proof.Proof.Rows
public import Idealize.ShloMosaic.Lib.Pipeline.ValueKit

@[expose] public section

noncomputable section

namespace Cert.Ffn

open Idealize.ShloMosaic Cert.Rows Cert.Reals

theorem ofBits_one : Ideal.ofBits .f32 0x3F800000#32 = ((1 : ℝ) : EReal) := by
  simp [Ideal.ofBits, Ideal.ieee, -EReal.coe_mul]; norm_num

theorem ofBits_1024th : Ideal.ofBits .f32 0x3A800000#32 = ((1 / 1024 : ℝ) : EReal) := by
  simp [Ideal.ofBits, Ideal.ieee, -EReal.coe_mul]; norm_num

/-- The weights every row shares: the norm's gain, the gate's and the branch's matrix, the lower matrix, the last norm's gain. -/
structure Par where
  g : Fin 1024 → ℝ
  up : Fin 1024 → Fin 5632 → ℝ
  down : Fin 2816 → Fin 1024 → ℝ
  gf : Fin 1024 → ℝ

/-- A hidden column's place among the gates and among the branches; a chunk's columns. -/
def lo (j : Fin 2816) : Fin 5632 := ⟨j.val, by omega⟩
def hi (j : Fin 2816) : Fin 5632 := ⟨2816 + j.val, by omega⟩
def ch (k : Fin 8) (b : Fin 704) : Fin 5632 := ⟨k.val * 704 + b.val, by omega⟩
def ch4 (k : Fin 4) (b : Fin 704) : Fin 2816 := ⟨k.val * 704 + b.val, by omega⟩
def chLo (k : Fin 4) : Fin 8 := ⟨k.val, by omega⟩
def chHi (k : Fin 4) : Fin 8 := ⟨k.val + 4, by omega⟩

theorem lo_ch4 (k : Fin 4) (b : Fin 704) : lo (ch4 k b) = ch (chLo k) b := rfl
theorem hi_ch4 (k : Fin 4) (b : Fin 704) : hi (ch4 k b) = ch (chHi k) b := Fin.ext (by simp only [hi, ch4, ch, chHi]; omega)

/-- The logistic function. -/
def sig (t : ℝ) : ℝ := (1 + Real.exp (-t))⁻¹

theorem sig_div (t : ℝ) : Ideal.div ((1 : ℝ) : EReal) (((1 : ℝ) : EReal) + Ideal.exp (-(t : EReal))) = (sig t : EReal) := by
  rw [← EReal.coe_neg, Ideal.exp_coe, ← EReal.coe_add, Ideal.div_coe (by positivity), ← EReal.coe_mul, one_mul, one_div]; rfl

namespace Par

variable (w : Par)

def hx (x : Fin 1024 → ℝ) (a : Fin 1024) : ℝ := x a * scale x * w.g a
def gu (x : Fin 1024 → ℝ) (j : Fin 5632) : ℝ := ∑ a, w.hx x a * w.up a j
def act (x : Fin 1024 → ℝ) (j : Fin 2816) : ℝ := w.gu x (lo j) * sig (w.gu x (lo j)) * w.gu x (hi j)
def out (x : Fin 1024 → ℝ) (a : Fin 1024) : ℝ := x a + ∑ j, w.act x j * w.down j a

/-- One chunk's part of a row of the output. -/
def part (x : Fin 1024 → ℝ) (k : Fin 4) (a : Fin 1024) : ℝ := ∑ b, w.act x (ch4 k b) * w.down (ch4 k b) a

theorem sum_chunks (f : Fin 2816 → ℝ) : (∑ b, f (ch4 0 b)) + (∑ b, f (ch4 1 b)) + (∑ b, f (ch4 2 b)) + (∑ b, f (ch4 3 b)) = ∑ j, f j := by
  rw [← Fin.sum_univ_four fun k => ∑ b, f (ch4 k b)]
  exact Fin.sum_mul_add_congr fun k b hl => rfl

theorem out_parts (x : Fin 1024 → ℝ) (a : Fin 1024) : x a + w.part x 0 a + w.part x 1 a + w.part x 2 a + w.part x 3 a = w.out x a := by
  unfold part out
  rw [← sum_chunks fun j => w.act x j * w.down j a]; ring

/-- The row's error, the loss's gradient at the row and at the last gain. -/
def err (x t : Fin 1024 → ℝ) (a : Fin 1024) : ℝ := w.out x a * scale (w.out x) * w.gf a - t a
def sq (x t : Fin 1024 → ℝ) : ℝ := (∑ a, w.err x t a * w.err x t a) / 1024
def dout (x t : Fin 1024 → ℝ) (a : Fin 1024) : ℝ := back (w.out x) (fun b => w.err x t b * (1 / 1024) * w.gf b) a
def dgf (x t : Fin 1024 → ℝ) (a : Fin 1024) : ℝ := w.err x t a * (1 / 1024) * (w.out x a * scale (w.out x))

end Par

end Cert.Ffn

end
-- ==== Proof.LossBody.lean ====
/- The loss kernel's payloads: whenever a block's entries are the reals of the row specification, so is what each payload computes. -/
module

public import proofs.«01_k».proof.Defs
public import proofs.«01_k».proof.Proof.FfnSpec
public import proofs.«01_k».proof.Proof.Gen.LossKernelIdeal.Frame
public import Idealize.ShloMosaic.Lib.Pipeline.ValueKit
public import Idealize.ShloMosaic.Lib.Pointwise
public import Idealize.ShloMosaic.Lib.Claim

@[expose] public section

set_option maxRecDepth 200000

noncomputable section

namespace Cert.LossKernelIdeal.Value

open Idealize.ShloMosaic Idealize.ShloMosaic.TcCoe Idealize.SL.Sem
open Idealize.ShloMosaic.Pipeline (Dat)
open Cert.LossKernelIdeal Cert.LossKernelIdeal.Gen Cert.Rows Cert.Reals Cert.Ffn

variable (w : Par) (x t : Fin 256 → Fin 1024 → ℝ)
variable (X T Y : Vec Ideal S256x1024 .f32) (G O : Vec Ideal S1x1024 .f32) (N : FVec Ideal S256x1024 .bf16) (R : FVec Ideal S256x1 .f32)
variable (U V : Vec Ideal S1x1x1024x704 .bf16) (D D' : Vec Ideal S1x704x1024 .bf16) (A B : FVec Ideal S256x704 .f32)

/-- What the pieces of a block hold. -/
abbrev IsX (f : Fin 256 → Fin 1024 → ℝ) : Prop := ∀ r a, X (ix2 r a) = (f r a : EReal)
abbrev IsN : Prop := ∀ r a, N (ix2 r a) = (w.hx (x r) a : EReal)
abbrev IsG (g : Fin 1024 → ℝ) : Prop := ∀ a, G (ix2 0 a) = (g a : EReal)
abbrev IsU (k : Fin 8) : Prop := ∀ a b, U (ix4 0 0 a b) = (w.up a (ch k b) : EReal)
abbrev IsD (k : Fin 4) : Prop := ∀ b a, D (ix3 0 b a) = (w.down (ch4 k b) a : EReal)
abbrev IsA (k : Fin 8) : Prop := ∀ r b, A (ix2 r b) = (w.gu (x r) (ch k b) : EReal)

theorem at8 (hX : IsX X x) (hG : IsG G w.g) : IsN w x (k0_pay8 X G) := by
  intro r a
  pointwise [k0_pay8]
  simp only [hX _ _, ms_eq, scale_eq]
  simp only [hG _, ← EReal.coe_mul]; rfl

theorem at15 (k : Fin 8) (hN : IsN w x N) (hU : IsU w U k) : IsA w x (k0_pay15 N U) k := by
  intro r b
  pointwise [k0_pay15]
  simp only [hN _ _, hU _ _, ← EReal.coe_mul, ← coe_sum]; rfl

theorem pay_same : k0_pay16 N U = k0_pay15 N U ∧ k0_pay21 N U = k0_pay15 N U ∧ k0_pay22 N U = k0_pay15 N U ∧ k0_pay26 N U = k0_pay15 N U ∧ k0_pay28 N (k0_pay27 U) = k0_pay15 N U
    ∧ k0_pay9 X G U = k0_pay15 (k0_pay8 X G) U ∧ k0_pay10 X G U = k0_pay15 (k0_pay8 X G) U := ⟨rfl, rfl, rfl, rfl, rfl, rfl, rfl⟩

/-- One chunk's activations against its rows of the lower matrix. -/
theorem chunk (k : Fin 4) (hA : IsA w x A (chLo k)) (hB : IsA w x B (chHi k)) (hD : IsD w D k) (r : Fin 256) (a : Fin 1024) :
    k0_pay14 X A B D (ix2 r a) = X (ix2 r a) + (w.part (x r) k a : EReal) := by
  pointwise [k0_pay14]
  simp only [hA _ _, hB _ _, hD _ _, Ideal.logistic_coe, ← EReal.coe_mul, ← coe_sum]
  simp only [Par.part, Par.act, lo_ch4, hi_ch4, Ffn.sig]

theorem pay31_eq : k0_pay31 N X A (k0_pay27 V) D = k0_pay14 X A (k0_pay15 N V) D := rfl
theorem pay25_eq (U' V' : Vec Ideal S1x1x1024x704 .bf16) : k0_pay25 N X (k0_pay19 D) (k0_pay20 N U V) (constant S256x1024 .f32 0x00000000#32) U' V' D' = k0_pay14 (k0_pay14 X (k0_pay15 N U) (k0_pay15 N V) D) (k0_pay15 N U') (k0_pay15 N V') D' := rfl

theorem stored (k : Fin 8) (hA : IsA w x A k) (r : Fin 256) (b : Fin 704) : k0_pay29 A (ix3 0 r b) = (w.gu (x r) (ch k b) : EReal) := by
  pointwise [k0_pay29]; exact hA r b

theorem at34 (Z : Vec Ideal S1x1 .f32) : k0_pay34 Z = Z := by
  funext i; pointwise [k0_pay34]

/-- The tail of the body, over the layer's output. -/
def rs (Y : FVec Ideal S256x1024 .f32) : FVec Ideal S256x1 .f32 :=
  rsqrt (addf (divf (shapeCast S256x1 (multiReduction .add [1] S256 (mulf Y Y) 0x00000000#32 reduces_S256x1024_S256 (.inl rfl) rfl) shapeCasts_S256_S256x1) (broadcast S256x1 (Scalar.ofBits .f32 0x44800000#32))) (broadcast S256x1 (Scalar.ofBits .f32 0x358637BD#32)))
def er (Y : FVec Ideal S256x1024 .f32) (G : Vec Ideal S1x1024 .f32) (T : Vec Ideal S256x1024 .f32) : FVec Ideal S256x1024 .f32 :=
  subf (mulf (mulf Y (broadcastTo S256x1024 (rs Y) broadcasts_S256x1_S256x1024)) (broadcastTo S256x1024 (shapeCast S1x1024 G shapeCasts_S1x1024_S1x1024) broadcasts_S1x1024_S256x1024)) T
def sqs (E : FVec Ideal S256x1024 .f32) : FVec Ideal S256 .f32 := multiReduction .add [1] S256 (mulf E E) 0x00000000#32 reduces_S256x1024_S256 (.inl rfl) rfl

theorem pay32_eq (W : FVec Ideal S1024x704 .bf16) : k0_pay32 N X A W D = rs (k0_pay31 N X A W D) := rfl
theorem pay33_eq (W : FVec Ideal S1024x704 .bf16) : k0_pay33 N X A W D G T = er (k0_pay31 N X A W D) G T := rfl
theorem pay35_eq (W : FVec Ideal S1024x704 .bf16) : k0_pay35 N X A W D G T = sqs (er (k0_pay31 N X A W D) G T) := rfl

theorem rs_at (hY : IsX Y fun r => w.out (x r)) (r : Fin 256) : rs Y (ix2 r 0) = (scale (w.out (x r)) : EReal) := by
  pointwise [rs]
  simp only [hY _ _, ms_eq, scale_eq]

theorem er_at (hY : IsX Y fun r => w.out (x r)) (hG : IsG G w.gf) (hT : IsX T t) : IsX (er Y G T) fun r => w.err (x r) (t r) := by
  intro r a
  pointwise [er]
  rw [rs_at w x Y hY, hY, hG, hT]
  simp only [← EReal.coe_mul, ← EReal.coe_sub]; rfl

theorem at1 (E : FVec Ideal S256x1024 .f32) (hE : IsX E fun r => w.err (x r) (t r)) (Z : FVec Ideal S1x1 .f32) :
    k0_pay1 Z (sqs E) (ix2 0 0) = Z (ix2 0 0) + ((1 / 2 * ∑ r, w.sq (x r) (t r) : ℝ) : EReal) := by
  pointwise [k0_pay1, sqs]
  simp only [hE _ _, ofBits_half, ← EReal.coe_mul, ← coe_sum, div_1024]; rfl

theorem at4 (hY : IsX Y fun r => w.out (x r)) (E : FVec Ideal S256x1024 .f32) (hE : IsX E fun r => w.err (x r) (t r)) (hG : IsG G w.gf) (r : Fin 256) (a : Fin 1024) :
    k0_pay4 Y (rs Y) E G (ix2 r a) = (w.dout (x r) (t r) a : EReal) := by
  pointwise [k0_pay4, k0_pay2, k0_pay3]
  simp only [hY _ _, hE _ _, hG _, rs_at w x Y hY, ofBits_1024th, ← EReal.coe_mul, ← coe_sum, div_1024, ← EReal.coe_sub]; rfl

theorem at5 (hY : IsX Y fun r => w.out (x r)) (E : FVec Ideal S256x1024 .f32) (hE : IsX E fun r => w.err (x r) (t r)) (a : Fin 1024) :
    k0_pay5 Y (rs Y) E O (ix2 0 a) = O (ix2 0 a) + ((∑ r, w.dgf (x r) (t r) a : ℝ) : EReal) := by
  pointwise [k0_pay5, k0_pay2, k0_pay3]
  simp only [hY _ _, hE _ _, rs_at w x Y hY, ofBits_1024th, ← EReal.coe_mul, ← coe_sum]; rfl

end Cert.LossKernelIdeal.Value
end
-- ==== Proof.LossOut.lean ====
/- What the loss kernel leaves in its five result arrays: at every grid point a block's rows, and the loss and the last gain's gradient summed over the grid points. -/
module

public import proofs.«01_k».proof.Proof.LossBody
public import Idealize.ShloMosaic.Lib.Pipeline.ReadBack
public import Idealize.ShloMosaic.Lib.WholeRead

@[expose] public section

set_option maxRecDepth 200000

noncomputable section

namespace Cert.LossKernelIdeal.Value

open Idealize.ShloMosaic Idealize.ShloMosaic.TcCoe Idealize.SL.Sem
open Idealize.ShloMosaic.Pipeline (Dat)
open Cert.LossKernelIdeal Cert.LossKernelIdeal.Gen Cert.Rows Cert.Reals Cert.Ffn

variable (m : (ℓ : Loc nD τ sig) → Buf (Elt Ideal) ℓ) (c : Dev nD) (w : Par) (x y : Fin 16384 → Fin 1024 → ℝ)

/-- The arguments are the reals of the specification. -/
structure Holds : Prop where
  x : ∀ r a, (show FVec Ideal S16384x1024 .f32 from m ((c.tc : Thread nD τ).loc main_arg0)) (ix2 r a) = (x r a : EReal)
  g : ∀ a, (show FVec Ideal S1024 .f32 from m ((c.tc : Thread nD τ).loc main_arg1)) (ix1 a) = (w.g a : EReal)
  up : ∀ a j, (show FVec Ideal S1024x5632 .f32 from m ((c.tc : Thread nD τ).loc main_arg2)) (ix2 a j) = (w.up a j : EReal)
  down : ∀ j a, (show FVec Ideal S2816x1024 .f32 from m ((c.tc : Thread nD τ).loc main_arg3)) (ix2 j a) = (w.down j a : EReal)
  y : ∀ r a, (show FVec Ideal S16384x1024 .f32 from m ((c.tc : Thread nD τ).loc main_arg4)) (ix2 r a) = (y r a : EReal)
  gf : ∀ a, (show FVec Ideal S1024 .f32 from m ((c.tc : Thread nD τ).loc main_arg5)) (ix1 a) = (w.gf a : EReal)

theorem idx : ∀ t : Fin cfg0.N, win0_0.index t = ![t.val, 0] ∧ win0_1.index t = ![0, 0] ∧ win0_2.index t = ![0, 0, 0, 0] ∧ win0_3.index t = ![0, 0, 0]
    ∧ win0_4.index t = ![t.val, 0] ∧ win0_5.index t = ![0, 0] ∧ win0_6.index t = ![t.val, 0] ∧ win0_7.index t = ![0, 0] ∧ win0_8.index t = ![0, 0]
    ∧ win0_9.index t = ![t.val, 0] ∧ win0_10.index t = ![0, t.val, 0] :=
  (by decide +kernel : ∀ t : Fin grid0.N, _)

theorem point_lt (t : Fin cfg0.N) : t.val < 64 := t.isLt

/-- Row `r` of block `t`. -/
def row (t : Fin cfg0.N) (r : Fin 256) : Fin 16384 := ⟨t.val * 256 + r.val, by have := point_lt t; omega⟩

variable (H : Holds m c w x y) (t : Fin cfg0.N)
include H

theorem blk0 : IsX (iblk m c 0 t) fun r => x (row t r) := by
  intro r a
  refine Eq.trans ?_ (H.x (row t r) a)
  blk_point [iblk, V, idx t, row]

theorem blk4 : IsX (iblk m c 4 t) fun r => y (row t r) := by
  intro r a
  refine Eq.trans ?_ (H.y (row t r) a)
  blk_point [iblk, V, idx t, row]

theorem blk1 : IsG (iblk m c 1 t) w.g := by
  intro a
  refine Eq.trans ?_ (H.g a)
  blk_simp [iblk]; entry_read; pointwise
  blk_ext [idx t]

theorem blk5 : IsG (iblk m c 5 t) w.gf := by
  intro a
  refine Eq.trans ?_ (H.gf a)
  blk_simp [iblk]; entry_read; pointwise
  blk_ext [idx t]

theorem blk2 (k : Fin 8) (a : Fin 1024) (b : Fin 704) : iblk m c 2 t (ix4 k 0 a b) = (w.up a (ch k b) : EReal) := by
  refine Eq.trans ?_ (H.up a (ch k b))
  blk_simp [iblk]; entry_read; pointwise
  blk_ext [idx t, ch]

theorem blk3 (k : Fin 4) (b : Fin 704) (a : Fin 1024) : iblk m c 3 t (ix3 k b a) = (w.down (ch4 k b) a : EReal) := by
  refine Eq.trans ?_ (H.down (ch4 k b) a)
  blk_simp [iblk]; entry_read; pointwise
  blk_ext [idx t, ch4]

theorem up0 : IsU w (View.ld (iblk m c 2 t) (Rect.unit ![0, 0, 0, 0] ![1, 1, 1024, 704] inb_S8x1x1024x704_S1x1x1024x704_0_0_0_0)) 0 := fun a b => by
  pointwise; exact blk2 m c w x y H t 0 a b
theorem up1 : IsU w (View.ld (iblk m c 2 t) (Rect.unit ![1, 0, 0, 0] ![1, 1, 1024, 704] inb_S8x1x1024x704_S1x1x1024x704_1_0_0_0)) 1 := fun a b => by
  pointwise; exact blk2 m c w x y H t 1 a b
theorem up2 : IsU w (View.ld (iblk m c 2 t) (Rect.unit ![2, 0, 0, 0] ![1, 1, 1024, 704] inb_S8x1x1024x704_S1x1x1024x704_2_0_0_0)) 2 := fun a b => by
  pointwise; exact blk2 m c w x y H t 2 a b
theorem up3 : IsU w (View.ld (iblk m c 2 t) (Rect.unit ![3, 0, 0, 0] ![1, 1, 1024, 704] inb_S8x1x1024x704_S1x1x1024x704_3_0_0_0)) 3 := fun a b => by
  pointwise; exact blk2 m c w x y H t 3 a b
theorem up4 : IsU w (View.ld (iblk m c 2 t) (Rect.unit ![4, 0, 0, 0] ![1, 1, 1024, 704] inb_S8x1x1024x704_S1x1x1024x704_4_0_0_0)) 4 := fun a b => by
  pointwise; exact blk2 m c w x y H t 4 a b
theorem up5 : IsU w (View.ld (iblk m c 2 t) (Rect.unit ![5, 0, 0, 0] ![1, 1, 1024, 704] inb_S8x1x1024x704_S1x1x1024x704_5_0_0_0)) 5 := fun a b => by
  pointwise; exact blk2 m c w x y H t 5 a b
theorem up6 : IsU w (View.ld (iblk m c 2 t) (Rect.unit ![6, 0, 0, 0] ![1, 1, 1024, 704] inb_S8x1x1024x704_S1x1x1024x704_6_0_0_0)) 6 := fun a b => by
  pointwise; exact blk2 m c w x y H t 6 a b
theorem up7 : IsU w (View.ld (iblk m c 2 t) (Rect.unit ![7, 0, 0, 0] ![1, 1, 1024, 704] inb_S8x1x1024x704_S1x1x1024x704_7_0_0_0)) 7 := fun a b => by
  pointwise; exact blk2 m c w x y H t 7 a b
theorem down0 : IsD w (View.ld (iblk m c 3 t) (Rect.unit ![0, 0, 0] ![1, 704, 1024] inb_S4x704x1024_S1x704x1024_0_0_0)) 0 := fun b a => by
  pointwise; exact blk3 m c w x y H t 0 b a
theorem down1 : IsD w (View.ld (iblk m c 3 t) (Rect.unit ![1, 0, 0] ![1, 704, 1024] inb_S4x704x1024_S1x704x1024_1_0_0)) 1 := fun b a => by
  pointwise; exact blk3 m c w x y H t 1 b a
theorem down2 : IsD w (View.ld (iblk m c 3 t) (Rect.unit ![2, 0, 0] ![1, 704, 1024] inb_S4x704x1024_S1x704x1024_2_0_0)) 2 := fun b a => by
  pointwise; exact blk3 m c w x y H t 2 b a
theorem down3 : IsD w (View.ld (iblk m c 3 t) (Rect.unit ![3, 0, 0] ![1, 704, 1024] inb_S4x704x1024_S1x704x1024_3_0_0)) 3 := fun b a => by
  pointwise; exact blk3 m c w x y H t 3 b a

theorem out9 (r : Fin 256) (a : Fin 1024) : (outsAt0 m c t.val t.isLt).2.2.2.1 (ix2 r a) = (w.hx (x (row t r)) a : EReal) := by
  have e := at8 w (fun r => x (row t r)) _ _ (blk0 m c w x y H t) (blk1 m c w x y H t) r a
  by_cases h0 : t.val % 64 = 0
  · rw [outsAt0_A m c t h0]; frame_out; exact e
  · rw [outsAt0_B m c t h0]; frame_out; exact e

/-- The layer's output at a block, as the body adds it up chunk by chunk. -/
theorem sum_at : IsX (k0_pay31 (k0_pay8 (iblk m c 0 t) (iblk m c 1 t))
    (k0_pay25 (k0_pay8 (iblk m c 0 t) (iblk m c 1 t)) (k0_pay14 (iblk m c 0 t) (k0_pay9 (iblk m c 0 t) (iblk m c 1 t) (View.ld (iblk m c 2 t) (Rect.unit ![0, 0, 0, 0] ![1, 1, 1024, 704] inb_S8x1x1024x704_S1x1x1024x704_0_0_0_0))) (k0_pay10 (iblk m c 0 t) (iblk m c 1 t) (View.ld (iblk m c 2 t) (Rect.unit ![4, 0, 0, 0] ![1, 1, 1024, 704] inb_S8x1x1024x704_S1x1x1024x704_4_0_0_0))) (View.ld (iblk m c 3 t) (Rect.unit ![0, 0, 0] ![1, 704, 1024] inb_S4x704x1024_S1x704x1024_0_0_0)))
      (k0_pay19 (View.ld (iblk m c 3 t) (Rect.unit ![1, 0, 0] ![1, 704, 1024] inb_S4x704x1024_S1x704x1024_1_0_0))) (k0_pay20 (k0_pay8 (iblk m c 0 t) (iblk m c 1 t)) (View.ld (iblk m c 2 t) (Rect.unit ![1, 0, 0, 0] ![1, 1, 1024, 704] inb_S8x1x1024x704_S1x1x1024x704_1_0_0_0)) (View.ld (iblk m c 2 t) (Rect.unit ![5, 0, 0, 0] ![1, 1, 1024, 704] inb_S8x1x1024x704_S1x1x1024x704_5_0_0_0))) (constant S256x1024 .f32 0x00000000#32) (View.ld (iblk m c 2 t) (Rect.unit ![2, 0, 0, 0] ![1, 1, 1024, 704] inb_S8x1x1024x704_S1x1x1024x704_2_0_0_0)) (View.ld (iblk m c 2 t) (Rect.unit ![6, 0, 0, 0] ![1, 1, 1024, 704] inb_S8x1x1024x704_S1x1x1024x704_6_0_0_0)) (View.ld (iblk m c 3 t) (Rect.unit ![2, 0, 0] ![1, 704, 1024] inb_S4x704x1024_S1x704x1024_2_0_0)))
    (k0_pay26 (k0_pay8 (iblk m c 0 t) (iblk m c 1 t)) (View.ld (iblk m c 2 t) (Rect.unit ![3, 0, 0, 0] ![1, 1, 1024, 704] inb_S8x1x1024x704_S1x1x1024x704_3_0_0_0))) (k0_pay27 (View.ld (iblk m c 2 t) (Rect.unit ![7, 0, 0, 0] ![1, 1, 1024, 704] inb_S8x1x1024x704_S1x1x1024x704_7_0_0_0))) (View.ld (iblk m c 3 t) (Rect.unit ![3, 0, 0] ![1, 704, 1024] inb_S4x704x1024_S1x704x1024_3_0_0))) fun r => w.out (x (row t r)) := by
  have hN := at8 w (fun r => x (row t r)) _ _ (blk0 m c w x y H t) (blk1 m c w x y H t)
  have s := pay_same (iblk m c 0 t) (iblk m c 1 t) (k0_pay8 (iblk m c 0 t) (iblk m c 1 t))
  intro r a
  rw [pay31_eq, pay25_eq, (s (View.ld (iblk m c 2 t) (Rect.unit ![3, 0, 0, 0] ![1, 1, 1024, 704] inb_S8x1x1024x704_S1x1x1024x704_3_0_0_0))).2.2.2.1, (s (View.ld (iblk m c 2 t) (Rect.unit ![0, 0, 0, 0] ![1, 1, 1024, 704] inb_S8x1x1024x704_S1x1x1024x704_0_0_0_0))).2.2.2.2.2.1, (s (View.ld (iblk m c 2 t) (Rect.unit ![4, 0, 0, 0] ![1, 1, 1024, 704] inb_S8x1x1024x704_S1x1x1024x704_4_0_0_0))).2.2.2.2.2.2]
  rw [chunk w (fun r => x (row t r)) _ _ _ _ 3 (at15 w _ _ _ 3 hN (up3 m c w x y H t)) (at15 w _ _ _ 7 hN (up7 m c w x y H t)) (down3 m c w x y H t),
    chunk w (fun r => x (row t r)) _ _ _ _ 2 (at15 w _ _ _ 2 hN (up2 m c w x y H t)) (at15 w _ _ _ 6 hN (up6 m c w x y H t)) (down2 m c w x y H t),
    chunk w (fun r => x (row t r)) _ _ _ _ 1 (at15 w _ _ _ 1 hN (up1 m c w x y H t)) (at15 w _ _ _ 5 hN (up5 m c w x y H t)) (down1 m c w x y H t),
    chunk w (fun r => x (row t r)) _ _ _ _ 0 (at15 w _ _ _ 0 hN (up0 m c w x y H t)) (at15 w _ _ _ 4 hN (up4 m c w x y H t)) (down0 m c w x y H t),
    blk0 m c w x y H t]
  simp only [← w.out_parts, EReal.coe_add]

theorem out6 (r : Fin 256) (a : Fin 1024) : (outsAt0 m c t.val t.isLt).1 (ix2 r a) = (w.dout (x (row t r)) (y (row t r)) a : EReal) := by
  have hY := sum_at m c w x y H t
  have e := at4 w (fun r => x (row t r)) (fun r => y (row t r)) _ _ hY _ (er_at w _ _ _ _ _ hY (blk5 m c w x y H t) (blk4 m c w x y H t)) (blk5 m c w x y H t) r a
  by_cases h0 : t.val % 64 = 0
  · rw [outsAt0_A m c t h0]; frame_out; exact e
  · rw [outsAt0_B m c t h0]; frame_out; exact e

/-- A point adds its rows' share of the gain's gradient to what stands there, or to zeros at the first point. -/
theorem out7 (a : Fin 1024) (v : EReal) (hA : t.val % 64 = 0 → v = 0)
    (hB : ∀ h : ¬ t.val % 64 = 0, v = (outsAt0 m c (t.val - 1) (by have := t.isLt; omega)).2.1 (ix2 0 a)) :
    (outsAt0 m c t.val t.isLt).2.1 (ix2 0 a) = v + ((∑ r, w.dgf (x (row t r)) (y (row t r)) a : ℝ) : EReal) := by
  have hY := sum_at m c w x y H t
  have e := fun O => at5 w (fun r => x (row t r)) (fun r => y (row t r)) _ O hY _ (er_at w _ _ _ _ _ hY (blk5 m c w x y H t) (blk4 m c w x y H t)) a
  by_cases h0 : t.val % 64 = 0
  · rw [outsAt0_A m c t h0, hA h0]; frame_out
    refine (e (k0_pay6 (F := Ideal))).trans (congrArg (· + _) ?_)
    pointwise [k0_pay6]
  · rw [outsAt0_B m c t h0, hB h0]; frame_out; exact e _

/-- A point adds its rows' share of the loss. -/
theorem out8 (v : EReal) (hA : t.val % 64 = 0 → v = 0)
    (hB : ∀ h : ¬ t.val % 64 = 0, v = (outsAt0 m c (t.val - 1) (by have := t.isLt; omega)).2.2.1 (ix2 0 0)) :
    (outsAt0 m c t.val t.isLt).2.2.1 (ix2 0 0) = v + ((1 / 2 * ∑ r, w.sq (x (row t r)) (y (row t r)) : ℝ) : EReal) := by
  have hY := sum_at m c w x y H t
  have e := fun Z => at1 w (fun r => x (row t r)) (fun r => y (row t r)) _ (er_at w _ _ _ _ _ hY (blk5 m c w x y H t) (blk4 m c w x y H t)) Z
  by_cases h0 : t.val % 64 = 0
  · rw [outsAt0_A m c t h0, hA h0]; frame_out
    refine (e (k0_pay34 (k0_pay7 (F := Ideal)))).trans (congrArg (· + _) ?_)
    pointwise [k0_pay34, k0_pay7]
  · rw [outsAt0_B m c t h0, hB h0]; frame_out
    refine (e (k0_pay34 _)).trans (congrArg (· + _) ?_)
    rw [at34]

omit H in
theorem one_plane (z : S1x256x704.Idx) : ∃ p q, z = ix3 (0 : Fin 1) p q := ⟨z 1, z 2, (eq_ix3 z).trans (congrArg (fun v : Fin 1 => ix3 v (z 1) (z 2)) (Subsingleton.elim _ _))⟩

theorem out10 (k : Fin 8) (r : Fin 256) (b : Fin 704) : (outsAt0 m c t.val t.isLt).2.2.2.2 (ix3 k r b) = (w.gu (x (row t r)) (ch k b) : EReal) := by
  have hN := at8 w (fun r => x (row t r)) _ _ (blk0 m c w x y H t) (blk1 m c w x y H t)
  by_cases h0 : t.val % 64 = 0
  · rw [outsAt0_A m c t h0]; frame_out
    clear h0
    canon_tiles z h
    · obtain ⟨p, q, rfl⟩ := one_plane z
      obtain rfl : k = 7 := Fin.ext h0
      obtain rfl : r = p := Fin.ext h1
      obtain rfl : b = q := Fin.ext h2
      exact stored w _ _ 7 (at15 w _ _ _ 7 hN (up7 m c w x y H t)) r b
    · obtain ⟨p, q, rfl⟩ := one_plane z
      obtain rfl : k = 3 := Fin.ext h0
      obtain rfl : r = p := Fin.ext h1
      obtain rfl : b = q := Fin.ext h2
      exact stored w _ _ 3 (at15 w _ _ _ 3 hN (up3 m c w x y H t)) r b
    · obtain ⟨p, q, rfl⟩ := one_plane z
      obtain rfl : k = 6 := Fin.ext h0
      obtain rfl : r = p := Fin.ext h1
      obtain rfl : b = q := Fin.ext h2
      exact stored w _ _ 6 (at15 w _ _ _ 6 hN (up6 m c w x y H t)) r b
    · obtain ⟨p, q, rfl⟩ := one_plane z
      obtain rfl : k = 2 := Fin.ext h0
      obtain rfl : r = p := Fin.ext h1
      obtain rfl : b = q := Fin.ext h2
      exact stored w _ _ 2 (at15 w _ _ _ 2 hN (up2 m c w x y H t)) r b
    · obtain ⟨p, q, rfl⟩ := one_plane z
      obtain rfl : k = 5 := Fin.ext h0
      obtain rfl : r = p := Fin.ext h1
      obtain rfl : b = q := Fin.ext h2
      exact stored w _ _ 5 (at15 w _ _ _ 5 hN (up5 m c w x y H t)) r b
    · obtain ⟨p, q, rfl⟩ := one_plane z
      obtain rfl : k = 1 := Fin.ext h0
      obtain rfl : r = p := Fin.ext h1
      obtain rfl : b = q := Fin.ext h2
      exact stored w _ _ 1 (at15 w _ _ _ 1 hN (up1 m c w x y H t)) r b
    · obtain ⟨p, q, rfl⟩ := one_plane z
      obtain rfl : k = 4 := Fin.ext h0
      obtain rfl : r = p := Fin.ext h1
      obtain rfl : b = q := Fin.ext h2
      exact stored w _ _ 4 (at15 w _ _ _ 4 hN (up4 m c w x y H t)) r b
    · obtain ⟨p, q, rfl⟩ := one_plane z
      obtain rfl : k = 0 := Fin.ext h0
      obtain rfl : r = p := Fin.ext h1
      obtain rfl : b = q := Fin.ext h2
      exact stored w _ _ 0 (at15 w _ _ _ 0 hN (up0 m c w x y H t)) r b
  · rw [outsAt0_B m c t h0]; frame_out
    clear h0
    canon_tiles z h
    · obtain ⟨p, q, rfl⟩ := one_plane z
      obtain rfl : k = 7 := Fin.ext h0
      obtain rfl : r = p := Fin.ext h1
      obtain rfl : b = q := Fin.ext h2
      exact stored w _ _ 7 (at15 w _ _ _ 7 hN (up7 m c w x y H t)) r b
    · obtain ⟨p, q, rfl⟩ := one_plane z
      obtain rfl : k = 3 := Fin.ext h0
      obtain rfl : r = p := Fin.ext h1
      obtain rfl : b = q := Fin.ext h2
      exact stored w _ _ 3 (at15 w _ _ _ 3 hN (up3 m c w x y H t)) r b
    · obtain ⟨p, q, rfl⟩ := one_plane z
      obtain rfl : k = 6 := Fin.ext h0
      obtain rfl : r = p := Fin.ext h1
      obtain rfl : b = q := Fin.ext h2
      exact stored w _ _ 6 (at15 w _ _ _ 6 hN (up6 m c w x y H t)) r b
    · obtain ⟨p, q, rfl⟩ := one_plane z
      obtain rfl : k = 2 := Fin.ext h0
      obtain rfl : r = p := Fin.ext h1
      obtain rfl : b = q := Fin.ext h2
      exact stored w _ _ 2 (at15 w _ _ _ 2 hN (up2 m c w x y H t)) r b
    · obtain ⟨p, q, rfl⟩ := one_plane z
      obtain rfl : k = 5 := Fin.ext h0
      obtain rfl : r = p := Fin.ext h1
      obtain rfl : b = q := Fin.ext h2
      exact stored w _ _ 5 (at15 w _ _ _ 5 hN (up5 m c w x y H t)) r b
    · obtain ⟨p, q, rfl⟩ := one_plane z
      obtain rfl : k = 1 := Fin.ext h0
      obtain rfl : r = p := Fin.ext h1
      obtain rfl : b = q := Fin.ext h2
      exact stored w _ _ 1 (at15 w _ _ _ 1 hN (up1 m c w x y H t)) r b
    · obtain ⟨p, q, rfl⟩ := one_plane z
      obtain rfl : k = 4 := Fin.ext h0
      obtain rfl : r = p := Fin.ext h1
      obtain rfl : b = q := Fin.ext h2
      exact stored w _ _ 4 (at15 w _ _ _ 4 hN (up4 m c w x y H t)) r b
    · obtain ⟨p, q, rfl⟩ := one_plane z
      obtain rfl : k = 0 := Fin.ext h0
      obtain rfl : r = p := Fin.ext h1
      obtain rfl : b = q := Fin.ext h2
      exact stored w _ _ 0 (at15 w _ _ _ 0 hN (up0 m c w x y H t)) r b

end Cert.LossKernelIdeal.Value
end
-- ==== Proof.LossRef.lean ====
/- The reference of the loss, stage by stage, over real arguments: every result is the row specification the kernel's blocks compute. -/
module

public import proofs.«01_k».proof.Proof.FfnSpec
public import proofs.«01_k».proof.Proof.Gen.LossReferenceIdeal.Run
public import Idealize.ShloMosaic.Lib.Pointwise

@[expose] public section

set_option maxRecDepth 200000

noncomputable section

namespace Cert.LossReferenceIdeal.Value

open Idealize.ShloMosaic Idealize.ShloMosaic.TcCoe Idealize.SL.Sem
open Idealize.ShloMosaic.Pipeline (Dat)
open Cert.LossReferenceIdeal Cert.LossReferenceIdeal.Gen Cert.Rows Cert.Reals Cert.Ffn

abbrev Rows1 := FVec Ideal S16384x1024 .f32
abbrev Rows2 := FVec Ideal S16384x2816 .f32
abbrev Rows4 := FVec Ideal S16384x5632 .f32
abbrev Col := FVec Ideal S16384x1 .f32

/-- The reference's stages, over any arrays: mean square, scale, normed row, gained row, the two projections side by side, gate, branch, the logistic of the gate. -/
def msA (X : Rows1) : Col := addf (Host.divf (broadcastInDim S16384x1 ![0] bcast_S16384_S16384x1_0 (Host.reduceAdd (F := Ideal) (φ := .f32) (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rsA (M : Col) : Col := Host.rsqrt M
def xnA (X : Rows1) (R : Col) : Rows1 := mulf X (broadcastInDim S16384x1024 ![0, 1] bcast_S16384x1_S16384x1024_0_1 R)
def hA (N : Rows1) (G : FVec Ideal S1024 .f32) : Rows1 := mulf N (broadcastInDim S16384x1024 ![0, 1] bcast_S1x1024_S16384x1024_0_1 (broadcastInDim S1x1024 ![1] bcast_S1024_S1x1024_1 G))
def guA (N : Rows1) (W : FVec Ideal S1024x5632 .f32) : Rows4 := Host.dotGeneral (F := Ideal) (φ₁ := .f32) (φ₂ := .f32) dot_S16384x1024_S1024x5632_S16384x5632_1_0_0_1_n_n none N W
def gateA (Z : Rows4) : Rows2 := extractStridedSlice S16384x2816 ![0, 0] Z slices_S16384x5632_S16384x2816_0_0
def upA (Z : Rows4) : Rows2 := extractStridedSlice S16384x2816 ![0, 2816] Z slices_S16384x5632_S16384x2816_0_2816
def oneA : Rows2 := broadcastInDim S16384x2816 ![] bcast_S_S16384x2816 (constant S_ .f32 0x3F800000#32)
def sgA (A : Rows2) : Rows2 := Host.divf oneA (addf oneA (Host.exp (Host.negf A)))
def colsumA (E : Rows1) : FVec Ideal S1x1024 .f32 := shapeCast S1x1024 (Host.reduceAdd (F := Ideal) (φ := .f32) (shapeCast S1x1024 (Host.reduceAdd (F := Ideal) (φ := .f32) E (constant S_ .f32 0x00000000#32) reducesTo_S16384x1024_S1024_d0 h_S_) shapeCasts_S1024_S1x1024) (constant S_ .f32 0x00000000#32) reducesTo_S1x1024_S1024_d0 h_S_) shapeCasts_S1024_S1x1024
def meanA (X Y : Rows1) (R M : Col) : FVec Ideal S16384 .f32 :=
  Host.reduceAdd (F := Ideal) (φ := .f32) (Host.divf (mulf (shapeCast S16384x1 (Host.reduceAdd (F := Ideal) (φ := .f32) (mulf X Y) (constant S_ .f32 0x00000000#32) reducesTo_S16384x1024_S16384_d1 h_S_) shapeCasts_S16384_S16384x1) (mulf (broadcastInDim S16384x1 ![] bcast_S_S16384x1 (constant S_ .f32 0xBF000000#32)) (Host.divf R M))) (broadcastInDim S16384x1 ![] bcast_S_S16384x1 (constant S_ .f32 0x44800000#32))) (constant S_ .f32 0x00000000#32) reducesTo_S16384x1_S16384_d1 h_S_
def bcA (Q : FVec Ideal S16384 .f32) : Rows1 := broadcastInDim S16384x1024 ![0] bcast_S16384_S16384x1024_0 Q
def chunks8 (Z : Rows4) : FVec Ideal S8x16384x704 .bf16 := truncf .bf16 (transpose S8x16384x704 [1, 0, 2] (shapeCast S16384x8x704 Z shapeCasts_S16384x5632_S16384x8x704) transposes_S16384x8x704_S8x16384x704_1_0_2) bitsLt_bf16_f32

def outA (X : Rows1) (A : Rows2) (D : FVec Ideal S2816x1024 .f32) : Rows1 := addf X (Host.dotGeneral (F := Ideal) (φ₁ := .f32) (φ₂ := .f32) dot_S16384x2816_S2816x1024_S16384x1024_1_0_0_1_n_n none A D)
def cotA (E : Rows1) : Rows1 := mulf (bcA (Host.divf (broadcastInDim S16384 ![] bcast_S_S16384 (mulf (constant S_ .f32 0x3F000000#32) (constant S_ .f32 0x3F800000#32))) (broadcastInDim S16384 ![] bcast_S_S16384 (constant (F := Ideal) S_ .f32 0x44800000#32)))) (mulf (broadcastInDim S16384x1024 ![] bcast_S_S16384x1024 (constant S_ .f32 0x40000000#32)) E)
def dxA (X Y : Rows1) (R : Col) (Q : FVec Ideal S16384 .f32) : Rows1 :=
  addf (addf (mulf Y (broadcastInDim S16384x1024 ![0, 1] bcast_S16384x1_S16384x1024_0_1 R)) (mulf X (bcA Q))) (mulf (bcA Q) X)
def lossA (E : Rows1) : FVec Ideal S1x1 .f32 := shapeCast S1x1 (mulf (constant S_ .f32 0x3F000000#32) (Host.reduceAdd (F := Ideal) (φ := .f32) (Host.divf (Host.reduceAdd (F := Ideal) (φ := .f32) (mulf E E) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)) shapeCasts_S_S1x1

variable (X T : Rows1) (G O : FVec Ideal S1024 .f32) (W : FVec Ideal S1024x5632 .f32) (D : FVec Ideal S2816x1024 .f32)
variable (w : Par) (x t : Fin 16384 → Fin 1024 → ℝ)

/-- The arguments are the reals of the specification. -/
structure Holds : Prop where
  x : ∀ r a, X (ix2 r a) = (x r a : EReal)
  g : ∀ a, G (ix1 a) = (w.g a : EReal)
  up : ∀ a j, W (ix2 a j) = (w.up a j : EReal)
  down : ∀ j a, D (ix2 j a) = (w.down j a : EReal)
  t : ∀ r a, T (ix2 r a) = (t r a : EReal)
  gf : ∀ a, O (ix1 a) = (w.gf a : EReal)

theorem colsumA_at (E : Rows1) (a : Fin 1024) : colsumA E (ix2 0 a) = ∑ r, E (ix2 r a) := by
  pointwise [colsumA]
  rw [Fin.sum_univ_one]

theorem msA_at (f : Fin 1024 → ℝ) (r : Fin 16384) (hX : ∀ a, X (ix2 r a) = (f a : EReal)) : msA X (ix2 r 0) = (ms f : EReal) := by
  pointwise [msA]
  simp only [hX]; exact ms_eq _

theorem rsA_at (M : Col) (f : Fin 1024 → ℝ) (r : Fin 16384) (hM : M (ix2 r 0) = (ms f : EReal)) : rsA M (ix2 r 0) = (scale f : EReal) := by
  pointwise [rsA]
  rw [hM]; exact scale_eq _

theorem xnA_at (R : Col) (r : Fin 16384) (a : Fin 1024) : xnA X R (ix2 r a) = X (ix2 r a) * R (ix2 r 0) := by
  pointwise [xnA]

theorem hA_at (N : Rows1) (r : Fin 16384) (a : Fin 1024) : hA N G (ix2 r a) = N (ix2 r a) * G (ix1 a) := by
  pointwise [hA]

theorem guA_at (N : Rows1) (r : Fin 16384) (j : Fin 5632) : guA N W (ix2 r j) = ∑ a, N (ix2 r a) * W (ix2 a j) := by
  pointwise [guA]

theorem gateA_at (V : Rows4) (r : Fin 16384) (j : Fin 2816) : gateA V (ix2 r j) = V (ix2 r (lo j)) := by
  pointwise [gateA]
  rfl

theorem upA_at (V : Rows4) (r : Fin 16384) (j : Fin 2816) : upA V (ix2 r j) = V (ix2 r (hi j)) := by
  pointwise [upA]
  rfl

theorem oneA_at (r : Fin 16384) (j : Fin 2816) : oneA (ix2 r j) = ((1 : ℝ) : EReal) := by
  pointwise [oneA]
  exact EReal.coe_one.symm

theorem sgA_at (A : Rows2) (s : ℝ) (r : Fin 16384) (j : Fin 2816) (h : A (ix2 r j) = (s : EReal)) : sgA A (ix2 r j) = (Ffn.sig s : EReal) := by
  pointwise [sgA]
  rw [oneA_at, h]; exact sig_div s

theorem meanA_at (Y : Rows1) (R M : Col) (r : Fin 16384) : meanA X Y R M (ix1 r) = Ideal.div ((∑ a, X (ix2 r a) * Y (ix2 r a)) * (Ideal.ofBits .f32 0xBF000000#32 * Ideal.div (R (ix2 r 0)) (M (ix2 r 0)))) (Ideal.ofBits .f32 0x44800000#32) := by
  pointwise [meanA]
  rw [Fin.sum_univ_one]

theorem bcA_at (Q : FVec Ideal S16384 .f32) (r : Fin 16384) (a : Fin 1024) : bcA Q (ix2 r a) = Q (ix1 r) := by
  pointwise [bcA]

theorem chunks8_at (V : Rows4) (k : Fin 8) (r : Fin 16384) (b : Fin 704) : chunks8 V (ix3 k r b) = V (ix2 r (ch k b)) := by
  pointwise [chunks8]
  rfl

theorem outA_at (A : Rows2) (r : Fin 16384) (a : Fin 1024) : outA X A D (ix2 r a) = X (ix2 r a) + ∑ j, A (ix2 r j) * D (ix2 j a) := by
  pointwise [outA]

theorem cotA_at (E : Rows1) (r : Fin 16384) (a : Fin 1024) (e : ℝ) (h : E (ix2 r a) = (e : EReal)) : cotA E (ix2 r a) = ((e * (1 / 1024) : ℝ) : EReal) := by
  pointwise [cotA]
  rw [bcA_at]
  pointwise
  rw [h, ofBits_half, ofBits_two, ← EReal.coe_mul, div_1024, ← EReal.coe_mul]
  congr 1; ring

theorem dxA_at (Y : Rows1) (R : Col) (Q : FVec Ideal S16384 .f32) (r : Fin 16384) (a : Fin 1024) :
    dxA X Y R Q (ix2 r a) = Y (ix2 r a) * R (ix2 r 0) + X (ix2 r a) * Q (ix1 r) + Q (ix1 r) * X (ix2 r a) := by
  pointwise [dxA]
  rw [bcA_at]

theorem lossA_at (E : Rows1) (e : Fin 16384 → Fin 1024 → ℝ) (h : ∀ r a, E (ix2 r a) = (e r a : EReal)) : lossA E (ix2 0 0) = ((1 / 2 * ∑ r, (∑ a, e r a * e r a) / 1024 : ℝ) : EReal) := by
  pointwise [lossA]
  simp only [h, ofBits_half, ← EReal.coe_mul, ← coe_sum, div_1024]

/-- The stages of the results. -/
def resH : Rows1 := hA (xnA X (rsA (msA X))) G
def resGu : Rows4 := guA (resH X G) W
def resAct : Rows2 := mulf (mulf (gateA (resGu X G W)) (sgA (gateA (resGu X G W)))) (upA (resGu X G W))
def resOut : Rows1 := outA X (resAct X G W) D
def resErr : Rows1 := subf (hA (xnA (resOut X G W D) (rsA (msA (resOut X G W D)))) O) T
def resDx : Rows1 := dxA (resOut X G W D) (hA (cotA (resErr X T G O W D)) O) (rsA (msA (resOut X G W D))) (meanA (resOut X G W D) (hA (cotA (resErr X T G O W D)) O) (rsA (msA (resOut X G W D))) (msA (resOut X G W D)))
def resDgf : FVec Ideal S1x1024 .f32 := colsumA (mulf (xnA (resOut X G W D) (rsA (msA (resOut X G W D)))) (cotA (resErr X T G O W D)))

variable (m : (ℓ : Loc nD τ sig) → Buf (Elt Ideal) ℓ) (ρ : Dev nD → PrngReg)

/-- The reference leaves the stages' results, and its arguments as they were. -/
theorem result : θ_run defs (onTc (τ := τ) (main (F := Ideal))) ⟨m, fun _ => 0, ρ⟩ fun r => ∀ c : Dev nD,
      r.2.mem ((c.tc : Thread nD τ).loc main_v70) = resDx (m ((c.tc : Thread nD τ).loc main_arg0)) (m ((c.tc : Thread nD τ).loc main_arg4)) (m ((c.tc : Thread nD τ).loc main_arg1)) (m ((c.tc : Thread nD τ).loc main_arg5)) (m ((c.tc : Thread nD τ).loc main_arg2)) (m ((c.tc : Thread nD τ).loc main_arg3))
      ∧ r.2.mem ((c.tc : Thread nD τ).loc main_v71) = resDgf (m ((c.tc : Thread nD τ).loc main_arg0)) (m ((c.tc : Thread nD τ).loc main_arg4)) (m ((c.tc : Thread nD τ).loc main_arg1)) (m ((c.tc : Thread nD τ).loc main_arg5)) (m ((c.tc : Thread nD τ).loc main_arg2)) (m ((c.tc : Thread nD τ).loc main_arg3))
      ∧ r.2.mem ((c.tc : Thread nD τ).loc main_v72) = lossA (resErr (m ((c.tc : Thread nD τ).loc main_arg0)) (m ((c.tc : Thread nD τ).loc main_arg4)) (m ((c.tc : Thread nD τ).loc main_arg1)) (m ((c.tc : Thread nD τ).loc main_arg5)) (m ((c.tc : Thread nD τ).loc main_arg2)) (m ((c.tc : Thread nD τ).loc main_arg3)))
      ∧ r.2.mem ((c.tc : Thread nD τ).loc main_v73) = truncf .bf16 (resH (m ((c.tc : Thread nD τ).loc main_arg0)) (m ((c.tc : Thread nD τ).loc main_arg1))) bitsLt_bf16_f32
      ∧ r.2.mem ((c.tc : Thread nD τ).loc main_v76) = chunks8 (resGu (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c => ⟨(h c).1, (h c).2.1, (h c).2.2.1, (h c).2.2.2.1, (h c).2.2.2.2.1, (h c).2.2.2.2.2⟩) (run (F := Ideal) m ρ)

variable {X T G O W D w x t} (H : Holds X T G O W D w x t)
include H

theorem resH_at (r : Fin 16384) (a : Fin 1024) : resH X G (ix2 r a) = (w.hx (x r) a : EReal) := by
  rw [resH, hA_at, xnA_at, rsA_at _ (x r) r (msA_at X (x r) r (H.x r)), H.x, H.g, ← EReal.coe_mul, ← EReal.coe_mul]; rfl

theorem resGu_at (r : Fin 16384) (j : Fin 5632) : resGu X G W (ix2 r j) = (w.gu (x r) j : EReal) := by
  rw [resGu, guA_at]; simp only [resH_at H, H.up, ← EReal.coe_mul, ← coe_sum]; rfl

theorem resAct_at (r : Fin 16384) (j : Fin 2816) : resAct X G W (ix2 r j) = (w.act (x r) j : EReal) := by
  have h : gateA (resGu X G W) (ix2 r j) = (w.gu (x r) (lo j) : EReal) := by rw [gateA_at, resGu_at H]
  pointwise [resAct]
  rw [sgA_at _ _ r j h, h, upA_at, resGu_at H, ← EReal.coe_mul, ← EReal.coe_mul]; rfl

theorem resOut_at (r : Fin 16384) (a : Fin 1024) : resOut X G W D (ix2 r a) = (w.out (x r) a : EReal) := by
  rw [resOut, outA_at]; simp only [resAct_at H, H.x, H.down, ← EReal.coe_mul, ← coe_sum, ← EReal.coe_add]; rfl

theorem msOut_at (r : Fin 16384) : msA (resOut X G W D) (ix2 r 0) = (ms (w.out (x r)) : EReal) := msA_at _ _ r (resOut_at H r)
theorem rsOut_at (r : Fin 16384) : rsA (msA (resOut X G W D)) (ix2 r 0) = (scale (w.out (x r)) : EReal) := rsA_at _ _ r (msOut_at H r)

theorem resErr_at (r : Fin 16384) (a : Fin 1024) : resErr X T G O W D (ix2 r a) = (w.err (x r) (t r) a : EReal) := by
  pointwise [resErr]
  rw [hA_at, xnA_at, resOut_at H, rsOut_at H, H.gf, H.t, ← EReal.coe_mul, ← EReal.coe_mul, ← EReal.coe_sub]; rfl

theorem cot_at (r : Fin 16384) (a : Fin 1024) : cotA (resErr X T G O W D) (ix2 r a) = ((w.err (x r) (t r) a * (1 / 1024) : ℝ) : EReal) := cotA_at _ r a _ (resErr_at H r a)

theorem resDx_at (r : Fin 16384) (a : Fin 1024) : resDx X T G O W D (ix2 r a) = (w.dout (x r) (t r) a : EReal) := by
  rw [resDx, dxA_at, meanA_at, msOut_at H, rsOut_at H]
  simp only [hA_at, cot_at H, resOut_at H, H.gf, scale_div_ms, ofBits_neg_half, ← EReal.coe_mul, ← coe_sum, div_1024, ← EReal.coe_add]
  refine congrArg _ ((zero_add _).symm.trans ?_)
  have e := back_staged (w.out (x r)) (fun b => w.err (x r) (t r) b * (1 / 1024) * w.gf b) a 0
  rw [zero_add, zero_add] at e
  rw [zero_add]; exact e

theorem resDgf_at (a : Fin 1024) : resDgf X T G O W D (ix2 0 a) = ((∑ r, w.dgf (x r) (t r) a : ℝ) : EReal) := by
  rw [resDgf, colsumA_at]
  pointwise
  simp only [xnA_at, cot_at H, resOut_at H, rsOut_at H, ← EReal.coe_mul, ← coe_sum]
  exact congrArg _ (Finset.sum_congr rfl fun r _ => mul_comm _ _)

theorem resLoss_at : lossA (resErr X T G O W D) (ix2 0 0) = ((1 / 2 * ∑ r, w.sq (x r) (t r) : ℝ) : EReal) := lossA_at _ _ (resErr_at H)

theorem resCh_at (k : Fin 8) (r : Fin 16384) (b : Fin 704) : chunks8 (resGu X G W) (ix3 k r b) = (w.gu (x r) (ch k b) : EReal) := by
  rw [chunks8_at, resGu_at H]

end Cert.LossReferenceIdeal.Value
end
-- ==== Proof.Loss.lean ====
/- The loss with its gradients: the kernel's five results over the whole arrays, and the value claim. -/
module

public import proofs.«01_k».proof.Proof.LossOut
public import proofs.«01_k».proof.Proof.LossRef
public import proofs.«01_k».proof.Proof.Gen.Pre_loss_finite

@[expose] public section

set_option maxRecDepth 200000

noncomputable section

namespace Cert.LossKernelIdeal.Value

open Idealize.ShloMosaic Idealize.ShloMosaic.TcCoe Idealize.SL.Sem
open Idealize.ShloMosaic.Pipeline (Dat)
open Cert.LossKernelIdeal Cert.LossKernelIdeal.Gen Cert.Rows Cert.Reals Cert.Ffn

variable (m : (ℓ : Loc nD τ sig) → Buf (Elt Ideal) ℓ) (c : Dev nD) (w : Par) (x y : Fin 16384 → Fin 1024 → ℝ) (H : Holds m c w x y)
include H

theorem final6 : (dats m 0 c).arrAt 6 (cfgs 0).N = (fun i => ((w.dout (x (i 0)) (y (i 0)) (i 1) : ℝ) : EReal) : FVec Ideal S16384x1024 .f32) := by
  refine (dats m 0 c).arrAt_eq_of_covers 6 _ (by decide +kernel) fun t hf z => ?_
  have e : ((cfg0.win 6).blk t).view.emb z = ix2 (row t (z 0)) (z 1) := by blk_ext [idx t, row]
  rw [e]
  blk_simp; rw [after0_6]
  exact Eq.trans (congrArg _ (eq_ix2 z)) (out6 m c w x y H t (z 0) (z 1))

theorem final9 : (dats m 0 c).arrAt 9 (cfgs 0).N = (fun i => ((w.hx (x (i 0)) (i 1) : ℝ) : EReal) : FVec Ideal S16384x1024 .bf16) := by
  refine (dats m 0 c).arrAt_eq_of_covers 9 _ (by decide +kernel) fun t hf z => ?_
  have e : ((cfg0.win 9).blk t).view.emb z = ix2 (row t (z 0)) (z 1) := by blk_ext [idx t, row]
  rw [e]
  blk_simp; rw [after0_9]
  exact Eq.trans (congrArg _ (eq_ix2 z)) (out9 m c w x y H t (z 0) (z 1))

theorem final10 : (dats m 0 c).arrAt 10 (cfgs 0).N = (fun i => ((w.gu (x (i 1)) (ch (i 0) (i 2)) : ℝ) : EReal) : FVec Ideal S8x16384x704 .bf16) := by
  refine (dats m 0 c).arrAt_eq_of_covers 10 _ (by decide +kernel) fun t hf z => ?_
  have e : ((cfg0.win 10).blk t).view.emb z = ix3 (z 0) (row t (z 1)) (z 2) := by blk_ext [idx t, row]
  rw [e]
  blk_simp; rw [after0_10]
  exact Eq.trans (congrArg _ (eq_ix3 z)) (out10 m c w x y H t (z 0) (z 1) (z 2))

omit H in
theorem one_row (z : S1x1024.Idx) : z = ix2 (0 : Fin 1) (z 1) := (eq_ix2 z).trans (congrArg (fun v : Fin 1 => ix2 v (z 1)) (Subsingleton.elim _ _))

theorem final7 : (dats m 0 c).arrAt 7 (cfgs 0).N = (fun i => ((∑ r, w.dgf (x r) (y r) (i 1) : ℝ) : EReal) : FVec Ideal S1x1024 .f32) := by
  refine (dats m 0 c).arrAt_eq_of_covers 7 _ (by decide +kernel) fun t hf z => ?_
  have e : ((cfg0.win 7).blk t).view.emb z = z := by blk_ext [idx t]
  rw [e]; blk_simp; rw [after0_7]
  have hl := (flush0_7 t).mp hf
  rw [Pipeline.eq_sum_fin_of_reset_step_apply_of_flush (fun n h => (outsAt0 m c n h).2.1) 64 (fun _ => (0 : EReal)) (fun t z => ((∑ r, w.dgf (x (row t r)) (y (row t r)) (z 1) : ℝ) : EReal))
    (fun t h z => by rw [one_row z]; exact out7 m c w x y H t (z 1) 0 (fun _ => rfl) fun h' => absurd h h')
    (fun t h z => by rw [one_row z]; exact out7 m c w x y H t (z 1) _ (fun h' => absurd h' h) fun _ => rfl) t hl z]
  rw [zero_add]
  simp only [coe_sum]
  refine Fin.sum_mul_add_congr fun s k hk => ?_
  rw [show row ⟨_, Pipeline.run_point_lt_of_flush t hl s⟩ k = ⟨_, hk⟩ from Fin.ext (by have := point_lt t; simp only [row]; omega)]

omit H in
theorem one_cell (z : S1x1.Idx) : z = ix2 (0 : Fin 1) (0 : Fin 1) := (eq_ix2 z).trans (congrArg₂ (fun v v2 : Fin 1 => ix2 v v2) (Subsingleton.elim _ _) (Subsingleton.elim _ _))

theorem final8 : (dats m 0 c).arrAt 8 (cfgs 0).N = (fun i => ((1 / 2 * ∑ r, w.sq (x r) (y r) : ℝ) : EReal) : FVec Ideal S1x1 .f32) := by
  refine (dats m 0 c).arrAt_eq_of_covers 8 _ (by decide +kernel) fun t hf z => ?_
  have e : ((cfg0.win 8).blk t).view.emb z = z := by blk_ext [idx t]
  blk_simp; rw [after0_8]
  have hl := (flush0_8 t).mp hf
  rw [Pipeline.eq_sum_fin_of_reset_step_apply_of_flush (fun n h => (outsAt0 m c n h).2.2.1) 64 (fun _ => (0 : EReal)) (fun t z => ((1 / 2 * ∑ r, w.sq (x (row t r)) (y (row t r)) : ℝ) : EReal))
    (fun t h z => by rw [one_cell z]; exact out8 m c w x y H t 0 (fun _ => rfl) fun h' => absurd h h')
    (fun t h z => by rw [one_cell z]; exact out8 m c w x y H t _ (fun h' => absurd h' h) fun _ => rfl) t hl z]
  rw [zero_add]
  rw [← coe_sum, ← Finset.mul_sum]
  refine congrArg (fun v : ℝ => ((1 / 2 * v : ℝ) : EReal)) ?_
  refine Fin.sum_mul_add_congr fun s k hk => ?_
  rw [show row ⟨_, Pipeline.run_point_lt_of_flush t hl s⟩ k = ⟨_, hk⟩ from Fin.ext (by have := point_lt t; simp only [row]; omega)]

end Cert.LossKernelIdeal.Value

namespace Cert.Proof

open Idealize.ShloMosaic Idealize.SL.Sem Cert.Reals Cert.LossKernelIdeal.Value

/-- The reference is host operations only and declares no semaphore. -/
theorem loss_reference_frame : Cert.quiescent_LossReferenceIdeal := fun m ρ _ =>
  (θ_run Cert.LossReferenceIdeal.defs _ _).mono (fun r h => ⟨fun c => (h c).2.2.2.2.2,
      sem_eq_zero_of_no_sems (by decide) r.2⟩)
    (Cert.LossReferenceIdeal.Value.run (F := Ideal) m ρ)

theorem loss_real {y : EReal} (h : IsReal y) : y = ((y.toReal : ℝ) : EReal) := by
  obtain ⟨r, rfl⟩ := h; rfl

/-- Finite arguments are reals, the same in both programs. -/
theorem loss_reals (m : (ℓ : Loc Cert.LossKernelIdeal.nD Cert.LossKernelIdeal.τ Cert.LossKernelIdeal.sig) → Buf (Elt Ideal) ℓ)
    (c : Dev Cert.LossKernelIdeal.nD)
    (hx : ∀ i, IsReal (m ((c.tc : Thread _ Cert.LossKernelIdeal.τ).loc Cert.LossKernelIdeal.main_arg0) i))
    (hg : ∀ i, IsReal (m ((c.tc : Thread _ Cert.LossKernelIdeal.τ).loc Cert.LossKernelIdeal.main_arg1) i))
    (hup : ∀ i, IsReal (m ((c.tc : Thread _ Cert.LossKernelIdeal.τ).loc Cert.LossKernelIdeal.main_arg2) i))
    (hdown : ∀ i, IsReal (m ((c.tc : Thread _ Cert.LossKernelIdeal.τ).loc Cert.LossKernelIdeal.main_arg3) i))
    (ht : ∀ i, IsReal (m ((c.tc : Thread _ Cert.LossKernelIdeal.τ).loc Cert.LossKernelIdeal.main_arg4) i))
    (hgf : ∀ i, IsReal (m ((c.tc : Thread _ Cert.LossKernelIdeal.τ).loc Cert.LossKernelIdeal.main_arg5) i)) :
    ∃ w x y, Cert.LossKernelIdeal.Value.Holds m c w x y
      ∧ Cert.LossReferenceIdeal.Value.Holds (m ((c.tc : Thread _ Cert.LossKernelIdeal.τ).loc Cert.LossKernelIdeal.main_arg0)) (m ((c.tc : Thread _ Cert.LossKernelIdeal.τ).loc Cert.LossKernelIdeal.main_arg4)) (m ((c.tc : Thread _ Cert.LossKernelIdeal.τ).loc Cert.LossKernelIdeal.main_arg1)) (m ((c.tc : Thread _ Cert.LossKernelIdeal.τ).loc Cert.LossKernelIdeal.main_arg5)) (m ((c.tc : Thread _ Cert.LossKernelIdeal.τ).loc Cert.LossKernelIdeal.main_arg2)) (m ((c.tc : Thread _ Cert.LossKernelIdeal.τ).loc Cert.LossKernelIdeal.main_arg3)) w x y :=
  ⟨⟨fun a => EReal.toReal ((m ((c.tc : Thread _ Cert.LossKernelIdeal.τ).loc Cert.LossKernelIdeal.main_arg1) : _ → EReal) (ix1 a)),
    fun r a => EReal.toReal ((m ((c.tc : Thread _ Cert.LossKernelIdeal.τ).loc Cert.LossKernelIdeal.main_arg2) : _ → EReal) (ix2 r a)),
    fun r a => EReal.toReal ((m ((c.tc : Thread _ Cert.LossKernelIdeal.τ).loc Cert.LossKernelIdeal.main_arg3) : _ → EReal) (ix2 r a)),
    fun a => EReal.toReal ((m ((c.tc : Thread _ Cert.LossKernelIdeal.τ).loc Cert.LossKernelIdeal.main_arg5) : _ → EReal) (ix1 a))⟩, fun r a => EReal.toReal ((m ((c.tc : Thread _ Cert.LossKernelIdeal.τ).loc Cert.LossKernelIdeal.main_arg0) : _ → EReal) (ix2 r a)),
    fun r a => EReal.toReal ((m ((c.tc : Thread _ Cert.LossKernelIdeal.τ).loc Cert.LossKernelIdeal.main_arg4) : _ → EReal) (ix2 r a)),
    ⟨fun _ _ => loss_real (hx _), fun _ => loss_real (hg _), fun _ _ => loss_real (hup _), fun _ _ => loss_real (hdown _), fun _ _ => loss_real (ht _), fun _ => loss_real (hgf _)⟩,
    ⟨fun _ _ => loss_real (hx _), fun _ => loss_real (hg _), fun _ _ => loss_real (hup _), fun _ _ => loss_real (hdown _), fun _ _ => loss_real (ht _), fun _ => loss_real (hgf _)⟩⟩

set_option maxHeartbeats 2000000 in
/-- The kernel's results are the loss and its gradients as the reference's lines derive them. -/
theorem loss_algebraic : Cert.algebraic_LossKernelIdeal_LossReferenceIdeal_pre_loss_finite := by
  pair_intro
  · run_from Cert.LossKernelIdeal.Gen.run_main m g
  · run_from Cert.LossReferenceIdeal.Value.result m' g'
    all_goals
      obtain ⟨w, x, y, H, H'⟩ := loss_reals m c (fun i => isReal_of_abs_lt (congrFun (hpre c).1 i))
        (fun i => isReal_of_abs_lt (congrFun (hpre c).2.1 i))
        (fun i => isReal_of_abs_lt (congrFun (hpre c).2.2.1 i))
        (fun i => isReal_of_abs_lt (congrFun (hpre c).2.2.2.1 i))
        (fun i => isReal_of_abs_lt (congrFun (hpre c).2.2.2.2.1 i))
        (fun i => isReal_of_abs_lt (congrFun (hpre c).2.2.2.2.2 i))
      clear hpre hagree
    · refine Eq.trans ?_ (final6 m c w x y H).symm
      funext j; obtain ⟨r, a, rfl⟩ : ∃ r a, j = ix2 r a := ⟨_, _, eq_ix2 j⟩
      exact Cert.LossReferenceIdeal.Value.resDx_at H' r a
    · refine Eq.trans ?_ (final7 m c w x y H).symm
      funext j; rw [one_row j]
      exact Cert.LossReferenceIdeal.Value.resDgf_at H' (j 1)
    · refine Eq.trans ?_ (final8 m c w x y H).symm
      funext j; rw [one_cell j]
      exact Cert.LossReferenceIdeal.Value.resLoss_at H'
    · refine Eq.trans ?_ (final9 m c w x y H).symm
      funext j; obtain ⟨r, a, rfl⟩ : ∃ r a, j = ix2 r a := ⟨_, _, eq_ix2 j⟩
      exact Cert.LossReferenceIdeal.Value.resH_at H' r a
    · refine Eq.trans ?_ (final10 m c w x y H).symm
      funext j; obtain ⟨k, r, b, rfl⟩ : ∃ k r b, j = ix3 k r b := ⟨_, _, _, eq_ix3 j⟩
      exact Cert.LossReferenceIdeal.Value.resCh_at H' k r b

end Cert.Proof
end
-- ==== Proof.FfnRun.lean ====
/- The run of the two kernel calls, forward then backward: what the backward call leaves in its four results. -/
module

public import proofs.«01_k».proof.Defs
public import proofs.«01_k».proof.Proof.Gen.FfnKernelIdeal.Frame
public import Idealize.ShloMosaic.Lib.Claim

@[expose] public section

set_option maxRecDepth 200000

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen
open Idealize.SL Idealize.SL.RA Idealize.SL.BI
open scoped Idealize.SL.BI
open Idealize.SL.BI.BIBase Idealize.SL.BI.Laws Idealize.SL.ProofMode Idealize.SL.Sem Idealize.ShloMosaic.Rounds Idealize.ShloMosaic.Tactic

section

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem no_unscoped : ∀ sm : SemLoc sig, sm.isScoped .tc = true := by decide

set_option backward.isDefEq.respectTransparency.types false in
/-- Each result array holds what the backward call's write-backs left there, and the arguments are as they were. -/
theorem run_main : θ_run defs (onTc (τ := τ) (main (F := F))) ⟨m, fun _ => 0, ρ⟩ fun r => ∀ c : Dev nD,
      r.2.mem ((c.tc : Thread nD τ).loc main_v8_0) = (dat1 (V3 m ρ) c).arrAt 6 cfg1.N
      ∧ r.2.mem ((c.tc : Thread nD τ).loc main_v8_1) = (dat1 (V3 m ρ) c).arrAt 7 cfg1.N
      ∧ r.2.mem ((c.tc : Thread nD τ).loc main_v8_2) = (dat1 (V3 m ρ) c).arrAt 8 cfg1.N
      ∧ r.2.mem ((c.tc : Thread nD τ).loc main_v8_3) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v8_0 (by decide))).trans (W4_arr m ρ c 6),
       (h c _ (mem_uc main_v8_1 (by decide))).trans (W4_arr m ρ c 7),
       (h c _ (mem_uc main_v8_2 (by decide))).trans (W4_arr m ρ c 8),
       (h c _ (mem_uc main_v8_3 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end

end Cert.FfnKernelIdeal.Value
end
-- ==== Proof.FfnGrad.lean ====
/- One row of the gated feed-forward layer's backward in real numbers. -/
module

public import proofs.«01_k».proof.Proof.FfnSpec

@[expose] public section

set_option maxRecDepth 200000

noncomputable section

namespace Cert.Ffn

open Idealize.ShloMosaic Idealize.ShloMosaic.TcCoe Idealize.SL.Sem
open Idealize.ShloMosaic.Pipeline (Dat)
open Cert.Rows Cert.Reals

theorem chLo_lt (k : Fin 4) (b : Fin 704) : (ch (chLo k) b).val < 2816 := by simp only [ch, chLo]; omega
theorem chHi_not_lt (k : Fin 4) (b : Fin 704) : ¬ (ch (chHi k) b).val < 2816 := by simp only [ch, chHi]; omega

namespace Par

variable (w : Par) (x d : Fin 1024 → ℝ)

def dact (j : Fin 2816) : ℝ := ∑ a, d a * w.down j a
def dgate (j : Fin 2816) : ℝ := w.dact d j * w.gu x (hi j) * (sig (w.gu x (lo j)) * (1 + w.gu x (lo j) * (1 - sig (w.gu x (lo j)))))
def dup (j : Fin 2816) : ℝ := w.dact d j * (w.gu x (lo j) * sig (w.gu x (lo j)))
def dgu (j : Fin 5632) : ℝ := if h : j.val < 2816 then w.dgate x d ⟨j.val, h⟩ else w.dup x d ⟨j.val - 2816, by omega⟩
def dh (a : Fin 1024) : ℝ := ∑ j, w.dgu x d j * w.up a j
def dx (a : Fin 1024) : ℝ := d a + back x (fun b => w.dh x d b * w.g b) a
def dg (a : Fin 1024) : ℝ := w.dh x d a * (x a * scale x)

/-- One chunk's part of a row of the hidden cotangent. -/
def dpart (k : Fin 8) (a : Fin 1024) : ℝ := ∑ b, w.dgu x d (ch k b) * w.up a (ch k b)

theorem dgu_lo (k : Fin 4) (b : Fin 704) : w.dgu x d (ch (chLo k) b) = w.dgate x d (ch4 k b) := dif_pos (chLo_lt k b)
theorem dgu_hi (k : Fin 4) (b : Fin 704) : w.dgu x d (ch (chHi k) b) = w.dup x d (ch4 k b) :=
  (dif_neg (chHi_not_lt k b)).trans (congrArg (w.dup x d) (Fin.ext (by simp only [ch, chHi, ch4]; omega)))

theorem dh_parts (a : Fin 1024) : w.dpart x d 0 a + w.dpart x d 4 a + w.dpart x d 1 a + w.dpart x d 5 a + w.dpart x d 2 a + w.dpart x d 6 a + w.dpart x d 3 a + w.dpart x d 7 a = w.dh x d a := by
  have e : ∑ k : Fin 8, w.dpart x d k a = w.dh x d a := by
    unfold dpart dh
    exact Fin.sum_mul_add_congr fun k b hl => rfl
  rw [← e, Fin.sum_univ_eight]; ring

end Par

end Cert.Ffn
end
-- ==== Proof.FfnBody.lean ====
/- The feed-forward backward kernel's payloads: whenever a block's entries are the reals of the row specification, so is what each payload computes. -/
module

public import proofs.«01_k».proof.Defs
public import proofs.«01_k».proof.Proof.FfnGrad
public import proofs.«01_k».proof.Proof.Gen.FfnKernelIdeal.Frame
public import Idealize.ShloMosaic.Lib.Pipeline.ValueKit
public import Idealize.ShloMosaic.Lib.Pointwise
public import Idealize.ShloMosaic.Lib.Claim

@[expose] public section

set_option maxRecDepth 200000

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen Cert.Rows Cert.Reals Cert.Ffn

variable (w : Par) (x d : Fin 256 → Fin 1024 → ℝ)
variable (X Y Z : Vec Ideal S256x1024 .f32) (G O : Vec Ideal S1x1024 .f32) (N : FVec Ideal S256x1024 .bf16)
variable (C C' : Vec Ideal S1x256x704 .bf16) (U V : Vec Ideal S1x1x1024x704 .bf16) (D : Vec Ideal S1x704x1024 .bf16) (T : FVec Ideal S256x704 .f32) (A B : FVec Ideal S256x704 .bf16)

/-- What the pieces of a block hold. -/
abbrev IsX (f : Fin 256 → Fin 1024 → ℝ) : Prop := ∀ r a, X (ix2 r a) = (f r a : EReal)
abbrev IsN : Prop := ∀ r a, N (ix2 r a) = (w.hx (x r) a : EReal)
abbrev IsG (g : Fin 1024 → ℝ) : Prop := ∀ a, G (ix2 0 a) = (g a : EReal)
abbrev IsU (k : Fin 8) : Prop := ∀ a b, U (ix4 0 0 a b) = (w.up a (ch k b) : EReal)
abbrev IsD (k : Fin 4) : Prop := ∀ b a, D (ix3 0 b a) = (w.down (ch4 k b) a : EReal)
abbrev IsC (k : Fin 8) : Prop := ∀ r b, C (ix3 0 r b) = (w.gu (x r) (ch k b) : EReal)
abbrev IsT (k : Fin 4) : Prop := ∀ r b, T (ix2 r b) = (w.dact (d r) (ch4 k b) : EReal)
abbrev IsA (k : Fin 8) : Prop := ∀ r b, A (ix2 r b) = (w.dgu (x r) (d r) (ch k b) : EReal)

/-! ### The forward call -/

theorem at4 (hX : IsX X x) (hG : IsG G w.g) : IsN w x (k0_pay4 X G) := by
  intro r a
  pointwise [k0_pay4]
  simp only [hX _ _, ms_eq, scale_eq]
  simp only [hG _, ← EReal.coe_mul]; rfl

theorem at11 (k : Fin 8) (hN : IsN w x N) (hU : IsU w U k) : IsC w x (k0_pay11 N U) k := by
  intro r b
  pointwise [k0_pay11, k0_pay9]
  simp only [hN _ _, hU _ _, ← EReal.coe_mul, ← coe_sum]; rfl

theorem fwd_same : k0_pay2 (k0_pay20 N U) = k0_pay11 N U ∧ k0_pay1 (k0_pay21 N U) = k0_pay11 N U ∧ k0_pay17 N U = k0_pay11 N U ∧ k0_pay16 N U = k0_pay11 N U ∧ k0_pay12 N U = k0_pay11 N U
    ∧ k0_pay8 X G U = k0_pay11 (k0_pay4 X G) U ∧ k0_pay7 X G U = k0_pay11 (k0_pay4 X G) U := ⟨rfl, rfl, rfl, rfl, rfl, rfl, rfl⟩

/-! ### The backward call -/

theorem at5 (k : Fin 4) (hY : IsX Y d) (hD : IsD w D k) : IsT w d (k1_pay5 Y D) k := by
  intro r b
  pointwise [k1_pay5, k1_pay3]
  simp only [hY _ _, hD _ _, ← EReal.coe_mul, ← coe_sum]; rfl

theorem at35 (k : Fin 4) (hC : IsC w x C (chLo k)) (hC' : IsC w x C' (chHi k)) (r : Fin 256) (b : Fin 704) : k1_pay35 C C' (ix3 0 r b) = (w.act (x r) (ch4 k b) : EReal) := by
  pointwise [k1_pay35, k1_pay34, k1_pay33, k1_pay32, k1_pay31]
  simp only [hC _ _, hC' _ _, Ideal.logistic_coe, ← EReal.coe_mul]
  simp only [Par.act, lo_ch4, hi_ch4, Ffn.sig]

theorem at36 (k : Fin 4) (hT : IsT w d T k) (hC : IsC w x C (chLo k)) (hC' : IsC w x C' (chHi k)) : IsA w x d (k1_pay36 T C C') (chLo k) := by
  intro r b
  pointwise [k1_pay36, k1_pay33, k1_pay32, k1_pay31]
  simp only [hT _ _, hC _ _, hC' _ _, Ideal.logistic_coe]
  rw [w.dgu_lo]
  simp only [← EReal.coe_one, ← EReal.coe_mul, ← EReal.coe_sub, ← EReal.coe_add]
  simp only [Par.dgate, lo_ch4, hi_ch4, Ffn.sig]

theorem at37 (k : Fin 4) (hT : IsT w d T k) (hC : IsC w x C (chLo k)) : IsA w x d (k1_pay37 T C) (chHi k) := by
  intro r b
  pointwise [k1_pay37, k1_pay34, k1_pay33, k1_pay31]
  simp only [hT _ _, hC _ _, Ideal.logistic_coe]
  rw [w.dgu_hi]
  simp only [← EReal.coe_mul]
  simp only [Par.dup, lo_ch4, hi_ch4, Ffn.sig]

theorem stored (k : Fin 8) (hA : IsA w x d A k) (S : Vec Ideal S1x256x704 .bf16) (hS : S = shapeCast S1x256x704 A shapeCasts_S256x704_S1x256x704) (r : Fin 256) (b : Fin 704) :
    S (ix3 0 r b) = (w.dgu (x r) (d r) (ch k b) : EReal) := by
  rw [hS]; pointwise []; exact hA r b

/-- One chunk's two products on what the earlier chunks left. -/
theorem at51 (k : Fin 4) (hA : IsA w x d A (chLo k)) (hB : IsA w x d B (chHi k)) (hU : IsU w U (chLo k)) (hV : IsU w V (chHi k)) (r : Fin 256) (a : Fin 1024) :
    k1_pay51 Z A B U V (ix2 r a) = Z (ix2 r a) + (w.dpart (x r) (d r) (chLo k) a : EReal) + (w.dpart (x r) (d r) (chHi k) a : EReal) := by
  pointwise [k1_pay51]
  simp only [hA _ _, hB _ _, hU _ _, hV _ _, ← EReal.coe_mul, ← coe_sum]
  simp only [Par.dpart]

theorem chunk0 : k1_pay19 Z T (k1_pay9 C) (k1_pay10 C') (k1_pay11 C) (k1_pay12 C) U V = k1_pay51 Z (k1_pay36 T C C') (k1_pay37 T C) U V := rfl
theorem chunk1 : k1_pay30 T Z (k1_pay20 C) (k1_pay21 C') U V = k1_pay51 Z (k1_pay36 T C C') (k1_pay37 T C) U V := rfl
theorem chunk2 : k1_pay41 (k1_pay37 T C) (k1_pay40 T Z C C' U) V = k1_pay51 Z (k1_pay36 T C C') (k1_pay37 T C) U V := rfl
theorem chunk3 : k1_pay47 T C C' = k1_pay36 T C C' ∧ k1_pay48 T C = k1_pay37 T C := ⟨rfl, rfl⟩
theorem dact_same : k1_pay6 Y D = k1_pay5 Y D ∧ k1_pay7 Y D = k1_pay5 Y D ∧ k1_pay8 Y D = k1_pay5 Y D := ⟨rfl, rfl, rfl⟩
theorem act_same : k1_pay14 (k1_pay13 C C') = k1_pay35 C C' ∧ k1_pay25 (k1_pay20 C) (k1_pay21 C') = k1_pay35 C C' ∧ k1_pay46 C C' = k1_pay35 C C' := ⟨rfl, rfl, rfl⟩

theorem rs_at (hX : IsX X x) (r : Fin 256) : k1_pay52 X (ix2 r 0) = (scale (x r) : EReal) := by
  pointwise [k1_pay52]
  simp only [hX _ _, ms_eq, scale_eq]

theorem at54 (hX : IsX X x) (hY : IsX Y d) (hG : IsG G w.g) (hH : IsX (k1_pay51 Z A B U V) fun r => w.dh (x r) (d r)) (r : Fin 256) (a : Fin 1024) :
    k1_pay54 Y Z A B U V X G (ix2 r a) = (w.dx (x r) (d r) a : EReal) := by
  pointwise [k1_pay54, k1_pay53]
  simp only [hX _ _, hY _ _, hG _, hH _ _, rs_at x X hX, ← EReal.coe_mul, ← coe_sum, div_1024, ← EReal.coe_sub, ← EReal.coe_add]; rfl

theorem at56 (hX : IsX X x) (hH : IsX (k1_pay51 Z A B U V) fun r => w.dh (x r) (d r)) (a : Fin 1024) :
    k1_pay1 (k1_pay55 O) (k1_pay56 Z A B U V X) (ix2 0 a) = O (ix2 0 a) + ((∑ r, w.dg (x r) (d r) a : ℝ) : EReal) := by
  pointwise [k1_pay1, k1_pay55, k1_pay56, k1_pay53]
  simp only [hX _ _, hH _ _, rs_at x X hX, ← EReal.coe_mul, ← coe_sum]; rfl

end Cert.FfnKernelIdeal.Value
end
-- ==== Proof.FfnOut0.lean ====
/- What the forward call saves for the backward one: the two projections side by side, over the whole array. -/
module

public import proofs.«01_k».proof.Proof.FfnBody
public import Idealize.ShloMosaic.Lib.Pipeline.ReadBack
public import Idealize.ShloMosaic.Lib.WholeRead

@[expose] public section

set_option maxRecDepth 200000

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen Cert.Rows Cert.Reals Cert.Ffn

variable (m : (ℓ : Loc nD τ sig) → Buf (Elt Ideal) ℓ) (ρ : Dev nD → PrngReg) (c : Dev nD) (w : Par) (x d : Fin 16384 → Fin 1024 → ℝ)
variable (V : (c : Dev nD) → (b : Ref sig .tc) → Buf (Elt Ideal) ((c : Thread nD τ).loc b))

/-- The arguments are the reals of the specification. -/
structure Holds : Prop where
  x : ∀ r a, (show FVec Ideal S16384x1024 .f32 from m ((c.tc : Thread nD τ).loc main_arg0)) (ix2 r a) = (x r a : EReal)
  g : ∀ a, (show FVec Ideal S1024 .f32 from m ((c.tc : Thread nD τ).loc main_arg1)) (ix1 a) = (w.g a : EReal)
  up : ∀ a j, (show FVec Ideal S1024x5632 .f32 from m ((c.tc : Thread nD τ).loc main_arg2)) (ix2 a j) = (w.up a j : EReal)
  down : ∀ j a, (show FVec Ideal S2816x1024 .f32 from m ((c.tc : Thread nD τ).loc main_arg3)) (ix2 j a) = (w.down j a : EReal)
  d : ∀ r a, (show FVec Ideal S16384x1024 .f32 from m ((c.tc : Thread nD τ).loc main_arg4)) (ix2 r a) = (d r a : EReal)

/-- The contents the two calls both read: rows, the two matrices in chunks. -/
structure Both : Prop where
  x : ∀ r a, (show FVec Ideal S16384x1024 .f32 from V c main_arg0) (ix2 r a) = (x r a : EReal)
  up : ∀ k a b, (show FVec Ideal S8x1x1024x704 .bf16 from V c main_v2) (ix4 k 0 a b) = (w.up a (ch k b) : EReal)
  down : ∀ k b a, (show FVec Ideal S4x704x1024 .bf16 from V c main_v4) (ix3 k b a) = (w.down (ch4 k b) a : EReal)

theorem idx0 : ∀ t : Fin cfg0.N, win0_0.index t = ![t.val, 0] ∧ win0_1.index t = ![0, 0] ∧ win0_2.index t = ![0, 0, 0, 0] ∧ win0_3.index t = ![0, 0, 0] ∧ win0_6.index t = ![0, t.val, 0] :=
  (by decide +kernel : ∀ t : Fin grid0.N, _)

theorem point_lt0 (t : Fin cfg0.N) : t.val < 64 := t.isLt

/-- Row `r` of block `t`. -/
def row (t : Fin 64) (r : Fin 256) : Fin 16384 := ⟨t.val * 256 + r.val, by omega⟩

/-! ### The contents each call starts from -/

section
variable (H : Holds m c w x d)
include H

theorem both1 : Both c w x (V1 m ρ) where
  x r a := (congrFun (W1_args m ρ c main_arg0 (by decide)) (ix2 r a)).trans (H.x r a)
  up k a b := by
    refine Eq.trans ?_ (H.up a (ch k b))
    show (StableHlo.after hostOps0 (W0 m ρ c) (Proc.devRef .tc main_v2) : _ → EReal) (ix4 k 0 a b) = _
    entry_read; pointwise
    blk_ext [ch]
  down k b a := by
    refine Eq.trans ?_ (H.down (ch4 k b) a)
    show (StableHlo.after hostOps0 (W0 m ρ c) (Proc.devRef .tc main_v4) : _ → EReal) (ix3 k b a) = _
    entry_read; pointwise
    blk_ext [ch4]

theorem gain1 (a : Fin 1024) : (show FVec Ideal S1x1024 .f32 from V1 m ρ c main_v5) (ix2 0 a) = (w.g a : EReal) := by
  refine Eq.trans ?_ (H.g a)
  show (StableHlo.after hostOps0 (W0 m ρ c) (Proc.devRef .tc main_v5) : _ → EReal) (ix2 0 a) = _
  entry_read; pointwise

theorem both3 : Both c w x (V3 m ρ) where
  x r a := (congrFun (W3_args m ρ c main_arg0 (by decide)) (ix2 r a)).trans (H.x r a)
  up k a b := (congrFun ((W3_of m ρ c main_v2 (by decide)).trans (W2_of m ρ c main_v2 (by decide))) (ix4 k 0 a b)).trans ((both1 m ρ c w x d H).up k a b)
  down k b a := (congrFun ((W3_of m ρ c main_v4 (by decide)).trans (W2_of m ρ c main_v4 (by decide))) (ix3 k b a)).trans ((both1 m ρ c w x d H).down k b a)

theorem cot3 (r : Fin 16384) (a : Fin 1024) : (show FVec Ideal S16384x1024 .f32 from V3 m ρ c main_arg4) (ix2 r a) = (d r a : EReal) :=
  (congrFun (W3_args m ρ c main_arg4 (by decide)) (ix2 r a)).trans (H.d r a)

theorem gain3 (a : Fin 1024) : (show FVec Ideal S1x1024 .f32 from V3 m ρ c main_v7) (ix2 0 a) = (w.g a : EReal) := by
  refine Eq.trans ?_ (H.g a)
  show (StableHlo.after hostOps1 (W2 m ρ c) (Proc.devRef .tc main_v7) : _ → EReal) (ix2 0 a) = _
  entry_read; pointwise
  exact congrFun (W2_args m ρ c main_arg1 (by decide)) _

end

/-! ### The forward call's blocks -/

variable (E : Both c w x V) (hg : ∀ a, (show FVec Ideal S1x1024 .f32 from V c main_v5) (ix2 0 a) = (w.g a : EReal)) (t : Fin cfg0.N)
include E

theorem fx : IsX (iblk0 V c 0 t) fun r => x (row t r) := by
  intro r a
  refine Eq.trans ?_ (E.x (row t r) a)
  blk_point [iblk0, idx0 t, row]

omit E in
include hg in
theorem fg : IsG (iblk0 V c 1 t) w.g := by
  intro a
  refine Eq.trans ?_ (hg a)
  blk_point [iblk0, idx0 t]

theorem fu (k : Fin 8) (a : Fin 1024) (b : Fin 704) : iblk0 V c 2 t (ix4 k 0 a b) = (w.up a (ch k b) : EReal) := by
  refine Eq.trans ?_ (E.up k a b)
  blk_point [iblk0, idx0 t]

theorem fu0 : IsU w (View.ld (iblk0 V c 2 t) (Rect.unit ![0, 0, 0, 0] ![1, 1, 1024, 704] inb_S8x1x1024x704_S1x1x1024x704_0_0_0_0)) 0 := fun a b => by
  pointwise; exact fu c w x V E t 0 a b
theorem fu1 : IsU w (View.ld (iblk0 V c 2 t) (Rect.unit ![1, 0, 0, 0] ![1, 1, 1024, 704] inb_S8x1x1024x704_S1x1x1024x704_1_0_0_0)) 1 := fun a b => by
  pointwise; exact fu c w x V E t 1 a b
theorem fu2 : IsU w (View.ld (iblk0 V c 2 t) (Rect.unit ![2, 0, 0, 0] ![1, 1, 1024, 704] inb_S8x1x1024x704_S1x1x1024x704_2_0_0_0)) 2 := fun a b => by
  pointwise; exact fu c w x V E t 2 a b
theorem fu3 : IsU w (View.ld (iblk0 V c 2 t) (Rect.unit ![3, 0, 0, 0] ![1, 1, 1024, 704] inb_S8x1x1024x704_S1x1x1024x704_3_0_0_0)) 3 := fun a b => by
  pointwise; exact fu c w x V E t 3 a b
theorem fu4 : IsU w (View.ld (iblk0 V c 2 t) (Rect.unit ![4, 0, 0, 0] ![1, 1, 1024, 704] inb_S8x1x1024x704_S1x1x1024x704_4_0_0_0)) 4 := fun a b => by
  pointwise; exact fu c w x V E t 4 a b
theorem fu5 : IsU w (View.ld (iblk0 V c 2 t) (Rect.unit ![5, 0, 0, 0] ![1, 1, 1024, 704] inb_S8x1x1024x704_S1x1x1024x704_5_0_0_0)) 5 := fun a b => by
  pointwise; exact fu c w x V E t 5 a b
theorem fu6 : IsU w (View.ld (iblk0 V c 2 t) (Rect.unit ![6, 0, 0, 0] ![1, 1, 1024, 704] inb_S8x1x1024x704_S1x1x1024x704_6_0_0_0)) 6 := fun a b => by
  pointwise; exact fu c w x V E t 6 a b
theorem fu7 : IsU w (View.ld (iblk0 V c 2 t) (Rect.unit ![7, 0, 0, 0] ![1, 1, 1024, 704] inb_S8x1x1024x704_S1x1x1024x704_7_0_0_0)) 7 := fun a b => by
  pointwise; exact fu c w x V E t 7 a b

omit E in
theorem one_plane (z : S1x256x704.Idx) : ∃ p q, z = ix3 (0 : Fin 1) p q := ⟨z 1, z 2, (eq_ix3 z).trans (congrArg (fun v : Fin 1 => ix3 v (z 1) (z 2)) (Subsingleton.elim _ _))⟩

include hg in
theorem saved (k : Fin 8) (r : Fin 256) (b : Fin 704) : out0_6 (iblk0 V c 0 t) (iblk0 V c 1 t) (iblk0 V c 2 t) (iblk0 V c 3 t) (ix3 k r b) = (w.gu (x (row t r)) (ch k b) : EReal) := by
  have hN := at4 w (fun r => x (row t r)) _ _ (fx c w x V E t) (fg c w V hg t)
  unfold_out out0_6
  frame_out
  canon_tiles z h
  · obtain ⟨p, q, rfl⟩ := one_plane z
    obtain rfl : k = 7 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).1 _).trans (at11 w (fun r => x (row t r)) _ _ 7 hN (fu7 c w x V E t) r b)
  · obtain ⟨p, q, rfl⟩ := one_plane z
    obtain rfl : k = 3 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.1 _).trans (at11 w (fun r => x (row t r)) _ _ 3 hN (fu3 c w x V E t) r b)
  · obtain ⟨p, q, rfl⟩ := one_plane z
    obtain rfl : k = 6 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.2.1 _).trans (at11 w (fun r => x (row t r)) _ _ 6 hN (fu6 c w x V E t) r b)
  · obtain ⟨p, q, rfl⟩ := one_plane z
    obtain rfl : k = 2 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.2.2.1 _).trans (at11 w (fun r => x (row t r)) _ _ 2 hN (fu2 c w x V E t) r b)
  · obtain ⟨p, q, rfl⟩ := one_plane z
    obtain rfl : k = 5 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.2.2.2.1 _).trans (at11 w (fun r => x (row t r)) _ _ 5 hN (fu5 c w x V E t) r b)
  · obtain ⟨p, q, rfl⟩ := one_plane z
    obtain rfl : k = 1 := Fin.ext h0
    obtain rfl : r = p := Fin.ext h1
    obtain rfl : b = q := Fin.ext h2
    exact (at11 w (fun r => x (row t r)) _ _ 1 hN (fu1 c w x V E t) r b)
  · obtain ⟨p, q, rfl⟩ := one_plane z
    obtain rfl : k = 4 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.2.2.2.2.1 _).trans (at11 w (fun r => x (row t r)) _ _ 4 hN (fu4 c w x V E t) r b)
  · obtain ⟨p, q, rfl⟩ := one_plane z
    obtain rfl : k = 0 := Fin.ext h0
    obtain rfl : r = p := Fin.ext h1
    obtain rfl : b = q := Fin.ext h2
    exact (congrFun (fwd_same (iblk0 V c 0 t) (iblk0 V c 1 t) (k0_pay4 (iblk0 V c 0 t) (iblk0 V c 1 t)) _).2.2.2.2.2.2 _).trans (at11 w (fun r => x (row t r)) _ _ 0 hN (fu0 c w x V E t) r b)

include hg in
theorem saved_all : (dat0 V c).arrAt 6 cfg0.N = (fun i => ((w.gu (x (i 1)) (ch (i 0) (i 2)) : ℝ) : EReal) : FVec Ideal S8x16384x704 .bf16) := by
  refine (dat0 V c).arrAt_eq_of_covers 6 _ (by decide +kernel) fun t hf z => ?_
  have e : ((cfg0.win 6).blk t).view.emb z = ix3 (z 0) (row t (z 1)) (z 2) := by blk_ext [idx0 t, row]
  rw [e]
  blk_simp; rw [after0_6]
  exact Eq.trans (congrArg _ (eq_ix3 z)) (saved c w x V E hg t (z 0) (z 1) (z 2))

omit E in
/-- What the backward call reads back of it. -/
theorem saved3 (H : Holds m c w x d) (k : Fin 8) (r : Fin 16384) (b : Fin 704) : (show FVec Ideal S8x16384x704 .bf16 from V3 m ρ c main_v6_2) (ix3 k r b) = (w.gu (x r) (ch k b) : EReal) :=
  congrFun ((W3_of m ρ c main_v6_2 (by decide)).trans ((W2_arr m ρ c 6).trans (saved_all c w x (V1 m ρ) (both1 m ρ c w x d H) (gain1 m ρ c w x d H)))) (ix3 k r b)

end Cert.FfnKernelIdeal.Value
end
-- ==== Proof.FfnOut.lean ====
/- What the backward call leaves in its four result arrays: at every grid point a block's rows, and the gain's gradient summed over the grid points. -/
module

public import proofs.«01_k».proof.Proof.FfnOut0

@[expose] public section

set_option maxRecDepth 200000

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen Cert.Rows Cert.Reals Cert.Ffn

variable (c : Dev nD) (w : Par) (x d : Fin 16384 → Fin 1024 → ℝ)
variable (V : (c : Dev nD) → (b : Ref sig .tc) → Buf (Elt Ideal) ((c : Thread nD τ).loc b))

/-- What the backward call starts from. -/
structure Back : Prop where
  both : Both c w x V
  d : ∀ r a, (show FVec Ideal S16384x1024 .f32 from V c main_arg4) (ix2 r a) = (d r a : EReal)
  g : ∀ a, (show FVec Ideal S1x1024 .f32 from V c main_v7) (ix2 0 a) = (w.g a : EReal)
  gu : ∀ k r b, (show FVec Ideal S8x16384x704 .bf16 from V c main_v6_2) (ix3 k r b) = (w.gu (x r) (ch k b) : EReal)

theorem idx : ∀ t : Fin cfg1.N, win1_0.index t = ![t.val, 0] ∧ win1_1.index t = ![t.val, 0] ∧ win1_2.index t = ![0, t.val, 0] ∧ win1_3.index t = ![0, 0] ∧ win1_4.index t = ![0, 0, 0, 0]
    ∧ win1_5.index t = ![0, 0, 0] ∧ win1_6.index t = ![t.val, 0] ∧ win1_7.index t = ![0, 0] ∧ win1_8.index t = ![0, t.val, 0] ∧ win1_9.index t = ![0, t.val, 0] :=
  (by decide +kernel : ∀ t : Fin grid1.N, _)

theorem point_lt (t : Fin cfg1.N) : t.val < 64 := t.isLt

variable (E : Back c w x d V) (t : Fin cfg1.N)
include E

theorem blk0 : IsX (iblk1 V c 0 t) fun r => x (row t r) := by
  intro r a
  refine Eq.trans ?_ (E.both.x (row t r) a)
  blk_point [iblk1, idx t, row]

theorem blk1 : IsX (iblk1 V c 1 t) fun r => d (row t r) := by
  intro r a
  refine Eq.trans ?_ (E.d (row t r) a)
  blk_point [iblk1, idx t, row]

theorem blk2 (k : Fin 8) (r : Fin 256) (b : Fin 704) : iblk1 V c 2 t (ix3 k r b) = (w.gu (x (row t r)) (ch k b) : EReal) := by
  refine Eq.trans ?_ (E.gu k (row t r) b)
  blk_point [iblk1, idx t, row]

theorem blk3 : IsG (iblk1 V c 3 t) w.g := by
  intro a
  refine Eq.trans ?_ (E.g a)
  blk_point [iblk1, idx t]

theorem blk4 (k : Fin 8) (a : Fin 1024) (b : Fin 704) : iblk1 V c 4 t (ix4 k 0 a b) = (w.up a (ch k b) : EReal) := by
  refine Eq.trans ?_ (E.both.up k a b)
  blk_point [iblk1, idx t]

theorem blk5 (k : Fin 4) (b : Fin 704) (a : Fin 1024) : iblk1 V c 5 t (ix3 k b a) = (w.down (ch4 k b) a : EReal) := by
  refine Eq.trans ?_ (E.both.down k b a)
  blk_point [iblk1, idx t]

theorem up0 : IsU w (View.ld (iblk1 V c 4 t) (Rect.unit ![0, 0, 0, 0] ![1, 1, 1024, 704] inb_S8x1x1024x704_S1x1x1024x704_0_0_0_0)) 0 := fun a b => by
  pointwise; exact blk4 c w x d V E t 0 a b
theorem gu0 : IsC w (fun r => x (row t r)) (View.ld (iblk1 V c 2 t) (Rect.unit ![0, 0, 0] ![1, 256, 704] inb_S8x256x704_S1x256x704_0_0_0)) 0 := fun r b => by
  pointwise; exact blk2 c w x d V E t 0 r b
theorem up1 : IsU w (View.ld (iblk1 V c 4 t) (Rect.unit ![1, 0, 0, 0] ![1, 1, 1024, 704] inb_S8x1x1024x704_S1x1x1024x704_1_0_0_0)) 1 := fun a b => by
  pointwise; exact blk4 c w x d V E t 1 a b
theorem gu1 : IsC w (fun r => x (row t r)) (View.ld (iblk1 V c 2 t) (Rect.unit ![1, 0, 0] ![1, 256, 704] inb_S8x256x704_S1x256x704_1_0_0)) 1 := fun r b => by
  pointwise; exact blk2 c w x d V E t 1 r b
theorem up2 : IsU w (View.ld (iblk1 V c 4 t) (Rect.unit ![2, 0, 0, 0] ![1, 1, 1024, 704] inb_S8x1x1024x704_S1x1x1024x704_2_0_0_0)) 2 := fun a b => by
  pointwise; exact blk4 c w x d V E t 2 a b
theorem gu2 : IsC w (fun r => x (row t r)) (View.ld (iblk1 V c 2 t) (Rect.unit ![2, 0, 0] ![1, 256, 704] inb_S8x256x704_S1x256x704_2_0_0)) 2 := fun r b => by
  pointwise; exact blk2 c w x d V E t 2 r b
theorem up3 : IsU w (View.ld (iblk1 V c 4 t) (Rect.unit ![3, 0, 0, 0] ![1, 1, 1024, 704] inb_S8x1x1024x704_S1x1x1024x704_3_0_0_0)) 3 := fun a b => by
  pointwise; exact blk4 c w x d V E t 3 a b
theorem gu3 : IsC w (fun r => x (row t r)) (View.ld (iblk1 V c 2 t) (Rect.unit ![3, 0, 0] ![1, 256, 704] inb_S8x256x704_S1x256x704_3_0_0)) 3 := fun r b => by
  pointwise; exact blk2 c w x d V E t 3 r b
theorem up4 : IsU w (View.ld (iblk1 V c 4 t) (Rect.unit ![4, 0, 0, 0] ![1, 1, 1024, 704] inb_S8x1x1024x704_S1x1x1024x704_4_0_0_0)) 4 := fun a b => by
  pointwise; exact blk4 c w x d V E t 4 a b
theorem gu4 : IsC w (fun r => x (row t r)) (View.ld (iblk1 V c 2 t) (Rect.unit ![4, 0, 0] ![1, 256, 704] inb_S8x256x704_S1x256x704_4_0_0)) 4 := fun r b => by
  pointwise; exact blk2 c w x d V E t 4 r b
theorem up5 : IsU w (View.ld (iblk1 V c 4 t) (Rect.unit ![5, 0, 0, 0] ![1, 1, 1024, 704] inb_S8x1x1024x704_S1x1x1024x704_5_0_0_0)) 5 := fun a b => by
  pointwise; exact blk4 c w x d V E t 5 a b
theorem gu5 : IsC w (fun r => x (row t r)) (View.ld (iblk1 V c 2 t) (Rect.unit ![5, 0, 0] ![1, 256, 704] inb_S8x256x704_S1x256x704_5_0_0)) 5 := fun r b => by
  pointwise; exact blk2 c w x d V E t 5 r b
theorem up6 : IsU w (View.ld (iblk1 V c 4 t) (Rect.unit ![6, 0, 0, 0] ![1, 1, 1024, 704] inb_S8x1x1024x704_S1x1x1024x704_6_0_0_0)) 6 := fun a b => by
  pointwise; exact blk4 c w x d V E t 6 a b
theorem gu6 : IsC w (fun r => x (row t r)) (View.ld (iblk1 V c 2 t) (Rect.unit ![6, 0, 0] ![1, 256, 704] inb_S8x256x704_S1x256x704_6_0_0)) 6 := fun r b => by
  pointwise; exact blk2 c w x d V E t 6 r b
theorem up7 : IsU w (View.ld (iblk1 V c 4 t) (Rect.unit ![7, 0, 0, 0] ![1, 1, 1024, 704] inb_S8x1x1024x704_S1x1x1024x704_7_0_0_0)) 7 := fun a b => by
  pointwise; exact blk4 c w x d V E t 7 a b
theorem gu7 : IsC w (fun r => x (row t r)) (View.ld (iblk1 V c 2 t) (Rect.unit ![7, 0, 0] ![1, 256, 704] inb_S8x256x704_S1x256x704_7_0_0)) 7 := fun r b => by
  pointwise; exact blk2 c w x d V E t 7 r b
theorem down0 : IsD w (View.ld (iblk1 V c 5 t) (Rect.unit ![0, 0, 0] ![1, 704, 1024] inb_S4x704x1024_S1x704x1024_0_0_0)) 0 := fun b a => by
  pointwise; exact blk5 c w x d V E t 0 b a
theorem down1 : IsD w (View.ld (iblk1 V c 5 t) (Rect.unit ![1, 0, 0] ![1, 704, 1024] inb_S4x704x1024_S1x704x1024_1_0_0)) 1 := fun b a => by
  pointwise; exact blk5 c w x d V E t 1 b a
theorem down2 : IsD w (View.ld (iblk1 V c 5 t) (Rect.unit ![2, 0, 0] ![1, 704, 1024] inb_S4x704x1024_S1x704x1024_2_0_0)) 2 := fun b a => by
  pointwise; exact blk5 c w x d V E t 2 b a
theorem down3 : IsD w (View.ld (iblk1 V c 5 t) (Rect.unit ![3, 0, 0] ![1, 704, 1024] inb_S4x704x1024_S1x704x1024_3_0_0)) 3 := fun b a => by
  pointwise; exact blk5 c w x d V E t 3 b a

theorem lo0 : IsA w (fun r => x (row t r)) (fun r => d (row t r)) (k1_pay36 (k1_pay5 (iblk1 V c 1 t) (View.ld (iblk1 V c 5 t) (Rect.unit ![0, 0, 0] ![1, 704, 1024] inb_S4x704x1024_S1x704x1024_0_0_0))) (View.ld (iblk1 V c 2 t) (Rect.unit ![0, 0, 0] ![1, 256, 704] inb_S8x256x704_S1x256x704_0_0_0)) (View.ld (iblk1 V c 2 t) (Rect.unit ![4, 0, 0] ![1, 256, 704] inb_S8x256x704_S1x256x704_4_0_0))) 0 :=
  at36 w _ _ _ _ _ 0 (at5 w _ _ _ 0 (blk1 c w x d V E t) (down0 c w x d V E t)) (gu0 c w x d V E t) (gu4 c w x d V E t)
theorem hi0 : IsA w (fun r => x (row t r)) (fun r => d (row t r)) (k1_pay37 (k1_pay5 (iblk1 V c 1 t) (View.ld (iblk1 V c 5 t) (Rect.unit ![0, 0, 0] ![1, 704, 1024] inb_S4x704x1024_S1x704x1024_0_0_0))) (View.ld (iblk1 V c 2 t) (Rect.unit ![0, 0, 0] ![1, 256, 704] inb_S8x256x704_S1x256x704_0_0_0))) 4 :=
  at37 w _ _ _ _ 0 (at5 w _ _ _ 0 (blk1 c w x d V E t) (down0 c w x d V E t)) (gu0 c w x d V E t)

theorem lo1 : IsA w (fun r => x (row t r)) (fun r => d (row t r)) (k1_pay36 (k1_pay5 (iblk1 V c 1 t) (View.ld (iblk1 V c 5 t) (Rect.unit ![1, 0, 0] ![1, 704, 1024] inb_S4x704x1024_S1x704x1024_1_0_0))) (View.ld (iblk1 V c 2 t) (Rect.unit ![1, 0, 0] ![1, 256, 704] inb_S8x256x704_S1x256x704_1_0_0)) (View.ld (iblk1 V c 2 t) (Rect.unit ![5, 0, 0] ![1, 256, 704] inb_S8x256x704_S1x256x704_5_0_0))) 1 :=
  at36 w _ _ _ _ _ 1 (at5 w _ _ _ 1 (blk1 c w x d V E t) (down1 c w x d V E t)) (gu1 c w x d V E t) (gu5 c w x d V E t)
theorem hi1 : IsA w (fun r => x (row t r)) (fun r => d (row t r)) (k1_pay37 (k1_pay5 (iblk1 V c 1 t) (View.ld (iblk1 V c 5 t) (Rect.unit ![1, 0, 0] ![1, 704, 1024] inb_S4x704x1024_S1x704x1024_1_0_0))) (View.ld (iblk1 V c 2 t) (Rect.unit ![1, 0, 0] ![1, 256, 704] inb_S8x256x704_S1x256x704_1_0_0))) 5 :=
  at37 w _ _ _ _ 1 (at5 w _ _ _ 1 (blk1 c w x d V E t) (down1 c w x d V E t)) (gu1 c w x d V E t)

theorem lo2 : IsA w (fun r => x (row t r)) (fun r => d (row t r)) (k1_pay36 (k1_pay5 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0)) (View.ld (iblk1 V c 2 t) (Rect.unit ![6, 0, 0] ![1, 256, 704] inb_S8x256x704_S1x256x704_6_0_0))) 2 :=
  at36 w _ _ _ _ _ 2 (at5 w _ _ _ 2 (blk1 c w x d V E t) (down2 c w x d V E t)) (gu2 c w x d V E t) (gu6 c w x d V E t)
theorem hi2 : IsA w (fun r => x (row t r)) (fun r => d (row t r)) (k1_pay37 (k1_pay5 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0))) 6 :=
  at37 w _ _ _ _ 2 (at5 w _ _ _ 2 (blk1 c w x d V E t) (down2 c w x d V E t)) (gu2 c w x d V E t)

theorem lo3 : IsA w (fun r => x (row t r)) (fun r => d (row t r)) (k1_pay36 (k1_pay5 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))) 3 :=
  at36 w _ _ _ _ _ 3 (at5 w _ _ _ 3 (blk1 c w x d V E t) (down3 c w x d V E t)) (gu3 c w x d V E t) (gu7 c w x d V E t)
theorem hi3 : IsA w (fun r => x (row t r)) (fun r => d (row t r)) (k1_pay37 (k1_pay5 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0))) 7 :=
  at37 w _ _ _ _ 3 (at5 w _ _ _ 3 (blk1 c w x d V E t) (down3 c w x d V E t)) (gu3 c w x d V E t)

/-- The hidden cotangent at a block, as the body adds it up chunk by chunk. -/
theorem hid : IsX (k1_pay51 (k1_pay41 (k1_pay37 (k1_pay7 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0))) (k1_pay40 (k1_pay7 (iblk1 V c 1 t) (View.ld (iblk1 V c 5 t) (Rect.unit ![2, 0, 0] ![1, 704, 1024] inb_S4x704x1024_S1x704x1024_2_0_0))) (k1_pay30 (k1_pay6 (iblk1 V c 1 t) (View.ld (iblk1 V c 5 t) (Rect.unit ![1, 0, 0] ![1, 704, 1024] inb_S4x704x1024_S1x704x1024_1_0_0))) (k1_pay19 (k1_pay4 (F := Ideal)) (k1_pay5 (iblk1 V c 1 t) (View.ld (iblk1 V c 5 t) (Rect.unit ![0, 0, 0] ![1, 704, 1024] inb_S4x704x1024_S1x704x1024_0_0_0))) (k1_pay9 (View.ld (iblk1 V c 2 t) (Rect.unit ![0, 0, 0] ![1, 256, 704] inb_S8x256x704_S1x256x704_0_0_0))) (k1_pay10 (View.ld (iblk1 V c 2 t) (Rect.unit ![4, 0, 0] ![1, 256, 704] inb_S8x256x704_S1x256x704_4_0_0))) (k1_pay11 (View.ld (iblk1 V c 2 t) (Rect.unit ![0, 0, 0] ![1, 256, 704] inb_S8x256x704_S1x256x704_0_0_0))) (k1_pay12 (View.ld (iblk1 V c 2 t) (Rect.unit ![0, 0, 0] ![1, 256, 704] inb_S8x256x704_S1x256x704_0_0_0))) (View.ld (iblk1 V c 4 t) (Rect.unit ![0, 0, 0, 0] ![1, 1, 1024, 704] inb_S8x1x1024x704_S1x1x1024x704_0_0_0_0)) (View.ld (iblk1 V c 4 t) (Rect.unit ![4, 0, 0, 0] ![1, 1, 1024, 704] inb_S8x1x1024x704_S1x1x1024x704_4_0_0_0))) (k1_pay20 (View.ld (iblk1 V c 2 t) (Rect.unit ![1, 0, 0] ![1, 256, 704] inb_S8x256x704_S1x256x704_1_0_0))) (k1_pay21 (View.ld (iblk1 V c 2 t) (Rect.unit ![5, 0, 0] ![1, 256, 704] inb_S8x256x704_S1x256x704_5_0_0))) (View.ld (iblk1 V c 4 t) (Rect.unit ![1, 0, 0, 0] ![1, 1, 1024, 704] inb_S8x1x1024x704_S1x1x1024x704_1_0_0_0)) (View.ld (iblk1 V c 4 t) (Rect.unit ![5, 0, 0, 0] ![1, 1, 1024, 704] inb_S8x1x1024x704_S1x1x1024x704_5_0_0_0))) (View.ld (iblk1 V c 2 t) (Rect.unit ![2, 0, 0] ![1, 256, 704] inb_S8x256x704_S1x256x704_2_0_0)) (View.ld (iblk1 V c 2 t) (Rect.unit ![6, 0, 0] ![1, 256, 704] inb_S8x256x704_S1x256x704_6_0_0)) (View.ld (iblk1 V c 4 t) (Rect.unit ![2, 0, 0, 0] ![1, 1, 1024, 704] inb_S8x1x1024x704_S1x1x1024x704_2_0_0_0))) (View.ld (iblk1 V c 4 t) (Rect.unit ![6, 0, 0, 0] ![1, 1, 1024, 704] inb_S8x1x1024x704_S1x1x1024x704_6_0_0_0))) (k1_pay47 (k1_pay8 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))) (k1_pay48 (k1_pay8 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0))) (View.ld (iblk1 V c 4 t) (Rect.unit ![3, 0, 0, 0] ![1, 1, 1024, 704] inb_S8x1x1024x704_S1x1x1024x704_3_0_0_0)) (View.ld (iblk1 V c 4 t) (Rect.unit ![7, 0, 0, 0] ![1, 1, 1024, 704] inb_S8x1x1024x704_S1x1x1024x704_7_0_0_0))) fun r => w.dh (x (row t r)) (d (row t r)) := by
  intro r a
  rw [show (k1_pay51 (k1_pay41 (k1_pay37 (k1_pay7 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0))) (k1_pay40 (k1_pay7 (iblk1 V c 1 t) (View.ld (iblk1 V c 5 t) (Rect.unit ![2, 0, 0] ![1, 704, 1024] inb_S4x704x1024_S1x704x1024_2_0_0))) (k1_pay30 (k1_pay6 (iblk1 V c 1 t) (View.ld (iblk1 V c 5 t) (Rect.unit ![1, 0, 0] ![1, 704, 1024] inb_S4x704x1024_S1x704x1024_1_0_0))) (k1_pay19 (k1_pay4 (F := Ideal)) (k1_pay5 (iblk1 V c 1 t) (View.ld (iblk1 V c 5 t) (Rect.unit ![0, 0, 0] ![1, 704, 1024] inb_S4x704x1024_S1x704x1024_0_0_0))) (k1_pay9 (View.ld (iblk1 V c 2 t) (Rect.unit ![0, 0, 0] ![1, 256, 704] inb_S8x256x704_S1x256x704_0_0_0))) (k1_pay10 (View.ld (iblk1 V c 2 t) (Rect.unit ![4, 0, 0] ![1, 256, 704] inb_S8x256x704_S1x256x704_4_0_0))) (k1_pay11 (View.ld (iblk1 V c 2 t) (Rect.unit ![0, 0, 0] ![1, 256, 704] inb_S8x256x704_S1x256x704_0_0_0))) (k1_pay12 (View.ld (iblk1 V c 2 t) (Rect.unit ![0, 0, 0] ![1, 256, 704] inb_S8x256x704_S1x256x704_0_0_0))) (View.ld (iblk1 V c 4 t) (Rect.unit ![0, 0, 0, 0] ![1, 1, 1024, 704] inb_S8x1x1024x704_S1x1x1024x704_0_0_0_0)) (View.ld (iblk1 V c 4 t) (Rect.unit ![4, 0, 0, 0] ![1, 1, 1024, 704] inb_S8x1x1024x704_S1x1x1024x704_4_0_0_0))) (k1_pay20 (View.ld (iblk1 V c 2 t) (Rect.unit ![1, 0, 0] ![1, 256, 704] inb_S8x256x704_S1x256x704_1_0_0))) (k1_pay21 (View.ld (iblk1 V c 2 t) (Rect.unit ![5, 0, 0] ![1, 256, 704] inb_S8x256x704_S1x256x704_5_0_0))) (View.ld (iblk1 V c 4 t) (Rect.unit ![1, 0, 0, 0] ![1, 1, 1024, 704] inb_S8x1x1024x704_S1x1x1024x704_1_0_0_0)) (View.ld (iblk1 V c 4 t) (Rect.unit ![5, 0, 0, 0] ![1, 1, 1024, 704] inb_S8x1x1024x704_S1x1x1024x704_5_0_0_0))) (View.ld (iblk1 V c 2 t) (Rect.unit ![2, 0, 0] ![1, 256, 704] inb_S8x256x704_S1x256x704_2_0_0)) (View.ld (iblk1 V c 2 t) (Rect.unit ![6, 0, 0] ![1, 256, 704] inb_S8x256x704_S1x256x704_6_0_0)) (View.ld (iblk1 V c 4 t) (Rect.unit ![2, 0, 0, 0] ![1, 1, 1024, 704] inb_S8x1x1024x704_S1x1x1024x704_2_0_0_0))) (View.ld (iblk1 V c 4 t) (Rect.unit ![6, 0, 0, 0] ![1, 1, 1024, 704] inb_S8x1x1024x704_S1x1x1024x704_6_0_0_0))) (k1_pay47 (k1_pay8 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))) (k1_pay48 (k1_pay8 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0))) (View.ld (iblk1 V c 4 t) (Rect.unit ![3, 0, 0, 0] ![1, 1, 1024, 704] inb_S8x1x1024x704_S1x1x1024x704_3_0_0_0)) (View.ld (iblk1 V c 4 t) (Rect.unit ![7, 0, 0, 0] ![1, 1, 1024, 704] inb_S8x1x1024x704_S1x1x1024x704_7_0_0_0))) = (k1_pay51 (k1_pay51 (k1_pay51 (k1_pay51 (k1_pay4 (F := Ideal)) (k1_pay36 (k1_pay5 (iblk1 V c 1 t) (View.ld (iblk1 V c 5 t) (Rect.unit ![0, 0, 0] ![1, 704, 1024] inb_S4x704x1024_S1x704x1024_0_0_0))) (View.ld (iblk1 V c 2 t) (Rect.unit ![0, 0, 0] ![1, 256, 704] inb_S8x256x704_S1x256x704_0_0_0)) (View.ld (iblk1 V c 2 t) (Rect.unit ![4, 0, 0] ![1, 256, 704] inb_S8x256x704_S1x256x704_4_0_0))) (k1_pay37 (k1_pay5 (iblk1 V c 1 t) (View.ld (iblk1 V c 5 t) (Rect.unit ![0, 0, 0] ![1, 704, 1024] inb_S4x704x1024_S1x704x1024_0_0_0))) (View.ld (iblk1 V c 2 t) (Rect.unit ![0, 0, 0] ![1, 256, 704] inb_S8x256x704_S1x256x704_0_0_0))) (View.ld (iblk1 V c 4 t) (Rect.unit ![0, 0, 0, 0] ![1, 1, 1024, 704] inb_S8x1x1024x704_S1x1x1024x704_0_0_0_0)) (View.ld (iblk1 V c 4 t) (Rect.unit ![4, 0, 0, 0] ![1, 1, 1024, 704] inb_S8x1x1024x704_S1x1x1024x704_4_0_0_0))) (k1_pay36 (k1_pay5 (iblk1 V c 1 t) (View.ld (iblk1 V c 5 t) (Rect.unit ![1, 0, 0] ![1, 704, 1024] inb_S4x704x1024_S1x704x1024_1_0_0))) (View.ld (iblk1 V c 2 t) (Rect.unit ![1, 0, 0] ![1, 256, 704] inb_S8x256x704_S1x256x704_1_0_0)) (View.ld (iblk1 V c 2 t) (Rect.unit ![5, 0, 0] ![1, 256, 704] inb_S8x256x704_S1x256x704_5_0_0))) (k1_pay37 (k1_pay5 (iblk1 V c 1 t) (View.ld (iblk1 V c 5 t) (Rect.unit ![1, 0, 0] ![1, 704, 1024] inb_S4x704x1024_S1x704x1024_1_0_0))) (View.ld (iblk1 V c 2 t) (Rect.unit ![1, 0, 0] ![1, 256, 704] inb_S8x256x704_S1x256x704_1_0_0))) (View.ld (iblk1 V c 4 t) (Rect.unit ![1, 0, 0, 0] ![1, 1, 1024, 704] inb_S8x1x1024x704_S1x1x1024x704_1_0_0_0)) (View.ld (iblk1 V c 4 t) (Rect.unit ![5, 0, 0, 0] ![1, 1, 1024, 704] inb_S8x1x1024x704_S1x1x1024x704_5_0_0_0))) (k1_pay36 (k1_pay5 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0)) (View.ld (iblk1 V c 2 t) (Rect.unit ![6, 0, 0] ![1, 256, 704] inb_S8x256x704_S1x256x704_6_0_0))) (k1_pay37 (k1_pay5 (iblk1 V c 1 t) (View.ld (iblk1 V c 5 t) (Rect.unit ![2, 0, 0] ![1, 704, 1024] inb_S4x704x1024_S1x704x1024_2_0_0))) (View.ld (iblk1 V c 2 t) (Rect.unit ![2, 0, 0] ![1, 256, 704] inb_S8x256x704_S1x256x704_2_0_0))) (View.ld (iblk1 V c 4 t) (Rect.unit ![2, 0, 0, 0] ![1, 1, 1024, 704] inb_S8x1x1024x704_S1x1x1024x704_2_0_0_0)) (View.ld (iblk1 V c 4 t) (Rect.unit ![6, 0, 0, 0] ![1, 1, 1024, 704] inb_S8x1x1024x704_S1x1x1024x704_6_0_0_0))) (k1_pay36 (k1_pay5 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))) (k1_pay37 (k1_pay5 (iblk1 V c 1 t) (View.ld (iblk1 V c 5 t) (Rect.unit ![3, 0, 0] ![1, 704, 1024] inb_S4x704x1024_S1x704x1024_3_0_0))) (View.ld (iblk1 V c 2 t) (Rect.unit ![3, 0, 0] ![1, 256, 704] inb_S8x256x704_S1x256x704_3_0_0))) (View.ld (iblk1 V c 4 t) (Rect.unit ![3, 0, 0, 0] ![1, 1, 1024, 704] inb_S8x1x1024x704_S1x1x1024x704_3_0_0_0)) (View.ld (iblk1 V c 4 t) (Rect.unit ![7, 0, 0, 0] ![1, 1, 1024, 704] inb_S8x1x1024x704_S1x1x1024x704_7_0_0_0))) from by
    rw [(chunk3 _ _ _).1, (chunk3 _ (View.ld (iblk1 V c 2 t) (Rect.unit ![7, 0, 0] ![1, 256, 704] inb_S8x256x704_S1x256x704_7_0_0)) _).2, chunk2, chunk1, chunk0, (dact_same _ _).1, (dact_same _ _).2.1, (dact_same _ _).2.2]]
  rw [at51 w (fun r => x (row t r)) (fun r => d (row t r)) _ _ _ _ _ 3 (lo3 c w x d V E t) (hi3 c w x d V E t) (up3 c w x d V E t) (up7 c w x d V E t), at51 w (fun r => x (row t r)) (fun r => d (row t r)) _ _ _ _ _ 2 (lo2 c w x d V E t) (hi2 c w x d V E t) (up2 c w x d V E t) (up6 c w x d V E t), at51 w (fun r => x (row t r)) (fun r => d (row t r)) _ _ _ _ _ 1 (lo1 c w x d V E t) (hi1 c w x d V E t) (up1 c w x d V E t) (up5 c w x d V E t), at51 w (fun r => x (row t r)) (fun r => d (row t r)) _ _ _ _ _ 0 (lo0 c w x d V E t) (hi0 c w x d V E t) (up0 c w x d V E t) (up4 c w x d V E t),
    show k1_pay4 (F := Ideal) (ix2 r a) = 0 from by pointwise [k1_pay4], zero_add]
  simp only [← EReal.coe_add]
  exact congrArg _ (w.dh_parts (x (row t r)) (d (row t r)) a)

theorem out6 (r : Fin 256) (a : Fin 1024) : (outsAt1 V c t.val t.isLt).1 (ix2 r a) = (w.dx (x (row t r)) (d (row t r)) a : EReal) := by
  have e := at54 w (fun r => x (row t r)) (fun r => d (row t r)) _ _ _ _ _ _ _ _ (blk0 c w x d V E t) (blk1 c w x d V E t) (blk3 c w x d V E t) (hid c w x d V E t) r a
  by_cases h0 : t.val % 64 = 0
  · rw [outsAt1_A V c t h0]; frame_out; exact e
  · rw [outsAt1_B V c t h0]; frame_out; exact e

/-- A point adds its rows' share of the gain's gradient to what stands there, or to zeros at the first point. -/
theorem out7 (a : Fin 1024) (v : EReal) (hA : t.val % 64 = 0 → v = 0)
    (hB : ∀ h : ¬ t.val % 64 = 0, v = (outsAt1 V c (t.val - 1) (by have := t.isLt; omega)).2.1 (ix2 0 a)) :
    (outsAt1 V c t.val t.isLt).2.1 (ix2 0 a) = v + ((∑ r, w.dg (x (row t r)) (d (row t r)) a : ℝ) : EReal) := by
  have e := fun O => at56 w (fun r => x (row t r)) (fun r => d (row t r)) _ _ O _ _ _ _ (blk0 c w x d V E t) (hid c w x d V E t) a
  by_cases h0 : t.val % 64 = 0
  · rw [outsAt1_A V c t h0, hA h0]; frame_out
    refine (e (k1_pay2 (F := Ideal))).trans (congrArg (· + _) ?_)
    pointwise [k1_pay2]
  · rw [outsAt1_B V c t h0, hB h0]; frame_out; exact e _

theorem out8 (k : Fin 4) (r : Fin 256) (b : Fin 704) : (outsAt1 V c t.val t.isLt).2.2.1 (ix3 k r b) = (w.act (x (row t r)) (ch4 k b) : EReal) := by
  by_cases h0 : t.val % 64 = 0
  · rw [outsAt1_A V c t h0]; frame_out
    clear h0
    canon_tiles z h
    · obtain ⟨p, q, rfl⟩ := one_plane z
      obtain rfl : k = 3 := Fin.ext h0
      obtain rfl : r = p := Fin.ext h1
      obtain rfl : b = q := Fin.ext h2
      exact (congrFun (act_same (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))).2.2 _).trans (at35 w (fun r => x (row t r)) _ _ 3 (gu3 c w x d V E t) (gu7 c w x d V E t) r b)
    · obtain ⟨p, q, rfl⟩ := one_plane z
      obtain rfl : k = 2 := Fin.ext h0
      obtain rfl : r = p := Fin.ext h1
      obtain rfl : b = q := Fin.ext h2
      exact (at35 w (fun r => x (row t r)) _ _ 2 (gu2 c w x d V E t) (gu6 c w x d V E t) r b)
    · obtain ⟨p, q, rfl⟩ := one_plane z
      obtain rfl : k = 1 := Fin.ext h0
      obtain rfl : r = p := Fin.ext h1
      obtain rfl : b = q := Fin.ext h2
      exact (congrFun (act_same (View.ld (iblk1 V c 2 t) (Rect.unit ![1, 0, 0] ![1, 256, 704] inb_S8x256x704_S1x256x704_1_0_0)) (View.ld (iblk1 V c 2 t) (Rect.unit ![5, 0, 0] ![1, 256, 704] inb_S8x256x704_S1x256x704_5_0_0))).2.1 _).trans (at35 w (fun r => x (row t r)) _ _ 1 (gu1 c w x d V E t) (gu5 c w x d V E t) r b)
    · obtain ⟨p, q, rfl⟩ := one_plane z
      obtain rfl : k = 0 := Fin.ext h0
      obtain rfl : r = p := Fin.ext h1
      obtain rfl : b = q := Fin.ext h2
      exact (congrFun (act_same (View.ld (iblk1 V c 2 t) (Rect.unit ![0, 0, 0] ![1, 256, 704] inb_S8x256x704_S1x256x704_0_0_0)) (View.ld (iblk1 V c 2 t) (Rect.unit ![4, 0, 0] ![1, 256, 704] inb_S8x256x704_S1x256x704_4_0_0))).1 _).trans (at35 w (fun r => x (row t r)) _ _ 0 (gu0 c w x d V E t) (gu4 c w x d V E t) r b)
  · rw [outsAt1_B V c t h0]; frame_out
    clear h0
    canon_tiles z h
    · obtain ⟨p, q, rfl⟩ := one_plane z
      obtain rfl : k = 3 := Fin.ext h0
      obtain rfl : r = p := Fin.ext h1
      obtain rfl : b = q := Fin.ext h2
      exact (congrFun (act_same (View.ld (iblk1 V c 2 t) (Rect.unit ![3, 0, 0] ![1, 256, 704] inb_S8x256x704_S1x256x704_3_0_0)) (View.ld (iblk1 V c 2 t) (Rect.unit ![7, 0, 0] ![1, 256, 704] inb_S8x256x704_S1x256x704_7_0_0))).2.2 _).trans (at35 w (fun r => x (row t r)) _ _ 3 (gu3 c w x d V E t) (gu7 c w x d V E t) r b)
    · obtain ⟨p, q, rfl⟩ := one_plane z
      obtain rfl : k = 2 := Fin.ext h0
      obtain rfl : r = p := Fin.ext h1
      obtain rfl : b = q := Fin.ext h2
      exact (at35 w (fun r => x (row t r)) _ _ 2 (gu2 c w x d V E t) (gu6 c w x d V E t) r b)
    · obtain ⟨p, q, rfl⟩ := one_plane z
      obtain rfl : k = 1 := Fin.ext h0
      obtain rfl : r = p := Fin.ext h1
      obtain rfl : b = q := Fin.ext h2
      exact (congrFun (act_same (View.ld (iblk1 V c 2 t) (Rect.unit ![1, 0, 0] ![1, 256, 704] inb_S8x256x704_S1x256x704_1_0_0)) (View.ld (iblk1 V c 2 t) (Rect.unit ![5, 0, 0] ![1, 256, 704] inb_S8x256x704_S1x256x704_5_0_0))).2.1 _).trans (at35 w (fun r => x (row t r)) _ _ 1 (gu1 c w x d V E t) (gu5 c w x d V E t) r b)
    · obtain ⟨p, q, rfl⟩ := one_plane z
      obtain rfl : k = 0 := Fin.ext h0
      obtain rfl : r = p := Fin.ext h1
      obtain rfl : b = q := Fin.ext h2
      exact (congrFun (act_same (View.ld (iblk1 V c 2 t) (Rect.unit ![0, 0, 0] ![1, 256, 704] inb_S8x256x704_S1x256x704_0_0_0)) (View.ld (iblk1 V c 2 t) (Rect.unit ![4, 0, 0] ![1, 256, 704] inb_S8x256x704_S1x256x704_4_0_0))).1 _).trans (at35 w (fun r => x (row t r)) _ _ 0 (gu0 c w x d V E t) (gu4 c w x d V E t) r b)

theorem out9 (k : Fin 8) (r : Fin 256) (b : Fin 704) : (outsAt1 V c t.val t.isLt).2.2.2 (ix3 k r b) = (w.dgu (x (row t r)) (d (row t r)) (ch k b) : EReal) := by
  by_cases h0 : t.val % 64 = 0
  · rw [outsAt1_A V c t h0]; frame_out
    clear h0
    canon_tiles z h
    · obtain ⟨p, q, rfl⟩ := one_plane z
      obtain rfl : k = 7 := Fin.ext h0
      obtain rfl : r = p := Fin.ext h1
      obtain rfl : b = q := Fin.ext h2
      exact stored w (fun r => x (row t r)) (fun r => d (row t r)) _ 7 (hi3 c w x d V E t) _ rfl r b
    · obtain ⟨p, q, rfl⟩ := one_plane z
      obtain rfl : k = 3 := Fin.ext h0
      obtain rfl : r = p := Fin.ext h1
      obtain rfl : b = q := Fin.ext h2
      exact stored w (fun r => x (row t r)) (fun r => d (row t r)) _ 3 (lo3 c w x d V E t) _ rfl r b
    · obtain ⟨p, q, rfl⟩ := one_plane z
      obtain rfl : k = 6 := Fin.ext h0
      obtain rfl : r = p := Fin.ext h1
      obtain rfl : b = q := Fin.ext h2
      exact stored w (fun r => x (row t r)) (fun r => d (row t r)) _ 6 (hi2 c w x d V E t) _ rfl r b
    · obtain ⟨p, q, rfl⟩ := one_plane z
      obtain rfl : k = 2 := Fin.ext h0
      obtain rfl : r = p := Fin.ext h1
      obtain rfl : b = q := Fin.ext h2
      exact stored w (fun r => x (row t r)) (fun r => d (row t r)) _ 2 (lo2 c w x d V E t) _ rfl r b
    · obtain ⟨p, q, rfl⟩ := one_plane z
      obtain rfl : k = 5 := Fin.ext h0
      obtain rfl : r = p := Fin.ext h1
      obtain rfl : b = q := Fin.ext h2
      exact stored w (fun r => x (row t r)) (fun r => d (row t r)) _ 5 (hi1 c w x d V E t) _ rfl r b
    · obtain ⟨p, q, rfl⟩ := one_plane z
      obtain rfl : k = 1 := Fin.ext h0
      obtain rfl : r = p := Fin.ext h1
      obtain rfl : b = q := Fin.ext h2
      exact stored w (fun r => x (row t r)) (fun r => d (row t r)) _ 1 (lo1 c w x d V E t) _ rfl r b
    · obtain ⟨p, q, rfl⟩ := one_plane z
      obtain rfl : k = 4 := Fin.ext h0
      obtain rfl : r = p := Fin.ext h1
      obtain rfl : b = q := Fin.ext h2
      exact stored w (fun r => x (row t r)) (fun r => d (row t r)) _ 4 (hi0 c w x d V E t) _ rfl r b
    · obtain ⟨p, q, rfl⟩ := one_plane z
      obtain rfl : k = 0 := Fin.ext h0
      obtain rfl : r = p := Fin.ext h1
      obtain rfl : b = q := Fin.ext h2
      exact stored w (fun r => x (row t r)) (fun r => d (row t r)) _ 0 (lo0 c w x d V E t) _ rfl r b
  · rw [outsAt1_B V c t h0]; frame_out
    clear h0
    canon_tiles z h
    · obtain ⟨p, q, rfl⟩ := one_plane z
      obtain rfl : k = 7 := Fin.ext h0
      obtain rfl : r = p := Fin.ext h1
      obtain rfl : b = q := Fin.ext h2
      exact stored w (fun r => x (row t r)) (fun r => d (row t r)) _ 7 (hi3 c w x d V E t) _ rfl r b
    · obtain ⟨p, q, rfl⟩ := one_plane z
      obtain rfl : k = 3 := Fin.ext h0
      obtain rfl : r = p := Fin.ext h1
      obtain rfl : b = q := Fin.ext h2
      exact stored w (fun r => x (row t r)) (fun r => d (row t r)) _ 3 (lo3 c w x d V E t) _ rfl r b
    · obtain ⟨p, q, rfl⟩ := one_plane z
      obtain rfl : k = 6 := Fin.ext h0
      obtain rfl : r = p := Fin.ext h1
      obtain rfl : b = q := Fin.ext h2
      exact stored w (fun r => x (row t r)) (fun r => d (row t r)) _ 6 (hi2 c w x d V E t) _ rfl r b
    · obtain ⟨p, q, rfl⟩ := one_plane z
      obtain rfl : k = 2 := Fin.ext h0
      obtain rfl : r = p := Fin.ext h1
      obtain rfl : b = q := Fin.ext h2
      exact stored w (fun r => x (row t r)) (fun r => d (row t r)) _ 2 (lo2 c w x d V E t) _ rfl r b
    · obtain ⟨p, q, rfl⟩ := one_plane z
      obtain rfl : k = 5 := Fin.ext h0
      obtain rfl : r = p := Fin.ext h1
      obtain rfl : b = q := Fin.ext h2
      exact stored w (fun r => x (row t r)) (fun r => d (row t r)) _ 5 (hi1 c w x d V E t) _ rfl r b
    · obtain ⟨p, q, rfl⟩ := one_plane z
      obtain rfl : k = 1 := Fin.ext h0
      obtain rfl : r = p := Fin.ext h1
      obtain rfl : b = q := Fin.ext h2
      exact stored w (fun r => x (row t r)) (fun r => d (row t r)) _ 1 (lo1 c w x d V E t) _ rfl r b
    · obtain ⟨p, q, rfl⟩ := one_plane z
      obtain rfl : k = 4 := Fin.ext h0
      obtain rfl : r = p := Fin.ext h1
      obtain rfl : b = q := Fin.ext h2
      exact stored w (fun r => x (row t r)) (fun r => d (row t r)) _ 4 (hi0 c w x d V E t) _ rfl r b
    · obtain ⟨p, q, rfl⟩ := one_plane z
      obtain rfl : k = 0 := Fin.ext h0
      obtain rfl : r = p := Fin.ext h1
      obtain rfl : b = q := Fin.ext h2
      exact stored w (fun r => x (row t r)) (fun r => d (row t r)) _ 0 (lo0 c w x d V E t) _ rfl r b

end Cert.FfnKernelIdeal.Value
end
-- ==== Proof.FfnRef.lean ====
/- The reference of the feed-forward layer's backward, stage by stage, over real arguments: every result is the row specification the kernel's blocks compute. -/
module

public import proofs.«01_k».proof.Proof.FfnGrad
public import proofs.«01_k».proof.Proof.Gen.FfnReferenceIdeal.Run
public import Idealize.ShloMosaic.Lib.Pointwise

@[expose] public section

set_option maxRecDepth 200000

noncomputable section

namespace Cert.FfnReferenceIdeal.Value

open Idealize.ShloMosaic Idealize.ShloMosaic.TcCoe Idealize.SL.Sem
open Idealize.ShloMosaic.Pipeline (Dat)
open Cert.FfnReferenceIdeal Cert.FfnReferenceIdeal.Gen Cert.Rows Cert.Reals Cert.Ffn

abbrev Rows1 := FVec Ideal S16384x1024 .f32
abbrev Rows2 := FVec Ideal S16384x2816 .f32
abbrev Rows4 := FVec Ideal S16384x5632 .f32
abbrev Col := FVec Ideal S16384x1 .f32

/-- The reference's stages, over any arrays: mean square, scale, normed row, gained row, the two projections side by side, gate, branch, the logistic of the gate. -/
def msA (X : Rows1) : Col := addf (Host.divf (broadcastInDim S16384x1 ![0] bcast_S16384_S16384x1_0 (Host.reduceAdd (F := Ideal) (φ := .f32) (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def rsA (M : Col) : Col := Host.rsqrt M
def xnA (X : Rows1) (R : Col) : Rows1 := mulf X (broadcastInDim S16384x1024 ![0, 1] bcast_S16384x1_S16384x1024_0_1 R)
def hA (N : Rows1) (G : FVec Ideal S1024 .f32) : Rows1 := mulf N (broadcastInDim S16384x1024 ![0, 1] bcast_S1x1024_S16384x1024_0_1 (broadcastInDim S1x1024 ![1] bcast_S1024_S1x1024_1 G))
def guA (N : Rows1) (W : FVec Ideal S1024x5632 .f32) : Rows4 := Host.dotGeneral (F := Ideal) (φ₁ := .f32) (φ₂ := .f32) dot_S16384x1024_S1024x5632_S16384x5632_1_0_0_1_n_n none N W
def gateA (Z : Rows4) : Rows2 := extractStridedSlice S16384x2816 ![0, 0] Z slices_S16384x5632_S16384x2816_0_0
def upA (Z : Rows4) : Rows2 := extractStridedSlice S16384x2816 ![0, 2816] Z slices_S16384x5632_S16384x2816_0_2816
def oneA : Rows2 := broadcastInDim S16384x2816 ![] bcast_S_S16384x2816 (constant S_ .f32 0x3F800000#32)
def sgA (A : Rows2) : Rows2 := Host.divf oneA (addf oneA (Host.exp (Host.negf A)))
def colsumA (E : Rows1) : FVec Ideal S1x1024 .f32 := shapeCast S1x1024 (Host.reduceAdd (F := Ideal) (φ := .f32) (shapeCast S1x1024 (Host.reduceAdd (F := Ideal) (φ := .f32) E (constant S_ .f32 0x00000000#32) reducesTo_S16384x1024_S1024_d0 h_S_) shapeCasts_S1024_S1x1024) (constant S_ .f32 0x00000000#32) reducesTo_S1x1024_S1024_d0 h_S_) shapeCasts_S1024_S1x1024
def meanA (X Y : Rows1) (R M : Col) : FVec Ideal S16384 .f32 :=
  Host.reduceAdd (F := Ideal) (φ := .f32) (Host.divf (mulf (shapeCast S16384x1 (Host.reduceAdd (F := Ideal) (φ := .f32) (mulf X Y) (constant S_ .f32 0x00000000#32) reducesTo_S16384x1024_S16384_d1 h_S_) shapeCasts_S16384_S16384x1) (mulf (broadcastInDim S16384x1 ![] bcast_S_S16384x1 (constant S_ .f32 0xBF000000#32)) (Host.divf R M))) (broadcastInDim S16384x1 ![] bcast_S_S16384x1 (constant S_ .f32 0x44800000#32))) (constant S_ .f32 0x00000000#32) reducesTo_S16384x1_S16384_d1 h_S_
def bcA (Q : FVec Ideal S16384 .f32) : Rows1 := broadcastInDim S16384x1024 ![0] bcast_S16384_S16384x1024_0 Q
def chunks8 (Z : Rows4) : FVec Ideal S8x16384x704 .bf16 := truncf .bf16 (transpose S8x16384x704 [1, 0, 2] (shapeCast S16384x8x704 Z shapeCasts_S16384x5632_S16384x8x704) transposes_S16384x8x704_S8x16384x704_1_0_2) bitsLt_bf16_f32

def sameA (Y : Rows1) : Rows1 := shapeCast S16384x1024 Y shapeCasts_S16384x1024_S16384x1024
def dactA (Y : Rows1) (D : FVec Ideal S2816x1024 .f32) : Rows2 := Host.dotGeneral (F := Ideal) (φ₁ := .f32) (φ₂ := .f32) dot_S16384x1024_S2816x1024_S16384x2816_1_1_0_0_n_n none Y D
def dgateA (T A B S : Rows2) : Rows2 := addf (mulf (mulf T B) S) (mulf (mulf A (mulf T B)) (mulf S (subf oneA S)))
def dupA (T A S : Rows2) : Rows2 := mulf (mulf A S) T
def bothA (P Q : Rows2) : Rows4 := concatenate S16384x5632 1 [⟨S16384x2816, P⟩, ⟨S16384x2816, Q⟩] concatenates_S16384x2816_S16384x2816_S16384x5632_d1
def dhA (Z : Rows4) (W : FVec Ideal S1024x5632 .f32) : Rows1 := Host.dotGeneral (F := Ideal) (φ₁ := .f32) (φ₂ := .f32) dot_S16384x5632_S1024x5632_S16384x1024_1_1_0_0_n_n none Z W
def dxA (Y X H : Rows1) (R : Col) (Q : FVec Ideal S16384 .f32) : Rows1 :=
  addf (addf (addf Y (mulf H (broadcastInDim S16384x1024 ![0, 1] bcast_S16384x1_S16384x1024_0_1 R))) (mulf X (bcA Q))) (mulf (bcA Q) X)
def chunks4 (V : Rows2) : FVec Ideal S4x16384x704 .bf16 := truncf .bf16 (transpose S4x16384x704 [1, 0, 2] (shapeCast S16384x4x704 V shapeCasts_S16384x2816_S16384x4x704) transposes_S16384x4x704_S4x16384x704_1_0_2) bitsLt_bf16_f32

variable (X Y : Rows1) (G : FVec Ideal S1024 .f32) (W : FVec Ideal S1024x5632 .f32) (D : FVec Ideal S2816x1024 .f32)
variable (w : Par) (x d : Fin 16384 → Fin 1024 → ℝ)

/-- The arguments are the reals of the specification. -/
structure Holds : Prop where
  x : ∀ r a, X (ix2 r a) = (x r a : EReal)
  g : ∀ a, G (ix1 a) = (w.g a : EReal)
  up : ∀ a j, W (ix2 a j) = (w.up a j : EReal)
  down : ∀ j a, D (ix2 j a) = (w.down j a : EReal)
  d : ∀ r a, Y (ix2 r a) = (d r a : EReal)

theorem colsumA_at (E : Rows1) (a : Fin 1024) : colsumA E (ix2 0 a) = ∑ r, E (ix2 r a) := by
  pointwise [colsumA]
  rw [Fin.sum_univ_one]

theorem msA_at (f : Fin 1024 → ℝ) (r : Fin 16384) (hX : ∀ a, X (ix2 r a) = (f a : EReal)) : msA X (ix2 r 0) = (ms f : EReal) := by
  pointwise [msA]
  simp only [hX]; exact ms_eq _

theorem rsA_at (M : Col) (f : Fin 1024 → ℝ) (r : Fin 16384) (hM : M (ix2 r 0) = (ms f : EReal)) : rsA M (ix2 r 0) = (scale f : EReal) := by
  pointwise [rsA]
  rw [hM]; exact scale_eq _

theorem xnA_at (R : Col) (r : Fin 16384) (a : Fin 1024) : xnA X R (ix2 r a) = X (ix2 r a) * R (ix2 r 0) := by
  pointwise [xnA]

theorem hA_at (N : Rows1) (r : Fin 16384) (a : Fin 1024) : hA N G (ix2 r a) = N (ix2 r a) * G (ix1 a) := by
  pointwise [hA]

theorem guA_at (N : Rows1) (r : Fin 16384) (j : Fin 5632) : guA N W (ix2 r j) = ∑ a, N (ix2 r a) * W (ix2 a j) := by
  pointwise [guA]

theorem gateA_at (V : Rows4) (r : Fin 16384) (j : Fin 2816) : gateA V (ix2 r j) = V (ix2 r (lo j)) := by
  pointwise [gateA]
  rfl

theorem upA_at (V : Rows4) (r : Fin 16384) (j : Fin 2816) : upA V (ix2 r j) = V (ix2 r (hi j)) := by
  pointwise [upA]
  rfl

theorem oneA_at (r : Fin 16384) (j : Fin 2816) : oneA (ix2 r j) = ((1 : ℝ) : EReal) := by
  pointwise [oneA]
  exact EReal.coe_one.symm

theorem sgA_at (A : Rows2) (s : ℝ) (r : Fin 16384) (j : Fin 2816) (h : A (ix2 r j) = (s : EReal)) : sgA A (ix2 r j) = (Ffn.sig s : EReal) := by
  pointwise [sgA]
  rw [oneA_at, h]; exact sig_div s

theorem meanA_at (Y : Rows1) (R M : Col) (r : Fin 16384) : meanA X Y R M (ix1 r) = Ideal.div ((∑ a, X (ix2 r a) * Y (ix2 r a)) * (Ideal.ofBits .f32 0xBF000000#32 * Ideal.div (R (ix2 r 0)) (M (ix2 r 0)))) (Ideal.ofBits .f32 0x44800000#32) := by
  pointwise [meanA]
  rw [Fin.sum_univ_one]

theorem bcA_at (Q : FVec Ideal S16384 .f32) (r : Fin 16384) (a : Fin 1024) : bcA Q (ix2 r a) = Q (ix1 r) := by
  pointwise [bcA]

theorem chunks8_at (V : Rows4) (k : Fin 8) (r : Fin 16384) (b : Fin 704) : chunks8 V (ix3 k r b) = V (ix2 r (ch k b)) := by
  pointwise [chunks8]
  rfl

theorem sameA_eq : sameA Y = Y := by
  funext i; obtain ⟨r, a, rfl⟩ : ∃ r a, i = ix2 r a := ⟨_, _, eq_ix2 i⟩
  pointwise [sameA]

theorem dactA_at (r : Fin 16384) (j : Fin 2816) : dactA Y D (ix2 r j) = ∑ a, Y (ix2 r a) * D (ix2 j a) := by
  pointwise [dactA]

theorem dhA_at (Z : Rows4) (r : Fin 16384) (a : Fin 1024) : dhA Z W (ix2 r a) = ∑ j, Z (ix2 r j) * W (ix2 a j) := by
  pointwise [dhA]

theorem dgateA_at (T A B S : Rows2) (r : Fin 16384) (j : Fin 2816) (t a b s : ℝ) (hT : T (ix2 r j) = (t : EReal)) (hA : A (ix2 r j) = (a : EReal)) (hB : B (ix2 r j) = (b : EReal)) (hS : S (ix2 r j) = (s : EReal)) :
    dgateA T A B S (ix2 r j) = ((t * b * (s * (1 + a * (1 - s))) : ℝ) : EReal) := by
  pointwise [dgateA]
  rw [oneA_at, hT, hA, hB, hS]
  simp only [← EReal.coe_mul, ← EReal.coe_sub, ← EReal.coe_add]
  congr 1; ring

theorem dupA_at (T A S : Rows2) (r : Fin 16384) (j : Fin 2816) (t a s : ℝ) (hT : T (ix2 r j) = (t : EReal)) (hA : A (ix2 r j) = (a : EReal)) (hS : S (ix2 r j) = (s : EReal)) :
    dupA T A S (ix2 r j) = ((t * (a * s) : ℝ) : EReal) := by
  pointwise [dupA]
  rw [hT, hA, hS, ← EReal.coe_mul, ← EReal.coe_mul, mul_comm t]

theorem bothA_at (U V : Rows2) (r : Fin 16384) (j : Fin 5632) : bothA U V (ix2 r j) = if h : j.val < 2816 then U (ix2 r ⟨j.val, h⟩) else V (ix2 r ⟨j.val - 2816, by omega⟩) := by
  pointwise [bothA]

theorem dxA_at (H : Rows1) (R : Col) (Q : FVec Ideal S16384 .f32) (r : Fin 16384) (a : Fin 1024) :
    dxA Y X H R Q (ix2 r a) = Y (ix2 r a) + H (ix2 r a) * R (ix2 r 0) + X (ix2 r a) * Q (ix1 r) + Q (ix1 r) * X (ix2 r a) := by
  pointwise [dxA]
  rw [bcA_at]

theorem chunks4_at (V : Rows2) (k : Fin 4) (r : Fin 16384) (b : Fin 704) : chunks4 V (ix3 k r b) = V (ix2 r (ch4 k b)) := by
  pointwise [chunks4]
  rfl

/-- The stages of the results. -/
def resGu : Rows4 := guA (hA (xnA X (rsA (msA X))) G) W
def resAct : Rows2 := mulf (mulf (gateA (resGu X G W)) (sgA (gateA (resGu X G W)))) (upA (resGu X G W))
def resDgu : Rows4 := bothA (dgateA (dactA Y D) (gateA (resGu X G W)) (upA (resGu X G W)) (sgA (gateA (resGu X G W)))) (dupA (dactA Y D) (gateA (resGu X G W)) (sgA (gateA (resGu X G W))))
def resDx : Rows1 := dxA Y X (hA (dhA (resDgu X (sameA Y) G W D) W) G) (rsA (msA X)) (meanA X (hA (dhA (resDgu X (sameA Y) G W D) W) G) (rsA (msA X)) (msA X))
def resDg : FVec Ideal S1x1024 .f32 := colsumA (mulf (xnA X (rsA (msA X))) (dhA (resDgu X (sameA Y) G W D) W))

variable (m : (ℓ : Loc nD τ sig) → Buf (Elt Ideal) ℓ) (ρ : Dev nD → PrngReg)

set_option maxHeartbeats 2000000 in
/-- The reference leaves the stages' results, and its arguments as they were. -/
theorem result : θ_run defs (onTc (τ := τ) (main (F := Ideal))) ⟨m, fun _ => 0, ρ⟩ fun r => ∀ c : Dev nD,
      r.2.mem ((c.tc : Thread nD τ).loc main_v64) = resDx (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg3))
      ∧ r.2.mem ((c.tc : Thread nD τ).loc main_v75) = resDg (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg3))
      ∧ r.2.mem ((c.tc : Thread nD τ).loc main_v82) = chunks4 (resAct (m ((c.tc : Thread nD τ).loc main_arg0)) (m ((c.tc : Thread nD τ).loc main_arg1)) (m ((c.tc : Thread nD τ).loc main_arg2)))
      ∧ r.2.mem ((c.tc : Thread nD τ).loc main_v85) = chunks8 (resDgu (m ((c.tc : Thread nD τ).loc main_arg0)) (m ((c.tc : Thread nD τ).loc main_arg4)) (m ((c.tc : Thread nD τ).loc main_arg1)) (m ((c.tc : Thread nD τ).loc main_arg2)) (m ((c.tc : Thread nD τ).loc main_arg3)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) :=
  (θ_run defs _ _).mono (fun _ h c => ⟨(h c).1, (h c).2.1, (h c).2.2.1, (h c).2.2.2.1, (h c).2.2.2.2⟩) (run (F := Ideal) m ρ)

variable {X Y G W D w x d} (H : Holds X Y G W D w x d)
include H

theorem resGu_at (r : Fin 16384) (j : Fin 5632) : resGu X G W (ix2 r j) = (w.gu (x r) j : EReal) := by
  have h (a : Fin 1024) : hA (xnA X (rsA (msA X))) G (ix2 r a) = (w.hx (x r) a : EReal) := by
    rw [hA_at, xnA_at, rsA_at _ (x r) r (msA_at X (x r) r (H.x r)), H.x, H.g, ← EReal.coe_mul, ← EReal.coe_mul]; rfl
  rw [resGu, guA_at]; simp only [h, H.up, ← EReal.coe_mul, ← coe_sum]; rfl

theorem gate_at (r : Fin 16384) (j : Fin 2816) : gateA (resGu X G W) (ix2 r j) = (w.gu (x r) (lo j) : EReal) := by rw [gateA_at, resGu_at H]
theorem up_at (r : Fin 16384) (j : Fin 2816) : upA (resGu X G W) (ix2 r j) = (w.gu (x r) (hi j) : EReal) := by rw [upA_at, resGu_at H]
theorem sg_at (r : Fin 16384) (j : Fin 2816) : sgA (gateA (resGu X G W)) (ix2 r j) = (Ffn.sig (w.gu (x r) (lo j)) : EReal) := sgA_at _ _ r j (gate_at H r j)

theorem resAct_at (r : Fin 16384) (j : Fin 2816) : resAct X G W (ix2 r j) = (w.act (x r) j : EReal) := by
  pointwise [resAct]
  rw [sg_at H, gate_at H, up_at H, ← EReal.coe_mul, ← EReal.coe_mul]; rfl

theorem dact_at (r : Fin 16384) (j : Fin 2816) : dactA Y D (ix2 r j) = (w.dact (d r) j : EReal) := by
  rw [dactA_at]; simp only [H.d, H.down, ← EReal.coe_mul, ← coe_sum]; rfl

theorem resDgu_at (r : Fin 16384) (j : Fin 5632) : resDgu X Y G W D (ix2 r j) = (w.dgu (x r) (d r) j : EReal) := by
  rw [resDgu, bothA_at, Par.dgu]
  split
  · exact dgateA_at _ _ _ _ r _ _ _ _ _ (dact_at H r _) (gate_at H r _) (up_at H r _) (sg_at H r _)
  · exact dupA_at _ _ _ r _ _ _ _ (dact_at H r _) (gate_at H r _) (sg_at H r _)

theorem dh_at (r : Fin 16384) (a : Fin 1024) : dhA (resDgu X Y G W D) W (ix2 r a) = (w.dh (x r) (d r) a : EReal) := by
  rw [dhA_at]; simp only [resDgu_at H, H.up, ← EReal.coe_mul, ← coe_sum]; rfl

theorem msX_at (r : Fin 16384) : msA X (ix2 r 0) = (ms (x r) : EReal) := msA_at _ _ r (H.x r)
theorem rsX_at (r : Fin 16384) : rsA (msA X) (ix2 r 0) = (scale (x r) : EReal) := rsA_at _ _ r (msX_at H r)

theorem resDx_at (r : Fin 16384) (a : Fin 1024) : resDx X Y G W D (ix2 r a) = (w.dx (x r) (d r) a : EReal) := by
  rw [resDx, sameA_eq, dxA_at, meanA_at, msX_at H, rsX_at H]
  simp only [hA_at, dh_at H, H.x, H.d, H.g, scale_div_ms, ofBits_neg_half, ← EReal.coe_mul, ← coe_sum, div_1024, ← EReal.coe_add]
  exact congrArg _ (back_staged (x r) (fun b => w.dh (x r) (d r) b * w.g b) a (d r a))

theorem resDg_at (a : Fin 1024) : resDg X Y G W D (ix2 0 a) = ((∑ r, w.dg (x r) (d r) a : ℝ) : EReal) := by
  rw [resDg, sameA_eq, colsumA_at]
  pointwise
  simp only [xnA_at, dh_at H, H.x, rsX_at H, ← EReal.coe_mul, ← coe_sum]
  exact congrArg _ (Finset.sum_congr rfl fun r _ => mul_comm _ _)

theorem resCh4_at (k : Fin 4) (r : Fin 16384) (b : Fin 704) : chunks4 (resAct X G W) (ix3 k r b) = (w.act (x r) (ch4 k b) : EReal) := by
  rw [chunks4_at, resAct_at H]

theorem resCh8_at (k : Fin 8) (r : Fin 16384) (b : Fin 704) : chunks8 (resDgu X Y G W D) (ix3 k r b) = (w.dgu (x r) (d r) (ch k b) : EReal) := by
  rw [chunks8_at, resDgu_at H]

end Cert.FfnReferenceIdeal.Value
end
-- ==== Proof.Ffn.lean ====
/- The gated feed-forward layer's backward: the kernel's four results over the whole arrays, and the value claim. -/
module

public import proofs.«01_k».proof.Proof.FfnRun
public import proofs.«01_k».proof.Proof.FfnOut
public import proofs.«01_k».proof.Proof.FfnRef
public import proofs.«01_k».proof.Proof.Gen.Pre_ffn_finite

@[expose] public section

set_option maxRecDepth 200000

noncomputable section

namespace Cert.FfnKernelIdeal.Value

open Idealize.ShloMosaic Idealize.ShloMosaic.TcCoe Idealize.SL.Sem
open Idealize.ShloMosaic.Pipeline (Dat)
open Cert.FfnKernelIdeal Cert.FfnKernelIdeal.Gen Cert.Rows Cert.Reals Cert.Ffn

variable (m : (ℓ : Loc nD τ sig) → Buf (Elt Ideal) ℓ) (ρ : Dev nD → PrngReg) (c : Dev nD) (w : Par) (x d : Fin 16384 → Fin 1024 → ℝ)

/-- The arguments' reals are what the backward call starts from. -/
theorem back (H : Holds m c w x d) : Back c w x d (V3 m ρ) :=
  { both := both3 m ρ c w x d H, d := cot3 m ρ c w x d H, g := gain3 m ρ c w x d H, gu := saved3 m ρ c w x d H }

variable (V : (c : Dev nD) → (b : Ref sig .tc) → Buf (Elt Ideal) ((c : Thread nD τ).loc b)) (E : Back c w x d V)
include E

theorem final6 : (dat1 V c).arrAt 6 cfg1.N = (fun i => ((w.dx (x (i 0)) (d (i 0)) (i 1) : ℝ) : EReal) : FVec Ideal S16384x1024 .f32) := by
  refine (dat1 V c).arrAt_eq_of_covers 6 _ (by decide +kernel) fun t hf z => ?_
  have e : ((cfg1.win 6).blk t).view.emb z = ix2 (row t (z 0)) (z 1) := by blk_ext [idx t, row]
  rw [e]
  blk_simp; rw [after1_6]
  exact Eq.trans (congrArg _ (eq_ix2 z)) (out6 c w x d V E t (z 0) (z 1))

theorem final8 : (dat1 V c).arrAt 8 cfg1.N = (fun i => ((w.act (x (i 1)) (ch4 (i 0) (i 2)) : ℝ) : EReal) : FVec Ideal S4x16384x704 .bf16) := by
  refine (dat1 V c).arrAt_eq_of_covers 8 _ (by decide +kernel) fun t hf z => ?_
  have e : ((cfg1.win 8).blk t).view.emb z = ix3 (z 0) (row t (z 1)) (z 2) := by blk_ext [idx t, row]
  rw [e]
  blk_simp; rw [after1_8]
  exact Eq.trans (congrArg _ (eq_ix3 z)) (out8 c w x d V E t (z 0) (z 1) (z 2))

theorem final9 : (dat1 V c).arrAt 9 cfg1.N = (fun i => ((w.dgu (x (i 1)) (d (i 1)) (ch (i 0) (i 2)) : ℝ) : EReal) : FVec Ideal S8x16384x704 .bf16) := by
  refine (dat1 V c).arrAt_eq_of_covers 9 _ (by decide +kernel) fun t hf z => ?_
  have e : ((cfg1.win 9).blk t).view.emb z = ix3 (z 0) (row t (z 1)) (z 2) := by blk_ext [idx t, row]
  rw [e]
  blk_simp; rw [after1_9]
  exact Eq.trans (congrArg _ (eq_ix3 z)) (out9 c w x d V E t (z 0) (z 1) (z 2))

omit E in
theorem one_row (z : S1x1024.Idx) : z = ix2 (0 : Fin 1) (z 1) := (eq_ix2 z).trans (congrArg (fun v : Fin 1 => ix2 v (z 1)) (Subsingleton.elim _ _))

theorem final7 : (dat1 V c).arrAt 7 cfg1.N = (fun i => ((∑ r, w.dg (x r) (d r) (i 1) : ℝ) : EReal) : FVec Ideal S1x1024 .f32) := by
  refine (dat1 V c).arrAt_eq_of_covers 7 _ (by decide +kernel) fun t hf z => ?_
  have e : ((cfg1.win 7).blk t).view.emb z = z := by blk_ext [idx t]
  rw [e]; blk_simp; rw [after1_7]
  have hl := (flush1_7 t).mp hf
  rw [Pipeline.eq_sum_fin_of_reset_step_apply_of_flush (fun n h => (outsAt1 V c n h).2.1) 64 (fun _ => (0 : EReal)) (fun t z => ((∑ r, w.dg (x (row t r)) (d (row t r)) (z 1) : ℝ) : EReal))
    (fun t h z => by rw [one_row z]; exact out7 c w x d V E t (z 1) 0 (fun _ => rfl) fun h' => absurd h h')
    (fun t h z => by rw [one_row z]; exact out7 c w x d V E t (z 1) _ (fun h' => absurd h' h) fun _ => rfl) t hl z]
  rw [zero_add]
  simp only [coe_sum]
  refine Fin.sum_mul_add_congr fun s k hk => ?_
  exact congrArg (fun v : Fin 16384 => ((w.dg (x v) (d v) (z 1) : ℝ) : EReal)) (Fin.ext (by have := point_lt t; simp only [row]; omega))

end Cert.FfnKernelIdeal.Value

namespace Cert.Proof

open Idealize.ShloMosaic Idealize.SL.Sem Cert.Reals Cert.FfnKernelIdeal.Value

/-- The reference is host operations only and declares no semaphore. -/
theorem ffn_reference_frame : Cert.quiescent_FfnReferenceIdeal := fun m ρ _ =>
  (θ_run Cert.FfnReferenceIdeal.defs _ _).mono (fun r h => ⟨fun c => (h c).2.2.2.2,
      sem_eq_zero_of_no_sems (by decide) r.2⟩)
    (Cert.FfnReferenceIdeal.Value.run (F := Ideal) m ρ)

theorem ffn_real {y : EReal} (h : IsReal y) : y = ((y.toReal : ℝ) : EReal) := by
  obtain ⟨r, rfl⟩ := h; rfl

/-- Finite arguments are reals, the same in both programs. -/
theorem ffn_reals (m : (ℓ : Loc Cert.FfnKernelIdeal.nD Cert.FfnKernelIdeal.τ Cert.FfnKernelIdeal.sig) → Buf (Elt Ideal) ℓ)
    (c : Dev Cert.FfnKernelIdeal.nD)
    (hx : ∀ i, IsReal (m ((c.tc : Thread _ Cert.FfnKernelIdeal.τ).loc Cert.FfnKernelIdeal.main_arg0) i))
    (hg : ∀ i, IsReal (m ((c.tc : Thread _ Cert.FfnKernelIdeal.τ).loc Cert.FfnKernelIdeal.main_arg1) i))
    (hup : ∀ i, IsReal (m ((c.tc : Thread _ Cert.FfnKernelIdeal.τ).loc Cert.FfnKernelIdeal.main_arg2) i))
    (hdown : ∀ i, IsReal (m ((c.tc : Thread _ Cert.FfnKernelIdeal.τ).loc Cert.FfnKernelIdeal.main_arg3) i))
    (hd : ∀ i, IsReal (m ((c.tc : Thread _ Cert.FfnKernelIdeal.τ).loc Cert.FfnKernelIdeal.main_arg4) i)) :
    ∃ w x d, Cert.FfnKernelIdeal.Value.Holds m c w x d
      ∧ Cert.FfnReferenceIdeal.Value.Holds (m ((c.tc : Thread _ Cert.FfnKernelIdeal.τ).loc Cert.FfnKernelIdeal.main_arg0)) (m ((c.tc : Thread _ Cert.FfnKernelIdeal.τ).loc Cert.FfnKernelIdeal.main_arg4)) (m ((c.tc : Thread _ Cert.FfnKernelIdeal.τ).loc Cert.FfnKernelIdeal.main_arg1)) (m ((c.tc : Thread _ Cert.FfnKernelIdeal.τ).loc Cert.FfnKernelIdeal.main_arg2)) (m ((c.tc : Thread _ Cert.FfnKernelIdeal.τ).loc Cert.FfnKernelIdeal.main_arg3)) w x d :=
  ⟨⟨fun a => EReal.toReal ((m ((c.tc : Thread _ Cert.FfnKernelIdeal.τ).loc Cert.FfnKernelIdeal.main_arg1) : _ → EReal) (ix1 a)),
    fun r a => EReal.toReal ((m ((c.tc : Thread _ Cert.FfnKernelIdeal.τ).loc Cert.FfnKernelIdeal.main_arg2) : _ → EReal) (ix2 r a)),
    fun r a => EReal.toReal ((m ((c.tc : Thread _ Cert.FfnKernelIdeal.τ).loc Cert.FfnKernelIdeal.main_arg3) : _ → EReal) (ix2 r a)),
    fun _ => 0⟩, fun r a => EReal.toReal ((m ((c.tc : Thread _ Cert.FfnKernelIdeal.τ).loc Cert.FfnKernelIdeal.main_arg0) : _ → EReal) (ix2 r a)),
    fun r a => EReal.toReal ((m ((c.tc : Thread _ Cert.FfnKernelIdeal.τ).loc Cert.FfnKernelIdeal.main_arg4) : _ → EReal) (ix2 r a)),
    ⟨fun _ _ => ffn_real (hx _), fun _ => ffn_real (hg _), fun _ _ => ffn_real (hup _), fun _ _ => ffn_real (hdown _), fun _ _ => ffn_real (hd _)⟩,
    ⟨fun _ _ => ffn_real (hx _), fun _ => ffn_real (hg _), fun _ _ => ffn_real (hup _), fun _ _ => ffn_real (hdown _), fun _ _ => ffn_real (hd _)⟩⟩

set_option maxHeartbeats 2000000 in
/-- The kernel's results are the layer's gradients as the reference's lines derive them. -/
theorem ffn_algebraic : Cert.algebraic_FfnKernelIdeal_FfnReferenceIdeal_pre_ffn_finite := by
  pair_intro
  · run_from Cert.FfnKernelIdeal.Value.run_main m g
  · run_from Cert.FfnReferenceIdeal.Value.result m' g'
    all_goals
      obtain ⟨w, x, d, H, H'⟩ := ffn_reals m c (fun i => isReal_of_abs_lt (congrFun (hpre c).1 i))
        (fun i => isReal_of_abs_lt (congrFun (hpre c).2.1 i))
        (fun i => isReal_of_abs_lt (congrFun (hpre c).2.2.1 i))
        (fun i => isReal_of_abs_lt (congrFun (hpre c).2.2.2.1 i))
        (fun i => isReal_of_abs_lt (congrFun (hpre c).2.2.2.2 i))
      clear hpre hagree
    · refine Eq.trans ?_ (final6 c w x d _ (back m _ c w x d H)).symm
      funext j; obtain ⟨r, a, rfl⟩ : ∃ r a, j = ix2 r a := ⟨_, _, eq_ix2 j⟩
      exact Cert.FfnReferenceIdeal.Value.resDx_at H' r a
    · refine Eq.trans ?_ (final7 c w x d _ (back m _ c w x d H)).symm
      funext j; rw [one_row j]
      exact Cert.FfnReferenceIdeal.Value.resDg_at H' (j 1)
    · refine Eq.trans ?_ (final8 c w x d _ (back m _ c w x d H)).symm
      funext j; obtain ⟨k, r, b, rfl⟩ : ∃ k r b, j = ix3 k r b := ⟨_, _, _, eq_ix3 j⟩
      exact Cert.FfnReferenceIdeal.Value.resCh4_at H' k r b
    · refine Eq.trans ?_ (final9 c w x d _ (back m _ c w x d H)).symm
      funext j; obtain ⟨k, r, b, rfl⟩ : ∃ k r b, j = ix3 k r b := ⟨_, _, _, eq_ix3 j⟩
      exact Cert.FfnReferenceIdeal.Value.resCh8_at H' k r b

end Cert.Proof
end
-- ==== Proof.Memf.lean ====
/- The value claim of the memory tokens' norm and projection: the kernel's normed tokens, keys and values are the reference's. -/
module

public import proofs.«01_k».proof.Defs
public import proofs.«01_k».proof.Proof.Gen.MemfKernelIdeal.Frame
public import proofs.«01_k».proof.Proof.Gen.MemfReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemfKernelIdeal.Result

open Cert.MemfKernelIdeal Cert.MemfKernelIdeal.Gen

/-- A token's entry over the root of its row's mean square, times the gain. -/
def unit (X : Fin 1024 → EReal) (g x : EReal) : EReal :=
  x * Ideal.rsqrt (Ideal.div (∑ a : Fin 1024, X a * X a) (Ideal.ofBits .f32 0x44800000#32) + Ideal.ofBits .f32 0x358637BD#32) * g

/-- The normed row `r` of an array. -/
abbrev nrm (X : FVec Ideal S256x1024 .f32) (G : Fin 1024 → EReal) (r : Fin 256) (k : Fin 1024) : EReal := unit (fun a => X (ix2 r a)) (G k) (X (ix2 r k))

/-- The product of a normed row with a column of the weights. -/
def proj (X : FVec Ideal S256x1024 .f32) (G : Fin 1024 → EReal) (W : FVec Ideal S1024x2048 .f32) (r : Fin 256) (j : Fin 2048) : EReal :=
  ∑ k : Fin 1024, nrm X G r k * W (ix2 k j)

variable (m : (ℓ : Loc nD τ sig) → Buf (Elt Ideal) ℓ) (c : Dev nD)

abbrev mem (c : Dev nD) : FVec Ideal S256x1024 .f32 := m ((c : Thread nD τ).loc main_arg0)
abbrev gain (c : Dev nD) : FVec Ideal S1024 .f32 := m ((c : Thread nD τ).loc main_arg1)
abbrev gains (c : Dev nD) (k : Fin 1024) : EReal := gain m c (ix1 k)
abbrev wkv (c : Dev nD) : FVec Ideal S1024x2048 .f32 := m ((c : Thread nD τ).loc main_arg2)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem blk0 (t : Fin cfg0.N) (r : Fin 256) (k : Fin 1024) : iblk m c 0 t (ix2 r k) = mem m c (ix2 r k) := by
  have e : V m c main_arg0 = mem m c := by simp only [V, hostOps0]; entry_read; try rfl
  rw [← e]
  blk_point [iblk, idx t]

theorem blk1 (t : Fin cfg0.N) (k : Fin 1024) : iblk m c 1 t (ix2 0 k) = gain m c (ix1 k) := by
  have e : (V m c main_v0 : FVec Ideal S1x1024 .f32) (ix2 0 k) = gain m c (ix1 k) := by
    have e' : V m c main_v0 = (shapeCast S1x1024 (gain m c) shapeCasts_S1024_S1x1024 : FVec Ideal S1x1024 .f32) := by
      simp only [V, hostOps0]; entry_read; try rfl
    rw [e']; pointwise
  rw [← e]
  blk_point [iblk, idx t]

theorem blk2 (t : Fin cfg0.N) (k : Fin 1024) (j : Fin 2048) : iblk m c 2 t (ix2 k j) = wkv m c (ix2 k j) := by
  have e : (V m c main_v1 : FVec Ideal S1024x2048 .bf16) (ix2 k j) = wkv m c (ix2 k j) := by
    have e' : V m c main_v1 = (truncf .bf16 (wkv m c) bitsLt_bf16_f32 : FVec Ideal S1024x2048 .bf16) := by
      simp only [V, hostOps0]; entry_read; try rfl
    rw [e']; pointwise
  rw [← e]
  blk_point [iblk, idx t]

theorem pay1_at (X : FVec Ideal S256x1024 .f32) (G : FVec Ideal S1x1024 .f32) (r : Fin 256) (k : Fin 1024) :
    k0_pay1 (F := Ideal) X G (ix2 r k) = nrm X (fun a => G (ix2 0 a)) r k := by
  pointwise [k0_pay1, unit]
  try rfl

theorem pay2_at (X : FVec Ideal S256x1024 .f32) (G : FVec Ideal S1x1024 .f32) (r : Fin 256) (k : Fin 1024) :
    k0_pay2 (F := Ideal) X G (ix2 r k) = nrm X (fun a => G (ix2 0 a)) r k := by
  pointwise [k0_pay2]
  exact pay1_at X G r k

theorem pay3_at (X : FVec Ideal S256x1024 .f32) (G : FVec Ideal S1x1024 .f32) (W : FVec Ideal S1024x1024 .bf16) (r : Fin 256) (j : Fin 1024) :
    k0_pay3 (F := Ideal) X G W (ix2 r j) = ∑ k : Fin 1024, nrm X (fun a => G (ix2 0 a)) r k * W (ix2 k j) := by
  pointwise [k0_pay3]
  exact Finset.sum_congr rfl fun k _ => by rw [pay1_at]

theorem pay4_at (X : FVec Ideal S256x1024 .f32) (G : FVec Ideal S1x1024 .f32) (W : FVec Ideal S1024x1024 .bf16) (r : Fin 256) (j : Fin 1024) :
    k0_pay4 (F := Ideal) X G W (ix2 r j) = ∑ k : Fin 1024, nrm X (fun a => G (ix2 0 a)) r k * W (ix2 k j) := by
  pointwise [k0_pay4]
  exact Finset.sum_congr rfl fun k _ => by rw [pay1_at]

theorem blk_unit (t : Fin cfg0.N) (r : Fin 256) (k : Fin 1024) :
    nrm (iblk m c 0 t) (fun a => iblk m c 1 t (ix2 0 a)) r k = nrm (mem m c) (gains m c) r k := by
  simp only [nrm, blk0, blk1]

def lo (j : Fin 1024) : Fin 2048 := ⟨j.val, by omega⟩
def hi (j : Fin 1024) : Fin 2048 := ⟨1024 + j.val, by omega⟩

theorem final3 : (dats m 0 c).arrAt 3 (cfgs 0).N = (fun i => (nrm (mem m c) (gains m c) (i 0) (i 1) : EReal) : FVec Ideal S256x1024 .bf16) := by
  refine (dats m 0 c).arrAt_eq_of_covers 3 _ (by decide +kernel) fun t hf y => ?_
  have e : ((cfg0.win 3).blk t).view.emb y = ix2 (y 0) (y 1) := by blk_ext [idx t]
  rw [e]
  blk_simp; rw [after0_3]
  refine Eq.trans (congrArg _ (eq_ix2 y)) ?_
  unfold out0_3; frame_out
  exact (pay2_at _ _ _ _).trans (blk_unit m c t _ _)

theorem final4 : (dats m 0 c).arrAt 4 (cfgs 0).N = (fun i => (proj (mem m c) (gains m c) (wkv m c) (i 0) (lo (i 1)) : EReal) : FVec Ideal S256x1024 .bf16) := by
  refine (dats m 0 c).arrAt_eq_of_covers 4 _ (by decide +kernel) fun t hf y => ?_
  have e : ((cfg0.win 4).blk t).view.emb y = ix2 (y 0) (y 1) := by blk_ext [idx t]
  rw [e]
  blk_simp; rw [after0_4]
  refine Eq.trans (congrArg _ (eq_ix2 y)) ?_
  unfold out0_4; frame_out
  refine (pay3_at _ _ _ _ _).trans (Finset.sum_congr rfl fun k _ => congrArg₂ (· * ·) (blk_unit m c t _ _) ?_)
  refine Eq.trans (congrArg (iblk m c 2 t) ?_) (blk2 m c t k (lo (y 1)))
  funext i
  match i with
  | 0 => exact Fin.ext (show 0 + 1 * k.val = k.val by omega)
  | 1 => exact Fin.ext (show 0 + 1 * (y 1).val = (y 1).val by omega)

theorem final5 : (dats m 0 c).arrAt 5 (cfgs 0).N = (fun i => (proj (mem m c) (gains m c) (wkv m c) (i 0) (hi (i 1)) : EReal) : FVec Ideal S256x1024 .bf16) := by
  refine (dats m 0 c).arrAt_eq_of_covers 5 _ (by decide +kernel) fun t hf y => ?_
  have e : ((cfg0.win 5).blk t).view.emb y = ix2 (y 0) (y 1) := by blk_ext [idx t]
  rw [e]
  blk_simp; rw [after0_5]
  refine Eq.trans (congrArg _ (eq_ix2 y)) ?_
  unfold out0_5; frame_out
  refine (pay4_at _ _ _ _ _).trans (Finset.sum_congr rfl fun k _ => congrArg₂ (· * ·) (blk_unit m c t _ _) ?_)
  refine Eq.trans (congrArg (iblk m c 2 t) ?_) (blk2 m c t k (hi (y 1)))
  funext i
  match i with
  | 0 => exact Fin.ext (show 0 + 1 * k.val = k.val by omega)
  | 1 => exact Fin.ext (show 1024 + 1 * (y 1).val = 1024 + (y 1).val by omega)

end Cert.MemfKernelIdeal.Result

namespace Cert.Proof

/-- The reference is host operations only and declares no semaphore. -/
theorem memf_reference_frame : Cert.quiescent_MemfReferenceIdeal := fun m ρ _ =>
  (θ_run Cert.MemfReferenceIdeal.defs _ _).mono (fun r h => ⟨fun c => (h c).2.2.2,
      sem_eq_zero_of_no_sems (by decide) r.2⟩)
    (Cert.MemfReferenceIdeal.Value.run (F := Ideal) m ρ)

open Cert.MemfKernelIdeal.Result in
/-- The kernel's results are the reference's forward lines. -/
theorem memf_algebraic : Cert.algebraic_MemfKernelIdeal_MemfReferenceIdeal := by
  pair_intro
  · run_from Cert.MemfKernelIdeal.Gen.run_main m g
  · run_from Cert.MemfReferenceIdeal.Value.run m' g'
    · rw [final3 m c]
      funext j
      pointwise [hagree c, nrm, unit, mem, gains, gain]
    · rw [final4 m c]
      funext j
      pointwise [hagree c, proj, nrm, unit, lo, hi, mem, gains, gain, wkv]
    · rw [final5 m c]
      funext j
      pointwise [hagree c, proj, nrm, unit, lo, hi, mem, gains, gain, wkv]

end Cert.Proof

end
-- ==== Proof.Epost.lean ====
/- The value claim of the even block's output projection: the kernel's rows are the reference's. -/
module

public import proofs.«01_k».proof.Defs
public import proofs.«01_k».proof.Proof.Post
public import proofs.«01_k».proof.Proof.Gen.EpostKernelIdeal.Frame
public import proofs.«01_k».proof.Proof.Gen.EpostReferenceIdeal.Run
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem
open Idealize.ShloMosaic.Pipeline (Dat)

namespace Cert.EpostKernelIdeal.Result

open Cert.EpostKernelIdeal Cert.EpostKernelIdeal.Gen
open Cert.PostKernelIdeal.Value (padO padW topW padO_at padW_at topW_at lane thin upper lower)

variable (m : (ℓ : Loc nD τ sig) → Buf (Elt Ideal) ℓ) (c : Dev nD)

abbrev kx (c : Dev nD) : FVec Ideal S16384x1024 .f32 := m ((c : Thread nD τ).loc main_arg0)
abbrev ky (c : Dev nD) : FVec Ideal S16384x512 .f32 := m ((c : Thread nD τ).loc main_arg1)
abbrev ko (c : Dev nD) : FVec Ideal S16384x512 .f32 := m ((c : Thread nD τ).loc main_arg2)
abbrev kw (c : Dev nD) : FVec Ideal S1024x1024 .f32 := m ((c : Thread nD τ).loc main_arg3)

theorem y_arr : V m c main_v1 = truncf .bf16 (ky m c) bitsLt_bf16_f32 := by
  simp only [V, hostOps0, hostOps0_1, hostOps0_2, hostOps0_3, hostOps0_4, List.flatten_cons, List.flatten_nil, List.append_nil, List.cons_append, List.nil_append]
  entry_read
  try rfl

theorem o_arr : V m c main_v4 = padO (ko m c) := by
  simp only [V, hostOps0, hostOps0_1, hostOps0_2, hostOps0_3, hostOps0_4, List.flatten_cons, List.flatten_nil, List.append_nil, List.cons_append, List.nil_append]
  entry_read
  simp only [StableHlo.TRef.ofBuf_toBuf, StableHlo.TRef.ofBuf, StableHlo.TRef.toBuf, cast_eq]
  rfl

theorem u_arr : V m c main_v5 = topW (kw m c) := by
  simp only [V, hostOps0, hostOps0_1, hostOps0_2, hostOps0_3, hostOps0_4, List.flatten_cons, List.flatten_nil, List.append_nil, List.cons_append, List.nil_append]
  entry_read
  try rfl

theorem w_arr : V m c main_v11 = padW (kw m c) := by
  simp only [V, hostOps0, hostOps0_1, hostOps0_2, hostOps0_3, hostOps0_4, List.flatten_cons, List.flatten_nil, List.append_nil, List.cons_append, List.nil_append]
  entry_read
  simp only [StableHlo.TRef.ofBuf_toBuf, StableHlo.TRef.ofBuf, StableHlo.TRef.toBuf, cast_eq]
  rfl

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] :=
  (by decide +kernel : ∀ t : Fin grid0.N, _)

theorem point_lt (t : Fin cfg0.N) : t.val < 32 := t.isLt

/-- Row `r` of block `t`. -/
def row (t : Fin cfg0.N) (r : Fin 512) : Fin 16384 := ⟨t.val * 512 + r.val, by have := point_lt t; omega⟩

variable (t : Fin cfg0.N)

theorem blk0 (r : Fin 512) (k : Fin 1024) : iblk m c 0 t (ix2 r k) = kx m c (ix2 (row t r) k) := by
  have e : (V m c main_arg0 : FVec Ideal S16384x1024 .f32) (ix2 (row t r) k) = kx m c (ix2 (row t r) k) := congrFun (V_main_arg0 m c) _
  rw [← e]
  blk_point [iblk, idx t, row]

theorem blk1 (r : Fin 512) (k : Fin 512) : iblk m c 1 t (ix2 r k) = ky m c (ix2 (row t r) k) := by
  have e : truncf .bf16 (ky m c) bitsLt_bf16_f32 (ix2 (row t r) k) = ky m c (ix2 (row t r) k) := by pointwise
  rw [← e, ← y_arr]
  blk_point [iblk, idx t, row]

theorem blk2 (r : Fin 512) (k : Fin 1024) : iblk m c 2 t (ix2 r k) = padO (ko m c) (ix2 (row t r) k) := by
  rw [← o_arr]
  blk_point [iblk, idx t, row]

theorem blk3 (j : Fin 512) (k : Fin 1024) : iblk m c 3 t (ix2 j k) = topW (kw m c) (ix2 j k) := by
  rw [← u_arr]
  blk_point [iblk, idx t]

theorem blk4 (j : Fin 1024) (k : Fin 1024) : iblk m c 4 t (ix2 j k) = padW (kw m c) (ix2 j k) := by
  rw [← w_arr]
  blk_point [iblk, idx t]

/-- A row and its two products, as the kernel adds them. -/
def val (x : FVec Ideal S16384x1024 .f32) (y o : FVec Ideal S16384x512 .f32) (w : FVec Ideal S1024x1024 .f32) (r : Fin 16384) (k : Fin 1024) : EReal :=
  x (ix2 r k) + (∑ j : Fin 512, y (ix2 r j) * topW w (ix2 j k)) + ∑ j : Fin 1024, padO o (ix2 r j) * padW w (ix2 j k)

theorem pay1_at (X : FVec Ideal S512x1024 .f32) (Y : FVec Ideal S512x512 .bf16) (U : FVec Ideal S512x1024 .bf16) (O : FVec Ideal S512x1024 .f32) (W : FVec Ideal S1024x1024 .bf16)
    (r : Fin 512) (k : Fin 1024) :
    k0_pay1 (F := Ideal) X Y U O W (ix2 r k) = X (ix2 r k) + (∑ j : Fin 512, Y (ix2 r j) * U (ix2 j k)) + ∑ j : Fin 1024, O (ix2 r j) * W (ix2 j k) := by
  pointwise [k0_pay1]

theorem final5 : (dats m 0 c).arrAt 5 (cfgs 0).N = (fun i => (val (kx m c) (ky m c) (ko m c) (kw m c) (i 0) (i 1) : EReal) : FVec Ideal S16384x1024 .f32) := by
  refine (dats m 0 c).arrAt_eq_of_covers 5 _ (by decide +kernel) fun t hf y => ?_
  have e : ((cfg0.win 5).blk t).view.emb y = ix2 (row t (y 0)) (y 1) := by blk_ext [idx t, row]
  rw [e]
  blk_simp; rw [after0_5]
  refine Eq.trans (congrArg _ (eq_ix2 y)) ?_
  frame_out
  refine (pay1_at _ _ _ _ _ _ _).trans ?_
  exact congrArg₂ (· + ·) (congrArg₂ (· + ·) (blk0 m c t _ _) (Finset.sum_congr rfl fun j _ => congrArg₂ (· * ·) (blk1 m c t _ _) (blk3 m c t _ _)))
    (Finset.sum_congr rfl fun j _ => congrArg₂ (· * ·) (blk2 m c t _ _) (blk4 m c t _ _))

/-- The padded columns add nothing: a sum over padded heads is the sum over the heads' own columns. -/
theorem sum_padded (o : FVec Ideal S16384x512 .f32) (w : FVec Ideal S1024x1024 .f32) (r : Fin 16384) (k : Fin 1024) :
    (∑ j : Fin 1024, (padO o (ix2 r j) : EReal) * padW w (ix2 j k)) = ∑ j : Fin 512, (o (ix2 r j) : EReal) * w (ix2 (lower j) k) := by
  have e1 : (∑ j : Fin 1024, (padO o (ix2 r j) : EReal) * padW w (ix2 j k)) = ∑ h : Fin 8, ∑ a : Fin 128, (padO o (ix2 r (lane h a)) : EReal) * padW w (ix2 (lane h a) k) := by
    symm; exact Fin.sum_mul_add_congr fun h a hh => rfl
  have e2 : (∑ j : Fin 512, (o (ix2 r j) : EReal) * w (ix2 (lower j) k)) = ∑ h : Fin 8, ∑ a : Fin 64, (o (ix2 r (thin h a)) : EReal) * w (ix2 (lower (thin h a)) k) := by
    symm; exact Fin.sum_mul_add_congr fun h a hh => rfl
  rw [e1, e2]
  refine Finset.sum_congr rfl fun h _ => Cert.Proof.sum_head _ _ (fun a => ?_) fun a ha => ?_
  · beta_reduce; rw [padO_at, dif_pos a.isLt, padW_at, dif_pos a.isLt]
  · beta_reduce; rw [padO_at, dif_neg ha, zero_mul]

end Cert.EpostKernelIdeal.Result

namespace Cert.Proof

open Cert.PostKernelIdeal.Value (upper lower topW topW_at)
open Cert.EpostKernelIdeal.Result

/-- The reference is host operations only and declares no semaphore. -/
theorem epost_reference_frame : Cert.quiescent_EpostReferenceIdeal := fun m ρ _ =>
  (θ_run Cert.EpostReferenceIdeal.defs _ _).mono (fun r h => ⟨fun c => (h c).2,
      sem_eq_zero_of_no_sems (by decide) r.2⟩)
    (Cert.EpostReferenceIdeal.Value.run (F := Ideal) m ρ)

theorem epost_row (x : FVec Ideal Cert.EpostKernelIdeal.S16384x1024 .f32) (y o : FVec Ideal Cert.EpostKernelIdeal.S16384x512 .f32) (w : FVec Ideal Cert.EpostKernelIdeal.S1024x1024 .f32)
    (r : Fin 16384) (k : Fin 1024) : (x (ix2 r k) : EReal) + ((∑ j : Fin 512, (y (ix2 r j) : EReal) * w (ix2 (upper j) k)) + ∑ j : Fin 512, (o (ix2 r j) : EReal) * w (ix2 (lower j) k))
    = val x y o w r k := by
  unfold val
  rw [sum_padded, add_assoc]
  congr 2
  exact Finset.sum_congr rfl fun j _ => by rw [topW_at]

/-- The kernel's rows are the reference's forward lines. -/
theorem epost_algebraic : Cert.algebraic_EpostKernelIdeal_EpostReferenceIdeal := by
  pair_intro
  · run_from Cert.EpostKernelIdeal.Gen.run_main m g
    · exact Cert.EpostKernelIdeal.Gen.V_main_arg1 m c
    · exact Cert.EpostKernelIdeal.Gen.V_main_arg2 m c
    · exact Cert.EpostKernelIdeal.Gen.V_main_arg3 m c
  · run_from Cert.EpostReferenceIdeal.Value.run m' g'
    · refine Eq.trans ?_ (final5 m c).symm
      funext i; obtain ⟨r, j, rfl⟩ : ∃ r j, i = ix2 r j := ⟨_, _, eq_ix2 i⟩
      refine Eq.trans ?_ (epost_row (kx m c) (ky m c) (ko m c) (kw m c) r j)
      pointwise [hagree c]
      rfl

end Cert.Proof

end
-- ==== Proof.Gout.lean ====
/- The value claim of the output projection of the gated recurrence: the kernel's rows are the reference's. -/
module

public import proofs.«01_k».proof.Defs
public import proofs.«01_k».proof.Proof.Gelu
public import proofs.«01_k».proof.Proof.Gen.GoutKernelIdeal.Frame
public import proofs.«01_k».proof.Proof.Gen.GoutReferenceIdeal.Run
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem
open Idealize.ShloMosaic.Pipeline (Dat)

namespace Cert.GoutKernelIdeal.Result

open Cert.GoutKernelIdeal Cert.GoutKernelIdeal.Gen

variable (m : (ℓ : Loc nD τ sig) → Buf (Elt Ideal) ℓ) (c : Dev nD)

abbrev kx (c : Dev nD) : FVec Ideal S16384x1024 .f32 := m ((c : Thread nD τ).loc main_arg0)
abbrev kg (c : Dev nD) : FVec Ideal S16384x1024 .f32 := m ((c : Thread nD τ).loc main_arg1)
abbrev kh (c : Dev nD) : FVec Ideal S16384x1024 .f32 := m ((c : Thread nD τ).loc main_arg2)
abbrev kw (c : Dev nD) : FVec Ideal S1024x1024 .f32 := m ((c : Thread nD τ).loc main_arg3)

/-- The activation as the kernel writes it. -/
def act (x : EReal) : EReal :=
  Ideal.ofBits .f32 0x3F000000#32 * x * (1 + Ideal.tanh (Ideal.ofBits .f32 0x3F4C422A#32 *
    (x + Named.named (F := Ideal) (φ := .f32) κ "cube" 0x3D372713#32 * x * x * x)))

theorem idx : ∀ t : Fin cfg0.N, win0_0.index t = ![t.val, 0] ∧ win0_1.index t = ![t.val, 0] ∧ win0_2.index t = ![t.val, 0] ∧ win0_3.index t = ![0, 0]
    ∧ win0_4.index t = ![t.val, 0] :=
  (by decide +kernel : ∀ t : Fin grid0.N, _)

/-- Row `r` of block `t`. -/
def row (t : Fin cfg0.N) (r : Fin 512) : Fin 16384 := ⟨t.val * 512 + r.val, by have : t.val < 32 := t.isLt; omega⟩

variable (t : Fin cfg0.N)

theorem blk0 (r : Fin 512) (k : Fin 1024) : iblk m c 0 t (ix2 r k) = kx m c (ix2 (row t r) k) := by
  have e : (V m c main_arg0 : FVec Ideal S16384x1024 .f32) (ix2 (row t r) k) = kx m c (ix2 (row t r) k) := congrFun (V_main_arg0 m c) _
  rw [← e]
  blk_point [iblk, idx t, row]

/-- The second window reads the left half of the padded array, which is the gate. -/
theorem blk1 (r : Fin 512) (k : Fin 1024) : iblk m c 1 t (ix2 r k) = kg m c (ix2 (row t r) k) := by
  blk_simp [iblk]
  entry_read
  pointwise
  rw [dif_pos (by blk_simp [idx t]; have : k.val < 1024 := k.isLt; omega)]
  blk_ext [idx t, row]

theorem blk2 (r : Fin 512) (k : Fin 1024) : iblk m c 2 t (ix2 r k) = kh m c (ix2 (row t r) k) := by
  have e : (V m c main_arg2 : FVec Ideal S16384x1024 .f32) (ix2 (row t r) k) = kh m c (ix2 (row t r) k) := congrFun (V_main_arg2 m c) _
  rw [← e]
  blk_point [iblk, idx t, row]

theorem blk3 (j : Fin 1024) (k : Fin 1024) : iblk m c 3 t (ix2 j k) = kw m c (ix2 j k) := by
  blk_simp [iblk]
  entry_read
  pointwise
  blk_ext [idx t]

/-- A row of the result. -/
def val (x g h : FVec Ideal S16384x1024 .f32) (w : FVec Ideal S1024x1024 .f32) (r : Fin 16384) (k : Fin 1024) : EReal :=
  x (ix2 r k) + ∑ j : Fin 1024, act (g (ix2 r j)) * h (ix2 r j) * w (ix2 j k)

theorem pay1_at (G X H : FVec Ideal S512x1024 .f32) (W : FVec Ideal S1024x1024 .bf16) (r : Fin 512) (k : Fin 1024) :
    k0_pay1 (F := Ideal) G X H W (ix2 r k) = X (ix2 r k) + ∑ j : Fin 1024, act (G (ix2 r j)) * H (ix2 r j) * W (ix2 j k) := by
  pointwise [k0_pay1, act]

theorem final4 : (dats m 0 c).arrAt 4 (cfgs 0).N = (fun i => (val (kx m c) (kg m c) (kh m c) (kw m c) (i 0) (i 1) : EReal) : FVec Ideal S16384x1024 .f32) := by
  refine (dats m 0 c).arrAt_eq_of_covers 4 _ (by decide +kernel) fun t hf y => ?_
  have e : ((cfg0.win 4).blk t).view.emb y = ix2 (row t (y 0)) (y 1) := by blk_ext [idx t, row]
  rw [e]
  blk_simp; rw [after0_4]
  refine Eq.trans (congrArg _ (eq_ix2 y)) ?_
  frame_out
  refine (pay1_at _ _ _ _ _ _).trans ?_
  exact congrArg₂ (· + ·) (blk0 m c t _ _) (Finset.sum_congr rfl fun j _ => congrArg₂ (· * ·) (congrArg₂ (· * ·) (congrArg act (blk1 m c t _ _)) (blk2 m c t _ _)) (blk3 m c t _ _))

end Cert.GoutKernelIdeal.Result

namespace Cert.Proof

open Cert.GoutKernelIdeal.Result

/-- The reference is host operations only and declares no semaphore. -/
theorem gout_reference_frame : Cert.quiescent_GoutReferenceIdeal := fun m ρ _ =>
  (θ_run Cert.GoutReferenceIdeal.defs _ _).mono (fun r h => ⟨fun c => (h c).2,
      sem_eq_zero_of_no_sems (by decide) r.2⟩)
    (Cert.GoutReferenceIdeal.Value.run (F := Ideal) m ρ)

/-- The named constant is the number its name stands for. -/
theorem gout_preserves : Cert.preserves_GoutKernel_GoutKernelIdeal :=
  IdealRules.named_const.statement Cert.GoutKernelIdeal.κ "cube" .f32 0x3D372713#32 _ rfl

/-- The activation as the reference writes it. -/
theorem gout_act (x : EReal) : x * (Ideal.ofBits .f32 0x3F000000#32 * (1 + Ideal.tanh (Ideal.ofBits .f32 0x3F4C422A#32 *
    (x + Ideal.div (Ideal.ofBits .f32 0x472EAB00#32) (Ideal.ofBits .f32 0x49742400#32) * (x * x * x))))) = act x := by
  have h : Named.named (F := Ideal) (φ := .f32) Cert.GoutKernelIdeal.κ "cube" 0x3D372713#32 = ((8943 / 200000 : ℝ) : EReal) :=
    IdealRules.named_const.ideal_named_scalar _ _ _ _ rfl
  unfold act
  rw [cube_quotient, h]
  simp only [mul_assoc]
  exact mul_left_comm _ _ _

/-- The kernel's rows are the reference's forward lines. -/
theorem gout_algebraic : Cert.algebraic_GoutKernelIdeal_GoutReferenceIdeal := by
  pair_intro
  · run_from Cert.GoutKernelIdeal.Gen.run_main m g
  · run_from Cert.GoutReferenceIdeal.Value.run m' g'
    · refine Eq.trans ?_ (final4 m c).symm
      funext i; obtain ⟨r, j, rfl⟩ : ∃ r j, i = ix2 r j := ⟨_, _, eq_ix2 i⟩
      show _ = val (kx m c) (kg m c) (kh m c) (kw m c) r j
      unfold val
      simp only [← gout_act]
      pointwise [hagree c]

end Cert.Proof

end
-- ==== Proof.Ffnf.lean ====
/- The value claim of the gated feed-forward block, forward: the kernel's rows, normed rows and hidden columns are the reference's. -/
module

public import proofs.«01_k».proof.Defs
public import proofs.«01_k».proof.Proof.FfnSpec
public import proofs.«01_k».proof.Proof.Gen.FfnfKernelIdeal.Frame
public import proofs.«01_k».proof.Proof.Gen.FfnfReferenceIdeal.Run
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem
open Idealize.ShloMosaic.Pipeline (Dat)

namespace Cert.FfnfKernelIdeal.Result

open Cert.FfnfKernelIdeal Cert.FfnfKernelIdeal.Gen
open Cert.Ffn (lo hi ch ch4 chLo chHi lo_ch4 hi_ch4)

/-- A row's entry over the root of its mean square, times the gain. -/
def unit (X : Fin 1024 → EReal) (g x : EReal) : EReal :=
  x * Ideal.rsqrt (Ideal.div (∑ a : Fin 1024, X a * X a) (Ideal.ofBits .f32 0x44800000#32) + Ideal.ofBits .f32 0x358637BD#32) * g

section
variable (X : Fin 1024 → EReal) (g : Fin 1024 → EReal) (up : Fin 1024 → Fin 5632 → EReal) (down : Fin 2816 → Fin 1024 → EReal)

/-- One row: normed, its hidden columns, their activations, what comes out. -/
def nrm (k : Fin 1024) : EReal := unit X (g k) (X k)
def gu (j : Fin 5632) : EReal := ∑ k : Fin 1024, nrm X g k * up k j
def act (u v : EReal) : EReal := u * Ideal.logistic u * v
def out (a : Fin 1024) : EReal := X a + ∑ j : Fin 2816, act (gu X g up (lo j)) (gu X g up (hi j)) * down j a

/-- One chunk's part of a row of the output. -/
def part (k : Fin 4) (a : Fin 1024) : EReal := ∑ b : Fin 704, act (gu X g up (ch (chLo k) b)) (gu X g up (ch (chHi k) b)) * down (ch4 k b) a

theorem out_parts (a : Fin 1024) : X a + part X g up down 0 a + part X g up down 1 a + part X g up down 2 a + part X g up down 3 a = out X g up down a := by
  have e : (∑ k : Fin 4, part X g up down k a) = ∑ j : Fin 2816, act (gu X g up (lo j)) (gu X g up (hi j)) * down j a := by
    unfold part
    exact Fin.sum_mul_add_congr fun k b hl => by rw [← lo_ch4, ← hi_ch4]; rfl
  unfold out
  rw [← e, Fin.sum_univ_four]
  simp only [add_assoc]
end

variable (m : (ℓ : Loc nD τ sig) → Buf (Elt Ideal) ℓ) (c : Dev nD)

abbrev kx (c : Dev nD) : FVec Ideal S16384x1024 .f32 := m ((c : Thread nD τ).loc main_arg0)
abbrev kg (c : Dev nD) : FVec Ideal S1024 .f32 := m ((c : Thread nD τ).loc main_arg1)
abbrev ku (c : Dev nD) : FVec Ideal S1024x5632 .f32 := m ((c : Thread nD τ).loc main_arg2)
abbrev kd (c : Dev nD) : FVec Ideal S2816x1024 .f32 := m ((c : Thread nD τ).loc main_arg3)
abbrev X (r : Fin 16384) (a : Fin 1024) : EReal := kx m c (ix2 r a)
abbrev G (a : Fin 1024) : EReal := kg m c (ix1 a)
abbrev U (a : Fin 1024) (j : Fin 5632) : EReal := ku m c (ix2 a j)
abbrev D (j : Fin 2816) (a : Fin 1024) : EReal := kd m c (ix2 j a)

theorem idx : ∀ t : Fin cfg0.N, win0_0.index t = ![t.val, 0] ∧ win0_1.index t = ![0, 0] ∧ win0_2.index t = ![0, 0, 0, 0] ∧ win0_3.index t = ![0, 0, 0]
    ∧ win0_4.index t = ![t.val, 0] ∧ win0_5.index t = ![t.val, 0] ∧ win0_6.index t = ![0, t.val, 0] :=
  (by decide +kernel : ∀ t : Fin grid0.N, _)

/-- Row `r` of block `t`. -/
def row (t : Fin cfg0.N) (r : Fin 256) : Fin 16384 := ⟨t.val * 256 + r.val, by have : t.val < 64 := t.isLt; omega⟩

variable (t : Fin cfg0.N)

theorem blk0 (r : Fin 256) (k : Fin 1024) : iblk m c 0 t (ix2 r k) = X m c (row t r) k := by
  have e : (V m c main_arg0 : FVec Ideal S16384x1024 .f32) (ix2 (row t r) k) = kx m c (ix2 (row t r) k) := congrFun (V_main_arg0 m c) _
  refine Eq.trans ?_ e
  blk_point [iblk, idx t, row]

theorem blk1 (k : Fin 1024) : iblk m c 1 t (ix2 0 k) = G m c k := by
  blk_simp [iblk]; entry_read; pointwise
  blk_ext [idx t]

theorem blk2 (k : Fin 8) (a : Fin 1024) (b : Fin 704) : iblk m c 2 t (ix4 k 0 a b) = U m c a (ch k b) := by
  blk_simp [iblk]; entry_read; pointwise
  blk_ext [idx t, ch]

theorem blk3 (k : Fin 4) (b : Fin 704) (a : Fin 1024) : iblk m c 3 t (ix3 k b a) = D m c (ch4 k b) a := by
  blk_simp [iblk]; entry_read; pointwise
  blk_ext [idx t, ch4]

section
variable (x : Fin 256 → Fin 1024 → EReal) (g : Fin 1024 → EReal) (u : Fin 1024 → Fin 5632 → EReal) (d : Fin 2816 → Fin 1024 → EReal)
variable (A : FVec Ideal S256x1024 .f32) (N : FVec Ideal S256x1024 .bf16) (B : FVec Ideal S1x1024 .f32) (P Q : Vec Ideal S1x1x1024x704 .bf16) (E : Vec Ideal S1x704x1024 .bf16)

/-- What the pieces of a block hold. -/
abbrev IsX (f : Fin 256 → Fin 1024 → EReal) : Prop := ∀ r a, A (ix2 r a) = f r a
abbrev IsN : Prop := ∀ r a, N (ix2 r a) = nrm (x r) g a
abbrev IsU (k : Fin 8) : Prop := ∀ a b, P (ix4 0 0 a b) = u a (ch k b)
abbrev IsD (k : Fin 4) : Prop := ∀ b a, E (ix3 0 b a) = d (ch4 k b) a

theorem at4 (hA : IsX A x) (hB : ∀ a, B (ix2 0 a) = g a) : IsN x g (k0_pay4 (F := Ideal) A B) := by
  intro r a
  pointwise [k0_pay4]
  simp only [hA _ _, hB _]
  rfl

theorem at9 (k : Fin 8) (hN : IsN x g N) (hP : IsU u P k) (r : Fin 256) (b : Fin 704) : k0_pay9 (F := Ideal) N P (ix2 r b) = gu (x r) g u (ch k b) := by
  pointwise [k0_pay9]
  exact Finset.sum_congr rfl fun a _ => congrArg₂ (· * ·) (hN r a) (hP a b)

theorem at11 (k : Fin 8) (hN : IsN x g N) (hP : IsU u P k) (r : Fin 256) (b : Fin 704) : k0_pay11 (F := Ideal) N P (ix3 0 r b) = gu (x r) g u (ch k b) := by
  pointwise [k0_pay11]
  exact at9 x g u N P k hN hP r b

/-- Every stored piece of the hidden columns is the same product. -/
theorem same : k0_pay2 (k0_pay20 N P) = k0_pay11 N P ∧ k0_pay1 (k0_pay21 N P) = k0_pay11 N P ∧ k0_pay17 N P = k0_pay11 N P ∧ k0_pay16 N P = k0_pay11 N P ∧ k0_pay12 N P = k0_pay11 N P
    ∧ k0_pay8 A B P = k0_pay11 (k0_pay4 A B) P ∧ k0_pay7 A B P = k0_pay11 (k0_pay4 A B) P := ⟨rfl, rfl, rfl, rfl, rfl, rfl, rfl⟩

/-- One chunk added to what the earlier chunks left. -/
theorem chunk (k : Fin 4) (hN : IsN x g N) (hP : IsU u P (chLo k)) (hQ : IsU u Q (chHi k)) (hE : IsD d E k) (r : Fin 256) (a : Fin 1024) :
    k0_pay3 (F := Ideal) A (k0_pay9 N P) (k0_pay9 N Q) E (ix2 r a) = A (ix2 r a) + part (x r) g u d k a := by
  pointwise [k0_pay3]
  refine congrArg (A (ix2 r a) + ·) (Finset.sum_congr rfl fun b _ => ?_)
  rw [at9 x g u N P _ hN hP, at9 x g u N Q _ hN hQ, hE b a]
  rfl

theorem chain (E0 E1 E2 E3 : Vec Ideal S1x704x1024 .bf16) (P0 Q0 P1 Q1 P2 Q2 P3 Q3 : Vec Ideal S1x1x1024x704 .bf16) :
    k0_pay3 (k0_pay18 N (k0_pay13 A N (k0_pay5 A B P0) (k0_pay6 A B Q0) E0 P1 Q1 E1) P2 Q2 E2) (k0_pay19 N P3) (k0_pay20 N Q3) E3
      = k0_pay3 (k0_pay3 (k0_pay3 (k0_pay3 A (k0_pay9 (k0_pay4 A B) P0) (k0_pay9 (k0_pay4 A B) Q0) E0) (k0_pay9 N P1) (k0_pay9 N Q1) E1) (k0_pay9 N P2) (k0_pay9 N Q2) E2) (k0_pay9 N P3) (k0_pay9 N Q3) E3 := rfl
end

theorem hN : IsN (fun r => X m c (row t r)) (G m c) (k0_pay4 (iblk m c 0 t) (iblk m c 1 t)) :=
  at4 _ _ _ _ (blk0 m c t) (blk1 m c t)

theorem up0 : IsU (U m c) (View.ld (iblk m c 2 t) (Rect.unit ![0, 0, 0, 0] ![1, 1, 1024, 704] inb_S8x1x1024x704_S1x1x1024x704_0_0_0_0)) 0 := fun a b => by
  pointwise; exact blk2 m c t 0 a b
theorem up1 : IsU (U m c) (View.ld (iblk m c 2 t) (Rect.unit ![1, 0, 0, 0] ![1, 1, 1024, 704] inb_S8x1x1024x704_S1x1x1024x704_1_0_0_0)) 1 := fun a b => by
  pointwise; exact blk2 m c t 1 a b
theorem up2 : IsU (U m c) (View.ld (iblk m c 2 t) (Rect.unit ![2, 0, 0, 0] ![1, 1, 1024, 704] inb_S8x1x1024x704_S1x1x1024x704_2_0_0_0)) 2 := fun a b => by
  pointwise; exact blk2 m c t 2 a b
theorem up3 : IsU (U m c) (View.ld (iblk m c 2 t) (Rect.unit ![3, 0, 0, 0] ![1, 1, 1024, 704] inb_S8x1x1024x704_S1x1x1024x704_3_0_0_0)) 3 := fun a b => by
  pointwise; exact blk2 m c t 3 a b
theorem up4 : IsU (U m c) (View.ld (iblk m c 2 t) (Rect.unit ![4, 0, 0, 0] ![1, 1, 1024, 704] inb_S8x1x1024x704_S1x1x1024x704_4_0_0_0)) 4 := fun a b => by
  pointwise; exact blk2 m c t 4 a b
theorem up5 : IsU (U m c) (View.ld (iblk m c 2 t) (Rect.unit ![5, 0, 0, 0] ![1, 1, 1024, 704] inb_S8x1x1024x704_S1x1x1024x704_5_0_0_0)) 5 := fun a b => by
  pointwise; exact blk2 m c t 5 a b
theorem up6 : IsU (U m c) (View.ld (iblk m c 2 t) (Rect.unit ![6, 0, 0, 0] ![1, 1, 1024, 704] inb_S8x1x1024x704_S1x1x1024x704_6_0_0_0)) 6 := fun a b => by
  pointwise; exact blk2 m c t 6 a b
theorem up7 : IsU (U m c) (View.ld (iblk m c 2 t) (Rect.unit ![7, 0, 0, 0] ![1, 1, 1024, 704] inb_S8x1x1024x704_S1x1x1024x704_7_0_0_0)) 7 := fun a b => by
  pointwise; exact blk2 m c t 7 a b
theorem down0 : IsD (D m c) (View.ld (iblk m c 3 t) (Rect.unit ![0, 0, 0] ![1, 704, 1024] inb_S4x704x1024_S1x704x1024_0_0_0)) 0 := fun b a => by
  pointwise; exact blk3 m c t 0 b a
theorem down1 : IsD (D m c) (View.ld (iblk m c 3 t) (Rect.unit ![1, 0, 0] ![1, 704, 1024] inb_S4x704x1024_S1x704x1024_1_0_0)) 1 := fun b a => by
  pointwise; exact blk3 m c t 1 b a
theorem down2 : IsD (D m c) (View.ld (iblk m c 3 t) (Rect.unit ![2, 0, 0] ![1, 704, 1024] inb_S4x704x1024_S1x704x1024_2_0_0)) 2 := fun b a => by
  pointwise; exact blk3 m c t 2 b a
theorem down3 : IsD (D m c) (View.ld (iblk m c 3 t) (Rect.unit ![3, 0, 0] ![1, 704, 1024] inb_S4x704x1024_S1x704x1024_3_0_0)) 3 := fun b a => by
  pointwise; exact blk3 m c t 3 b a

theorem out4 (r : Fin 256) (a : Fin 1024) : out0_4 (iblk m c 0 t) (iblk m c 1 t) (iblk m c 2 t) (iblk m c 3 t) (ix2 r a) = out (X m c (row t r)) (G m c) (U m c) (D m c) a := by
  have n := hN m c t
  unfold_out out0_4
  frame_out
  rw [chain]
  refine ((chunk (fun r => X m c (row t r)) (G m c) (U m c) (D m c) _ _ _ _ _ 3 n (up3 m c t) (up7 m c t) (down3 m c t) r a).trans (congrArg (· + part (X m c (row t r)) (G m c) (U m c) (D m c) 3 a)
    ((chunk (fun r => X m c (row t r)) (G m c) (U m c) (D m c) _ _ _ _ _ 2 n (up2 m c t) (up6 m c t) (down2 m c t) r a).trans (congrArg (· + part (X m c (row t r)) (G m c) (U m c) (D m c) 2 a)
    ((chunk (fun r => X m c (row t r)) (G m c) (U m c) (D m c) _ _ _ _ _ 1 n (up1 m c t) (up5 m c t) (down1 m c t) r a).trans (congrArg (· + part (X m c (row t r)) (G m c) (U m c) (D m c) 1 a)
    ((chunk (fun r => X m c (row t r)) (G m c) (U m c) (D m c) _ _ _ _ _ 0 n (up0 m c t) (up4 m c t) (down0 m c t) r a).trans (congrArg (· + part (X m c (row t r)) (G m c) (U m c) (D m c) 0 a)
    (blk0 m c t r a))))))))).trans ?_
  exact out_parts _ _ _ _ a

theorem final4 : (dats m 0 c).arrAt 4 (cfgs 0).N = (fun i => (out (X m c (i 0)) (G m c) (U m c) (D m c) (i 1) : EReal) : FVec Ideal S16384x1024 .f32) := by
  refine (dats m 0 c).arrAt_eq_of_covers 4 _ (by decide +kernel) fun t hf y => ?_
  have e : ((cfg0.win 4).blk t).view.emb y = ix2 (row t (y 0)) (y 1) := by blk_ext [idx t, row]
  rw [e]
  blk_simp; rw [after0_4]
  exact Eq.trans (congrArg _ (eq_ix2 y)) (out4 m c t _ _)

theorem final5 : (dats m 0 c).arrAt 5 (cfgs 0).N = (fun i => (nrm (X m c (i 0)) (G m c) (i 1) : EReal) : FVec Ideal S16384x1024 .bf16) := by
  refine (dats m 0 c).arrAt_eq_of_covers 5 _ (by decide +kernel) fun t hf y => ?_
  have e : ((cfg0.win 5).blk t).view.emb y = ix2 (row t (y 0)) (y 1) := by blk_ext [idx t, row]
  rw [e]
  blk_simp; rw [after0_5]
  refine Eq.trans (congrArg _ (eq_ix2 y)) ?_
  unfold_out out0_5
  frame_out
  exact hN m c t _ _

theorem one_plane (z : S1x256x704.Idx) : ∃ p q, z = ix3 (0 : Fin 1) p q := ⟨z 1, z 2, (eq_ix3 z).trans (congrArg (fun v : Fin 1 => ix3 v (z 1) (z 2)) (Subsingleton.elim _ _))⟩

theorem saved (k : Fin 8) (r : Fin 256) (b : Fin 704) : out0_6 (iblk m c 0 t) (iblk m c 1 t) (iblk m c 2 t) (iblk m c 3 t) (ix3 k r b) = gu (X m c (row t r)) (G m c) (U m c) (ch k b) := by
  have n := hN m c t
  have s := same (iblk m c 0 t) (k0_pay4 (iblk m c 0 t) (iblk m c 1 t)) (iblk m c 1 t)
  unfold_out out0_6
  frame_out
  canon_tiles z h
  · obtain ⟨p, q, rfl⟩ := one_plane z
    obtain rfl : k = 7 := Fin.ext h0
    obtain rfl : r = p := Fin.ext h1
    obtain rfl : b = q := Fin.ext h2
    exact (congrFun (s _).1 _).trans (at11 (fun r => X m c (row t r)) (G m c) (U m c) _ _ 7 n (up7 m c t) r b)
  · obtain ⟨p, q, rfl⟩ := one_plane z
    obtain rfl : k = 3 := Fin.ext h0
    obtain rfl : r = p := Fin.ext h1
    obtain rfl : b = q := Fin.ext h2
    exact (congrFun (s _).2.1 _).trans (at11 (fun r => X m c (row t r)) (G m c) (U m c) _ _ 3 n (up3 m c t) r b)
  · obtain ⟨p, q, rfl⟩ := one_plane z
    obtain rfl : k = 6 := Fin.ext h0
    obtain rfl : r = p := Fin.ext h1
    obtain rfl : b = q := Fin.ext h2
    exact (congrFun (s _).2.2.1 _).trans (at11 (fun r => X m c (row t r)) (G m c) (U m c) _ _ 6 n (up6 m c t) r b)
  · obtain ⟨p, q, rfl⟩ := one_plane z
    obtain rfl : k = 2 := Fin.ext h0
    obtain rfl : r = p := Fin.ext h1
    obtain rfl : b = q := Fin.ext h2
    exact (congrFun (s _).2.2.2.1 _).trans (at11 (fun r => X m c (row t r)) (G m c) (U m c) _ _ 2 n (up2 m c t) r b)
  · obtain ⟨p, q, rfl⟩ := one_plane z
    obtain rfl : k = 5 := Fin.ext h0
    obtain rfl : r = p := Fin.ext h1
    obtain rfl : b = q := Fin.ext h2
    exact (congrFun (s _).2.2.2.2.1 _).trans (at11 (fun r => X m c (row t r)) (G m c) (U m c) _ _ 5 n (up5 m c t) r b)
  · obtain ⟨p, q, rfl⟩ := one_plane z
    obtain rfl : k = 1 := Fin.ext h0
    obtain rfl : r = p := Fin.ext h1
    obtain rfl : b = q := Fin.ext h2
    exact at11 (fun r => X m c (row t r)) (G m c) (U m c) _ _ 1 n (up1 m c t) r b
  · obtain ⟨p, q, rfl⟩ := one_plane z
    obtain rfl : k = 4 := Fin.ext h0
    obtain rfl : r = p := Fin.ext h1
    obtain rfl : b = q := Fin.ext h2
    exact (congrFun (s _).2.2.2.2.2.1 _).trans (at11 (fun r => X m c (row t r)) (G m c) (U m c) _ _ 4 n (up4 m c t) r b)
  · obtain ⟨p, q, rfl⟩ := one_plane z
    obtain rfl : k = 0 := Fin.ext h0
    obtain rfl : r = p := Fin.ext h1
    obtain rfl : b = q := Fin.ext h2
    exact (congrFun (s _).2.2.2.2.2.2 _).trans (at11 (fun r => X m c (row t r)) (G m c) (U m c) _ _ 0 n (up0 m c t) r b)

theorem final6 : (dats m 0 c).arrAt 6 (cfgs 0).N = (fun i => (gu (X m c (i 1)) (G m c) (U m c) (ch (i 0) (i 2)) : EReal) : FVec Ideal S8x16384x704 .bf16) := by
  refine (dats m 0 c).arrAt_eq_of_covers 6 _ (by decide +kernel) fun t hf z => ?_
  have e : ((cfg0.win 6).blk t).view.emb z = ix3 (z 0) (row t (z 1)) (z 2) := by blk_ext [idx t, row]
  rw [e]
  blk_simp; rw [after0_6]
  exact Eq.trans (congrArg _ (eq_ix3 z)) (saved m c t (z 0) (z 1) (z 2))

end Cert.FfnfKernelIdeal.Result

namespace Cert.Proof

open Cert.FfnfKernelIdeal.Result

/-- The reference is host operations only and declares no semaphore. -/
theorem ffnf_reference_frame : Cert.quiescent_FfnfReferenceIdeal := fun m ρ _ =>
  (θ_run Cert.FfnfReferenceIdeal.defs _ _).mono (fun r h => ⟨fun c => (h c).2.2.2,
      sem_eq_zero_of_no_sems (by decide) r.2⟩)
    (Cert.FfnfReferenceIdeal.Value.run (F := Ideal) m ρ)

/-- The kernel's results are the reference's forward lines. -/
theorem ffnf_algebraic : Cert.algebraic_FfnfKernelIdeal_FfnfReferenceIdeal := by
  pair_intro
  · run_from Cert.FfnfKernelIdeal.Gen.run_main m g
  · run_from Cert.FfnfReferenceIdeal.Value.run m' g'
    · rw [final4 m c]
      funext j; obtain ⟨r, j, rfl⟩ : ∃ r k, j = ix2 r k := ⟨_, _, eq_ix2 j⟩
      pointwise [hagree c]
      rfl
    · rw [final5 m c]
      funext j; obtain ⟨r, j, rfl⟩ : ∃ r k, j = ix2 r k := ⟨_, _, eq_ix2 j⟩
      pointwise [hagree c]
      rfl
    · rw [final6 m c]
      funext j; obtain ⟨k, r, j, rfl⟩ : ∃ k r b, j = ix3 k r b := ⟨_, _, _, eq_ix3 j⟩
      pointwise [hagree c]
      rfl

end Cert.Proof

end
-- ==== Proof.Xattf.lean ====
/- The value claim of the memory cross-attention, forward: the kernel's rows are the reference's norm, query, softmax over the memory tokens, output and residual. -/
module

public import proofs.«01_k».proof.Defs
public import proofs.«01_k».proof.Proof.Gen.XattfKernelIdeal.Frame
public import proofs.«01_k».proof.Proof.Gen.XattfReferenceIdeal.Run
public import Idealize.ShloMosaic.Lib.Pipeline.ValueKit
public import Idealize.ShloMosaic.Lib.Pointwise
public import Idealize.ShloMosaic.Lib.Claim

@[expose] public section

set_option maxRecDepth 200000

noncomputable section

open Idealize.ShloMosaic Idealize.ShloMosaic.TcCoe Idealize.SL.Sem
open Idealize.ShloMosaic.Pipeline (Dat)

namespace Cert.XattfKernelIdeal.Result

open Cert.XattfKernelIdeal Cert.XattfKernelIdeal.Gen

/-- Column `c` of head `h`. -/
def col (h : Fin 4) (c : Fin 256) : Fin 1024 := ⟨h.val * 256 + c.val, by omega⟩

/-- A row's entry over the root of its mean square, times the gain. -/
def unit (X : Fin 1024 → EReal) (g x : EReal) : EReal :=
  x * Ideal.rsqrt (Ideal.div (∑ a : Fin 1024, X a * X a) (Ideal.ofBits .f32 0x44800000#32) + Ideal.ofBits .f32 0x358637BD#32) * g

/-- One query over the tokens: the scaled scores, their stable softmax, the values it weighs. -/
def score (q : Fin 256 → EReal) (K : Fin 256 → Fin 256 → EReal) (j : Fin 256) : EReal := (∑ c, q c * K j c) * Ideal.ofBits .f32 0x3D800000#32
def top (s : Fin 256 → EReal) : EReal := Finset.univ.fold max (Ideal.ofBits .f32 0xFF800000#32) s
def weight (s : Fin 256 → EReal) (j : Fin 256) : EReal := Ideal.div (Ideal.exp (s j - top s)) (∑ k, Ideal.exp (s k - top s))
def attend (q : Fin 256 → EReal) (K V : Fin 256 → Fin 256 → EReal) (c : Fin 256) : EReal := ∑ j, weight (score q K) j * V j c

section
variable (X g : Fin 1024 → EReal) (wq : Fin 1024 → Fin 1024 → EReal) (k v : Fin 256 → Fin 1024 → EReal) (wo : Fin 1024 → Fin 1024 → EReal)

/-- One row: its query, each head's output, what comes out. -/
def qry (b : Fin 1024) : EReal := ∑ a : Fin 1024, unit X (g a) (X a) * wq a b
def head (h : Fin 4) (c : Fin 256) : EReal := attend (fun c => qry X g wq (col h c)) (fun j c => k j (col h c)) (fun j c => v j (col h c)) c
def out (a : Fin 1024) : EReal := X a + ∑ b : Fin 1024, head X g wq k v ⟨b.val / 256, by omega⟩ ⟨b.val % 256, by omega⟩ * wo b a

theorem head_sum (b : Fin 1024) : head X g wq k v ⟨b.val / 256, by omega⟩ ⟨b.val % 256, by omega⟩
    = ∑ j, v j b * weight (score (fun c => qry X g wq (col ⟨b.val / 256, by omega⟩ c)) (fun j c => k j (col ⟨b.val / 256, by omega⟩ c))) j := by
  have e : col ⟨b.val / 256, by omega⟩ ⟨b.val % 256, by omega⟩ = b := Fin.ext (Nat.div_add_mod' b.val 256)
  unfold head attend
  exact Finset.sum_congr rfl fun j _ => (mul_comm _ _).trans (congrArg (· * _) (congrArg (v j) e))

theorem head_at (b : Fin 1024) (h : Fin 4) (c : Fin 256) (e : b.val = h.val * 256 + c.val) :
    head X g wq k v h c = head X g wq k v ⟨b.val / 256, by omega⟩ ⟨b.val % 256, by omega⟩ := by
  have e1 : (⟨b.val / 256, by omega⟩ : Fin 4) = h := Fin.ext (show b.val / 256 = h.val by omega)
  have e2 : (⟨b.val % 256, by omega⟩ : Fin 256) = c := Fin.ext (show b.val % 256 = c.val by omega)
  rw [e1, e2]
end

variable (m : (ℓ : Loc nD τ sig) → Buf (Elt Ideal) ℓ) (c : Dev nD)

abbrev kx (c : Dev nD) : FVec Ideal S16384x1024 .f32 := m ((c : Thread nD τ).loc main_arg0)
abbrev kg (c : Dev nD) : FVec Ideal S1024 .f32 := m ((c : Thread nD τ).loc main_arg1)
abbrev kq (c : Dev nD) : FVec Ideal S1024x1024 .f32 := m ((c : Thread nD τ).loc main_arg2)
abbrev kk (c : Dev nD) : FVec Ideal S256x1024 .f32 := m ((c : Thread nD τ).loc main_arg3)
abbrev kv (c : Dev nD) : FVec Ideal S256x1024 .f32 := m ((c : Thread nD τ).loc main_arg4)
abbrev ko (c : Dev nD) : FVec Ideal S1024x1024 .f32 := m ((c : Thread nD τ).loc main_arg5)
abbrev X (r : Fin 16384) (a : Fin 1024) : EReal := kx m c (ix2 r a)
abbrev G (a : Fin 1024) : EReal := kg m c (ix1 a)
abbrev Wq (a b : Fin 1024) : EReal := kq m c (ix2 a b)
abbrev K (j : Fin 256) (b : Fin 1024) : EReal := kk m c (ix2 j b)
abbrev V' (j : Fin 256) (b : Fin 1024) : EReal := kv m c (ix2 j b)
abbrev Wo (a b : Fin 1024) : EReal := ko m c (ix2 a b)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- Row `r` of block `t`. -/
def row (t : Fin cfg0.N) (r : Fin 512) : Fin 16384 := ⟨t.val * 512 + r.val, by have : t.val < 32 := t.isLt; omega⟩

variable (t : Fin cfg0.N)

theorem blk0 (r : Fin 512) (k : Fin 1024) : iblk m c 0 t (ix2 r k) = X m c (row t r) k := by
  have e : (V m c main_arg0 : FVec Ideal S16384x1024 .f32) (ix2 (row t r) k) = kx m c (ix2 (row t r) k) := congrFun (V_main_arg0 m c) _
  refine Eq.trans ?_ e
  blk_point [iblk, idx t, row]

theorem blk1 (k : Fin 1024) : iblk m c 1 t (ix2 0 k) = G m c k := by
  blk_simp [iblk]; entry_read; pointwise
  blk_ext [idx t]

theorem blk2 (a b : Fin 1024) : iblk m c 2 t (ix2 a b) = Wq m c a b := by
  blk_simp [iblk]; entry_read; pointwise
  blk_ext [idx t]

theorem blk3 (j : Fin 256) (b : Fin 1024) : iblk m c 3 t (ix2 j b) = K m c j b := by
  blk_simp [iblk]; entry_read; pointwise
  blk_ext [idx t]

theorem blk4 (j : Fin 256) (b : Fin 1024) : iblk m c 4 t (ix2 j b) = V' m c j b := by
  blk_simp [iblk]; entry_read; pointwise
  blk_ext [idx t]

theorem blk5 (a b : Fin 1024) : iblk m c 5 t (ix2 a b) = Wo m c a b := by
  blk_simp [iblk]; entry_read; pointwise
  blk_ext [idx t]

section
variable (x : Fin 512 → Fin 1024 → EReal) (g : Fin 1024 → EReal) (wq : Fin 1024 → Fin 1024 → EReal) (k v : Fin 256 → Fin 1024 → EReal) (wo : Fin 1024 → Fin 1024 → EReal)
variable (A : FVec Ideal S512x1024 .f32) (B : FVec Ideal S1x1024 .f32) (P O : Vec Ideal S1024x1024 .bf16) (Q : FVec Ideal S512x1024 .f32)
variable (T T0 T1 T2 : FVec Ideal S512x256 .f32) (Y Z : Vec Ideal S256x256 .bf16)

theorem at2 (hA : ∀ r a, A (ix2 r a) = x r a) (hB : ∀ a, B (ix2 0 a) = g a) (hP : ∀ a b, P (ix2 a b) = wq a b) (r : Fin 512) (b : Fin 1024) :
    k0_pay2 (F := Ideal) A B P (ix2 r b) = qry (x r) g wq b := by
  pointwise [k0_pay2]
  simp only [hA _ _, hB _, hP _ _]
  rfl

theorem at5 (r : Fin 512) (c : Fin 256) : k0_pay5 (F := Ideal) T Y Z (ix2 r c) = attend (fun c => T (ix2 r c)) (fun j c => Y (ix2 j c)) (fun j c => Z (ix2 j c)) c := by
  pointwise [k0_pay5]
  rfl

/-- The heads' tiles side by side, through the output matrix, on top of the row. -/
def merge (T3 : FVec Ideal S512x256 .f32) : FVec Ideal S512x1024 .f32 :=
  addf A (matmul dot_S512x1024_S1024x1024_S512x1024_1_0_0_1_n_n none (truncf .bf16 (concatenate S512x1024 1 [⟨S512x256, T0⟩, ⟨S512x256, T1⟩, ⟨S512x256, T2⟩, ⟨S512x256, T3⟩] concatenates_S512x256_S512x256_S512x256_S512x256_S512x1024_d1) bitsLt_bf16_f32)
    (shapeCast S1024x1024 O shapeCasts_S1024x1024_S1024x1024 : FVec Ideal S1024x1024 .bf16) (constant S512x1024 .f32 0x00000000#32))

/-- Each head's tile is the same function of its query tile. -/
theorem chain (Y0 Z0 Y1 Z1 Y2 Z2 Y3 Z3 : Vec Ideal S256x256 .bf16) :
    k0_pay1 A (k0_pay3 A B P Y0 Z0) (k0_pay5 (k0_pay4 A B P) Y1 Z1) (k0_pay6 (k0_pay2 A B P) Y2 Z2) (k0_pay7 (k0_pay2 A B P)) Y3 Z3 O
      = merge A O (k0_pay5 (extractStridedSlice S512x256 ![0, 0] (k0_pay2 A B P) slices_S512x1024_o0_0_S512x256) Y0 Z0) (k0_pay5 (extractStridedSlice S512x256 ![0, 256] (k0_pay2 A B P) slices_S512x1024_o0_256_S512x256) Y1 Z1)
        (k0_pay5 (extractStridedSlice S512x256 ![0, 512] (k0_pay2 A B P) slices_S512x1024_o0_512_S512x256) Y2 Z2) (k0_pay5 (extractStridedSlice S512x256 ![0, 768] (k0_pay2 A B P) slices_S512x1024_o0_768_S512x256) Y3 Z3) := rfl

/-- One head's tile over blocks that hold its columns. -/
theorem tile (h : Fin 4) (hT : ∀ r c, T (ix2 r c) = qry (x r) g wq (col h c)) (hY : ∀ j c, Y (ix2 j c) = k j (col h c)) (hZ : ∀ j c, Z (ix2 j c) = v j (col h c))
    (r : Fin 512) (c : Fin 256) : k0_pay5 (F := Ideal) T Y Z (ix2 r c) = head (x r) g wq k v h c := by
  rw [at5]
  unfold head
  simp only [hT _ _, hY _ _, hZ _ _]

theorem at1 (hA : ∀ r a, A (ix2 r a) = x r a) (h0 : ∀ r c, T0 (ix2 r c) = head (x r) g wq k v 0 c) (h1 : ∀ r c, T1 (ix2 r c) = head (x r) g wq k v 1 c)
    (h2 : ∀ r c, T2 (ix2 r c) = head (x r) g wq k v 2 c) (h3 : ∀ r c, T (ix2 r c) = head (x r) g wq k v 3 c) (hO : ∀ a b, O (ix2 a b) = wo a b)
    (r : Fin 512) (a : Fin 1024) : merge A O T0 T1 T2 T (ix2 r a) = out (x r) g wq k v wo a := by
  pointwise [merge]
  refine congrArg₂ (· + ·) (hA r a) (Finset.sum_congr rfl fun b _ => congrArg₂ (· * ·) ?_ (hO b a))
  by_cases e0 : b.val < 256
  · rw [dif_pos e0]; exact (h0 r ⟨b.val, e0⟩).trans (head_at _ _ _ _ _ b 0 _ (show b.val = 0 * 256 + b.val by omega))
  rw [dif_neg e0]
  by_cases e1 : b.val - 256 < 256
  · rw [dif_pos e1]; exact (h1 r ⟨b.val - 256, e1⟩).trans (head_at _ _ _ _ _ b 1 _ (show b.val = 1 * 256 + (b.val - 256) by omega))
  rw [dif_neg e1]
  by_cases e2 : b.val - 256 - 256 < 256
  · rw [dif_pos e2]; exact (h2 r ⟨b.val - 256 - 256, e2⟩).trans (head_at _ _ _ _ _ b 2 _ (show b.val = 2 * 256 + (b.val - 256 - 256) by omega))
  rw [dif_neg e2]
  exact (h3 r ⟨b.val - 256 - 256 - 256, by omega⟩).trans (head_at _ _ _ _ _ b 3 _ (show b.val = 3 * 256 + (b.val - 256 - 256 - 256) by omega))
end

theorem hQ (r : Fin 512) (b : Fin 1024) : k0_pay2 (iblk m c 0 t) (iblk m c 1 t) (iblk m c 2 t) (ix2 r b) = qry (X m c (row t r)) (G m c) (Wq m c) b :=
  at2 (fun r => X m c (row t r)) _ _ _ _ _ (blk0 m c t) (blk1 m c t) (blk2 m c t) r b

theorem out6 (r : Fin 512) (a : Fin 1024) : out0_6 (iblk m c 0 t) (iblk m c 1 t) (iblk m c 2 t) (iblk m c 3 t) (iblk m c 4 t) (iblk m c 5 t) (ix2 r a)
    = out (X m c (row t r)) (G m c) (Wq m c) (K m c) (V' m c) (Wo m c) a := by
  unfold_out out0_6
  frame_out
  rw [chain]
  refine at1 (fun r => X m c (row t r)) (G m c) (Wq m c) (K m c) (V' m c) (Wo m c) _ _ _ _ _ _ (blk0 m c t) (fun r e => ?_) (fun r e => ?_) (fun r e => ?_) (fun r e => ?_) (blk5 m c t) r a
  · refine tile (fun r => X m c (row t r)) (G m c) (Wq m c) (K m c) (V' m c) _ _ _ 0 (fun r e => ?_) (fun j e => ?_) (fun j e => ?_) r e
    · pointwise; refine (hQ m c t r _).trans (congrArg _ (Fin.ext ?_)); simp [col]
    · pointwise; refine (blk3 m c t j _).trans (congrArg _ (Fin.ext ?_)); simp [col]
    · pointwise; refine (blk4 m c t j _).trans (congrArg _ (Fin.ext ?_)); simp [col]
  · refine tile (fun r => X m c (row t r)) (G m c) (Wq m c) (K m c) (V' m c) _ _ _ 1 (fun r e => ?_) (fun j e => ?_) (fun j e => ?_) r e
    · pointwise; exact hQ m c t r _
    · pointwise; exact blk3 m c t j _
    · pointwise; exact blk4 m c t j _
  · refine tile (fun r => X m c (row t r)) (G m c) (Wq m c) (K m c) (V' m c) _ _ _ 2 (fun r e => ?_) (fun j e => ?_) (fun j e => ?_) r e
    · pointwise; exact hQ m c t r _
    · pointwise; exact blk3 m c t j _
    · pointwise; exact blk4 m c t j _
  · refine tile (fun r => X m c (row t r)) (G m c) (Wq m c) (K m c) (V' m c) _ _ _ 3 (fun r e => ?_) (fun j e => ?_) (fun j e => ?_) r e
    · pointwise; exact hQ m c t r _
    · pointwise; exact blk3 m c t j _
    · pointwise; exact blk4 m c t j _

theorem final6 : (dats m 0 c).arrAt 6 (cfgs 0).N = (fun i => (out (X m c (i 0)) (G m c) (Wq m c) (K m c) (V' m c) (Wo m c) (i 1) : EReal) : FVec Ideal S16384x1024 .f32) := by
  refine (dats m 0 c).arrAt_eq_of_covers 6 _ (by decide +kernel) fun t hf y => ?_
  have e : ((cfg0.win 6).blk t).view.emb y = ix2 (row t (y 0)) (y 1) := by blk_ext [idx t, row]
  rw [e]
  blk_simp; rw [after0_6]
  exact Eq.trans (congrArg _ (eq_ix2 y)) (out6 m c t _ _)

/-- The least value under a maximum. -/
theorem max_bits (y : EReal) : max (Ideal.ofBits .f32 0xFF800000#32) y = y := by
  rw [show Ideal.ofBits .f32 0xFF800000#32 = (⊥ : EReal) by simp [Ideal.ofBits, Ideal.ieee]]
  exact max_eq_right bot_le

end Cert.XattfKernelIdeal.Result

namespace Cert.XattfReferenceIdeal.Stages

open Cert.XattfReferenceIdeal Cert.XattfReferenceIdeal.Gen Cert.XattfReferenceIdeal.Value
open Cert.XattfKernelIdeal.Result (col unit score top weight attend qry head out head_sum max_bits)

/-- The reference stage by stage, over any arrays: queries by head, scores, exponentials, weights, the output. -/
abbrev Cube := FVec Ideal S4x16384x256 .f32
def queries (x : FVec Ideal S16384x1024 .f32) (g : FVec Ideal S1024 .f32) (wq : FVec Ideal S1024x1024 .f32) : FVec Ideal S16384x4x256 .f32 :=
  shapeCast _ (Host.dotGeneral dot_S16384x1024_S1024x1024_S16384x1024_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) wq) shapeCasts_S16384x1024_S16384x4x256
def scores (q : FVec Ideal S16384x4x256 .f32) (k : FVec Ideal S256x1024 .f32) : Cube :=
  mulf (Host.dotGeneral dot_S16384x4x256_S256x4x256_S4x16384x256_2_2_0_0_1_1 none q (shapeCast _ k shapeCasts_S256x1024_S256x4x256)) (broadcastInDim S4x16384x256 ![] bcast_S_S4x16384x256 (constant S_ .f32 0x3D800000#32))
def tops (s : Cube) : FVec Ideal S4x16384 .f32 := Host.reduce FloatOps.maximumf s (constant S_ .f32 0xFF800000#32) reducesTo_S4x16384x256_S4x16384_d2 h_S_
def lifted (s : Cube) (t : FVec Ideal S4x16384 .f32) : Cube :=
  Host.exp (subf s (broadcastInDim S4x16384x256 ![0, 1, 2] bcast_S4x16384x1_S4x16384x256_0_1_2 (broadcastInDim S4x16384x1 ![0, 1] bcast_S4x16384_S4x16384x1_0_1 (maximumf (broadcastInDim S4x16384 ![] bcast_S_S4x16384 (constant S_ .f32 0xFF800000#32)) t))))
def weights (e : Cube) : Cube :=
  Host.divf e (broadcastInDim S4x16384x256 ![0, 1, 2] bcast_S4x16384x1_S4x16384x256_0_1_2 (broadcastInDim S4x16384x1 ![0, 1] bcast_S4x16384_S4x16384x1_0_1 (Host.reduceAdd e (constant S_ .f32 0x00000000#32) reducesTo_S4x16384x256_S4x16384_d2 h_S_)))
def result (x : FVec Ideal S16384x1024 .f32) (p : Cube) (v : FVec Ideal S256x1024 .f32) (wo : FVec Ideal S1024x1024 .f32) : FVec Ideal S16384x1024 .f32 :=
  addf x (Host.dotGeneral dot_S16384x1024_S1024x1024_S16384x1024_1_0_0_1_n_n none (shapeCast _ (transpose S16384x4x256 [2, 0, 1] (Host.dotGeneral dot_S256x4x256_S4x16384x256_S4x256x16384_0_2_2_1_1_0 none (shapeCast _ v shapeCasts_S256x1024_S256x4x256) p) transposes_S4x256x16384_S16384x4x256_2_0_1) shapeCasts_S16384x4x256_S16384x1024) wo)

theorem staged (m : (ℓ : Loc nD τ sig) → Buf (Elt Ideal) ℓ) (c : Dev nD) : res_main_v35 m c = result (m ((c.tc : Thread nD τ).loc main_arg0))
    (weights (lifted (scores (queries (m ((c.tc : Thread nD τ).loc main_arg0)) (m ((c.tc : Thread nD τ).loc main_arg1)) (m ((c.tc : Thread nD τ).loc main_arg2))) (m ((c.tc : Thread nD τ).loc main_arg3)))
      (tops (scores (queries (m ((c.tc : Thread nD τ).loc main_arg0)) (m ((c.tc : Thread nD τ).loc main_arg1)) (m ((c.tc : Thread nD τ).loc main_arg2))) (m ((c.tc : Thread nD τ).loc main_arg3))))))
    (m ((c.tc : Thread nD τ).loc main_arg4)) (m ((c.tc : Thread nD τ).loc main_arg5)) := rfl

variable (x : FVec Ideal S16384x1024 .f32) (g : FVec Ideal S1024 .f32) (wq wo : FVec Ideal S1024x1024 .f32) (k v : FVec Ideal S256x1024 .f32) (s p : Cube) (q : FVec Ideal S16384x4x256 .f32)
variable (r : Fin 16384) (h : Fin 4)

theorem queries_at (c : Fin 256) : queries x g wq (ix3 r h c) = qry (fun a => x (ix2 r a)) (fun a => g (ix1 a)) (fun a b => wq (ix2 a b)) (col h c) := by
  pointwise [queries]
  rfl

theorem scores_at (j : Fin 256) : scores q k (ix3 h r j) = score (fun c => q (ix3 r h c)) (fun j c => k (ix2 j (col h c))) j := by
  pointwise [scores]
  rfl

theorem tops_at : tops s (ix2 h r) = top fun j => s (ix3 h r j) := by
  pointwise [tops]
  rfl

theorem lifted_at (t : FVec Ideal S4x16384 .f32) (j : Fin 256) : lifted s t (ix3 h r j) = Ideal.exp (s (ix3 h r j) - t (ix2 h r)) := by
  pointwise [lifted]
  rw [max_bits]

theorem weights_at (j : Fin 256) : weights p (ix3 h r j) = Ideal.div (p (ix3 h r j)) (∑ i : Fin 256, p (ix3 h r i)) := by
  pointwise [weights]

theorem result_at (a : Fin 1024) : result x p v wo (ix2 r a) = x (ix2 r a) + ∑ b : Fin 1024, (∑ j : Fin 256, v (ix2 j b) * p (ix3 ⟨b.val / 256, by omega⟩ r j)) * wo (ix2 b a) := by
  pointwise [result]

/-- The reference's rows. -/
theorem rows (a : Fin 1024) : result x (weights (lifted (scores (queries x g wq) k) (tops (scores (queries x g wq) k)))) v wo (ix2 r a)
    = out (fun a => x (ix2 r a)) (fun a => g (ix1 a)) (fun a b => wq (ix2 a b)) (fun j b => k (ix2 j b)) (fun j b => v (ix2 j b)) (fun a b => wo (ix2 a b)) a := by
  rw [result_at]
  refine congrArg (x (ix2 r a) + ·) (Finset.sum_congr rfl fun b _ => congrArg (· * wo (ix2 b a)) ?_)
  rw [head_sum]
  refine Finset.sum_congr rfl fun j _ => congrArg (v (ix2 j b) * ·) ?_
  simp only [weights_at, lifted_at, tops_at, scores_at, queries_at]
  rfl

end Cert.XattfReferenceIdeal.Stages

namespace Cert.Proof

open Cert.XattfKernelIdeal.Result

/-- The reference is host operations only and declares no semaphore. -/
theorem xattf_reference_frame : Cert.quiescent_XattfReferenceIdeal := fun m ρ _ =>
  (θ_run Cert.XattfReferenceIdeal.defs _ _).mono (fun r h => ⟨fun c => (h c).2,
      sem_eq_zero_of_no_sems (by decide) r.2⟩)
    (Cert.XattfReferenceIdeal.Value.run (F := Ideal) m ρ)

/-- The kernel's result is the reference's forward lines. -/
theorem xattf_algebraic : Cert.algebraic_XattfKernelIdeal_XattfReferenceIdeal := by
  pair_intro
  · run_from Cert.XattfKernelIdeal.Gen.run_main m g
  · run_from Cert.XattfReferenceIdeal.Value.run m' g'
    rw [final6 m c]
    funext j; obtain ⟨r, j, rfl⟩ : ∃ r k, j = ix2 r k := ⟨_, _, eq_ix2 j⟩
    obtain ⟨h0, h1, h2, h3, h4, h5⟩ := hagree c
    rw [Cert.XattfReferenceIdeal.Stages.staged m' c, h0, h1, h2, h3, h4, h5]
    exact Cert.XattfReferenceIdeal.Stages.rows _ _ _ _ _ _ r j

end Cert.Proof

end
-- ==== Proof.Adam.lean ====
/- The optimiser on one device's share of a weight: the kernel's four arrays, entry by entry, and the reference's lines. -/
module

public import proofs.«01_k».proof.Proof.Gen.AdamKernelIdeal.Frame
public import proofs.«01_k».proof.Proof.Gen.AdamReferenceIdeal.Run
public import proofs.«01_k».proof.Defs
public import Idealize.ShloMosaic.Lib.Claim
public import Idealize.ShloMosaic.Lib.Pipeline.Value
public import Idealize.ShloMosaic.Lib.Pipeline.ValueKit

@[expose] public section

set_option maxRecDepth 200000

noncomputable section

namespace Cert.AdamKernelIdeal.Result

open Idealize.ShloMosaic Idealize.ShloMosaic.TcCoe Idealize.SL.Sem
open Idealize.ShloMosaic.Pipeline (Dat)
open Cert.AdamKernelIdeal Cert.AdamKernelIdeal.Gen

/-- The moments and the step of one entry, of its gradient, weight and old moments. -/
def mom (g p : EReal) : EReal := Ideal.ofBits .f32 0x3F666666#32 * p + Ideal.ofBits .f32 0x3DCCCCCD#32 * g
def vel (g q : EReal) : EReal := Ideal.ofBits .f32 0x3F7FBE77#32 * q + Ideal.ofBits .f32 0x3A83126F#32 * (g * g)
def step (g w p q : EReal) : EReal :=
  Ideal.ofBits .f32 0xBA83126F#32 * (Ideal.div (Ideal.div (mom g p) (Ideal.ofBits .f32 0x3F26BD02#32))
    (Ideal.sqrt (Ideal.div (vel g q) (Ideal.ofBits .f32 0x3C231ACC#32)) + Ideal.ofBits .f32 0x322BCC77#32) + Ideal.ofBits .f32 0x3C23D70A#32 * w)

variable (m : (ℓ : Loc nD τ sig) → Buf (Elt Ideal) ℓ) (c : Dev nD)

abbrev parts (c : Dev nD) : FVec Ideal S8x2048x704 .f32 := m ((c : Thread nD τ).loc main_arg0)
abbrev kw (c : Dev nD) : FVec Ideal S2048x704 .f32 := m ((c : Thread nD τ).loc main_arg1)
abbrev km (c : Dev nD) : FVec Ideal S2048x704 .f32 := m ((c : Thread nD τ).loc main_arg2)
abbrev kv (c : Dev nD) : FVec Ideal S2048x704 .f32 := m ((c : Thread nD τ).loc main_arg3)

/-- The gradient: the sum of the eight parts. -/
abbrev grad (c : Dev nD) (i : S2048x704.Idx) : EReal := ∑ s : Fin 8, parts m c (ix3 s (i 0) (i 1))

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem point_lt (t : Fin cfg0.N) : t.val < 16 := t.isLt

/-- Row `r` of block `t`. -/
def row (t : Fin cfg0.N) (r : Fin 128) : Fin 2048 := ⟨t.val * 128 + r.val, by have := point_lt t; omega⟩

variable (t : Fin cfg0.N)

theorem blk0 (s : Fin 8) (r : Fin 128) (k : Fin 704) : iblk m c 0 t (ix3 s r k) = parts m c (ix3 s (row t r) k) := by
  have e : (V m c main_v0 : FVec Ideal S8x2048x704 .bf16) (ix3 s (row t r) k) = parts m c (ix3 s (row t r) k) := by
    have e' : V m c main_v0 = (truncf .bf16 (parts m c) bitsLt_bf16_f32 : FVec Ideal S8x2048x704 .bf16) := by
      simp only [V, hostOps0]; entry_read; try rfl
    rw [e']; pointwise
  rw [← e]
  blk_point [iblk, idx t, row]

theorem blk1 (r : Fin 128) (k : Fin 704) : iblk m c 1 t (ix2 r k) = kw m c (ix2 (row t r) k) := by
  have e : (V m c main_arg1 : FVec Ideal S2048x704 .f32) (ix2 (row t r) k) = kw m c (ix2 (row t r) k) := congrFun (V_main_arg1 m c) _
  refine Eq.trans ?_ e
  blk_point [iblk, idx t, row]

theorem blk2 (r : Fin 128) (k : Fin 704) : iblk m c 2 t (ix2 r k) = km m c (ix2 (row t r) k) := by
  have e : (V m c main_arg2 : FVec Ideal S2048x704 .f32) (ix2 (row t r) k) = km m c (ix2 (row t r) k) := congrFun (V_main_arg2 m c) _
  refine Eq.trans ?_ e
  blk_point [iblk, idx t, row]

theorem blk3 (r : Fin 128) (k : Fin 704) : iblk m c 3 t (ix2 r k) = kv m c (ix2 (row t r) k) := by
  have e : (V m c main_arg3 : FVec Ideal S2048x704 .f32) (ix2 (row t r) k) = kv m c (ix2 (row t r) k) := congrFun (V_main_arg3 m c) _
  refine Eq.trans ?_ e
  blk_point [iblk, idx t, row]

theorem sum_at (A B C D E F G H : FVec Ideal S1x128x704 .bf16) (r : Fin 128) (k : Fin 704) :
    k0_pay4 (F := Ideal) A B C D E F G H (ix2 r k) = A (ix3 0 r k) + B (ix3 0 r k) + C (ix3 0 r k) + D (ix3 0 r k) + E (ix3 0 r k) + F (ix3 0 r k) + G (ix3 0 r k) + H (ix3 0 r k) := by
  pointwise [k0_pay4]
  try rfl

theorem out4 (r : Fin 128) (k : Fin 704) : out0_4 (iblk m c 0 t) (iblk m c 1 t) (iblk m c 2 t) (iblk m c 3 t) (ix2 r k) = grad m c (ix2 (row t r) k) := by
  unfold out0_4; frame_out
  refine (sum_at _ _ _ _ _ _ _ _ r k).trans ?_
  refine Eq.trans ?_ (Fin.sum_univ_eight _).symm
  have h (s : Fin 8) (z : S8x128x704.Idx) (hz : z = ix3 s r k) : iblk m c 0 t z = parts m c (ix3 s (row t r) k) := hz ▸ blk0 m c t s r k
  refine congrArg₂ (· + ·) (congrArg₂ (· + ·) (congrArg₂ (· + ·) (congrArg₂ (· + ·) (congrArg₂ (· + ·) (congrArg₂ (· + ·) (congrArg₂ (· + ·) (h 0 _ ?_) (h 1 _ ?_)) (h 2 _ ?_)) (h 3 _ ?_)) (h 4 _ ?_)) (h 5 _ ?_)) (h 6 _ ?_)) (h 7 _ ?_)
  all_goals
    funext i
    match i with
    | 0 => rfl
    | 1 => exact Fin.ext (show 0 + 1 * r.val = r.val by omega)
    | 2 => exact Fin.ext (show 0 + 1 * k.val = k.val by omega)

/-- The gradient the moments are made of is the one stored. -/
theorem grad_at (r : Fin 128) (k : Fin 704) : k0_pay5 (F := Ideal) (iblk m c 0 t) (iblk m c 1 t) (iblk m c 2 t) (iblk m c 3 t) (ix2 r k) = grad m c (ix2 (row t r) k) := by
  refine Eq.trans ?_ (out4 m c t r k)
  unfold out0_4; frame_out
  rfl

theorem pay1_at (G P : FVec Ideal S128x704 .f32) (r : Fin 128) (k : Fin 704) : k0_pay1 (F := Ideal) G P (ix2 r k) = mom (G (ix2 r k)) (P (ix2 r k)) := by
  pointwise [k0_pay1, mom]; try rfl

theorem pay2_at (G Q : FVec Ideal S128x704 .f32) (r : Fin 128) (k : Fin 704) : k0_pay2 (F := Ideal) G Q (ix2 r k) = vel (G (ix2 r k)) (Q (ix2 r k)) := by
  pointwise [k0_pay2, vel]; try rfl

theorem pay3_at (G P Q W : FVec Ideal S128x704 .f32) (r : Fin 128) (k : Fin 704) :
    k0_pay3 (F := Ideal) G P Q W (ix2 r k) = step (G (ix2 r k)) (W (ix2 r k)) (P (ix2 r k)) (Q (ix2 r k)) := by
  pointwise [k0_pay3, step, pay1_at, pay2_at]; try rfl

omit t

theorem final4 : (dats m 0 c).arrAt 4 (cfgs 0).N = (fun i => (grad m c i : EReal) : FVec Ideal S2048x704 .f32) := by
  refine (dats m 0 c).arrAt_eq_of_covers 4 _ (by decide +kernel) fun t hf y => ?_
  have e : ((cfg0.win 4).blk t).view.emb y = ix2 (row t (y 0)) (y 1) := by blk_ext [idx t, row]
  rw [e]
  blk_simp; rw [after0_4]
  exact Eq.trans (congrArg _ (eq_ix2 y)) (out4 m c t (y 0) (y 1))

theorem final5 : (dats m 0 c).arrAt 5 (cfgs 0).N = (fun i => (step (grad m c i) (kw m c i) (km m c i) (kv m c i) : EReal) : FVec Ideal S2048x704 .f32) := by
  refine (dats m 0 c).arrAt_eq_of_covers 5 _ (by decide +kernel) fun t hf y => ?_
  have e : ((cfg0.win 5).blk t).view.emb y = ix2 (row t (y 0)) (y 1) := by blk_ext [idx t, row]
  rw [e]
  blk_simp; rw [after0_5]
  refine Eq.trans (congrArg _ (eq_ix2 y)) ?_
  unfold out0_5; frame_out
  exact (pay3_at _ _ _ _ _ _).trans ((congr (congr (congrArg₂ step (grad_at m c t _ _) (blk1 m c t _ _)) (blk2 m c t _ _)) (blk3 m c t _ _)))

theorem final6 : (dats m 0 c).arrAt 6 (cfgs 0).N = (fun i => (mom (grad m c i) (km m c i) : EReal) : FVec Ideal S2048x704 .f32) := by
  refine (dats m 0 c).arrAt_eq_of_covers 6 _ (by decide +kernel) fun t hf y => ?_
  have e : ((cfg0.win 6).blk t).view.emb y = ix2 (row t (y 0)) (y 1) := by blk_ext [idx t, row]
  rw [e]
  blk_simp; rw [after0_6]
  refine Eq.trans (congrArg _ (eq_ix2 y)) ?_
  unfold out0_6; frame_out
  exact (pay1_at _ _ _ _).trans (congrArg₂ mom (grad_at m c t _ _) (blk2 m c t _ _))

theorem final7 : (dats m 0 c).arrAt 7 (cfgs 0).N = (fun i => (vel (grad m c i) (kv m c i) : EReal) : FVec Ideal S2048x704 .f32) := by
  refine (dats m 0 c).arrAt_eq_of_covers 7 _ (by decide +kernel) fun t hf y => ?_
  have e : ((cfg0.win 7).blk t).view.emb y = ix2 (row t (y 0)) (y 1) := by blk_ext [idx t, row]
  rw [e]
  blk_simp; rw [after0_7]
  refine Eq.trans (congrArg _ (eq_ix2 y)) ?_
  unfold out0_7; frame_out
  exact (pay2_at _ _ _ _).trans (congrArg₂ vel (grad_at m c t _ _) (blk3 m c t _ _))

end Cert.AdamKernelIdeal.Result

namespace Cert.AdamReferenceIdeal.Value

open Idealize.ShloMosaic Idealize.ShloMosaic.TcCoe Idealize.SL.Sem
open Cert.AdamReferenceIdeal Cert.AdamReferenceIdeal.Gen Cert.AdamKernelIdeal.Result

/-- The reference's sum of the parts, -/
@[irreducible] def total (X : FVec Ideal S8x2048x704 .f32) : FVec Ideal S2048x704 .f32 :=
  Host.reduceAdd X (constant S_ .f32 0x00000000#32) reducesTo_S8x2048x704_S2048x704_d0 h_S_

/-- a constant at every entry, -/
abbrev all (w : BitVec 32) : FVec Ideal S2048x704 .f32 := broadcastInDim S2048x704 ![] bcast_S_S2048x704 (constant S_ .f32 w)

variable (G W P Q : FVec Ideal S2048x704 .f32)

/-- its moments and its step, of the gradient. -/
@[irreducible] def moms : FVec Ideal S2048x704 .f32 := addf (mulf (all 0x3F666666#32) P) (mulf (all 0x3DCCCCCD#32) G)
@[irreducible] def vels : FVec Ideal S2048x704 .f32 := addf (mulf (all 0x3F7FBE77#32) Q) (mulf (all 0x3A83126F#32) (mulf G G))
@[irreducible] def steps : FVec Ideal S2048x704 .f32 := mulf (all 0xBA83126F#32) (addf (Host.divf (Host.divf (moms G P) (all 0x3F26BD02#32)) (addf (Host.sqrt (Host.divf (vels G Q) (all 0x3C231ACC#32))) (all 0x322BCC77#32))) (mulf (all 0x3C23D70A#32) W))

theorem total_at (X : FVec Ideal S8x2048x704 .f32) (r : Fin 2048) (k : Fin 704) : total X (ix2 r k) = ∑ s : Fin 8, X (ix3 s r k) := by
  pointwise [total]
  try rfl

variable (r : Fin 2048) (k : Fin 704)

theorem moms_at : moms G P (ix2 r k) = mom (G (ix2 r k)) (P (ix2 r k)) := by
  pointwise [moms, mom]
  try rfl

theorem vels_at : vels G Q (ix2 r k) = vel (G (ix2 r k)) (Q (ix2 r k)) := by
  pointwise [vels, vel]
  try rfl

theorem steps_at : steps G W P Q (ix2 r k) = step (G (ix2 r k)) (W (ix2 r k)) (P (ix2 r k)) (Q (ix2 r k)) := by
  pointwise [steps, step, moms_at, vels_at]
  try rfl

/-- The reference's run, with its results under their names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v0) = total (m (c.tc.loc main_arg0))
      ∧ r.2.mem (c.tc.loc main_v24) = steps (total (m (c.tc.loc main_arg0))) (m (c.tc.loc main_arg1)) (m (c.tc.loc main_arg2)) (m (c.tc.loc main_arg3))
      ∧ r.2.mem (c.tc.loc main_v5) = moms (total (m (c.tc.loc main_arg0))) (m (c.tc.loc main_arg2))
      ∧ r.2.mem (c.tc.loc main_v11) = vels (total (m (c.tc.loc main_arg0))) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  simp only [steps, moms, vels, total]
  exact run m ρ

end Cert.AdamReferenceIdeal.Value

namespace Cert.Proof

open Idealize.ShloMosaic Idealize.SL.Sem Cert.AdamKernelIdeal Cert.AdamReferenceIdeal.Value

/-- The reference is host operations only and declares no semaphore. -/
theorem adam_reference_frame : Cert.quiescent_AdamReferenceIdeal := fun m ρ _ =>
  (θ_run Cert.AdamReferenceIdeal.defs _ _).mono (fun r h => ⟨fun c => (h c).2.2.2.2,
      sem_eq_zero_of_no_sems (by decide) r.2⟩)
    (Cert.AdamReferenceIdeal.Value.run (F := Ideal) m ρ)

/-- The kernel's gradient, step and moments are the reference's. -/
theorem adam_algebraic : Cert.algebraic_AdamKernelIdeal_AdamReferenceIdeal := by
  pair_intro
  · run_from Cert.AdamKernelIdeal.Gen.run_main m g
  · run_from Cert.AdamReferenceIdeal.Value.run_named m' g'
    · rw [Result.final4 m c]; funext j
      obtain ⟨r, k, rfl⟩ : ∃ r k, j = ix2 r k := ⟨_, _, eq_ix2 j⟩
      exact total_at _ r k
    · rw [Result.final5 m c]; funext j
      obtain ⟨r, k, rfl⟩ : ∃ r k, j = ix2 r k := ⟨_, _, eq_ix2 j⟩
      exact (steps_at _ _ _ _ r k).trans (by rw [total_at]; rfl)
    · rw [Result.final6 m c]; funext j
      obtain ⟨r, k, rfl⟩ : ∃ r k, j = ix2 r k := ⟨_, _, eq_ix2 j⟩
      exact (moms_at _ _ r k).trans (by rw [total_at]; rfl)
    · rw [Result.final7 m c]; funext j
      obtain ⟨r, k, rfl⟩ : ∃ r k, j = ix2 r k := ⟨_, _, eq_ix2 j⟩
      exact (vels_at _ _ r k).trans (by rw [total_at]; rfl)

end Cert.Proof

end
-- ==== Proof.Prod.lean ====
/- A weight's gradient as a product over the rows, summed over the grid in four steps, and the reference's line. -/
module

public import proofs.«01_k».proof.Proof.Gen.ProdKernelIdeal.Frame
public import proofs.«01_k».proof.Proof.Gen.ProdReferenceIdeal.Run
public import proofs.«01_k».proof.Defs
public import Idealize.ShloMosaic.Lib.Claim
public import Idealize.ShloMosaic.Lib.Pipeline.Value
public import Idealize.ShloMosaic.Lib.Pipeline.ValueKit

@[expose] public section

set_option maxRecDepth 200000

noncomputable section

namespace Cert.ProdKernelIdeal.Result

open Idealize.ShloMosaic Idealize.ShloMosaic.TcCoe Idealize.SL.Sem
open Idealize.ShloMosaic.Pipeline (Dat)
open Cert.ProdKernelIdeal Cert.ProdKernelIdeal.Gen

variable (m : (ℓ : Loc nD τ sig) → Buf (Elt Ideal) ℓ) (c : Dev nD)

abbrev kh (c : Dev nD) : FVec Ideal S16384x1024 .f32 := m ((c : Thread nD τ).loc main_arg0)
abbrev kd (c : Dev nD) : FVec Ideal S16384x5632 .f32 := m ((c : Thread nD τ).loc main_arg1)

/-- Column `k` of chunk `s`. -/
def col (s : Fin 8) (k : Fin 704) : Fin 5632 := ⟨s.val * 704 + k.val, by omega⟩

theorem idx : ∀ t : Fin cfg0.N, win0_0.index t = ![t.val % 4, 0] ∧ win0_1.index t = ![t.val / 4, t.val % 4, 0] ∧ win0_2.index t = ![t.val / 4, 0, 0] :=
  (by decide +kernel : ∀ t : Fin grid0.N, _)

theorem point_lt (t : Fin cfg0.N) : t.val < 32 := t.isLt

/-- Row `r` of the step at `t`, and the chunk it is at. -/
def row (t : Fin cfg0.N) (r : Fin 4096) : Fin 16384 := ⟨t.val % 4 * 4096 + r.val, by omega⟩
def chunk (t : Fin cfg0.N) : Fin 8 := ⟨t.val / 4, by have := point_lt t; omega⟩

variable (t : Fin cfg0.N)

theorem blk0 (r : Fin 4096) (k : Fin 1024) : iblk m c 0 t (ix2 r k) = kh m c (ix2 (row t r) k) := by
  have e : (V m c main_v0 : FVec Ideal S16384x1024 .bf16) (ix2 (row t r) k) = kh m c (ix2 (row t r) k) := by
    have e' : V m c main_v0 = (truncf .bf16 (kh m c) bitsLt_bf16_f32 : FVec Ideal S16384x1024 .bf16) := by
      simp only [V, hostOps0]; entry_read; try rfl
    rw [e']; pointwise
  rw [← e]
  blk_point [iblk, idx t, row]

theorem blk1 (r : Fin 4096) (k : Fin 704) : iblk m c 1 t (ix3 0 r k) = kd m c (ix2 (row t r) (col (chunk t) k)) := by
  have e : (V m c main_v3 : FVec Ideal S8x16384x704 .bf16) (ix3 (chunk t) (row t r) k) = kd m c (ix2 (row t r) (col (chunk t) k)) := by
    have e' : V m c main_v3 = (truncf .bf16 (transpose S8x16384x704 [1, 0, 2] (shapeCast S16384x8x704 (kd m c) shapeCasts_S16384x5632_S16384x8x704) transposes_S16384x8x704_S8x16384x704_1_0_2) bitsLt_bf16_f32 : FVec Ideal S8x16384x704 .bf16) := by
      simp only [V, hostOps0]; entry_read; try rfl
    rw [e']; pointwise; try rfl
  rw [← e]
  blk_point [iblk, idx t, row, chunk]

theorem pay2_at (A : FVec Ideal S1024x704 .f32) (X : FVec Ideal S4096x1024 .bf16) (D : FVec Ideal S1x4096x704 .bf16) (j : Fin 1024) (k : Fin 704) :
    k0_pay2 (F := Ideal) A X D (ix2 j k) = A (ix2 j k) + ∑ r : Fin 4096, X (ix2 r j) * D (ix3 0 r k) := by
  pointwise [k0_pay2]
  try rfl

theorem acc (j : Fin 1024) (k : Fin 704) (Z : EReal) (hZ : (h : t.val % 4 = 0) → Z = 0) (hZ' : (h : ¬ t.val % 4 = 0) → Z = (outsAt0 m c (t.val - 1) (Nat.lt_of_le_of_lt (Nat.sub_le _ _) t.isLt)).2 (ix2 j k)) :
    (outsAt0 m c t.val t.isLt).2 (ix2 j k) = Z + ∑ r, kh m c (ix2 (row t r) j) * kd m c (ix2 (row t r) (col (chunk t) k)) := by
  by_cases h0 : t.val % 4 = 0
  · rw [outsAt0_A m c t h0 (by omega), hZ h0]; frame_out
    refine (pay2_at _ _ _ j k).trans ?_
    rw [show k0_pay1 (F := Ideal) (ix2 j k) = (0 : EReal) from by pointwise [k0_pay1]]
    exact congrArg₂ (· + ·) rfl (Finset.sum_congr rfl fun r _ => by rw [blk0, blk1])
  · by_cases h1 : t.val % 4 = 3
    · rw [outsAt0_C m c t h0 h1, hZ' h0]; frame_out
      exact (pay2_at _ _ _ j k).trans (congrArg₂ (· + ·) (congrFun ((Memref.isWhole_whole _).read_unread _) _) (Finset.sum_congr rfl fun r _ => by rw [blk0, blk1]))
    · rw [outsAt0_B m c t h0 h1, hZ' h0]; frame_out
      exact (pay2_at _ _ _ j k).trans (congrArg₂ (· + ·) (congrFun ((Memref.isWhole_whole _).read_unread _) _) (Finset.sum_congr rfl fun r _ => by rw [blk0, blk1]))

theorem last (h1 : t.val % 4 = 3) (j : Fin 1024) (k : Fin 704) : (outsAt0 m c t.val t.isLt).1 (ix3 0 j k) = (outsAt0 m c t.val t.isLt).2 (ix2 j k) := by
  rw [outsAt0_C m c t (by omega) h1]; frame_out
  pointwise [k0_pay3]
  all_goals rfl

omit t in
theorem final2 : (dats m 0 c).arrAt 2 (cfgs 0).N = (fun i => (∑ r, kh m c (ix2 r (i 1)) * kd m c (ix2 r (col (i 0) (i 2))) : EReal) : FVec Ideal S8x1024x704 .bf16) := by
  refine (dats m 0 c).arrAt_eq_of_covers 2 _ (by decide +kernel) fun t hf y => ?_
  have e : ((cfg0.win 2).blk t).view.emb y = ix3 (chunk t) (y 1) (y 2) := by blk_ext [idx t, chunk]
  rw [e]
  blk_simp; rw [after0_2]
  have hl := (flush0_2 t).mp hf
  have e' : y = ix3 (0 : Fin 1) (y 1) (y 2) := by
    funext i; fin_cases i
    exacts [Subsingleton.elim (α := Fin 1) _ _, rfl, rfl]
  refine ((congrArg _ e').trans (last m c t hl (y 1) (y 2))).trans ?_
  refine (Pipeline.eq_sum_fin_of_reset_step_apply_of_flush (fun n h => (outsAt0 m c n h).2) 4 (fun _ => (0 : EReal)) (fun t y => (∑ r, kh m c (ix2 (row t r) (y 0)) * kd m c (ix2 (row t r) (col (chunk t) (y 1))) : EReal))
    (fun t h y => by rw [eq_ix2 y]; exact acc m c t (y 0) (y 1) 0 (fun _ => rfl) fun h' => absurd h h')
    (fun t h y => by rw [eq_ix2 y]; exact acc m c t (y 0) (y 1) _ (fun h' => absurd h' h) fun _ => rfl) t hl (ix2 (y 1) (y 2))).trans ?_
  rw [zero_add]
  refine Fin.sum_mul_add_congr fun s k hk => ?_
  have hs := s.isLt
  have h4 : t.val % 4 = 3 := hl
  rw [show row ⟨_, Pipeline.run_point_lt_of_flush t hl s⟩ k = ⟨_, hk⟩ from Fin.ext (by have := point_lt t; simp only [row]; omega),
    show chunk ⟨_, Pipeline.run_point_lt_of_flush t hl s⟩ = chunk t from Fin.ext (by have := point_lt t; simp only [chunk]; omega)]
  rfl

end Cert.ProdKernelIdeal.Result

namespace Cert.Proof

open Idealize.ShloMosaic Idealize.SL.Sem

/-- The reference is host operations only and declares no semaphore. -/
theorem prod_reference_frame : Cert.quiescent_ProdReferenceIdeal := fun m ρ _ =>
  (θ_run Cert.ProdReferenceIdeal.defs _ _).mono (fun r h => ⟨fun c => (h c).2,
      sem_eq_zero_of_no_sems (by decide) r.2⟩)
    (Cert.ProdReferenceIdeal.Value.run (F := Ideal) m ρ)

/-- The kernel's product is the derivative of the reference's. -/
theorem prod_algebraic : Cert.algebraic_ProdKernelIdeal_ProdReferenceIdeal := by
  pair_intro
  · run_from Cert.ProdKernelIdeal.Gen.run_main m g
  · run_from Cert.ProdReferenceIdeal.Value.run m' g'
    rw [Cert.ProdKernelIdeal.Result.final2 m c]
    funext j
    pointwise [hagree c]
    exact Finset.sum_congr rfl fun x _ => mul_comm _ _

end Cert.Proof

end
-- ==== Proof.lean ====
module

public import proofs.«01_k».proof.Defs
public import proofs.«01_k».proof.Proof.Mem
public import proofs.«01_k».proof.Proof.Gen.MemKernel.Frame
public import proofs.«01_k».proof.Proof.Gelu
public import proofs.«01_k».proof.Proof.Gen.GeluKernel.Frame
public import proofs.«01_k».proof.Proof.Gen.Pre_gelu_finite
public import proofs.«01_k».proof.Proof.Attn
public import proofs.«01_k».proof.Proof.Gen.AttnKernel.Frame
public import proofs.«01_k».proof.Proof.Gen.AttnKernelIdeal.Frame
public import proofs.«01_k».proof.Proof.Gen.AttnReferenceIdeal.Run
public import proofs.«01_k».proof.Proof.Gen.Pre_attn_finite
public import proofs.«01_k».proof.Proof.Attnf
public import proofs.«01_k».proof.Proof.Gen.AttnfKernel.Frame
public import proofs.«01_k».proof.Proof.Gen.AttnfKernelIdeal.Frame
public import proofs.«01_k».proof.Proof.Gen.AttnfReferenceIdeal.Run
public import proofs.«01_k».proof.Proof.Gen.Pre_attnf_finite
public import proofs.«01_k».proof.Proof.Xattn
public import proofs.«01_k».proof.Proof.Gen.XattnKernel.Frame
public import proofs.«01_k».proof.Proof.Gen.Pre_xattn_finite
public import proofs.«01_k».proof.Proof.Post
public import proofs.«01_k».proof.Proof.Gen.PostKernel.Frame
public import proofs.«01_k».proof.Proof.Conv
public import proofs.«01_k».proof.Proof.Gen.ConvKernel.Frame
public import proofs.«01_k».proof.Proof.Gen.Pre_conv_finite
public import proofs.«01_k».proof.Proof.Loss
public import proofs.«01_k».proof.Proof.Gen.LossKernel.Frame
public import proofs.«01_k».proof.Proof.Gen.Pre_loss_finite
public import proofs.«01_k».proof.Proof.Ffn
public import proofs.«01_k».proof.Proof.Gen.FfnKernel.Frame
public import proofs.«01_k».proof.Proof.Gen.Pre_ffn_finite
public import proofs.«01_k».proof.Proof.Memf
public import proofs.«01_k».proof.Proof.Gen.MemfKernel.Frame
public import proofs.«01_k».proof.Proof.Epost
public import proofs.«01_k».proof.Proof.Gen.EpostKernel.Frame
public import proofs.«01_k».proof.Proof.Gout
public import proofs.«01_k».proof.Proof.Gen.GoutKernel.Frame
public import proofs.«01_k».proof.Proof.Ffnf
public import proofs.«01_k».proof.Proof.Gen.FfnfKernel.Frame
public import proofs.«01_k».proof.Proof.Xattf
public import proofs.«01_k».proof.Proof.Gen.XattfKernel.Frame
public import proofs.«01_k».proof.Proof.Adam
public import proofs.«01_k».proof.Proof.Gen.AdamKernel.Frame
public import proofs.«01_k».proof.Proof.Prod
public import proofs.«01_k».proof.Proof.Gen.ProdKernel.Frame
public import Idealize.ShloMosaic.Adequacy
public import Idealize.ShloMosaic.Init

@[expose] public section

noncomputable section

namespace Cert.Proof

open Idealize.ShloMosaic Idealize.SL.Sem

theorem claim : Cert.Claim := ⟨Cert.MemKernel.Gen.facts,
  Cert.MemKernelIdeal.Gen.facts,
  Cert.MemReferenceIdeal.Gen.facts,
  Cert.GeluKernel.Gen.facts,
  Cert.GeluKernelIdeal.Gen.facts,
  Cert.GeluReferenceIdeal.Gen.facts,
  Cert.AttnKernel.Gen.facts,
  Cert.AttnKernelIdeal.Gen.facts,
  Cert.AttnReferenceIdeal.Gen.facts,
  Cert.AttnfKernel.Gen.facts,
  Cert.AttnfKernelIdeal.Gen.facts,
  Cert.AttnfReferenceIdeal.Gen.facts,
  Cert.XattnKernel.Gen.facts,
  Cert.XattnKernelIdeal.Gen.facts,
  Cert.XattnReferenceIdeal.Gen.facts,
  Cert.PostKernel.Gen.facts,
  Cert.PostKernelIdeal.Gen.facts,
  Cert.PostReferenceIdeal.Gen.facts,
  Cert.ConvKernel.Gen.facts,
  Cert.ConvKernelIdeal.Gen.facts,
  Cert.ConvReferenceIdeal.Gen.facts,
  Cert.LossKernel.Gen.facts,
  Cert.LossKernelIdeal.Gen.facts,
  Cert.LossReferenceIdeal.Gen.facts,
  Cert.FfnKernel.Gen.facts,
  Cert.FfnKernelIdeal.Gen.facts,
  Cert.FfnReferenceIdeal.Gen.facts,
  Cert.MemfKernel.Gen.facts,
  Cert.MemfKernelIdeal.Gen.facts,
  Cert.MemfReferenceIdeal.Gen.facts,
  Cert.EpostKernel.Gen.facts,
  Cert.EpostKernelIdeal.Gen.facts,
  Cert.EpostReferenceIdeal.Gen.facts,
  Cert.GoutKernel.Gen.facts,
  Cert.GoutKernelIdeal.Gen.facts,
  Cert.GoutReferenceIdeal.Gen.facts,
  Cert.FfnfKernel.Gen.facts,
  Cert.FfnfKernelIdeal.Gen.facts,
  Cert.FfnfReferenceIdeal.Gen.facts,
  Cert.XattfKernel.Gen.facts,
  Cert.XattfKernelIdeal.Gen.facts,
  Cert.XattfReferenceIdeal.Gen.facts,
  Cert.AdamKernel.Gen.facts,
  Cert.AdamKernelIdeal.Gen.facts,
  Cert.AdamReferenceIdeal.Gen.facts,
  Cert.ProdKernel.Gen.facts,
  Cert.ProdKernelIdeal.Gen.facts,
  Cert.ProdReferenceIdeal.Gen.facts,
  Cert.Pre_gelu_finite.Gen.facts,
  Cert.Pre_attn_finite.Gen.facts,
  Cert.Pre_attnf_finite.Gen.facts,
  Cert.Pre_xattn_finite.Gen.facts,
  Cert.Pre_conv_finite.Gen.facts,
  Cert.Pre_loss_finite.Gen.facts,
  Cert.Pre_ffn_finite.Gen.facts,
  fun m ρ _ => Cert.MemKernel.Gen.frame m ρ,
  fun m ρ _ => Cert.MemKernelIdeal.Gen.frame m ρ,
  fun m ρ _ => mem_reference_frame m ρ trivial,
  fun m ρ _ => Cert.GeluKernel.Gen.frame m ρ,
  fun m ρ _ => Cert.GeluKernelIdeal.Gen.frame m ρ,
  fun m ρ _ => Cert.GeluKernelIdeal.Gen.frame m ρ,
  fun m ρ _ => gelu_reference_frame m ρ trivial,
  fun m ρ _ => gelu_reference_frame m ρ trivial,
  fun m ρ _ => Cert.AttnKernelIdeal.Hand.kept_plain m ρ,
  fun m ρ _ => Cert.AttnKernelIdeal.Hand.kept m ρ,
  fun m ρ _ => Cert.AttnKernelIdeal.Hand.kept m ρ,
  fun m ρ _ => attn_reference_frame m ρ trivial,
  fun m ρ _ => attn_reference_frame m ρ trivial,
  fun m ρ _ => Cert.AttnfKernel.Gen.frame m ρ,
  fun m ρ _ => Cert.AttnfKernelIdeal.Gen.frame m ρ,
  fun m ρ _ => Cert.AttnfKernelIdeal.Gen.frame m ρ,
  fun m ρ _ => attnf_reference_frame m ρ trivial,
  fun m ρ _ => attnf_reference_frame m ρ trivial,
  fun m ρ _ => Cert.XattnKernel.Gen.frame m ρ,
  fun m ρ _ => Cert.XattnKernelIdeal.Gen.frame m ρ,
  fun m ρ _ => Cert.XattnKernelIdeal.Gen.frame m ρ,
  fun m ρ _ => xattn_reference_frame m ρ trivial,
  fun m ρ _ => xattn_reference_frame m ρ trivial,
  fun m ρ _ => Cert.PostKernel.Gen.frame m ρ,
  fun m ρ _ => Cert.PostKernelIdeal.Gen.frame m ρ,
  fun m ρ _ => post_reference_frame m ρ trivial,
  fun m ρ _ => Cert.ConvKernel.Gen.frame m ρ,
  fun m ρ _ => Cert.ConvKernelIdeal.Gen.frame m ρ,
  fun m ρ _ => Cert.ConvKernelIdeal.Gen.frame m ρ,
  fun m ρ _ => conv_reference_frame m ρ trivial,
  fun m ρ _ => conv_reference_frame m ρ trivial,
  fun m ρ _ => Cert.LossKernel.Gen.frame m ρ,
  fun m ρ _ => Cert.LossKernelIdeal.Gen.frame m ρ,
  fun m ρ _ => Cert.LossKernelIdeal.Gen.frame m ρ,
  fun m ρ _ => loss_reference_frame m ρ trivial,
  fun m ρ _ => loss_reference_frame m ρ trivial,
  fun m ρ _ => Cert.FfnKernel.Gen.frame m ρ,
  fun m ρ _ => Cert.FfnKernelIdeal.Gen.frame m ρ,
  fun m ρ _ => Cert.FfnKernelIdeal.Gen.frame m ρ,
  fun m ρ _ => ffn_reference_frame m ρ trivial,
  fun m ρ _ => ffn_reference_frame m ρ trivial,
  fun m ρ _ => Cert.MemfKernel.Gen.frame m ρ,
  fun m ρ _ => Cert.MemfKernelIdeal.Gen.frame m ρ,
  fun m ρ _ => memf_reference_frame m ρ trivial,
  fun m ρ _ => Cert.EpostKernel.Gen.frame m ρ,
  fun m ρ _ => Cert.EpostKernelIdeal.Gen.frame m ρ,
  fun m ρ _ => epost_reference_frame m ρ trivial,
  fun m ρ _ => Cert.GoutKernel.Gen.frame m ρ,
  fun m ρ _ => Cert.GoutKernelIdeal.Gen.frame m ρ,
  fun m ρ _ => gout_reference_frame m ρ trivial,
  fun m ρ _ => Cert.FfnfKernel.Gen.frame m ρ,
  fun m ρ _ => Cert.FfnfKernelIdeal.Gen.frame m ρ,
  fun m ρ _ => ffnf_reference_frame m ρ trivial,
  fun m ρ _ => Cert.XattfKernel.Gen.frame m ρ,
  fun m ρ _ => Cert.XattfKernelIdeal.Gen.frame m ρ,
  fun m ρ _ => xattf_reference_frame m ρ trivial,
  fun m ρ _ => Cert.AdamKernel.Gen.frame m ρ,
  fun m ρ _ => Cert.AdamKernelIdeal.Gen.frame m ρ,
  fun m ρ _ => adam_reference_frame m ρ trivial,
  fun m ρ _ => Cert.ProdKernel.Gen.frame m ρ,
  fun m ρ _ => Cert.ProdKernelIdeal.Gen.frame m ρ,
  fun m ρ _ => prod_reference_frame m ρ trivial,
  trivial,
  mem_algebraic,
  gelu_preserves,
  gelu_algebraic,
  attn_preserves,
  attn_algebraic,
  attnf_preserves,
  attnf_algebraic,
  trivial,
  xattn_algebraic,
  trivial,
  post_algebraic,
  trivial,
  conv_algebraic,
  trivial,
  loss_algebraic,
  trivial,
  ffn_algebraic,
  trivial,
  memf_algebraic,
  trivial,
  epost_algebraic,
  gout_preserves,
  gout_algebraic,
  trivial,
  ffnf_algebraic,
  trivial,
  xattf_algebraic,
  trivial,
  adam_algebraic,
  trivial,
  prod_algebraic⟩

end Cert.Proof

end
